-- ==== Defs.lean ====
def Pre_Kernel [hPre_routed_to_experts : Cert.Pre_routed_to_experts.Facts] (m : (ℓ : Loc Cert.Kernel.nD Cert.Kernel.τ Cert.Kernel.sig) → Buf (Elt Bits) ℓ) : Prop :=
  ∀ c : Dev Cert.Kernel.nD,
    (Cert.Pre_routed_to_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_routed_to_experts : Cert.Pre_routed_to_experts.Facts] (m : (ℓ : Loc Cert.KernelIdeal.nD Cert.KernelIdeal.τ Cert.KernelIdeal.sig) → Buf (Elt Ideal) ℓ) : Prop :=
  ∀ c : Dev Cert.KernelIdeal.nD,
    (Cert.Pre_routed_to_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_routed_and_scaled [hPre_routed_and_scaled : Cert.Pre_routed_and_scaled.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_scaled [hPre_routed_and_scaled : Cert.Pre_routed_and_scaled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_routed_to_experts : Cert.Pre_routed_to_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_routed_to_experts : Cert.Pre_routed_to_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_routed_and_scaled [hKernelIdeal : Cert.KernelIdeal.Facts] [hPre_routed_and_scaled : Cert.Pre_routed_and_scaled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_scaled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_routed_and_scaled [hReferenceIdeal : Cert.ReferenceIdeal.Facts] [hPre_routed_and_scaled : Cert.Pre_routed_and_scaled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_scaled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_routed_and_scaled [hKernelIdeal : Cert.KernelIdeal.Facts] [hReferenceIdeal : Cert.ReferenceIdeal.Facts] [hPre_routed_and_scaled : Cert.Pre_routed_and_scaled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_scaled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_routed_to_experts : Cert.Pre_routed_to_experts.Facts) (hPre_routed_and_scaled : Cert.Pre_routed_and_scaled.Facts),
    quiescent_Kernel (hKernel := hKernel) (hPre_routed_to_experts := hPre_routed_to_experts)
    ∧ quiescent_KernelIdeal (hKernelIdeal := hKernelIdeal) (hPre_routed_to_experts := hPre_routed_to_experts)
    ∧ quiescent_KernelIdeal_pre_routed_and_scaled (hKernelIdeal := hKernelIdeal) (hPre_routed_and_scaled := hPre_routed_and_scaled)
    ∧ quiescent_ReferenceIdeal (hReferenceIdeal := hReferenceIdeal)
    ∧ quiescent_ReferenceIdeal_pre_routed_and_scaled (hReferenceIdeal := hReferenceIdeal) (hPre_routed_and_scaled := hPre_routed_and_scaled)
    ∧ preserves_Kernel_KernelIdeal
    ∧ algebraic_KernelIdeal_ReferenceIdeal_pre_routed_and_scaled (hKernelIdeal := hKernelIdeal) (hReferenceIdeal := hReferenceIdeal) (hPre_routed_and_scaled := hPre_routed_and_scaled)
-- ==== Pre_routed_and_scaled.lean ====
abbrev S33x1x7168 : Shape := ⟨3, ![33, 1, 7168]⟩
abbrev S33x1x8 : Shape := ⟨3, ![33, 1, 8]⟩
abbrev S32x7168x1536 : Shape := ⟨3, ![32, 7168, 1536]⟩
abbrev S32x1536 : Shape := ⟨2, ![32, 1536]⟩
abbrev S32x768x7168 : Shape := ⟨3, ![32, 768, 7168]⟩
abbrev S32x7168 : Shape := ⟨2, ![32, 7168]⟩
abbrev S7168 : Shape := ⟨1, ![7168]⟩
abbrev S7168x3072 : Shape := ⟨2, ![7168, 3072]⟩
abbrev S3072 : Shape := ⟨1, ![3072]⟩
abbrev S1536x7168 : Shape := ⟨2, ![1536, 7168]⟩
abbrev S_ : Shape := ⟨0, ![]⟩

class Facts : Prop where
  bcast_S_S33x1x8 : S_.BroadcastsInDim S33x1x8 (![] : Fin 0 → Fin S33x1x8.rank)
  reducesTo_S33x1x8_S_d0_1_2 : S33x1x8.ReducesTo [0, 1, 2] S_
  h_S_ : 0 < S_.numel
  bcast_S_S7168 : S_.BroadcastsInDim S7168 (![] : Fin 0 → Fin S7168.rank)
  reducesTo_S7168_S_d0 : S7168.ReducesTo [0] S_

variable [Facts]

def fn {F : FTy → Type} [FloatOps F] (main_arg0 : FVec F S33x1x7168 .bf16) (main_arg1 : IVec S33x1x8 32) (main_arg2 : FVec F S33x1x8 .f32) (main_arg3 : FVec F S32x7168x1536 .fp8e4m3) (main_arg4 : FVec F S32x1536 .f32) (main_arg5 : FVec F S32x768x7168 .fp8e4m3) (main_arg6 : FVec F S32x7168 .f32) (main_arg7 : FVec F S7168 .f32) (main_arg8 : FVec F S7168x3072 .fp8e4m3) (main_arg9 : FVec F S3072 .f32) (main_arg10 : FVec F S1536x7168 .fp8e4m3) (main_arg11 : FVec F S7168 .f32) : IVec S_ 1 :=
  let main_c : IVec S_ 32 := constantI S_ 32 0#32
  let main_v0 : IVec S33x1x8 32 := broadcastInDim S33x1x8 ![] bcast_S_S33x1x8 main_c
  let main_v1 : IVec S33x1x8 1 := cmpi .sge main_arg1 main_v0
  let main_c_0 : IVec S_ 32 := constantI S_ 32 32#32
  let main_v2 : IVec S33x1x8 32 := broadcastInDim S33x1x8 ![] bcast_S_S33x1x8 main_c_0
  let main_v3 : IVec S33x1x8 1 := cmpi .slt main_arg1 main_v2
  let main_v4 : IVec S33x1x8 1 := andi main_v1 main_v3
  let main_c_1 : IVec S_ 1 := constantI S_ 1 1#1
  let main_v5 : IVec S_ 1 := (fun x v => Host.reduce IntOp.andi x v reducesTo_S33x1x8_S_d0_1_2 h_S_) main_v4 main_c_1
  let main_cst : FVec F S_ .f32 := constant S_ .f32 0x00000000#32
  let main_v6 : FVec F S7168 .f32 := broadcastInDim S7168 ![] bcast_S_S7168 main_cst
  let main_v7 : IVec S7168 1 := cmpf .oge main_arg11 main_v6
  let main_cst_2 : FVec F S_ .f32 := constant S_ .f32 0x7F800000#32
  let main_v8 : FVec F S7168 .f32 := broadcastInDim S7168 ![] bcast_S_S7168 main_cst_2
  let main_v9 : IVec S7168 1 := cmpf .olt main_arg11 main_v8
  let main_v10 : IVec S7168 1 := andi main_v7 main_v9
  let main_c_3 : IVec S_ 1 := constantI S_ 1 1#1
  let main_v11 : IVec S_ 1 := (fun x v => Host.reduce IntOp.andi x v reducesTo_S7168_S_d0 h_S_) main_v10 main_c_3
  let main_v12 : IVec S_ 1 := andi main_v5 main_v11
  main_v12
-- ==== Pre_routed_to_experts.lean ====
abbrev S33x1x7168 : Shape := ⟨3, ![33, 1, 7168]⟩
abbrev S33x1x8 : Shape := ⟨3, ![33, 1, 8]⟩
abbrev S32x7168x1536 : Shape := ⟨3, ![32, 7168, 1536]⟩
abbrev S32x1536 : Shape := ⟨2, ![32, 1536]⟩
abbrev S32x768x7168 : Shape := ⟨3, ![32, 768, 7168]⟩
abbrev S32x7168 : Shape := ⟨2, ![32, 7168]⟩
abbrev S7168 : Shape := ⟨1, ![7168]⟩
abbrev S7168x3072 : Shape := ⟨2, ![7168, 3072]⟩
abbrev S3072 : Shape := ⟨1, ![3072]⟩
abbrev S1536x7168 : Shape := ⟨2, ![1536, 7168]⟩
abbrev S_ : Shape := ⟨0, ![]⟩

class Facts : Prop where
  bcast_S_S33x1x8 : S_.BroadcastsInDim S33x1x8 (![] : Fin 0 → Fin S33x1x8.rank)

variable [Facts]

def fn {F : FTy → Type} [FloatOps F] (main_arg0 : FVec F S33x1x7168 .bf16) (main_arg1 : IVec S33x1x8 32) (main_arg2 : FVec F S33x1x8 .f32) (main_arg3 : FVec F S32x7168x1536 .fp8e4m3) (main_arg4 : FVec F S32x1536 .f32) (main_arg5 : FVec F S32x768x7168 .fp8e4m3) (main_arg6 : FVec F S32x7168 .f32) (main_arg7 : FVec F S7168 .f32) (main_arg8 : FVec F S7168x3072 .fp8e4m3) (main_arg9 : FVec F S3072 .f32) (main_arg10 : FVec F S1536x7168 .fp8e4m3) (main_arg11 : FVec F S7168 .f32) : IVec S33x1x8 1 :=
  let main_c : IVec S_ 32 := constantI S_ 32 0#32
  let main_v0 : IVec S33x1x8 32 := broadcastInDim S33x1x8 ![] bcast_S_S33x1x8 main_c
  let main_v1 : IVec S33x1x8 1 := cmpi .sge main_arg1 main_v0
  let main_c_0 : IVec S_ 32 := constantI S_ 32 32#32
  let main_v2 : IVec S33x1x8 32 := broadcastInDim S33x1x8 ![] bcast_S_S33x1x8 main_c_0
  let main_v3 : IVec S33x1x8 1 := cmpi .slt main_arg1 main_v2
  let main_v4 : IVec S33x1x8 1 := andi main_v1 main_v3
  main_v4
-- ==== Kernel.lean ====
abbrev S33x1x7168 : Shape := ⟨3, ![33, 1, 7168]⟩
abbrev S33x1x8 : Shape := ⟨3, ![33, 1, 8]⟩
abbrev S32x7168x1536 : Shape := ⟨3, ![32, 7168, 1536]⟩
abbrev S32x1536 : Shape := ⟨2, ![32, 1536]⟩
abbrev S32x768x7168 : Shape := ⟨3, ![32, 768, 7168]⟩
abbrev S32x7168 : Shape := ⟨2, ![32, 7168]⟩
abbrev S7168 : Shape := ⟨1, ![7168]⟩
abbrev S7168x3072 : Shape := ⟨2, ![7168, 3072]⟩
abbrev S3072 : Shape := ⟨1, ![3072]⟩
abbrev S1536x7168 : Shape := ⟨2, ![1536, 7168]⟩
abbrev S33x7168 : Shape := ⟨2, ![33, 7168]⟩
abbrev S33x8 : Shape := ⟨2, ![33, 8]⟩
abbrev S8x33 : Shape := ⟨2, ![8, 33]⟩
abbrev S1x7168 : Shape := ⟨2, ![1, 7168]⟩
abbrev S1x3072 : Shape := ⟨2, ![1, 3072]⟩
abbrev S32 : Shape := ⟨1, ![32]⟩
abbrev S48x7168 : Shape := ⟨2, ![48, 7168]⟩
abbrev S48x1536 : Shape := ⟨2, ![48, 1536]⟩
abbrev S48x768 : Shape := ⟨2, ![48, 768]⟩
abbrev S40x7168 : Shape := ⟨2, ![40, 7168]⟩
abbrev S2x7168x1536 : Shape := ⟨3, ![2, 7168, 1536]⟩
abbrev S2x768x7168 : Shape := ⟨3, ![2, 768, 7168]⟩
abbrev S8 : Shape := ⟨1, ![8]⟩
abbrev S_ : Shape := ⟨0, ![]⟩
abbrev S2x7 : Shape := ⟨2, ![2, 7]⟩
abbrev S1 : Shape := ⟨1, ![1]⟩
abbrev S1x1 : Shape := ⟨2, ![1, 1]⟩
abbrev S1x1024x768 : Shape := ⟨3, ![1, 1024, 768]⟩
abbrev S1024x768 : Shape := ⟨2, ![1024, 768]⟩
abbrev S1x768x1024 : Shape := ⟨3, ![1, 768, 1024]⟩
abbrev S768x1024 : Shape := ⟨2, ![768, 1024]⟩
abbrev S33 : Shape := ⟨1, ![33]⟩
abbrev S33x1 : Shape := ⟨2, ![33, 1]⟩
abbrev S34x7168 : Shape := ⟨2, ![34, 7168]⟩
abbrev S1x1024x1536 : Shape := ⟨3, ![1, 1024, 1536]⟩
abbrev S1024x1536 : Shape := ⟨2, ![1024, 1536]⟩
abbrev S48x1024 : Shape := ⟨2, ![48, 1024]⟩
abbrev S1x768 : Shape := ⟨2, ![1, 768]⟩
abbrev S33x768 : Shape := ⟨2, ![33, 768]⟩
abbrev S34x768 : Shape := ⟨2, ![34, 768]⟩
abbrev S1x1024 : Shape := ⟨2, ![1, 1024]⟩
abbrev S33x1024 : Shape := ⟨2, ![33, 1024]⟩

abbrev nBuf : Space → Nat
  | .hbm => 21
  | .vmem => 17
  | .smem => 3
  | _ => 0

abbrev bufTy : (tb : Table) → Fin (tcTables nBuf tb) → BufTy
  | .hbm, ⟨0, _⟩ => ⟨S33x1x7168, .bf16⟩
  | .hbm, ⟨1, _⟩ => ⟨S33x1x8, .i32⟩
  | .hbm, ⟨2, _⟩ => ⟨S33x1x8, .f32⟩
  | .hbm, ⟨3, _⟩ => ⟨S32x7168x1536, .fp8e4m3⟩
  | .hbm, ⟨4, _⟩ => ⟨S32x1536, .f32⟩
  | .hbm, ⟨5, _⟩ => ⟨S32x768x7168, .fp8e4m3⟩
  | .hbm, ⟨6, _⟩ => ⟨S32x7168, .f32⟩
  | .hbm, ⟨7, _⟩ => ⟨S7168, .f32⟩
  | .hbm, ⟨8, _⟩ => ⟨S7168x3072, .fp8e4m3⟩
  | .hbm, ⟨9, _⟩ => ⟨S3072, .f32⟩
  | .hbm, ⟨10, _⟩ => ⟨S1536x7168, .fp8e4m3⟩
  | .hbm, ⟨11, _⟩ => ⟨S7168, .f32⟩
  | .hbm, ⟨12, _⟩ => ⟨S33x7168, .bf16⟩
  | .hbm, ⟨13, _⟩ => ⟨S33x8, .i32⟩
  | .hbm, ⟨14, _⟩ => ⟨S8x33, .i32⟩
  | .hbm, ⟨15, _⟩ => ⟨S33x8, .f32⟩
  | .hbm, ⟨16, _⟩ => ⟨S8x33, .f32⟩
  | .hbm, ⟨17, _⟩ => ⟨S1x7168, .f32⟩
  | .hbm, ⟨18, _⟩ => ⟨S1x3072, .f32⟩
  | .hbm, ⟨19, _⟩ => ⟨S1x7168, .f32⟩
  | .hbm, ⟨20, _⟩ => ⟨S33x7168, .bf16⟩
  | .local _ .vmem, ⟨0, _⟩ => ⟨S33x7168, .bf16⟩
  | .local _ .vmem, ⟨1, _⟩ => ⟨S33x7168, .bf16⟩
  | .local _ .vmem, ⟨2, _⟩ => ⟨S8x33, .i32⟩
  | .local _ .vmem, ⟨3, _⟩ => ⟨S8x33, .f32⟩
  | .local _ .vmem, ⟨4, _⟩ => ⟨S33x8, .i32⟩
  | .local _ .vmem, ⟨5, _⟩ => ⟨S33x8, .f32⟩
  | .local _ .vmem, ⟨6, _⟩ => ⟨S32x1536, .f32⟩
  | .local _ .vmem, ⟨7, _⟩ => ⟨S32x7168, .f32⟩
  | .local _ .vmem, ⟨8, _⟩ => ⟨S1x7168, .f32⟩
  | .local _ .vmem, ⟨9, _⟩ => ⟨S1x3072, .f32⟩
  | .local _ .vmem, ⟨10, _⟩ => ⟨S1x7168, .f32⟩
  | .local _ .vmem, ⟨11, _⟩ => ⟨S48x7168, .bf16⟩
  | .local _ .vmem, ⟨12, _⟩ => ⟨S48x1536, .f32⟩
  | .local _ .vmem, ⟨13, _⟩ => ⟨S48x768, .bf16⟩
  | .local _ .vmem, ⟨14, _⟩ => ⟨S40x7168, .f32⟩
  | .local _ .vmem, ⟨15, _⟩ => ⟨S2x7168x1536, .fp8e4m3⟩
  | .local _ .vmem, ⟨16, _⟩ => ⟨S2x768x7168, .fp8e4m3⟩
  | .local _ .smem, ⟨0, _⟩ => ⟨S8x33, .i32⟩
  | .local _ .smem, ⟨1, _⟩ => ⟨S32, .i32⟩
  | .local _ .smem, ⟨2, _⟩ => ⟨S32, .i32⟩
  | _, _ => ⟨S33x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch16 : Ref sig .tc := ⟨.vmem, 14, rfl⟩
abbrev cc0_scratch17 : Ref sig .tc := ⟨.vmem, 15, rfl⟩
abbrev cc0_scratch18 : Ref sig .tc := ⟨.vmem, 16, rfl⟩
abbrev cc0_scratch10 : Ref sig .tc := ⟨.smem, 0, rfl⟩
abbrev cc0_scratch11 : Ref sig .tc := ⟨.smem, 1, rfl⟩
abbrev cc0_scratch12 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_317 : BitVec 32 := 0#32
  let c33_i32 : BitVec 32 := 33#32
  let v258 : BitVec 32 := Scalar.addi c0_i32_317 c33_i32
  let c1_i32_318 : BitVec 32 := 1#32
  ⟨c0_i32_317, v258, c1_i32_318⟩
def k0_off1 (k0_t1 : Fin k0_t1_loop.trips) : Fin 2 → Nat :=
  let c0_366 : Index := 0#32
  let c0_i32_317 : BitVec 32 := 0#32
  let c1_i32_318 : BitVec 32 := 1#32
  let arg36 : BitVec 32 := Scf.iv c0_i32_317 c1_i32_318 k0_t1
  let v326 : Index := Scalar.indexCast arg36
  ![0, v326.toNat]
def k0_off2 (v327 : BitVec 32) : Fin 1 → Nat :=
  let v328 : Index := Scalar.indexCast v327
  ![v328.toNat]

def k0_chk1 (v327 : BitVec 32) : Prop :=
  (∀ a, (k0_off2 v327) a + S1.size a ≤ S32.size a)
theorem k0_off2_inb : ∀ (v327 : BitVec 32) (k0_hw1 : k0_chk1 v327), ∀ a, (k0_off2 v327) a + S1.size a ≤ S32.size a := fun v327 k0_hw1 => k0_hw1

def k0_off3 (k0_t1 : Fin k0_t1_loop.trips) : Fin 2 → Nat :=
  let c1_368 : Index := 1#32
  let c0_i32_317 : BitVec 32 := 0#32
  let c1_i32_318 : BitVec 32 := 1#32
  let arg36 : BitVec 32 := Scf.iv c0_i32_317 c1_i32_318 k0_t1
  let v330 : Index := Scalar.indexCast arg36
  ![1, v330.toNat]
def k0_off4 (v331 : BitVec 32) : Fin 1 → Nat :=
  let v332 : Index := Scalar.indexCast v331
  ![v332.toNat]

def k0_chk2 (v331 : BitVec 32) : Prop :=
  (∀ a, (k0_off4 v331) a + S1.size a ≤ S32.size a)
theorem k0_off4_inb : ∀ (v331 : BitVec 32) (k0_hw2 : k0_chk2 v331), ∀ a, (k0_off4 v331) a + S1.size a ≤ S32.size a := fun v331 k0_hw2 => k0_hw2

def k0_off5 (k0_t1 : Fin k0_t1_loop.trips) : Fin 2 → Nat :=
  let c2_370 : Index := 2#32
  let c0_i32_317 : BitVec 32 := 0#32
  let c1_i32_318 : BitVec 32 := 1#32
  let arg36 : BitVec 32 := Scf.iv c0_i32_317 c1_i32_318 k0_t1
  let v334 : Index := Scalar.indexCast arg36
  ![2, v334.toNat]
def k0_off6 (v335 : BitVec 32) : Fin 1 → Nat :=
  let v336 : Index := Scalar.indexCast v335
  ![v336.toNat]

def k0_chk3 (v335 : BitVec 32) : Prop :=
  (∀ a, (k0_off6 v335) a + S1.size a ≤ S32.size a)
theorem k0_off6_inb : ∀ (v335 : BitVec 32) (k0_hw3 : k0_chk3 v335), ∀ a, (k0_off6 v335) a + S1.size a ≤ S32.size a := fun v335 k0_hw3 => k0_hw3

def k0_off7 (k0_t1 : Fin k0_t1_loop.trips) : Fin 2 → Nat :=
  let c3_372 : Index := 3#32
  let c0_i32_317 : BitVec 32 := 0#32
  let c1_i32_318 : BitVec 32 := 1#32
  let arg36 : BitVec 32 := Scf.iv c0_i32_317 c1_i32_318 k0_t1
  let v338 : Index := Scalar.indexCast arg36
  ![3, v338.toNat]
def k0_off8 (v339 : BitVec 32) : Fin 1 → Nat :=
  let v340 : Index := Scalar.indexCast v339
  ![v340.toNat]

def k0_chk4 (v339 : BitVec 32) : Prop :=
  (∀ a, (k0_off8 v339) a + S1.size a ≤ S32.size a)
theorem k0_off8_inb : ∀ (v339 : BitVec 32) (k0_hw4 : k0_chk4 v339), ∀ a, (k0_off8 v339) a + S1.size a ≤ S32.size a := fun v339 k0_hw4 => k0_hw4

def k0_off9 (k0_t1 : Fin k0_t1_loop.trips) : Fin 2 → Nat :=
  let c4_374 : Index := 4#32
  let c0_i32_317 : BitVec 32 := 0#32
  let c1_i32_318 : BitVec 32 := 1#32
  let arg36 : BitVec 32 := Scf.iv c0_i32_317 c1_i32_318 k0_t1
  let v342 : Index := Scalar.indexCast arg36
  ![4, v342.toNat]
def k0_off10 (v343 : BitVec 32) : Fin 1 → Nat :=
  let v344 : Index := Scalar.indexCast v343
  ![v344.toNat]

def k0_chk5 (v343 : BitVec 32) : Prop :=
  (∀ a, (k0_off10 v343) a + S1.size a ≤ S32.size a)
theorem k0_off10_inb : ∀ (v343 : BitVec 32) (k0_hw5 : k0_chk5 v343), ∀ a, (k0_off10 v343) a + S1.size a ≤ S32.size a := fun v343 k0_hw5 => k0_hw5

def k0_off11 (k0_t1 : Fin k0_t1_loop.trips) : Fin 2 → Nat :=
  let c5_376 : Index := 5#32
  let c0_i32_317 : BitVec 32 := 0#32
  let c1_i32_318 : BitVec 32 := 1#32
  let arg36 : BitVec 32 := Scf.iv c0_i32_317 c1_i32_318 k0_t1
  let v346 : Index := Scalar.indexCast arg36
  ![5, v346.toNat]
def k0_off12 (v347 : BitVec 32) : Fin 1 → Nat :=
  let v348 : Index := Scalar.indexCast v347
  ![v348.toNat]

def k0_chk6 (v347 : BitVec 32) : Prop :=
  (∀ a, (k0_off12 v347) a + S1.size a ≤ S32.size a)
theorem k0_off12_inb : ∀ (v347 : BitVec 32) (k0_hw6 : k0_chk6 v347), ∀ a, (k0_off12 v347) a + S1.size a ≤ S32.size a := fun v347 k0_hw6 => k0_hw6

def k0_off13 (k0_t1 : Fin k0_t1_loop.trips) : Fin 2 → Nat :=
  let c6_378 : Index := 6#32
  let c0_i32_317 : BitVec 32 := 0#32
  let c1_i32_318 : BitVec 32 := 1#32
  let arg36 : BitVec 32 := Scf.iv c0_i32_317 c1_i32_318 k0_t1
  let v350 : Index := Scalar.indexCast arg36
  ![6, v350.toNat]
def k0_off14 (v351 : BitVec 32) : Fin 1 → Nat :=
  let v352 : Index := Scalar.indexCast v351
  ![v352.toNat]

def k0_chk7 (v351 : BitVec 32) : Prop :=
  (∀ a, (k0_off14 v351) a + S1.size a ≤ S32.size a)
theorem k0_off14_inb : ∀ (v351 : BitVec 32) (k0_hw7 : k0_chk7 v351), ∀ a, (k0_off14 v351) a + S1.size a ≤ S32.size a := fun v351 k0_hw7 => k0_hw7

def k0_off15 (k0_t1 : Fin k0_t1_loop.trips) : Fin 2 → Nat :=
  let c7_380 : Index := 7#32
  let c0_i32_317 : BitVec 32 := 0#32
  let c1_i32_318 : BitVec 32 := 1#32
  let arg36 : BitVec 32 := Scf.iv c0_i32_317 c1_i32_318 k0_t1
  let v354 : Index := Scalar.indexCast arg36
  ![7, v354.toNat]
def k0_off16 (v355 : BitVec 32) : Fin 1 → Nat :=
  let v356 : Index := Scalar.indexCast v355
  ![v356.toNat]

def k0_chk8 (v355 : BitVec 32) : Prop :=
  (∀ a, (k0_off16 v355) a + S1.size a ≤ S32.size a)
theorem k0_off16_inb : ∀ (v355 : BitVec 32) (k0_hw8 : k0_chk8 v355), ∀ a, (k0_off16 v355) a + S1.size a ≤ S32.size a := fun v355 k0_hw8 => k0_hw8

@[reducible] def k0_t2_loop : Scf.Loop 32 :=
  let c0_i32_321 : BitVec 32 := 0#32
  let c32_i32 : BitVec 32 := 32#32
  let v259 : BitVec 32 := Scalar.addi c0_i32_321 c32_i32
  let c1_i32_322 : BitVec 32 := 1#32
  ⟨c0_i32_321, v259, c1_i32_322⟩
def k0_off17 (arg37 : BitVec 32) : Fin 1 → Nat :=
  let v326 : Index := Scalar.indexCast arg37
  ![v326.toNat]

def k0_chk9 (arg37 : BitVec 32) : Prop :=
  (∀ a, (k0_off17 arg37) a + S1.size a ≤ S32.size a)
theorem k0_off17_inb : ∀ (arg37 : BitVec 32) (k0_hw9 : k0_chk9 arg37), ∀ a, (k0_off17 arg37) a + S1.size a ≤ S32.size a := fun arg37 k0_hw9 => k0_hw9

def k0_off18 (k0_t2 : Fin k0_t2_loop.trips) : Fin 1 → Nat :=
  let c0_i32_321 : BitVec 32 := 0#32
  let c1_i32_322 : BitVec 32 := 1#32
  let arg36 : BitVec 32 := Scf.iv c0_i32_321 c1_i32_322 k0_t2
  let v328 : Index := Scalar.indexCast arg36
  ![v328.toNat]
@[reducible] def k0_t3_loop (v260 : BitVec 32) : Scf.Loop 32 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_360 : BitVec 32 := 1#32
  ⟨c0_i32_358, v322, c1_i32_360⟩

def k0_off19 (v260 : BitVec 32) (k0_t3 : Fin (k0_t3_loop v260).trips) : Fin 1 → Nat :=
  let c0_i32_358 : BitVec 32 := 0#32
  let c1_i32_360 : BitVec 32 := 1#32
  let arg36 : BitVec 32 := Scf.iv c0_i32_358 c1_i32_360 k0_t3
  let c2_i32_368 : BitVec 32 := 2#32
  let v328 : BitVec 32 := Scalar.subi arg36 c2_i32_368
  let c0_i32_369 : BitVec 32 := 0#32
  let v329 : BitVec 32 := Scalar.maxsi v328 c0_i32_369
  let v330 : Index := Scalar.indexCast v329
  ![v330.toNat]
def k0_off20 (v260 : BitVec 32) (k0_t3 : Fin (k0_t3_loop v260).trips) : Fin 1 → Nat :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let c1_i32_371 : BitVec 32 := 1#32
  let v334 : BitVec 32 := Scalar.subi v261 c1_i32_371
  let v335 : BitVec 32 := Scalar.minsi v332 v334
  let c2_i32_372 : BitVec 32 := 2#32
  let v336 : BitVec 32 := Scalar.subi v335 c2_i32_372
  let v337 : Index := Scalar.indexCast v336
  ![v337.toNat]
def k0_off21 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_375 : BitVec 32 := 0#32
  ![v326.toNat, 0]
def k0_off22 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_376 : BitVec 32 := 0#32
  let c0_i32_377 : BitVec 32 := 0#32
  ![v326.toNat, 0, 0]
def k0_off23 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v347 : Index := Scalar.indexCast v326
  let c0_382 : Index := 0#32
  let c0_383 : Index := 0#32
  ![v347.toNat, 0, 0]
def k0_off24 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_636 : BitVec 32 := 0#32
  ![v326.toNat, 0]
def k0_cond1 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v354 : BitVec 32 := Scalar.extui v333
  let c0_i32_387 : BitVec 32 := 0#32
  let v355 : BitVec 1 := Scalar.cmpi .ne v354 c0_i32_387
  v355

def k0_off25 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_637 : BitVec 32 := 0#32
  let c0_i32_638 : BitVec 32 := 0#32
  ![v326.toNat, 0, 0]
def k0_off26 (v338 : BitVec 32) : Fin 3 → Nat :=
  let c0_i32_639 : BitVec 32 := 0#32
  let c0_i32_640 : BitVec 32 := 0#32
  ![v338.toNat, 0, 0]

def k0_off27 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c1_i32_389 : BitVec 32 := 1#32
  ![v326.toNat, 1]
def k0_off28 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c1024_i32_390 : BitVec 32 := 1024#32
  let c0_i32_391 : BitVec 32 := 0#32
  ![v326.toNat, 1024, 0]
def k0_off29 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v363 : Index := Scalar.indexCast v326
  let c1024_395 : Index := 1024#32
  let c0_396 : Index := 0#32
  ![v363.toNat, 1024, 0]
def k0_off30 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c1_i32_636 : BitVec 32 := 1#32
  ![v326.toNat, 1]
def k0_cond2 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v372 : BitVec 32 := Scalar.extui v333
  let c0_i32_402 : BitVec 32 := 0#32
  let v373 : BitVec 1 := Scalar.cmpi .ne v372 c0_i32_402
  v373

def k0_off31 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c1024_i32_637 : BitVec 32 := 1024#32
  let c0_i32_638 : BitVec 32 := 0#32
  ![v326.toNat, 1024, 0]
def k0_off32 (v338 : BitVec 32) : Fin 3 → Nat :=
  let c1024_i32_639 : BitVec 32 := 1024#32
  let c0_i32_640 : BitVec 32 := 0#32
  ![v338.toNat, 1024, 0]
def k0_off33 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c2_i32_404 : BitVec 32 := 2#32
  ![v326.toNat, 2]
def k0_off34 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c2048_i32_405 : BitVec 32 := 2048#32
  let c0_i32_406 : BitVec 32 := 0#32
  ![v326.toNat, 2048, 0]
def k0_off35 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v381 : Index := Scalar.indexCast v326
  let c2048_410 : Index := 2048#32
  let c0_411 : Index := 0#32
  ![v381.toNat, 2048, 0]
def k0_off36 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c2_i32_636 : BitVec 32 := 2#32
  ![v326.toNat, 2]
def k0_cond3 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v390 : BitVec 32 := Scalar.extui v333
  let c0_i32_417 : BitVec 32 := 0#32
  let v391 : BitVec 1 := Scalar.cmpi .ne v390 c0_i32_417
  v391

def k0_off37 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c2048_i32_637 : BitVec 32 := 2048#32
  let c0_i32_638 : BitVec 32 := 0#32
  ![v326.toNat, 2048, 0]
def k0_off38 (v338 : BitVec 32) : Fin 3 → Nat :=
  let c2048_i32_639 : BitVec 32 := 2048#32
  let c0_i32_640 : BitVec 32 := 0#32
  ![v338.toNat, 2048, 0]
def k0_off39 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c3_i32_419 : BitVec 32 := 3#32
  ![v326.toNat, 3]
def k0_off40 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c3072_i32_420 : BitVec 32 := 3072#32
  let c0_i32_421 : BitVec 32 := 0#32
  ![v326.toNat, 3072, 0]
def k0_off41 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v399 : Index := Scalar.indexCast v326
  let c3072_425 : Index := 3072#32
  let c0_426 : Index := 0#32
  ![v399.toNat, 3072, 0]
def k0_off42 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c3_i32_636 : BitVec 32 := 3#32
  ![v326.toNat, 3]
def k0_cond4 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v408 : BitVec 32 := Scalar.extui v333
  let c0_i32_432 : BitVec 32 := 0#32
  let v409 : BitVec 1 := Scalar.cmpi .ne v408 c0_i32_432
  v409

def k0_off43 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c3072_i32_637 : BitVec 32 := 3072#32
  let c0_i32_638 : BitVec 32 := 0#32
  ![v326.toNat, 3072, 0]
def k0_off44 (v338 : BitVec 32) : Fin 3 → Nat :=
  let c3072_i32_639 : BitVec 32 := 3072#32
  let c0_i32_640 : BitVec 32 := 0#32
  ![v338.toNat, 3072, 0]
def k0_off45 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c4_i32_434 : BitVec 32 := 4#32
  ![v326.toNat, 4]
def k0_off46 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c4096_i32_435 : BitVec 32 := 4096#32
  let c0_i32_436 : BitVec 32 := 0#32
  ![v326.toNat, 4096, 0]
def k0_off47 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v417 : Index := Scalar.indexCast v326
  let c4096_440 : Index := 4096#32
  let c0_441 : Index := 0#32
  ![v417.toNat, 4096, 0]
def k0_off48 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c4_i32_636 : BitVec 32 := 4#32
  ![v326.toNat, 4]
def k0_cond5 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v426 : BitVec 32 := Scalar.extui v333
  let c0_i32_447 : BitVec 32 := 0#32
  let v427 : BitVec 1 := Scalar.cmpi .ne v426 c0_i32_447
  v427

def k0_off49 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c4096_i32_637 : BitVec 32 := 4096#32
  let c0_i32_638 : BitVec 32 := 0#32
  ![v326.toNat, 4096, 0]
def k0_off50 (v338 : BitVec 32) : Fin 3 → Nat :=
  let c4096_i32_639 : BitVec 32 := 4096#32
  let c0_i32_640 : BitVec 32 := 0#32
  ![v338.toNat, 4096, 0]
def k0_off51 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c5_i32_449 : BitVec 32 := 5#32
  ![v326.toNat, 5]
def k0_off52 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c5120_i32_450 : BitVec 32 := 5120#32
  let c0_i32_451 : BitVec 32 := 0#32
  ![v326.toNat, 5120, 0]
def k0_off53 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v435 : Index := Scalar.indexCast v326
  let c5120_455 : Index := 5120#32
  let c0_456 : Index := 0#32
  ![v435.toNat, 5120, 0]
def k0_off54 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c5_i32_636 : BitVec 32 := 5#32
  ![v326.toNat, 5]
def k0_cond6 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v444 : BitVec 32 := Scalar.extui v333
  let c0_i32_462 : BitVec 32 := 0#32
  let v445 : BitVec 1 := Scalar.cmpi .ne v444 c0_i32_462
  v445

def k0_off55 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c5120_i32_637 : BitVec 32 := 5120#32
  let c0_i32_638 : BitVec 32 := 0#32
  ![v326.toNat, 5120, 0]
def k0_off56 (v338 : BitVec 32) : Fin 3 → Nat :=
  let c5120_i32_639 : BitVec 32 := 5120#32
  let c0_i32_640 : BitVec 32 := 0#32
  ![v338.toNat, 5120, 0]
def k0_off57 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c6_i32_464 : BitVec 32 := 6#32
  ![v326.toNat, 6]
def k0_off58 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c6144_i32_465 : BitVec 32 := 6144#32
  let c0_i32_466 : BitVec 32 := 0#32
  ![v326.toNat, 6144, 0]
def k0_off59 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v453 : Index := Scalar.indexCast v326
  let c6144_470 : Index := 6144#32
  let c0_471 : Index := 0#32
  ![v453.toNat, 6144, 0]
def k0_off60 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c6_i32_636 : BitVec 32 := 6#32
  ![v326.toNat, 6]
def k0_cond7 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v462 : BitVec 32 := Scalar.extui v333
  let c0_i32_477 : BitVec 32 := 0#32
  let v463 : BitVec 1 := Scalar.cmpi .ne v462 c0_i32_477
  v463

def k0_off61 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c6144_i32_637 : BitVec 32 := 6144#32
  let c0_i32_638 : BitVec 32 := 0#32
  ![v326.toNat, 6144, 0]
def k0_off62 (v338 : BitVec 32) : Fin 3 → Nat :=
  let c6144_i32_639 : BitVec 32 := 6144#32
  let c0_i32_640 : BitVec 32 := 0#32
  ![v338.toNat, 6144, 0]
def k0_mult1 (v260 : BitVec 32) (k0_t3 : Fin (k0_t3_loop v260).trips) : BitVec 32 :=
  let c0_i32_358 : BitVec 32 := 0#32
  let c1_i32_360 : BitVec 32 := 1#32
  let arg36 : BitVec 32 := Scf.iv c0_i32_358 c1_i32_360 k0_t3
  let c1_i32_373 : BitVec 32 := 1#32
  let v339 : BitVec 32 := Scalar.minsi arg36 c1_i32_373
  let c768_i32_478 : BitVec 32 := 768#32
  let v464 : BitVec 32 := Scalar.muli v339 c768_i32_478
  v464
def k0_off63 (v260 : BitVec 32) (k0_t3 : Fin (k0_t3_loop v260).trips) : Fin 2 → Nat :=
  let c0_479 : Index := 0#32
  let c0_i32_358 : BitVec 32 := 0#32
  let c1_i32_360 : BitVec 32 := 1#32
  let arg36 : BitVec 32 := Scf.iv c0_i32_358 c1_i32_360 k0_t3
  let c1_i32_373 : BitVec 32 := 1#32
  let v339 : BitVec 32 := Scalar.minsi arg36 c1_i32_373
  let c768_i32_478 : BitVec 32 := 768#32
  let v464 : BitVec 32 := Scalar.muli v339 c768_i32_478
  let v465 : BitVec 32 := v464
  let v466 : Index := Scalar.indexCast v465
  ![0, v466.toNat]
def k0_off64 (v331 : BitVec 32) : Fin 2 → Nat :=
  let v468 : Index := Scalar.indexCast v331
  let c0_480 : Index := 0#32
  ![v468.toNat, 0]

def k0_off65 (v260 : BitVec 32) (k0_t3 : Fin (k0_t3_loop v260).trips) : Fin 2 → Nat :=
  let c0_482 : Index := 0#32
  let c1536_i32_481 : BitVec 32 := 1536#32
  let c0_i32_358 : BitVec 32 := 0#32
  let c1_i32_360 : BitVec 32 := 1#32
  let arg36 : BitVec 32 := Scf.iv c0_i32_358 c1_i32_360 k0_t3
  let c1_i32_373 : BitVec 32 := 1#32
  let v339 : BitVec 32 := Scalar.minsi arg36 c1_i32_373
  let c768_i32_478 : BitVec 32 := 768#32
  let v464 : BitVec 32 := Scalar.muli v339 c768_i32_478
  let v465 : BitVec 32 := v464
  let v471 : BitVec 32 := Scalar.addi c1536_i32_481 v465
  let v472 : Index := Scalar.indexCast v471
  ![0, v472.toNat]
def k0_off66 (v331 : BitVec 32) : Fin 2 → Nat :=
  let v474 : Index := Scalar.indexCast v331
  let c768 : Index := 768#32
  ![v474.toNat, 768]
def k0_off67 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_504 : BitVec 32 := 0#32
  ![v326.toNat, 0]
def k0_off68 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_505 : BitVec 32 := 0#32
  let c0_i32_506 : BitVec 32 := 0#32
  ![v326.toNat, 0, 0]
def k0_off69 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v523 : Index := Scalar.indexCast v326
  let c0_511 : Index := 0#32
  let c0_512 : Index := 0#32
  ![v523.toNat, 0, 0]
def k0_off70 (v331 : BitVec 32) : Fin 2 → Nat :=
  let v528 : Index := Scalar.indexCast v331
  let c0_516 : Index := 0#32
  ![v528.toNat, 0]
def k0_off71 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_636 : BitVec 32 := 0#32
  ![v326.toNat, 0]
def k0_cond8 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v541 : BitVec 32 := Scalar.extui v333
  let c0_i32_521 : BitVec 32 := 0#32
  let v542 : BitVec 1 := Scalar.cmpi .ne v541 c0_i32_521
  v542

def k0_off72 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_637 : BitVec 32 := 0#32
  let c0_i32_638 : BitVec 32 := 0#32
  ![v326.toNat, 0, 0]
def k0_off73 (v338 : BitVec 32) : Fin 3 → Nat :=
  let c0_i32_639 : BitVec 32 := 0#32
  let c0_i32_640 : BitVec 32 := 0#32
  ![v338.toNat, 0, 0]
def k0_off74 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c1_i32_523 : BitVec 32 := 1#32
  ![v326.toNat, 1]
def k0_off75 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_524 : BitVec 32 := 0#32
  let c1024_i32_525 : BitVec 32 := 1024#32
  ![v326.toNat, 0, 1024]
def k0_off76 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v550 : Index := Scalar.indexCast v326
  let c0_530 : Index := 0#32
  let c1024_531 : Index := 1024#32
  ![v550.toNat, 0, 1024]
def k0_off77 (v331 : BitVec 32) : Fin 2 → Nat :=
  let v555 : Index := Scalar.indexCast v331
  let c1024_535 : Index := 1024#32
  ![v555.toNat, 1024]
def k0_off78 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c1_i32_636 : BitVec 32 := 1#32
  ![v326.toNat, 1]
def k0_cond9 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v568 : BitVec 32 := Scalar.extui v333
  let c0_i32_540 : BitVec 32 := 0#32
  let v569 : BitVec 1 := Scalar.cmpi .ne v568 c0_i32_540
  v569

def k0_off79 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_637 : BitVec 32 := 0#32
  let c1024_i32_638 : BitVec 32 := 1024#32
  ![v326.toNat, 0, 1024]
def k0_off80 (v338 : BitVec 32) : Fin 3 → Nat :=
  let c0_i32_639 : BitVec 32 := 0#32
  let c1024_i32_640 : BitVec 32 := 1024#32
  ![v338.toNat, 0, 1024]
def k0_off81 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c2_i32_542 : BitVec 32 := 2#32
  ![v326.toNat, 2]
def k0_off82 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_543 : BitVec 32 := 0#32
  let c2048_i32_544 : BitVec 32 := 2048#32
  ![v326.toNat, 0, 2048]
def k0_off83 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v577 : Index := Scalar.indexCast v326
  let c0_549 : Index := 0#32
  let c2048_550 : Index := 2048#32
  ![v577.toNat, 0, 2048]
def k0_off84 (v331 : BitVec 32) : Fin 2 → Nat :=
  let v582 : Index := Scalar.indexCast v331
  let c2048_554 : Index := 2048#32
  ![v582.toNat, 2048]
def k0_off85 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c2_i32_636 : BitVec 32 := 2#32
  ![v326.toNat, 2]
def k0_cond10 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v595 : BitVec 32 := Scalar.extui v333
  let c0_i32_559 : BitVec 32 := 0#32
  let v596 : BitVec 1 := Scalar.cmpi .ne v595 c0_i32_559
  v596

def k0_off86 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_637 : BitVec 32 := 0#32
  let c2048_i32_638 : BitVec 32 := 2048#32
  ![v326.toNat, 0, 2048]
def k0_off87 (v338 : BitVec 32) : Fin 3 → Nat :=
  let c0_i32_639 : BitVec 32 := 0#32
  let c2048_i32_640 : BitVec 32 := 2048#32
  ![v338.toNat, 0, 2048]
def k0_off88 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c3_i32_561 : BitVec 32 := 3#32
  ![v326.toNat, 3]
def k0_off89 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_562 : BitVec 32 := 0#32
  let c3072_i32_563 : BitVec 32 := 3072#32
  ![v326.toNat, 0, 3072]
def k0_off90 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v604 : Index := Scalar.indexCast v326
  let c0_568 : Index := 0#32
  let c3072_569 : Index := 3072#32
  ![v604.toNat, 0, 3072]
def k0_off91 (v331 : BitVec 32) : Fin 2 → Nat :=
  let v609 : Index := Scalar.indexCast v331
  let c3072_573 : Index := 3072#32
  ![v609.toNat, 3072]
def k0_off92 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c3_i32_636 : BitVec 32 := 3#32
  ![v326.toNat, 3]
def k0_cond11 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v622 : BitVec 32 := Scalar.extui v333
  let c0_i32_578 : BitVec 32 := 0#32
  let v623 : BitVec 1 := Scalar.cmpi .ne v622 c0_i32_578
  v623

def k0_off93 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_637 : BitVec 32 := 0#32
  let c3072_i32_638 : BitVec 32 := 3072#32
  ![v326.toNat, 0, 3072]
def k0_off94 (v338 : BitVec 32) : Fin 3 → Nat :=
  let c0_i32_639 : BitVec 32 := 0#32
  let c3072_i32_640 : BitVec 32 := 3072#32
  ![v338.toNat, 0, 3072]
def k0_off95 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c4_i32_580 : BitVec 32 := 4#32
  ![v326.toNat, 4]
def k0_off96 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_581 : BitVec 32 := 0#32
  let c4096_i32_582 : BitVec 32 := 4096#32
  ![v326.toNat, 0, 4096]
def k0_off97 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v631 : Index := Scalar.indexCast v326
  let c0_587 : Index := 0#32
  let c4096_588 : Index := 4096#32
  ![v631.toNat, 0, 4096]
def k0_off98 (v331 : BitVec 32) : Fin 2 → Nat :=
  let v636 : Index := Scalar.indexCast v331
  let c4096_592 : Index := 4096#32
  ![v636.toNat, 4096]
def k0_off99 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c4_i32_636 : BitVec 32 := 4#32
  ![v326.toNat, 4]
def k0_cond12 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v649 : BitVec 32 := Scalar.extui v333
  let c0_i32_597 : BitVec 32 := 0#32
  let v650 : BitVec 1 := Scalar.cmpi .ne v649 c0_i32_597
  v650

def k0_off100 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_637 : BitVec 32 := 0#32
  let c4096_i32_638 : BitVec 32 := 4096#32
  ![v326.toNat, 0, 4096]
def k0_off101 (v338 : BitVec 32) : Fin 3 → Nat :=
  let c0_i32_639 : BitVec 32 := 0#32
  let c4096_i32_640 : BitVec 32 := 4096#32
  ![v338.toNat, 0, 4096]
def k0_off102 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c5_i32_599 : BitVec 32 := 5#32
  ![v326.toNat, 5]
def k0_off103 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_600 : BitVec 32 := 0#32
  let c5120_i32_601 : BitVec 32 := 5120#32
  ![v326.toNat, 0, 5120]
def k0_off104 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v658 : Index := Scalar.indexCast v326
  let c0_606 : Index := 0#32
  let c5120_607 : Index := 5120#32
  ![v658.toNat, 0, 5120]
def k0_off105 (v331 : BitVec 32) : Fin 2 → Nat :=
  let v663 : Index := Scalar.indexCast v331
  let c5120_611 : Index := 5120#32
  ![v663.toNat, 5120]
def k0_off106 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c5_i32_636 : BitVec 32 := 5#32
  ![v326.toNat, 5]
def k0_cond13 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v676 : BitVec 32 := Scalar.extui v333
  let c0_i32_616 : BitVec 32 := 0#32
  let v677 : BitVec 1 := Scalar.cmpi .ne v676 c0_i32_616
  v677

def k0_off107 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_637 : BitVec 32 := 0#32
  let c5120_i32_638 : BitVec 32 := 5120#32
  ![v326.toNat, 0, 5120]
def k0_off108 (v338 : BitVec 32) : Fin 3 → Nat :=
  let c0_i32_639 : BitVec 32 := 0#32
  let c5120_i32_640 : BitVec 32 := 5120#32
  ![v338.toNat, 0, 5120]
def k0_off109 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c6_i32_618 : BitVec 32 := 6#32
  ![v326.toNat, 6]
def k0_off110 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_619 : BitVec 32 := 0#32
  let c6144_i32_620 : BitVec 32 := 6144#32
  ![v326.toNat, 0, 6144]
def k0_off111 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let v685 : Index := Scalar.indexCast v326
  let c0_625 : Index := 0#32
  let c6144_626 : Index := 6144#32
  ![v685.toNat, 0, 6144]
def k0_off112 (v331 : BitVec 32) : Fin 2 → Nat :=
  let v690 : Index := Scalar.indexCast v331
  let c6144_630 : Index := 6144#32
  ![v690.toNat, 6144]

def k0_chk12 (v331 : BitVec 32) : Prop :=
  (∀ a, (k0_off64 v331) a + S1x768.size a ≤ S32x1536.size a) ∧
  (∀ a, (k0_off66 v331) a + S1x768.size a ≤ S32x1536.size a) ∧
  (∀ a, (k0_off70 v331) a + S1x1024.size a ≤ S32x7168.size a) ∧
  (∀ a, (k0_off77 v331) a + S1x1024.size a ≤ S32x7168.size a) ∧
  (∀ a, (k0_off84 v331) a + S1x1024.size a ≤ S32x7168.size a) ∧
  (∀ a, (k0_off91 v331) a + S1x1024.size a ≤ S32x7168.size a) ∧
  (∀ a, (k0_off98 v331) a + S1x1024.size a ≤ S32x7168.size a) ∧
  (∀ a, (k0_off105 v331) a + S1x1024.size a ≤ S32x7168.size a) ∧
  (∀ a, (k0_off112 v331) a + S1x1024.size a ≤ S32x7168.size a)
theorem k0_off64_inb : ∀ (v331 : BitVec 32) (k0_hw12 : k0_chk12 v331), ∀ a, (k0_off64 v331) a + S1x768.size a ≤ S32x1536.size a := fun v331 k0_hw12 => k0_hw12.1
theorem k0_off66_inb : ∀ (v331 : BitVec 32) (k0_hw12 : k0_chk12 v331), ∀ a, (k0_off66 v331) a + S1x768.size a ≤ S32x1536.size a := fun v331 k0_hw12 => k0_hw12.2.1
theorem k0_off70_inb : ∀ (v331 : BitVec 32) (k0_hw12 : k0_chk12 v331), ∀ a, (k0_off70 v331) a + S1x1024.size a ≤ S32x7168.size a := fun v331 k0_hw12 => k0_hw12.2.2.1
theorem k0_off77_inb : ∀ (v331 : BitVec 32) (k0_hw12 : k0_chk12 v331), ∀ a, (k0_off77 v331) a + S1x1024.size a ≤ S32x7168.size a := fun v331 k0_hw12 => k0_hw12.2.2.2.1
theorem k0_off84_inb : ∀ (v331 : BitVec 32) (k0_hw12 : k0_chk12 v331), ∀ a, (k0_off84 v331) a + S1x1024.size a ≤ S32x7168.size a := fun v331 k0_hw12 => k0_hw12.2.2.2.2.1
theorem k0_off91_inb : ∀ (v331 : BitVec 32) (k0_hw12 : k0_chk12 v331), ∀ a, (k0_off91 v331) a + S1x1024.size a ≤ S32x7168.size a := fun v331 k0_hw12 => k0_hw12.2.2.2.2.2.1
theorem k0_off98_inb : ∀ (v331 : BitVec 32) (k0_hw12 : k0_chk12 v331), ∀ a, (k0_off98 v331) a + S1x1024.size a ≤ S32x7168.size a := fun v331 k0_hw12 => k0_hw12.2.2.2.2.2.2.1
theorem k0_off105_inb : ∀ (v331 : BitVec 32) (k0_hw12 : k0_chk12 v331), ∀ a, (k0_off105 v331) a + S1x1024.size a ≤ S32x7168.size a := fun v331 k0_hw12 => k0_hw12.2.2.2.2.2.2.2.1
theorem k0_off112_inb : ∀ (v331 : BitVec 32) (k0_hw12 : k0_chk12 v331), ∀ a, (k0_off112 v331) a + S1x1024.size a ≤ S32x7168.size a := fun v331 k0_hw12 => k0_hw12.2.2.2.2.2.2.2.2

def k0_off113 (v260 : BitVec 32) (k0_t3 : Fin (k0_t3_loop v260).trips) : Fin 2 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c6_i32_636 : BitVec 32 := 6#32
  ![v326.toNat, 6]
def k0_cond14 (v260 : BitVec 32) (k0_t3 : Fin (k0_t3_loop v260).trips) : BitVec 1 :=
  let c0_i32_358 : BitVec 32 := 0#32
  let c1_i32_360 : BitVec 32 := 1#32
  let arg36 : BitVec 32 := Scf.iv c0_i32_358 c1_i32_360 k0_t3
  let c2_i32_370 : BitVec 32 := 2#32
  let v332 : BitVec 32 := Scalar.addi arg36 c2_i32_370
  let c2_i32_324 : BitVec 32 := 2#32
  let v261 : BitVec 32 := Scalar.addi c2_i32_324 v260
  let v333 : BitVec 1 := Scalar.cmpi .slt v332 v261
  let v703 : BitVec 32 := Scalar.extui v333
  let c0_i32_635 : BitVec 32 := 0#32
  let v704 : BitVec 1 := Scalar.cmpi .ne v703 c0_i32_635
  v704

def k0_off114 (v260 : BitVec 32) (k0_t3 : Fin (k0_t3_loop v260).trips) : Fin 3 → Nat :=
  let c0_i32_358 : BitVec 32 := 0#32
  let c1_i32_360 : BitVec 32 := 1#32
  let arg36 : BitVec 32 := Scf.iv c0_i32_358 c1_i32_360 k0_t3
  let c2_i32_366 : BitVec 32 := 2#32
  let v326 : BitVec 32 := Scalar.remsi arg36 c2_i32_366
  let c0_i32_637 : BitVec 32 := 0#32
  let c6144_i32_638 : BitVec 32 := 6144#32
  ![v326.toNat, 0, 6144]
def k0_off115 (v338 : BitVec 32) : Fin 3 → Nat :=
  let c0_i32_639 : BitVec 32 := 0#32
  let c6144_i32_640 : BitVec 32 := 6144#32
  ![v338.toNat, 0, 6144]

def k0_chk11 (v260 : BitVec 32) (k0_t3 : Fin (k0_t3_loop v260).trips) (v338 : BitVec 32) : Prop :=
  (∀ (k0_h1 : k0_cond1 v260 k0_t3 = 1#1), ∀ a, (k0_off26 v338) a + S1x1024x1536.size a ≤ S32x7168x1536.size a) ∧
  (∀ (k0_h1 : k0_cond1 v260 k0_t3 = 1#1), ∀ (hinb : ∀ a, (k0_off26 v338) a + S1x1024x1536.size a ≤ S32x7168x1536.size a), (Rect.unit (s := S32x7168x1536) (k0_off26 v338) S1x1024x1536.size hinb).WholeWords (EltTy.packing .fp8e4m3)) ∧
  (∀ (k0_h2 : k0_cond2 v260 k0_t3 = 1#1), ∀ a, (k0_off32 v338) a + S1x1024x1536.size a ≤ S32x7168x1536.size a) ∧
  (∀ (k0_h2 : k0_cond2 v260 k0_t3 = 1#1), ∀ (hinb : ∀ a, (k0_off32 v338) a + S1x1024x1536.size a ≤ S32x7168x1536.size a), (Rect.unit (s := S32x7168x1536) (k0_off32 v338) S1x1024x1536.size hinb).WholeWords (EltTy.packing .fp8e4m3)) ∧
  (∀ (k0_h3 : k0_cond3 v260 k0_t3 = 1#1), ∀ a, (k0_off38 v338) a + S1x1024x1536.size a ≤ S32x7168x1536.size a) ∧
  (∀ (k0_h3 : k0_cond3 v260 k0_t3 = 1#1), ∀ (hinb : ∀ a, (k0_off38 v338) a + S1x1024x1536.size a ≤ S32x7168x1536.size a), (Rect.unit (s := S32x7168x1536) (k0_off38 v338) S1x1024x1536.size hinb).WholeWords (EltTy.packing .fp8e4m3)) ∧
  (∀ (k0_h4 : k0_cond4 v260 k0_t3 = 1#1), ∀ a, (k0_off44 v338) a + S1x1024x1536.size a ≤ S32x7168x1536.size a) ∧
  (∀ (k0_h4 : k0_cond4 v260 k0_t3 = 1#1), ∀ (hinb : ∀ a, (k0_off44 v338) a + S1x1024x1536.size a ≤ S32x7168x1536.size a), (Rect.unit (s := S32x7168x1536) (k0_off44 v338) S1x1024x1536.size hinb).WholeWords (EltTy.packing .fp8e4m3)) ∧
  (∀ (k0_h5 : k0_cond5 v260 k0_t3 = 1#1), ∀ a, (k0_off50 v338) a + S1x1024x1536.size a ≤ S32x7168x1536.size a) ∧
  (∀ (k0_h5 : k0_cond5 v260 k0_t3 = 1#1), ∀ (hinb : ∀ a, (k0_off50 v338) a + S1x1024x1536.size a ≤ S32x7168x1536.size a), (Rect.unit (s := S32x7168x1536) (k0_off50 v338) S1x1024x1536.size hinb).WholeWords (EltTy.packing .fp8e4m3)) ∧
  (∀ (k0_h6 : k0_cond6 v260 k0_t3 = 1#1), ∀ a, (k0_off56 v338) a + S1x1024x1536.size a ≤ S32x7168x1536.size a) ∧
  (∀ (k0_h6 : k0_cond6 v260 k0_t3 = 1#1), ∀ (hinb : ∀ a, (k0_off56 v338) a + S1x1024x1536.size a ≤ S32x7168x1536.size a), (Rect.unit (s := S32x7168x1536) (k0_off56 v338) S1x1024x1536.size hinb).WholeWords (EltTy.packing .fp8e4m3)) ∧
  (∀ (k0_h7 : k0_cond7 v260 k0_t3 = 1#1), ∀ a, (k0_off62 v338) a + S1x1024x1536.size a ≤ S32x7168x1536.size a) ∧
  (∀ (k0_h7 : k0_cond7 v260 k0_t3 = 1#1), ∀ (hinb : ∀ a, (k0_off62 v338) a + S1x1024x1536.size a ≤ S32x7168x1536.size a), (Rect.unit (s := S32x7168x1536) (k0_off62 v338) S1x1024x1536.size hinb).WholeWords (EltTy.packing .fp8e4m3)) ∧
  (∀ (k0_h8 : k0_cond8 v260 k0_t3 = 1#1), ∀ a, (k0_off73 v338) a + S1x768x1024.size a ≤ S32x768x7168.size a) ∧
  (∀ (k0_h8 : k0_cond8 v260 k0_t3 = 1#1), ∀ (hinb : ∀ a, (k0_off73 v338) a + S1x768x1024.size a ≤ S32x768x7168.size a), (Rect.unit (s := S32x768x7168) (k0_off73 v338) S1x768x1024.size hinb).WholeWords (EltTy.packing .fp8e4m3)) ∧
  (∀ (k0_h9 : k0_cond9 v260 k0_t3 = 1#1), ∀ a, (k0_off80 v338) a + S1x768x1024.size a ≤ S32x768x7168.size a) ∧
  (∀ (k0_h9 : k0_cond9 v260 k0_t3 = 1#1), ∀ (hinb : ∀ a, (k0_off80 v338) a + S1x768x1024.size a ≤ S32x768x7168.size a), (Rect.unit (s := S32x768x7168) (k0_off80 v338) S1x768x1024.size hinb).WholeWords (EltTy.packing .fp8e4m3)) ∧
  (∀ (k0_h10 : k0_cond10 v260 k0_t3 = 1#1), ∀ a, (k0_off87 v338) a + S1x768x1024.size a ≤ S32x768x7168.size a) ∧
  (∀ (k0_h10 : k0_cond10 v260 k0_t3 = 1#1), ∀ (hinb : ∀ a, (k0_off87 v338) a + S1x768x1024.size a ≤ S32x768x7168.size a), (Rect.unit (s := S32x768x7168) (k0_off87 v338) S1x768x1024.size hinb).WholeWords (EltTy.packing .fp8e4m3)) ∧
  (∀ (k0_h11 : k0_cond11 v260 k0_t3 = 1#1), ∀ a, (k0_off94 v338) a + S1x768x1024.size a ≤ S32x768x7168.size a) ∧
  (∀ (k0_h11 : k0_cond11 v260 k0_t3 = 1#1), ∀ (hinb : ∀ a, (k0_off94 v338) a + S1x768x1024.size a ≤ S32x768x7168.size a), (Rect.unit (s := S32x768x7168) (k0_off94 v338) S1x768x1024.size hinb).WholeWords (EltTy.packing .fp8e4m3)) ∧
  (∀ (k0_h12 : k0_cond12 v260 k0_t3 = 1#1), ∀ a, (k0_off101 v338) a + S1x768x1024.size a ≤ S32x768x7168.size a) ∧
  (∀ (k0_h12 : k0_cond12 v260 k0_t3 = 1#1), ∀ (hinb : ∀ a, (k0_off101 v338) a + S1x768x1024.size a ≤ S32x768x7168.size a), (Rect.unit (s := S32x768x7168) (k0_off101 v338) S1x768x1024.size hinb).WholeWords (EltTy.packing .fp8e4m3)) ∧
  (∀ (k0_h13 : k0_cond13 v260 k0_t3 = 1#1), ∀ a, (k0_off108 v338) a + S1x768x1024.size a ≤ S32x768x7168.size a) ∧
  (∀ (k0_h13 : k0_cond13 v260 k0_t3 = 1#1), ∀ (hinb : ∀ a, (k0_off108 v338) a + S1x768x1024.size a ≤ S32x768x7168.size a), (Rect.unit (s := S32x768x7168) (k0_off108 v338) S1x768x1024.size hinb).WholeWords (EltTy.packing .fp8e4m3)) ∧
  (∀ (k0_h14 : k0_cond14 v260 k0_t3 = 1#1), ∀ a, (k0_off115 v338) a + S1x768x1024.size a ≤ S32x768x7168.size a) ∧
  (∀ (k0_h14 : k0_cond14 v260 k0_t3 = 1#1), ∀ (hinb : ∀ a, (k0_off115 v338) a + S1x768x1024.size a ≤ S32x768x7168.size a), (Rect.unit (s := S32x768x7168) (k0_off115 v338) S1x768x1024.size hinb).WholeWords (EltTy.packing .fp8e4m3))
theorem k0_off26_inb : ∀ (v260 : BitVec 32) (k0_t3 : Fin (k0_t3_loop v260).trips) (v338 : BitVec 32) (k0_hw11 : k0_chk11 v260 k0_t3 v338), ∀ (k0_h1 : k0_cond1 v260 k0_t3 = 1#1), ∀ a, (k0_off26 v338) a + S1x1024x1536.size a ≤ S32x7168x1536.size a := fun v260 k0_t3 v338 k0_hw11 k0_h1 => k0_hw11.1 k0_h1
theorem k0_off26_wordsfp8e4m3 : ∀ (v260 : BitVec 32) (k0_t3 : Fin (k0_t3_loop v260).trips) (v338 : BitVec 32) (k0_hw11 : k0_chk11 v260 k0_t3 v338), ∀ (k0_h1 : k0_cond1 v260 k0_t3 = 1#1), (Rect.unit (s := S32x7168x1536) (k0_off26 v338) S1x1024x1536.size (k0_off26_inb v260 k0_t3 v338 k0_hw11 k0_h1)).WholeWords (EltTy.packing .fp8e4m3) := fun v260 k0_t3 v338 k0_hw11 k0_h1 => k0_hw11.2.1 k0_h1 (k0_off26_inb v260 k0_t3 v338 k0_hw11 k0_h1)
theorem k0_off32_inb : ∀ (v260 : BitVec 32) (k0_t3 : Fin (k0_t3_loop v260).trips) (v338 : BitVec 32) (k0_hw11 : k0_chk11 v260 k0_t3 v338), ∀ (k0_h2 : k0_cond2 v260 k0_t3 = 1#1), ∀ a, (k0_off32 v338) a + S1x1024x1536.size a ≤ S32x7168x1536.size a := fun v260 k0_t3 v338 k0_hw11 k0_h2 => k0_hw11.2.2.1 k0_h2
theorem k0_off32_wordsfp8e4m3 : ∀ (v260 : BitVec 32) (k0_t3 : Fin (k0_t3_loop v260).trips) (v338 : BitVec 32) (k0_hw11 : k0_chk11 v260 k0_t3 v338), ∀ (k0_h2 : k0_cond2 v260 k0_t3 = 1#1), (Rect.unit (s := S32x7168x1536) (k0_off32 v338) S1x1024x1536.size (k0_off32_inb v260 k0_t3 v338 k0_hw11 k0_h2)).WholeWords (EltTy.packing .fp8e4m3) := fun v260 k0_t3 v338 k0_hw11 k0_h2 => k0_hw11.2.2.2.1 k0_h2 (k0_off32_inb v260 k0_t3 v338 k0_hw11 k0_h2)
theorem k0_off38_inb : ∀ (v260 : BitVec 32) (k0_t3 : Fin (k0_t3_loop v260).trips) (v338 : BitVec 32) (k0_hw11 : k0_chk11 v260 k0_t3 v338), ∀ (k0_h3 : k0_cond3 v260 k0_t3 = 1#1), ∀ a, (k0_off38 v338) a + S1x1024x1536.size a ≤ S32x7168x1536.size a := fun v260 k0_t3 v338 k0_hw11 k0_h3 => k0_hw11.2.2.2.2.1 k0_h3
theorem k0_off38_wordsfp8e4m3 : ∀ (v260 : BitVec 32) (k0_t3 : Fin (k0_t3_loop v260).trips) (v338 : BitVec 32) (k0_hw11 : k0_chk11 v260 k0_t3 v338), ∀ (k0_h3 : k0_cond3 v260 k0_t3 = 1#1), (Rect.unit (s := S32x7168x1536) (k0_off38 v338) S1x1024x1536.size (k0_off38_inb v260 k0_t3 v338 k0_hw11 k0_h3)).WholeWords (EltTy.packing .fp8e4m3) := fun v260 k0_t3 v338 k0_hw11 k0_h3 => k0_hw11.2.2.2.2.2.1 k0_h3 (k0_off38_inb v260 k0_t3 v338 k0_hw11 k0_h3)
theorem k0_off44_inb : ∀ (v260 : BitVec 32) (k0_t3 : Fin (k0_t3_loop v260).trips) (v338 : BitVec 32) (k0_hw11 : k0_chk11 v260 k0_t3 v338), ∀ (k0_h4 : k0_cond4 v260 k0_t3 = 1#1), ∀ a, (k0_off44 v338) a + S1x1024x1536.size a ≤ S32x7168x1536.size a := fun v260 k0_t3 v338 k0_hw11 k0_h4 => k0_hw11.2.2.2.2.2.2.1 k0_h4
theorem k0_off44_wordsfp8e4m3 : ∀ (v260 : BitVec 32) (k0_t3 : Fin (k0_t3_loop v260).trips) (v338 : BitVec 32) (k0_hw11 : k0_chk11 v260 k0_t3 v338), ∀ (k0_h4 : k0_cond4 v260 k0_t3 = 1#1), (Rect.unit (s := S32x7168x1536) (k0_off44 v338) S1x1024x1536.size (k0_off44_inb v260 k0_t3 v338 k0_hw11 k0_h4)).WholeWords (EltTy.packing .fp8e4m3) := fun v260 k0_t3 v338 k0_hw11 k0_h4 => k0_hw11.2.2.2.2.2.2.2.1 k0_h4 (k0_off44_inb v260 k0_t3 v338 k0_hw11 k0_h4)
theorem k0_off50_inb : ∀ (v260 : BitVec 32) (k0_t3 : Fin (k0_t3_loop v260).trips) (v338 : BitVec 32) (k0_hw11 : k0_chk11 v260 k0_t3 v338), ∀ (k0_h5 : k0_cond5 v260 k0_t3 = 1#1), ∀ a, (k0_off50 v338) a + S1x1024x1536.size a ≤ S32x7168x1536.size a := fun v260 k0_t3 v338 k0_hw11 k0_h5 => k0_hw11.2.2.2.2.2.2.2.2.1 k0_h5
theorem k0_off50_wordsfp8e4m3 : ∀ (v260 : BitVec 32) (k0_t3 : Fin (k0_t3_loop v260).trips) (v338 : BitVec 32) (k0_hw11 : k0_chk11 v260 k0_t3 v338), ∀ (k0_h5 : k0_cond5 v260 k0_t3 = 1#1), (Rect.unit (s := S32x7168x1536) (k0_off50 v338) S1x1024x1536.size (k0_off50_inb v260 k0_t3 v338 k0_hw11 k0_h5)).WholeWords (EltTy.packing .fp8e4m3) := fun v260 k0_t3 v338 k0_hw11 k0_h5 => k0_hw11.2.2.2.2.2.2.2.2.2.1 k0_h5 (k0_off50_inb v260 k0_t3 v338 k0_hw11 k0_h5)
theorem k0_off56_inb : ∀ (v260 : BitVec 32) (k0_t3 : Fin (k0_t3_loop v260).trips) (v338 : BitVec 32) (k0_hw11 : k0_chk11 v260 k0_t3 v338), ∀ (k0_h6 : k0_cond6 v260 k0_t3 = 1#1), ∀ a, (k0_off56 v338) a + S1x1024x1536.size a ≤ S32x7168x1536.size a := fun v260 k0_t3 v338 k0_hw11 k0_h6 => k0_hw11.2.2.2.2.2.2.2.2.2.2.1 k0_h6
theorem k0_off56_wordsfp8e4m3 : ∀ (v260 : BitVec 32) (k0_t3 : Fin (k0_t3_loop v260).trips) (v338 : BitVec 32) (k0_hw11 : k0_chk11 v260 k0_t3 v338), ∀ (k0_h6 : k0_cond6 v260 k0_t3 = 1#1), (Rect.unit (s := S32x7168x1536) (k0_off56 v338) S1x1024x1536.size (k0_off56_inb v260 k0_t3 v338 k0_hw11 k0_h6)).WholeWords (EltTy.packing .fp8e4m3) := fun v260 k0_t3 v338 k0_hw11 k0_h6 => k0_hw11.2.2.2.2.2.2.2.2.2.2.2.1 k0_h6 (k0_off56_inb v260 k0_t3 v338 k0_hw11 k0_h6)
theorem k0_off62_inb : ∀ (v260 : BitVec 32) (k0_t3 : Fin (k0_t3_loop v260).trips) (v338 : BitVec 32) (k0_hw11 : k0_chk11 v260 k0_t3 v338), ∀ (k0_h7 : k0_cond7 v260 k0_t3 = 1#1), ∀ a, (k0_off62 v338) a + S1x1024x1536.size a ≤ S32x7168x1536.size a := fun v260 k0_t3 v338 k0_hw11 k0_h7 => k0_hw11.2.2.2.2.2.2.2.2.2.2.2.2.1 k0_h7
theorem k0_off62_wordsfp8e4m3 : ∀ (v260 : BitVec 32) (k0_t3 : Fin (k0_t3_loop v260).trips) (v338 : BitVec 32) (k0_hw11 : k0_chk11 v260 k0_t3 v338), ∀ (k0_h7 : k0_cond7 v260 k0_t3 = 1#1), (Rect.unit (s := S32x7168x1536) (k0_off62 v338) S1x1024x1536.size (k0_off62_inb v260 k0_t3 v338 k0_hw11 k0_h7)).WholeWords (EltTy.packing .fp8e4m3) := fun v260 k0_t3 v338 k0_hw11 k0_h7 => k0_hw11.2.2.2.2.2.2.2.2.2.2.2.2.2.1 k0_h7 (k0_off62_inb v260 k0_t3 v338 k0_hw11 k0_h7)
theorem k0_off73_inb : ∀ (v260 : BitVec 32) (k0_t3 : Fin (k0_t3_loop v260).trips) (v338 : BitVec 32) (k0_hw11 : k0_chk11 v260 k0_t3 v338), ∀ (k0_h8 : k0_cond8 v260 k0_t3 = 1#1), ∀ a, (k0_off73 v338) a + S1x768x1024.size a ≤ S32x768x7168.size a := fun v260 k0_t3 v338 k0_hw11 k0_h8 => k0_hw11.2.2.2.2.2.2.2.2.2.2.2.2.2.2.1 k0_h8
theorem k0_off73_wordsfp8e4m3 : ∀ (v260 : BitVec 32) (k0_t3 : Fin (k0_t3_loop v260).trips) (v338 : BitVec 32) (k0_hw11 : k0_chk11 v260 k0_t3 v338), ∀ (k0_h8 : k0_cond8 v260 k0_t3 = 1#1), (Rect.unit (s := S32x768x7168) (k0_off73 v338) S1x768x1024.size (k0_off73_inb v260 k0_t3 v338 k0_hw11 k0_h8)).WholeWords (EltTy.packing .fp8e4m3) := fun v260 k0_t3 v338 k0_hw11 k0_h8 => k0_hw11.2.2.2.2.2.2.2.2.2.2.2.2.2.2.2.1 k0_h8 (k0_off73_inb v260 k0_t3 v338 k0_hw11 k0_h8)
theorem k0_off80_inb : ∀ (v260 : BitVec 32) (k0_t3 : Fin (k0_t3_loop v260).trips) (v338 : BitVec 32) (k0_hw11 : k0_chk11 v260 k0_t3 v338), ∀ (k0_h9 : k0_cond9 v260 k0_t3 = 1#1), ∀ a, (k0_off80 v338) a + S1x768x1024.size a ≤ S32x768x7168.size a := fun v260 k0_t3 v338 k0_hw11 k0_h9 => k0_hw11.2.2.2.2.2.2.2.2.2.2.2.2.2.2.2.2.1 k0_h9
theorem k0_off80_wordsfp8e4m3 : ∀ (v260 : BitVec 32) (k0_t3 : Fin (k0_t3_loop v260).trips) (v338 : BitVec 32) (k0_hw11 : k0_chk11 v260 k0_t3 v338), ∀ (k0_h9 : k0_cond9 v260 k0_t3 = 1#1), (Rect.unit (s := S32x768x7168) (k0_off80 v338) S1x768x1024.size (k0_off80_inb v260 k0_t3 v338 k0_hw11 k0_h9)).WholeWords (EltTy.packing .fp8e4m3) := fun v260 k0_t3 v338 k0_hw11 k0_h9 => k0_hw11.2.2.2.2.2.2.2.2.2.2.2.2.2.2.2.2.2.1 k0_h9 (k0_off80_inb v260 k0_t3 v338 k0_hw11 k0_h9)
theorem k0_off87_inb : ∀ (v260 : BitVec 32) (k0_t3 : Fin (k0_t3_loop v260).trips) (v338 : BitVec 32) (k0_hw11 : k0_chk11 v260 k0_t3 v338), ∀ (k0_h10 : k0_cond10 v260 k0_t3 = 1#1), ∀ a, (k0_off87 v338) a + S1x768x1024.size a ≤ S32x768x7168.size a := fun v260 k0_t3 v338 k0_hw11 k0_h10 => k0_hw11.2.2.2.2.2.2.2.2.2.2.2.2.2.2.2.2.2.2.1 k0_h10
theorem k0_off87_wordsfp8e4m3 : ∀ (v260 : BitVec 32) (k0_t3 : Fin (k0_t3_loop v260).trips) (v338 : BitVec 32) (k0_hw11 : k0_chk11 v260 k0_t3 v338), ∀ (k0_h10 : k0_cond10 v260 k0_t3 = 1#1), (Rect.unit (s := S32x768x7168) (k0_off87 v338) S1x768x1024.size (k0_off87_inb v260 k0_t3 v338 k0_hw11 k0_h10)).WholeWords (EltTy.packing .fp8e4m3) := fun v260 k0_t3 v338 k0_hw11 k0_h10 => k0_hw11.2.2.2.2.2.2.2.2.2.2.2.2.2.2.2.2.2.2.2.1 k0_h10 (k0_off87_inb v260 k0_t3 v338 k0_hw11 k0_h10)
theorem k0_off94_inb : ∀ (v260 : BitVec 32) (k0_t3 : Fin (k0_t3_loop v260).trips) (v338 : BitVec 32) (k0_hw11 : k0_chk11 v260 k0_t3 v338), ∀ (k0_h11 : k0_cond11 v260 k0_t3 = 1#1), ∀ a, (k0_off94 v338) a + S1x768x1024.size a ≤ S32x768x7168.size a := fun v260 k0_t3 v338 k0_hw11 k0_h11 => k0_hw11.2.2.2.2.2.2.2.2.2.2.2.2.2.2.2.2.2.2.2.2.1 k0_h11
theorem k0_off94_wordsfp8e4m3 : ∀ (v260 : BitVec 32) (k0_t3 : Fin (k0_t3_loop v260).trips) (v338 : BitVec 32) (k0_hw11 : k0_chk11 v260 k0_t3 v338), ∀ (k0_h11 : k0_cond11 v260 k0_t3 = 1#1), (Rect.unit (s := S32x768x7168) (k0_off94 v338) S1x768x1024.size (k0_off94_inb v260 k0_t3 v338 k0_hw11 k0_h11)).WholeWords (EltTy.packing .fp8e4m3) := fun v260 k0_t3 v338 k0_hw11 k0_h11 => k0_hw11.2.2.2.2.2.2.2.2.2.2.2.2.2.2.2.2.2.2.2.2.2.1 k0_h11 (k0_off94_inb v260 k0_t3 v338 k0_hw11 k0_h11)
theorem k0_off101_inb : ∀ (v260 : BitVec 32) (k0_t3 : Fin (k0_t3_loop v260).trips) (v338 : BitVec 32) (k0_hw11 : k0_chk11 v260 k0_t3 v338), ∀ (k0_h12 : k0_cond12 v260 k0_t3 = 1#1), ∀ a, (k0_off101 v338) a + S1x768x1024.size a ≤ S32x768x7168.size a := fun v260 k0_t3 v338 k0_hw11 k0_h12 => k0_hw11.2.2.2.2.2.2.2.2.2.2.2.2.2.2.2.2.2.2.2.2.2.2.1 k0_h12
theorem k0_off101_wordsfp8e4m3 : ∀ (v260 : BitVec 32) (k0_t3 : Fin (k0_t3_loop v260).trips) (v338 : BitVec 32) (k0_hw11 : k0_chk11 v260 k0_t3 v338), ∀ (k0_h12 : k0_cond12 v260 k0_t3 = 1#1), (Rect.unit (s := S32x768x7168) (k0_off101 v338) S1x768x1024.size (k0_off101_inb v260 k0_t3 v338 k0_hw11 k0_h12)).WholeWords (EltTy.packing .fp8e4m3) := fun v260 k0_t3 v338 k0_hw11 k0_h12 => k0_hw11.2.2.2.2.2.2.2.2.2.2.2.2.2.2.2.2.2.2.2.2.2.2.2.1 k0_h12 (k0_off101_inb v260 k0_t3 v338 k0_hw11 k0_h12)
theorem k0_off108_inb : ∀ (v260 : BitVec 32) (k0_t3 : Fin (k0_t3_loop v260).trips) (v338 : BitVec 32) (k0_hw11 : k0_chk11 v260 k0_t3 v338), ∀ (k0_h13 : k0_cond13 v260 k0_t3 = 1#1), ∀ a, (k0_off108 v338) a + S1x768x1024.size a ≤ S32x768x7168.size a := fun v260 k0_t3 v338 k0_hw11 k0_h13 => k0_hw11.2.2.2.2.2.2.2.2.2.2.2.2.2.2.2.2.2.2.2.2.2.2.2.2.1 k0_h13
theorem k0_off108_wordsfp8e4m3 : ∀ (v260 : BitVec 32) (k0_t3 : Fin (k0_t3_loop v260).trips) (v338 : BitVec 32) (k0_hw11 : k0_chk11 v260 k0_t3 v338), ∀ (k0_h13 : k0_cond13 v260 k0_t3 = 1#1), (Rect.unit (s := S32x768x7168) (k0_off108 v338) S1x768x1024.size (k0_off108_inb v260 k0_t3 v338 k0_hw11 k0_h13)).WholeWords (EltTy.packing .fp8e4m3) := fun v260 k0_t3 v338 k0_hw11 k0_h13 => k0_hw11.2.2.2.2.2.2.2.2.2.2.2.2.2.2.2.2.2.2.2.2.2.2.2.2.2.1 k0_h13 (k0_off108_inb v260 k0_t3 v338 k0_hw11 k0_h13)
theorem k0_off115_inb : ∀ (v260 : BitVec 32) (k0_t3 : Fin (k0_t3_loop v260).trips) (v338 : BitVec 32) (k0_hw11 : k0_chk11 v260 k0_t3 v338), ∀ (k0_h14 : k0_cond14 v260 k0_t3 = 1#1), ∀ a, (k0_off115 v338) a + S1x768x1024.size a ≤ S32x768x7168.size a := fun v260 k0_t3 v338 k0_hw11 k0_h14 => k0_hw11.2.2.2.2.2.2.2.2.2.2.2.2.2.2.2.2.2.2.2.2.2.2.2.2.2.2.1 k0_h14
theorem k0_off115_wordsfp8e4m3 : ∀ (v260 : BitVec 32) (k0_t3 : Fin (k0_t3_loop v260).trips) (v338 : BitVec 32) (k0_hw11 : k0_chk11 v260 k0_t3 v338), ∀ (k0_h14 : k0_cond14 v260 k0_t3 = 1#1), (Rect.unit (s := S32x768x7168) (k0_off115 v338) S1x768x1024.size (k0_off115_inb v260 k0_t3 v338 k0_hw11 k0_h14)).WholeWords (EltTy.packing .fp8e4m3) := fun v260 k0_t3 v338 k0_hw11 k0_h14 => k0_hw11.2.2.2.2.2.2.2.2.2.2.2.2.2.2.2.2.2.2.2.2.2.2.2.2.2.2.2 k0_h14 (k0_off115_inb v260 k0_t3 v338 k0_hw11 k0_h14)

@[reducible] def k0_t4_loop (v260 : BitVec 32) : Scf.Loop 32 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let v319 : BitVec 32 := Scalar.addi c0_i32_358 v318
  let c1_i32_361 : BitVec 32 := 1#32
  ⟨v322, v319, c1_i32_361⟩
def k0_off116 (v260 : BitVec 32) (k0_t4 : Fin (k0_t4_loop v260).trips) : Fin 1 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_368 : BitVec 32 := 2#32
  let v328 : BitVec 32 := Scalar.subi arg36 c2_i32_368
  let c0_i32_369 : BitVec 32 := 0#32
  let v329 : BitVec 32 := Scalar.maxsi v328 c0_i32_369
  let v330 : Index := Scalar.indexCast v329
  ![v330.toNat]
def k0_off117 (v260 : BitVec 32) (k0_t4 : Fin (k0_t4_loop v260).trips) : Fin 1 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let c1_i32_371 : BitVec 32 := 1#32
  let v334 : BitVec 32 := Scalar.subi v261 c1_i32_371
  let v335 : BitVec 32 := Scalar.minsi v332 v334
  let c2_i32_372 : BitVec 32 := 2#32
  let v336 : BitVec 32 := Scalar.subi v335 c2_i32_372
  let v337 : Index := Scalar.indexCast v336
  ![v337.toNat]
def k0_off118 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_375 : BitVec 32 := 0#32
  ![v326.toNat, 0]
def k0_off119 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_376 : BitVec 32 := 0#32
  let c0_i32_377 : BitVec 32 := 0#32
  ![v326.toNat, 0, 0]
def k0_off120 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v347 : Index := Scalar.indexCast v326
  let c0_382 : Index := 0#32
  let c0_383 : Index := 0#32
  ![v347.toNat, 0, 0]
def k0_off121 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_636 : BitVec 32 := 0#32
  ![v326.toNat, 0]
def k0_cond15 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v354 : BitVec 32 := Scalar.extui v333
  let c0_i32_387 : BitVec 32 := 0#32
  let v355 : BitVec 1 := Scalar.cmpi .ne v354 c0_i32_387
  v355

def k0_off122 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_637 : BitVec 32 := 0#32
  let c0_i32_638 : BitVec 32 := 0#32
  ![v326.toNat, 0, 0]
def k0_off123 (v338 : BitVec 32) : Fin 3 → Nat :=
  let c0_i32_639 : BitVec 32 := 0#32
  let c0_i32_640 : BitVec 32 := 0#32
  ![v338.toNat, 0, 0]

def k0_off124 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c1_i32_389 : BitVec 32 := 1#32
  ![v326.toNat, 1]
def k0_off125 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c1024_i32_390 : BitVec 32 := 1024#32
  let c0_i32_391 : BitVec 32 := 0#32
  ![v326.toNat, 1024, 0]
def k0_off126 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v363 : Index := Scalar.indexCast v326
  let c1024_395 : Index := 1024#32
  let c0_396 : Index := 0#32
  ![v363.toNat, 1024, 0]
def k0_off127 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c1_i32_636 : BitVec 32 := 1#32
  ![v326.toNat, 1]
def k0_cond16 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v372 : BitVec 32 := Scalar.extui v333
  let c0_i32_402 : BitVec 32 := 0#32
  let v373 : BitVec 1 := Scalar.cmpi .ne v372 c0_i32_402
  v373

def k0_off128 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c1024_i32_637 : BitVec 32 := 1024#32
  let c0_i32_638 : BitVec 32 := 0#32
  ![v326.toNat, 1024, 0]
def k0_off129 (v338 : BitVec 32) : Fin 3 → Nat :=
  let c1024_i32_639 : BitVec 32 := 1024#32
  let c0_i32_640 : BitVec 32 := 0#32
  ![v338.toNat, 1024, 0]
def k0_off130 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c2_i32_404 : BitVec 32 := 2#32
  ![v326.toNat, 2]
def k0_off131 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c2048_i32_405 : BitVec 32 := 2048#32
  let c0_i32_406 : BitVec 32 := 0#32
  ![v326.toNat, 2048, 0]
def k0_off132 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v381 : Index := Scalar.indexCast v326
  let c2048_410 : Index := 2048#32
  let c0_411 : Index := 0#32
  ![v381.toNat, 2048, 0]
def k0_off133 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c2_i32_636 : BitVec 32 := 2#32
  ![v326.toNat, 2]
def k0_cond17 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v390 : BitVec 32 := Scalar.extui v333
  let c0_i32_417 : BitVec 32 := 0#32
  let v391 : BitVec 1 := Scalar.cmpi .ne v390 c0_i32_417
  v391

def k0_off134 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c2048_i32_637 : BitVec 32 := 2048#32
  let c0_i32_638 : BitVec 32 := 0#32
  ![v326.toNat, 2048, 0]
def k0_off135 (v338 : BitVec 32) : Fin 3 → Nat :=
  let c2048_i32_639 : BitVec 32 := 2048#32
  let c0_i32_640 : BitVec 32 := 0#32
  ![v338.toNat, 2048, 0]
def k0_off136 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c3_i32_419 : BitVec 32 := 3#32
  ![v326.toNat, 3]
def k0_off137 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c3072_i32_420 : BitVec 32 := 3072#32
  let c0_i32_421 : BitVec 32 := 0#32
  ![v326.toNat, 3072, 0]
def k0_off138 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v399 : Index := Scalar.indexCast v326
  let c3072_425 : Index := 3072#32
  let c0_426 : Index := 0#32
  ![v399.toNat, 3072, 0]
def k0_off139 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c3_i32_636 : BitVec 32 := 3#32
  ![v326.toNat, 3]
def k0_cond18 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v408 : BitVec 32 := Scalar.extui v333
  let c0_i32_432 : BitVec 32 := 0#32
  let v409 : BitVec 1 := Scalar.cmpi .ne v408 c0_i32_432
  v409

def k0_off140 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c3072_i32_637 : BitVec 32 := 3072#32
  let c0_i32_638 : BitVec 32 := 0#32
  ![v326.toNat, 3072, 0]
def k0_off141 (v338 : BitVec 32) : Fin 3 → Nat :=
  let c3072_i32_639 : BitVec 32 := 3072#32
  let c0_i32_640 : BitVec 32 := 0#32
  ![v338.toNat, 3072, 0]
def k0_off142 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c4_i32_434 : BitVec 32 := 4#32
  ![v326.toNat, 4]
def k0_off143 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c4096_i32_435 : BitVec 32 := 4096#32
  let c0_i32_436 : BitVec 32 := 0#32
  ![v326.toNat, 4096, 0]
def k0_off144 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v417 : Index := Scalar.indexCast v326
  let c4096_440 : Index := 4096#32
  let c0_441 : Index := 0#32
  ![v417.toNat, 4096, 0]
def k0_off145 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c4_i32_636 : BitVec 32 := 4#32
  ![v326.toNat, 4]
def k0_cond19 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v426 : BitVec 32 := Scalar.extui v333
  let c0_i32_447 : BitVec 32 := 0#32
  let v427 : BitVec 1 := Scalar.cmpi .ne v426 c0_i32_447
  v427

def k0_off146 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c4096_i32_637 : BitVec 32 := 4096#32
  let c0_i32_638 : BitVec 32 := 0#32
  ![v326.toNat, 4096, 0]
def k0_off147 (v338 : BitVec 32) : Fin 3 → Nat :=
  let c4096_i32_639 : BitVec 32 := 4096#32
  let c0_i32_640 : BitVec 32 := 0#32
  ![v338.toNat, 4096, 0]
def k0_off148 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c5_i32_449 : BitVec 32 := 5#32
  ![v326.toNat, 5]
def k0_off149 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c5120_i32_450 : BitVec 32 := 5120#32
  let c0_i32_451 : BitVec 32 := 0#32
  ![v326.toNat, 5120, 0]
def k0_off150 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v435 : Index := Scalar.indexCast v326
  let c5120_455 : Index := 5120#32
  let c0_456 : Index := 0#32
  ![v435.toNat, 5120, 0]
def k0_off151 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c5_i32_636 : BitVec 32 := 5#32
  ![v326.toNat, 5]
def k0_cond20 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v444 : BitVec 32 := Scalar.extui v333
  let c0_i32_462 : BitVec 32 := 0#32
  let v445 : BitVec 1 := Scalar.cmpi .ne v444 c0_i32_462
  v445

def k0_off152 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c5120_i32_637 : BitVec 32 := 5120#32
  let c0_i32_638 : BitVec 32 := 0#32
  ![v326.toNat, 5120, 0]
def k0_off153 (v338 : BitVec 32) : Fin 3 → Nat :=
  let c5120_i32_639 : BitVec 32 := 5120#32
  let c0_i32_640 : BitVec 32 := 0#32
  ![v338.toNat, 5120, 0]
def k0_off154 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c6_i32_464 : BitVec 32 := 6#32
  ![v326.toNat, 6]
def k0_off155 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c6144_i32_465 : BitVec 32 := 6144#32
  let c0_i32_466 : BitVec 32 := 0#32
  ![v326.toNat, 6144, 0]
def k0_off156 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v453 : Index := Scalar.indexCast v326
  let c6144_470 : Index := 6144#32
  let c0_471 : Index := 0#32
  ![v453.toNat, 6144, 0]
def k0_off157 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c6_i32_636 : BitVec 32 := 6#32
  ![v326.toNat, 6]
def k0_cond21 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v462 : BitVec 32 := Scalar.extui v333
  let c0_i32_477 : BitVec 32 := 0#32
  let v463 : BitVec 1 := Scalar.cmpi .ne v462 c0_i32_477
  v463

def k0_off158 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c6144_i32_637 : BitVec 32 := 6144#32
  let c0_i32_638 : BitVec 32 := 0#32
  ![v326.toNat, 6144, 0]
def k0_off159 (v338 : BitVec 32) : Fin 3 → Nat :=
  let c6144_i32_639 : BitVec 32 := 6144#32
  let c0_i32_640 : BitVec 32 := 0#32
  ![v338.toNat, 6144, 0]
def k0_mult2 (v260 : BitVec 32) (k0_t4 : Fin (k0_t4_loop v260).trips) : BitVec 32 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c1_i32_373 : BitVec 32 := 1#32
  let v339 : BitVec 32 := Scalar.minsi arg36 c1_i32_373
  let c768_i32_478 : BitVec 32 := 768#32
  let v464 : BitVec 32 := Scalar.muli v339 c768_i32_478
  v464
def k0_off160 (v260 : BitVec 32) (k0_t4 : Fin (k0_t4_loop v260).trips) : Fin 2 → Nat :=
  let c0_479 : Index := 0#32
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c1_i32_373 : BitVec 32 := 1#32
  let v339 : BitVec 32 := Scalar.minsi arg36 c1_i32_373
  let c768_i32_478 : BitVec 32 := 768#32
  let v464 : BitVec 32 := Scalar.muli v339 c768_i32_478
  let v465 : BitVec 32 := v464
  let v466 : Index := Scalar.indexCast v465
  ![0, v466.toNat]
def k0_off161 (v331 : BitVec 32) : Fin 2 → Nat :=
  let v468 : Index := Scalar.indexCast v331
  let c0_480 : Index := 0#32
  ![v468.toNat, 0]

def k0_off162 (v260 : BitVec 32) (k0_t4 : Fin (k0_t4_loop v260).trips) : Fin 2 → Nat :=
  let c0_482 : Index := 0#32
  let c1536_i32_481 : BitVec 32 := 1536#32
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c1_i32_373 : BitVec 32 := 1#32
  let v339 : BitVec 32 := Scalar.minsi arg36 c1_i32_373
  let c768_i32_478 : BitVec 32 := 768#32
  let v464 : BitVec 32 := Scalar.muli v339 c768_i32_478
  let v465 : BitVec 32 := v464
  let v471 : BitVec 32 := Scalar.addi c1536_i32_481 v465
  let v472 : Index := Scalar.indexCast v471
  ![0, v472.toNat]
def k0_off163 (v331 : BitVec 32) : Fin 2 → Nat :=
  let v474 : Index := Scalar.indexCast v331
  let c768 : Index := 768#32
  ![v474.toNat, 768]
def k0_off164 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_504 : BitVec 32 := 0#32
  ![v326.toNat, 0]
def k0_off165 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_505 : BitVec 32 := 0#32
  let c0_i32_506 : BitVec 32 := 0#32
  ![v326.toNat, 0, 0]
def k0_off166 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v523 : Index := Scalar.indexCast v326
  let c0_511 : Index := 0#32
  let c0_512 : Index := 0#32
  ![v523.toNat, 0, 0]
def k0_off167 (v331 : BitVec 32) : Fin 2 → Nat :=
  let v528 : Index := Scalar.indexCast v331
  let c0_516 : Index := 0#32
  ![v528.toNat, 0]
def k0_off168 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_636 : BitVec 32 := 0#32
  ![v326.toNat, 0]
def k0_cond22 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v541 : BitVec 32 := Scalar.extui v333
  let c0_i32_521 : BitVec 32 := 0#32
  let v542 : BitVec 1 := Scalar.cmpi .ne v541 c0_i32_521
  v542

def k0_off169 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_637 : BitVec 32 := 0#32
  let c0_i32_638 : BitVec 32 := 0#32
  ![v326.toNat, 0, 0]
def k0_off170 (v338 : BitVec 32) : Fin 3 → Nat :=
  let c0_i32_639 : BitVec 32 := 0#32
  let c0_i32_640 : BitVec 32 := 0#32
  ![v338.toNat, 0, 0]
def k0_off171 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c1_i32_523 : BitVec 32 := 1#32
  ![v326.toNat, 1]
def k0_off172 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_524 : BitVec 32 := 0#32
  let c1024_i32_525 : BitVec 32 := 1024#32
  ![v326.toNat, 0, 1024]
def k0_off173 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v550 : Index := Scalar.indexCast v326
  let c0_530 : Index := 0#32
  let c1024_531 : Index := 1024#32
  ![v550.toNat, 0, 1024]
def k0_off174 (v331 : BitVec 32) : Fin 2 → Nat :=
  let v555 : Index := Scalar.indexCast v331
  let c1024_535 : Index := 1024#32
  ![v555.toNat, 1024]
def k0_off175 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c1_i32_636 : BitVec 32 := 1#32
  ![v326.toNat, 1]
def k0_cond23 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v568 : BitVec 32 := Scalar.extui v333
  let c0_i32_540 : BitVec 32 := 0#32
  let v569 : BitVec 1 := Scalar.cmpi .ne v568 c0_i32_540
  v569

def k0_off176 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_637 : BitVec 32 := 0#32
  let c1024_i32_638 : BitVec 32 := 1024#32
  ![v326.toNat, 0, 1024]
def k0_off177 (v338 : BitVec 32) : Fin 3 → Nat :=
  let c0_i32_639 : BitVec 32 := 0#32
  let c1024_i32_640 : BitVec 32 := 1024#32
  ![v338.toNat, 0, 1024]
def k0_off178 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c2_i32_542 : BitVec 32 := 2#32
  ![v326.toNat, 2]
def k0_off179 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_543 : BitVec 32 := 0#32
  let c2048_i32_544 : BitVec 32 := 2048#32
  ![v326.toNat, 0, 2048]
def k0_off180 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v577 : Index := Scalar.indexCast v326
  let c0_549 : Index := 0#32
  let c2048_550 : Index := 2048#32
  ![v577.toNat, 0, 2048]
def k0_off181 (v331 : BitVec 32) : Fin 2 → Nat :=
  let v582 : Index := Scalar.indexCast v331
  let c2048_554 : Index := 2048#32
  ![v582.toNat, 2048]
def k0_off182 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c2_i32_636 : BitVec 32 := 2#32
  ![v326.toNat, 2]
def k0_cond24 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v595 : BitVec 32 := Scalar.extui v333
  let c0_i32_559 : BitVec 32 := 0#32
  let v596 : BitVec 1 := Scalar.cmpi .ne v595 c0_i32_559
  v596

def k0_off183 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_637 : BitVec 32 := 0#32
  let c2048_i32_638 : BitVec 32 := 2048#32
  ![v326.toNat, 0, 2048]
def k0_off184 (v338 : BitVec 32) : Fin 3 → Nat :=
  let c0_i32_639 : BitVec 32 := 0#32
  let c2048_i32_640 : BitVec 32 := 2048#32
  ![v338.toNat, 0, 2048]
def k0_off185 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c3_i32_561 : BitVec 32 := 3#32
  ![v326.toNat, 3]
def k0_off186 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_562 : BitVec 32 := 0#32
  let c3072_i32_563 : BitVec 32 := 3072#32
  ![v326.toNat, 0, 3072]
def k0_off187 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v604 : Index := Scalar.indexCast v326
  let c0_568 : Index := 0#32
  let c3072_569 : Index := 3072#32
  ![v604.toNat, 0, 3072]
def k0_off188 (v331 : BitVec 32) : Fin 2 → Nat :=
  let v609 : Index := Scalar.indexCast v331
  let c3072_573 : Index := 3072#32
  ![v609.toNat, 3072]
def k0_off189 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c3_i32_636 : BitVec 32 := 3#32
  ![v326.toNat, 3]
def k0_cond25 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v622 : BitVec 32 := Scalar.extui v333
  let c0_i32_578 : BitVec 32 := 0#32
  let v623 : BitVec 1 := Scalar.cmpi .ne v622 c0_i32_578
  v623

def k0_off190 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_637 : BitVec 32 := 0#32
  let c3072_i32_638 : BitVec 32 := 3072#32
  ![v326.toNat, 0, 3072]
def k0_off191 (v338 : BitVec 32) : Fin 3 → Nat :=
  let c0_i32_639 : BitVec 32 := 0#32
  let c3072_i32_640 : BitVec 32 := 3072#32
  ![v338.toNat, 0, 3072]
def k0_off192 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c4_i32_580 : BitVec 32 := 4#32
  ![v326.toNat, 4]
def k0_off193 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_581 : BitVec 32 := 0#32
  let c4096_i32_582 : BitVec 32 := 4096#32
  ![v326.toNat, 0, 4096]
def k0_off194 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v631 : Index := Scalar.indexCast v326
  let c0_587 : Index := 0#32
  let c4096_588 : Index := 4096#32
  ![v631.toNat, 0, 4096]
def k0_off195 (v331 : BitVec 32) : Fin 2 → Nat :=
  let v636 : Index := Scalar.indexCast v331
  let c4096_592 : Index := 4096#32
  ![v636.toNat, 4096]
def k0_off196 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c4_i32_636 : BitVec 32 := 4#32
  ![v326.toNat, 4]
def k0_cond26 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v649 : BitVec 32 := Scalar.extui v333
  let c0_i32_597 : BitVec 32 := 0#32
  let v650 : BitVec 1 := Scalar.cmpi .ne v649 c0_i32_597
  v650

def k0_off197 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_637 : BitVec 32 := 0#32
  let c4096_i32_638 : BitVec 32 := 4096#32
  ![v326.toNat, 0, 4096]
def k0_off198 (v338 : BitVec 32) : Fin 3 → Nat :=
  let c0_i32_639 : BitVec 32 := 0#32
  let c4096_i32_640 : BitVec 32 := 4096#32
  ![v338.toNat, 0, 4096]
def k0_off199 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c5_i32_599 : BitVec 32 := 5#32
  ![v326.toNat, 5]
def k0_off200 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_600 : BitVec 32 := 0#32
  let c5120_i32_601 : BitVec 32 := 5120#32
  ![v326.toNat, 0, 5120]
def k0_off201 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v658 : Index := Scalar.indexCast v326
  let c0_606 : Index := 0#32
  let c5120_607 : Index := 5120#32
  ![v658.toNat, 0, 5120]
def k0_off202 (v331 : BitVec 32) : Fin 2 → Nat :=
  let v663 : Index := Scalar.indexCast v331
  let c5120_611 : Index := 5120#32
  ![v663.toNat, 5120]
def k0_off203 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c5_i32_636 : BitVec 32 := 5#32
  ![v326.toNat, 5]
def k0_cond27 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v676 : BitVec 32 := Scalar.extui v333
  let c0_i32_616 : BitVec 32 := 0#32
  let v677 : BitVec 1 := Scalar.cmpi .ne v676 c0_i32_616
  v677

def k0_off204 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_637 : BitVec 32 := 0#32
  let c5120_i32_638 : BitVec 32 := 5120#32
  ![v326.toNat, 0, 5120]
def k0_off205 (v338 : BitVec 32) : Fin 3 → Nat :=
  let c0_i32_639 : BitVec 32 := 0#32
  let c5120_i32_640 : BitVec 32 := 5120#32
  ![v338.toNat, 0, 5120]
def k0_off206 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c6_i32_618 : BitVec 32 := 6#32
  ![v326.toNat, 6]
def k0_off207 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_619 : BitVec 32 := 0#32
  let c6144_i32_620 : BitVec 32 := 6144#32
  ![v326.toNat, 0, 6144]
def k0_off208 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let v685 : Index := Scalar.indexCast v326
  let c0_625 : Index := 0#32
  let c6144_626 : Index := 6144#32
  ![v685.toNat, 0, 6144]
def k0_off209 (v331 : BitVec 32) : Fin 2 → Nat :=
  let v690 : Index := Scalar.indexCast v331
  let c6144_630 : Index := 6144#32
  ![v690.toNat, 6144]

def k0_chk14 (v331 : BitVec 32) : Prop :=
  (∀ a, (k0_off161 v331) a + S1x768.size a ≤ S32x1536.size a) ∧
  (∀ a, (k0_off163 v331) a + S1x768.size a ≤ S32x1536.size a) ∧
  (∀ a, (k0_off167 v331) a + S1x1024.size a ≤ S32x7168.size a) ∧
  (∀ a, (k0_off174 v331) a + S1x1024.size a ≤ S32x7168.size a) ∧
  (∀ a, (k0_off181 v331) a + S1x1024.size a ≤ S32x7168.size a) ∧
  (∀ a, (k0_off188 v331) a + S1x1024.size a ≤ S32x7168.size a) ∧
  (∀ a, (k0_off195 v331) a + S1x1024.size a ≤ S32x7168.size a) ∧
  (∀ a, (k0_off202 v331) a + S1x1024.size a ≤ S32x7168.size a) ∧
  (∀ a, (k0_off209 v331) a + S1x1024.size a ≤ S32x7168.size a)
theorem k0_off161_inb : ∀ (v331 : BitVec 32) (k0_hw14 : k0_chk14 v331), ∀ a, (k0_off161 v331) a + S1x768.size a ≤ S32x1536.size a := fun v331 k0_hw14 => k0_hw14.1
theorem k0_off163_inb : ∀ (v331 : BitVec 32) (k0_hw14 : k0_chk14 v331), ∀ a, (k0_off163 v331) a + S1x768.size a ≤ S32x1536.size a := fun v331 k0_hw14 => k0_hw14.2.1
theorem k0_off167_inb : ∀ (v331 : BitVec 32) (k0_hw14 : k0_chk14 v331), ∀ a, (k0_off167 v331) a + S1x1024.size a ≤ S32x7168.size a := fun v331 k0_hw14 => k0_hw14.2.2.1
theorem k0_off174_inb : ∀ (v331 : BitVec 32) (k0_hw14 : k0_chk14 v331), ∀ a, (k0_off174 v331) a + S1x1024.size a ≤ S32x7168.size a := fun v331 k0_hw14 => k0_hw14.2.2.2.1
theorem k0_off181_inb : ∀ (v331 : BitVec 32) (k0_hw14 : k0_chk14 v331), ∀ a, (k0_off181 v331) a + S1x1024.size a ≤ S32x7168.size a := fun v331 k0_hw14 => k0_hw14.2.2.2.2.1
theorem k0_off188_inb : ∀ (v331 : BitVec 32) (k0_hw14 : k0_chk14 v331), ∀ a, (k0_off188 v331) a + S1x1024.size a ≤ S32x7168.size a := fun v331 k0_hw14 => k0_hw14.2.2.2.2.2.1
theorem k0_off195_inb : ∀ (v331 : BitVec 32) (k0_hw14 : k0_chk14 v331), ∀ a, (k0_off195 v331) a + S1x1024.size a ≤ S32x7168.size a := fun v331 k0_hw14 => k0_hw14.2.2.2.2.2.2.1
theorem k0_off202_inb : ∀ (v331 : BitVec 32) (k0_hw14 : k0_chk14 v331), ∀ a, (k0_off202 v331) a + S1x1024.size a ≤ S32x7168.size a := fun v331 k0_hw14 => k0_hw14.2.2.2.2.2.2.2.1
theorem k0_off209_inb : ∀ (v331 : BitVec 32) (k0_hw14 : k0_chk14 v331), ∀ a, (k0_off209 v331) a + S1x1024.size a ≤ S32x7168.size a := fun v331 k0_hw14 => k0_hw14.2.2.2.2.2.2.2.2

def k0_off210 (v260 : BitVec 32) (k0_t4 : Fin (k0_t4_loop v260).trips) : Fin 2 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c6_i32_636 : BitVec 32 := 6#32
  ![v326.toNat, 6]
def k0_cond28 (v260 : BitVec 32) (k0_t4 : Fin (k0_t4_loop v260).trips) : BitVec 1 :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_370 : BitVec 32 := 2#32
  let v332 : BitVec 32 := Scalar.addi arg36 c2_i32_370
  let v333 : BitVec 1 := Scalar.cmpi .slt v332 v261
  let v703 : BitVec 32 := Scalar.extui v333
  let c0_i32_635 : BitVec 32 := 0#32
  let v704 : BitVec 1 := Scalar.cmpi .ne v703 c0_i32_635
  v704

def k0_off211 (v260 : BitVec 32) (k0_t4 : Fin (k0_t4_loop v260).trips) : Fin 3 → Nat :=
  let c0_i32_358 : BitVec 32 := 0#32
  let c2_i32_324 : BitVec 32 := 2#32
  let v261 : BitVec 32 := Scalar.addi c2_i32_324 v260
  let v318 : BitVec 32 := Scalar.subi v261 c0_i32_358
  let c1_i32_359 : BitVec 32 := 1#32
  let v320 : BitVec 32 := Scalar.divsi v318 c1_i32_359
  let v321 : BitVec 32 := Scalar.muli v320 c1_i32_359
  let v322 : BitVec 32 := Scalar.addi c0_i32_358 v321
  let c1_i32_361 : BitVec 32 := 1#32
  let arg36 : BitVec 32 := Scf.iv v322 c1_i32_361 k0_t4
  let c2_i32_366 : BitVec 32 := 2#32
  let v326 : BitVec 32 := Scalar.remsi arg36 c2_i32_366
  let c0_i32_637 : BitVec 32 := 0#32
  let c6144_i32_638 : BitVec 32 := 6144#32
  ![v326.toNat, 0, 6144]
def k0_off212 (v338 : BitVec 32) : Fin 3 → Nat :=
  let c0_i32_639 : BitVec 32 := 0#32
  let c6144_i32_640 : BitVec 32 := 6144#32
  ![v338.toNat, 0, 6144]

def k0_chk13 (v260 : BitVec 32) (k0_t4 : Fin (k0_t4_loop v260).trips) (v338 : BitVec 32) : Prop :=
  (∀ (k0_h15 : k0_cond15 v260 k0_t4 = 1#1), ∀ a, (k0_off123 v338) a + S1x1024x1536.size a ≤ S32x7168x1536.size a) ∧
  (∀ (k0_h15 : k0_cond15 v260 k0_t4 = 1#1), ∀ (hinb : ∀ a, (k0_off123 v338) a + S1x1024x1536.size a ≤ S32x7168x1536.size a), (Rect.unit (s := S32x7168x1536) (k0_off123 v338) S1x1024x1536.size hinb).WholeWords (EltTy.packing .fp8e4m3)) ∧
  (∀ (k0_h16 : k0_cond16 v260 k0_t4 = 1#1), ∀ a, (k0_off129 v338) a + S1x1024x1536.size a ≤ S32x7168x1536.size a) ∧
  (∀ (k0_h16 : k0_cond16 v260 k0_t4 = 1#1), ∀ (hinb : ∀ a, (k0_off129 v338) a + S1x1024x1536.size a ≤ S32x7168x1536.size a), (Rect.unit (s := S32x7168x1536) (k0_off129 v338) S1x1024x1536.size hinb).WholeWords (EltTy.packing .fp8e4m3)) ∧
  (∀ (k0_h17 : k0_cond17 v260 k0_t4 = 1#1), ∀ a, (k0_off135 v338) a + S1x1024x1536.size a ≤ S32x7168x1536.size a) ∧
  (∀ (k0_h17 : k0_cond17 v260 k0_t4 = 1#1), ∀ (hinb : ∀ a, (k0_off135 v338) a + S1x1024x1536.size a ≤ S32x7168x1536.size a), (Rect.unit (s := S32x7168x1536) (k0_off135 v338) S1x1024x1536.size hinb).WholeWords (EltTy.packing .fp8e4m3)) ∧
  (∀ (k0_h18 : k0_cond18 v260 k0_t4 = 1#1), ∀ a, (k0_off141 v338) a + S1x1024x1536.size a ≤ S32x7168x1536.size a) ∧
  (∀ (k0_h18 : k0_cond18 v260 k0_t4 = 1#1), ∀ (hinb : ∀ a, (k0_off141 v338) a + S1x1024x1536.size a ≤ S32x7168x1536.size a), (Rect.unit (s := S32x7168x1536) (k0_off141 v338) S1x1024x1536.size hinb).WholeWords (EltTy.packing .fp8e4m3)) ∧
  (∀ (k0_h19 : k0_cond19 v260 k0_t4 = 1#1), ∀ a, (k0_off147 v338) a + S1x1024x1536.size a ≤ S32x7168x1536.size a) ∧
  (∀ (k0_h19 : k0_cond19 v260 k0_t4 = 1#1), ∀ (hinb : ∀ a, (k0_off147 v338) a + S1x1024x1536.size a ≤ S32x7168x1536.size a), (Rect.unit (s := S32x7168x1536) (k0_off147 v338) S1x1024x1536.size hinb).WholeWords (EltTy.packing .fp8e4m3)) ∧
  (∀ (k0_h20 : k0_cond20 v260 k0_t4 = 1#1), ∀ a, (k0_off153 v338) a + S1x1024x1536.size a ≤ S32x7168x1536.size a) ∧
  (∀ (k0_h20 : k0_cond20 v260 k0_t4 = 1#1), ∀ (hinb : ∀ a, (k0_off153 v338) a + S1x1024x1536.size a ≤ S32x7168x1536.size a), (Rect.unit (s := S32x7168x1536) (k0_off153 v338) S1x1024x1536.size hinb).WholeWords (EltTy.packing .fp8e4m3)) ∧
  (∀ (k0_h21 : k0_cond21 v260 k0_t4 = 1#1), ∀ a, (k0_off159 v338) a + S1x1024x1536.size a ≤ S32x7168x1536.size a) ∧
  (∀ (k0_h21 : k0_cond21 v260 k0_t4 = 1#1), ∀ (hinb : ∀ a, (k0_off159 v338) a + S1x1024x1536.size a ≤ S32x7168x1536.size a), (Rect.unit (s := S32x7168x1536) (k0_off159 v338) S1x1024x1536.size hinb).WholeWords (EltTy.packing .fp8e4m3)) ∧
  (∀ (k0_h22 : k0_cond22 v260 k0_t4 = 1#1), ∀ a, (k0_off170 v338) a + S1x768x1024.size a ≤ S32x768x7168.size a) ∧
  (∀ (k0_h22 : k0_cond22 v260 k0_t4 = 1#1), ∀ (hinb : ∀ a, (k0_off170 v338) a + S1x768x1024.size a ≤ S32x768x7168.size a), (Rect.unit (s := S32x768x7168) (k0_off170 v338) S1x768x1024.size hinb).WholeWords (EltTy.packing .fp8e4m3)) ∧
  (∀ (k0_h23 : k0_cond23 v260 k0_t4 = 1#1), ∀ a, (k0_off177 v338) a + S1x768x1024.size a ≤ S32x768x7168.size a) ∧
  (∀ (k0_h23 : k0_cond23 v260 k0_t4 = 1#1), ∀ (hinb : ∀ a, (k0_off177 v338) a + S1x768x1024.size a ≤ S32x768x7168.size a), (Rect.unit (s := S32x768x7168) (k0_off177 v338) S1x768x1024.size hinb).WholeWords (EltTy.packing .fp8e4m3)) ∧
  (∀ (k0_h24 : k0_cond24 v260 k0_t4 = 1#1), ∀ a, (k0_off184 v338) a + S1x768x1024.size a ≤ S32x768x7168.size a) ∧
  (∀ (k0_h24 : k0_cond24 v260 k0_t4 = 1#1), ∀ (hinb : ∀ a, (k0_off184 v338) a + S1x768x1024.size a ≤ S32x768x7168.size a), (Rect.unit (s := S32x768x7168) (k0_off184 v338) S1x768x1024.size hinb).WholeWords (EltTy.packing .fp8e4m3)) ∧
  (∀ (k0_h25 : k0_cond25 v260 k0_t4 = 1#1), ∀ a, (k0_off191 v338) a + S1x768x1024.size a ≤ S32x768x7168.size a) ∧
  (∀ (k0_h25 : k0_cond25 v260 k0_t4 = 1#1), ∀ (hinb : ∀ a, (k0_off191 v338) a + S1x768x1024.size a ≤ S32x768x7168.size a), (Rect.unit (s := S32x768x7168) (k0_off191 v338) S1x768x1024.size hinb).WholeWords (EltTy.packing .fp8e4m3)) ∧
  (∀ (k0_h26 : k0_cond26 v260 k0_t4 = 1#1), ∀ a, (k0_off198 v338) a + S1x768x1024.size a ≤ S32x768x7168.size a) ∧
  (∀ (k0_h26 : k0_cond26 v260 k0_t4 = 1#1), ∀ (hinb : ∀ a, (k0_off198 v338) a + S1x768x1024.size a ≤ S32x768x7168.size a), (Rect.unit (s := S32x768x7168) (k0_off198 v338) S1x768x1024.size hinb).WholeWords (EltTy.packing .fp8e4m3)) ∧
  (∀ (k0_h27 : k0_cond27 v260 k0_t4 = 1#1), ∀ a, (k0_off205 v338) a + S1x768x1024.size a ≤ S32x768x7168.size a) ∧
  (∀ (k0_h27 : k0_cond27 v260 k0_t4 = 1#1), ∀ (hinb : ∀ a, (k0_off205 v338) a + S1x768x1024.size a ≤ S32x768x7168.size a), (Rect.unit (s := S32x768x7168) (k0_off205 v338) S1x768x1024.size hinb).WholeWords (EltTy.packing .fp8e4m3)) ∧
  (∀ (k0_h28 : k0_cond28 v260 k0_t4 = 1#1), ∀ a, (k0_off212 v338) a + S1x768x1024.size a ≤ S32x768x7168.size a) ∧
  (∀ (k0_h28 : k0_cond28 v260 k0_t4 = 1#1), ∀ (hinb : ∀ a, (k0_off212 v338) a + S1x768x1024.size a ≤ S32x768x7168.size a), (Rect.unit (s := S32x768x7168) (k0_off212 v338) S1x768x1024.size hinb).WholeWords (EltTy.packing .fp8e4m3))
theorem k0_off123_inb : ∀ (v260 : BitVec 32) (k0_t4 : Fin (k0_t4_loop v260).trips) (v338 : BitVec 32) (k0_hw13 : k0_chk13 v260 k0_t4 v338), ∀ (k0_h15 : k0_cond15 v260 k0_t4 = 1#1), ∀ a, (k0_off123 v338) a + S1x1024x1536.size a ≤ S32x7168x1536.size a := fun v260 k0_t4 v338 k0_hw13 k0_h15 => k0_hw13.1 k0_h15
theorem k0_off123_wordsfp8e4m3 : ∀ (v260 : BitVec 32) (k0_t4 : Fin (k0_t4_loop v260).trips) (v338 : BitVec 32) (k0_hw13 : k0_chk13 v260 k0_t4 v338), ∀ (k0_h15 : k0_cond15 v260 k0_t4 = 1#1), (Rect.unit (s := S32x7168x1536) (k0_off123 v338) S1x1024x1536.size (k0_off123_inb v260 k0_t4 v338 k0_hw13 k0_h15)).WholeWords (EltTy.packing .fp8e4m3) := fun v260 k0_t4 v338 k0_hw13 k0_h15 => k0_hw13.2.1 k0_h15 (k0_off123_inb v260 k0_t4 v338 k0_hw13 k0_h15)
theorem k0_off129_inb : ∀ (v260 : BitVec 32) (k0_t4 : Fin (k0_t4_loop v260).trips) (v338 : BitVec 32) (k0_hw13 : k0_chk13 v260 k0_t4 v338), ∀ (k0_h16 : k0_cond16 v260 k0_t4 = 1#1), ∀ a, (k0_off129 v338) a + S1x1024x1536.size a ≤ S32x7168x1536.size a := fun v260 k0_t4 v338 k0_hw13 k0_h16 => k0_hw13.2.2.1 k0_h16
theorem k0_off129_wordsfp8e4m3 : ∀ (v260 : BitVec 32) (k0_t4 : Fin (k0_t4_loop v260).trips) (v338 : BitVec 32) (k0_hw13 : k0_chk13 v260 k0_t4 v338), ∀ (k0_h16 : k0_cond16 v260 k0_t4 = 1#1), (Rect.unit (s := S32x7168x1536) (k0_off129 v338) S1x1024x1536.size (k0_off129_inb v260 k0_t4 v338 k0_hw13 k0_h16)).WholeWords (EltTy.packing .fp8e4m3) := fun v260 k0_t4 v338 k0_hw13 k0_h16 => k0_hw13.2.2.2.1 k0_h16 (k0_off129_inb v260 k0_t4 v338 k0_hw13 k0_h16)
theorem k0_off135_inb : ∀ (v260 : BitVec 32) (k0_t4 : Fin (k0_t4_loop v260).trips) (v338 : BitVec 32) (k0_hw13 : k0_chk13 v260 k0_t4 v338), ∀ (k0_h17 : k0_cond17 v260 k0_t4 = 1#1), ∀ a, (k0_off135 v338) a + S1x1024x1536.size a ≤ S32x7168x1536.size a := fun v260 k0_t4 v338 k0_hw13 k0_h17 => k0_hw13.2.2.2.2.1 k0_h17
theorem k0_off135_wordsfp8e4m3 : ∀ (v260 : BitVec 32) (k0_t4 : Fin (k0_t4_loop v260).trips) (v338 : BitVec 32) (k0_hw13 : k0_chk13 v260 k0_t4 v338), ∀ (k0_h17 : k0_cond17 v260 k0_t4 = 1#1), (Rect.unit (s := S32x7168x1536) (k0_off135 v338) S1x1024x1536.size (k0_off135_inb v260 k0_t4 v338 k0_hw13 k0_h17)).WholeWords (EltTy.packing .fp8e4m3) := fun v260 k0_t4 v338 k0_hw13 k0_h17 => k0_hw13.2.2.2.2.2.1 k0_h17 (k0_off135_inb v260 k0_t4 v338 k0_hw13 k0_h17)
theorem k0_off141_inb : ∀ (v260 : BitVec 32) (k0_t4 : Fin (k0_t4_loop v260).trips) (v338 : BitVec 32) (k0_hw13 : k0_chk13 v260 k0_t4 v338), ∀ (k0_h18 : k0_cond18 v260 k0_t4 = 1#1), ∀ a, (k0_off141 v338) a + S1x1024x1536.size a ≤ S32x7168x1536.size a := fun v260 k0_t4 v338 k0_hw13 k0_h18 => k0_hw13.2.2.2.2.2.2.1 k0_h18
theorem k0_off141_wordsfp8e4m3 : ∀ (v260 : BitVec 32) (k0_t4 : Fin (k0_t4_loop v260).trips) (v338 : BitVec 32) (k0_hw13 : k0_chk13 v260 k0_t4 v338), ∀ (k0_h18 : k0_cond18 v260 k0_t4 = 1#1), (Rect.unit (s := S32x7168x1536) (k0_off141 v338) S1x1024x1536.size (k0_off141_inb v260 k0_t4 v338 k0_hw13 k0_h18)).WholeWords (EltTy.packing .fp8e4m3) := fun v260 k0_t4 v338 k0_hw13 k0_h18 => k0_hw13.2.2.2.2.2.2.2.1 k0_h18 (k0_off141_inb v260 k0_t4 v338 k0_hw13 k0_h18)
theorem k0_off147_inb : ∀ (v260 : BitVec 32) (k0_t4 : Fin (k0_t4_loop v260).trips) (v338 : BitVec 32) (k0_hw13 : k0_chk13 v260 k0_t4 v338), ∀ (k0_h19 : k0_cond19 v260 k0_t4 = 1#1), ∀ a, (k0_off147 v338) a + S1x1024x1536.size a ≤ S32x7168x1536.size a := fun v260 k0_t4 v338 k0_hw13 k0_h19 => k0_hw13.2.2.2.2.2.2.2.2.1 k0_h19
theorem k0_off147_wordsfp8e4m3 : ∀ (v260 : BitVec 32) (k0_t4 : Fin (k0_t4_loop v260).trips) (v338 : BitVec 32) (k0_hw13 : k0_chk13 v260 k0_t4 v338), ∀ (k0_h19 : k0_cond19 v260 k0_t4 = 1#1), (Rect.unit (s := S32x7168x1536) (k0_off147 v338) S1x1024x1536.size (k0_off147_inb v260 k0_t4 v338 k0_hw13 k0_h19)).WholeWords (EltTy.packing .fp8e4m3) := fun v260 k0_t4 v338 k0_hw13 k0_h19 => k0_hw13.2.2.2.2.2.2.2.2.2.1 k0_h19 (k0_off147_inb v260 k0_t4 v338 k0_hw13 k0_h19)
theorem k0_off153_inb : ∀ (v260 : BitVec 32) (k0_t4 : Fin (k0_t4_loop v260).trips) (v338 : BitVec 32) (k0_hw13 : k0_chk13 v260 k0_t4 v338), ∀ (k0_h20 : k0_cond20 v260 k0_t4 = 1#1), ∀ a, (k0_off153 v338) a + S1x1024x1536.size a ≤ S32x7168x1536.size a := fun v260 k0_t4 v338 k0_hw13 k0_h20 => k0_hw13.2.2.2.2.2.2.2.2.2.2.1 k0_h20
theorem k0_off153_wordsfp8e4m3 : ∀ (v260 : BitVec 32) (k0_t4 : Fin (k0_t4_loop v260).trips) (v338 : BitVec 32) (k0_hw13 : k0_chk13 v260 k0_t4 v338), ∀ (k0_h20 : k0_cond20 v260 k0_t4 = 1#1), (Rect.unit (s := S32x7168x1536) (k0_off153 v338) S1x1024x1536.size (k0_off153_inb v260 k0_t4 v338 k0_hw13 k0_h20)).WholeWords (EltTy.packing .fp8e4m3) := fun v260 k0_t4 v338 k0_hw13 k0_h20 => k0_hw13.2.2.2.2.2.2.2.2.2.2.2.1 k0_h20 (k0_off153_inb v260 k0_t4 v338 k0_hw13 k0_h20)
theorem k0_off159_inb : ∀ (v260 : BitVec 32) (k0_t4 : Fin (k0_t4_loop v260).trips) (v338 : BitVec 32) (k0_hw13 : k0_chk13 v260 k0_t4 v338), ∀ (k0_h21 : k0_cond21 v260 k0_t4 = 1#1), ∀ a, (k0_off159 v338) a + S1x1024x1536.size a ≤ S32x7168x1536.size a := fun v260 k0_t4 v338 k0_hw13 k0_h21 => k0_hw13.2.2.2.2.2.2.2.2.2.2.2.2.1 k0_h21
theorem k0_off159_wordsfp8e4m3 : ∀ (v260 : BitVec 32) (k0_t4 : Fin (k0_t4_loop v260).trips) (v338 : BitVec 32) (k0_hw13 : k0_chk13 v260 k0_t4 v338), ∀ (k0_h21 : k0_cond21 v260 k0_t4 = 1#1), (Rect.unit (s := S32x7168x1536) (k0_off159 v338) S1x1024x1536.size (k0_off159_inb v260 k0_t4 v338 k0_hw13 k0_h21)).WholeWords (EltTy.packing .fp8e4m3) := fun v260 k0_t4 v338 k0_hw13 k0_h21 => k0_hw13.2.2.2.2.2.2.2.2.2.2.2.2.2.1 k0_h21 (k0_off159_inb v260 k0_t4 v338 k0_hw13 k0_h21)
theorem k0_off170_inb : ∀ (v260 : BitVec 32) (k0_t4 : Fin (k0_t4_loop v260).trips) (v338 : BitVec 32) (k0_hw13 : k0_chk13 v260 k0_t4 v338), ∀ (k0_h22 : k0_cond22 v260 k0_t4 = 1#1), ∀ a, (k0_off170 v338) a + S1x768x1024.size a ≤ S32x768x7168.size a := fun v260 k0_t4 v338 k0_hw13 k0_h22 => k0_hw13.2.2.2.2.2.2.2.2.2.2.2.2.2.2.1 k0_h22
theorem k0_off170_wordsfp8e4m3 : ∀ (v260 : BitVec 32) (k0_t4 : Fin (k0_t4_loop v260).trips) (v338 : BitVec 32) (k0_hw13 : k0_chk13 v260 k0_t4 v338), ∀ (k0_h22 : k0_cond22 v260 k0_t4 = 1#1), (Rect.unit (s := S32x768x7168) (k0_off170 v338) S1x768x1024.size (k0_off170_inb v260 k0_t4 v338 k0_hw13 k0_h22)).WholeWords (EltTy.packing .fp8e4m3) := fun v260 k0_t4 v338 k0_hw13 k0_h22 => k0_hw13.2.2.2.2.2.2.2.2.2.2.2.2.2.2.2.1 k0_h22 (k0_off170_inb v260 k0_t4 v338 k0_hw13 k0_h22)
theorem k0_off177_inb : ∀ (v260 : BitVec 32) (k0_t4 : Fin (k0_t4_loop v260).trips) (v338 : BitVec 32) (k0_hw13 : k0_chk13 v260 k0_t4 v338), ∀ (k0_h23 : k0_cond23 v260 k0_t4 = 1#1), ∀ a, (k0_off177 v338) a + S1x768x1024.size a ≤ S32x768x7168.size a := fun v260 k0_t4 v338 k0_hw13 k0_h23 => k0_hw13.2.2.2.2.2.2.2.2.2.2.2.2.2.2.2.2.1 k0_h23
theorem k0_off177_wordsfp8e4m3 : ∀ (v260 : BitVec 32) (k0_t4 : Fin (k0_t4_loop v260).trips) (v338 : BitVec 32) (k0_hw13 : k0_chk13 v260 k0_t4 v338), ∀ (k0_h23 : k0_cond23 v260 k0_t4 = 1#1), (Rect.unit (s := S32x768x7168) (k0_off177 v338) S1x768x1024.size (k0_off177_inb v260 k0_t4 v338 k0_hw13 k0_h23)).WholeWords (EltTy.packing .fp8e4m3) := fun v260 k0_t4 v338 k0_hw13 k0_h23 => k0_hw13.2.2.2.2.2.2.2.2.2.2.2.2.2.2.2.2.2.1 k0_h23 (k0_off177_inb v260 k0_t4 v338 k0_hw13 k0_h23)
theorem k0_off184_inb : ∀ (v260 : BitVec 32) (k0_t4 : Fin (k0_t4_loop v260).trips) (v338 : BitVec 32) (k0_hw13 : k0_chk13 v260 k0_t4 v338), ∀ (k0_h24 : k0_cond24 v260 k0_t4 = 1#1), ∀ a, (k0_off184 v338) a + S1x768x1024.size a ≤ S32x768x7168.size a := fun v260 k0_t4 v338 k0_hw13 k0_h24 => k0_hw13.2.2.2.2.2.2.2.2.2.2.2.2.2.2.2.2.2.2.1 k0_h24
theorem k0_off184_wordsfp8e4m3 : ∀ (v260 : BitVec 32) (k0_t4 : Fin (k0_t4_loop v260).trips) (v338 : BitVec 32) (k0_hw13 : k0_chk13 v260 k0_t4 v338), ∀ (k0_h24 : k0_cond24 v260 k0_t4 = 1#1), (Rect.unit (s := S32x768x7168) (k0_off184 v338) S1x768x1024.size (k0_off184_inb v260 k0_t4 v338 k0_hw13 k0_h24)).WholeWords (EltTy.packing .fp8e4m3) := fun v260 k0_t4 v338 k0_hw13 k0_h24 => k0_hw13.2.2.2.2.2.2.2.2.2.2.2.2.2.2.2.2.2.2.2.1 k0_h24 (k0_off184_inb v260 k0_t4 v338 k0_hw13 k0_h24)
theorem k0_off191_inb : ∀ (v260 : BitVec 32) (k0_t4 : Fin (k0_t4_loop v260).trips) (v338 : BitVec 32) (k0_hw13 : k0_chk13 v260 k0_t4 v338), ∀ (k0_h25 : k0_cond25 v260 k0_t4 = 1#1), ∀ a, (k0_off191 v338) a + S1x768x1024.size a ≤ S32x768x7168.size a := fun v260 k0_t4 v338 k0_hw13 k0_h25 => k0_hw13.2.2.2.2.2.2.2.2.2.2.2.2.2.2.2.2.2.2.2.2.1 k0_h25
theorem k0_off191_wordsfp8e4m3 : ∀ (v260 : BitVec 32) (k0_t4 : Fin (k0_t4_loop v260).trips) (v338 : BitVec 32) (k0_hw13 : k0_chk13 v260 k0_t4 v338), ∀ (k0_h25 : k0_cond25 v260 k0_t4 = 1#1), (Rect.unit (s := S32x768x7168) (k0_off191 v338) S1x768x1024.size (k0_off191_inb v260 k0_t4 v338 k0_hw13 k0_h25)).WholeWords (EltTy.packing .fp8e4m3) := fun v260 k0_t4 v338 k0_hw13 k0_h25 => k0_hw13.2.2.2.2.2.2.2.2.2.2.2.2.2.2.2.2.2.2.2.2.2.1 k0_h25 (k0_off191_inb v260 k0_t4 v338 k0_hw13 k0_h25)
theorem k0_off198_inb : ∀ (v260 : BitVec 32) (k0_t4 : Fin (k0_t4_loop v260).trips) (v338 : BitVec 32) (k0_hw13 : k0_chk13 v260 k0_t4 v338), ∀ (k0_h26 : k0_cond26 v260 k0_t4 = 1#1), ∀ a, (k0_off198 v338) a + S1x768x1024.size a ≤ S32x768x7168.size a := fun v260 k0_t4 v338 k0_hw13 k0_h26 => k0_hw13.2.2.2.2.2.2.2.2.2.2.2.2.2.2.2.2.2.2.2.2.2.2.1 k0_h26
theorem k0_off198_wordsfp8e4m3 : ∀ (v260 : BitVec 32) (k0_t4 : Fin (k0_t4_loop v260).trips) (v338 : BitVec 32) (k0_hw13 : k0_chk13 v260 k0_t4 v338), ∀ (k0_h26 : k0_cond26 v260 k0_t4 = 1#1), (Rect.unit (s := S32x768x7168) (k0_off198 v338) S1x768x1024.size (k0_off198_inb v260 k0_t4 v338 k0_hw13 k0_h26)).WholeWords (EltTy.packing .fp8e4m3) := fun v260 k0_t4 v338 k0_hw13 k0_h26 => k0_hw13.2.2.2.2.2.2.2.2.2.2.2.2.2.2.2.2.2.2.2.2.2.2.2.1 k0_h26 (k0_off198_inb v260 k0_t4 v338 k0_hw13 k0_h26)
theorem k0_off205_inb : ∀ (v260 : BitVec 32) (k0_t4 : Fin (k0_t4_loop v260).trips) (v338 : BitVec 32) (k0_hw13 : k0_chk13 v260 k0_t4 v338), ∀ (k0_h27 : k0_cond27 v260 k0_t4 = 1#1), ∀ a, (k0_off205 v338) a + S1x768x1024.size a ≤ S32x768x7168.size a := fun v260 k0_t4 v338 k0_hw13 k0_h27 => k0_hw13.2.2.2.2.2.2.2.2.2.2.2.2.2.2.2.2.2.2.2.2.2.2.2.2.1 k0_h27
theorem k0_off205_wordsfp8e4m3 : ∀ (v260 : BitVec 32) (k0_t4 : Fin (k0_t4_loop v260).trips) (v338 : BitVec 32) (k0_hw13 : k0_chk13 v260 k0_t4 v338), ∀ (k0_h27 : k0_cond27 v260 k0_t4 = 1#1), (Rect.unit (s := S32x768x7168) (k0_off205 v338) S1x768x1024.size (k0_off205_inb v260 k0_t4 v338 k0_hw13 k0_h27)).WholeWords (EltTy.packing .fp8e4m3) := fun v260 k0_t4 v338 k0_hw13 k0_h27 => k0_hw13.2.2.2.2.2.2.2.2.2.2.2.2.2.2.2.2.2.2.2.2.2.2.2.2.2.1 k0_h27 (k0_off205_inb v260 k0_t4 v338 k0_hw13 k0_h27)
theorem k0_off212_inb : ∀ (v260 : BitVec 32) (k0_t4 : Fin (k0_t4_loop v260).trips) (v338 : BitVec 32) (k0_hw13 : k0_chk13 v260 k0_t4 v338), ∀ (k0_h28 : k0_cond28 v260 k0_t4 = 1#1), ∀ a, (k0_off212 v338) a + S1x768x1024.size a ≤ S32x768x7168.size a := fun v260 k0_t4 v338 k0_hw13 k0_h28 => k0_hw13.2.2.2.2.2.2.2.2.2.2.2.2.2.2.2.2.2.2.2.2.2.2.2.2.2.2.1 k0_h28
theorem k0_off212_wordsfp8e4m3 : ∀ (v260 : BitVec 32) (k0_t4 : Fin (k0_t4_loop v260).trips) (v338 : BitVec 32) (k0_hw13 : k0_chk13 v260 k0_t4 v338), ∀ (k0_h28 : k0_cond28 v260 k0_t4 = 1#1), (Rect.unit (s := S32x768x7168) (k0_off212 v338) S1x768x1024.size (k0_off212_inb v260 k0_t4 v338 k0_hw13 k0_h28)).WholeWords (EltTy.packing .fp8e4m3) := fun v260 k0_t4 v338 k0_hw13 k0_h28 => k0_hw13.2.2.2.2.2.2.2.2.2.2.2.2.2.2.2.2.2.2.2.2.2.2.2.2.2.2.2 k0_h28 (k0_off212_inb v260 k0_t4 v338 k0_hw13 k0_h28)

def k0_chk10_0 (v260 : BitVec 32) : Prop :=
  ((k0_t3_loop v260).OK) ∧
  (∀ k0_t3 : Fin (k0_t3_loop v260).trips, ∀ a, (k0_off19 v260 k0_t3) a + S1.size a ≤ S32.size a) ∧
  (∀ k0_t3 : Fin (k0_t3_loop v260).trips, ∀ a, (k0_off20 v260 k0_t3) a + S1.size a ≤ S32.size a) ∧
  (∀ k0_t3 : Fin (k0_t3_loop v260).trips, ∀ a, (k0_off21 v260 k0_t3) a + S1x1.size a ≤ S2x7.size a) ∧
  (∀ k0_t3 : Fin (k0_t3_loop v260).trips, ∀ a, (k0_off22 v260 k0_t3) a + S1x1024x1536.size a ≤ S2x7168x1536.size a) ∧
  (∀ k0_t3 : Fin (k0_t3_loop v260).trips, ∀ (hinb : ∀ a, (k0_off22 v260 k0_t3) a + S1x1024x1536.size a ≤ S2x7168x1536.size a), (Rect.unit (s := S2x7168x1536) (k0_off22 v260 k0_t3) S1x1024x1536.size hinb).WholeWords (EltTy.packing .fp8e4m3)) ∧
  (∀ k0_t3 : Fin (k0_t3_loop v260).trips, ∀ a, (k0_off23 v260 k0_t3) a + S1x1024x1536.size a ≤ S2x7168x1536.size a) ∧
  (∀ k0_t3 : Fin (k0_t3_loop v260).trips, ∀ (k0_h1 : k0_cond1 v260 k0_t3 = 1#1), ∀ a, (k0_off24 v260 k0_t3) a + S1x1.size a ≤ S2x7.size a) ∧
  (∀ k0_t3 : Fin (k0_t3_loop v260).trips, ∀ (k0_h1 : k0_cond1 v260 k0_t3 = 1#1), ∀ a, (k0_off25 v260 k0_t3) a + S1x1024x1536.size a ≤ S2x7168x1536.size a) ∧
  (∀ k0_t3 : Fin (k0_t3_loop v260).trips, ∀ (k0_h1 : k0_cond1 v260 k0_t3 = 1#1), ∀ (hinb : ∀ a, (k0_off25 v260 k0_t3) a + S1x1024x1536.size a ≤ S2x7168x1536.size a), (Rect.unit (s := S2x7168x1536) (k0_off25 v260 k0_t3) S1x1024x1536.size hinb).WholeWords (EltTy.packing .fp8e4m3)) ∧
  (∀ k0_t3 : Fin (k0_t3_loop v260).trips, ∀ a, (k0_off27 v260 k0_t3) a + S1x1.size a ≤ S2x7.size a) ∧
  (∀ k0_t3 : Fin (k0_t3_loop v260).trips, ∀ a, (k0_off28 v260 k0_t3) a + S1x1024x1536.size a ≤ S2x7168x1536.size a) ∧
  (∀ k0_t3 : Fin (k0_t3_loop v260).trips, ∀ (hinb : ∀ a, (k0_off28 v260 k0_t3) a + S1x1024x1536.size a ≤ S2x7168x1536.size a), (Rect.unit (s := S2x7168x1536) (k0_off28 v260 k0_t3) S1x1024x1536.size hinb).WholeWords (EltTy.packing .fp8e4m3)) ∧
  (∀ k0_t3 : Fin (k0_t3_loop v260).trips, ∀ a, (k0_off29 v260 k0_t3) a + S1x1024x1536.size a ≤ S2x7168x1536.size a) ∧
  (∀ k0_t3 : Fin (k0_t3_loop v260).trips, ∀ (k0_h2 : k0_cond2 v260 k0_t3 = 1#1), ∀ a, (k0_off30 v260 k0_t3) a + S1x1.size a ≤ S2x7.size a) ∧
  (∀ k0_t3 : Fin (k0_t3_loop v260).trips, ∀ (k0_h2 : k0_cond2 v260 k0_t3 = 1#1), ∀ a, (k0_off31 v260 k0_t3) a + S1x1024x1536.size a ≤ S2x7168x1536.size a) ∧
  (∀ k0_t3 : Fin (k0_t3_loop v260).trips, ∀ (k0_h2 : k0_cond2 v260 k0_t3 = 1#1), ∀ (hinb : ∀ a, (k0_off31 v260 k0_t3) a + S1x1024x1536.size a ≤ S2x7168x1536.size a), (Rect.unit (s := S2x7168x1536) (k0_off31 v260 k0_t3) S1x1024x1536.size hinb).WholeWords (EltTy.packing .fp8e4m3)) ∧
  (∀ k0_t3 : Fin (k0_t3_loop v260).trips, ∀ a, (k0_off33 v260 k0_t3) a + S1x1.size a ≤ S2x7.size a) ∧
  (∀ k0_t3 : Fin (k0_t3_loop v260).trips, ∀ a, (k0_off34 v260 k0_t3) a + S1x1024x1536.size a ≤ S2x7168x1536.size a) ∧
  (∀ k0_t3 : Fin (k0_t3_loop v260).trips, ∀ (hinb : ∀ a, (k0_off34 v260 k0_t3) a + S1x1024x1536.size a ≤ S2x7168x1536.size a), (Rect.unit (s := S2x7168x1536) (k0_off34 v260 k0_t3) S1x1024x1536.size hinb).WholeWords (EltTy.packing .fp8e4m3)) ∧
  (∀ k0_t3 : Fin (k0_t3_loop v260).trips, ∀ a, (k0_off35 v260 k0_t3) a + S1x1024x1536.size a ≤ S2x7168x1536.size a) ∧
  (∀ k0_t3 : Fin (k0_t3_loop v260).trips, ∀ (k0_h3 : k0_cond3 v260 k0_t3 = 1#1), ∀ a, (k0_off36 v260 k0_t3) a + S1x1.size a ≤ S2x7.size a) ∧
  (∀ k0_t3 : Fin (k0_t3_loop v260).trips, ∀ (k0_h3 : k0_cond3 v260 k0_t3 = 1#1), ∀ a, (k0_off37 v260 k0_t3) a + S1x1024x1536.size a ≤ S2x7168x1536.size a) ∧
  (∀ k0_t3 : Fin (k0_t3_loop v260).trips, ∀ (k0_h3 : k0_cond3 v260 k0_t3 = 1#1), ∀ (hinb : ∀ a, (k0_off37 v260 k0_t3) a + S1x1024x1536.size a ≤ S2x7168x1536.size a), (Rect.unit (s := S2x7168x1536) (k0_off37 v260 k0_t3) S1x1024x1536.size hinb).WholeWords (EltTy.packing .fp8e4m3)) ∧
  (∀ k0_t3 : Fin (k0_t3_loop v260).trips, ∀ a, (k0_off39 v260 k0_t3) a + S1x1.size a ≤ S2x7.size a) ∧
  (∀ k0_t3 : Fin (k0_t3_loop v260).trips, ∀ a, (k0_off40 v260 k0_t3) a + S1x1024x1536.size a ≤ S2x7168x1536.size a) ∧
  (∀ k0_t3 : Fin (k0_t3_loop v260).trips, ∀ (hinb : ∀ a, (k0_off40 v260 k0_t3) a + S1x1024x1536.size a ≤ S2x7168x1536.size a), (Rect.unit (s := S2x7168x1536) (k0_off40 v260 k0_t3) S1x1024x1536.size hinb).WholeWords (EltTy.packing .fp8e4m3)) ∧
  (∀ k0_t3 : Fin (k0_t3_loop v260).trips, ∀ a, (k0_off41 v260 k0_t3) a + S1x1024x1536.size a ≤ S2x7168x1536.size a) ∧
  (∀ k0_t3 : Fin (k0_t3_loop v260).trips, ∀ (k0_h4 : k0_cond4 v260 k0_t3 = 1#1), ∀ a, (k0_off42 v260 k0_t3) a + S1x1.size a ≤ S2x7.size a) ∧
  (∀ k0_t3 : Fin (k0_t3_loop v260).trips, ∀ (k0_h4 : k0_cond4 v260 k0_t3 = 1#1), ∀ a, (k0_off43 v260 k0_t3) a + S1x1024x1536.size a ≤ S2x7168x1536.size a) ∧
  (∀ k0_t3 : Fin (k0_t3_loop v260).trips, ∀ (k0_h4 : k0_cond4 v260 k0_t3 = 1#1), ∀ (hinb : ∀ a, (k0_off43 v260 k0_t3) a + S1x1024x1536.size a ≤ S2x7168x1536.size a), (Rect.unit (s := S2x7168x1536) (k0_off43 v260 k0_t3) S1x1024x1536.size hinb).WholeWords (EltTy.packing .fp8e4m3)) ∧
  (∀ k0_t3 : Fin (k0_t3_loop v260).trips, ∀ a, (k0_off45 v260 k0_t3) a + S1x1.size a ≤ S2x7.size a)
def k0_chk10_1 (v260 : BitVec 32) : Prop :=
  (∀ k0_t3 : Fin (k0_t3_loop v260).trips, ∀ a, (k0_off46 v260 k0_t3) a + S1x1024x1536.size a ≤ S2x7168x1536.size a) ∧
  (∀ k0_t3 : Fin (k0_t3_loop v260).trips, ∀ (hinb : ∀ a, (k0_off46 v260 k0_t3) a + S1x1024x1536.size a ≤ S2x7168x1536.size a), (Rect.unit (s := S2x7168x1536) (k0_off46 v260 k0_t3) S1x1024x1536.size hinb).WholeWords (EltTy.packing .fp8e4m3)) ∧
  (∀ k0_t3 : Fin (k0_t3_loop v260).trips, ∀ a, (k0_off47 v260 k0_t3) a + S1x1024x1536.size a ≤ S2x7168x1536.size a) ∧
  (∀ k0_t3 : Fin (k0_t3_loop v260).trips, ∀ (k0_h5 : k0_cond5 v260 k0_t3 = 1#1), ∀ a, (k0_off48 v260 k0_t3) a + S1x1.size a ≤ S2x7.size a) ∧
  (∀ k0_t3 : Fin (k0_t3_loop v260).trips, ∀ (k0_h5 : k0_cond5 v260 k0_t3 = 1#1), ∀ a, (k0_off49 v260 k0_t3) a + S1x1024x1536.size a ≤ S2x7168x1536.size a) ∧
  (∀ k0_t3 : Fin (k0_t3_loop v260).trips, ∀ (k0_h5 : k0_cond5 v260 k0_t3 = 1#1), ∀ (hinb : ∀ a, (k0_off49 v260 k0_t3) a + S1x1024x1536.size a ≤ S2x7168x1536.size a), (Rect.unit (s := S2x7168x1536) (k0_off49 v260 k0_t3) S1x1024x1536.size hinb).WholeWords (EltTy.packing .fp8e4m3)) ∧
  (∀ k0_t3 : Fin (k0_t3_loop v260).trips, ∀ a, (k0_off51 v260 k0_t3) a + S1x1.size a ≤ S2x7.size a) ∧
  (∀ k0_t3 : Fin (k0_t3_loop v260).trips, ∀ a, (k0_off52 v260 k0_t3) a + S1x1024x1536.size a ≤ S2x7168x1536.size a) ∧
  (∀ k0_t3 : Fin (k0_t3_loop v260).trips, ∀ (hinb : ∀ a, (k0_off52 v260 k0_t3) a + S1x1024x1536.size a ≤ S2x7168x1536.size a), (Rect.unit (s := S2x7168x1536) (k0_off52 v260 k0_t3) S1x1024x1536.size hinb).WholeWords (EltTy.packing .fp8e4m3)) ∧
  (∀ k0_t3 : Fin (k0_t3_loop v260).trips, ∀ a, (k0_off53 v260 k0_t3) a + S1x1024x1536.size a ≤ S2x7168x1536.size a) ∧
  (∀ k0_t3 : Fin (k0_t3_loop v260).trips, ∀ (k0_h6 : k0_cond6 v260 k0_t3 = 1#1), ∀ a, (k0_off54 v260 k0_t3) a + S1x1.size a ≤ S2x7.size a) ∧
  (∀ k0_t3 : Fin (k0_t3_loop v260).trips, ∀ (k0_h6 : k0_cond6 v260 k0_t3 = 1#1), ∀ a, (k0_off55 v260 k0_t3) a + S1x1024x1536.size a ≤ S2x7168x1536.size a) ∧
  (∀ k0_t3 : Fin (k0_t3_loop v260).trips, ∀ (k0_h6 : k0_cond6 v260 k0_t3 = 1#1), ∀ (hinb : ∀ a, (k0_off55 v260 k0_t3) a + S1x1024x1536.size a ≤ S2x7168x1536.size a), (Rect.unit (s := S2x7168x1536) (k0_off55 v260 k0_t3) S1x1024x1536.size hinb).WholeWords (EltTy.packing .fp8e4m3)) ∧
  (∀ k0_t3 : Fin (k0_t3_loop v260).trips, ∀ a, (k0_off57 v260 k0_t3) a + S1x1.size a ≤ S2x7.size a) ∧
  (∀ k0_t3 : Fin (k0_t3_loop v260).trips, ∀ a, (k0_off58 v260 k0_t3) a + S1x1024x1536.size a ≤ S2x7168x1536.size a) ∧
  (∀ k0_t3 : Fin (k0_t3_loop v260).trips, ∀ (hinb : ∀ a, (k0_off58 v260 k0_t3) a + S1x1024x1536.size a ≤ S2x7168x1536.size a), (Rect.unit (s := S2x7168x1536) (k0_off58 v260 k0_t3) S1x1024x1536.size hinb).WholeWords (EltTy.packing .fp8e4m3)) ∧
  (∀ k0_t3 : Fin (k0_t3_loop v260).trips, ∀ a, (k0_off59 v260 k0_t3) a + S1x1024x1536.size a ≤ S2x7168x1536.size a) ∧
  (∀ k0_t3 : Fin (k0_t3_loop v260).trips, ∀ (k0_h7 : k0_cond7 v260 k0_t3 = 1#1), ∀ a, (k0_off60 v260 k0_t3) a + S1x1.size a ≤ S2x7.size a) ∧
  (∀ k0_t3 : Fin (k0_t3_loop v260).trips, ∀ (k0_h7 : k0_cond7 v260 k0_t3 = 1#1), ∀ a, (k0_off61 v260 k0_t3) a + S1x1024x1536.size a ≤ S2x7168x1536.size a) ∧
  (∀ k0_t3 : Fin (k0_t3_loop v260).trips, ∀ (k0_h7 : k0_cond7 v260 k0_t3 = 1#1), ∀ (hinb : ∀ a, (k0_off61 v260 k0_t3) a + S1x1024x1536.size a ≤ S2x7168x1536.size a), (Rect.unit (s := S2x7168x1536) (k0_off61 v260 k0_t3) S1x1024x1536.size hinb).WholeWords (EltTy.packing .fp8e4m3)) ∧
  (∀ k0_t3 : Fin (k0_t3_loop v260).trips, 768 ∣ (k0_mult1 v260 k0_t3).toNat) ∧
  (∀ k0_t3 : Fin (k0_t3_loop v260).trips, ∀ a, (k0_off63 v260 k0_t3) a + S1x768.size a ≤ S1x3072.size a) ∧
  (∀ k0_t3 : Fin (k0_t3_loop v260).trips, ∀ a, (k0_off65 v260 k0_t3) a + S1x768.size a ≤ S1x3072.size a) ∧
  (∀ k0_t3 : Fin (k0_t3_loop v260).trips, ∀ a, (k0_off67 v260 k0_t3) a + S1x1.size a ≤ S2x7.size a) ∧
  (∀ k0_t3 : Fin (k0_t3_loop v260).trips, ∀ a, (k0_off68 v260 k0_t3) a + S1x768x1024.size a ≤ S2x768x7168.size a) ∧
  (∀ k0_t3 : Fin (k0_t3_loop v260).trips, ∀ (hinb : ∀ a, (k0_off68 v260 k0_t3) a + S1x768x1024.size a ≤ S2x768x7168.size a), (Rect.unit (s := S2x768x7168) (k0_off68 v260 k0_t3) S1x768x1024.size hinb).WholeWords (EltTy.packing .fp8e4m3)) ∧
  (∀ k0_t3 : Fin (k0_t3_loop v260).trips, ∀ a, (k0_off69 v260 k0_t3) a + S1x768x1024.size a ≤ S2x768x7168.size a) ∧
  (∀ k0_t3 : Fin (k0_t3_loop v260).trips, ∀ (k0_h8 : k0_cond8 v260 k0_t3 = 1#1), ∀ a, (k0_off71 v260 k0_t3) a + S1x1.size a ≤ S2x7.size a) ∧
  (∀ k0_t3 : Fin (k0_t3_loop v260).trips, ∀ (k0_h8 : k0_cond8 v260 k0_t3 = 1#1), ∀ a, (k0_off72 v260 k0_t3) a + S1x768x1024.size a ≤ S2x768x7168.size a) ∧
  (∀ k0_t3 : Fin (k0_t3_loop v260).trips, ∀ (k0_h8 : k0_cond8 v260 k0_t3 = 1#1), ∀ (hinb : ∀ a, (k0_off72 v260 k0_t3) a + S1x768x1024.size a ≤ S2x768x7168.size a), (Rect.unit (s := S2x768x7168) (k0_off72 v260 k0_t3) S1x768x1024.size hinb).WholeWords (EltTy.packing .fp8e4m3)) ∧
  (∀ k0_t3 : Fin (k0_t3_loop v260).trips, ∀ a, (k0_off74 v260 k0_t3) a + S1x1.size a ≤ S2x7.size a) ∧
  (∀ k0_t3 : Fin (k0_t3_loop v260).trips, ∀ a, (k0_off75 v260 k0_t3) a + S1x768x1024.size a ≤ S2x768x7168.size a)
def k0_chk10_2 (v260 : BitVec 32) : Prop :=
  (∀ k0_t3 : Fin (k0_t3_loop v260).trips, ∀ (hinb : ∀ a, (k0_off75 v260 k0_t3) a + S1x768x1024.size a ≤ S2x768x7168.size a), (Rect.unit (s := S2x768x7168) (k0_off75 v260 k0_t3) S1x768x1024.size hinb).WholeWords (EltTy.packing .fp8e4m3)) ∧
  (∀ k0_t3 : Fin (k0_t3_loop v260).trips, ∀ a, (k0_off76 v260 k0_t3) a + S1x768x1024.size a ≤ S2x768x7168.size a) ∧
  (∀ k0_t3 : Fin (k0_t3_loop v260).trips, ∀ (k0_h9 : k0_cond9 v260 k0_t3 = 1#1), ∀ a, (k0_off78 v260 k0_t3) a + S1x1.size a ≤ S2x7.size a) ∧
  (∀ k0_t3 : Fin (k0_t3_loop v260).trips, ∀ (k0_h9 : k0_cond9 v260 k0_t3 = 1#1), ∀ a, (k0_off79 v260 k0_t3) a + S1x768x1024.size a ≤ S2x768x7168.size a) ∧
  (∀ k0_t3 : Fin (k0_t3_loop v260).trips, ∀ (k0_h9 : k0_cond9 v260 k0_t3 = 1#1), ∀ (hinb : ∀ a, (k0_off79 v260 k0_t3) a + S1x768x1024.size a ≤ S2x768x7168.size a), (Rect.unit (s := S2x768x7168) (k0_off79 v260 k0_t3) S1x768x1024.size hinb).WholeWords (EltTy.packing .fp8e4m3)) ∧
  (∀ k0_t3 : Fin (k0_t3_loop v260).trips, ∀ a, (k0_off81 v260 k0_t3) a + S1x1.size a ≤ S2x7.size a) ∧
  (∀ k0_t3 : Fin (k0_t3_loop v260).trips, ∀ a, (k0_off82 v260 k0_t3) a + S1x768x1024.size a ≤ S2x768x7168.size a) ∧
  (∀ k0_t3 : Fin (k0_t3_loop v260).trips, ∀ (hinb : ∀ a, (k0_off82 v260 k0_t3) a + S1x768x1024.size a ≤ S2x768x7168.size a), (Rect.unit (s := S2x768x7168) (k0_off82 v260 k0_t3) S1x768x1024.size hinb).WholeWords (EltTy.packing .fp8e4m3)) ∧
  (∀ k0_t3 : Fin (k0_t3_loop v260).trips, ∀ a, (k0_off83 v260 k0_t3) a + S1x768x1024.size a ≤ S2x768x7168.size a) ∧
  (∀ k0_t3 : Fin (k0_t3_loop v260).trips, ∀ (k0_h10 : k0_cond10 v260 k0_t3 = 1#1), ∀ a, (k0_off85 v260 k0_t3) a + S1x1.size a ≤ S2x7.size a) ∧
  (∀ k0_t3 : Fin (k0_t3_loop v260).trips, ∀ (k0_h10 : k0_cond10 v260 k0_t3 = 1#1), ∀ a, (k0_off86 v260 k0_t3) a + S1x768x1024.size a ≤ S2x768x7168.size a) ∧
  (∀ k0_t3 : Fin (k0_t3_loop v260).trips, ∀ (k0_h10 : k0_cond10 v260 k0_t3 = 1#1), ∀ (hinb : ∀ a, (k0_off86 v260 k0_t3) a + S1x768x1024.size a ≤ S2x768x7168.size a), (Rect.unit (s := S2x768x7168) (k0_off86 v260 k0_t3) S1x768x1024.size hinb).WholeWords (EltTy.packing .fp8e4m3)) ∧
  (∀ k0_t3 : Fin (k0_t3_loop v260).trips, ∀ a, (k0_off88 v260 k0_t3) a + S1x1.size a ≤ S2x7.size a) ∧
  (∀ k0_t3 : Fin (k0_t3_loop v260).trips, ∀ a, (k0_off89 v260 k0_t3) a + S1x768x1024.size a ≤ S2x768x7168.size a) ∧
  (∀ k0_t3 : Fin (k0_t3_loop v260).trips, ∀ (hinb : ∀ a, (k0_off89 v260 k0_t3) a + S1x768x1024.size a ≤ S2x768x7168.size a), (Rect.unit (s := S2x768x7168) (k0_off89 v260 k0_t3) S1x768x1024.size hinb).WholeWords (EltTy.packing .fp8e4m3)) ∧
  (∀ k0_t3 : Fin (k0_t3_loop v260).trips, ∀ a, (k0_off90 v260 k0_t3) a + S1x768x1024.size a ≤ S2x768x7168.size a) ∧
  (∀ k0_t3 : Fin (k0_t3_loop v260).trips, ∀ (k0_h11 : k0_cond11 v260 k0_t3 = 1#1), ∀ a, (k0_off92 v260 k0_t3) a + S1x1.size a ≤ S2x7.size a) ∧
  (∀ k0_t3 : Fin (k0_t3_loop v260).trips, ∀ (k0_h11 : k0_cond11 v260 k0_t3 = 1#1), ∀ a, (k0_off93 v260 k0_t3) a + S1x768x1024.size a ≤ S2x768x7168.size a) ∧
  (∀ k0_t3 : Fin (k0_t3_loop v260).trips, ∀ (k0_h11 : k0_cond11 v260 k0_t3 = 1#1), ∀ (hinb : ∀ a, (k0_off93 v260 k0_t3) a + S1x768x1024.size a ≤ S2x768x7168.size a), (Rect.unit (s := S2x768x7168) (k0_off93 v260 k0_t3) S1x768x1024.size hinb).WholeWords (EltTy.packing .fp8e4m3)) ∧
  (∀ k0_t3 : Fin (k0_t3_loop v260).trips, ∀ a, (k0_off95 v260 k0_t3) a + S1x1.size a ≤ S2x7.size a) ∧
  (∀ k0_t3 : Fin (k0_t3_loop v260).trips, ∀ a, (k0_off96 v260 k0_t3) a + S1x768x1024.size a ≤ S2x768x7168.size a) ∧
  (∀ k0_t3 : Fin (k0_t3_loop v260).trips, ∀ (hinb : ∀ a, (k0_off96 v260 k0_t3) a + S1x768x1024.size a ≤ S2x768x7168.size a), (Rect.unit (s := S2x768x7168) (k0_off96 v260 k0_t3) S1x768x1024.size hinb).WholeWords (EltTy.packing .fp8e4m3)) ∧
  (∀ k0_t3 : Fin (k0_t3_loop v260).trips, ∀ a, (k0_off97 v260 k0_t3) a + S1x768x1024.size a ≤ S2x768x7168.size a) ∧
  (∀ k0_t3 : Fin (k0_t3_loop v260).trips, ∀ (k0_h12 : k0_cond12 v260 k0_t3 = 1#1), ∀ a, (k0_off99 v260 k0_t3) a + S1x1.size a ≤ S2x7.size a) ∧
  (∀ k0_t3 : Fin (k0_t3_loop v260).trips, ∀ (k0_h12 : k0_cond12 v260 k0_t3 = 1#1), ∀ a, (k0_off100 v260 k0_t3) a + S1x768x1024.size a ≤ S2x768x7168.size a) ∧
  (∀ k0_t3 : Fin (k0_t3_loop v260).trips, ∀ (k0_h12 : k0_cond12 v260 k0_t3 = 1#1), ∀ (hinb : ∀ a, (k0_off100 v260 k0_t3) a + S1x768x1024.size a ≤ S2x768x7168.size a), (Rect.unit (s := S2x768x7168) (k0_off100 v260 k0_t3) S1x768x1024.size hinb).WholeWords (EltTy.packing .fp8e4m3)) ∧
  (∀ k0_t3 : Fin (k0_t3_loop v260).trips, ∀ a, (k0_off102 v260 k0_t3) a + S1x1.size a ≤ S2x7.size a) ∧
  (∀ k0_t3 : Fin (k0_t3_loop v260).trips, ∀ a, (k0_off103 v260 k0_t3) a + S1x768x1024.size a ≤ S2x768x7168.size a) ∧
  (∀ k0_t3 : Fin (k0_t3_loop v260).trips, ∀ (hinb : ∀ a, (k0_off103 v260 k0_t3) a + S1x768x1024.size a ≤ S2x768x7168.size a), (Rect.unit (s := S2x768x7168) (k0_off103 v260 k0_t3) S1x768x1024.size hinb).WholeWords (EltTy.packing .fp8e4m3)) ∧
  (∀ k0_t3 : Fin (k0_t3_loop v260).trips, ∀ a, (k0_off104 v260 k0_t3) a + S1x768x1024.size a ≤ S2x768x7168.size a) ∧
  (∀ k0_t3 : Fin (k0_t3_loop v260).trips, ∀ (k0_h13 : k0_cond13 v260 k0_t3 = 1#1), ∀ a, (k0_off106 v260 k0_t3) a + S1x1.size a ≤ S2x7.size a) ∧
  (∀ k0_t3 : Fin (k0_t3_loop v260).trips, ∀ (k0_h13 : k0_cond13 v260 k0_t3 = 1#1), ∀ a, (k0_off107 v260 k0_t3) a + S1x768x1024.size a ≤ S2x768x7168.size a)
def k0_chk10_3 (v260 : BitVec 32) : Prop :=
  (∀ k0_t3 : Fin (k0_t3_loop v260).trips, ∀ (k0_h13 : k0_cond13 v260 k0_t3 = 1#1), ∀ (hinb : ∀ a, (k0_off107 v260 k0_t3) a + S1x768x1024.size a ≤ S2x768x7168.size a), (Rect.unit (s := S2x768x7168) (k0_off107 v260 k0_t3) S1x768x1024.size hinb).WholeWords (EltTy.packing .fp8e4m3)) ∧
  (∀ k0_t3 : Fin (k0_t3_loop v260).trips, ∀ a, (k0_off109 v260 k0_t3) a + S1x1.size a ≤ S2x7.size a) ∧
  (∀ k0_t3 : Fin (k0_t3_loop v260).trips, ∀ a, (k0_off110 v260 k0_t3) a + S1x768x1024.size a ≤ S2x768x7168.size a) ∧
  (∀ k0_t3 : Fin (k0_t3_loop v260).trips, ∀ (hinb : ∀ a, (k0_off110 v260 k0_t3) a + S1x768x1024.size a ≤ S2x768x7168.size a), (Rect.unit (s := S2x768x7168) (k0_off110 v260 k0_t3) S1x768x1024.size hinb).WholeWords (EltTy.packing .fp8e4m3)) ∧
  (∀ k0_t3 : Fin (k0_t3_loop v260).trips, ∀ a, (k0_off111 v260 k0_t3) a + S1x768x1024.size a ≤ S2x768x7168.size a) ∧
  (∀ k0_t3 : Fin (k0_t3_loop v260).trips, ∀ (k0_h14 : k0_cond14 v260 k0_t3 = 1#1), ∀ a, (k0_off113 v260 k0_t3) a + S1x1.size a ≤ S2x7.size a) ∧
  (∀ k0_t3 : Fin (k0_t3_loop v260).trips, ∀ (k0_h14 : k0_cond14 v260 k0_t3 = 1#1), ∀ a, (k0_off114 v260 k0_t3) a + S1x768x1024.size a ≤ S2x768x7168.size a) ∧
  (∀ k0_t3 : Fin (k0_t3_loop v260).trips, ∀ (k0_h14 : k0_cond14 v260 k0_t3 = 1#1), ∀ (hinb : ∀ a, (k0_off114 v260 k0_t3) a + S1x768x1024.size a ≤ S2x768x7168.size a), (Rect.unit (s := S2x768x7168) (k0_off114 v260 k0_t3) S1x768x1024.size hinb).WholeWords (EltTy.packing .fp8e4m3)) ∧
  ((k0_t4_loop v260).OK) ∧
  (∀ k0_t4 : Fin (k0_t4_loop v260).trips, ∀ a, (k0_off116 v260 k0_t4) a + S1.size a ≤ S32.size a) ∧
  (∀ k0_t4 : Fin (k0_t4_loop v260).trips, ∀ a, (k0_off117 v260 k0_t4) a + S1.size a ≤ S32.size a) ∧
  (∀ k0_t4 : Fin (k0_t4_loop v260).trips, ∀ a, (k0_off118 v260 k0_t4) a + S1x1.size a ≤ S2x7.size a) ∧
  (∀ k0_t4 : Fin (k0_t4_loop v260).trips, ∀ a, (k0_off119 v260 k0_t4) a + S1x1024x1536.size a ≤ S2x7168x1536.size a) ∧
  (∀ k0_t4 : Fin (k0_t4_loop v260).trips, ∀ (hinb : ∀ a, (k0_off119 v260 k0_t4) a + S1x1024x1536.size a ≤ S2x7168x1536.size a), (Rect.unit (s := S2x7168x1536) (k0_off119 v260 k0_t4) S1x1024x1536.size hinb).WholeWords (EltTy.packing .fp8e4m3)) ∧
  (∀ k0_t4 : Fin (k0_t4_loop v260).trips, ∀ a, (k0_off120 v260 k0_t4) a + S1x1024x1536.size a ≤ S2x7168x1536.size a) ∧
  (∀ k0_t4 : Fin (k0_t4_loop v260).trips, ∀ (k0_h15 : k0_cond15 v260 k0_t4 = 1#1), ∀ a, (k0_off121 v260 k0_t4) a + S1x1.size a ≤ S2x7.size a) ∧
  (∀ k0_t4 : Fin (k0_t4_loop v260).trips, ∀ (k0_h15 : k0_cond15 v260 k0_t4 = 1#1), ∀ a, (k0_off122 v260 k0_t4) a + S1x1024x1536.size a ≤ S2x7168x1536.size a) ∧
  (∀ k0_t4 : Fin (k0_t4_loop v260).trips, ∀ (k0_h15 : k0_cond15 v260 k0_t4 = 1#1), ∀ (hinb : ∀ a, (k0_off122 v260 k0_t4) a + S1x1024x1536.size a ≤ S2x7168x1536.size a), (Rect.unit (s := S2x7168x1536) (k0_off122 v260 k0_t4) S1x1024x1536.size hinb).WholeWords (EltTy.packing .fp8e4m3)) ∧
  (∀ k0_t4 : Fin (k0_t4_loop v260).trips, ∀ a, (k0_off124 v260 k0_t4) a + S1x1.size a ≤ S2x7.size a) ∧
  (∀ k0_t4 : Fin (k0_t4_loop v260).trips, ∀ a, (k0_off125 v260 k0_t4) a + S1x1024x1536.size a ≤ S2x7168x1536.size a) ∧
  (∀ k0_t4 : Fin (k0_t4_loop v260).trips, ∀ (hinb : ∀ a, (k0_off125 v260 k0_t4) a + S1x1024x1536.size a ≤ S2x7168x1536.size a), (Rect.unit (s := S2x7168x1536) (k0_off125 v260 k0_t4) S1x1024x1536.size hinb).WholeWords (EltTy.packing .fp8e4m3)) ∧
  (∀ k0_t4 : Fin (k0_t4_loop v260).trips, ∀ a, (k0_off126 v260 k0_t4) a + S1x1024x1536.size a ≤ S2x7168x1536.size a) ∧
  (∀ k0_t4 : Fin (k0_t4_loop v260).trips, ∀ (k0_h16 : k0_cond16 v260 k0_t4 = 1#1), ∀ a, (k0_off127 v260 k0_t4) a + S1x1.size a ≤ S2x7.size a) ∧
  (∀ k0_t4 : Fin (k0_t4_loop v260).trips, ∀ (k0_h16 : k0_cond16 v260 k0_t4 = 1#1), ∀ a, (k0_off128 v260 k0_t4) a + S1x1024x1536.size a ≤ S2x7168x1536.size a) ∧
  (∀ k0_t4 : Fin (k0_t4_loop v260).trips, ∀ (k0_h16 : k0_cond16 v260 k0_t4 = 1#1), ∀ (hinb : ∀ a, (k0_off128 v260 k0_t4) a + S1x1024x1536.size a ≤ S2x7168x1536.size a), (Rect.unit (s := S2x7168x1536) (k0_off128 v260 k0_t4) S1x1024x1536.size hinb).WholeWords (EltTy.packing .fp8e4m3)) ∧
  (∀ k0_t4 : Fin (k0_t4_loop v260).trips, ∀ a, (k0_off130 v260 k0_t4) a + S1x1.size a ≤ S2x7.size a) ∧
  (∀ k0_t4 : Fin (k0_t4_loop v260).trips, ∀ a, (k0_off131 v260 k0_t4) a + S1x1024x1536.size a ≤ S2x7168x1536.size a) ∧
  (∀ k0_t4 : Fin (k0_t4_loop v260).trips, ∀ (hinb : ∀ a, (k0_off131 v260 k0_t4) a + S1x1024x1536.size a ≤ S2x7168x1536.size a), (Rect.unit (s := S2x7168x1536) (k0_off131 v260 k0_t4) S1x1024x1536.size hinb).WholeWords (EltTy.packing .fp8e4m3)) ∧
  (∀ k0_t4 : Fin (k0_t4_loop v260).trips, ∀ a, (k0_off132 v260 k0_t4) a + S1x1024x1536.size a ≤ S2x7168x1536.size a) ∧
  (∀ k0_t4 : Fin (k0_t4_loop v260).trips, ∀ (k0_h17 : k0_cond17 v260 k0_t4 = 1#1), ∀ a, (k0_off133 v260 k0_t4) a + S1x1.size a ≤ S2x7.size a) ∧
  (∀ k0_t4 : Fin (k0_t4_loop v260).trips, ∀ (k0_h17 : k0_cond17 v260 k0_t4 = 1#1), ∀ a, (k0_off134 v260 k0_t4) a + S1x1024x1536.size a ≤ S2x7168x1536.size a) ∧
  (∀ k0_t4 : Fin (k0_t4_loop v260).trips, ∀ (k0_h17 : k0_cond17 v260 k0_t4 = 1#1), ∀ (hinb : ∀ a, (k0_off134 v260 k0_t4) a + S1x1024x1536.size a ≤ S2x7168x1536.size a), (Rect.unit (s := S2x7168x1536) (k0_off134 v260 k0_t4) S1x1024x1536.size hinb).WholeWords (EltTy.packing .fp8e4m3))
def k0_chk10_4 (v260 : BitVec 32) : Prop :=
  (∀ k0_t4 : Fin (k0_t4_loop v260).trips, ∀ a, (k0_off136 v260 k0_t4) a + S1x1.size a ≤ S2x7.size a) ∧
  (∀ k0_t4 : Fin (k0_t4_loop v260).trips, ∀ a, (k0_off137 v260 k0_t4) a + S1x1024x1536.size a ≤ S2x7168x1536.size a) ∧
  (∀ k0_t4 : Fin (k0_t4_loop v260).trips, ∀ (hinb : ∀ a, (k0_off137 v260 k0_t4) a + S1x1024x1536.size a ≤ S2x7168x1536.size a), (Rect.unit (s := S2x7168x1536) (k0_off137 v260 k0_t4) S1x1024x1536.size hinb).WholeWords (EltTy.packing .fp8e4m3)) ∧
  (∀ k0_t4 : Fin (k0_t4_loop v260).trips, ∀ a, (k0_off138 v260 k0_t4) a + S1x1024x1536.size a ≤ S2x7168x1536.size a) ∧
  (∀ k0_t4 : Fin (k0_t4_loop v260).trips, ∀ (k0_h18 : k0_cond18 v260 k0_t4 = 1#1), ∀ a, (k0_off139 v260 k0_t4) a + S1x1.size a ≤ S2x7.size a) ∧
  (∀ k0_t4 : Fin (k0_t4_loop v260).trips, ∀ (k0_h18 : k0_cond18 v260 k0_t4 = 1#1), ∀ a, (k0_off140 v260 k0_t4) a + S1x1024x1536.size a ≤ S2x7168x1536.size a) ∧
  (∀ k0_t4 : Fin (k0_t4_loop v260).trips, ∀ (k0_h18 : k0_cond18 v260 k0_t4 = 1#1), ∀ (hinb : ∀ a, (k0_off140 v260 k0_t4) a + S1x1024x1536.size a ≤ S2x7168x1536.size a), (Rect.unit (s := S2x7168x1536) (k0_off140 v260 k0_t4) S1x1024x1536.size hinb).WholeWords (EltTy.packing .fp8e4m3)) ∧
  (∀ k0_t4 : Fin (k0_t4_loop v260).trips, ∀ a, (k0_off142 v260 k0_t4) a + S1x1.size a ≤ S2x7.size a) ∧
  (∀ k0_t4 : Fin (k0_t4_loop v260).trips, ∀ a, (k0_off143 v260 k0_t4) a + S1x1024x1536.size a ≤ S2x7168x1536.size a) ∧
  (∀ k0_t4 : Fin (k0_t4_loop v260).trips, ∀ (hinb : ∀ a, (k0_off143 v260 k0_t4) a + S1x1024x1536.size a ≤ S2x7168x1536.size a), (Rect.unit (s := S2x7168x1536) (k0_off143 v260 k0_t4) S1x1024x1536.size hinb).WholeWords (EltTy.packing .fp8e4m3)) ∧
  (∀ k0_t4 : Fin (k0_t4_loop v260).trips, ∀ a, (k0_off144 v260 k0_t4) a + S1x1024x1536.size a ≤ S2x7168x1536.size a) ∧
  (∀ k0_t4 : Fin (k0_t4_loop v260).trips, ∀ (k0_h19 : k0_cond19 v260 k0_t4 = 1#1), ∀ a, (k0_off145 v260 k0_t4) a + S1x1.size a ≤ S2x7.size a) ∧
  (∀ k0_t4 : Fin (k0_t4_loop v260).trips, ∀ (k0_h19 : k0_cond19 v260 k0_t4 = 1#1), ∀ a, (k0_off146 v260 k0_t4) a + S1x1024x1536.size a ≤ S2x7168x1536.size a) ∧
  (∀ k0_t4 : Fin (k0_t4_loop v260).trips, ∀ (k0_h19 : k0_cond19 v260 k0_t4 = 1#1), ∀ (hinb : ∀ a, (k0_off146 v260 k0_t4) a + S1x1024x1536.size a ≤ S2x7168x1536.size a), (Rect.unit (s := S2x7168x1536) (k0_off146 v260 k0_t4) S1x1024x1536.size hinb).WholeWords (EltTy.packing .fp8e4m3)) ∧
  (∀ k0_t4 : Fin (k0_t4_loop v260).trips, ∀ a, (k0_off148 v260 k0_t4) a + S1x1.size a ≤ S2x7.size a) ∧
  (∀ k0_t4 : Fin (k0_t4_loop v260).trips, ∀ a, (k0_off149 v260 k0_t4) a + S1x1024x1536.size a ≤ S2x7168x1536.size a) ∧
  (∀ k0_t4 : Fin (k0_t4_loop v260).trips, ∀ (hinb : ∀ a, (k0_off149 v260 k0_t4) a + S1x1024x1536.size a ≤ S2x7168x1536.size a), (Rect.unit (s := S2x7168x1536) (k0_off149 v260 k0_t4) S1x1024x1536.size hinb).WholeWords (EltTy.packing .fp8e4m3)) ∧
  (∀ k0_t4 : Fin (k0_t4_loop v260).trips, ∀ a, (k0_off150 v260 k0_t4) a + S1x1024x1536.size a ≤ S2x7168x1536.size a) ∧
  (∀ k0_t4 : Fin (k0_t4_loop v260).trips, ∀ (k0_h20 : k0_cond20 v260 k0_t4 = 1#1), ∀ a, (k0_off151 v260 k0_t4) a + S1x1.size a ≤ S2x7.size a) ∧
  (∀ k0_t4 : Fin (k0_t4_loop v260).trips, ∀ (k0_h20 : k0_cond20 v260 k0_t4 = 1#1), ∀ a, (k0_off152 v260 k0_t4) a + S1x1024x1536.size a ≤ S2x7168x1536.size a) ∧
  (∀ k0_t4 : Fin (k0_t4_loop v260).trips, ∀ (k0_h20 : k0_cond20 v260 k0_t4 = 1#1), ∀ (hinb : ∀ a, (k0_off152 v260 k0_t4) a + S1x1024x1536.size a ≤ S2x7168x1536.size a), (Rect.unit (s := S2x7168x1536) (k0_off152 v260 k0_t4) S1x1024x1536.size hinb).WholeWords (EltTy.packing .fp8e4m3)) ∧
  (∀ k0_t4 : Fin (k0_t4_loop v260).trips, ∀ a, (k0_off154 v260 k0_t4) a + S1x1.size a ≤ S2x7.size a) ∧
  (∀ k0_t4 : Fin (k0_t4_loop v260).trips, ∀ a, (k0_off155 v260 k0_t4) a + S1x1024x1536.size a ≤ S2x7168x1536.size a) ∧
  (∀ k0_t4 : Fin (k0_t4_loop v260).trips, ∀ (hinb : ∀ a, (k0_off155 v260 k0_t4) a + S1x1024x1536.size a ≤ S2x7168x1536.size a), (Rect.unit (s := S2x7168x1536) (k0_off155 v260 k0_t4) S1x1024x1536.size hinb).WholeWords (EltTy.packing .fp8e4m3)) ∧
  (∀ k0_t4 : Fin (k0_t4_loop v260).trips, ∀ a, (k0_off156 v260 k0_t4) a + S1x1024x1536.size a ≤ S2x7168x1536.size a) ∧
  (∀ k0_t4 : Fin (k0_t4_loop v260).trips, ∀ (k0_h21 : k0_cond21 v260 k0_t4 = 1#1), ∀ a, (k0_off157 v260 k0_t4) a + S1x1.size a ≤ S2x7.size a) ∧
  (∀ k0_t4 : Fin (k0_t4_loop v260).trips, ∀ (k0_h21 : k0_cond21 v260 k0_t4 = 1#1), ∀ a, (k0_off158 v260 k0_t4) a + S1x1024x1536.size a ≤ S2x7168x1536.size a) ∧
  (∀ k0_t4 : Fin (k0_t4_loop v260).trips, ∀ (k0_h21 : k0_cond21 v260 k0_t4 = 1#1), ∀ (hinb : ∀ a, (k0_off158 v260 k0_t4) a + S1x1024x1536.size a ≤ S2x7168x1536.size a), (Rect.unit (s := S2x7168x1536) (k0_off158 v260 k0_t4) S1x1024x1536.size hinb).WholeWords (EltTy.packing .fp8e4m3)) ∧
  (∀ k0_t4 : Fin (k0_t4_loop v260).trips, 768 ∣ (k0_mult2 v260 k0_t4).toNat) ∧
  (∀ k0_t4 : Fin (k0_t4_loop v260).trips, ∀ a, (k0_off160 v260 k0_t4) a + S1x768.size a ≤ S1x3072.size a) ∧
  (∀ k0_t4 : Fin (k0_t4_loop v260).trips, ∀ a, (k0_off162 v260 k0_t4) a + S1x768.size a ≤ S1x3072.size a) ∧
  (∀ k0_t4 : Fin (k0_t4_loop v260).trips, ∀ a, (k0_off164 v260 k0_t4) a + S1x1.size a ≤ S2x7.size a)
def k0_chk10_5 (v260 : BitVec 32) : Prop :=
  (∀ k0_t4 : Fin (k0_t4_loop v260).trips, ∀ a, (k0_off165 v260 k0_t4) a + S1x768x1024.size a ≤ S2x768x7168.size a) ∧
  (∀ k0_t4 : Fin (k0_t4_loop v260).trips, ∀ (hinb : ∀ a, (k0_off165 v260 k0_t4) a + S1x768x1024.size a ≤ S2x768x7168.size a), (Rect.unit (s := S2x768x7168) (k0_off165 v260 k0_t4) S1x768x1024.size hinb).WholeWords (EltTy.packing .fp8e4m3)) ∧
  (∀ k0_t4 : Fin (k0_t4_loop v260).trips, ∀ a, (k0_off166 v260 k0_t4) a + S1x768x1024.size a ≤ S2x768x7168.size a) ∧
  (∀ k0_t4 : Fin (k0_t4_loop v260).trips, ∀ (k0_h22 : k0_cond22 v260 k0_t4 = 1#1), ∀ a, (k0_off168 v260 k0_t4) a + S1x1.size a ≤ S2x7.size a) ∧
  (∀ k0_t4 : Fin (k0_t4_loop v260).trips, ∀ (k0_h22 : k0_cond22 v260 k0_t4 = 1#1), ∀ a, (k0_off169 v260 k0_t4) a + S1x768x1024.size a ≤ S2x768x7168.size a) ∧
  (∀ k0_t4 : Fin (k0_t4_loop v260).trips, ∀ (k0_h22 : k0_cond22 v260 k0_t4 = 1#1), ∀ (hinb : ∀ a, (k0_off169 v260 k0_t4) a + S1x768x1024.size a ≤ S2x768x7168.size a), (Rect.unit (s := S2x768x7168) (k0_off169 v260 k0_t4) S1x768x1024.size hinb).WholeWords (EltTy.packing .fp8e4m3)) ∧
  (∀ k0_t4 : Fin (k0_t4_loop v260).trips, ∀ a, (k0_off171 v260 k0_t4) a + S1x1.size a ≤ S2x7.size a) ∧
  (∀ k0_t4 : Fin (k0_t4_loop v260).trips, ∀ a, (k0_off172 v260 k0_t4) a + S1x768x1024.size a ≤ S2x768x7168.size a) ∧
  (∀ k0_t4 : Fin (k0_t4_loop v260).trips, ∀ (hinb : ∀ a, (k0_off172 v260 k0_t4) a + S1x768x1024.size a ≤ S2x768x7168.size a), (Rect.unit (s := S2x768x7168) (k0_off172 v260 k0_t4) S1x768x1024.size hinb).WholeWords (EltTy.packing .fp8e4m3)) ∧
  (∀ k0_t4 : Fin (k0_t4_loop v260).trips, ∀ a, (k0_off173 v260 k0_t4) a + S1x768x1024.size a ≤ S2x768x7168.size a) ∧
  (∀ k0_t4 : Fin (k0_t4_loop v260).trips, ∀ (k0_h23 : k0_cond23 v260 k0_t4 = 1#1), ∀ a, (k0_off175 v260 k0_t4) a + S1x1.size a ≤ S2x7.size a) ∧
  (∀ k0_t4 : Fin (k0_t4_loop v260).trips, ∀ (k0_h23 : k0_cond23 v260 k0_t4 = 1#1), ∀ a, (k0_off176 v260 k0_t4) a + S1x768x1024.size a ≤ S2x768x7168.size a) ∧
  (∀ k0_t4 : Fin (k0_t4_loop v260).trips, ∀ (k0_h23 : k0_cond23 v260 k0_t4 = 1#1), ∀ (hinb : ∀ a, (k0_off176 v260 k0_t4) a + S1x768x1024.size a ≤ S2x768x7168.size a), (Rect.unit (s := S2x768x7168) (k0_off176 v260 k0_t4) S1x768x1024.size hinb).WholeWords (EltTy.packing .fp8e4m3)) ∧
  (∀ k0_t4 : Fin (k0_t4_loop v260).trips, ∀ a, (k0_off178 v260 k0_t4) a + S1x1.size a ≤ S2x7.size a) ∧
  (∀ k0_t4 : Fin (k0_t4_loop v260).trips, ∀ a, (k0_off179 v260 k0_t4) a + S1x768x1024.size a ≤ S2x768x7168.size a) ∧
  (∀ k0_t4 : Fin (k0_t4_loop v260).trips, ∀ (hinb : ∀ a, (k0_off179 v260 k0_t4) a + S1x768x1024.size a ≤ S2x768x7168.size a), (Rect.unit (s := S2x768x7168) (k0_off179 v260 k0_t4) S1x768x1024.size hinb).WholeWords (EltTy.packing .fp8e4m3)) ∧
  (∀ k0_t4 : Fin (k0_t4_loop v260).trips, ∀ a, (k0_off180 v260 k0_t4) a + S1x768x1024.size a ≤ S2x768x7168.size a) ∧
  (∀ k0_t4 : Fin (k0_t4_loop v260).trips, ∀ (k0_h24 : k0_cond24 v260 k0_t4 = 1#1), ∀ a, (k0_off182 v260 k0_t4) a + S1x1.size a ≤ S2x7.size a) ∧
  (∀ k0_t4 : Fin (k0_t4_loop v260).trips, ∀ (k0_h24 : k0_cond24 v260 k0_t4 = 1#1), ∀ a, (k0_off183 v260 k0_t4) a + S1x768x1024.size a ≤ S2x768x7168.size a) ∧
  (∀ k0_t4 : Fin (k0_t4_loop v260).trips, ∀ (k0_h24 : k0_cond24 v260 k0_t4 = 1#1), ∀ (hinb : ∀ a, (k0_off183 v260 k0_t4) a + S1x768x1024.size a ≤ S2x768x7168.size a), (Rect.unit (s := S2x768x7168) (k0_off183 v260 k0_t4) S1x768x1024.size hinb).WholeWords (EltTy.packing .fp8e4m3)) ∧
  (∀ k0_t4 : Fin (k0_t4_loop v260).trips, ∀ a, (k0_off185 v260 k0_t4) a + S1x1.size a ≤ S2x7.size a) ∧
  (∀ k0_t4 : Fin (k0_t4_loop v260).trips, ∀ a, (k0_off186 v260 k0_t4) a + S1x768x1024.size a ≤ S2x768x7168.size a) ∧
  (∀ k0_t4 : Fin (k0_t4_loop v260).trips, ∀ (hinb : ∀ a, (k0_off186 v260 k0_t4) a + S1x768x1024.size a ≤ S2x768x7168.size a), (Rect.unit (s := S2x768x7168) (k0_off186 v260 k0_t4) S1x768x1024.size hinb).WholeWords (EltTy.packing .fp8e4m3)) ∧
  (∀ k0_t4 : Fin (k0_t4_loop v260).trips, ∀ a, (k0_off187 v260 k0_t4) a + S1x768x1024.size a ≤ S2x768x7168.size a) ∧
  (∀ k0_t4 : Fin (k0_t4_loop v260).trips, ∀ (k0_h25 : k0_cond25 v260 k0_t4 = 1#1), ∀ a, (k0_off189 v260 k0_t4) a + S1x1.size a ≤ S2x7.size a) ∧
  (∀ k0_t4 : Fin (k0_t4_loop v260).trips, ∀ (k0_h25 : k0_cond25 v260 k0_t4 = 1#1), ∀ a, (k0_off190 v260 k0_t4) a + S1x768x1024.size a ≤ S2x768x7168.size a) ∧
  (∀ k0_t4 : Fin (k0_t4_loop v260).trips, ∀ (k0_h25 : k0_cond25 v260 k0_t4 = 1#1), ∀ (hinb : ∀ a, (k0_off190 v260 k0_t4) a + S1x768x1024.size a ≤ S2x768x7168.size a), (Rect.unit (s := S2x768x7168) (k0_off190 v260 k0_t4) S1x768x1024.size hinb).WholeWords (EltTy.packing .fp8e4m3)) ∧
  (∀ k0_t4 : Fin (k0_t4_loop v260).trips, ∀ a, (k0_off192 v260 k0_t4) a + S1x1.size a ≤ S2x7.size a) ∧
  (∀ k0_t4 : Fin (k0_t4_loop v260).trips, ∀ a, (k0_off193 v260 k0_t4) a + S1x768x1024.size a ≤ S2x768x7168.size a) ∧
  (∀ k0_t4 : Fin (k0_t4_loop v260).trips, ∀ (hinb : ∀ a, (k0_off193 v260 k0_t4) a + S1x768x1024.size a ≤ S2x768x7168.size a), (Rect.unit (s := S2x768x7168) (k0_off193 v260 k0_t4) S1x768x1024.size hinb).WholeWords (EltTy.packing .fp8e4m3)) ∧
  (∀ k0_t4 : Fin (k0_t4_loop v260).trips, ∀ a, (k0_off194 v260 k0_t4) a + S1x768x1024.size a ≤ S2x768x7168.size a) ∧
  (∀ k0_t4 : Fin (k0_t4_loop v260).trips, ∀ (k0_h26 : k0_cond26 v260 k0_t4 = 1#1), ∀ a, (k0_off196 v260 k0_t4) a + S1x1.size a ≤ S2x7.size a)
def k0_chk10_6 (v260 : BitVec 32) : Prop :=
  (∀ k0_t4 : Fin (k0_t4_loop v260).trips, ∀ (k0_h26 : k0_cond26 v260 k0_t4 = 1#1), ∀ a, (k0_off197 v260 k0_t4) a + S1x768x1024.size a ≤ S2x768x7168.size a) ∧
  (∀ k0_t4 : Fin (k0_t4_loop v260).trips, ∀ (k0_h26 : k0_cond26 v260 k0_t4 = 1#1), ∀ (hinb : ∀ a, (k0_off197 v260 k0_t4) a + S1x768x1024.size a ≤ S2x768x7168.size a), (Rect.unit (s := S2x768x7168) (k0_off197 v260 k0_t4) S1x768x1024.size hinb).WholeWords (EltTy.packing .fp8e4m3)) ∧
  (∀ k0_t4 : Fin (k0_t4_loop v260).trips, ∀ a, (k0_off199 v260 k0_t4) a + S1x1.size a ≤ S2x7.size a) ∧
  (∀ k0_t4 : Fin (k0_t4_loop v260).trips, ∀ a, (k0_off200 v260 k0_t4) a + S1x768x1024.size a ≤ S2x768x7168.size a) ∧
  (∀ k0_t4 : Fin (k0_t4_loop v260).trips, ∀ (hinb : ∀ a, (k0_off200 v260 k0_t4) a + S1x768x1024.size a ≤ S2x768x7168.size a), (Rect.unit (s := S2x768x7168) (k0_off200 v260 k0_t4) S1x768x1024.size hinb).WholeWords (EltTy.packing .fp8e4m3)) ∧
  (∀ k0_t4 : Fin (k0_t4_loop v260).trips, ∀ a, (k0_off201 v260 k0_t4) a + S1x768x1024.size a ≤ S2x768x7168.size a) ∧
  (∀ k0_t4 : Fin (k0_t4_loop v260).trips, ∀ (k0_h27 : k0_cond27 v260 k0_t4 = 1#1), ∀ a, (k0_off203 v260 k0_t4) a + S1x1.size a ≤ S2x7.size a) ∧
  (∀ k0_t4 : Fin (k0_t4_loop v260).trips, ∀ (k0_h27 : k0_cond27 v260 k0_t4 = 1#1), ∀ a, (k0_off204 v260 k0_t4) a + S1x768x1024.size a ≤ S2x768x7168.size a) ∧
  (∀ k0_t4 : Fin (k0_t4_loop v260).trips, ∀ (k0_h27 : k0_cond27 v260 k0_t4 = 1#1), ∀ (hinb : ∀ a, (k0_off204 v260 k0_t4) a + S1x768x1024.size a ≤ S2x768x7168.size a), (Rect.unit (s := S2x768x7168) (k0_off204 v260 k0_t4) S1x768x1024.size hinb).WholeWords (EltTy.packing .fp8e4m3)) ∧
  (∀ k0_t4 : Fin (k0_t4_loop v260).trips, ∀ a, (k0_off206 v260 k0_t4) a + S1x1.size a ≤ S2x7.size a) ∧
  (∀ k0_t4 : Fin (k0_t4_loop v260).trips, ∀ a, (k0_off207 v260 k0_t4) a + S1x768x1024.size a ≤ S2x768x7168.size a) ∧
  (∀ k0_t4 : Fin (k0_t4_loop v260).trips, ∀ (hinb : ∀ a, (k0_off207 v260 k0_t4) a + S1x768x1024.size a ≤ S2x768x7168.size a), (Rect.unit (s := S2x768x7168) (k0_off207 v260 k0_t4) S1x768x1024.size hinb).WholeWords (EltTy.packing .fp8e4m3)) ∧
  (∀ k0_t4 : Fin (k0_t4_loop v260).trips, ∀ a, (k0_off208 v260 k0_t4) a + S1x768x1024.size a ≤ S2x768x7168.size a) ∧
  (∀ k0_t4 : Fin (k0_t4_loop v260).trips, ∀ (k0_h28 : k0_cond28 v260 k0_t4 = 1#1), ∀ a, (k0_off210 v260 k0_t4) a + S1x1.size a ≤ S2x7.size a) ∧
  (∀ k0_t4 : Fin (k0_t4_loop v260).trips, ∀ (k0_h28 : k0_cond28 v260 k0_t4 = 1#1), ∀ a, (k0_off211 v260 k0_t4) a + S1x768x1024.size a ≤ S2x768x7168.size a) ∧
  (∀ k0_t4 : Fin (k0_t4_loop v260).trips, ∀ (k0_h28 : k0_cond28 v260 k0_t4 = 1#1), ∀ (hinb : ∀ a, (k0_off211 v260 k0_t4) a + S1x768x1024.size a ≤ S2x768x7168.size a), (Rect.unit (s := S2x768x7168) (k0_off211 v260 k0_t4) S1x768x1024.size hinb).WholeWords (EltTy.packing .fp8e4m3))
def k0_chk10 (v260 : BitVec 32) : Prop :=
  k0_chk10_0 v260 ∧
  k0_chk10_1 v260 ∧
  k0_chk10_2 v260 ∧
  k0_chk10_3 v260 ∧
  k0_chk10_4 v260 ∧
  k0_chk10_5 v260 ∧
  k0_chk10_6 v260
theorem k0_t3_ok : ∀ (v260 : BitVec 32) (k0_hw10 : k0_chk10 v260), (k0_t3_loop v260).OK := fun v260 k0_hw10 => k0_hw10.1.1
theorem k0_off19_inb : ∀ (v260 : BitVec 32) (k0_hw10 : k0_chk10 v260) (k0_t3 : Fin (k0_t3_loop v260).trips), ∀ a, (k0_off19 v260 k0_t3) a + S1.size a ≤ S32.size a := fun v260 k0_hw10 k0_t3 => k0_hw10.1.2.1 k0_t3
theorem k0_off20_inb : ∀ (v260 : BitVec 32) (k0_hw10 : k0_chk10 v260) (k0_t3 : Fin (k0_t3_loop v260).trips), ∀ a, (k0_off20 v260 k0_t3) a + S1.size a ≤ S32.size a := fun v260 k0_hw10 k0_t3 => k0_hw10.1.2.2.1 k0_t3
theorem k0_off21_inb : ∀ (v260 : BitVec 32) (k0_hw10 : k0_chk10 v260) (k0_t3 : Fin (k0_t3_loop v260).trips), ∀ a, (k0_off21 v260 k0_t3) a + S1x1.size a ≤ S2x7.size a := fun v260 k0_hw10 k0_t3 => k0_hw10.1.2.2.2.1 k0_t3
theorem k0_off22_inb : ∀ (v260 : BitVec 32) (k0_hw10 : k0_chk10 v260) (k0_t3 : Fin (k0_t3_loop v260).trips), ∀ a, (k0_off22 v260 k0_t3) a + S1x1024x1536.size a ≤ S2x7168x1536.size a := fun v260 k0_hw10 k0_t3 => k0_hw10.1.2.2.2.2.1 k0_t3
theorem k0_off22_wordsfp8e4m3 : ∀ (v260 : BitVec 32) (k0_hw10 : k0_chk10 v260) (k0_t3 : Fin (k0_t3_loop v260).trips), (Rect.unit (s := S2x7168x1536) (k0_off22 v260 k0_t3) S1x1024x1536.size (k0_off22_inb v260 k0_hw10 k0_t3)).WholeWords (EltTy.packing .fp8e4m3) := fun v260 k0_hw10 k0_t3 => k0_hw10.1.2.2.2.2.2.1 k0_t3 (k0_off22_inb v260 k0_hw10 k0_t3)
theorem k0_off23_inb : ∀ (v260 : BitVec 32) (k0_hw10 : k0_chk10 v260) (k0_t3 : Fin (k0_t3_loop v260).trips), ∀ a, (k0_off23 v260 k0_t3) a + S1x1024x1536.size a ≤ S2x7168x1536.size a := fun v260 k0_hw10 k0_t3 => k0_hw10.1.2.2.2.2.2.2.1 k0_t3
theorem k0_off24_inb : ∀ (v260 : BitVec 32) (k0_hw10 : k0_chk10 v260) (k0_t3 : Fin (k0_t3_loop v260).trips), ∀ (k0_h1 : k0_cond1 v260 k0_t3 = 1#1), ∀ a, (k0_off24 v260 k0_t3) a + S1x1.size a ≤ S2x7.size a := fun v260 k0_hw10 k0_t3 k0_h1 => k0_hw10.1.2.2.2.2.2.2.2.1 k0_t3 k0_h1
theorem k0_off25_inb : ∀ (v260 : BitVec 32) (k0_hw10 : k0_chk10 v260) (k0_t3 : Fin (k0_t3_loop v260).trips), ∀ (k0_h1 : k0_cond1 v260 k0_t3 = 1#1), ∀ a, (k0_off25 v260 k0_t3) a + S1x1024x1536.size a ≤ S2x7168x1536.size a := fun v260 k0_hw10 k0_t3 k0_h1 => k0_hw10.1.2.2.2.2.2.2.2.2.1 k0_t3 k0_h1
theorem k0_off25_wordsfp8e4m3 : ∀ (v260 : BitVec 32) (k0_hw10 : k0_chk10 v260) (k0_t3 : Fin (k0_t3_loop v260).trips), ∀ (k0_h1 : k0_cond1 v260 k0_t3 = 1#1), (Rect.unit (s := S2x7168x1536) (k0_off25 v260 k0_t3) S1x1024x1536.size (k0_off25_inb v260 k0_hw10 k0_t3 k0_h1)).WholeWords (EltTy.packing .fp8e4m3) := fun v260 k0_hw10 k0_t3 k0_h1 => k0_hw10.1.2.2.2.2.2.2.2.2.2.1 k0_t3 k0_h1 (k0_off25_inb v260 k0_hw10 k0_t3 k0_h1)
theorem k0_off27_inb : ∀ (v260 : BitVec 32) (k0_hw10 : k0_chk10 v260) (k0_t3 : Fin (k0_t3_loop v260).trips), ∀ a, (k0_off27 v260 k0_t3) a + S1x1.size a ≤ S2x7.size a := fun v260 k0_hw10 k0_t3 => k0_hw10.1.2.2.2.2.2.2.2.2.2.2.1 k0_t3
theorem k0_off28_inb : ∀ (v260 : BitVec 32) (k0_hw10 : k0_chk10 v260) (k0_t3 : Fin (k0_t3_loop v260).trips), ∀ a, (k0_off28 v260 k0_t3) a + S1x1024x1536.size a ≤ S2x7168x1536.size a := fun v260 k0_hw10 k0_t3 => k0_hw10.1.2.2.2.2.2.2.2.2.2.2.2.1 k0_t3
theorem k0_off28_wordsfp8e4m3 : ∀ (v260 : BitVec 32) (k0_hw10 : k0_chk10 v260) (k0_t3 : Fin (k0_t3_loop v260).trips), (Rect.unit (s := S2x7168x1536) (k0_off28 v260 k0_t3) S1x1024x1536.size (k0_off28_inb v260 k0_hw10 k0_t3)).WholeWords (EltTy.packing .fp8e4m3) := fun v260 k0_hw10 k0_t3 => k0_hw10.1.2.2.2.2.2.2.2.2.2.2.2.2.1 k0_t3 (k0_off28_inb v260 k0_hw10 k0_t3)
theorem k0_off29_inb : ∀ (v260 : BitVec 32) (k0_hw10 : k0_chk10 v260) (k0_t3 : Fin (k0_t3_loop v260).trips), ∀ a, (k0_off29 v260 k0_t3) a + S1x1024x1536.size a ≤ S2x7168x1536.size a := fun v260 k0_hw10 k0_t3 => k0_hw10.1.2.2.2.2.2.2.2.2.2.2.2.2.2.1 k0_t3
theorem k0_off30_inb : ∀ (v260 : BitVec 32) (k0_hw10 : k0_chk10 v260) (k0_t3 : Fin (k0_t3_loop v260).trips), ∀ (k0_h2 : k0_cond2 v260 k0_t3 = 1#1), ∀ a, (k0_off30 v260 k0_t3) a + S1x1.size a ≤ S2x7.size a := fun v260 k0_hw10 k0_t3 k0_h2 => k0_hw10.1.2.2.2.2.2.2.2.2.2.2.2.2.2.2.1 k0_t3 k0_h2
theorem k0_off31_inb : ∀ (v260 : BitVec 32) (k0_hw10 : k0_chk10 v260) (k0_t3 : Fin (k0_t3_loop v260).trips), ∀ (k0_h2 : k0_cond2 v260 k0_t3 = 1#1), ∀ a, (k0_off31 v260 k0_t3) a + S1x1024x1536.size a ≤ S2x7168x1536.size a := fun v260 k0_hw10 k0_t3 k0_h2 => k0_hw10.1.2.2.2.2.2.2.2.2.2.2.2.2.2.2.2.1 k0_t3 k0_h2
theorem k0_off31_wordsfp8e4m3 : ∀ (v260 : BitVec 32) (k0_hw10 : k0_chk10 v260) (k0_t3 : Fin (k0_t3_loop v260).trips), ∀ (k0_h2 : k0_cond2 v260 k0_t3 = 1#1), (Rect.unit (s := S2x7168x1536) (k0_off31 v260 k0_t3) S1x1024x1536.size (k0_off31_inb v260 k0_hw10 k0_t3 k0_h2)).WholeWords (EltTy.packing .fp8e4m3) := fun v260 k0_hw10 k0_t3 k0_h2 => k0_hw10.1.2.2.2.2.2.2.2.2.2.2.2.2.2.2.2.2.1 k0_t3 k0_h2 (k0_off31_inb v260 k0_hw10 k0_t3 k0_h2)
theorem k0_off33_inb : ∀ (v260 : BitVec 32) (k0_hw10 : k0_chk10 v260) (k0_t3 : Fin (k0_t3_loop v260).trips), ∀ a, (k0_off33 v260 k0_t3) a + S1x1.size a ≤ S2x7.size a := fun v260 k0_hw10 k0_t3 => k0_hw10.1.2.2.2.2.2.2.2.2.2.2.2.2.2.2.2.2.2.1 k0_t3
theorem k0_off34_inb : ∀ (v260 : BitVec 32) (k0_hw10 : k0_chk10 v260) (k0_t3 : Fin (k0_t3_loop v260).trips), ∀ a, (k0_off34 v260 k0_t3) a + S1x1024x1536.size a ≤ S2x7168x1536.size a := fun v260 k0_hw10 k0_t3 => k0_hw10.1.2.2.2.2.2.2.2.2.2.2.2.2.2.2.2.2.2.2.1 k0_t3
theorem k0_off34_wordsfp8e4m3 : ∀ (v260 : BitVec 32) (k0_hw10 : k0_chk10 v260) (k0_t3 : Fin (k0_t3_loop v260).trips), (Rect.unit (s := S2x7168x1536) (k0_off34 v260 k0_t3) S1x1024x1536.size (k0_off34_inb v260 k0_hw10 k0_t3)).WholeWords (EltTy.packing .fp8e4m3) := fun v260 k0_hw10 k0_t3 => k0_hw10.1.2.2.2.2.2.2.2.2.2.2.2.2.2.2.2.2.2.2.2.1 k0_t3 (k0_off34_inb v260 k0_hw10 k0_t3)
theorem k0_off35_inb : ∀ (v260 : BitVec 32) (k0_hw10 : k0_chk10 v260) (k0_t3 : Fin (k0_t3_loop v260).trips), ∀ a, (k0_off35 v260 k0_t3) a + S1x1024x1536.size a ≤ S2x7168x1536.size a := fun v260 k0_hw10 k0_t3 => k0_hw10.1.2.2.2.2.2.2.2.2.2.2.2.2.2.2.2.2.2.2.2.2.1 k0_t3
theorem k0_off36_inb : ∀ (v260 : BitVec 32) (k0_hw10 : k0_chk10 v260) (k0_t3 : Fin (k0_t3_loop v260).trips), ∀ (k0_h3 : k0_cond3 v260 k0_t3 = 1#1), ∀ a, (k0_off36 v260 k0_t3) a + S1x1.size a ≤ S2x7.size a := fun v260 k0_hw10 k0_t3 k0_h3 => k0_hw10.1.2.2.2.2.2.2.2.2.2.2.2.2.2.2.2.2.2.2.2.2.2.1 k0_t3 k0_h3
theorem k0_off37_inb : ∀ (v260 : BitVec 32) (k0_hw10 : k0_chk10 v260) (k0_t3 : Fin (k0_t3_loop v260).trips), ∀ (k0_h3 : k0_cond3 v260 k0_t3 = 1#1), ∀ a, (k0_off37 v260 k0_t3) a + S1x1024x1536.size a ≤ S2x7168x1536.size a := fun v260 k0_hw10 k0_t3 k0_h3 => k0_hw10.1.2.2.2.2.2.2.2.2.2.2.2.2.2.2.2.2.2.2.2.2.2.2.1 k0_t3 k0_h3
theorem k0_off37_wordsfp8e4m3 : ∀ (v260 : BitVec 32) (k0_hw10 : k0_chk10 v260) (k0_t3 : Fin (k0_t3_loop v260).trips), ∀ (k0_h3 : k0_cond3 v260 k0_t3 = 1#1), (Rect.unit (s := S2x7168x1536) (k0_off37 v260 k0_t3) S1x1024x1536.size (k0_off37_inb v260 k0_hw10 k0_t3 k0_h3)).WholeWords (EltTy.packing .fp8e4m3) := fun v260 k0_hw10 k0_t3 k0_h3 => k0_hw10.1.2.2.2.2.2.2.2.2.2.2.2.2.2.2.2.2.2.2.2.2.2.2.2.1 k0_t3 k0_h3 (k0_off37_inb v260 k0_hw10 k0_t3 k0_h3)
theorem k0_off39_inb : ∀ (v260 : BitVec 32) (k0_hw10 : k0_chk10 v260) (k0_t3 : Fin (k0_t3_loop v260).trips), ∀ a, (k0_off39 v260 k0_t3) a + S1x1.size a ≤ S2x7.size a := fun v260 k0_hw10 k0_t3 => k0_hw10.1.2.2.2.2.2.2.2.2.2.2.2.2.2.2.2.2.2.2.2.2.2.2.2.2.1 k0_t3
theorem k0_off40_inb : ∀ (v260 : BitVec 32) (k0_hw10 : k0_chk10 v260) (k0_t3 : Fin (k0_t3_loop v260).trips), ∀ a, (k0_off40 v260 k0_t3) a + S1x1024x1536.size a ≤ S2x7168x1536.size a := fun v260 k0_hw10 k0_t3 => k0_hw10.1.2.2.2.2.2.2.2.2.2.2.2.2.2.2.2.2.2.2.2.2.2.2.2.2.2.1 k0_t3
theorem k0_off40_wordsfp8e4m3 : ∀ (v260 : BitVec 32) (k0_hw10 : k0_chk10 v260) (k0_t3 : Fin (k0_t3_loop v260).trips), (Rect.unit (s := S2x7168x1536) (k0_off40 v260 k0_t3) S1x1024x1536.size (k0_off40_inb v260 k0_hw10 k0_t3)).WholeWords (EltTy.packing .fp8e4m3) := fun v260 k0_hw10 k0_t3 => k0_hw10.1.2.2.2.2.2.2.2.2.2.2.2.2.2.2.2.2.2.2.2.2.2.2.2.2.2.2.1 k0_t3 (k0_off40_inb v260 k0_hw10 k0_t3)
theorem k0_off41_inb : ∀ (v260 : BitVec 32) (k0_hw10 : k0_chk10 v260) (k0_t3 : Fin (k0_t3_loop v260).trips), ∀ a, (k0_off41 v260 k0_t3) a + S1x1024x1536.size a ≤ S2x7168x1536.size a := fun v260 k0_hw10 k0_t3 => k0_hw10.1.2.2.2.2.2.2.2.2.2.2.2.2.2.2.2.2.2.2.2.2.2.2.2.2.2.2.2.1 k0_t3
theorem k0_off42_inb : ∀ (v260 : BitVec 32) (k0_hw10 : k0_chk10 v260) (k0_t3 : Fin (k0_t3_loop v260).trips), ∀ (k0_h4 : k0_cond4 v260 k0_t3 = 1#1), ∀ a, (k0_off42 v260 k0_t3) a + S1x1.size a ≤ S2x7.size a := fun v260 k0_hw10 k0_t3 k0_h4 => k0_hw10.1.2.2.2.2.2.2.2.2.2.2.2.2.2.2.2.2.2.2.2.2.2.2.2.2.2.2.2.2.1 k0_t3 k0_h4
theorem k0_off43_inb : ∀ (v260 : BitVec 32) (k0_hw10 : k0_chk10 v260) (k0_t3 : Fin (k0_t3_loop v260).trips), ∀ (k0_h4 : k0_cond4 v260 k0_t3 = 1#1), ∀ a, (k0_off43 v260 k0_t3) a + S1x1024x1536.size a ≤ S2x7168x1536.size a := fun v260 k0_hw10 k0_t3 k0_h4 => k0_hw10.1.2.2.2.2.2.2.2.2.2.2.2.2.2.2.2.2.2.2.2.2.2.2.2.2.2.2.2.2.2.1 k0_t3 k0_h4
theorem k0_off43_wordsfp8e4m3 : ∀ (v260 : BitVec 32) (k0_hw10 : k0_chk10 v260) (k0_t3 : Fin (k0_t3_loop v260).trips), ∀ (k0_h4 : k0_cond4 v260 k0_t3 = 1#1), (Rect.unit (s := S2x7168x1536) (k0_off43 v260 k0_t3) S1x1024x1536.size (k0_off43_inb v260 k0_hw10 k0_t3 k0_h4)).WholeWords (EltTy.packing .fp8e4m3) := fun v260 k0_hw10 k0_t3 k0_h4 => k0_hw10.1.2.2.2.2.2.2.2.2.2.2.2.2.2.2.2.2.2.2.2.2.2.2.2.2.2.2.2.2.2.2.1 k0_t3 k0_h4 (k0_off43_inb v260 k0_hw10 k0_t3 k0_h4)
theorem k0_off45_inb : ∀ (v260 : BitVec 32) (k0_hw10 : k0_chk10 v260) (k0_t3 : Fin (k0_t3_loop v260).trips), ∀ a, (k0_off45 v260 k0_t3) a + S1x1.size a ≤ S2x7.size a := fun v260 k0_hw10 k0_t3 => k0_hw10.1.2.2.2.2.2.2.2.2.2.2.2.2.2.2.2.2.2.2.2.2.2.2.2.2.2.2.2.2.2.2.2 k0_t3
theorem k0_off46_inb : ∀ (v260 : BitVec 32) (k0_hw10 : k0_chk10 v260) (k0_t3 : Fin (k0_t3_loop v260).trips), ∀ a, (k0_off46 v260 k0_t3) a + S1x1024x1536.size a ≤ S2x7168x1536.size a := fun v260 k0_hw10 k0_t3 => k0_hw10.2.1.1 k0_t3
theorem k0_off46_wordsfp8e4m3 : ∀ (v260 : BitVec 32) (k0_hw10 : k0_chk10 v260) (k0_t3 : Fin (k0_t3_loop v260).trips), (Rect.unit (s := S2x7168x1536) (k0_off46 v260 k0_t3) S1x1024x1536.size (k0_off46_inb v260 k0_hw10 k0_t3)).WholeWords (EltTy.packing .fp8e4m3) := fun v260 k0_hw10 k0_t3 => k0_hw10.2.1.2.1 k0_t3 (k0_off46_inb v260 k0_hw10 k0_t3)
theorem k0_off47_inb : ∀ (v260 : BitVec 32) (k0_hw10 : k0_chk10 v260) (k0_t3 : Fin (k0_t3_loop v260).trips), ∀ a, (k0_off47 v260 k0_t3) a + S1x1024x1536.size a ≤ S2x7168x1536.size a := fun v260 k0_hw10 k0_t3 => k0_hw10.2.1.2.2.1 k0_t3
theorem k0_off48_inb : ∀ (v260 : BitVec 32) (k0_hw10 : k0_chk10 v260) (k0_t3 : Fin (k0_t3_loop v260).trips), ∀ (k0_h5 : k0_cond5 v260 k0_t3 = 1#1), ∀ a, (k0_off48 v260 k0_t3) a + S1x1.size a ≤ S2x7.size a := fun v260 k0_hw10 k0_t3 k0_h5 => k0_hw10.2.1.2.2.2.1 k0_t3 k0_h5
theorem k0_off49_inb : ∀ (v260 : BitVec 32) (k0_hw10 : k0_chk10 v260) (k0_t3 : Fin (k0_t3_loop v260).trips), ∀ (k0_h5 : k0_cond5 v260 k0_t3 = 1#1), ∀ a, (k0_off49 v260 k0_t3) a + S1x1024x1536.size a ≤ S2x7168x1536.size a := fun v260 k0_hw10 k0_t3 k0_h5 => k0_hw10.2.1.2.2.2.2.1 k0_t3 k0_h5
theorem k0_off49_wordsfp8e4m3 : ∀ (v260 : BitVec 32) (k0_hw10 : k0_chk10 v260) (k0_t3 : Fin (k0_t3_loop v260).trips), ∀ (k0_h5 : k0_cond5 v260 k0_t3 = 1#1), (Rect.unit (s := S2x7168x1536) (k0_off49 v260 k0_t3) S1x1024x1536.size (k0_off49_inb v260 k0_hw10 k0_t3 k0_h5)).WholeWords (EltTy.packing .fp8e4m3) := fun v260 k0_hw10 k0_t3 k0_h5 => k0_hw10.2.1.2.2.2.2.2.1 k0_t3 k0_h5 (k0_off49_inb v260 k0_hw10 k0_t3 k0_h5)
theorem k0_off51_inb : ∀ (v260 : BitVec 32) (k0_hw10 : k0_chk10 v260) (k0_t3 : Fin (k0_t3_loop v260).trips), ∀ a, (k0_off51 v260 k0_t3) a + S1x1.size a ≤ S2x7.size a := fun v260 k0_hw10 k0_t3 => k0_hw10.2.1.2.2.2.2.2.2.1 k0_t3
theorem k0_off52_inb : ∀ (v260 : BitVec 32) (k0_hw10 : k0_chk10 v260) (k0_t3 : Fin (k0_t3_loop v260).trips), ∀ a, (k0_off52 v260 k0_t3) a + S1x1024x1536.size a ≤ S2x7168x1536.size a := fun v260 k0_hw10 k0_t3 => k0_hw10.2.1.2.2.2.2.2.2.2.1 k0_t3
theorem k0_off52_wordsfp8e4m3 : ∀ (v260 : BitVec 32) (k0_hw10 : k0_chk10 v260) (k0_t3 : Fin (k0_t3_loop v260).trips), (Rect.unit (s := S2x7168x1536) (k0_off52 v260 k0_t3) S1x1024x1536.size (k0_off52_inb v260 k0_hw10 k0_t3)).WholeWords (EltTy.packing .fp8e4m3) := fun v260 k0_hw10 k0_t3 => k0_hw10.2.1.2.2.2.2.2.2.2.2.1 k0_t3 (k0_off52_inb v260 k0_hw10 k0_t3)
theorem k0_off53_inb : ∀ (v260 : BitVec 32) (k0_hw10 : k0_chk10 v260) (k0_t3 : Fin (k0_t3_loop v260).trips), ∀ a, (k0_off53 v260 k0_t3) a + S1x1024x1536.size a ≤ S2x7168x1536.size a := fun v260 k0_hw10 k0_t3 => k0_hw10.2.1.2.2.2.2.2.2.2.2.2.1 k0_t3
theorem k0_off54_inb : ∀ (v260 : BitVec 32) (k0_hw10 : k0_chk10 v260) (k0_t3 : Fin (k0_t3_loop v260).trips), ∀ (k0_h6 : k0_cond6 v260 k0_t3 = 1#1), ∀ a, (k0_off54 v260 k0_t3) a + S1x1.size a ≤ S2x7.size a := fun v260 k0_hw10 k0_t3 k0_h6 => k0_hw10.2.1.2.2.2.2.2.2.2.2.2.2.1 k0_t3 k0_h6
theorem k0_off55_inb : ∀ (v260 : BitVec 32) (k0_hw10 : k0_chk10 v260) (k0_t3 : Fin (k0_t3_loop v260).trips), ∀ (k0_h6 : k0_cond6 v260 k0_t3 = 1#1), ∀ a, (k0_off55 v260 k0_t3) a + S1x1024x1536.size a ≤ S2x7168x1536.size a := fun v260 k0_hw10 k0_t3 k0_h6 => k0_hw10.2.1.2.2.2.2.2.2.2.2.2.2.2.1 k0_t3 k0_h6
theorem k0_off55_wordsfp8e4m3 : ∀ (v260 : BitVec 32) (k0_hw10 : k0_chk10 v260) (k0_t3 : Fin (k0_t3_loop v260).trips), ∀ (k0_h6 : k0_cond6 v260 k0_t3 = 1#1), (Rect.unit (s := S2x7168x1536) (k0_off55 v260 k0_t3) S1x1024x1536.size (k0_off55_inb v260 k0_hw10 k0_t3 k0_h6)).WholeWords (EltTy.packing .fp8e4m3) := fun v260 k0_hw10 k0_t3 k0_h6 => k0_hw10.2.1.2.2.2.2.2.2.2.2.2.2.2.2.1 k0_t3 k0_h6 (k0_off55_inb v260 k0_hw10 k0_t3 k0_h6)
theorem k0_off57_inb : ∀ (v260 : BitVec 32) (k0_hw10 : k0_chk10 v260) (k0_t3 : Fin (k0_t3_loop v260).trips), ∀ a, (k0_off57 v260 k0_t3) a + S1x1.size a ≤ S2x7.size a := fun v260 k0_hw10 k0_t3 => k0_hw10.2.1.2.2.2.2.2.2.2.2.2.2.2.2.2.1 k0_t3
theorem k0_off58_inb : ∀ (v260 : BitVec 32) (k0_hw10 : k0_chk10 v260) (k0_t3 : Fin (k0_t3_loop v260).trips), ∀ a, (k0_off58 v260 k0_t3) a + S1x1024x1536.size a ≤ S2x7168x1536.size a := fun v260 k0_hw10 k0_t3 => k0_hw10.2.1.2.2.2.2.2.2.2.2.2.2.2.2.2.2.1 k0_t3
theorem k0_off58_wordsfp8e4m3 : ∀ (v260 : BitVec 32) (k0_hw10 : k0_chk10 v260) (k0_t3 : Fin (k0_t3_loop v260).trips), (Rect.unit (s := S2x7168x1536) (k0_off58 v260 k0_t3) S1x1024x1536.size (k0_off58_inb v260 k0_hw10 k0_t3)).WholeWords (EltTy.packing .fp8e4m3) := fun v260 k0_hw10 k0_t3 => k0_hw10.2.1.2.2.2.2.2.2.2.2.2.2.2.2.2.2.2.1 k0_t3 (k0_off58_inb v260 k0_hw10 k0_t3)
theorem k0_off59_inb : ∀ (v260 : BitVec 32) (k0_hw10 : k0_chk10 v260) (k0_t3 : Fin (k0_t3_loop v260).trips), ∀ a, (k0_off59 v260 k0_t3) a + S1x1024x1536.size a ≤ S2x7168x1536.size a := fun v260 k0_hw10 k0_t3 => k0_hw10.2.1.2.2.2.2.2.2.2.2.2.2.2.2.2.2.2.2.1 k0_t3
theorem k0_off60_inb : ∀ (v260 : BitVec 32) (k0_hw10 : k0_chk10 v260) (k0_t3 : Fin (k0_t3_loop v260).trips), ∀ (k0_h7 : k0_cond7 v260 k0_t3 = 1#1), ∀ a, (k0_off60 v260 k0_t3) a + S1x1.size a ≤ S2x7.size a := fun v260 k0_hw10 k0_t3 k0_h7 => k0_hw10.2.1.2.2.2.2.2.2.2.2.2.2.2.2.2.2.2.2.2.1 k0_t3 k0_h7
theorem k0_off61_inb : ∀ (v260 : BitVec 32) (k0_hw10 : k0_chk10 v260) (k0_t3 : Fin (k0_t3_loop v260).trips), ∀ (k0_h7 : k0_cond7 v260 k0_t3 = 1#1), ∀ a, (k0_off61 v260 k0_t3) a + S1x1024x1536.size a ≤ S2x7168x1536.size a := fun v260 k0_hw10 k0_t3 k0_h7 => k0_hw10.2.1.2.2.2.2.2.2.2.2.2.2.2.2.2.2.2.2.2.2.1 k0_t3 k0_h7
theorem k0_off61_wordsfp8e4m3 : ∀ (v260 : BitVec 32) (k0_hw10 : k0_chk10 v260) (k0_t3 : Fin (k0_t3_loop v260).trips), ∀ (k0_h7 : k0_cond7 v260 k0_t3 = 1#1), (Rect.unit (s := S2x7168x1536) (k0_off61 v260 k0_t3) S1x1024x1536.size (k0_off61_inb v260 k0_hw10 k0_t3 k0_h7)).WholeWords (EltTy.packing .fp8e4m3) := fun v260 k0_hw10 k0_t3 k0_h7 => k0_hw10.2.1.2.2.2.2.2.2.2.2.2.2.2.2.2.2.2.2.2.2.2.1 k0_t3 k0_h7 (k0_off61_inb v260 k0_hw10 k0_t3 k0_h7)
theorem k0_mult1_dvd : ∀ (v260 : BitVec 32) (k0_hw10 : k0_chk10 v260) (k0_t3 : Fin (k0_t3_loop v260).trips), 768 ∣ (k0_mult1 v260 k0_t3).toNat := fun v260 k0_hw10 k0_t3 => k0_hw10.2.1.2.2.2.2.2.2.2.2.2.2.2.2.2.2.2.2.2.2.2.2.1 k0_t3
theorem k0_off63_inb : ∀ (v260 : BitVec 32) (k0_hw10 : k0_chk10 v260) (k0_t3 : Fin (k0_t3_loop v260).trips), ∀ a, (k0_off63 v260 k0_t3) a + S1x768.size a ≤ S1x3072.size a := fun v260 k0_hw10 k0_t3 => k0_hw10.2.1.2.2.2.2.2.2.2.2.2.2.2.2.2.2.2.2.2.2.2.2.2.1 k0_t3
theorem k0_off65_inb : ∀ (v260 : BitVec 32) (k0_hw10 : k0_chk10 v260) (k0_t3 : Fin (k0_t3_loop v260).trips), ∀ a, (k0_off65 v260 k0_t3) a + S1x768.size a ≤ S1x3072.size a := fun v260 k0_hw10 k0_t3 => k0_hw10.2.1.2.2.2.2.2.2.2.2.2.2.2.2.2.2.2.2.2.2.2.2.2.2.1 k0_t3
theorem k0_off67_inb : ∀ (v260 : BitVec 32) (k0_hw10 : k0_chk10 v260) (k0_t3 : Fin (k0_t3_loop v260).trips), ∀ a, (k0_off67 v260 k0_t3) a + S1x1.size a ≤ S2x7.size a := fun v260 k0_hw10 k0_t3 => k0_hw10.2.1.2.2.2.2.2.2.2.2.2.2.2.2.2.2.2.2.2.2.2.2.2.2.2.1 k0_t3
theorem k0_off68_inb : ∀ (v260 : BitVec 32) (k0_hw10 : k0_chk10 v260) (k0_t3 : Fin (k0_t3_loop v260).trips), ∀ a, (k0_off68 v260 k0_t3) a + S1x768x1024.size a ≤ S2x768x7168.size a := fun v260 k0_hw10 k0_t3 => k0_hw10.2.1.2.2.2.2.2.2.2.2.2.2.2.2.2.2.2.2.2.2.2.2.2.2.2.2.1 k0_t3
theorem k0_off68_wordsfp8e4m3 : ∀ (v260 : BitVec 32) (k0_hw10 : k0_chk10 v260) (k0_t3 : Fin (k0_t3_loop v260).trips), (Rect.unit (s := S2x768x7168) (k0_off68 v260 k0_t3) S1x768x1024.size (k0_off68_inb v260 k0_hw10 k0_t3)).WholeWords (EltTy.packing .fp8e4m3) := fun v260 k0_hw10 k0_t3 => k0_hw10.2.1.2.2.2.2.2.2.2.2.2.2.2.2.2.2.2.2.2.2.2.2.2.2.2.2.2.1 k0_t3 (k0_off68_inb v260 k0_hw10 k0_t3)
theorem k0_off69_inb : ∀ (v260 : BitVec 32) (k0_hw10 : k0_chk10 v260) (k0_t3 : Fin (k0_t3_loop v260).trips), ∀ a, (k0_off69 v260 k0_t3) a + S1x768x1024.size a ≤ S2x768x7168.size a := fun v260 k0_hw10 k0_t3 => k0_hw10.2.1.2.2.2.2.2.2.2.2.2.2.2.2.2.2.2.2.2.2.2.2.2.2.2.2.2.2.1 k0_t3
theorem k0_off71_inb : ∀ (v260 : BitVec 32) (k0_hw10 : k0_chk10 v260) (k0_t3 : Fin (k0_t3_loop v260).trips), ∀ (k0_h8 : k0_cond8 v260 k0_t3 = 1#1), ∀ a, (k0_off71 v260 k0_t3) a + S1x1.size a ≤ S2x7.size a := fun v260 k0_hw10 k0_t3 k0_h8 => k0_hw10.2.1.2.2.2.2.2.2.2.2.2.2.2.2.2.2.2.2.2.2.2.2.2.2.2.2.2.2.2.1 k0_t3 k0_h8
theorem k0_off72_inb : ∀ (v260 : BitVec 32) (k0_hw10 : k0_chk10 v260) (k0_t3 : Fin (k0_t3_loop v260).trips), ∀ (k0_h8 : k0_cond8 v260 k0_t3 = 1#1), ∀ a, (k0_off72 v260 k0_t3) a + S1x768x1024.size a ≤ S2x768x7168.size a := fun v260 k0_hw10 k0_t3 k0_h8 => k0_hw10.2.1.2.2.2.2.2.2.2.2.2.2.2.2.2.2.2.2.2.2.2.2.2.2.2.2.2.2.2.2.1 k0_t3 k0_h8
theorem k0_off72_wordsfp8e4m3 : ∀ (v260 : BitVec 32) (k0_hw10 : k0_chk10 v260) (k0_t3 : Fin (k0_t3_loop v260).trips), ∀ (k0_h8 : k0_cond8 v260 k0_t3 = 1#1), (Rect.unit (s := S2x768x7168) (k0_off72 v260 k0_t3) S1x768x1024.size (k0_off72_inb v260 k0_hw10 k0_t3 k0_h8)).WholeWords (EltTy.packing .fp8e4m3) := fun v260 k0_hw10 k0_t3 k0_h8 => k0_hw10.2.1.2.2.2.2.2.2.2.2.2.2.2.2.2.2.2.2.2.2.2.2.2.2.2.2.2.2.2.2.2.1 k0_t3 k0_h8 (k0_off72_inb v260 k0_hw10 k0_t3 k0_h8)
theorem k0_off74_inb : ∀ (v260 : BitVec 32) (k0_hw10 : k0_chk10 v260) (k0_t3 : Fin (k0_t3_loop v260).trips), ∀ a, (k0_off74 v260 k0_t3) a + S1x1.size a ≤ S2x7.size a := fun v260 k0_hw10 k0_t3 => k0_hw10.2.1.2.2.2.2.2.2.2.2.2.2.2.2.2.2.2.2.2.2.2.2.2.2.2.2.2.2.2.2.2.2.1 k0_t3
theorem k0_off75_inb : ∀ (v260 : BitVec 32) (k0_hw10 : k0_chk10 v260) (k0_t3 : Fin (k0_t3_loop v260).trips), ∀ a, (k0_off75 v260 k0_t3) a + S1x768x1024.size a ≤ S2x768x7168.size a := fun v260 k0_hw10 k0_t3 => k0_hw10.2.1.2.2.2.2.2.2.2.2.2.2.2.2.2.2.2.2.2.2.2.2.2.2.2.2.2.2.2.2.2.2.2 k0_t3
theorem k0_off75_wordsfp8e4m3 : ∀ (v260 : BitVec 32) (k0_hw10 : k0_chk10 v260) (k0_t3 : Fin (k0_t3_loop v260).trips), (Rect.unit (s := S2x768x7168) (k0_off75 v260 k0_t3) S1x768x1024.size (k0_off75_inb v260 k0_hw10 k0_t3)).WholeWords (EltTy.packing .fp8e4m3) := fun v260 k0_hw10 k0_t3 => k0_hw10.2.2.1.1 k0_t3 (k0_off75_inb v260 k0_hw10 k0_t3)
theorem k0_off76_inb : ∀ (v260 : BitVec 32) (k0_hw10 : k0_chk10 v260) (k0_t3 : Fin (k0_t3_loop v260).trips), ∀ a, (k0_off76 v260 k0_t3) a + S1x768x1024.size a ≤ S2x768x7168.size a := fun v260 k0_hw10 k0_t3 => k0_hw10.2.2.1.2.1 k0_t3
theorem k0_off78_inb : ∀ (v260 : BitVec 32) (k0_hw10 : k0_chk10 v260) (k0_t3 : Fin (k0_t3_loop v260).trips), ∀ (k0_h9 : k0_cond9 v260 k0_t3 = 1#1), ∀ a, (k0_off78 v260 k0_t3) a + S1x1.size a ≤ S2x7.size a := fun v260 k0_hw10 k0_t3 k0_h9 => k0_hw10.2.2.1.2.2.1 k0_t3 k0_h9
theorem k0_off79_inb : ∀ (v260 : BitVec 32) (k0_hw10 : k0_chk10 v260) (k0_t3 : Fin (k0_t3_loop v260).trips), ∀ (k0_h9 : k0_cond9 v260 k0_t3 = 1#1), ∀ a, (k0_off79 v260 k0_t3) a + S1x768x1024.size a ≤ S2x768x7168.size a := fun v260 k0_hw10 k0_t3 k0_h9 => k0_hw10.2.2.1.2.2.2.1 k0_t3 k0_h9
theorem k0_off79_wordsfp8e4m3 : ∀ (v260 : BitVec 32) (k0_hw10 : k0_chk10 v260) (k0_t3 : Fin (k0_t3_loop v260).trips), ∀ (k0_h9 : k0_cond9 v260 k0_t3 = 1#1), (Rect.unit (s := S2x768x7168) (k0_off79 v260 k0_t3) S1x768x1024.size (k0_off79_inb v260 k0_hw10 k0_t3 k0_h9)).WholeWords (EltTy.packing .fp8e4m3) := fun v260 k0_hw10 k0_t3 k0_h9 => k0_hw10.2.2.1.2.2.2.2.1 k0_t3 k0_h9 (k0_off79_inb v260 k0_hw10 k0_t3 k0_h9)
theorem k0_off81_inb : ∀ (v260 : BitVec 32) (k0_hw10 : k0_chk10 v260) (k0_t3 : Fin (k0_t3_loop v260).trips), ∀ a, (k0_off81 v260 k0_t3) a + S1x1.size a ≤ S2x7.size a := fun v260 k0_hw10 k0_t3 => k0_hw10.2.2.1.2.2.2.2.2.1 k0_t3
theorem k0_off82_inb : ∀ (v260 : BitVec 32) (k0_hw10 : k0_chk10 v260) (k0_t3 : Fin (k0_t3_loop v260).trips), ∀ a, (k0_off82 v260 k0_t3) a + S1x768x1024.size a ≤ S2x768x7168.size a := fun v260 k0_hw10 k0_t3 => k0_hw10.2.2.1.2.2.2.2.2.2.1 k0_t3
theorem k0_off82_wordsfp8e4m3 : ∀ (v260 : BitVec 32) (k0_hw10 : k0_chk10 v260) (k0_t3 : Fin (k0_t3_loop v260).trips), (Rect.unit (s := S2x768x7168) (k0_off82 v260 k0_t3) S1x768x1024.size (k0_off82_inb v260 k0_hw10 k0_t3)).WholeWords (EltTy.packing .fp8e4m3) := fun v260 k0_hw10 k0_t3 => k0_hw10.2.2.1.2.2.2.2.2.2.2.1 k0_t3 (k0_off82_inb v260 k0_hw10 k0_t3)
theorem k0_off83_inb : ∀ (v260 : BitVec 32) (k0_hw10 : k0_chk10 v260) (k0_t3 : Fin (k0_t3_loop v260).trips), ∀ a, (k0_off83 v260 k0_t3) a + S1x768x1024.size a ≤ S2x768x7168.size a := fun v260 k0_hw10 k0_t3 => k0_hw10.2.2.1.2.2.2.2.2.2.2.2.1 k0_t3
theorem k0_off85_inb : ∀ (v260 : BitVec 32) (k0_hw10 : k0_chk10 v260) (k0_t3 : Fin (k0_t3_loop v260).trips), ∀ (k0_h10 : k0_cond10 v260 k0_t3 = 1#1), ∀ a, (k0_off85 v260 k0_t3) a + S1x1.size a ≤ S2x7.size a := fun v260 k0_hw10 k0_t3 k0_h10 => k0_hw10.2.2.1.2.2.2.2.2.2.2.2.2.1 k0_t3 k0_h10
theorem k0_off86_inb : ∀ (v260 : BitVec 32) (k0_hw10 : k0_chk10 v260) (k0_t3 : Fin (k0_t3_loop v260).trips), ∀ (k0_h10 : k0_cond10 v260 k0_t3 = 1#1), ∀ a, (k0_off86 v260 k0_t3) a + S1x768x1024.size a ≤ S2x768x7168.size a := fun v260 k0_hw10 k0_t3 k0_h10 => k0_hw10.2.2.1.2.2.2.2.2.2.2.2.2.2.1 k0_t3 k0_h10
theorem k0_off86_wordsfp8e4m3 : ∀ (v260 : BitVec 32) (k0_hw10 : k0_chk10 v260) (k0_t3 : Fin (k0_t3_loop v260).trips), ∀ (k0_h10 : k0_cond10 v260 k0_t3 = 1#1), (Rect.unit (s := S2x768x7168) (k0_off86 v260 k0_t3) S1x768x1024.size (k0_off86_inb v260 k0_hw10 k0_t3 k0_h10)).WholeWords (EltTy.packing .fp8e4m3) := fun v260 k0_hw10 k0_t3 k0_h10 => k0_hw10.2.2.1.2.2.2.2.2.2.2.2.2.2.2.1 k0_t3 k0_h10 (k0_off86_inb v260 k0_hw10 k0_t3 k0_h10)
theorem k0_off88_inb : ∀ (v260 : BitVec 32) (k0_hw10 : k0_chk10 v260) (k0_t3 : Fin (k0_t3_loop v260).trips), ∀ a, (k0_off88 v260 k0_t3) a + S1x1.size a ≤ S2x7.size a := fun v260 k0_hw10 k0_t3 => k0_hw10.2.2.1.2.2.2.2.2.2.2.2.2.2.2.2.1 k0_t3
theorem k0_off89_inb : ∀ (v260 : BitVec 32) (k0_hw10 : k0_chk10 v260) (k0_t3 : Fin (k0_t3_loop v260).trips), ∀ a, (k0_off89 v260 k0_t3) a + S1x768x1024.size a ≤ S2x768x7168.size a := fun v260 k0_hw10 k0_t3 => k0_hw10.2.2.1.2.2.2.2.2.2.2.2.2.2.2.2.2.1 k0_t3
theorem k0_off89_wordsfp8e4m3 : ∀ (v260 : BitVec 32) (k0_hw10 : k0_chk10 v260) (k0_t3 : Fin (k0_t3_loop v260).trips), (Rect.unit (s := S2x768x7168) (k0_off89 v260 k0_t3) S1x768x1024.size (k0_off89_inb v260 k0_hw10 k0_t3)).WholeWords (EltTy.packing .fp8e4m3) := fun v260 k0_hw10 k0_t3 => k0_hw10.2.2.1.2.2.2.2.2.2.2.2.2.2.2.2.2.2.1 k0_t3 (k0_off89_inb v260 k0_hw10 k0_t3)
theorem k0_off90_inb : ∀ (v260 : BitVec 32) (k0_hw10 : k0_chk10 v260) (k0_t3 : Fin (k0_t3_loop v260).trips), ∀ a, (k0_off90 v260 k0_t3) a + S1x768x1024.size a ≤ S2x768x7168.size a := fun v260 k0_hw10 k0_t3 => k0_hw10.2.2.1.2.2.2.2.2.2.2.2.2.2.2.2.2.2.2.1 k0_t3
theorem k0_off92_inb : ∀ (v260 : BitVec 32) (k0_hw10 : k0_chk10 v260) (k0_t3 : Fin (k0_t3_loop v260).trips), ∀ (k0_h11 : k0_cond11 v260 k0_t3 = 1#1), ∀ a, (k0_off92 v260 k0_t3) a + S1x1.size a ≤ S2x7.size a := fun v260 k0_hw10 k0_t3 k0_h11 => k0_hw10.2.2.1.2.2.2.2.2.2.2.2.2.2.2.2.2.2.2.2.1 k0_t3 k0_h11
theorem k0_off93_inb : ∀ (v260 : BitVec 32) (k0_hw10 : k0_chk10 v260) (k0_t3 : Fin (k0_t3_loop v260).trips), ∀ (k0_h11 : k0_cond11 v260 k0_t3 = 1#1), ∀ a, (k0_off93 v260 k0_t3) a + S1x768x1024.size a ≤ S2x768x7168.size a := fun v260 k0_hw10 k0_t3 k0_h11 => k0_hw10.2.2.1.2.2.2.2.2.2.2.2.2.2.2.2.2.2.2.2.2.1 k0_t3 k0_h11
theorem k0_off93_wordsfp8e4m3 : ∀ (v260 : BitVec 32) (k0_hw10 : k0_chk10 v260) (k0_t3 : Fin (k0_t3_loop v260).trips), ∀ (k0_h11 : k0_cond11 v260 k0_t3 = 1#1), (Rect.unit (s := S2x768x7168) (k0_off93 v260 k0_t3) S1x768x1024.size (k0_off93_inb v260 k0_hw10 k0_t3 k0_h11)).WholeWords (EltTy.packing .fp8e4m3) := fun v260 k0_hw10 k0_t3 k0_h11 => k0_hw10.2.2.1.2.2.2.2.2.2.2.2.2.2.2.2.2.2.2.2.2.2.1 k0_t3 k0_h11 (k0_off93_inb v260 k0_hw10 k0_t3 k0_h11)
theorem k0_off95_inb : ∀ (v260 : BitVec 32) (k0_hw10 : k0_chk10 v260) (k0_t3 : Fin (k0_t3_loop v260).trips), ∀ a, (k0_off95 v260 k0_t3) a + S1x1.size a ≤ S2x7.size a := fun v260 k0_hw10 k0_t3 => k0_hw10.2.2.1.2.2.2.2.2.2.2.2.2.2.2.2.2.2.2.2.2.2.2.1 k0_t3
theorem k0_off96_inb : ∀ (v260 : BitVec 32) (k0_hw10 : k0_chk10 v260) (k0_t3 : Fin (k0_t3_loop v260).trips), ∀ a, (k0_off96 v260 k0_t3) a + S1x768x1024.size a ≤ S2x768x7168.size a := fun v260 k0_hw10 k0_t3 => k0_hw10.2.2.1.2.2.2.2.2.2.2.2.2.2.2.2.2.2.2.2.2.2.2.2.1 k0_t3
theorem k0_off96_wordsfp8e4m3 : ∀ (v260 : BitVec 32) (k0_hw10 : k0_chk10 v260) (k0_t3 : Fin (k0_t3_loop v260).trips), (Rect.unit (s := S2x768x7168) (k0_off96 v260 k0_t3) S1x768x1024.size (k0_off96_inb v260 k0_hw10 k0_t3)).WholeWords (EltTy.packing .fp8e4m3) := fun v260 k0_hw10 k0_t3 => k0_hw10.2.2.1.2.2.2.2.2.2.2.2.2.2.2.2.2.2.2.2.2.2.2.2.2.1 k0_t3 (k0_off96_inb v260 k0_hw10 k0_t3)
theorem k0_off97_inb : ∀ (v260 : BitVec 32) (k0_hw10 : k0_chk10 v260) (k0_t3 : Fin (k0_t3_loop v260).trips), ∀ a, (k0_off97 v260 k0_t3) a + S1x768x1024.size a ≤ S2x768x7168.size a := fun v260 k0_hw10 k0_t3 => k0_hw10.2.2.1.2.2.2.2.2.2.2.2.2.2.2.2.2.2.2.2.2.2.2.2.2.2.1 k0_t3
theorem k0_off99_inb : ∀ (v260 : BitVec 32) (k0_hw10 : k0_chk10 v260) (k0_t3 : Fin (k0_t3_loop v260).trips), ∀ (k0_h12 : k0_cond12 v260 k0_t3 = 1#1), ∀ a, (k0_off99 v260 k0_t3) a + S1x1.size a ≤ S2x7.size a := fun v260 k0_hw10 k0_t3 k0_h12 => k0_hw10.2.2.1.2.2.2.2.2.2.2.2.2.2.2.2.2.2.2.2.2.2.2.2.2.2.2.1 k0_t3 k0_h12
theorem k0_off100_inb : ∀ (v260 : BitVec 32) (k0_hw10 : k0_chk10 v260) (k0_t3 : Fin (k0_t3_loop v260).trips), ∀ (k0_h12 : k0_cond12 v260 k0_t3 = 1#1), ∀ a, (k0_off100 v260 k0_t3) a + S1x768x1024.size a ≤ S2x768x7168.size a := fun v260 k0_hw10 k0_t3 k0_h12 => k0_hw10.2.2.1.2.2.2.2.2.2.2.2.2.2.2.2.2.2.2.2.2.2.2.2.2.2.2.2.1 k0_t3 k0_h12
theorem k0_off100_wordsfp8e4m3 : ∀ (v260 : BitVec 32) (k0_hw10 : k0_chk10 v260) (k0_t3 : Fin (k0_t3_loop v260).trips), ∀ (k0_h12 : k0_cond12 v260 k0_t3 = 1#1), (Rect.unit (s := S2x768x7168) (k0_off100 v260 k0_t3) S1x768x1024.size (k0_off100_inb v260 k0_hw10 k0_t3 k0_h12)).WholeWords (EltTy.packing .fp8e4m3) := fun v260 k0_hw10 k0_t3 k0_h12 => k0_hw10.2.2.1.2.2.2.2.2.2.2.2.2.2.2.2.2.2.2.2.2.2.2.2.2.2.2.2.2.1 k0_t3 k0_h12 (k0_off100_inb v260 k0_hw10 k0_t3 k0_h12)
theorem k0_off102_inb : ∀ (v260 : BitVec 32) (k0_hw10 : k0_chk10 v260) (k0_t3 : Fin (k0_t3_loop v260).trips), ∀ a, (k0_off102 v260 k0_t3) a + S1x1.size a ≤ S2x7.size a := fun v260 k0_hw10 k0_t3 => k0_hw10.2.2.1.2.2.2.2.2.2.2.2.2.2.2.2.2.2.2.2.2.2.2.2.2.2.2.2.2.2.1 k0_t3
theorem k0_off103_inb : ∀ (v260 : BitVec 32) (k0_hw10 : k0_chk10 v260) (k0_t3 : Fin (k0_t3_loop v260).trips), ∀ a, (k0_off103 v260 k0_t3) a + S1x768x1024.size a ≤ S2x768x7168.size a := fun v260 k0_hw10 k0_t3 => k0_hw10.2.2.1.2.2.2.2.2.2.2.2.2.2.2.2.2.2.2.2.2.2.2.2.2.2.2.2.2.2.2.1 k0_t3
theorem k0_off103_wordsfp8e4m3 : ∀ (v260 : BitVec 32) (k0_hw10 : k0_chk10 v260) (k0_t3 : Fin (k0_t3_loop v260).trips), (Rect.unit (s := S2x768x7168) (k0_off103 v260 k0_t3) S1x768x1024.size (k0_off103_inb v260 k0_hw10 k0_t3)).WholeWords (EltTy.packing .fp8e4m3) := fun v260 k0_hw10 k0_t3 => k0_hw10.2.2.1.2.2.2.2.2.2.2.2.2.2.2.2.2.2.2.2.2.2.2.2.2.2.2.2.2.2.2.2.1 k0_t3 (k0_off103_inb v260 k0_hw10 k0_t3)
theorem k0_off104_inb : ∀ (v260 : BitVec 32) (k0_hw10 : k0_chk10 v260) (k0_t3 : Fin (k0_t3_loop v260).trips), ∀ a, (k0_off104 v260 k0_t3) a + S1x768x1024.size a ≤ S2x768x7168.size a := fun v260 k0_hw10 k0_t3 => k0_hw10.2.2.1.2.2.2.2.2.2.2.2.2.2.2.2.2.2.2.2.2.2.2.2.2.2.2.2.2.2.2.2.2.1 k0_t3
theorem k0_off106_inb : ∀ (v260 : BitVec 32) (k0_hw10 : k0_chk10 v260) (k0_t3 : Fin (k0_t3_loop v260).trips), ∀ (k0_h13 : k0_cond13 v260 k0_t3 = 1#1), ∀ a, (k0_off106 v260 k0_t3) a + S1x1.size a ≤ S2x7.size a := fun v260 k0_hw10 k0_t3 k0_h13 => k0_hw10.2.2.1.2.2.2.2.2.2.2.2.2.2.2.2.2.2.2.2.2.2.2.2.2.2.2.2.2.2.2.2.2.2.1 k0_t3 k0_h13
theorem k0_off107_inb : ∀ (v260 : BitVec 32) (k0_hw10 : k0_chk10 v260) (k0_t3 : Fin (k0_t3_loop v260).trips), ∀ (k0_h13 : k0_cond13 v260 k0_t3 = 1#1), ∀ a, (k0_off107 v260 k0_t3) a + S1x768x1024.size a ≤ S2x768x7168.size a := fun v260 k0_hw10 k0_t3 k0_h13 => k0_hw10.2.2.1.2.2.2.2.2.2.2.2.2.2.2.2.2.2.2.2.2.2.2.2.2.2.2.2.2.2.2.2.2.2.2 k0_t3 k0_h13
theorem k0_off107_wordsfp8e4m3 : ∀ (v260 : BitVec 32) (k0_hw10 : k0_chk10 v260) (k0_t3 : Fin (k0_t3_loop v260).trips), ∀ (k0_h13 : k0_cond13 v260 k0_t3 = 1#1), (Rect.unit (s := S2x768x7168) (k0_off107 v260 k0_t3) S1x768x1024.size (k0_off107_inb v260 k0_hw10 k0_t3 k0_h13)).WholeWords (EltTy.packing .fp8e4m3) := fun v260 k0_hw10 k0_t3 k0_h13 => k0_hw10.2.2.2.1.1 k0_t3 k0_h13 (k0_off107_inb v260 k0_hw10 k0_t3 k0_h13)
theorem k0_off109_inb : ∀ (v260 : BitVec 32) (k0_hw10 : k0_chk10 v260) (k0_t3 : Fin (k0_t3_loop v260).trips), ∀ a, (k0_off109 v260 k0_t3) a + S1x1.size a ≤ S2x7.size a := fun v260 k0_hw10 k0_t3 => k0_hw10.2.2.2.1.2.1 k0_t3
theorem k0_off110_inb : ∀ (v260 : BitVec 32) (k0_hw10 : k0_chk10 v260) (k0_t3 : Fin (k0_t3_loop v260).trips), ∀ a, (k0_off110 v260 k0_t3) a + S1x768x1024.size a ≤ S2x768x7168.size a := fun v260 k0_hw10 k0_t3 => k0_hw10.2.2.2.1.2.2.1 k0_t3
theorem k0_off110_wordsfp8e4m3 : ∀ (v260 : BitVec 32) (k0_hw10 : k0_chk10 v260) (k0_t3 : Fin (k0_t3_loop v260).trips), (Rect.unit (s := S2x768x7168) (k0_off110 v260 k0_t3) S1x768x1024.size (k0_off110_inb v260 k0_hw10 k0_t3)).WholeWords (EltTy.packing .fp8e4m3) := fun v260 k0_hw10 k0_t3 => k0_hw10.2.2.2.1.2.2.2.1 k0_t3 (k0_off110_inb v260 k0_hw10 k0_t3)
theorem k0_off111_inb : ∀ (v260 : BitVec 32) (k0_hw10 : k0_chk10 v260) (k0_t3 : Fin (k0_t3_loop v260).trips), ∀ a, (k0_off111 v260 k0_t3) a + S1x768x1024.size a ≤ S2x768x7168.size a := fun v260 k0_hw10 k0_t3 => k0_hw10.2.2.2.1.2.2.2.2.1 k0_t3
theorem k0_off113_inb : ∀ (v260 : BitVec 32) (k0_hw10 : k0_chk10 v260) (k0_t3 : Fin (k0_t3_loop v260).trips), ∀ (k0_h14 : k0_cond14 v260 k0_t3 = 1#1), ∀ a, (k0_off113 v260 k0_t3) a + S1x1.size a ≤ S2x7.size a := fun v260 k0_hw10 k0_t3 k0_h14 => k0_hw10.2.2.2.1.2.2.2.2.2.1 k0_t3 k0_h14
theorem k0_off114_inb : ∀ (v260 : BitVec 32) (k0_hw10 : k0_chk10 v260) (k0_t3 : Fin (k0_t3_loop v260).trips), ∀ (k0_h14 : k0_cond14 v260 k0_t3 = 1#1), ∀ a, (k0_off114 v260 k0_t3) a + S1x768x1024.size a ≤ S2x768x7168.size a := fun v260 k0_hw10 k0_t3 k0_h14 => k0_hw10.2.2.2.1.2.2.2.2.2.2.1 k0_t3 k0_h14
theorem k0_off114_wordsfp8e4m3 : ∀ (v260 : BitVec 32) (k0_hw10 : k0_chk10 v260) (k0_t3 : Fin (k0_t3_loop v260).trips), ∀ (k0_h14 : k0_cond14 v260 k0_t3 = 1#1), (Rect.unit (s := S2x768x7168) (k0_off114 v260 k0_t3) S1x768x1024.size (k0_off114_inb v260 k0_hw10 k0_t3 k0_h14)).WholeWords (EltTy.packing .fp8e4m3) := fun v260 k0_hw10 k0_t3 k0_h14 => k0_hw10.2.2.2.1.2.2.2.2.2.2.2.1 k0_t3 k0_h14 (k0_off114_inb v260 k0_hw10 k0_t3 k0_h14)
theorem k0_t4_ok : ∀ (v260 : BitVec 32) (k0_hw10 : k0_chk10 v260), (k0_t4_loop v260).OK := fun v260 k0_hw10 => k0_hw10.2.2.2.1.2.2.2.2.2.2.2.2.1
theorem k0_off116_inb : ∀ (v260 : BitVec 32) (k0_hw10 : k0_chk10 v260) (k0_t4 : Fin (k0_t4_loop v260).trips), ∀ a, (k0_off116 v260 k0_t4) a + S1.size a ≤ S32.size a := fun v260 k0_hw10 k0_t4 => k0_hw10.2.2.2.1.2.2.2.2.2.2.2.2.2.1 k0_t4
theorem k0_off117_inb : ∀ (v260 : BitVec 32) (k0_hw10 : k0_chk10 v260) (k0_t4 : Fin (k0_t4_loop v260).trips), ∀ a, (k0_off117 v260 k0_t4) a + S1.size a ≤ S32.size a := fun v260 k0_hw10 k0_t4 => k0_hw10.2.2.2.1.2.2.2.2.2.2.2.2.2.2.1 k0_t4
theorem k0_off118_inb : ∀ (v260 : BitVec 32) (k0_hw10 : k0_chk10 v260) (k0_t4 : Fin (k0_t4_loop v260).trips), ∀ a, (k0_off118 v260 k0_t4) a + S1x1.size a ≤ S2x7.size a := fun v260 k0_hw10 k0_t4 => k0_hw10.2.2.2.1.2.2.2.2.2.2.2.2.2.2.2.1 k0_t4
theorem k0_off119_inb : ∀ (v260 : BitVec 32) (k0_hw10 : k0_chk10 v260) (k0_t4 : Fin (k0_t4_loop v260).trips), ∀ a, (k0_off119 v260 k0_t4) a + S1x1024x1536.size a ≤ S2x7168x1536.size a := fun v260 k0_hw10 k0_t4 => k0_hw10.2.2.2.1.2.2.2.2.2.2.2.2.2.2.2.2.1 k0_t4
theorem k0_off119_wordsfp8e4m3 : ∀ (v260 : BitVec 32) (k0_hw10 : k0_chk10 v260) (k0_t4 : Fin (k0_t4_loop v260).trips), (Rect.unit (s := S2x7168x1536) (k0_off119 v260 k0_t4) S1x1024x1536.size (k0_off119_inb v260 k0_hw10 k0_t4)).WholeWords (EltTy.packing .fp8e4m3) := fun v260 k0_hw10 k0_t4 => k0_hw10.2.2.2.1.2.2.2.2.2.2.2.2.2.2.2.2.2.1 k0_t4 (k0_off119_inb v260 k0_hw10 k0_t4)
theorem k0_off120_inb : ∀ (v260 : BitVec 32) (k0_hw10 : k0_chk10 v260) (k0_t4 : Fin (k0_t4_loop v260).trips), ∀ a, (k0_off120 v260 k0_t4) a + S1x1024x1536.size a ≤ S2x7168x1536.size a := fun v260 k0_hw10 k0_t4 => k0_hw10.2.2.2.1.2.2.2.2.2.2.2.2.2.2.2.2.2.2.1 k0_t4
theorem k0_off121_inb : ∀ (v260 : BitVec 32) (k0_hw10 : k0_chk10 v260) (k0_t4 : Fin (k0_t4_loop v260).trips), ∀ (k0_h15 : k0_cond15 v260 k0_t4 = 1#1), ∀ a, (k0_off121 v260 k0_t4) a + S1x1.size a ≤ S2x7.size a := fun v260 k0_hw10 k0_t4 k0_h15 => k0_hw10.2.2.2.1.2.2.2.2.2.2.2.2.2.2.2.2.2.2.2.1 k0_t4 k0_h15
theorem k0_off122_inb : ∀ (v260 : BitVec 32) (k0_hw10 : k0_chk10 v260) (k0_t4 : Fin (k0_t4_loop v260).trips), ∀ (k0_h15 : k0_cond15 v260 k0_t4 = 1#1), ∀ a, (k0_off122 v260 k0_t4) a + S1x1024x1536.size a ≤ S2x7168x1536.size a := fun v260 k0_hw10 k0_t4 k0_h15 => k0_hw10.2.2.2.1.2.2.2.2.2.2.2.2.2.2.2.2.2.2.2.2.1 k0_t4 k0_h15
theorem k0_off122_wordsfp8e4m3 : ∀ (v260 : BitVec 32) (k0_hw10 : k0_chk10 v260) (k0_t4 : Fin (k0_t4_loop v260).trips), ∀ (k0_h15 : k0_cond15 v260 k0_t4 = 1#1), (Rect.unit (s := S2x7168x1536) (k0_off122 v260 k0_t4) S1x1024x1536.size (k0_off122_inb v260 k0_hw10 k0_t4 k0_h15)).WholeWords (EltTy.packing .fp8e4m3) := fun v260 k0_hw10 k0_t4 k0_h15 => k0_hw10.2.2.2.1.2.2.2.2.2.2.2.2.2.2.2.2.2.2.2.2.2.1 k0_t4 k0_h15 (k0_off122_inb v260 k0_hw10 k0_t4 k0_h15)
theorem k0_off124_inb : ∀ (v260 : BitVec 32) (k0_hw10 : k0_chk10 v260) (k0_t4 : Fin (k0_t4_loop v260).trips), ∀ a, (k0_off124 v260 k0_t4) a + S1x1.size a ≤ S2x7.size a := fun v260 k0_hw10 k0_t4 => k0_hw10.2.2.2.1.2.2.2.2.2.2.2.2.2.2.2.2.2.2.2.2.2.2.1 k0_t4
theorem k0_off125_inb : ∀ (v260 : BitVec 32) (k0_hw10 : k0_chk10 v260) (k0_t4 : Fin (k0_t4_loop v260).trips), ∀ a, (k0_off125 v260 k0_t4) a + S1x1024x1536.size a ≤ S2x7168x1536.size a := fun v260 k0_hw10 k0_t4 => k0_hw10.2.2.2.1.2.2.2.2.2.2.2.2.2.2.2.2.2.2.2.2.2.2.2.1 k0_t4
theorem k0_off125_wordsfp8e4m3 : ∀ (v260 : BitVec 32) (k0_hw10 : k0_chk10 v260) (k0_t4 : Fin (k0_t4_loop v260).trips), (Rect.unit (s := S2x7168x1536) (k0_off125 v260 k0_t4) S1x1024x1536.size (k0_off125_inb v260 k0_hw10 k0_t4)).WholeWords (EltTy.packing .fp8e4m3) := fun v260 k0_hw10 k0_t4 => k0_hw10.2.2.2.1.2.2.2.2.2.2.2.2.2.2.2.2.2.2.2.2.2.2.2.2.1 k0_t4 (k0_off125_inb v260 k0_hw10 k0_t4)
theorem k0_off126_inb : ∀ (v260 : BitVec 32) (k0_hw10 : k0_chk10 v260) (k0_t4 : Fin (k0_t4_loop v260).trips), ∀ a, (k0_off126 v260 k0_t4) a + S1x1024x1536.size a ≤ S2x7168x1536.size a := fun v260 k0_hw10 k0_t4 => k0_hw10.2.2.2.1.2.2.2.2.2.2.2.2.2.2.2.2.2.2.2.2.2.2.2.2.2.1 k0_t4
theorem k0_off127_inb : ∀ (v260 : BitVec 32) (k0_hw10 : k0_chk10 v260) (k0_t4 : Fin (k0_t4_loop v260).trips), ∀ (k0_h16 : k0_cond16 v260 k0_t4 = 1#1), ∀ a, (k0_off127 v260 k0_t4) a + S1x1.size a ≤ S2x7.size a := fun v260 k0_hw10 k0_t4 k0_h16 => k0_hw10.2.2.2.1.2.2.2.2.2.2.2.2.2.2.2.2.2.2.2.2.2.2.2.2.2.2.1 k0_t4 k0_h16
theorem k0_off128_inb : ∀ (v260 : BitVec 32) (k0_hw10 : k0_chk10 v260) (k0_t4 : Fin (k0_t4_loop v260).trips), ∀ (k0_h16 : k0_cond16 v260 k0_t4 = 1#1), ∀ a, (k0_off128 v260 k0_t4) a + S1x1024x1536.size a ≤ S2x7168x1536.size a := fun v260 k0_hw10 k0_t4 k0_h16 => k0_hw10.2.2.2.1.2.2.2.2.2.2.2.2.2.2.2.2.2.2.2.2.2.2.2.2.2.2.2.1 k0_t4 k0_h16
theorem k0_off128_wordsfp8e4m3 : ∀ (v260 : BitVec 32) (k0_hw10 : k0_chk10 v260) (k0_t4 : Fin (k0_t4_loop v260).trips), ∀ (k0_h16 : k0_cond16 v260 k0_t4 = 1#1), (Rect.unit (s := S2x7168x1536) (k0_off128 v260 k0_t4) S1x1024x1536.size (k0_off128_inb v260 k0_hw10 k0_t4 k0_h16)).WholeWords (EltTy.packing .fp8e4m3) := fun v260 k0_hw10 k0_t4 k0_h16 => k0_hw10.2.2.2.1.2.2.2.2.2.2.2.2.2.2.2.2.2.2.2.2.2.2.2.2.2.2.2.2.1 k0_t4 k0_h16 (k0_off128_inb v260 k0_hw10 k0_t4 k0_h16)
theorem k0_off130_inb : ∀ (v260 : BitVec 32) (k0_hw10 : k0_chk10 v260) (k0_t4 : Fin (k0_t4_loop v260).trips), ∀ a, (k0_off130 v260 k0_t4) a + S1x1.size a ≤ S2x7.size a := fun v260 k0_hw10 k0_t4 => k0_hw10.2.2.2.1.2.2.2.2.2.2.2.2.2.2.2.2.2.2.2.2.2.2.2.2.2.2.2.2.2.1 k0_t4
theorem k0_off131_inb : ∀ (v260 : BitVec 32) (k0_hw10 : k0_chk10 v260) (k0_t4 : Fin (k0_t4_loop v260).trips), ∀ a, (k0_off131 v260 k0_t4) a + S1x1024x1536.size a ≤ S2x7168x1536.size a := fun v260 k0_hw10 k0_t4 => k0_hw10.2.2.2.1.2.2.2.2.2.2.2.2.2.2.2.2.2.2.2.2.2.2.2.2.2.2.2.2.2.2.1 k0_t4
theorem k0_off131_wordsfp8e4m3 : ∀ (v260 : BitVec 32) (k0_hw10 : k0_chk10 v260) (k0_t4 : Fin (k0_t4_loop v260).trips), (Rect.unit (s := S2x7168x1536) (k0_off131 v260 k0_t4) S1x1024x1536.size (k0_off131_inb v260 k0_hw10 k0_t4)).WholeWords (EltTy.packing .fp8e4m3) := fun v260 k0_hw10 k0_t4 => k0_hw10.2.2.2.1.2.2.2.2.2.2.2.2.2.2.2.2.2.2.2.2.2.2.2.2.2.2.2.2.2.2.2.1 k0_t4 (k0_off131_inb v260 k0_hw10 k0_t4)
theorem k0_off132_inb : ∀ (v260 : BitVec 32) (k0_hw10 : k0_chk10 v260) (k0_t4 : Fin (k0_t4_loop v260).trips), ∀ a, (k0_off132 v260 k0_t4) a + S1x1024x1536.size a ≤ S2x7168x1536.size a := fun v260 k0_hw10 k0_t4 => k0_hw10.2.2.2.1.2.2.2.2.2.2.2.2.2.2.2.2.2.2.2.2.2.2.2.2.2.2.2.2.2.2.2.2.1 k0_t4
theorem k0_off133_inb : ∀ (v260 : BitVec 32) (k0_hw10 : k0_chk10 v260) (k0_t4 : Fin (k0_t4_loop v260).trips), ∀ (k0_h17 : k0_cond17 v260 k0_t4 = 1#1), ∀ a, (k0_off133 v260 k0_t4) a + S1x1.size a ≤ S2x7.size a := fun v260 k0_hw10 k0_t4 k0_h17 => k0_hw10.2.2.2.1.2.2.2.2.2.2.2.2.2.2.2.2.2.2.2.2.2.2.2.2.2.2.2.2.2.2.2.2.2.1 k0_t4 k0_h17
theorem k0_off134_inb : ∀ (v260 : BitVec 32) (k0_hw10 : k0_chk10 v260) (k0_t4 : Fin (k0_t4_loop v260).trips), ∀ (k0_h17 : k0_cond17 v260 k0_t4 = 1#1), ∀ a, (k0_off134 v260 k0_t4) a + S1x1024x1536.size a ≤ S2x7168x1536.size a := fun v260 k0_hw10 k0_t4 k0_h17 => k0_hw10.2.2.2.1.2.2.2.2.2.2.2.2.2.2.2.2.2.2.2.2.2.2.2.2.2.2.2.2.2.2.2.2.2.2.1 k0_t4 k0_h17
theorem k0_off134_wordsfp8e4m3 : ∀ (v260 : BitVec 32) (k0_hw10 : k0_chk10 v260) (k0_t4 : Fin (k0_t4_loop v260).trips), ∀ (k0_h17 : k0_cond17 v260 k0_t4 = 1#1), (Rect.unit (s := S2x7168x1536) (k0_off134 v260 k0_t4) S1x1024x1536.size (k0_off134_inb v260 k0_hw10 k0_t4 k0_h17)).WholeWords (EltTy.packing .fp8e4m3) := fun v260 k0_hw10 k0_t4 k0_h17 => k0_hw10.2.2.2.1.2.2.2.2.2.2.2.2.2.2.2.2.2.2.2.2.2.2.2.2.2.2.2.2.2.2.2.2.2.2.2 k0_t4 k0_h17 (k0_off134_inb v260 k0_hw10 k0_t4 k0_h17)
theorem k0_off136_inb : ∀ (v260 : BitVec 32) (k0_hw10 : k0_chk10 v260) (k0_t4 : Fin (k0_t4_loop v260).trips), ∀ a, (k0_off136 v260 k0_t4) a + S1x1.size a ≤ S2x7.size a := fun v260 k0_hw10 k0_t4 => k0_hw10.2.2.2.2.1.1 k0_t4
theorem k0_off137_inb : ∀ (v260 : BitVec 32) (k0_hw10 : k0_chk10 v260) (k0_t4 : Fin (k0_t4_loop v260).trips), ∀ a, (k0_off137 v260 k0_t4) a + S1x1024x1536.size a ≤ S2x7168x1536.size a := fun v260 k0_hw10 k0_t4 => k0_hw10.2.2.2.2.1.2.1 k0_t4
theorem k0_off137_wordsfp8e4m3 : ∀ (v260 : BitVec 32) (k0_hw10 : k0_chk10 v260) (k0_t4 : Fin (k0_t4_loop v260).trips), (Rect.unit (s := S2x7168x1536) (k0_off137 v260 k0_t4) S1x1024x1536.size (k0_off137_inb v260 k0_hw10 k0_t4)).WholeWords (EltTy.packing .fp8e4m3) := fun v260 k0_hw10 k0_t4 => k0_hw10.2.2.2.2.1.2.2.1 k0_t4 (k0_off137_inb v260 k0_hw10 k0_t4)
theorem k0_off138_inb : ∀ (v260 : BitVec 32) (k0_hw10 : k0_chk10 v260) (k0_t4 : Fin (k0_t4_loop v260).trips), ∀ a, (k0_off138 v260 k0_t4) a + S1x1024x1536.size a ≤ S2x7168x1536.size a := fun v260 k0_hw10 k0_t4 => k0_hw10.2.2.2.2.1.2.2.2.1 k0_t4
theorem k0_off139_inb : ∀ (v260 : BitVec 32) (k0_hw10 : k0_chk10 v260) (k0_t4 : Fin (k0_t4_loop v260).trips), ∀ (k0_h18 : k0_cond18 v260 k0_t4 = 1#1), ∀ a, (k0_off139 v260 k0_t4) a + S1x1.size a ≤ S2x7.size a := fun v260 k0_hw10 k0_t4 k0_h18 => k0_hw10.2.2.2.2.1.2.2.2.2.1 k0_t4 k0_h18
theorem k0_off140_inb : ∀ (v260 : BitVec 32) (k0_hw10 : k0_chk10 v260) (k0_t4 : Fin (k0_t4_loop v260).trips), ∀ (k0_h18 : k0_cond18 v260 k0_t4 = 1#1), ∀ a, (k0_off140 v260 k0_t4) a + S1x1024x1536.size a ≤ S2x7168x1536.size a := fun v260 k0_hw10 k0_t4 k0_h18 => k0_hw10.2.2.2.2.1.2.2.2.2.2.1 k0_t4 k0_h18
theorem k0_off140_wordsfp8e4m3 : ∀ (v260 : BitVec 32) (k0_hw10 : k0_chk10 v260) (k0_t4 : Fin (k0_t4_loop v260).trips), ∀ (k0_h18 : k0_cond18 v260 k0_t4 = 1#1), (Rect.unit (s := S2x7168x1536) (k0_off140 v260 k0_t4) S1x1024x1536.size (k0_off140_inb v260 k0_hw10 k0_t4 k0_h18)).WholeWords (EltTy.packing .fp8e4m3) := fun v260 k0_hw10 k0_t4 k0_h18 => k0_hw10.2.2.2.2.1.2.2.2.2.2.2.1 k0_t4 k0_h18 (k0_off140_inb v260 k0_hw10 k0_t4 k0_h18)
theorem k0_off142_inb : ∀ (v260 : BitVec 32) (k0_hw10 : k0_chk10 v260) (k0_t4 : Fin (k0_t4_loop v260).trips), ∀ a, (k0_off142 v260 k0_t4) a + S1x1.size a ≤ S2x7.size a := fun v260 k0_hw10 k0_t4 => k0_hw10.2.2.2.2.1.2.2.2.2.2.2.2.1 k0_t4
theorem k0_off143_inb : ∀ (v260 : BitVec 32) (k0_hw10 : k0_chk10 v260) (k0_t4 : Fin (k0_t4_loop v260).trips), ∀ a, (k0_off143 v260 k0_t4) a + S1x1024x1536.size a ≤ S2x7168x1536.size a := fun v260 k0_hw10 k0_t4 => k0_hw10.2.2.2.2.1.2.2.2.2.2.2.2.2.1 k0_t4
theorem k0_off143_wordsfp8e4m3 : ∀ (v260 : BitVec 32) (k0_hw10 : k0_chk10 v260) (k0_t4 : Fin (k0_t4_loop v260).trips), (Rect.unit (s := S2x7168x1536) (k0_off143 v260 k0_t4) S1x1024x1536.size (k0_off143_inb v260 k0_hw10 k0_t4)).WholeWords (EltTy.packing .fp8e4m3) := fun v260 k0_hw10 k0_t4 => k0_hw10.2.2.2.2.1.2.2.2.2.2.2.2.2.2.1 k0_t4 (k0_off143_inb v260 k0_hw10 k0_t4)
theorem k0_off144_inb : ∀ (v260 : BitVec 32) (k0_hw10 : k0_chk10 v260) (k0_t4 : Fin (k0_t4_loop v260).trips), ∀ a, (k0_off144 v260 k0_t4) a + S1x1024x1536.size a ≤ S2x7168x1536.size a := fun v260 k0_hw10 k0_t4 => k0_hw10.2.2.2.2.1.2.2.2.2.2.2.2.2.2.2.1 k0_t4
theorem k0_off145_inb : ∀ (v260 : BitVec 32) (k0_hw10 : k0_chk10 v260) (k0_t4 : Fin (k0_t4_loop v260).trips), ∀ (k0_h19 : k0_cond19 v260 k0_t4 = 1#1), ∀ a, (k0_off145 v260 k0_t4) a + S1x1.size a ≤ S2x7.size a := fun v260 k0_hw10 k0_t4 k0_h19 => k0_hw10.2.2.2.2.1.2.2.2.2.2.2.2.2.2.2.2.1 k0_t4 k0_h19
theorem k0_off146_inb : ∀ (v260 : BitVec 32) (k0_hw10 : k0_chk10 v260) (k0_t4 : Fin (k0_t4_loop v260).trips), ∀ (k0_h19 : k0_cond19 v260 k0_t4 = 1#1), ∀ a, (k0_off146 v260 k0_t4) a + S1x1024x1536.size a ≤ S2x7168x1536.size a := fun v260 k0_hw10 k0_t4 k0_h19 => k0_hw10.2.2.2.2.1.2.2.2.2.2.2.2.2.2.2.2.2.1 k0_t4 k0_h19
theorem k0_off146_wordsfp8e4m3 : ∀ (v260 : BitVec 32) (k0_hw10 : k0_chk10 v260) (k0_t4 : Fin (k0_t4_loop v260).trips), ∀ (k0_h19 : k0_cond19 v260 k0_t4 = 1#1), (Rect.unit (s := S2x7168x1536) (k0_off146 v260 k0_t4) S1x1024x1536.size (k0_off146_inb v260 k0_hw10 k0_t4 k0_h19)).WholeWords (EltTy.packing .fp8e4m3) := fun v260 k0_hw10 k0_t4 k0_h19 => k0_hw10.2.2.2.2.1.2.2.2.2.2.2.2.2.2.2.2.2.2.1 k0_t4 k0_h19 (k0_off146_inb v260 k0_hw10 k0_t4 k0_h19)
theorem k0_off148_inb : ∀ (v260 : BitVec 32) (k0_hw10 : k0_chk10 v260) (k0_t4 : Fin (k0_t4_loop v260).trips), ∀ a, (k0_off148 v260 k0_t4) a + S1x1.size a ≤ S2x7.size a := fun v260 k0_hw10 k0_t4 => k0_hw10.2.2.2.2.1.2.2.2.2.2.2.2.2.2.2.2.2.2.2.1 k0_t4
theorem k0_off149_inb : ∀ (v260 : BitVec 32) (k0_hw10 : k0_chk10 v260) (k0_t4 : Fin (k0_t4_loop v260).trips), ∀ a, (k0_off149 v260 k0_t4) a + S1x1024x1536.size a ≤ S2x7168x1536.size a := fun v260 k0_hw10 k0_t4 => k0_hw10.2.2.2.2.1.2.2.2.2.2.2.2.2.2.2.2.2.2.2.2.1 k0_t4
theorem k0_off149_wordsfp8e4m3 : ∀ (v260 : BitVec 32) (k0_hw10 : k0_chk10 v260) (k0_t4 : Fin (k0_t4_loop v260).trips), (Rect.unit (s := S2x7168x1536) (k0_off149 v260 k0_t4) S1x1024x1536.size (k0_off149_inb v260 k0_hw10 k0_t4)).WholeWords (EltTy.packing .fp8e4m3) := fun v260 k0_hw10 k0_t4 => k0_hw10.2.2.2.2.1.2.2.2.2.2.2.2.2.2.2.2.2.2.2.2.2.1 k0_t4 (k0_off149_inb v260 k0_hw10 k0_t4)
theorem k0_off150_inb : ∀ (v260 : BitVec 32) (k0_hw10 : k0_chk10 v260) (k0_t4 : Fin (k0_t4_loop v260).trips), ∀ a, (k0_off150 v260 k0_t4) a + S1x1024x1536.size a ≤ S2x7168x1536.size a := fun v260 k0_hw10 k0_t4 => k0_hw10.2.2.2.2.1.2.2.2.2.2.2.2.2.2.2.2.2.2.2.2.2.2.1 k0_t4
theorem k0_off151_inb : ∀ (v260 : BitVec 32) (k0_hw10 : k0_chk10 v260) (k0_t4 : Fin (k0_t4_loop v260).trips), ∀ (k0_h20 : k0_cond20 v260 k0_t4 = 1#1), ∀ a, (k0_off151 v260 k0_t4) a + S1x1.size a ≤ S2x7.size a := fun v260 k0_hw10 k0_t4 k0_h20 => k0_hw10.2.2.2.2.1.2.2.2.2.2.2.2.2.2.2.2.2.2.2.2.2.2.2.1 k0_t4 k0_h20
theorem k0_off152_inb : ∀ (v260 : BitVec 32) (k0_hw10 : k0_chk10 v260) (k0_t4 : Fin (k0_t4_loop v260).trips), ∀ (k0_h20 : k0_cond20 v260 k0_t4 = 1#1), ∀ a, (k0_off152 v260 k0_t4) a + S1x1024x1536.size a ≤ S2x7168x1536.size a := fun v260 k0_hw10 k0_t4 k0_h20 => k0_hw10.2.2.2.2.1.2.2.2.2.2.2.2.2.2.2.2.2.2.2.2.2.2.2.2.1 k0_t4 k0_h20
theorem k0_off152_wordsfp8e4m3 : ∀ (v260 : BitVec 32) (k0_hw10 : k0_chk10 v260) (k0_t4 : Fin (k0_t4_loop v260).trips), ∀ (k0_h20 : k0_cond20 v260 k0_t4 = 1#1), (Rect.unit (s := S2x7168x1536) (k0_off152 v260 k0_t4) S1x1024x1536.size (k0_off152_inb v260 k0_hw10 k0_t4 k0_h20)).WholeWords (EltTy.packing .fp8e4m3) := fun v260 k0_hw10 k0_t4 k0_h20 => k0_hw10.2.2.2.2.1.2.2.2.2.2.2.2.2.2.2.2.2.2.2.2.2.2.2.2.2.1 k0_t4 k0_h20 (k0_off152_inb v260 k0_hw10 k0_t4 k0_h20)
theorem k0_off154_inb : ∀ (v260 : BitVec 32) (k0_hw10 : k0_chk10 v260) (k0_t4 : Fin (k0_t4_loop v260).trips), ∀ a, (k0_off154 v260 k0_t4) a + S1x1.size a ≤ S2x7.size a := fun v260 k0_hw10 k0_t4 => k0_hw10.2.2.2.2.1.2.2.2.2.2.2.2.2.2.2.2.2.2.2.2.2.2.2.2.2.2.1 k0_t4
theorem k0_off155_inb : ∀ (v260 : BitVec 32) (k0_hw10 : k0_chk10 v260) (k0_t4 : Fin (k0_t4_loop v260).trips), ∀ a, (k0_off155 v260 k0_t4) a + S1x1024x1536.size a ≤ S2x7168x1536.size a := fun v260 k0_hw10 k0_t4 => k0_hw10.2.2.2.2.1.2.2.2.2.2.2.2.2.2.2.2.2.2.2.2.2.2.2.2.2.2.2.1 k0_t4
theorem k0_off155_wordsfp8e4m3 : ∀ (v260 : BitVec 32) (k0_hw10 : k0_chk10 v260) (k0_t4 : Fin (k0_t4_loop v260).trips), (Rect.unit (s := S2x7168x1536) (k0_off155 v260 k0_t4) S1x1024x1536.size (k0_off155_inb v260 k0_hw10 k0_t4)).WholeWords (EltTy.packing .fp8e4m3) := fun v260 k0_hw10 k0_t4 => k0_hw10.2.2.2.2.1.2.2.2.2.2.2.2.2.2.2.2.2.2.2.2.2.2.2.2.2.2.2.2.1 k0_t4 (k0_off155_inb v260 k0_hw10 k0_t4)
theorem k0_off156_inb : ∀ (v260 : BitVec 32) (k0_hw10 : k0_chk10 v260) (k0_t4 : Fin (k0_t4_loop v260).trips), ∀ a, (k0_off156 v260 k0_t4) a + S1x1024x1536.size a ≤ S2x7168x1536.size a := fun v260 k0_hw10 k0_t4 => k0_hw10.2.2.2.2.1.2.2.2.2.2.2.2.2.2.2.2.2.2.2.2.2.2.2.2.2.2.2.2.2.1 k0_t4
theorem k0_off157_inb : ∀ (v260 : BitVec 32) (k0_hw10 : k0_chk10 v260) (k0_t4 : Fin (k0_t4_loop v260).trips), ∀ (k0_h21 : k0_cond21 v260 k0_t4 = 1#1), ∀ a, (k0_off157 v260 k0_t4) a + S1x1.size a ≤ S2x7.size a := fun v260 k0_hw10 k0_t4 k0_h21 => k0_hw10.2.2.2.2.1.2.2.2.2.2.2.2.2.2.2.2.2.2.2.2.2.2.2.2.2.2.2.2.2.2.1 k0_t4 k0_h21
theorem k0_off158_inb : ∀ (v260 : BitVec 32) (k0_hw10 : k0_chk10 v260) (k0_t4 : Fin (k0_t4_loop v260).trips), ∀ (k0_h21 : k0_cond21 v260 k0_t4 = 1#1), ∀ a, (k0_off158 v260 k0_t4) a + S1x1024x1536.size a ≤ S2x7168x1536.size a := fun v260 k0_hw10 k0_t4 k0_h21 => k0_hw10.2.2.2.2.1.2.2.2.2.2.2.2.2.2.2.2.2.2.2.2.2.2.2.2.2.2.2.2.2.2.2.1 k0_t4 k0_h21
theorem k0_off158_wordsfp8e4m3 : ∀ (v260 : BitVec 32) (k0_hw10 : k0_chk10 v260) (k0_t4 : Fin (k0_t4_loop v260).trips), ∀ (k0_h21 : k0_cond21 v260 k0_t4 = 1#1), (Rect.unit (s := S2x7168x1536) (k0_off158 v260 k0_t4) S1x1024x1536.size (k0_off158_inb v260 k0_hw10 k0_t4 k0_h21)).WholeWords (EltTy.packing .fp8e4m3) := fun v260 k0_hw10 k0_t4 k0_h21 => k0_hw10.2.2.2.2.1.2.2.2.2.2.2.2.2.2.2.2.2.2.2.2.2.2.2.2.2.2.2.2.2.2.2.2.1 k0_t4 k0_h21 (k0_off158_inb v260 k0_hw10 k0_t4 k0_h21)
theorem k0_mult2_dvd : ∀ (v260 : BitVec 32) (k0_hw10 : k0_chk10 v260) (k0_t4 : Fin (k0_t4_loop v260).trips), 768 ∣ (k0_mult2 v260 k0_t4).toNat := fun v260 k0_hw10 k0_t4 => k0_hw10.2.2.2.2.1.2.2.2.2.2.2.2.2.2.2.2.2.2.2.2.2.2.2.2.2.2.2.2.2.2.2.2.2.1 k0_t4
theorem k0_off160_inb : ∀ (v260 : BitVec 32) (k0_hw10 : k0_chk10 v260) (k0_t4 : Fin (k0_t4_loop v260).trips), ∀ a, (k0_off160 v260 k0_t4) a + S1x768.size a ≤ S1x3072.size a := fun v260 k0_hw10 k0_t4 => k0_hw10.2.2.2.2.1.2.2.2.2.2.2.2.2.2.2.2.2.2.2.2.2.2.2.2.2.2.2.2.2.2.2.2.2.2.1 k0_t4
theorem k0_off162_inb : ∀ (v260 : BitVec 32) (k0_hw10 : k0_chk10 v260) (k0_t4 : Fin (k0_t4_loop v260).trips), ∀ a, (k0_off162 v260 k0_t4) a + S1x768.size a ≤ S1x3072.size a := fun v260 k0_hw10 k0_t4 => k0_hw10.2.2.2.2.1.2.2.2.2.2.2.2.2.2.2.2.2.2.2.2.2.2.2.2.2.2.2.2.2.2.2.2.2.2.2.1 k0_t4
theorem k0_off164_inb : ∀ (v260 : BitVec 32) (k0_hw10 : k0_chk10 v260) (k0_t4 : Fin (k0_t4_loop v260).trips), ∀ a, (k0_off164 v260 k0_t4) a + S1x1.size a ≤ S2x7.size a := fun v260 k0_hw10 k0_t4 => k0_hw10.2.2.2.2.1.2.2.2.2.2.2.2.2.2.2.2.2.2.2.2.2.2.2.2.2.2.2.2.2.2.2.2.2.2.2.2 k0_t4
theorem k0_off165_inb : ∀ (v260 : BitVec 32) (k0_hw10 : k0_chk10 v260) (k0_t4 : Fin (k0_t4_loop v260).trips), ∀ a, (k0_off165 v260 k0_t4) a + S1x768x1024.size a ≤ S2x768x7168.size a := fun v260 k0_hw10 k0_t4 => k0_hw10.2.2.2.2.2.1.1 k0_t4
theorem k0_off165_wordsfp8e4m3 : ∀ (v260 : BitVec 32) (k0_hw10 : k0_chk10 v260) (k0_t4 : Fin (k0_t4_loop v260).trips), (Rect.unit (s := S2x768x7168) (k0_off165 v260 k0_t4) S1x768x1024.size (k0_off165_inb v260 k0_hw10 k0_t4)).WholeWords (EltTy.packing .fp8e4m3) := fun v260 k0_hw10 k0_t4 => k0_hw10.2.2.2.2.2.1.2.1 k0_t4 (k0_off165_inb v260 k0_hw10 k0_t4)
theorem k0_off166_inb : ∀ (v260 : BitVec 32) (k0_hw10 : k0_chk10 v260) (k0_t4 : Fin (k0_t4_loop v260).trips), ∀ a, (k0_off166 v260 k0_t4) a + S1x768x1024.size a ≤ S2x768x7168.size a := fun v260 k0_hw10 k0_t4 => k0_hw10.2.2.2.2.2.1.2.2.1 k0_t4
theorem k0_off168_inb : ∀ (v260 : BitVec 32) (k0_hw10 : k0_chk10 v260) (k0_t4 : Fin (k0_t4_loop v260).trips), ∀ (k0_h22 : k0_cond22 v260 k0_t4 = 1#1), ∀ a, (k0_off168 v260 k0_t4) a + S1x1.size a ≤ S2x7.size a := fun v260 k0_hw10 k0_t4 k0_h22 => k0_hw10.2.2.2.2.2.1.2.2.2.1 k0_t4 k0_h22
theorem k0_off169_inb : ∀ (v260 : BitVec 32) (k0_hw10 : k0_chk10 v260) (k0_t4 : Fin (k0_t4_loop v260).trips), ∀ (k0_h22 : k0_cond22 v260 k0_t4 = 1#1), ∀ a, (k0_off169 v260 k0_t4) a + S1x768x1024.size a ≤ S2x768x7168.size a := fun v260 k0_hw10 k0_t4 k0_h22 => k0_hw10.2.2.2.2.2.1.2.2.2.2.1 k0_t4 k0_h22
theorem k0_off169_wordsfp8e4m3 : ∀ (v260 : BitVec 32) (k0_hw10 : k0_chk10 v260) (k0_t4 : Fin (k0_t4_loop v260).trips), ∀ (k0_h22 : k0_cond22 v260 k0_t4 = 1#1), (Rect.unit (s := S2x768x7168) (k0_off169 v260 k0_t4) S1x768x1024.size (k0_off169_inb v260 k0_hw10 k0_t4 k0_h22)).WholeWords (EltTy.packing .fp8e4m3) := fun v260 k0_hw10 k0_t4 k0_h22 => k0_hw10.2.2.2.2.2.1.2.2.2.2.2.1 k0_t4 k0_h22 (k0_off169_inb v260 k0_hw10 k0_t4 k0_h22)
theorem k0_off171_inb : ∀ (v260 : BitVec 32) (k0_hw10 : k0_chk10 v260) (k0_t4 : Fin (k0_t4_loop v260).trips), ∀ a, (k0_off171 v260 k0_t4) a + S1x1.size a ≤ S2x7.size a := fun v260 k0_hw10 k0_t4 => k0_hw10.2.2.2.2.2.1.2.2.2.2.2.2.1 k0_t4
theorem k0_off172_inb : ∀ (v260 : BitVec 32) (k0_hw10 : k0_chk10 v260) (k0_t4 : Fin (k0_t4_loop v260).trips), ∀ a, (k0_off172 v260 k0_t4) a + S1x768x1024.size a ≤ S2x768x7168.size a := fun v260 k0_hw10 k0_t4 => k0_hw10.2.2.2.2.2.1.2.2.2.2.2.2.2.1 k0_t4
theorem k0_off172_wordsfp8e4m3 : ∀ (v260 : BitVec 32) (k0_hw10 : k0_chk10 v260) (k0_t4 : Fin (k0_t4_loop v260).trips), (Rect.unit (s := S2x768x7168) (k0_off172 v260 k0_t4) S1x768x1024.size (k0_off172_inb v260 k0_hw10 k0_t4)).WholeWords (EltTy.packing .fp8e4m3) := fun v260 k0_hw10 k0_t4 => k0_hw10.2.2.2.2.2.1.2.2.2.2.2.2.2.2.1 k0_t4 (k0_off172_inb v260 k0_hw10 k0_t4)
theorem k0_off173_inb : ∀ (v260 : BitVec 32) (k0_hw10 : k0_chk10 v260) (k0_t4 : Fin (k0_t4_loop v260).trips), ∀ a, (k0_off173 v260 k0_t4) a + S1x768x1024.size a ≤ S2x768x7168.size a := fun v260 k0_hw10 k0_t4 => k0_hw10.2.2.2.2.2.1.2.2.2.2.2.2.2.2.2.1 k0_t4
theorem k0_off175_inb : ∀ (v260 : BitVec 32) (k0_hw10 : k0_chk10 v260) (k0_t4 : Fin (k0_t4_loop v260).trips), ∀ (k0_h23 : k0_cond23 v260 k0_t4 = 1#1), ∀ a, (k0_off175 v260 k0_t4) a + S1x1.size a ≤ S2x7.size a := fun v260 k0_hw10 k0_t4 k0_h23 => k0_hw10.2.2.2.2.2.1.2.2.2.2.2.2.2.2.2.2.1 k0_t4 k0_h23
theorem k0_off176_inb : ∀ (v260 : BitVec 32) (k0_hw10 : k0_chk10 v260) (k0_t4 : Fin (k0_t4_loop v260).trips), ∀ (k0_h23 : k0_cond23 v260 k0_t4 = 1#1), ∀ a, (k0_off176 v260 k0_t4) a + S1x768x1024.size a ≤ S2x768x7168.size a := fun v260 k0_hw10 k0_t4 k0_h23 => k0_hw10.2.2.2.2.2.1.2.2.2.2.2.2.2.2.2.2.2.1 k0_t4 k0_h23
theorem k0_off176_wordsfp8e4m3 : ∀ (v260 : BitVec 32) (k0_hw10 : k0_chk10 v260) (k0_t4 : Fin (k0_t4_loop v260).trips), ∀ (k0_h23 : k0_cond23 v260 k0_t4 = 1#1), (Rect.unit (s := S2x768x7168) (k0_off176 v260 k0_t4) S1x768x1024.size (k0_off176_inb v260 k0_hw10 k0_t4 k0_h23)).WholeWords (EltTy.packing .fp8e4m3) := fun v260 k0_hw10 k0_t4 k0_h23 => k0_hw10.2.2.2.2.2.1.2.2.2.2.2.2.2.2.2.2.2.2.1 k0_t4 k0_h23 (k0_off176_inb v260 k0_hw10 k0_t4 k0_h23)
theorem k0_off178_inb : ∀ (v260 : BitVec 32) (k0_hw10 : k0_chk10 v260) (k0_t4 : Fin (k0_t4_loop v260).trips), ∀ a, (k0_off178 v260 k0_t4) a + S1x1.size a ≤ S2x7.size a := fun v260 k0_hw10 k0_t4 => k0_hw10.2.2.2.2.2.1.2.2.2.2.2.2.2.2.2.2.2.2.2.1 k0_t4
theorem k0_off179_inb : ∀ (v260 : BitVec 32) (k0_hw10 : k0_chk10 v260) (k0_t4 : Fin (k0_t4_loop v260).trips), ∀ a, (k0_off179 v260 k0_t4) a + S1x768x1024.size a ≤ S2x768x7168.size a := fun v260 k0_hw10 k0_t4 => k0_hw10.2.2.2.2.2.1.2.2.2.2.2.2.2.2.2.2.2.2.2.2.1 k0_t4
theorem k0_off179_wordsfp8e4m3 : ∀ (v260 : BitVec 32) (k0_hw10 : k0_chk10 v260) (k0_t4 : Fin (k0_t4_loop v260).trips), (Rect.unit (s := S2x768x7168) (k0_off179 v260 k0_t4) S1x768x1024.size (k0_off179_inb v260 k0_hw10 k0_t4)).WholeWords (EltTy.packing .fp8e4m3) := fun v260 k0_hw10 k0_t4 => k0_hw10.2.2.2.2.2.1.2.2.2.2.2.2.2.2.2.2.2.2.2.2.2.1 k0_t4 (k0_off179_inb v260 k0_hw10 k0_t4)
theorem k0_off180_inb : ∀ (v260 : BitVec 32) (k0_hw10 : k0_chk10 v260) (k0_t4 : Fin (k0_t4_loop v260).trips), ∀ a, (k0_off180 v260 k0_t4) a + S1x768x1024.size a ≤ S2x768x7168.size a := fun v260 k0_hw10 k0_t4 => k0_hw10.2.2.2.2.2.1.2.2.2.2.2.2.2.2.2.2.2.2.2.2.2.2.1 k0_t4
theorem k0_off182_inb : ∀ (v260 : BitVec 32) (k0_hw10 : k0_chk10 v260) (k0_t4 : Fin (k0_t4_loop v260).trips), ∀ (k0_h24 : k0_cond24 v260 k0_t4 = 1#1), ∀ a, (k0_off182 v260 k0_t4) a + S1x1.size a ≤ S2x7.size a := fun v260 k0_hw10 k0_t4 k0_h24 => k0_hw10.2.2.2.2.2.1.2.2.2.2.2.2.2.2.2.2.2.2.2.2.2.2.2.1 k0_t4 k0_h24
theorem k0_off183_inb : ∀ (v260 : BitVec 32) (k0_hw10 : k0_chk10 v260) (k0_t4 : Fin (k0_t4_loop v260).trips), ∀ (k0_h24 : k0_cond24 v260 k0_t4 = 1#1), ∀ a, (k0_off183 v260 k0_t4) a + S1x768x1024.size a ≤ S2x768x7168.size a := fun v260 k0_hw10 k0_t4 k0_h24 => k0_hw10.2.2.2.2.2.1.2.2.2.2.2.2.2.2.2.2.2.2.2.2.2.2.2.2.1 k0_t4 k0_h24
theorem k0_off183_wordsfp8e4m3 : ∀ (v260 : BitVec 32) (k0_hw10 : k0_chk10 v260) (k0_t4 : Fin (k0_t4_loop v260).trips), ∀ (k0_h24 : k0_cond24 v260 k0_t4 = 1#1), (Rect.unit (s := S2x768x7168) (k0_off183 v260 k0_t4) S1x768x1024.size (k0_off183_inb v260 k0_hw10 k0_t4 k0_h24)).WholeWords (EltTy.packing .fp8e4m3) := fun v260 k0_hw10 k0_t4 k0_h24 => k0_hw10.2.2.2.2.2.1.2.2.2.2.2.2.2.2.2.2.2.2.2.2.2.2.2.2.2.1 k0_t4 k0_h24 (k0_off183_inb v260 k0_hw10 k0_t4 k0_h24)
theorem k0_off185_inb : ∀ (v260 : BitVec 32) (k0_hw10 : k0_chk10 v260) (k0_t4 : Fin (k0_t4_loop v260).trips), ∀ a, (k0_off185 v260 k0_t4) a + S1x1.size a ≤ S2x7.size a := fun v260 k0_hw10 k0_t4 => k0_hw10.2.2.2.2.2.1.2.2.2.2.2.2.2.2.2.2.2.2.2.2.2.2.2.2.2.2.1 k0_t4
theorem k0_off186_inb : ∀ (v260 : BitVec 32) (k0_hw10 : k0_chk10 v260) (k0_t4 : Fin (k0_t4_loop v260).trips), ∀ a, (k0_off186 v260 k0_t4) a + S1x768x1024.size a ≤ S2x768x7168.size a := fun v260 k0_hw10 k0_t4 => k0_hw10.2.2.2.2.2.1.2.2.2.2.2.2.2.2.2.2.2.2.2.2.2.2.2.2.2.2.2.1 k0_t4
theorem k0_off186_wordsfp8e4m3 : ∀ (v260 : BitVec 32) (k0_hw10 : k0_chk10 v260) (k0_t4 : Fin (k0_t4_loop v260).trips), (Rect.unit (s := S2x768x7168) (k0_off186 v260 k0_t4) S1x768x1024.size (k0_off186_inb v260 k0_hw10 k0_t4)).WholeWords (EltTy.packing .fp8e4m3) := fun v260 k0_hw10 k0_t4 => k0_hw10.2.2.2.2.2.1.2.2.2.2.2.2.2.2.2.2.2.2.2.2.2.2.2.2.2.2.2.2.1 k0_t4 (k0_off186_inb v260 k0_hw10 k0_t4)
theorem k0_off187_inb : ∀ (v260 : BitVec 32) (k0_hw10 : k0_chk10 v260) (k0_t4 : Fin (k0_t4_loop v260).trips), ∀ a, (k0_off187 v260 k0_t4) a + S1x768x1024.size a ≤ S2x768x7168.size a := fun v260 k0_hw10 k0_t4 => k0_hw10.2.2.2.2.2.1.2.2.2.2.2.2.2.2.2.2.2.2.2.2.2.2.2.2.2.2.2.2.2.1 k0_t4
theorem k0_off189_inb : ∀ (v260 : BitVec 32) (k0_hw10 : k0_chk10 v260) (k0_t4 : Fin (k0_t4_loop v260).trips), ∀ (k0_h25 : k0_cond25 v260 k0_t4 = 1#1), ∀ a, (k0_off189 v260 k0_t4) a + S1x1.size a ≤ S2x7.size a := fun v260 k0_hw10 k0_t4 k0_h25 => k0_hw10.2.2.2.2.2.1.2.2.2.2.2.2.2.2.2.2.2.2.2.2.2.2.2.2.2.2.2.2.2.2.1 k0_t4 k0_h25
theorem k0_off190_inb : ∀ (v260 : BitVec 32) (k0_hw10 : k0_chk10 v260) (k0_t4 : Fin (k0_t4_loop v260).trips), ∀ (k0_h25 : k0_cond25 v260 k0_t4 = 1#1), ∀ a, (k0_off190 v260 k0_t4) a + S1x768x1024.size a ≤ S2x768x7168.size a := fun v260 k0_hw10 k0_t4 k0_h25 => k0_hw10.2.2.2.2.2.1.2.2.2.2.2.2.2.2.2.2.2.2.2.2.2.2.2.2.2.2.2.2.2.2.2.1 k0_t4 k0_h25
theorem k0_off190_wordsfp8e4m3 : ∀ (v260 : BitVec 32) (k0_hw10 : k0_chk10 v260) (k0_t4 : Fin (k0_t4_loop v260).trips), ∀ (k0_h25 : k0_cond25 v260 k0_t4 = 1#1), (Rect.unit (s := S2x768x7168) (k0_off190 v260 k0_t4) S1x768x1024.size (k0_off190_inb v260 k0_hw10 k0_t4 k0_h25)).WholeWords (EltTy.packing .fp8e4m3) := fun v260 k0_hw10 k0_t4 k0_h25 => k0_hw10.2.2.2.2.2.1.2.2.2.2.2.2.2.2.2.2.2.2.2.2.2.2.2.2.2.2.2.2.2.2.2.2.1 k0_t4 k0_h25 (k0_off190_inb v260 k0_hw10 k0_t4 k0_h25)
theorem k0_off192_inb : ∀ (v260 : BitVec 32) (k0_hw10 : k0_chk10 v260) (k0_t4 : Fin (k0_t4_loop v260).trips), ∀ a, (k0_off192 v260 k0_t4) a + S1x1.size a ≤ S2x7.size a := fun v260 k0_hw10 k0_t4 => k0_hw10.2.2.2.2.2.1.2.2.2.2.2.2.2.2.2.2.2.2.2.2.2.2.2.2.2.2.2.2.2.2.2.2.2.1 k0_t4
theorem k0_off193_inb : ∀ (v260 : BitVec 32) (k0_hw10 : k0_chk10 v260) (k0_t4 : Fin (k0_t4_loop v260).trips), ∀ a, (k0_off193 v260 k0_t4) a + S1x768x1024.size a ≤ S2x768x7168.size a := fun v260 k0_hw10 k0_t4 => k0_hw10.2.2.2.2.2.1.2.2.2.2.2.2.2.2.2.2.2.2.2.2.2.2.2.2.2.2.2.2.2.2.2.2.2.2.1 k0_t4
theorem k0_off193_wordsfp8e4m3 : ∀ (v260 : BitVec 32) (k0_hw10 : k0_chk10 v260) (k0_t4 : Fin (k0_t4_loop v260).trips), (Rect.unit (s := S2x768x7168) (k0_off193 v260 k0_t4) S1x768x1024.size (k0_off193_inb v260 k0_hw10 k0_t4)).WholeWords (EltTy.packing .fp8e4m3) := fun v260 k0_hw10 k0_t4 => k0_hw10.2.2.2.2.2.1.2.2.2.2.2.2.2.2.2.2.2.2.2.2.2.2.2.2.2.2.2.2.2.2.2.2.2.2.2.1 k0_t4 (k0_off193_inb v260 k0_hw10 k0_t4)
theorem k0_off194_inb : ∀ (v260 : BitVec 32) (k0_hw10 : k0_chk10 v260) (k0_t4 : Fin (k0_t4_loop v260).trips), ∀ a, (k0_off194 v260 k0_t4) a + S1x768x1024.size a ≤ S2x768x7168.size a := fun v260 k0_hw10 k0_t4 => k0_hw10.2.2.2.2.2.1.2.2.2.2.2.2.2.2.2.2.2.2.2.2.2.2.2.2.2.2.2.2.2.2.2.2.2.2.2.2.1 k0_t4
theorem k0_off196_inb : ∀ (v260 : BitVec 32) (k0_hw10 : k0_chk10 v260) (k0_t4 : Fin (k0_t4_loop v260).trips), ∀ (k0_h26 : k0_cond26 v260 k0_t4 = 1#1), ∀ a, (k0_off196 v260 k0_t4) a + S1x1.size a ≤ S2x7.size a := fun v260 k0_hw10 k0_t4 k0_h26 => k0_hw10.2.2.2.2.2.1.2.2.2.2.2.2.2.2.2.2.2.2.2.2.2.2.2.2.2.2.2.2.2.2.2.2.2.2.2.2.2 k0_t4 k0_h26
theorem k0_off197_inb : ∀ (v260 : BitVec 32) (k0_hw10 : k0_chk10 v260) (k0_t4 : Fin (k0_t4_loop v260).trips), ∀ (k0_h26 : k0_cond26 v260 k0_t4 = 1#1), ∀ a, (k0_off197 v260 k0_t4) a + S1x768x1024.size a ≤ S2x768x7168.size a := fun v260 k0_hw10 k0_t4 k0_h26 => k0_hw10.2.2.2.2.2.2.1 k0_t4 k0_h26
theorem k0_off197_wordsfp8e4m3 : ∀ (v260 : BitVec 32) (k0_hw10 : k0_chk10 v260) (k0_t4 : Fin (k0_t4_loop v260).trips), ∀ (k0_h26 : k0_cond26 v260 k0_t4 = 1#1), (Rect.unit (s := S2x768x7168) (k0_off197 v260 k0_t4) S1x768x1024.size (k0_off197_inb v260 k0_hw10 k0_t4 k0_h26)).WholeWords (EltTy.packing .fp8e4m3) := fun v260 k0_hw10 k0_t4 k0_h26 => k0_hw10.2.2.2.2.2.2.2.1 k0_t4 k0_h26 (k0_off197_inb v260 k0_hw10 k0_t4 k0_h26)
theorem k0_off199_inb : ∀ (v260 : BitVec 32) (k0_hw10 : k0_chk10 v260) (k0_t4 : Fin (k0_t4_loop v260).trips), ∀ a, (k0_off199 v260 k0_t4) a + S1x1.size a ≤ S2x7.size a := fun v260 k0_hw10 k0_t4 => k0_hw10.2.2.2.2.2.2.2.2.1 k0_t4
theorem k0_off200_inb : ∀ (v260 : BitVec 32) (k0_hw10 : k0_chk10 v260) (k0_t4 : Fin (k0_t4_loop v260).trips), ∀ a, (k0_off200 v260 k0_t4) a + S1x768x1024.size a ≤ S2x768x7168.size a := fun v260 k0_hw10 k0_t4 => k0_hw10.2.2.2.2.2.2.2.2.2.1 k0_t4
theorem k0_off200_wordsfp8e4m3 : ∀ (v260 : BitVec 32) (k0_hw10 : k0_chk10 v260) (k0_t4 : Fin (k0_t4_loop v260).trips), (Rect.unit (s := S2x768x7168) (k0_off200 v260 k0_t4) S1x768x1024.size (k0_off200_inb v260 k0_hw10 k0_t4)).WholeWords (EltTy.packing .fp8e4m3) := fun v260 k0_hw10 k0_t4 => k0_hw10.2.2.2.2.2.2.2.2.2.2.1 k0_t4 (k0_off200_inb v260 k0_hw10 k0_t4)
theorem k0_off201_inb : ∀ (v260 : BitVec 32) (k0_hw10 : k0_chk10 v260) (k0_t4 : Fin (k0_t4_loop v260).trips), ∀ a, (k0_off201 v260 k0_t4) a + S1x768x1024.size a ≤ S2x768x7168.size a := fun v260 k0_hw10 k0_t4 => k0_hw10.2.2.2.2.2.2.2.2.2.2.2.1 k0_t4
theorem k0_off203_inb : ∀ (v260 : BitVec 32) (k0_hw10 : k0_chk10 v260) (k0_t4 : Fin (k0_t4_loop v260).trips), ∀ (k0_h27 : k0_cond27 v260 k0_t4 = 1#1), ∀ a, (k0_off203 v260 k0_t4) a + S1x1.size a ≤ S2x7.size a := fun v260 k0_hw10 k0_t4 k0_h27 => k0_hw10.2.2.2.2.2.2.2.2.2.2.2.2.1 k0_t4 k0_h27
theorem k0_off204_inb : ∀ (v260 : BitVec 32) (k0_hw10 : k0_chk10 v260) (k0_t4 : Fin (k0_t4_loop v260).trips), ∀ (k0_h27 : k0_cond27 v260 k0_t4 = 1#1), ∀ a, (k0_off204 v260 k0_t4) a + S1x768x1024.size a ≤ S2x768x7168.size a := fun v260 k0_hw10 k0_t4 k0_h27 => k0_hw10.2.2.2.2.2.2.2.2.2.2.2.2.2.1 k0_t4 k0_h27
theorem k0_off204_wordsfp8e4m3 : ∀ (v260 : BitVec 32) (k0_hw10 : k0_chk10 v260) (k0_t4 : Fin (k0_t4_loop v260).trips), ∀ (k0_h27 : k0_cond27 v260 k0_t4 = 1#1), (Rect.unit (s := S2x768x7168) (k0_off204 v260 k0_t4) S1x768x1024.size (k0_off204_inb v260 k0_hw10 k0_t4 k0_h27)).WholeWords (EltTy.packing .fp8e4m3) := fun v260 k0_hw10 k0_t4 k0_h27 => k0_hw10.2.2.2.2.2.2.2.2.2.2.2.2.2.2.1 k0_t4 k0_h27 (k0_off204_inb v260 k0_hw10 k0_t4 k0_h27)
theorem k0_off206_inb : ∀ (v260 : BitVec 32) (k0_hw10 : k0_chk10 v260) (k0_t4 : Fin (k0_t4_loop v260).trips), ∀ a, (k0_off206 v260 k0_t4) a + S1x1.size a ≤ S2x7.size a := fun v260 k0_hw10 k0_t4 => k0_hw10.2.2.2.2.2.2.2.2.2.2.2.2.2.2.2.1 k0_t4
theorem k0_off207_inb : ∀ (v260 : BitVec 32) (k0_hw10 : k0_chk10 v260) (k0_t4 : Fin (k0_t4_loop v260).trips), ∀ a, (k0_off207 v260 k0_t4) a + S1x768x1024.size a ≤ S2x768x7168.size a := fun v260 k0_hw10 k0_t4 => k0_hw10.2.2.2.2.2.2.2.2.2.2.2.2.2.2.2.2.1 k0_t4
theorem k0_off207_wordsfp8e4m3 : ∀ (v260 : BitVec 32) (k0_hw10 : k0_chk10 v260) (k0_t4 : Fin (k0_t4_loop v260).trips), (Rect.unit (s := S2x768x7168) (k0_off207 v260 k0_t4) S1x768x1024.size (k0_off207_inb v260 k0_hw10 k0_t4)).WholeWords (EltTy.packing .fp8e4m3) := fun v260 k0_hw10 k0_t4 => k0_hw10.2.2.2.2.2.2.2.2.2.2.2.2.2.2.2.2.2.1 k0_t4 (k0_off207_inb v260 k0_hw10 k0_t4)
theorem k0_off208_inb : ∀ (v260 : BitVec 32) (k0_hw10 : k0_chk10 v260) (k0_t4 : Fin (k0_t4_loop v260).trips), ∀ a, (k0_off208 v260 k0_t4) a + S1x768x1024.size a ≤ S2x768x7168.size a := fun v260 k0_hw10 k0_t4 => k0_hw10.2.2.2.2.2.2.2.2.2.2.2.2.2.2.2.2.2.2.1 k0_t4
theorem k0_off210_inb : ∀ (v260 : BitVec 32) (k0_hw10 : k0_chk10 v260) (k0_t4 : Fin (k0_t4_loop v260).trips), ∀ (k0_h28 : k0_cond28 v260 k0_t4 = 1#1), ∀ a, (k0_off210 v260 k0_t4) a + S1x1.size a ≤ S2x7.size a := fun v260 k0_hw10 k0_t4 k0_h28 => k0_hw10.2.2.2.2.2.2.2.2.2.2.2.2.2.2.2.2.2.2.2.1 k0_t4 k0_h28
theorem k0_off211_inb : ∀ (v260 : BitVec 32) (k0_hw10 : k0_chk10 v260) (k0_t4 : Fin (k0_t4_loop v260).trips), ∀ (k0_h28 : k0_cond28 v260 k0_t4 = 1#1), ∀ a, (k0_off211 v260 k0_t4) a + S1x768x1024.size a ≤ S2x768x7168.size a := fun v260 k0_hw10 k0_t4 k0_h28 => k0_hw10.2.2.2.2.2.2.2.2.2.2.2.2.2.2.2.2.2.2.2.2.1 k0_t4 k0_h28
theorem k0_off211_wordsfp8e4m3 : ∀ (v260 : BitVec 32) (k0_hw10 : k0_chk10 v260) (k0_t4 : Fin (k0_t4_loop v260).trips), ∀ (k0_h28 : k0_cond28 v260 k0_t4 = 1#1), (Rect.unit (s := S2x768x7168) (k0_off211 v260 k0_t4) S1x768x1024.size (k0_off211_inb v260 k0_hw10 k0_t4 k0_h28)).WholeWords (EltTy.packing .fp8e4m3) := fun v260 k0_hw10 k0_t4 k0_h28 => k0_hw10.2.2.2.2.2.2.2.2.2.2.2.2.2.2.2.2.2.2.2.2.2 k0_t4 k0_h28 (k0_off211_inb v260 k0_hw10 k0_t4 k0_h28)

abbrev stage0_0 : Fin 1 → Memref sig .tc .vmem S33x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "inv_d" => some ((1 / 7168 : ℝ) : EReal)
  | _ => none
-- ==== ReferenceIdeal.lean ====
abbrev S33x1x7168 : Shape := ⟨3, ![33, 1, 7168]⟩
abbrev S33x1x8 : Shape := ⟨3, ![33, 1, 8]⟩
abbrev S32x7168x1536 : Shape := ⟨3, ![32, 7168, 1536]⟩
abbrev S32x1536 : Shape := ⟨2, ![32, 1536]⟩
abbrev S32x768x7168 : Shape := ⟨3, ![32, 768, 7168]⟩
abbrev S32x7168 : Shape := ⟨2, ![32, 7168]⟩
abbrev S7168 : Shape := ⟨1, ![7168]⟩
abbrev S7168x3072 : Shape := ⟨2, ![7168, 3072]⟩
abbrev S3072 : Shape := ⟨1, ![3072]⟩
abbrev S1536x7168 : Shape := ⟨2, ![1536, 7168]⟩
abbrev S33x7168 : Shape := ⟨2, ![33, 7168]⟩
abbrev S33x8 : Shape := ⟨2, ![33, 8]⟩
abbrev S1x7168 : Shape := ⟨2, ![1, 7168]⟩
abbrev S1x3072 : Shape := ⟨2, ![1, 3072]⟩
abbrev S33 : Shape := ⟨1, ![33]⟩
abbrev S33x1 : Shape := ⟨2, ![33, 1]⟩
abbrev S1x7168x1536 : Shape := ⟨3, ![1, 7168, 1536]⟩
abbrev S7168x1536 : Shape := ⟨2, ![7168, 1536]⟩
abbrev S33x1536 : Shape := ⟨2, ![33, 1536]⟩
abbrev S1x1536 : Shape := ⟨2, ![1, 1536]⟩
abbrev S33x768 : Shape := ⟨2, ![33, 768]⟩
abbrev S1x768x7168 : Shape := ⟨3, ![1, 768, 7168]⟩
abbrev S768x7168 : Shape := ⟨2, ![768, 7168]⟩
abbrev S33x3072 : Shape := ⟨2, ![33, 3072]⟩

abbrev nBuf : Space → Nat
  | .hbm => 19
  | .vmem => 13
  | .smem => 0
  | _ => 0

abbrev bufTy : (tb : Table) → Fin (tcTables nBuf tb) → BufTy
  | .hbm, ⟨0, _⟩ => ⟨S33x1x7168, .bf16⟩
  | .hbm, ⟨1, _⟩ => ⟨S33x1x8, .i32⟩
  | .hbm, ⟨2, _⟩ => ⟨S33x1x8, .f32⟩
  | .hbm, ⟨3, _⟩ => ⟨S32x7168x1536, .fp8e4m3⟩
  | .hbm, ⟨4, _⟩ => ⟨S32x1536, .f32⟩
  | .hbm, ⟨5, _⟩ => ⟨S32x768x7168, .fp8e4m3⟩
  | .hbm, ⟨6, _⟩ => ⟨S32x7168, .f32⟩
  | .hbm, ⟨7, _⟩ => ⟨S7168, .f32⟩
  | .hbm, ⟨8, _⟩ => ⟨S7168x3072, .fp8e4m3⟩
  | .hbm, ⟨9, _⟩ => ⟨S3072, .f32⟩
  | .hbm, ⟨10, _⟩ => ⟨S1536x7168, .fp8e4m3⟩
  | .hbm, ⟨11, _⟩ => ⟨S7168, .f32⟩
  | .hbm, ⟨12, _⟩ => ⟨S33x7168, .bf16⟩
  | .hbm, ⟨13, _⟩ => ⟨S33x8, .i32⟩
  | .hbm, ⟨14, _⟩ => ⟨S33x8, .f32⟩
  | .hbm, ⟨15, _⟩ => ⟨S1x7168, .f32⟩
  | .hbm, ⟨16, _⟩ => ⟨S1x3072, .f32⟩
  | .hbm, ⟨17, _⟩ => ⟨S1x7168, .f32⟩
  | .hbm, ⟨18, _⟩ => ⟨S33x7168, .bf16⟩
  | .local _ .vmem, ⟨0, _⟩ => ⟨S33x7168, .bf16⟩
  | .local _ .vmem, ⟨1, _⟩ => ⟨S33x8, .i32⟩
  | .local _ .vmem, ⟨2, _⟩ => ⟨S33x8, .f32⟩
  | .local _ .vmem, ⟨3, _⟩ => ⟨S32x7168x1536, .fp8e4m3⟩
  | .local _ .vmem, ⟨4, _⟩ => ⟨S32x1536, .f32⟩
  | .local _ .vmem, ⟨5, _⟩ => ⟨S32x768x7168, .fp8e4m3⟩
  | .local _ .vmem, ⟨6, _⟩ => ⟨S32x7168, .f32⟩
  | .local _ .vmem, ⟨7, _⟩ => ⟨S1x7168, .f32⟩
  | .local _ .vmem, ⟨8, _⟩ => ⟨S7168x3072, .fp8e4m3⟩
  | .local _ .vmem, ⟨9, _⟩ => ⟨S1x3072, .f32⟩
  | .local _ .vmem, ⟨10, _⟩ => ⟨S1536x7168, .fp8e4m3⟩
  | .local _ .vmem, ⟨11, _⟩ => ⟨S1x7168, .f32⟩
  | .local _ .vmem, ⟨12, _⟩ => ⟨S33x7168, .bf16⟩
  | _, _ => ⟨S33x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v19 : BitVec 32 := Scalar.addi c0_i32 c32_i32
  let c1_i32 : BitVec 32 := 1#32
  ⟨c0_i32, v19, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v45 : Index := Scalar.indexCast arg13
  let c0_19 : Index := 0#32
  let c0_20 : Index := 0#32
  ![v45.toNat, 0, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let v50 : Index := Scalar.indexCast arg13
  let c0_22 : Index := 0#32
  ![v50.toNat, 0]
def k0_off3 (k0_t1 : Fin k0_t1_loop.trips) : Fin 3 → Nat :=
  let c0_i32 : BitVec 32 := 0#32
  let c1_i32 : BitVec 32 := 1#32
  let arg13 : BitVec 32 := Scf.iv c0_i32 c1_i32 k0_t1
  let v60 : Index := Scalar.indexCast arg13
  let c0_23 : Index := 0#32
  let c0_24 : Index := 0#32
  ![v60.toNat, 0, 0]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let v75 : Index := Scalar.indexCast arg13
  let c0_32 : Index := 0#32
  ![v75.toNat, 0]
abbrev stage0_0 : Fin 1 → Memref sig .tc .vmem S33x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S33x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x7168x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x768x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x3072 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x7168 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x7168 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S33x7168 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Lib.Flights.lean ====
/-
  Hand-written. Facts about transfers in flight and about views, over any
  signature: a flight delivers besides its own delivery anything its holder sets aside for it, two copies issued on one
  cell and awaited together are a flight of both deliveries, and a copy between two squeezed boxes leaves in the
  destination's box what the source's box held.
-/
module

public import Idealize.ShloMosaic.Lib.MixedBatch
public import Idealize.ShloMosaic.Lib.Ring
public import Idealize.ShloMosaic.Lib.Tactic

@[expose] public section

noncomputable section

namespace Cert.Moe

open Idealize.ShloMosaic
open Idealize.SL
open Idealize.SL.BI (sProp Storable bigSep bigSep_insert bigSep_empty)
open scoped Idealize.SL.BI
open Idealize.SL.BI.BIBase Idealize.SL.BI.Laws Idealize.SL.Sem Idealize.SL.ProofMode
open Idealize.SL.RA
open Idealize.ShloMosaic.Transfers

section Flights

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (EC : UEmb Counters (MT nD τ sig Ix Val Name U Lvl)) (c : Thread nD τ)

/-- What the holder of a flight sets aside comes back with the flight's delivery. -/
theorem flight_frame {sm : SemLoc sig} {ι : Ix} {N : ℕ} {D R : sProp 𝕄} :
    iprop(Flight EC c sm ι N D ∗ R) ⊢ (Flight EC c sm ι N iprop(D ∗ R) : sProp 𝕄) := by
  unfold Flight
  iintro ⟨⟨⟨%R0, HR0, %hcap, %hpeek⟩, Hcred⟩, HR⟩
  isplitl [HR0 HR]
  · iexists iprop(R0 ∗ R)
    isplitl [HR0 HR]
    · isplitl [HR0]; · iexact HR0
      iexact HR
    isplit
    · ipureintro
      intro K
      refine Entails.trans ?_ (hcap K)
      iintro ⟨⟨H0, HR⟩, HK⟩
      isplitl [H0]; · iexact H0
      iintro ⟨Hv, HD⟩
      iapply HK
      isplitl [Hv]; · iexact Hv
      isplitl [HD]; · iexact HD
      iexact HR
    · ipureintro
      intro K
      refine Entails.trans ?_ (hpeek K)
      iintro ⟨⟨H0, HR⟩, HK⟩
      isplitl [H0]; · iexact H0
      iintro H0
      iapply HK
      isplitl [H0]; · iexact H0
      iexact HR
  · iexact Hcred

/-- Copies of different amounts issued on one cell and awaited by one wait of their sum are a flight of all their
    deliveries. -/
theorem batch_flight [EC.LandsIn (upEmb : UEmb _ 𝕄)] {n : ℕ} {sm : SemLoc sig} {ι : Ix} {A : Fin n → ℕ} {D : Fin n → sProp 𝕄}
    (hA0 : ∀ t, 0 < A t) {N : ℕ} (hN : sumTo A n = N) :
    (MixedBatch EC c sm ι A D n 0 : sProp 𝕄) ⊢ Flight EC c sm ι N (bigSep Finset.univ D) := by
  unfold MixedBatch Flight
  iintro ⟨%γ, %γ₀, %κ, #Hinv, -, H0, Hcred⟩
  rw [hN, Nat.sub_zero]
  isplitl [H0]
  · iexists iprop(inv κ (mixedBody EC (c, sm) A D γ γ₀) ∗ count EC γ₀ 0)
    isplitl [H0]
    · isplitr; · iexact Hinv
      iexact H0
    isplit
    · ipureintro
      intro K
      iintro ⟨⟨Hinv, H0⟩, HK⟩
      iapply (mixedBatch_lower_all EC (Set.mem_univ κ) hA0 (u := 0) (J := N) (by rw [Nat.zero_add, ← hN, sumTo_total]))
      isplitl [Hinv]; · iexact Hinv
      isplitl [H0] <;> iassumption
    · ipureintro
      intro K
      iintro ⟨⟨#Hinv, H0⟩, HK⟩
      iapply (mixedBatch_lower_skip EC (Set.mem_univ κ) (u := 0) (J := 0))
      isplitr; · iexact Hinv
      isplitl [H0]; · iexact H0
      iintro H0
      iapply HK
      isplitr; · iexact Hinv
      iexact H0
  · iexact Hcred

end Flights

section Views

variable {sig : RefSig} {κ : Kind} {sp sp' : Space} {e : EltTy} {Val : EltTy → Type}

/-- A copy from a squeezed box of one array to a squeezed box of another, of one size: what a load at the destination's
    box then reads is what a load at the source's box reads. -/
theorem land_read {n : ℕ} {sz ssd sss : Fin n → ℕ} {s' : Shape}
    (vd : View sig κ sp ⟨n, ssd⟩ e) (vs : View sig κ sp' ⟨n, sss⟩ e)
    {od os : Fin n → ℕ} (hd : ∀ a, od a + sz a ≤ ssd a) (hs : ∀ a, os a + sz a ≤ sss a)
    (hn : s'.numel = (Rect.unit (s := ⟨n, ssd⟩) od sz hd).shape.numel)
    (hn' : s'.numel = (Rect.unit (s := ⟨n, sss⟩) os sz hs).shape.numel)
    (f : vd.ty.Contents Val) (g : vs.ty.Contents Val) :
    vd.readAt Val (Rect.unit (s := ⟨n, ssd⟩) od sz hd).toLoadRect
        (((vd.slice (Rect.unit (s := ⟨n, ssd⟩) od sz hd)).reshape s' hn).write Val f
          (((vs.slice (Rect.unit (s := ⟨n, sss⟩) os sz hs)).reshape s' hn').read Val g) Finset.univ)
      = vs.readAt Val (Rect.unit (s := ⟨n, sss⟩) os sz hs).toLoadRect g := by
  funext x
  have h := View.read_write_of_mem (v := (vd.slice (Rect.unit (s := ⟨n, ssd⟩) od sz hd)).reshape s' hn) (Val := Val) f
    (((vs.slice (Rect.unit (s := ⟨n, sss⟩) os sz hs)).reshape s' hn').read Val g)
    (Finset.mem_univ ((Shape.reshapeEquiv hn).symm x))
  have h2 : Shape.reshapeEquiv hn ((Shape.reshapeEquiv hn).symm x) = x := Equiv.apply_symm_apply _ _
  have h3 : Shape.reshapeEquiv hn' ((Shape.reshapeEquiv hn).symm x) = x := h2
  refine Eq.trans ?_ (h.trans ?_)
  · show _ = View.read Val (vd.slice (Rect.unit (s := ⟨n, ssd⟩) od sz hd)) _ (Shape.reshapeEquiv hn ((Shape.reshapeEquiv hn).symm x))
    rw [h2]; rfl
  · show View.read Val (vs.slice (Rect.unit (s := ⟨n, sss⟩) os sz hs)) g (Shape.reshapeEquiv hn' ((Shape.reshapeEquiv hn).symm x)) = _
    rw [h3]; rfl

end Views

end Cert.Moe

end
-- ==== Proof.KernelIdeal.Chunks.lean ====
/-
  Hand-written. The two weight buffers of the expert loop, held CHUNK BY CHUNK: slot `s` of the gate-and-up buffer is
  seven chunks of 1024 rows, slot `s` of the down buffer seven chunks of 1024 columns, each completing on a cell of its
  own. `GuHeld s j V` / `DnHeld s j V`: the chunk is held and a load of it reads `V`. `GuFly s j V` / `DnFly s j V`: a
  copy that delivers the chunk so is in flight on the chunk's cell, and gives back the read shares of the arrays in HBM
  it was lent. Rules: wait for a chunk, load it, issue the copy of the next item's chunk.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Lib.Flights

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

/-- The counters' place in the algebra of a region with transfers of its own. -/
abbrev EC : UEmb Counters (MT nD τ sig Unit (Elt F) ℕ (Pipeline.UD sig nD τ) ℕ) := countersEmb (U := Pipeline.UD sig nD τ)

/-- The expert weights in HBM, the shared expert's, and the two buffers they are copied into. -/
abbrev A3 : Memref sig .tc .hbm S32x7168x1536 .fp8e4m3 := Memref.whole main_arg3
abbrev A5 : Memref sig .tc .hbm S32x768x7168 .fp8e4m3 := Memref.whole main_arg5
abbrev A8 : Memref sig .tc .hbm S7168x3072 .fp8e4m3 := Memref.whole main_arg8
abbrev A10 : Memref sig .tc .hbm S1536x7168 .fp8e4m3 := Memref.whole main_arg10
abbrev B30 : Memref sig .tc .vmem S2x7168x1536 .fp8e4m3 := Memref.whole cc0_scratch17
abbrev B31 : Memref sig .tc .vmem S2x768x7168 .fp8e4m3 := Memref.whole cc0_scratch18

/-- Contents of a memref's buffer on core `c`, and the buffer held whole at a share. -/
abbrev Cts (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Cts (F := F) c M) : sProp 𝕄 :=
  M.view.loc (c : Thread nD τ) ↦{q} f

/-! ## Places -/

/-- Chunk `j` of slot `s`, by offsets: seven chunks of 1024 rows, seven of 1024 columns, seven cells. -/
abbrev guOff (s : Fin 2) (j : Fin 7) : Fin 3 → ℕ := ![s.val, 1024 * j.val, 0]
abbrev dnOff (s : Fin 2) (j : Fin 7) : Fin 3 → ℕ := ![s.val, 0, 1024 * j.val]
abbrev cOff (s : Fin 2) (j : Fin 7) : Fin 2 → ℕ := ![s.val, j.val]
theorem guInb (s : Fin 2) (j : Fin 7) : ∀ a, guOff s j a + S1x1024x1536.size a ≤ S2x7168x1536.size a := by revert s j; decide
theorem dnInb (s : Fin 2) (j : Fin 7) : ∀ a, dnOff s j a + S1x768x1024.size a ≤ S2x768x7168.size a := by revert s j; decide
theorem cInb (s : Fin 2) (j : Fin 7) : ∀ a, cOff s j a + S1x1.size a ≤ S2x7.size a := by revert s j; decide

/-- Expert `e`'s chunk `j` of the weights in HBM. -/
abbrev guSrcOff (e : Fin 32) (j : Fin 7) : Fin 3 → ℕ := ![e.val, 1024 * j.val, 0]
abbrev dnSrcOff (e : Fin 32) (j : Fin 7) : Fin 3 → ℕ := ![e.val, 0, 1024 * j.val]
theorem guSrcInb (e : Fin 32) (j : Fin 7) : ∀ a, guSrcOff e j a + S1x1024x1536.size a ≤ S32x7168x1536.size a := by revert e j; decide
theorem dnSrcInb (e : Fin 32) (j : Fin 7) : ∀ a, dnSrcOff e j a + S1x768x1024.size a ≤ S32x768x7168.size a := by revert e j; decide

abbrev guRect (s : Fin 2) (j : Fin 7) : Rect S2x7168x1536 := Rect.unit (s := S2x7168x1536) (guOff s j) S1x1024x1536.size (guInb s j)
abbrev dnRect (s : Fin 2) (j : Fin 7) : Rect S2x768x7168 := Rect.unit (s := S2x768x7168) (dnOff s j) S1x768x1024.size (dnInb s j)
abbrev guCell (s : Fin 2) (j : Fin 7) : DmaSem sig :=
  ((cc0_scratch21.slice (Rect.unit (s := S2x7) (cOff s j) S1x1.size (cInb s j))).squeeze S_ squeezes_S1x1_S_).sem
abbrev dnCell (s : Fin 2) (j : Fin 7) : DmaSem sig :=
  ((cc0_scratch22.slice (Rect.unit (s := S2x7) (cOff s j) S1x1.size (cInb s j))).squeeze S_ squeezes_S1x1_S_).sem

/-- The elements of a chunk. -/
def guSet (s : Fin 2) (j : Fin 7) : Finset (Shape.Idx S2x7168x1536) := (guRect s j).set
def dnSet (s : Fin 2) (j : Fin 7) : Finset (Shape.Idx S2x768x7168) := (dnRect s j).set

/-- What a load of expert `e`'s chunk reads off the weights in HBM. -/
def guW (c : Dev nD) (f : Cts (F := F) c A3) (e : Fin 32) (j : Fin 7) : Vec F S1x1024x1536 .fp8e4m3 :=
  A3.view.readAt (Elt F) (Rect.unit (s := S32x7168x1536) (guSrcOff e j) S1x1024x1536.size (guSrcInb e j)).toLoadRect f
def dnW (c : Dev nD) (f : Cts (F := F) c A5) (e : Fin 32) (j : Fin 7) : Vec F S1x768x1024 .fp8e4m3 :=
  A5.view.readAt (Elt F) (Rect.unit (s := S32x768x7168) (dnSrcOff e j) S1x768x1024.size (dnSrcInb e j)).toLoadRect f

/-! ## Chunks held and in flight -/

/-- The chunk is held at the full share and a load of it reads `V`. -/
def GuHeld (c : Dev nD) (s : Fin 2) (j : Fin 7) (V : Vec F S1x1024x1536 .fp8e4m3) : sProp 𝕄 :=
  iprop(∃ f : Cts (F := F) c B30, (B30.view.loc (c : Thread nD τ) ↦[guSet s j]{fullShare} f) ∗ ⌜B30.view.readAt (Elt F) (guRect s j).toLoadRect f = V⌝)
def DnHeld (c : Dev nD) (s : Fin 2) (j : Fin 7) (V : Vec F S1x768x1024 .fp8e4m3) : sProp 𝕄 :=
  iprop(∃ f : Cts (F := F) c B31, (B31.view.loc (c : Thread nD τ) ↦[dnSet s j]{fullShare} f) ∗ ⌜B31.view.readAt (Elt F) (dnRect s j).toLoadRect f = V⌝)

/-- The read shares of the weights in HBM that chunk `j` of slot `s` borrows: one of the experts' array per cell, two of
    the shared expert's gate and up projections (two copies land there), one of its down projection. -/
def tk (s : Fin 2) (j : Fin 7) : PosShare TreeShare := shareTokN fullShare (7 * s.val + j.val)
def tk2 (s : Fin 2) (j : Fin 7) : PosShare TreeShare := shareTokN fullShare (14 + 7 * s.val + j.val)
def GuTok (c : Dev nD) (f3 : Cts (F := F) c A3) (f8 : Cts (F := F) c A8) (s : Fin 2) (j : Fin 7) : sProp 𝕄 :=
  iprop(pt c A3 (tk s j) f3 ∗ pt c A8 (tk s j) f8 ∗ pt c A8 (tk2 s j) f8)
def DnTok (c : Dev nD) (f5 : Cts (F := F) c A5) (f10 : Cts (F := F) c A10) (s : Fin 2) (j : Fin 7) : sProp 𝕄 :=
  iprop(pt c A5 (tk s j) f5 ∗ pt c A10 (tk s j) f10)

/-- The units a chunk's arrival counts. -/
abbrev guN : ℕ := ((B30.slice (guRect 0 0) (fun _ => rfl)).squeeze S1024x1536 squeezes_S1x1024x1536_S1024x1536).view.dmaCredit
abbrev dnN : ℕ := ((B31.slice (dnRect 0 0) (fun _ => rfl)).squeeze S768x1024 squeezes_S1x768x1024_S768x1024).view.dmaCredit

def GuFly (c : Dev nD) (f3 : Cts (F := F) c A3) (f8 : Cts (F := F) c A8) (s : Fin 2) (j : Fin 7) (V : Vec F S1x1024x1536 .fp8e4m3) : sProp 𝕄 :=
  Flight EC (c : Thread nD τ) (SemLoc.dma (guCell s j)) () guN iprop(GuHeld c s j V ∗ GuTok c f3 f8 s j)
def DnFly (c : Dev nD) (f5 : Cts (F := F) c A5) (f10 : Cts (F := F) c A10) (s : Fin 2) (j : Fin 7) (V : Vec F S1x768x1024 .fp8e4m3) : sProp 𝕄 :=
  Flight EC (c : Thread nD τ) (SemLoc.dma (dnCell s j)) () dnN iprop(DnHeld c s j V ∗ DnTok c f5 f10 s j)
/-- A chunk nothing is in flight to: held at some contents, its shares at home, its cell at zero. -/
def GuIdle (c : Dev nD) (f3 : Cts (F := F) c A3) (f8 : Cts (F := F) c A8) (s : Fin 2) (j : Fin 7) : sProp 𝕄 :=
  iprop((∃ V, GuHeld c s j V) ∗ GuTok c f3 f8 s j ∗ semVal ((c : Thread nD τ), SemLoc.dma (guCell s j)) 0)
def DnIdle (c : Dev nD) (f5 : Cts (F := F) c A5) (f10 : Cts (F := F) c A10) (s : Fin 2) (j : Fin 7) : sProp 𝕄 :=
  iprop((∃ V, DnHeld c s j V) ∗ DnTok c f5 f10 s j ∗ semVal ((c : Thread nD τ), SemLoc.dma (dnCell s j)) 0)

/-! ## Rules -/

section Rules

variable (c : Dev nD) {α : Type} {Q : α → sProp (MT nD τ sig Unit (Elt F) ℕ (Pipeline.UD sig nD τ) ℕ)}

/-- The program logic's judgement the body is run in. -/
abbrev WP (p : Prog (TpuEff nD τ sig (Elt F) Λ₀ .tc) α) (Q : α → sProp 𝕄) : sProp 𝕄 :=
  wp frame (wpE (defs₀ (F := F)) Variants.none (c : Thread nD τ) none) Set.univ p Q

/-- Wait for a chunk of the gate and up weights. -/
theorem wp_guWait {f3 : Cts (F := F) c A3} {f8 : Cts (F := F) c A8} {s : Fin 2} {j : Fin 7} {V : Vec F S1x1024x1536 .fp8e4m3}
    {oC : Fin 2 → ℕ} (hC : oC = cOff s j) (inbC : ∀ a, oC a + S1x1.size a ≤ S2x7.size a)
    {oD : Fin 3 → ℕ} (inbD : ∀ a, oD a + S1x1024x1536.size a ≤ S2x7168x1536.size a)
    {srcw : Memref sig .tc .hbm S1024x1536 .fp8e4m3} {hsrc : srcw.view.WordExact}
    {hdst : ((B30.slice (Rect.unit (s := S2x7168x1536) oD S1x1024x1536.size inbD) (fun _ => rfl)).squeeze S1024x1536 squeezes_S1x1024x1536_S1024x1536).view.WordExact}
    {k : PUnit → Prog (TpuEff nD τ sig (Elt F) Λ₀ .tc) α} {W : Waits sig Unit} :
    iprop(GuFly c f3 f8 s j V ∗ owes (c : Thread nD τ) 0 W)
      ⊢ iprop((∀ W', iprop(GuHeld c s j V ∗ GuTok c f3 f8 s j ∗ semVal ((c : Thread nD τ), SemLoc.dma (guCell s j)) 0 ∗ owes (c : Thread nD τ) 0 W') -∗ WP c (k ⟨⟩) Q)
        -∗ WP c (.op (.waitDma2 ((cc0_scratch21.slice (Rect.unit (s := S2x7) oC S1x1.size inbC)).squeeze S_ squeezes_S1x1_S_).sem srcw
            ((B30.slice (Rect.unit (s := S2x7168x1536) oD S1x1024x1536.size inbD) (fun _ => rfl)).squeeze S1024x1536 squeezes_S1x1024x1536_S1024x1536) hsrc hdst) k) Q) := by
  subst hC
  unfold GuFly
  iintro ⟨HF, HO⟩ Hk
  iapply (wp_waitLocal EC Variants.none (c : Thread nD τ) none (hsrc := hsrc) (hdst := hdst) () (N := guN) rfl) $$ [HF HO]
  · isplitl [HF]; · iexact HF
    iexact HO
  iintro ⟨⟨Hh, Ht⟩, Hv, HO⟩
  iapply Hk
  isplitl [Hh]; · iexact Hh
  isplitl [Ht]; · iexact Ht
  isplitl [Hv]; · iexact Hv
  iexact HO

/-- Load it. -/
theorem wp_guLoad {s : Fin 2} {j : Fin 7} {V : Vec F S1x1024x1536 .fp8e4m3}
    {oD : Fin 3 → ℕ} (hD : oD = guOff s j) (inbD : ∀ a, oD a + S1x1024x1536.size a ≤ S2x7168x1536.size a)
    {hl : B30.view.LoadsAt (Rect.unit (s := S2x7168x1536) oD S1x1024x1536.size inbD).toLoadRect}
    {k : Vec F S1x1024x1536 .fp8e4m3 → Prog (TpuEff nD τ sig (Elt F) Λ₀ .tc) α} :
    GuHeld c s j V
      ⊢ iprop((GuHeld c s j V -∗ WP c (k V) Q)
        -∗ WP c (.op (.load B30 (Rect.unit (s := S2x7168x1536) oD S1x1024x1536.size inbD).toLoadRect hl) k) Q) := by
  subst hD
  unfold GuHeld
  iintro ⟨%f, Hf, %hf⟩ Hk
  iapply (wp_load Variants.none (c : Thread nD τ) none Set.univ (m := B30) (S := guSet s j) (by
    show ((guRect s j).toLoadRect.set).map (Function.Embedding.refl _) ⊆ (guRect s j).set
    rw [Finset.map_refl])) $$ Hf
  iintro Hf
  rw [hf]
  iapply Hk
  iexists f
  isplitl [Hf]; · iexact Hf
  ipureintro; exact hf

/-- Wait for a chunk of the down weights. -/
theorem wp_dnWait {f5 : Cts (F := F) c A5} {f10 : Cts (F := F) c A10} {s : Fin 2} {j : Fin 7} {V : Vec F S1x768x1024 .fp8e4m3}
    {oC : Fin 2 → ℕ} (hC : oC = cOff s j) (inbC : ∀ a, oC a + S1x1.size a ≤ S2x7.size a)
    {oD : Fin 3 → ℕ} (inbD : ∀ a, oD a + S1x768x1024.size a ≤ S2x768x7168.size a)
    {srcw : Memref sig .tc .hbm S768x1024 .fp8e4m3} {hsrc : srcw.view.WordExact}
    {hdst : ((B31.slice (Rect.unit (s := S2x768x7168) oD S1x768x1024.size inbD) (fun _ => rfl)).squeeze S768x1024 squeezes_S1x768x1024_S768x1024).view.WordExact}
    {k : PUnit → Prog (TpuEff nD τ sig (Elt F) Λ₀ .tc) α} {W : Waits sig Unit} :
    iprop(DnFly c f5 f10 s j V ∗ owes (c : Thread nD τ) 0 W)
      ⊢ iprop((∀ W', iprop(DnHeld c s j V ∗ DnTok c f5 f10 s j ∗ semVal ((c : Thread nD τ), SemLoc.dma (dnCell s j)) 0 ∗ owes (c : Thread nD τ) 0 W') -∗ WP c (k ⟨⟩) Q)
        -∗ WP c (.op (.waitDma2 ((cc0_scratch22.slice (Rect.unit (s := S2x7) oC S1x1.size inbC)).squeeze S_ squeezes_S1x1_S_).sem srcw
            ((B31.slice (Rect.unit (s := S2x768x7168) oD S1x768x1024.size inbD) (fun _ => rfl)).squeeze S768x1024 squeezes_S1x768x1024_S768x1024) hsrc hdst) k) Q) := by
  subst hC
  unfold DnFly
  iintro ⟨HF, HO⟩ Hk
  iapply (wp_waitLocal EC Variants.none (c : Thread nD τ) none (hsrc := hsrc) (hdst := hdst) () (N := dnN) rfl) $$ [HF HO]
  · isplitl [HF]; · iexact HF
    iexact HO
  iintro ⟨⟨Hh, Ht⟩, Hv, HO⟩
  iapply Hk
  isplitl [Hh]; · iexact Hh
  isplitl [Ht]; · iexact Ht
  isplitl [Hv]; · iexact Hv
  iexact HO

/-- Load it. -/
theorem wp_dnLoad {s : Fin 2} {j : Fin 7} {V : Vec F S1x768x1024 .fp8e4m3}
    {oD : Fin 3 → ℕ} (hD : oD = dnOff s j) (inbD : ∀ a, oD a + S1x768x1024.size a ≤ S2x768x7168.size a)
    {hl : B31.view.LoadsAt (Rect.unit (s := S2x768x7168) oD S1x768x1024.size inbD).toLoadRect}
    {k : Vec F S1x768x1024 .fp8e4m3 → Prog (TpuEff nD τ sig (Elt F) Λ₀ .tc) α} :
    DnHeld c s j V
      ⊢ iprop((DnHeld c s j V -∗ WP c (k V) Q)
        -∗ WP c (.op (.load B31 (Rect.unit (s := S2x768x7168) oD S1x768x1024.size inbD).toLoadRect hl) k) Q) := by
  subst hD
  unfold DnHeld
  iintro ⟨%f, Hf, %hf⟩ Hk
  iapply (wp_load Variants.none (c : Thread nD τ) none Set.univ (m := B31) (S := dnSet s j) (by
    show ((dnRect s j).toLoadRect.set).map (Function.Embedding.refl _) ⊆ (dnRect s j).set
    rw [Finset.map_refl])) $$ Hf
  iintro Hf
  rw [hf]
  iapply Hk
  iexists f
  isplitl [Hf]; · iexact Hf
  ipureintro; exact hf

/-- The copy of the next item's chunk, issued when there is one; without one the chunk is idle. -/
def GuSlot (c : Dev nD) (f3 : Cts (F := F) c A3) (f8 : Cts (F := F) c A8) (C : Prop) [Decidable C] (s : Fin 2) (j : Fin 7) (V : Vec F S1x1024x1536 .fp8e4m3) :
    sProp 𝕄 := if C then GuFly c f3 f8 s j V else GuIdle c f3 f8 s j
def DnSlot (c : Dev nD) (f5 : Cts (F := F) c A5) (f10 : Cts (F := F) c A10) (C : Prop) [Decidable C] (s : Fin 2) (j : Fin 7) (V : Vec F S1x768x1024 .fp8e4m3) :
    sProp 𝕄 := if C then DnFly c f5 f10 s j V else DnIdle c f5 f10 s j

abbrev guDst (oD : Fin 3 → ℕ) (inbD : ∀ a, oD a + S1x1024x1536.size a ≤ S2x7168x1536.size a) : Memref sig .tc .vmem S1024x1536 .fp8e4m3 :=
  (B30.slice (Rect.unit (s := S2x7168x1536) oD S1x1024x1536.size inbD) (fun _ => rfl)).squeeze S1024x1536 squeezes_S1x1024x1536_S1024x1536
abbrev guSrc (oS : Fin 3 → ℕ) (inbS : ∀ a, oS a + S1x1024x1536.size a ≤ S32x7168x1536.size a) : Memref sig .tc .hbm S1024x1536 .fp8e4m3 :=
  (A3.slice (Rect.unit (s := S32x7168x1536) oS S1x1024x1536.size inbS) (fun _ => rfl)).squeeze S1024x1536 squeezes_S1x1024x1536_S1024x1536
abbrev cCell (S : DmaSems sig S2x7) (oC : Fin 2 → ℕ) (inbC : ∀ a, oC a + S1x1.size a ≤ S2x7.size a) : DmaSem sig :=
  ((S.slice (Rect.unit (s := S2x7) oC S1x1.size inbC)).squeeze S_ squeezes_S1x1_S_).sem

theorem guDst_set (s : Fin 2) (j : Fin 7) : (guDst (guOff s j) (guInb s j)).view.set = guSet s j := by
  unfold guDst guSet
  rw [Memref.set_view_squeeze]
  show (B30.view.slice _).set = _
  rw [View.set_slice]
  show Finset.map (Function.Embedding.refl _) _ = _
  rw [Finset.map_refl]

/-- Issue the copy of expert `e`'s chunk into an idle chunk. -/
theorem wp_guIssue {f3 : Cts (F := F) c A3} {f8 : Cts (F := F) c A8} {s : Fin 2} {j : Fin 7} {V : Vec F S1x1024x1536 .fp8e4m3}
    {e : Fin 32}
    {oC : Fin 2 → ℕ} (hC : oC = cOff s j) (inbC : ∀ a, oC a + S1x1.size a ≤ S2x7.size a)
    {oD : Fin 3 → ℕ} (hD : oD = guOff s j) (inbD : ∀ a, oD a + S1x1024x1536.size a ≤ S2x7168x1536.size a)
    {oS : Fin 3 → ℕ} (hS : oS = guSrcOff e j) (inbS : ∀ a, oS a + S1x1024x1536.size a ≤ S32x7168x1536.size a)
    {hsrc : (guSrc oS inbS).view.WordExact} {hdst : (guDst oD inbD).view.WordExact}
    {hsem : DmaTarget.Typed (nD := nD) (p := (Proc.tc : Proc τ)) Space.hbm (SemLoc.dma (cCell cc0_scratch21 oC inbC)) (DmaTarget.here (guDst oD inbD))}
    {k : PUnit → Prog (TpuEff nD τ sig (Elt F) Λ₀ .tc) α} :
    iprop(GuHeld c s j V ∗ GuTok c f3 f8 s j ∗ semVal ((c : Thread nD τ), SemLoc.dma (guCell s j)) 0)
      ⊢ iprop((GuFly c f3 f8 s j (guW c f3 e j) -∗ WP c (k ⟨⟩) Q)
        -∗ WP c (.op (.enqueueDma (guSrc oS inbS) (.here (guDst oD inbD)) (.dma (cCell cc0_scratch21 oC inbC)) hsrc hdst hsem) k) Q) := by
  subst hC hD hS
  unfold GuHeld GuTok
  iintro ⟨⟨%f, Hf, %hf⟩, ⟨H3, H8, H8'⟩, Hv⟩ Hk
  ihave H3 := (pointsTo_split_subset (Finset.subset_univ (guSrc (guSrcOff e j) inbS).view.set)).1 $$ H3
  icases H3 with ⟨H3, H3r⟩
  iapply (wp_dmaLocal EC Variants.none (c : Thread nD τ) none (hsrc := hsrc) (hdst := hdst) (hsem := hsem) () guN rfl (by decide)
    (Sd := guSet s j) (subset_of_eq (guDst_set s j))) $$ [H3 Hf Hv]
  · isplitl [H3]; · iexact H3
    isplitl [Hf]; · iexact Hf
    iexact Hv
  iintro HF
  iapply Hk
  unfold GuFly
  ihave HF := (flight_frame EC (c : Thread nD τ) (R := iprop((A3.view.loc (c : Thread nD τ) ↦[Finset.univ \ (guSrc (guSrcOff e j) inbS).view.set]{tk s j} f3) ∗ pt c A8 (tk s j) f8 ∗ pt c A8 (tk2 s j) f8))) $$ [HF H3r H8 H8']
  · isplitl [HF]; · iexact HF
    isplitl [H3r]; · iexact H3r
    isplitl [H8]; · iexact H8
    iexact H8'
  iapply (Flight_mono EC ?_) $$ HF
  unfold GuHeld GuTok
  iintro ⟨⟨Hd, H3⟩, H3r, H8, H8'⟩
  isplitl [Hd]
  · iexists _
    isplitl [Hd]; · iexact Hd
    ipureintro
    exact land_read (vd := B30.view) (vs := A3.view) _ _ _ _ _ _
  isplitl [H3 H3r]
  · iapply (pointsTo_split_subset (Finset.subset_univ (guSrc (guSrcOff e j) inbS).view.set)).2
    isplitl [H3]; · iexact H3
    iexact H3r
  isplitl [H8]; · iexact H8
  iexact H8'

abbrev dnDst (oD : Fin 3 → ℕ) (inbD : ∀ a, oD a + S1x768x1024.size a ≤ S2x768x7168.size a) : Memref sig .tc .vmem S768x1024 .fp8e4m3 :=
  (B31.slice (Rect.unit (s := S2x768x7168) oD S1x768x1024.size inbD) (fun _ => rfl)).squeeze S768x1024 squeezes_S1x768x1024_S768x1024
abbrev dnSrc (oS : Fin 3 → ℕ) (inbS : ∀ a, oS a + S1x768x1024.size a ≤ S32x768x7168.size a) : Memref sig .tc .hbm S768x1024 .fp8e4m3 :=
  (A5.slice (Rect.unit (s := S32x768x7168) oS S1x768x1024.size inbS) (fun _ => rfl)).squeeze S768x1024 squeezes_S1x768x1024_S768x1024
theorem dnDst_set (s : Fin 2) (j : Fin 7) : (dnDst (dnOff s j) (dnInb s j)).view.set = dnSet s j := by
  unfold dnDst dnSet
  rw [Memref.set_view_squeeze]
  show (B31.view.slice _).set = _
  rw [View.set_slice]
  show Finset.map (Function.Embedding.refl _) _ = _
  rw [Finset.map_refl]

/-- Issue the copy of expert `e`'s chunk into an idle chunk. -/
theorem wp_dnIssue {f5 : Cts (F := F) c A5} {f10 : Cts (F := F) c A10} {s : Fin 2} {j : Fin 7} {V : Vec F S1x768x1024 .fp8e4m3}
    {e : Fin 32}
    {oC : Fin 2 → ℕ} (hC : oC = cOff s j) (inbC : ∀ a, oC a + S1x1.size a ≤ S2x7.size a)
    {oD : Fin 3 → ℕ} (hD : oD = dnOff s j) (inbD : ∀ a, oD a + S1x768x1024.size a ≤ S2x768x7168.size a)
    {oS : Fin 3 → ℕ} (hS : oS = dnSrcOff e j) (inbS : ∀ a, oS a + S1x768x1024.size a ≤ S32x768x7168.size a)
    {hsrc : (dnSrc oS inbS).view.WordExact} {hdst : (dnDst oD inbD).view.WordExact}
    {hsem : DmaTarget.Typed (nD := nD) (p := (Proc.tc : Proc τ)) Space.hbm (SemLoc.dma (cCell cc0_scratch22 oC inbC)) (DmaTarget.here (dnDst oD inbD))}
    {k : PUnit → Prog (TpuEff nD τ sig (Elt F) Λ₀ .tc) α} :
    iprop(DnHeld c s j V ∗ DnTok c f5 f10 s j ∗ semVal ((c : Thread nD τ), SemLoc.dma (dnCell s j)) 0)
      ⊢ iprop((DnFly c f5 f10 s j (dnW c f5 e j) -∗ WP c (k ⟨⟩) Q)
        -∗ WP c (.op (.enqueueDma (dnSrc oS inbS) (.here (dnDst oD inbD)) (.dma (cCell cc0_scratch22 oC inbC)) hsrc hdst hsem) k) Q) := by
  subst hC hD hS
  unfold DnHeld DnTok
  iintro ⟨⟨%f, Hf, %hf⟩, ⟨H3, H10⟩, Hv⟩ Hk
  ihave H3 := (pointsTo_split_subset (Finset.subset_univ (dnSrc (dnSrcOff e j) inbS).view.set)).1 $$ H3
  icases H3 with ⟨H3, H3r⟩
  iapply (wp_dmaLocal EC Variants.none (c : Thread nD τ) none (hsrc := hsrc) (hdst := hdst) (hsem := hsem) () dnN rfl (by decide)
    (Sd := dnSet s j) (subset_of_eq (dnDst_set s j))) $$ [H3 Hf Hv]
  · isplitl [H3]; · iexact H3
    isplitl [Hf]; · iexact Hf
    iexact Hv
  iintro HF
  iapply Hk
  unfold DnFly
  ihave HF := (flight_frame EC (c : Thread nD τ) (R := iprop((A5.view.loc (c : Thread nD τ) ↦[Finset.univ \ (dnSrc (dnSrcOff e j) inbS).view.set]{tk s j} f5) ∗ pt c A10 (tk s j) f10))) $$ [HF H3r H10]
  · isplitl [HF]; · iexact HF
    isplitl [H3r]; · iexact H3r
    iexact H10
  iapply (Flight_mono EC ?_) $$ HF
  unfold DnHeld DnTok
  iintro ⟨⟨Hd, H3⟩, H3r, H10⟩
  isplitl [Hd]
  · iexists _
    isplitl [Hd]; · iexact Hd
    ipureintro
    exact land_read (vd := B31.view) (vs := A5.view) _ _ _ _ _ _
  isplitl [H3 H3r]
  · iapply (pointsTo_split_subset (Finset.subset_univ (dnSrc (dnSrcOff e j) inbS).view.set)).2
    isplitl [H3]; · iexact H3
    iexact H3r
  iexact H10

end Rules

end Cert.KernelIdeal.Hand

end
-- ==== Proof.KernelIdeal.Rules.lean ====
/-
  Hand-written. The remaining rules of the expert loop's body: a load through a rectangle whose offsets the kernel
  computes, a store of a whole buffer, and the copy of the next item's chunk where there is a next item.
-/
module

public import proofs.«01_k».proof.Proof.KernelIdeal.Chunks
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

section Rules

variable (c : Dev nD) {α : Type} {Q : α → sProp (MT nD τ sig Unit (Elt F) ℕ (Pipeline.UD sig nD τ) ℕ)}

/-- What a load of the box of size `sz` at offsets `off` reads off contents `f`. -/
abbrev rd {sp : Space} {S : Shape} {e : EltTy} (M : Memref sig .tc sp S e) (f : Cts (F := F) c M) (off sz : Fin S.rank → ℕ)
    (inb : ∀ a, off a + sz a ≤ S.size a) : Vec F ⟨S.rank, sz⟩ e :=
  M.view.readAt (Elt F) (Rect.unit (s := S) off sz inb).toLoadRect f

/-- A load through a box, of a buffer held whole. -/
theorem wp_ld {sp : CoreSpace} {S : Shape} {e : EltTy} {M : Memref sig .tc sp S e} {q : PosShare TreeShare} {f : Cts (F := F) c M}
    {off off' sz : Fin S.rank → ℕ} (hoff : off = off') (inb : ∀ a, off a + sz a ≤ S.size a) (inb' : ∀ a, off' a + sz a ≤ S.size a)
    {hl : M.view.LoadsAt (Rect.unit (s := S) off sz inb).toLoadRect}
    {k : Vec F ⟨S.rank, sz⟩ e → Prog (TpuEff nD τ sig (Elt F) Λ₀ .tc) α} :
    pt c M q f ⊢ iprop((pt c M q f -∗ WP c (k (rd c M f off' sz inb')) Q)
        -∗ WP c (.op (.load M (Rect.unit (s := S) off sz inb).toLoadRect hl) k) Q) := by
  subst hoff
  exact wp_load Variants.none (c : Thread nD τ) none Set.univ (m := M) (S := Finset.univ) (Finset.subset_univ _)

/-- A box that is the whole buffer keeps the index. -/
theorem emb_all {S : Shape} (off : Fin S.rank → ℕ) (hoff : ∀ a, off a = 0) (inb : ∀ a, off a + S.size a ≤ S.size a) (x : S.Idx) :
    (Rect.unit (s := S) off S.size inb).emb x = x := by
  funext a
  apply Fin.ext
  show off a + 1 * (x a).val = (x a).val
  rw [hoff]; omega

/-- The gate and up accumulator, the masked activations and the result's accumulator. -/
abbrev B27 : Memref sig .tc .vmem S48x1536 .f32 := Memref.whole cc0_scratch14
abbrev B28 : Memref sig .tc .vmem S48x768 .bf16 := Memref.whole cc0_scratch15
abbrev B29 : Memref sig .tc .vmem S40x7168 .f32 := Memref.whole cc0_scratch16

theorem rd27 (f : Vec F S48x1536 .f32) (inb : ∀ a, (![0, 0] : Fin 2 → ℕ) a + S48x1536.size a ≤ S48x1536.size a) : rd c B27 f ![0, 0] S48x1536.size inb = f := by
  funext x
  show f ((Rect.unit (s := S48x1536) ![0, 0] S48x1536.size inb).emb x) = f x
  rw [emb_all _ (by decide)]

theorem pt_congr {sp : Space} {S : Shape} {e : EltTy} {M : Memref sig .tc sp S e} {q : PosShare TreeShare} {f g : Cts (F := F) c M} (h : f = g) :
    pt c M q f ⊢ pt c M q g := by subst h; exact .rfl

theorem write27 (c : Dev nD) (f w : Vec F S48x1536 .f32) (inb : ∀ a, (![0, 0] : Fin 2 → ℕ) a + S48x1536.size a ≤ S48x1536.size a) :
    ((B27.access (Rect.unit (s := S48x1536) ![0, 0] S48x1536.size inb)).write (Elt F) f w Finset.univ : Vec F S48x1536 .f32) = w :=
  (rd27 c ((B27.access (Rect.unit (s := S48x1536) ![0, 0] S48x1536.size inb)).write (Elt F) f w Finset.univ) inb).symm.trans
    (View.read_write_univ (v := B27.access (Rect.unit (s := S48x1536) ![0, 0] S48x1536.size inb)) f w)

/-- Load the accumulator, whole. -/
theorem wp_ld27 {f : Vec F S48x1536 .f32} {inb : ∀ a, (![0, 0] : Fin 2 → ℕ) a + S48x1536.size a ≤ S48x1536.size a}
    {hl : B27.view.LoadsAt (Rect.unit (s := S48x1536) ![0, 0] S48x1536.size inb).toLoadRect}
    {k : Vec F S48x1536 .f32 → Prog (TpuEff nD τ sig (Elt F) Λ₀ .tc) α} :
    pt c B27 fullShare f ⊢ iprop((pt c B27 fullShare f -∗ WP c (k f) Q)
        -∗ WP c (.op (.load B27 (Rect.unit (s := S48x1536) ![0, 0] S48x1536.size inb).toLoadRect hl) k) Q) := by
  have h := wp_ld (F := F) c (M := B27) (q := fullShare) (f := f) (Q := Q) (k := k) rfl inb inb (hl := hl)
  rwa [rd27] at h

/-- Store it, whole. -/
theorem wp_st27 {f w : Vec F S48x1536 .f32} {inb : ∀ a, (![0, 0] : Fin 2 → ℕ) a + S48x1536.size a ≤ S48x1536.size a}
    {hx : (B27.access (Rect.unit (s := S48x1536) ![0, 0] S48x1536.size inb)).Stores Finset.univ} {hm}
    {k : PUnit → Prog (TpuEff nD τ sig (Elt F) Λ₀ .tc) α} :
    pt c B27 fullShare f ⊢ iprop((pt c B27 fullShare w -∗ WP c (k ⟨⟩) Q)
        -∗ WP c (.op (.store B27 (Rect.unit (s := S48x1536) ![0, 0] S48x1536.size inb) w Finset.univ hx hm) k) Q) := by
  iintro Hf Hk
  iapply (wp_store Variants.none (c : Thread nD τ) none Set.univ (m := B27) (hx := hx) (hm := hm) (S := Finset.univ) (f := f) (Finset.subset_univ _)) $$ Hf
  iintro Hf
  iapply Hk
  iapply (pt_congr c (write27 c f w inb)) $$ Hf

/-- The columns of chunk `j` of the accumulator's 33 rows. -/
abbrev acOff (j : Fin 7) : Fin 2 → ℕ := ![0, 1024 * j.val]
theorem acInb (j : Fin 7) : ∀ a, acOff j a + S33x1024.size a ≤ S40x7168.size a := by revert j; decide

/-- The accumulator's 33 rows hold `A`, chunk by chunk. -/
def AccIs (A : Fin 7 → Vec F S33x1024 .f32) : sProp 𝕄 :=
  iprop(∃ f : Cts (F := F) c B29, pt c B29 fullShare f ∗ ⌜∀ j, rd c B29 f (acOff j) S33x1024.size (acInb j) = A j⌝)

theorem wp_ldAcc {A : Fin 7 → Vec F S33x1024 .f32} (j : Fin 7) {off : Fin 2 → ℕ} (hoff : off = acOff j) {inb : ∀ a, off a + S33x1024.size a ≤ S40x7168.size a}
    {hl : B29.view.LoadsAt (Rect.unit (s := S40x7168) off S33x1024.size inb).toLoadRect}
    {k : Vec F S33x1024 .f32 → Prog (TpuEff nD τ sig (Elt F) Λ₀ .tc) α} :
    AccIs c A ⊢ iprop((AccIs c A -∗ WP c (k (A j)) Q)
        -∗ WP c (.op (.load B29 (Rect.unit (s := S40x7168) off S33x1024.size inb).toLoadRect hl) k) Q) := by
  subst hoff
  unfold AccIs
  iintro ⟨%f, Hf, %hf⟩ Hk
  iapply (wp_ld c (M := B29) rfl (acInb j) (acInb j)) $$ Hf
  iintro Hf
  rw [hf j]
  iapply Hk
  iexists f
  isplitl [Hf]; · iexact Hf
  ipureintro; exact hf

theorem ac_keep (f : Vec F S40x7168 .f32) {r r' : Rect S40x7168} (w : r.shape.Idx → Elt F .f32) (hd : Disjoint r'.set r.set) :
    (B29.access r').read (Elt F) ((B29.access r).write (Elt F) f w Finset.univ) = (B29.access r').read (Elt F) f := by
  refine View.read_slice_write_slice_of_disjoint (v := B29.view) r' r f w Finset.univ ?_
  have h1 : (B29.view.slice r').set = r'.set := View.set_slice_whole _ _
  have h2 : (B29.view.slice r).setOn Finset.univ = r.set := View.set_slice_whole _ _
  rw [h1, h2]
  exact hd

theorem wp_stAcc {A : Fin 7 → Vec F S33x1024 .f32} (j : Fin 7) {w : Vec F S33x1024 .f32} {off : Fin 2 → ℕ} (hoff : off = acOff j)
    {inb : ∀ a, off a + S33x1024.size a ≤ S40x7168.size a}
    {hx : (B29.access (Rect.unit (s := S40x7168) off S33x1024.size inb)).Stores Finset.univ} {hm}
    {k : PUnit → Prog (TpuEff nD τ sig (Elt F) Λ₀ .tc) α} :
    AccIs c A ⊢ iprop((AccIs c (Function.update A j w) -∗ WP c (k ⟨⟩) Q)
        -∗ WP c (.op (.store B29 (Rect.unit (s := S40x7168) off S33x1024.size inb) w Finset.univ hx hm) k) Q) := by
  subst hoff
  unfold AccIs
  iintro ⟨%f, Hf, %hf⟩ Hk
  iapply (wp_store Variants.none (c : Thread nD τ) none Set.univ (m := B29) (hx := hx) (hm := hm) (S := Finset.univ) (f := f) (Finset.subset_univ _)) $$ Hf
  iintro Hf
  iapply Hk
  iexists _
  isplitl [Hf]; · iexact Hf
  ipureintro
  intro j'
  by_cases hj : j' = j
  · subst hj
    rw [Function.update_self]
    exact View.read_write_univ (v := B29.access (Rect.unit (s := S40x7168) (acOff j') S33x1024.size inb)) f w
  · rw [Function.update_of_ne hj, ← hf j']
    have hd : Disjoint (Rect.unit (s := S40x7168) (acOff j') S33x1024.size (acInb j')).set (Rect.unit (s := S40x7168) (acOff j) S33x1024.size (acInb j)).set :=
      Rect.unit_disjoint (a := (1 : Fin 2)) (by
        show 1024 * j'.val + 1024 ≤ 1024 * j.val ∨ 1024 * j.val + 1024 ≤ 1024 * j'.val
        have : j'.val ≠ j.val := fun h => hj (Fin.ext h)
        omega)
    exact ac_keep (r := Rect.unit (s := S40x7168) (acOff j) S33x1024.size (acInb j)) (r' := Rect.unit (s := S40x7168) (acOff j') S33x1024.size (acInb j')) f w hd

/-! ## The copy of the next item's chunk, where there is a next item -/

theorem wp_guNext {f3 : Cts (F := F) c A3} {f8 : Cts (F := F) c A8} {s : Fin 2} {j : Fin 7} {V : Vec F S1x1024x1536 .fp8e4m3}
    {C : Prop} [Decidable C] {e : Fin 32}
    {oC : Fin 2 → ℕ} (hC : oC = cOff s j) {inbC : C → ∀ a, oC a + S1x1.size a ≤ S2x7.size a}
    {oD : Fin 3 → ℕ} (hD : oD = guOff s j) {inbD : C → ∀ a, oD a + S1x1024x1536.size a ≤ S2x7168x1536.size a}
    {oS : Fin 3 → ℕ} (hS : oS = guSrcOff e j) {inbS : C → ∀ a, oS a + S1x1024x1536.size a ≤ S32x7168x1536.size a}
    {hsrc : (h : C) → (guSrc oS (inbS h)).view.WordExact} {hdst : (h : C) → (guDst oD (inbD h)).view.WordExact}
    {hsem : (h : C) → DmaTarget.Typed (nD := nD) (p := (Proc.tc : Proc τ)) Space.hbm (SemLoc.dma (cCell cc0_scratch21 oC (inbC h))) (DmaTarget.here (guDst oD (inbD h)))}
    {k : PUnit → Prog (TpuEff nD τ sig (Elt F) Λ₀ .tc) α} :
    iprop(GuHeld c s j V ∗ GuTok c f3 f8 s j ∗ semVal ((c : Thread nD τ), SemLoc.dma (guCell s j)) 0)
      ⊢ iprop((GuSlot c f3 f8 C s j (guW c f3 e j) -∗ WP c (k ⟨⟩) Q)
        -∗ WP c (if h : C then .op (.enqueueDma (guSrc oS (inbS h)) (.here (guDst oD (inbD h))) (.dma (cCell cc0_scratch21 oC (inbC h))) (hsrc h) (hdst h) (hsem h)) k else k ⟨⟩) Q) := by
  unfold GuSlot
  by_cases h : C
  · rw [dif_pos h, if_pos h]
    exact wp_guIssue c hC (inbC h) hD (inbD h) hS (inbS h)
  · rw [dif_neg h, if_neg h]
    unfold GuIdle
    iintro ⟨Hh, Ht, Hv⟩ Hk
    iapply Hk
    isplitl [Hh]; · iexists V; iexact Hh
    isplitl [Ht]; · iexact Ht
    iexact Hv

theorem wp_dnNext {f5 : Cts (F := F) c A5} {f10 : Cts (F := F) c A10} {s : Fin 2} {j : Fin 7} {V : Vec F S1x768x1024 .fp8e4m3}
    {C : Prop} [Decidable C] {e : Fin 32}
    {oC : Fin 2 → ℕ} (hC : oC = cOff s j) {inbC : C → ∀ a, oC a + S1x1.size a ≤ S2x7.size a}
    {oD : Fin 3 → ℕ} (hD : oD = dnOff s j) {inbD : C → ∀ a, oD a + S1x768x1024.size a ≤ S2x768x7168.size a}
    {oS : Fin 3 → ℕ} (hS : oS = dnSrcOff e j) {inbS : C → ∀ a, oS a + S1x768x1024.size a ≤ S32x768x7168.size a}
    {hsrc : (h : C) → (dnSrc oS (inbS h)).view.WordExact} {hdst : (h : C) → (dnDst oD (inbD h)).view.WordExact}
    {hsem : (h : C) → DmaTarget.Typed (nD := nD) (p := (Proc.tc : Proc τ)) Space.hbm (SemLoc.dma (cCell cc0_scratch22 oC (inbC h))) (DmaTarget.here (dnDst oD (inbD h)))}
    {k : PUnit → Prog (TpuEff nD τ sig (Elt F) Λ₀ .tc) α} :
    iprop(DnHeld c s j V ∗ DnTok c f5 f10 s j ∗ semVal ((c : Thread nD τ), SemLoc.dma (dnCell s j)) 0)
      ⊢ iprop((DnSlot c f5 f10 C s j (dnW c f5 e j) -∗ WP c (k ⟨⟩) Q)
        -∗ WP c (if h : C then .op (.enqueueDma (dnSrc oS (inbS h)) (.here (dnDst oD (inbD h))) (.dma (cCell cc0_scratch22 oC (inbC h))) (hsrc h) (hdst h) (hsem h)) k else k ⟨⟩) Q) := by
  unfold DnSlot
  by_cases h : C
  · rw [dif_pos h, if_pos h]
    exact wp_dnIssue c hC (inbC h) hD (inbD h) hS (inbS h)
  · rw [dif_neg h, if_neg h]
    unfold DnIdle
    iintro ⟨Hh, Ht, Hv⟩ Hk
    iapply Hk
    isplitl [Hh]; · iexists V; iexact Hh
    isplitl [Ht]; · iexact Ht
    iexact Hv

end Rules

end Cert.KernelIdeal.Hand

end
-- ==== Proof.KernelIdeal.Parts.lean ====
/-
  Hand-written. The parts of the kernel's body at the buffers the launch gives it.
-/
module

public import proofs.«01_k».proof.Proof.KernelIdeal.Rules

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

variable (M12 : Memref sig .tc .vmem S33x7168 .bf16) (h12 : M12.IsWhole)

abbrev P1 := k0_part1 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P2 := k0_part2 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P3 := k0_part3 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P4 := k0_part4 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P5 := k0_part5 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P6 := k0_part6 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P7 := k0_part7 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P8 := k0_part8 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P9 := k0_part9 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P10 := k0_part10 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P11 := k0_part11 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P12 := k0_part12 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P13 := k0_part13 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P14 := k0_part14 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P15 := k0_part15 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P16 := k0_part16 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P17 := k0_part17 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P18 := k0_part18 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P19 := k0_part19 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P20 := k0_part20 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P21 := k0_part21 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P22 := k0_part22 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P23 := k0_part23 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P24 := k0_part24 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P25 := k0_part25 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P26 := k0_part26 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P27 := k0_part27 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P28 := k0_part28 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P29 := k0_part29 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P30 := k0_part30 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P31 := k0_part31 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P32 := k0_part32 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P33 := k0_part33 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P34 := k0_part34 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P35 := k0_part35 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P36 := k0_part36 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev P37 := k0_part37 (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22

end Cert.KernelIdeal.Hand
-- ==== Proof.KernelIdeal.Trip.lean ====
/-
  Hand-written. One trip of the loop over the items, part by part: what each printed part takes, and what it leaves.
-/
module

public import proofs.«01_k».proof.Proof.KernelIdeal.Parts

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

section
variable (c : Dev nD) (M12 : Memref sig .tc .vmem S33x7168 .bf16) (h12 : M12.IsWhole)

abbrev B16 : Memref sig .tc .vmem S33x8 .i32 := Memref.whole cc0_scratch3
abbrev B17 : Memref sig .tc .vmem S33x8 .f32 := Memref.whole cc0_scratch4
abbrev B18 : Memref sig .tc .vmem S32x1536 .f32 := Memref.whole cc0_scratch5
abbrev B19 : Memref sig .tc .vmem S32x7168 .f32 := Memref.whole cc0_scratch6
abbrev B21 : Memref sig .tc .vmem S1x3072 .f32 := Memref.whole cc0_scratch8
abbrev B22 : Memref sig .tc .vmem S1x7168 .f32 := Memref.whole cc0_scratch9
abbrev B25 : Memref sig .tc .smem S32 .i32 := Memref.whole cc0_scratch12
abbrev B26 : Memref sig .tc .vmem S48x7168 .bf16 := Memref.whole cc0_scratch13

abbrev T3 := k0_t3_body (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22

/-- What the core is owed, whatever it is. -/
abbrev Ow : sProp 𝕄 := iprop(∃ W : Waits sig Unit, owes (c : Thread nD τ) 0 W)

/-- A chunk waited for: its elements, its shares and its cell, at zero. -/
abbrev GuHave (f3 : Cts (F := F) c A3) (f8 : Cts (F := F) c A8) (s : Fin 2) (j : Fin 7) (V : Vec F S1x1024x1536 .fp8e4m3) : sProp 𝕄 :=
  iprop(GuHeld c s j V ∗ GuTok c f3 f8 s j ∗ semVal ((c : Thread nD τ), SemLoc.dma (guCell s j)) 0)
abbrev DnHave (f5 : Cts (F := F) c A5) (f10 : Cts (F := F) c A10) (s : Fin 2) (j : Fin 7) (V : Vec F S1x768x1024 .fp8e4m3) : sProp 𝕄 :=
  iprop(DnHeld c s j V ∗ DnTok c f5 f10 s j ∗ semVal ((c : Thread nD τ), SemLoc.dma (dnCell s j)) 0)

theorem wp_done {α : Type} {a : α} {K : α → sProp (MT nD τ sig Unit (Elt F) ℕ (Pipeline.UD sig nD τ) ℕ)} : K a ⊢ WP c (.ret a) K := by
  rw [WP, wp_ret]; exact BI.fupd_intro

/-- The trip's slot, as the kernel computes it. -/
abbrev sl (v260 : BitVec 32) (k : Fin (k0_t3_loop v260).trips) : BitVec 32 := Scalar.remsi (Scf.iv 0#32 1#32 k) 2#32

theorem o3 {n m : ℕ} (h : n = m) (a b : ℕ) : (![n, a, b] : Fin 3 → ℕ) = ![m, a, b] := by rw [h]
theorem o2 {n m : ℕ} (h : n = m) (a : ℕ) : (![n, a] : Fin 2 → ℕ) = ![m, a] := by rw [h]

/-- The word a load of the expert list answers. -/
abbrev lv (f : Cts (F := F) c B25) (off : Fin 1 → ℕ) (inb : ∀ a, off a + S1.size a ≤ S32.size a) : Elt F .i32 :=
  rd c B25 f off S1.size inb (Shape.Idx.first (numel1_S1.symm ▸ Nat.one_pos))

variable {f3 : Cts (F := F) c A3} {f5 : Cts (F := F) c A5} {f8 : Cts (F := F) c A8} {f10 : Cts (F := F) c A10}
variable {f16 : Cts (F := F) c B16} {f17 : Cts (F := F) c B17} {f18 : Cts (F := F) c B18} {f19 : Cts (F := F) c B19}
variable {f21 : Cts (F := F) c B21} {f22 : Cts (F := F) c B22} {f25 : Cts (F := F) c B25} {f26 : Cts (F := F) c B26}

/-- Columns of chunk `j` of the normalised tokens. -/
abbrev xnOff (j : Fin 7) : Fin 2 → ℕ := ![0, 1024 * j.val]
theorem xnInb (j : Fin 7) : ∀ a, xnOff j a + S48x1024.size a ≤ S48x7168.size a := by revert j; decide
abbrev xn (f26 : Cts (F := F) c B26) (j : Fin 7) : Vec F S48x1024 .bf16 := rd c B26 f26 (xnOff j) S48x1024.size (xnInb j)

/-- The down projection's scales: the shared expert's, and expert `e`'s. -/
theorem ssInb (j : Fin 7) : ∀ a, xnOff j a + S1x1024.size a ≤ S1x7168.size a := by revert j; decide
abbrev ssd (f22 : Cts (F := F) c B22) (j : Fin 7) : Vec F S1x1024 .f32 := rd c B22 f22 (xnOff j) S1x1024.size (ssInb j)
abbrev sdOff (e : Fin 32) (j : Fin 7) : Fin 2 → ℕ := ![e.val, 1024 * j.val]
theorem sdInb (e : Fin 32) (j : Fin 7) : ∀ a, sdOff e j a + S1x1024.size a ≤ S32x7168.size a := by revert e j; decide
abbrev sdn (f19 : Cts (F := F) c B19) (e : Fin 32) (j : Fin 7) : Vec F S1x1024 .f32 := rd c B19 f19 (sdOff e j) S1x1024.size (sdInb e j)

/-- The gate and up scales: the shared expert's half `m`, and expert `e`'s. -/
abbrev sgOff (p m : Fin 2) : Fin 2 → ℕ := ![0, 1536 * p.val + 768 * m.val]
theorem sgInb (p m : Fin 2) : ∀ a, sgOff p m a + S1x768.size a ≤ S1x3072.size a := by revert p m; decide
abbrev ssg (f21 : Cts (F := F) c B21) (p m : Fin 2) : Vec F S1x768 .f32 := rd c B21 f21 (sgOff p m) S1x768.size (sgInb p m)
abbrev egOff (p : Fin 2) (e : Fin 32) : Fin 2 → ℕ := ![e.val, 768 * p.val]
theorem egInb (p : Fin 2) (e : Fin 32) : ∀ a, egOff p e a + S1x768.size a ≤ S32x1536.size a := by revert p e; decide
abbrev esg (f18 : Cts (F := F) c B18) (p : Fin 2) (e : Fin 32) : Vec F S1x768 .f32 := rd c B18 f18 (egOff p e) S1x768.size (egInb p e)

/-- The two halves of the gate and up accumulator's 33 rows. -/
abbrev guHalfOff (p : Fin 2) : Fin 2 → ℕ := ![0, 768 * p.val]
theorem guHalfInb (p : Fin 2) : ∀ a, guHalfOff p a + S33x768.size a ≤ S48x1536.size a := by revert p; decide
abbrev guP (g : Vec F S48x1536 .f32) (p : Fin 2) : Vec F S33x768 .f32 := rd c B27 g (guHalfOff p) S33x768.size (guHalfInb p)

/-- The activations' buffer once the masked rows `p` are stored. -/
def hV (p : FVec F S33x768 .bf16) : Vec F S48x768 .bf16 :=
  (B28.access (Rect.unit (s := S48x768) ![0, 0] S34x768.size inb_S48x768_S34x768_0_0)).write (Elt F) (k0_pay14 (F := F))
    (updateSlice (rd c B28 (k0_pay14 (F := F)) ![0, 0] S34x768.size inb_S48x768_S34x768_0_0) p ![0, 0] slices_S34x768_S33x768_0_0) Finset.univ

theorem rd28 (f : Vec F S48x768 .bf16) (inb : ∀ a, (![0, 0] : Fin 2 → ℕ) a + S48x768.size a ≤ S48x768.size a) : rd c B28 f ![0, 0] S48x768.size inb = f := by
  funext x
  show f ((Rect.unit (s := S48x768) ![0, 0] S48x768.size inb).emb x) = f x
  rw [emb_all _ (by decide)]

theorem write28 (c : Dev nD) (f w : Vec F S48x768 .bf16) (inb : ∀ a, (![0, 0] : Fin 2 → ℕ) a + S48x768.size a ≤ S48x768.size a) :
    ((B28.access (Rect.unit (s := S48x768) ![0, 0] S48x768.size inb)).write (Elt F) f w Finset.univ : Vec F S48x768 .bf16) = w :=
  (rd28 c ((B28.access (Rect.unit (s := S48x768) ![0, 0] S48x768.size inb)).write (Elt F) f w Finset.univ) inb).symm.trans
    (View.read_write_univ (v := B28.access (Rect.unit (s := S48x768) ![0, 0] S48x768.size inb)) f w)

/-- Load the activations, whole. -/
theorem wp_ld28 {α : Type} {Q : α → sProp (MT nD τ sig Unit (Elt F) ℕ (Pipeline.UD sig nD τ) ℕ)}
    {f : Vec F S48x768 .bf16} {inb : ∀ a, (![0, 0] : Fin 2 → ℕ) a + S48x768.size a ≤ S48x768.size a}
    {hl : B28.view.LoadsAt (Rect.unit (s := S48x768) ![0, 0] S48x768.size inb).toLoadRect}
    {k : Vec F S48x768 .bf16 → Prog (TpuEff nD τ sig (Elt F) Λ₀ .tc) α} :
    pt c B28 fullShare f ⊢ iprop((pt c B28 fullShare f -∗ WP c (k f) Q)
        -∗ WP c (.op (.load B28 (Rect.unit (s := S48x768) ![0, 0] S48x768.size inb).toLoadRect hl) k) Q) := by
  have h := wp_ld (F := F) c (M := B28) (q := fullShare) (f := f) (Q := Q) (k := k) rfl inb inb (hl := hl)
  rwa [rd28] at h

/-- Store them, whole. -/
theorem wp_st28 {α : Type} {Q : α → sProp (MT nD τ sig Unit (Elt F) ℕ (Pipeline.UD sig nD τ) ℕ)}
    {f w : Vec F S48x768 .bf16} {inb : ∀ a, (![0, 0] : Fin 2 → ℕ) a + S48x768.size a ≤ S48x768.size a}
    {hx : (B28.access (Rect.unit (s := S48x768) ![0, 0] S48x768.size inb)).Stores Finset.univ} {hm}
    {k : PUnit → Prog (TpuEff nD τ sig (Elt F) Λ₀ .tc) α} :
    pt c B28 fullShare f ⊢ iprop((pt c B28 fullShare w -∗ WP c (k ⟨⟩) Q)
        -∗ WP c (.op (.store B28 (Rect.unit (s := S48x768) ![0, 0] S48x768.size inb) w Finset.univ hx hm) k) Q) := by
  iintro Hf Hk
  iapply (wp_store Variants.none (c : Thread nD τ) none Set.univ (m := B28) (hx := hx) (hm := hm) (S := Finset.univ) (f := f) (Finset.subset_univ _)) $$ Hf
  iintro Hf
  iapply Hk
  iapply (pt_congr c (write28 c f w inb)) $$ Hf

section Trip
variable {v260 : BitVec 32} {hw10 : k0_chk10 v260} {k : Fin (k0_t3_loop v260).trips} {s : Fin 2} (hs : (sl v260 k).toNat = s.val)
variable {a b : BitVec 32} {h12a : k0_chk12 a} {h11 : k0_chk11 v260 k b} {e e' : Fin 32} (he : a.toNat = e.val) (he' : b.toNat = e'.val)
variable {w326 : BitVec 32} {w327 w333 : BitVec 1} {w339 w444 : BitVec 32}
variable {G : Vec F S48x1536 .f32} {H : Vec F S48x768 .bf16} {A : Fin 7 → Vec F S33x1024 .f32}
variable {W : Fin 7 → Vec F S1x1024x1536 .fp8e4m3} {D : Fin 7 → Vec F S1x768x1024 .fp8e4m3}

theorem wp_part2 (hs : (sl v260 k).toNat = s.val) (he' : b.toNat = e'.val)
    (ha : lv c f25 (k0_off19 v260 k) (k0_off19_inb v260 hw10 k) = a) (hb : lv c f25 (k0_off20 v260 k) (k0_off20_inb v260 hw10 k) = b) {K} :
    iprop(pt c B25 fullShare f25 ∗ pt c B26 fullShare f26 ∗ pt c B27 fullShare G ∗ GuFly c f3 f8 s 0 (W 0) ∗ Ow (F := F) c ∗ (iprop(pt c B25 fullShare f25 ∗ pt c B26 fullShare f26 ∗ pt c B27 fullShare (k0_pay2 (xn c f26 0) (W 0)) ∗ GuSlot c f3 f8 (k0_cond1 v260 k = 1#1) s 0 (guW c f3 e' 0) ∗ Ow (F := F) c) -∗ K ⟨sl v260 k, Scalar.cmpi .slt (Scf.iv 0#32 1#32 k) 2#32, a, h12a, Scalar.cmpi .slt (Scalar.addi (Scf.iv 0#32 1#32 k) 2#32) (Scalar.addi 2#32 v260), b, h11, Scalar.minsi (Scf.iv 0#32 1#32 k) 1#32⟩))
    ⊢ WP c (P2 (F := F) M12 h12 v260 hw10 (Scalar.addi 2#32 v260) 0#32 1#32 k) K := by
  rw [P2, k0_part2_eq_skeleton]
  unfold k0_part2_skel
  subst ha hb
  dsimp only [storeSubelements, smemLoad, smemLoadElt, Prog.bind_lift, Prog.bind_op, Prog.bind_ret, Prog.pure_eq_ret]
  try unfold GuHave
  try unfold DnHave
  iintro ⟨H25, H26, H27, Hgu0, Hw, HK⟩
  iapply (wp_ld c (M := B25) rfl _ (k0_off19_inb v260 hw10 k)) $$ H25
  iintro H25
  iapply (wp_assume Variants.none (c : Thread nD τ) none Set.univ h12a)
  iapply (wp_ld c (M := B25) rfl _ (k0_off20_inb v260 hw10 k)) $$ H25
  iintro H25
  iapply (wp_assume Variants.none (c : Thread nD τ) none Set.univ h11)
  icases Hw with ⟨%W1, Hw⟩
  iapply (wp_guWait c (s := s) (j := 0) (o2 hs 0) (k0_off21_inb v260 hw10 k) (k0_off22_inb v260 hw10 k)) $$ [Hgu0 Hw]
  · isplitl [Hgu0] <;> iassumption
  iintro %W1 ⟨Hggu0, Htgu0, Hvgu0, Hw⟩
  ihave Hw : Ow (F := F) c $$ [Hw]
  · iexists _; iexact Hw
  iapply (wp_ld c (M := B26) rfl _ (xnInb 0)) $$ H26
  iintro H26
  iapply (wp_guLoad c (s := s) (j := 0) (o3 hs 0 0) _) $$ Hggu0
  iintro Hggu0
  iapply (wp_ld27 c) $$ H27
  iintro H27
  iapply (wp_st27 c) $$ H27
  iintro H27
  iapply (wp_guNext c (s := s) (j := 0) (C := k0_cond1 v260 k = 1#1) (e := e') (o2 hs 0) (o3 hs 0 0) (show k0_off26 _ = guSrcOff e' 0 from o3 he' 0 0)) $$ [Hggu0 Htgu0 Hvgu0]
  · isplitl [Hggu0]; · iexact Hggu0
    isplitl [Htgu0] <;> iassumption
  iintro Hngu0
  iapply wp_done
  iapply HK
  iframe

theorem wp_part3 (hs : (sl v260 k).toNat = s.val) (he' : b.toNat = e'.val) {K} :
    iprop(pt c B26 fullShare f26 ∗ pt c B27 fullShare G ∗ GuFly c f3 f8 s 1 (W 1) ∗ GuFly c f3 f8 s 2 (W 2) ∗ Ow (F := F) c ∗ (iprop(pt c B26 fullShare f26 ∗ pt c B27 fullShare (k0_pay3 (xn c f26 1) (W 1) G) ∗ GuSlot c f3 f8 (k0_cond2 v260 k = 1#1) s 1 (guW c f3 e' 1) ∗ GuHave c f3 f8 s 2 (W 2) ∗ Ow (F := F) c) -∗ K (k0_pay4 (xn c f26 2) (W 2))))
    ⊢ WP c (P3 (F := F) M12 h12 v260 hw10 k w326 w333 b h11) K := by
  rw [P3, k0_part3_eq_skeleton]
  unfold k0_part3_skel
  dsimp only [storeSubelements, smemLoad, smemLoadElt, Prog.bind_lift, Prog.bind_op, Prog.bind_ret, Prog.pure_eq_ret]
  try unfold GuHave
  try unfold DnHave
  iintro ⟨H26, H27, Hgu1, Hgu2, Hw, HK⟩
  icases Hw with ⟨%W1, Hw⟩
  iapply (wp_guWait c (s := s) (j := 1) (o2 hs 1) (k0_off27_inb v260 hw10 k) (k0_off28_inb v260 hw10 k)) $$ [Hgu1 Hw]
  · isplitl [Hgu1] <;> iassumption
  iintro %W1 ⟨Hggu1, Htgu1, Hvgu1, Hw⟩
  ihave Hw : Ow (F := F) c $$ [Hw]
  · iexists _; iexact Hw
  iapply (wp_ld c (M := B26) rfl _ (xnInb 1)) $$ H26
  iintro H26
  iapply (wp_guLoad c (s := s) (j := 1) (o3 hs 1024 0) _) $$ Hggu1
  iintro Hggu1
  iapply (wp_ld27 c) $$ H27
  iintro H27
  iapply (wp_ld27 c) $$ H27
  iintro H27
  iapply (wp_st27 c) $$ H27
  iintro H27
  iapply (wp_guNext c (s := s) (j := 1) (C := k0_cond2 v260 k = 1#1) (e := e') (o2 hs 1) (o3 hs 1024 0) (show k0_off32 _ = guSrcOff e' 1 from o3 he' 1024 0)) $$ [Hggu1 Htgu1 Hvgu1]
  · isplitl [Hggu1]; · iexact Hggu1
    isplitl [Htgu1] <;> iassumption
  iintro Hngu1
  icases Hw with ⟨%W1, Hw⟩
  iapply (wp_guWait c (s := s) (j := 2) (o2 hs 2) (k0_off33_inb v260 hw10 k) (k0_off34_inb v260 hw10 k)) $$ [Hgu2 Hw]
  · isplitl [Hgu2] <;> iassumption
  iintro %W1 ⟨Hggu2, Htgu2, Hvgu2, Hw⟩
  ihave Hw : Ow (F := F) c $$ [Hw]
  · iexists _; iexact Hw
  iapply (wp_ld c (M := B26) rfl _ (xnInb 2)) $$ H26
  iintro H26
  iapply (wp_guLoad c (s := s) (j := 2) (o3 hs 2048 0) _) $$ Hggu2
  iintro Hggu2
  iapply wp_done
  iapply HK
  iframe

theorem wp_part4 (hs : (sl v260 k).toNat = s.val) (he' : b.toNat = e'.val) {v384 : FVec F S48x1536 .f32} {K} :
    iprop(pt c B26 fullShare f26 ∗ pt c B27 fullShare G ∗ GuHave c f3 f8 s 2 (W 2) ∗ GuFly c f3 f8 s 3 (W 3) ∗ Ow (F := F) c ∗ (iprop(pt c B26 fullShare f26 ∗ pt c B27 fullShare (k0_pay6 (xn c f26 3) (W 3) (k0_pay5 v384 G)) ∗ GuSlot c f3 f8 (k0_cond3 v260 k = 1#1) s 2 (guW c f3 e' 2) ∗ GuSlot c f3 f8 (k0_cond4 v260 k = 1#1) s 3 (guW c f3 e' 3) ∗ Ow (F := F) c) -∗ K ⟨⟩))
    ⊢ WP c (P4 (F := F) M12 h12 v260 hw10 k w326 w333 b h11 v384) K := by
  rw [P4, k0_part4_eq_skeleton]
  unfold k0_part4_skel
  dsimp only [storeSubelements, smemLoad, smemLoadElt, Prog.bind_lift, Prog.bind_op, Prog.bind_ret, Prog.pure_eq_ret]
  try unfold GuHave
  try unfold DnHave
  iintro ⟨H26, H27, ⟨Hggu2, Htgu2, Hvgu2⟩, Hgu3, Hw, HK⟩
  iapply (wp_ld27 c) $$ H27
  iintro H27
  iapply (wp_ld27 c) $$ H27
  iintro H27
  iapply (wp_st27 c) $$ H27
  iintro H27
  iapply (wp_guNext c (s := s) (j := 2) (C := k0_cond3 v260 k = 1#1) (e := e') (o2 hs 2) (o3 hs 2048 0) (show k0_off38 _ = guSrcOff e' 2 from o3 he' 2048 0)) $$ [Hggu2 Htgu2 Hvgu2]
  · isplitl [Hggu2]; · iexact Hggu2
    isplitl [Htgu2] <;> iassumption
  iintro Hngu2
  icases Hw with ⟨%W1, Hw⟩
  iapply (wp_guWait c (s := s) (j := 3) (o2 hs 3) (k0_off39_inb v260 hw10 k) (k0_off40_inb v260 hw10 k)) $$ [Hgu3 Hw]
  · isplitl [Hgu3] <;> iassumption
  iintro %W1 ⟨Hggu3, Htgu3, Hvgu3, Hw⟩
  ihave Hw : Ow (F := F) c $$ [Hw]
  · iexists _; iexact Hw
  iapply (wp_ld c (M := B26) rfl _ (xnInb 3)) $$ H26
  iintro H26
  iapply (wp_guLoad c (s := s) (j := 3) (o3 hs 3072 0) _) $$ Hggu3
  iintro Hggu3
  iapply (wp_ld27 c) $$ H27
  iintro H27
  iapply (wp_ld27 c) $$ H27
  iintro H27
  iapply (wp_st27 c) $$ H27
  iintro H27
  iapply (wp_guNext c (s := s) (j := 3) (C := k0_cond4 v260 k = 1#1) (e := e') (o2 hs 3) (o3 hs 3072 0) (show k0_off44 _ = guSrcOff e' 3 from o3 he' 3072 0)) $$ [Hggu3 Htgu3 Hvgu3]
  · isplitl [Hggu3]; · iexact Hggu3
    isplitl [Htgu3] <;> iassumption
  iintro Hngu3
  iapply wp_done
  iapply HK
  iframe

theorem wp_part5 (hs : (sl v260 k).toNat = s.val) (he' : b.toNat = e'.val) {K} :
    iprop(pt c B26 fullShare f26 ∗ pt c B27 fullShare G ∗ GuFly c f3 f8 s 4 (W 4) ∗ GuFly c f3 f8 s 5 (W 5) ∗ Ow (F := F) c ∗ (iprop(pt c B26 fullShare f26 ∗ pt c B27 fullShare (k0_pay8 (xn c f26 5) (W 5) (k0_pay7 (xn c f26 4) (W 4) G)) ∗ GuSlot c f3 f8 (k0_cond5 v260 k = 1#1) s 4 (guW c f3 e' 4) ∗ GuHave c f3 f8 s 5 (W 5) ∗ Ow (F := F) c) -∗ K (Scalar.extui w333)))
    ⊢ WP c (P5 (F := F) M12 h12 v260 hw10 k w326 w333 b h11) K := by
  rw [P5, k0_part5_eq_skeleton]
  unfold k0_part5_skel
  dsimp only [storeSubelements, smemLoad, smemLoadElt, Prog.bind_lift, Prog.bind_op, Prog.bind_ret, Prog.pure_eq_ret]
  try unfold GuHave
  try unfold DnHave
  iintro ⟨H26, H27, Hgu4, Hgu5, Hw, HK⟩
  icases Hw with ⟨%W1, Hw⟩
  iapply (wp_guWait c (s := s) (j := 4) (o2 hs 4) (k0_off45_inb v260 hw10 k) (k0_off46_inb v260 hw10 k)) $$ [Hgu4 Hw]
  · isplitl [Hgu4] <;> iassumption
  iintro %W1 ⟨Hggu4, Htgu4, Hvgu4, Hw⟩
  ihave Hw : Ow (F := F) c $$ [Hw]
  · iexists _; iexact Hw
  iapply (wp_ld c (M := B26) rfl _ (xnInb 4)) $$ H26
  iintro H26
  iapply (wp_guLoad c (s := s) (j := 4) (o3 hs 4096 0) _) $$ Hggu4
  iintro Hggu4
  iapply (wp_ld27 c) $$ H27
  iintro H27
  iapply (wp_ld27 c) $$ H27
  iintro H27
  iapply (wp_st27 c) $$ H27
  iintro H27
  iapply (wp_guNext c (s := s) (j := 4) (C := k0_cond5 v260 k = 1#1) (e := e') (o2 hs 4) (o3 hs 4096 0) (show k0_off50 _ = guSrcOff e' 4 from o3 he' 4096 0)) $$ [Hggu4 Htgu4 Hvgu4]
  · isplitl [Hggu4]; · iexact Hggu4
    isplitl [Htgu4] <;> iassumption
  iintro Hngu4
  icases Hw with ⟨%W1, Hw⟩
  iapply (wp_guWait c (s := s) (j := 5) (o2 hs 5) (k0_off51_inb v260 hw10 k) (k0_off52_inb v260 hw10 k)) $$ [Hgu5 Hw]
  · isplitl [Hgu5] <;> iassumption
  iintro %W1 ⟨Hggu5, Htgu5, Hvgu5, Hw⟩
  ihave Hw : Ow (F := F) c $$ [Hw]
  · iexists _; iexact Hw
  iapply (wp_ld c (M := B26) rfl _ (xnInb 5)) $$ H26
  iintro H26
  iapply (wp_guLoad c (s := s) (j := 5) (o3 hs 5120 0) _) $$ Hggu5
  iintro Hggu5
  iapply (wp_ld27 c) $$ H27
  iintro H27
  iapply (wp_ld27 c) $$ H27
  iintro H27
  iapply (wp_st27 c) $$ H27
  iintro H27
  iapply wp_done
  iapply HK
  iframe

theorem wp_part6 (hs : (sl v260 k).toNat = s.val) (he : a.toNat = e.val) (he' : b.toNat = e'.val) {m : Fin 2} (hm0 : k0_off63 v260 k = sgOff 0 m) (hm1 : k0_off65 v260 k = sgOff 1 m) {K} :
    iprop(pt c B26 fullShare f26 ∗ pt c B27 fullShare G ∗ pt c B21 fullShare f21 ∗ pt c B18 fullShare f18 ∗ GuHave c f3 f8 s 5 (W 5) ∗ GuFly c f3 f8 s 6 (W 6) ∗ Ow (F := F) c ∗ (iprop(pt c B26 fullShare f26 ∗ pt c B27 fullShare (k0_pay9 (xn c f26 6) (W 6) G) ∗ pt c B21 fullShare f21 ∗ pt c B18 fullShare f18 ∗ GuSlot c f3 f8 (k0_cond6 v260 k = 1#1) s 5 (guW c f3 e' 5) ∗ GuSlot c f3 f8 (k0_cond7 v260 k = 1#1) s 6 (guW c f3 e' 6) ∗ Ow (F := F) c) -∗ K ⟨k0_pay10 w327 (ssg c f21 0 m) (esg c f18 0 e), k0_pay11 w327 (ssg c f21 1 m) (esg c f18 1 e)⟩))
    ⊢ WP c (P6 (F := F) M12 h12 v260 hw10 k w326 w327 a h12a w333 b h11 w339 w444) K := by
  rw [P6, k0_part6_eq_skeleton]
  unfold k0_part6_skel
  dsimp only [storeSubelements, smemLoad, smemLoadElt, Prog.bind_lift, Prog.bind_op, Prog.bind_ret, Prog.pure_eq_ret]
  try unfold GuHave
  try unfold DnHave
  iintro ⟨H26, H27, H21, H18, ⟨Hggu5, Htgu5, Hvgu5⟩, Hgu6, Hw, HK⟩
  iapply (wp_guNext c (s := s) (j := 5) (C := k0_cond6 v260 k = 1#1) (e := e') (o2 hs 5) (o3 hs 5120 0) (show k0_off56 _ = guSrcOff e' 5 from o3 he' 5120 0)) $$ [Hggu5 Htgu5 Hvgu5]
  · isplitl [Hggu5]; · iexact Hggu5
    isplitl [Htgu5] <;> iassumption
  iintro Hngu5
  icases Hw with ⟨%W1, Hw⟩
  iapply (wp_guWait c (s := s) (j := 6) (o2 hs 6) (k0_off57_inb v260 hw10 k) (k0_off58_inb v260 hw10 k)) $$ [Hgu6 Hw]
  · isplitl [Hgu6] <;> iassumption
  iintro %W1 ⟨Hggu6, Htgu6, Hvgu6, Hw⟩
  ihave Hw : Ow (F := F) c $$ [Hw]
  · iexists _; iexact Hw
  iapply (wp_ld c (M := B26) rfl _ (xnInb 6)) $$ H26
  iintro H26
  iapply (wp_guLoad c (s := s) (j := 6) (o3 hs 6144 0) _) $$ Hggu6
  iintro Hggu6
  iapply (wp_ld27 c) $$ H27
  iintro H27
  iapply (wp_ld27 c) $$ H27
  iintro H27
  iapply (wp_st27 c) $$ H27
  iintro H27
  iapply (wp_guNext c (s := s) (j := 6) (C := k0_cond7 v260 k = 1#1) (e := e') (o2 hs 6) (o3 hs 6144 0) (show k0_off62 _ = guSrcOff e' 6 from o3 he' 6144 0)) $$ [Hggu6 Htgu6 Hvgu6]
  · isplitl [Hggu6]; · iexact Hggu6
    isplitl [Htgu6] <;> iassumption
  iintro Hngu6
  iapply (wp_ld c (M := B21) hm0 _ (sgInb 0 m)) $$ H21
  iintro H21
  iapply (wp_ld c (M := B18) (show k0_off64 a = egOff 0 e from o2 he 0) _ (egInb 0 e)) $$ H18
  iintro H18
  iapply (wp_ld c (M := B21) hm1 _ (sgInb 1 m)) $$ H21
  iintro H21
  iapply (wp_ld c (M := B18) (show k0_off66 a = egOff 1 e from o2 he 768) _ (egInb 1 e)) $$ H18
  iintro H18
  iapply wp_done
  iapply HK
  iframe

/-- The expert ids and the weights, token by token. -/
abbrev ids (f16 : Cts (F := F) c B16) : Vec F S33x8 .i32 := rd c B16 f16 ![0, 0] S33x8.size inb_S33x8_S33x8_0_0
abbrev ewv (f17 : Cts (F := F) c B17) : Vec F S33x8 .f32 := rd c B17 f17 ![0, 0] S33x8.size inb_S33x8_S33x8_0_0

theorem wp_part7  {v470 v476 : Vec F S1x768 .f32} {K} :
    iprop(pt c B16 fullShare f16 ∗ pt c B17 fullShare f17 ∗ pt c B27 fullShare G ∗ pt c B28 fullShare H ∗ (iprop(pt c B16 fullShare f16 ∗ pt c B17 fullShare f17 ∗ pt c B27 fullShare G ∗ pt c B28 fullShare (hV c (k0_pay15 w327 a v470 v476 (ids c f16) (guP c G 0) (guP c G 1)))) -∗ K (k0_pay13 w327 a (ids c f16) (ewv c f17))))
    ⊢ WP c (P7 (F := F) M12 h12 w327 a v470 v476) K := by
  rw [P7, k0_part7_eq_skeleton]
  unfold k0_part7_skel
  dsimp only [storeSubelements, smemLoad, smemLoadElt, Prog.bind_lift, Prog.bind_op, Prog.bind_ret, Prog.pure_eq_ret]
  try unfold GuHave
  try unfold DnHave
  iintro ⟨H16, H17, H27, H28, HK⟩
  iapply (wp_ld c (M := B16) rfl _ inb_S33x8_S33x8_0_0) $$ H16
  iintro H16
  iapply (wp_ld c (M := B17) rfl _ inb_S33x8_S33x8_0_0) $$ H17
  iintro H17
  iapply (wp_ld c (M := B27) rfl _ (guHalfInb 0)) $$ H27
  iintro H27
  iapply (wp_ld c (M := B27) rfl _ (guHalfInb 1)) $$ H27
  iintro H27
  iapply (wp_ld28 c) $$ H28
  iintro H28
  iapply (wp_st28 c) $$ H28
  iintro H28
  iapply (wp_ld c (M := B28) rfl _ inb_S48x768_S33x768_0_0) $$ H28
  iintro H28
  iapply (wp_ld c (M := B28) rfl _ inb_S48x768_S34x768_0_0) $$ H28
  iintro H28
  iapply (wp_store Variants.none (c : Thread nD τ) none Set.univ (m := B28) (r := Rect.unit (s := S48x768) ![0, 0] S34x768.size inb_S48x768_S34x768_0_0) (S := Finset.univ) (f := (k0_pay14 (F := F))) (Finset.subset_univ _)) $$ H28
  iintro H28
  iapply wp_done
  iapply HK
  iframe
  unfold hV
  iexact H28

theorem wp_part8 (hs : (sl v260 k).toNat = s.val) (he : a.toNat = e.val) (he' : b.toNat = e'.val) {v490 : FVec F S33x1 .f32} {K} :
    iprop(pt c B28 fullShare H ∗ pt c B22 fullShare f22 ∗ pt c B19 fullShare f19 ∗ AccIs c A ∗ DnFly c f5 f10 s 0 (D 0) ∗ Ow (F := F) c ∗ (iprop(pt c B28 fullShare H ∗ pt c B22 fullShare f22 ∗ pt c B19 fullShare f19 ∗ AccIs c (Function.update A 0 (k0_pay16 w327 v490 H (D 0) (ssd c f22 0) (sdn c f19 e 0) (A 0))) ∗ DnSlot c f5 f10 (k0_cond8 v260 k = 1#1) s 0 (dnW c f5 e' 0) ∗ Ow (F := F) c) -∗ K ⟨⟩))
    ⊢ WP c (P8 (F := F) M12 h12 v260 hw10 k w326 w327 a h12a w333 b h11 v490) K := by
  rw [P8, k0_part8_eq_skeleton]
  unfold k0_part8_skel
  dsimp only [storeSubelements, smemLoad, smemLoadElt, Prog.bind_lift, Prog.bind_op, Prog.bind_ret, Prog.pure_eq_ret]
  try unfold GuHave
  try unfold DnHave
  iintro ⟨H28, H22, H19, Hacc, Hdn0, Hw, HK⟩
  icases Hw with ⟨%W1, Hw⟩
  iapply (wp_dnWait c (s := s) (j := 0) (o2 hs 0) (k0_off67_inb v260 hw10 k) (k0_off68_inb v260 hw10 k)) $$ [Hdn0 Hw]
  · isplitl [Hdn0] <;> iassumption
  iintro %W1 ⟨Hgdn0, Htdn0, Hvdn0, Hw⟩
  ihave Hw : Ow (F := F) c $$ [Hw]
  · iexists _; iexact Hw
  iapply (wp_ld28 c) $$ H28
  iintro H28
  iapply (wp_dnLoad c (s := s) (j := 0) (o3 hs 0 0) _) $$ Hgdn0
  iintro Hgdn0
  iapply (wp_ld c (M := B22) rfl _ (ssInb 0)) $$ H22
  iintro H22
  iapply (wp_ld c (M := B19) (show k0_off70 a = sdOff e 0 from o2 he 0) _ (sdInb e 0)) $$ H19
  iintro H19
  iapply (wp_ldAcc c 0 rfl) $$ Hacc
  iintro Hacc
  iapply (wp_ldAcc c 0 rfl) $$ Hacc
  iintro Hacc
  iapply (wp_stAcc c 0 rfl) $$ Hacc
  iintro Hacc
  iapply (wp_dnNext c (s := s) (j := 0) (C := k0_cond8 v260 k = 1#1) (e := e') (o2 hs 0) (o3 hs 0 0) (show k0_off73 _ = dnSrcOff e' 0 from o3 he' 0 0)) $$ [Hgdn0 Htdn0 Hvdn0]
  · isplitl [Hgdn0]; · iexact Hgdn0
    isplitl [Htdn0] <;> iassumption
  iintro Hndn0
  iapply wp_done
  iapply HK
  iframe

theorem wp_part9 (hs : (sl v260 k).toNat = s.val) (he : a.toNat = e.val) (he' : b.toNat = e'.val) {v490 : FVec F S33x1 .f32} {K} :
    iprop(pt c B28 fullShare H ∗ pt c B22 fullShare f22 ∗ pt c B19 fullShare f19 ∗ AccIs c A ∗ DnFly c f5 f10 s 1 (D 1) ∗ DnFly c f5 f10 s 2 (D 2) ∗ Ow (F := F) c ∗ (iprop(pt c B28 fullShare H ∗ pt c B22 fullShare f22 ∗ pt c B19 fullShare f19 ∗ AccIs c (Function.update A 1 (k0_pay17 w327 v490 H (D 1) (ssd c f22 1) (sdn c f19 e 1) (A 1))) ∗ DnSlot c f5 f10 (k0_cond9 v260 k = 1#1) s 1 (dnW c f5 e' 1) ∗ DnHave c f5 f10 s 2 (D 2) ∗ Ow (F := F) c) -∗ K ⟨H, k0_pay18 (D 2), constant S48x1024 .f32 0x00000000#32⟩))
    ⊢ WP c (P9 (F := F) M12 h12 v260 hw10 k w326 w327 a h12a w333 b h11 v490) K := by
  rw [P9, k0_part9_eq_skeleton]
  unfold k0_part9_skel
  dsimp only [storeSubelements, smemLoad, smemLoadElt, Prog.bind_lift, Prog.bind_op, Prog.bind_ret, Prog.pure_eq_ret]
  try unfold GuHave
  try unfold DnHave
  iintro ⟨H28, H22, H19, Hacc, Hdn1, Hdn2, Hw, HK⟩
  icases Hw with ⟨%W1, Hw⟩
  iapply (wp_dnWait c (s := s) (j := 1) (o2 hs 1) (k0_off74_inb v260 hw10 k) (k0_off75_inb v260 hw10 k)) $$ [Hdn1 Hw]
  · isplitl [Hdn1] <;> iassumption
  iintro %W1 ⟨Hgdn1, Htdn1, Hvdn1, Hw⟩
  ihave Hw : Ow (F := F) c $$ [Hw]
  · iexists _; iexact Hw
  iapply (wp_ld28 c) $$ H28
  iintro H28
  iapply (wp_dnLoad c (s := s) (j := 1) (o3 hs 0 1024) _) $$ Hgdn1
  iintro Hgdn1
  iapply (wp_ld c (M := B22) rfl _ (ssInb 1)) $$ H22
  iintro H22
  iapply (wp_ld c (M := B19) (show k0_off77 a = sdOff e 1 from o2 he 1024) _ (sdInb e 1)) $$ H19
  iintro H19
  iapply (wp_ldAcc c 1 rfl) $$ Hacc
  iintro Hacc
  iapply (wp_ldAcc c 1 rfl) $$ Hacc
  iintro Hacc
  iapply (wp_stAcc c 1 rfl) $$ Hacc
  iintro Hacc
  iapply (wp_dnNext c (s := s) (j := 1) (C := k0_cond9 v260 k = 1#1) (e := e') (o2 hs 1) (o3 hs 0 1024) (show k0_off80 _ = dnSrcOff e' 1 from o3 he' 0 1024)) $$ [Hgdn1 Htdn1 Hvdn1]
  · isplitl [Hgdn1]; · iexact Hgdn1
    isplitl [Htdn1] <;> iassumption
  iintro Hndn1
  icases Hw with ⟨%W1, Hw⟩
  iapply (wp_dnWait c (s := s) (j := 2) (o2 hs 2) (k0_off81_inb v260 hw10 k) (k0_off82_inb v260 hw10 k)) $$ [Hdn2 Hw]
  · isplitl [Hdn2] <;> iassumption
  iintro %W1 ⟨Hgdn2, Htdn2, Hvdn2, Hw⟩
  ihave Hw : Ow (F := F) c $$ [Hw]
  · iexists _; iexact Hw
  iapply (wp_ld28 c) $$ H28
  iintro H28
  iapply (wp_dnLoad c (s := s) (j := 2) (o3 hs 0 2048) _) $$ Hgdn2
  iintro Hgdn2
  iapply wp_done
  iapply HK
  iframe

theorem wp_part10 (hs : (sl v260 k).toNat = s.val) (he : a.toNat = e.val) (he' : b.toNat = e'.val) {v490 : FVec F S33x1 .f32} {v576 : Vec F S48x768 .bf16} {v579 : FVec F S768x1024 .fp8e4m3} {cst551 : FVec F S48x1024 .f32} {K} :
    iprop(pt c B28 fullShare H ∗ pt c B22 fullShare f22 ∗ pt c B19 fullShare f19 ∗ AccIs c A ∗ DnHave c f5 f10 s 2 (D 2) ∗ DnFly c f5 f10 s 3 (D 3) ∗ Ow (F := F) c ∗ (iprop(pt c B28 fullShare H ∗ pt c B22 fullShare f22 ∗ pt c B19 fullShare f19 ∗ AccIs c (Function.update A 2 (k0_pay19 w327 v490 v576 v579 cst551 (ssd c f22 2) (sdn c f19 e 2) (A 2))) ∗ DnSlot c f5 f10 (k0_cond10 v260 k = 1#1) s 2 (dnW c f5 e' 2) ∗ DnHave c f5 f10 s 3 (D 3) ∗ Ow (F := F) c) -∗ K ⟨k0_pay20 H (D 3), k0_pay21 w327 (ssd c f22 3) (sdn c f19 e 3), A 3⟩))
    ⊢ WP c (P10 (F := F) M12 h12 v260 hw10 k w326 w327 a h12a w333 b h11 v490 v576 v579 cst551) K := by
  rw [P10, k0_part10_eq_skeleton]
  unfold k0_part10_skel
  dsimp only [storeSubelements, smemLoad, smemLoadElt, Prog.bind_lift, Prog.bind_op, Prog.bind_ret, Prog.pure_eq_ret]
  try unfold GuHave
  try unfold DnHave
  iintro ⟨H28, H22, H19, Hacc, ⟨Hgdn2, Htdn2, Hvdn2⟩, Hdn3, Hw, HK⟩
  iapply (wp_ld c (M := B22) rfl _ (ssInb 2)) $$ H22
  iintro H22
  iapply (wp_ld c (M := B19) (show k0_off84 a = sdOff e 2 from o2 he 2048) _ (sdInb e 2)) $$ H19
  iintro H19
  iapply (wp_ldAcc c 2 rfl) $$ Hacc
  iintro Hacc
  iapply (wp_ldAcc c 2 rfl) $$ Hacc
  iintro Hacc
  iapply (wp_stAcc c 2 rfl) $$ Hacc
  iintro Hacc
  iapply (wp_dnNext c (s := s) (j := 2) (C := k0_cond10 v260 k = 1#1) (e := e') (o2 hs 2) (o3 hs 0 2048) (show k0_off87 _ = dnSrcOff e' 2 from o3 he' 0 2048)) $$ [Hgdn2 Htdn2 Hvdn2]
  · isplitl [Hgdn2]; · iexact Hgdn2
    isplitl [Htdn2] <;> iassumption
  iintro Hndn2
  icases Hw with ⟨%W1, Hw⟩
  iapply (wp_dnWait c (s := s) (j := 3) (o2 hs 3) (k0_off88_inb v260 hw10 k) (k0_off89_inb v260 hw10 k)) $$ [Hdn3 Hw]
  · isplitl [Hdn3] <;> iassumption
  iintro %W1 ⟨Hgdn3, Htdn3, Hvdn3, Hw⟩
  ihave Hw : Ow (F := F) c $$ [Hw]
  · iexists _; iexact Hw
  iapply (wp_ld28 c) $$ H28
  iintro H28
  iapply (wp_dnLoad c (s := s) (j := 3) (o3 hs 0 3072) _) $$ Hgdn3
  iintro Hgdn3
  iapply (wp_ld c (M := B22) rfl _ (ssInb 3)) $$ H22
  iintro H22
  iapply (wp_ld c (M := B19) (show k0_off91 a = sdOff e 3 from o2 he 3072) _ (sdInb e 3)) $$ H19
  iintro H19
  iapply (wp_ldAcc c 3 rfl) $$ Hacc
  iintro Hacc
  rw [Function.update_of_ne (show (3 : Fin 7) ≠ 2 by decide)]
  iapply wp_done
  iapply HK
  iframe

theorem wp_part11 (hs : (sl v260 k).toNat = s.val) (he : a.toNat = e.val) (he' : b.toNat = e'.val) {v490 : FVec F S33x1 .f32} {v607 : FVec F S48x1024 .f32} {v611 : Vec F S1x1024 .f32} {v612 : Vec F S33x1024 .f32} {K} :
    iprop(pt c B28 fullShare H ∗ pt c B22 fullShare f22 ∗ pt c B19 fullShare f19 ∗ AccIs c A ∗ DnHave c f5 f10 s 3 (D 3) ∗ DnFly c f5 f10 s 4 (D 4) ∗ Ow (F := F) c ∗ (iprop(pt c B28 fullShare H ∗ pt c B22 fullShare f22 ∗ pt c B19 fullShare f19 ∗ AccIs c (Function.update A 3 (k0_pay22 v490 v607 v611 v612)) ∗ DnSlot c f5 f10 (k0_cond11 v260 k = 1#1) s 3 (dnW c f5 e' 3) ∗ DnHave c f5 f10 s 4 (D 4) ∗ Ow (F := F) c) -∗ K (k0_pay23 w327 v490 H (D 4) (ssd c f22 4) (sdn c f19 e 4) (A 4))))
    ⊢ WP c (P11 (F := F) M12 h12 v260 hw10 k w326 w327 a h12a w333 b h11 v490 v607 v611 v612) K := by
  rw [P11, k0_part11_eq_skeleton]
  unfold k0_part11_skel
  dsimp only [storeSubelements, smemLoad, smemLoadElt, Prog.bind_lift, Prog.bind_op, Prog.bind_ret, Prog.pure_eq_ret]
  try unfold GuHave
  try unfold DnHave
  iintro ⟨H28, H22, H19, Hacc, ⟨Hgdn3, Htdn3, Hvdn3⟩, Hdn4, Hw, HK⟩
  iapply (wp_ldAcc c 3 rfl) $$ Hacc
  iintro Hacc
  iapply (wp_stAcc c 3 rfl) $$ Hacc
  iintro Hacc
  iapply (wp_dnNext c (s := s) (j := 3) (C := k0_cond11 v260 k = 1#1) (e := e') (o2 hs 3) (o3 hs 0 3072) (show k0_off94 _ = dnSrcOff e' 3 from o3 he' 0 3072)) $$ [Hgdn3 Htdn3 Hvdn3]
  · isplitl [Hgdn3]; · iexact Hgdn3
    isplitl [Htdn3] <;> iassumption
  iintro Hndn3
  icases Hw with ⟨%W1, Hw⟩
  iapply (wp_dnWait c (s := s) (j := 4) (o2 hs 4) (k0_off95_inb v260 hw10 k) (k0_off96_inb v260 hw10 k)) $$ [Hdn4 Hw]
  · isplitl [Hdn4] <;> iassumption
  iintro %W1 ⟨Hgdn4, Htdn4, Hvdn4, Hw⟩
  ihave Hw : Ow (F := F) c $$ [Hw]
  · iexists _; iexact Hw
  iapply (wp_ld28 c) $$ H28
  iintro H28
  iapply (wp_dnLoad c (s := s) (j := 4) (o3 hs 0 4096) _) $$ Hgdn4
  iintro Hgdn4
  iapply (wp_ld c (M := B22) rfl _ (ssInb 4)) $$ H22
  iintro H22
  iapply (wp_ld c (M := B19) (show k0_off98 a = sdOff e 4 from o2 he 4096) _ (sdInb e 4)) $$ H19
  iintro H19
  iapply (wp_ldAcc c 4 rfl) $$ Hacc
  iintro Hacc
  iapply (wp_ldAcc c 4 rfl) $$ Hacc
  iintro Hacc
  rw [Function.update_of_ne (show (4 : Fin 7) ≠ 3 by decide)]
  iapply wp_done
  iapply HK
  iframe

theorem wp_part12 (hs : (sl v260 k).toNat = s.val) (he : a.toNat = e.val) (he' : b.toNat = e'.val) {v490 : FVec F S33x1 .f32} {v648 : FVec F S33x1024 .f32} {K} :
    iprop(pt c B28 fullShare H ∗ pt c B22 fullShare f22 ∗ pt c B19 fullShare f19 ∗ AccIs c A ∗ DnHave c f5 f10 s 4 (D 4) ∗ DnFly c f5 f10 s 5 (D 5) ∗ Ow (F := F) c ∗ (iprop(pt c B28 fullShare H ∗ pt c B22 fullShare f22 ∗ pt c B19 fullShare f19 ∗ AccIs c (Function.update (Function.update A 4 v648) 5 (k0_pay24 w327 v490 H (D 5) (ssd c f22 5) (sdn c f19 e 5) (A 5))) ∗ DnSlot c f5 f10 (k0_cond12 v260 k = 1#1) s 4 (dnW c f5 e' 4) ∗ DnSlot c f5 f10 (k0_cond13 v260 k = 1#1) s 5 (dnW c f5 e' 5) ∗ Ow (F := F) c) -∗ K ⟨⟩))
    ⊢ WP c (P12 (F := F) M12 h12 v260 hw10 k w326 w327 a h12a w333 b h11 v490 v648) K := by
  rw [P12, k0_part12_eq_skeleton]
  unfold k0_part12_skel
  dsimp only [storeSubelements, smemLoad, smemLoadElt, Prog.bind_lift, Prog.bind_op, Prog.bind_ret, Prog.pure_eq_ret]
  try unfold GuHave
  try unfold DnHave
  iintro ⟨H28, H22, H19, Hacc, ⟨Hgdn4, Htdn4, Hvdn4⟩, Hdn5, Hw, HK⟩
  iapply (wp_stAcc c 4 rfl) $$ Hacc
  iintro Hacc
  iapply (wp_dnNext c (s := s) (j := 4) (C := k0_cond12 v260 k = 1#1) (e := e') (o2 hs 4) (o3 hs 0 4096) (show k0_off101 _ = dnSrcOff e' 4 from o3 he' 0 4096)) $$ [Hgdn4 Htdn4 Hvdn4]
  · isplitl [Hgdn4]; · iexact Hgdn4
    isplitl [Htdn4] <;> iassumption
  iintro Hndn4
  icases Hw with ⟨%W1, Hw⟩
  iapply (wp_dnWait c (s := s) (j := 5) (o2 hs 5) (k0_off102_inb v260 hw10 k) (k0_off103_inb v260 hw10 k)) $$ [Hdn5 Hw]
  · isplitl [Hdn5] <;> iassumption
  iintro %W1 ⟨Hgdn5, Htdn5, Hvdn5, Hw⟩
  ihave Hw : Ow (F := F) c $$ [Hw]
  · iexists _; iexact Hw
  iapply (wp_ld28 c) $$ H28
  iintro H28
  iapply (wp_dnLoad c (s := s) (j := 5) (o3 hs 0 5120) _) $$ Hgdn5
  iintro Hgdn5
  iapply (wp_ld c (M := B22) rfl _ (ssInb 5)) $$ H22
  iintro H22
  iapply (wp_ld c (M := B19) (show k0_off105 a = sdOff e 5 from o2 he 5120) _ (sdInb e 5)) $$ H19
  iintro H19
  iapply (wp_ldAcc c 5 rfl) $$ Hacc
  iintro Hacc
  iapply (wp_ldAcc c 5 rfl) $$ Hacc
  iintro Hacc
  rw [Function.update_of_ne (show (5 : Fin 7) ≠ 4 by decide)]
  iapply (wp_stAcc c 5 rfl) $$ Hacc
  iintro Hacc
  iapply (wp_dnNext c (s := s) (j := 5) (C := k0_cond13 v260 k = 1#1) (e := e') (o2 hs 5) (o3 hs 0 5120) (show k0_off108 _ = dnSrcOff e' 5 from o3 he' 0 5120)) $$ [Hgdn5 Htdn5 Hvdn5]
  · isplitl [Hgdn5]; · iexact Hgdn5
    isplitl [Htdn5] <;> iassumption
  iintro Hndn5
  iapply wp_done
  iapply HK
  iframe

theorem wp_seq {α β : Type} {p : Prog (TpuEff nD τ sig (Elt F) Λ₀ .tc) β} {g : β → Prog (TpuEff nD τ sig (Elt F) Λ₀ .tc) α}
    {Q : α → sProp (MT nD τ sig Unit (Elt F) ℕ (Pipeline.UD sig nD τ) ℕ)} : WP c p (fun x => WP c (g x) Q) ⊢ WP c (p >>= g) Q := by
  rw [WP, WP, wp_bind]

/-- Seven of them, one a chunk. -/
abbrev sep7 (P : Fin 7 → sProp (MT nD τ sig Unit (Elt F) ℕ (Pipeline.UD sig nD τ) ℕ)) : sProp (MT nD τ sig Unit (Elt F) ℕ (Pipeline.UD sig nD τ) ℕ) :=
  iprop(P 0 ∗ P 1 ∗ P 2 ∗ P 3 ∗ P 4 ∗ P 5 ∗ P 6)

/-- The gate and up projections of the normalised tokens, over the seven chunks. -/
def guAcc (f26 : Cts (F := F) c B26) (W : Fin 7 → Vec F S1x1024x1536 .fp8e4m3) : Vec F S48x1536 .f32 :=
  k0_pay9 (xn c f26 6) (W 6) (k0_pay8 (xn c f26 5) (W 5) (k0_pay7 (xn c f26 4) (W 4) (k0_pay6 (xn c f26 3) (W 3)
    (k0_pay5 (k0_pay4 (xn c f26 2) (W 2)) (k0_pay3 (xn c f26 1) (W 1) (k0_pay2 (xn c f26 0) (W 0)))))))

/-- The masked activations of an item: `w327` says it is a shared one, `a` is the expert's id, `e` the row of scales. -/
def hItem (f16 : Cts (F := F) c B16) (f18 : Cts (F := F) c B18) (f21 : Cts (F := F) c B21) (f26 : Cts (F := F) c B26)
    (w327 : BitVec 1) (a : BitVec 32) (e : Fin 32) (m : Fin 2) (W : Fin 7 → Vec F S1x1024x1536 .fp8e4m3) : Vec F S48x768 .bf16 :=
  hV c (k0_pay15 w327 a (k0_pay10 w327 (ssg c f21 0 m) (esg c f18 0 e)) (k0_pay11 w327 (ssg c f21 1 m) (esg c f18 1 e)) (ids c f16)
    (guP c (guAcc c f26 W) 0) (guP c (guAcc c f26 W) 1))

/-- The accumulator after an item whose activations are `H` and whose weights in the sum are `v490`. -/
def accItem (f19 : Cts (F := F) c B19) (f22 : Cts (F := F) c B22) (w327 : BitVec 1) (e : Fin 32) (v490 : FVec F S33x1 .f32) (H : Vec F S48x768 .bf16)
    (D : Fin 7 → Vec F S1x768x1024 .fp8e4m3) (A : Fin 7 → Vec F S33x1024 .f32) : Fin 7 → Vec F S33x1024 .f32
  | 0 => k0_pay16 w327 v490 H (D 0) (ssd c f22 0) (sdn c f19 e 0) (A 0)
  | 1 => k0_pay17 w327 v490 H (D 1) (ssd c f22 1) (sdn c f19 e 1) (A 1)
  | 2 => k0_pay19 w327 v490 H (k0_pay18 (D 2)) (constant S48x1024 .f32 0x00000000#32) (ssd c f22 2) (sdn c f19 e 2) (A 2)
  | 3 => k0_pay22 v490 (k0_pay20 H (D 3)) (k0_pay21 w327 (ssd c f22 3) (sdn c f19 e 3)) (A 3)
  | 4 => k0_pay23 w327 v490 H (D 4) (ssd c f22 4) (sdn c f19 e 4) (A 4)
  | 5 => k0_pay24 w327 v490 H (D 5) (ssd c f22 5) (sdn c f19 e 5) (A 5)
  | 6 => k0_pay55 w327 v490 H (D 6) (ssd c f22 6) (sdn c f19 e 6) (A 6)

theorem acc_congr {A B : Fin 7 → Vec F S33x1024 .f32} (h : ∀ j, A j = B j) : AccIs c A ⊢ AccIs c B := by
  rw [show A = B from funext h]

set_option maxHeartbeats 1000000 in
/-- A trip: the item's chunks land, are multiplied, and make room for the item after next. -/
theorem wp_trip (hs : (sl v260 k).toNat = s.val) (he : a.toNat = e.val) (he' : b.toNat = e'.val) (h12a : k0_chk12 a) (h11 : k0_chk11 v260 k b)
    (ha : lv c f25 (k0_off19 v260 k) (k0_off19_inb v260 hw10 k) = a) (hb : lv c f25 (k0_off20 v260 k) (k0_off20_inb v260 hw10 k) = b)
    {m : Fin 2} (hm0 : k0_off63 v260 k = sgOff 0 m) (hm1 : k0_off65 v260 k = sgOff 1 m) (hw : Scalar.cmpi .slt (Scf.iv 0#32 1#32 k) 2#32 = w327)
    {v289 : FVec F S33x7168 .f32} {K} :
    iprop(pt c B16 fullShare f16 ∗ pt c B17 fullShare f17 ∗ pt c B18 fullShare f18 ∗ pt c B19 fullShare f19 ∗ pt c B21 fullShare f21 ∗ pt c B22 fullShare f22 ∗ pt c B25 fullShare f25 ∗ pt c B26 fullShare f26
      ∗ pt c B27 fullShare G ∗ pt c B28 fullShare H ∗ AccIs c A
      ∗ sep7 (fun j => GuFly c f3 f8 s j (W j)) ∗ sep7 (fun j => DnFly c f5 f10 s j (D j)) ∗ Ow (F := F) c
      ∗ (iprop(pt c B16 fullShare f16 ∗ pt c B17 fullShare f17 ∗ pt c B18 fullShare f18 ∗ pt c B19 fullShare f19 ∗ pt c B21 fullShare f21 ∗ pt c B22 fullShare f22 ∗ pt c B25 fullShare f25 ∗ pt c B26 fullShare f26
        ∗ pt c B27 fullShare (guAcc c f26 W) ∗ pt c B28 fullShare (hItem c f16 f18 f21 f26 w327 a e m W)
        ∗ AccIs c (accItem c f19 f22 w327 e (k0_pay13 w327 a (ids c f16) (ewv c f17)) (hItem c f16 f18 f21 f26 w327 a e m W) D A)
        ∗ sep7 (fun j => GuSlot c f3 f8 (k0_cond1 v260 k = 1#1) s j (guW c f3 e' j)) ∗ sep7 (fun j => DnSlot c f5 f10 (k0_cond1 v260 k = 1#1) s j (dnW c f5 e' j)) ∗ Ow (F := F) c) -∗ K ()))
    ⊢ WP c (T3 (F := F) M12 h12 v260 hw10 (Scalar.addi 2#32 v260) v289 k ()) K := by
  subst hw
  rw [T3]
  unfold k0_t3_body
  iintro ⟨H16, H17, H18, H19, H21, H22, H25, H26, H27, H28, Hacc, ⟨Hgu0, Hgu1, Hgu2, Hgu3, Hgu4, Hgu5, Hgu6⟩, ⟨Hdn0, Hdn1, Hdn2, Hdn3, Hdn4, Hdn5, Hdn6⟩, Hw, HK⟩
  iapply wp_seq
  iapply (wp_part2 c M12 h12 hs he' (h12a := h12a) (h11 := h11) ha hb (W := W) (G := G) (f26 := f26) (f3 := f3) (f8 := f8))
  iframe H25 H26 H27 Hgu0 Hw
  iintro ⟨H25, H26, H27, Hgu0, Hw⟩
  try dsimp only
  iapply wp_seq
  iapply (wp_part3 c M12 h12 hs he' (W := W) (f26 := f26) (f3 := f3) (f8 := f8))
  iframe H26 H27 Hgu1 Hgu2 Hw
  iintro ⟨H26, H27, Hgu1, Hgu2, Hw⟩
  try dsimp only
  iapply wp_seq
  iapply (wp_part4 c M12 h12 hs he' (W := W) (f26 := f26) (f3 := f3) (f8 := f8))
  iframe H26 H27 Hgu2 Hgu3 Hw
  iintro ⟨H26, H27, Hgu2, Hgu3, Hw⟩
  try dsimp only
  iapply wp_seq
  iapply (wp_part5 c M12 h12 hs he' (W := W) (f26 := f26) (f3 := f3) (f8 := f8))
  iframe H26 H27 Hgu4 Hgu5 Hw
  iintro ⟨H26, H27, Hgu4, Hgu5, Hw⟩
  try dsimp only
  iapply wp_seq
  iapply (wp_part6 c M12 h12 hs he he' (hm0 := hm0) (hm1 := hm1) (W := W) (f26 := f26) (f3 := f3) (f8 := f8) (f21 := f21) (f18 := f18))
  iframe H26 H27 H21 H18 Hgu5 Hgu6 Hw
  iintro ⟨H26, H27, H21, H18, Hgu5, Hgu6, Hw⟩
  try dsimp only
  iapply wp_seq
  iapply (wp_part7 c M12 h12  (f16 := f16) (f17 := f17))
  iframe H16 H17 H27 H28
  iintro ⟨H16, H17, H27, H28⟩
  try dsimp only
  iapply wp_seq
  iapply (wp_part8 c M12 h12 hs he he' (D := D) (f22 := f22) (f19 := f19) (f5 := f5) (f10 := f10))
  iframe H28 H22 H19 Hacc Hdn0 Hw
  iintro ⟨H28, H22, H19, Hacc, Hdn0, Hw⟩
  try dsimp only
  iapply wp_seq
  iapply (wp_part9 c M12 h12 hs he he' (D := D) (f22 := f22) (f19 := f19) (f5 := f5) (f10 := f10))
  iframe H28 H22 H19 Hacc Hdn1 Hdn2 Hw
  iintro ⟨H28, H22, H19, Hacc, Hdn1, Hdn2, Hw⟩
  try dsimp only
  iapply wp_seq
  iapply (wp_part10 c M12 h12 hs he he' (D := D) (f22 := f22) (f19 := f19) (f5 := f5) (f10 := f10))
  iframe H28 H22 H19 Hacc Hdn2 Hdn3 Hw
  iintro ⟨H28, H22, H19, Hacc, Hdn2, Hdn3, Hw⟩
  try dsimp only
  iapply wp_seq
  iapply (wp_part11 c M12 h12 hs he he' (D := D) (f22 := f22) (f19 := f19) (f5 := f5) (f10 := f10))
  iframe H28 H22 H19 Hacc Hdn3 Hdn4 Hw
  iintro ⟨H28, H22, H19, Hacc, Hdn3, Hdn4, Hw⟩
  try dsimp only
  iapply wp_seq
  iapply (wp_part12 c M12 h12 hs he he' (D := D) (f22 := f22) (f19 := f19) (f5 := f5) (f10 := f10))
  iframe H28 H22 H19 Hacc Hdn4 Hdn5 Hw
  iintro ⟨H28, H22, H19, Hacc, Hdn4, Hdn5, Hw⟩
  try dsimp only
  dsimp only [Prog.bind_lift, Prog.bind_op, Prog.bind_ret, Prog.pure_eq_ret]
  icases Hw with ⟨%W1, Hw⟩
  iapply (wp_dnWait c (s := s) (j := 6) (o2 hs 6) (k0_off109_inb v260 hw10 k) (k0_off110_inb v260 hw10 k)) $$ [Hdn6 Hw]
  · isplitl [Hdn6] <;> iassumption
  iintro %W1 ⟨Hgdn6, Htdn6, Hvdn6, Hw⟩
  ihave Hw : Ow (F := F) c $$ [Hw]
  · iexists _; iexact Hw
  iapply (wp_ld28 c) $$ H28
  iintro H28
  iapply (wp_dnLoad c (s := s) (j := 6) (o3 hs 0 6144) _) $$ Hgdn6
  iintro Hgdn6
  iapply (wp_ld c (M := B22) rfl _ (ssInb 6)) $$ H22
  iintro H22
  iapply (wp_ld c (M := B19) (show k0_off112 a = sdOff e 6 from o2 he 6144) _ (sdInb e 6)) $$ H19
  iintro H19
  iapply (wp_ldAcc c 6 rfl) $$ Hacc
  iintro Hacc
  iapply (wp_ldAcc c 6 rfl) $$ Hacc
  iintro Hacc
  iapply (wp_stAcc c 6 rfl) $$ Hacc
  iintro Hacc
  iapply (wp_dnNext c (s := s) (j := 6) (C := k0_cond14 v260 k = 1#1) (e := e') (o2 hs 6) (o3 hs 0 6144) (show k0_off115 _ = dnSrcOff e' 6 from o3 he' 0 6144)) $$ [Hgdn6 Htdn6 Hvdn6]
  · isplitl [Hgdn6]; · iexact Hgdn6
    isplitl [Htdn6] <;> iassumption
  iintro Hndn6
  iapply wp_done
  iapply HK
  iframe H16 H17 H18 H19 H21 H22 H25 H26
  isplitl [H27]; · iexact H27
  isplitl [H28]; · iexact H28
  isplitl [Hacc]
  · iapply (acc_congr c ?_) $$ Hacc
    intro j
    fin_cases j <;> rfl
  isplitl [Hgu0 Hgu1 Hgu2 Hgu3 Hgu4 Hgu5 Hgu6]
  · isplitl [Hgu0]; · iexact Hgu0
    isplitl [Hgu1]; · iexact Hgu1
    isplitl [Hgu2]; · iexact Hgu2
    isplitl [Hgu3]; · iexact Hgu3
    isplitl [Hgu4]; · iexact Hgu4
    isplitl [Hgu5]; · iexact Hgu5
    iexact Hgu6
  isplitl [Hdn0 Hdn1 Hdn2 Hdn3 Hdn4 Hdn5 Hndn6]
  · isplitl [Hdn0]; · iexact Hdn0
    isplitl [Hdn1]; · iexact Hdn1
    isplitl [Hdn2]; · iexact Hdn2
    isplitl [Hdn3]; · iexact Hdn3
    isplitl [Hdn4]; · iexact Hdn4
    isplitl [Hdn5]; · iexact Hdn5
    iexact Hndn6
  iexact Hw
end Trip
end

end Cert.KernelIdeal.Hand
-- ==== Proof.KernelIdeal.Shared.lean ====
/-
  Hand-written. The shared expert's weights: the copies the prologue issues. A chunk of the gate and up weights arrives as
  TWO copies on one cell, the gate's 768 columns and the up's 768 columns; the core waits once for both.
-/
module

public import proofs.«01_k».proof.Proof.KernelIdeal.Chunks
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

open Idealize.ShloMosaic.ValueIdx (ix2 ix3)

/-- The place in the shared expert's gate-and-up array of element `x` of chunk `j` of its half `s`: the gate's columns
    first, then the up's. -/
def shGuIx (s : Fin 2) (j : Fin 7) (x : S1x1024x1536.Idx) : S7168x3072.Idx :=
  ix2 ⟨1024 * j.val + (x 1).val, by have h : (x 1).val < 1024 := (x 1).isLt; have := j.isLt; omega⟩
    ⟨if (x 2).val < 768 then 768 * s.val + (x 2).val else 1536 + 768 * s.val + ((x 2).val - 768), by
      have h : (x 2).val < 1536 := (x 2).isLt; have := s.isLt; split <;> omega⟩
def shDnIx (s : Fin 2) (j : Fin 7) (x : S1x768x1024.Idx) : S1536x7168.Idx :=
  ix2 ⟨768 * s.val + (x 1).val, by have h : (x 1).val < 768 := (x 1).isLt; have := s.isLt; omega⟩
    ⟨1024 * j.val + (x 2).val, by have h : (x 2).val < 1024 := (x 2).isLt; have := j.isLt; omega⟩

def shGu (c : Dev nD) (f : Cts (F := F) c A8) (s : Fin 2) (j : Fin 7) : Vec F S1x1024x1536 .fp8e4m3 := fun x => f (shGuIx s j x)
def shDn (c : Dev nD) (f : Cts (F := F) c A10) (s : Fin 2) (j : Fin 7) : Vec F S1x768x1024 .fp8e4m3 := fun x => f (shDnIx s j x)

/-! ## The two halves of a chunk -/

abbrev hOff (s : Fin 2) (j : Fin 7) (h : Fin 2) : Fin 3 → ℕ := ![s.val, 1024 * j.val, 768 * h.val]
theorem hInb (s : Fin 2) (j : Fin 7) (h : Fin 2) : ∀ a, hOff s j h a + S1x1024x768.size a ≤ S2x7168x1536.size a := by revert s j h; decide
abbrev hsOff (s : Fin 2) (j : Fin 7) (h : Fin 2) : Fin 2 → ℕ := ![1024 * j.val, 1536 * h.val + 768 * s.val]
theorem hsInb (s : Fin 2) (j : Fin 7) (h : Fin 2) : ∀ a, hsOff s j h a + S1024x768.size a ≤ S7168x3072.size a := by revert s j h; decide
abbrev dsOff (s : Fin 2) (j : Fin 7) : Fin 2 → ℕ := ![768 * s.val, 1024 * j.val]
theorem dsInb (s : Fin 2) (j : Fin 7) : ∀ a, dsOff s j a + S768x1024.size a ≤ S1536x7168.size a := by revert s j; decide

abbrev hDst (oD : Fin 3 → ℕ) (inbD : ∀ a, oD a + S1x1024x768.size a ≤ S2x7168x1536.size a) : Memref sig .tc .vmem S1024x768 .fp8e4m3 :=
  (B30.slice (Rect.unit (s := S2x7168x1536) oD S1x1024x768.size inbD) (fun _ => rfl)).squeeze S1024x768 squeezes_S1x1024x768_S1024x768
abbrev hSrc (oS : Fin 2 → ℕ) (inbS : ∀ a, oS a + S1024x768.size a ≤ S7168x3072.size a) : Memref sig .tc .hbm S1024x768 .fp8e4m3 :=
  A8.slice (Rect.unit (s := S7168x3072) oS S1024x768.size inbS) (fun _ => rfl)
abbrev dSrc (oS : Fin 2 → ℕ) (inbS : ∀ a, oS a + S768x1024.size a ≤ S1536x7168.size a) : Memref sig .tc .hbm S768x1024 .fp8e4m3 :=
  A10.slice (Rect.unit (s := S1536x7168) oS S768x1024.size inbS) (fun _ => rfl)

def hSet (s : Fin 2) (j : Fin 7) (h : Fin 2) : Finset (Shape.Idx S2x7168x1536) :=
  (Rect.unit (s := S2x7168x1536) (hOff s j h) S1x1024x768.size (hInb s j h)).set

theorem hDst_set (s : Fin 2) (j : Fin 7) (h : Fin 2) : (hDst (hOff s j h) (hInb s j h)).view.set = hSet s j h := by
  unfold hDst hSet
  rw [Memref.set_view_squeeze]
  show (B30.view.slice _).set = _
  rw [View.set_slice]
  show Finset.map (Function.Embedding.refl _) _ = _
  rw [Finset.map_refl]

theorem hSet_disjoint (s : Fin 2) (j : Fin 7) : Disjoint (hSet s j 0) (hSet s j 1) :=
  Rect.unit_disjoint (a := (2 : Fin 3)) (Or.inl (by show 768 * 0 + 768 ≤ 768 * 1; omega))

theorem hSet_union (s : Fin 2) (j : Fin 7) : hSet s j 0 ∪ hSet s j 1 = guSet s j := by
  ext x
  unfold hSet guSet guRect
  rw [Finset.mem_union, Rect.mem_set_unit, Rect.mem_set_unit, Rect.mem_set_unit]
  have hx : (x 2).val < 1536 := (x 2).isLt
  constructor
  · rintro (h | h)
    · intro a
      match a with
      | ⟨0, _⟩ => exact h 0
      | ⟨1, _⟩ => exact h 1
      | ⟨2, _⟩ => exact ⟨Nat.zero_le _, by show (x 2).val < 0 + 1536; omega⟩
    · intro a
      match a with
      | ⟨0, _⟩ => exact h 0
      | ⟨1, _⟩ => exact h 1
      | ⟨2, _⟩ => exact ⟨Nat.zero_le _, by show (x 2).val < 0 + 1536; omega⟩
  · intro h
    by_cases hc : (x 2).val < 768
    · refine Or.inl fun a => ?_
      match a with
      | ⟨0, _⟩ => exact h 0
      | ⟨1, _⟩ => exact h 1
      | ⟨2, _⟩ => exact ⟨Nat.zero_le _, by show (x 2).val < 768 * 0 + 768; omega⟩
    · refine Or.inr fun a => ?_
      match a with
      | ⟨0, _⟩ => exact h 0
      | ⟨1, _⟩ => exact h 1
      | ⟨2, _⟩ => exact ⟨by show 768 * 1 ≤ (x 2).val; omega, by show (x 2).val < 768 * 1 + 768; omega⟩

/-- Where element `(a, b)` of half `h` lies in the buffer. -/
theorem hDst_emb (s : Fin 2) (j : Fin 7) (h : Fin 2) (y : S1024x768.Idx) :
    (hDst (hOff s j h) (hInb s j h)).view.emb y = (Rect.unit (s := S2x7168x1536) (hOff s j h) S1x1024x768.size (hInb s j h)).emb (Fin.cons ⟨0, Nat.one_pos⟩ y) := by
  show (Rect.unit (s := S2x7168x1536) (hOff s j h) S1x1024x768.size (hInb s j h)).emb (Shape.reshapeEquiv _ y) = _
  exact congrArg _ (Shape.reshapeEquiv_cons_one (d := S1024x768.size) _ y)

/-- What half `h`'s copy leaves at the buffer's elements. -/
def hWrote (c : Dev nD) (f : Cts (F := F) c B30) (f8 : Cts (F := F) c A8) (s : Fin 2) (j : Fin 7) (h : Fin 2) : Cts (F := F) c B30 :=
  (hDst (hOff s j h) (hInb s j h)).view.write (Elt F) f (ReadAs.same.apply ((hSrc (hsOff s j h) (hsInb s j h)).view.read (Elt F) f8)) Finset.univ

theorem hWrote_at (c : Dev nD) (f : Cts (F := F) c B30) (f8 : Cts (F := F) c A8) (s : Fin 2) (j : Fin 7) (h : Fin 2) (y : S1024x768.Idx) :
    hWrote c f f8 s j h ((hDst (hOff s j h) (hInb s j h)).view.emb y) = f8 ((Rect.unit (s := S7168x3072) (hsOff s j h) S1024x768.size (hsInb s j h)).emb y) := by
  unfold hWrote
  rw [View.write_emb_of_mem _ _ (Finset.mem_univ y)]
  rfl

theorem shGu_joined (c : Dev nD) (f : Cts (F := F) c B30) (f8 : Cts (F := F) c A8) (s : Fin 2) (j : Fin 7) :
    B30.view.readAt (Elt F) (guRect s j).toLoadRect ((hSet s j 1).piecewise (hWrote c f f8 s j 1) (hWrote c f f8 s j 0)) = shGu c f8 s j := by
  funext x
  show (hSet s j 1).piecewise (hWrote c f f8 s j 1) (hWrote c f f8 s j 0) ((guRect s j).emb x) = f8 (shGuIx s j x)
  have h0 : (x 0).val < 1 := (x 0).isLt
  have h1 : (x 1).val < 1024 := (x 1).isLt
  have h2 : (x 2).val < 1536 := (x 2).isLt
  by_cases hc : (x 2).val < 768
  · have e : (guRect s j).emb x = (hDst (hOff s j 0) (hInb s j 0)).view.emb (ix2 ⟨(x 1).val, h1⟩ ⟨(x 2).val, hc⟩) := by
      rw [hDst_emb]
      funext a
      apply Fin.ext
      match a with
      | ⟨0, _⟩ => show s.val + 1 * (x 0).val = s.val + 1 * 0; omega
      | ⟨1, _⟩ => rfl
      | ⟨2, _⟩ => rfl
    have hm : (guRect s j).emb x ∈ hSet s j 0 := by rw [e, ← hDst_set]; exact Finset.mem_map_of_mem _ (Finset.mem_univ _)
    rw [Finset.piecewise_eq_of_notMem _ _ _ (Finset.disjoint_left.mp (hSet_disjoint s j) hm), e, hWrote_at]
    congr 1
    funext a
    apply Fin.ext
    match a with
    | ⟨0, _⟩ => show 1024 * j.val + 1 * (x 1).val = 1024 * j.val + (x 1).val; omega
    | ⟨1, _⟩ => show 1536 * 0 + 768 * s.val + 1 * (x 2).val = if (x 2).val < 768 then 768 * s.val + (x 2).val else 1536 + 768 * s.val + ((x 2).val - 768); rw [if_pos hc]; omega
  · have e : (guRect s j).emb x = (hDst (hOff s j 1) (hInb s j 1)).view.emb (ix2 ⟨(x 1).val, h1⟩ ⟨(x 2).val - 768, by omega⟩) := by
      rw [hDst_emb]
      funext a
      apply Fin.ext
      match a with
      | ⟨0, _⟩ => show s.val + 1 * (x 0).val = s.val + 1 * 0; omega
      | ⟨1, _⟩ => rfl
      | ⟨2, _⟩ => show 0 + 1 * (x 2).val = 768 * 1 + 1 * ((x 2).val - 768); omega
    have hm : (guRect s j).emb x ∈ hSet s j 1 := by rw [e, ← hDst_set]; exact Finset.mem_map_of_mem _ (Finset.mem_univ _)
    rw [Finset.piecewise_eq_of_mem _ _ _ hm, e, hWrote_at]
    congr 1
    funext a
    apply Fin.ext
    match a with
    | ⟨0, _⟩ => show 1024 * j.val + 1 * (x 1).val = 1024 * j.val + (x 1).val; omega
    | ⟨1, _⟩ => show 1536 * 1 + 768 * s.val + 1 * ((x 2).val - 768) = if (x 2).val < 768 then 768 * s.val + (x 2).val else 1536 + 768 * s.val + ((x 2).val - 768); rw [if_neg hc]; omega

/-- What half `h`'s copy delivers. -/
def hD (c : Dev nD) (f : Cts (F := F) c B30) (f8 : Cts (F := F) c A8) (s : Fin 2) (j : Fin 7) (q : Fin 2 → PosShare TreeShare) (h : Fin 2) : sProp 𝕄 :=
  iprop((B30.view.loc (c : Thread nD τ) ↦[hSet s j h]{fullShare} hWrote c f f8 s j h)
    ∗ (A8.view.loc (c : Thread nD τ) ↦[(hSrc (hsOff s j h) (hsInb s j h)).view.set]{q h} f8))

instance (c : Dev nD) (f : Cts (F := F) c B30) (f8 : Cts (F := F) c A8) (s : Fin 2) (j : Fin 7) (q : Fin 2 → PosShare TreeShare) (h : Fin 2) :
    Storable (upEmb : UEmb _ 𝕄) (hD c f f8 s j q h) := by unfold hD; infer_instance

def hQ (s : Fin 2) (j : Fin 7) : Fin 2 → PosShare TreeShare := ![tk s j, tk2 s j]
def hN : ℕ := (hDst (hOff 0 0 0) (hInb 0 0 0)).view.dmaCredit
theorem hN_pos : 0 < hN := by unfold hN; decide
def hA (_ : Fin 2) : ℕ := hN
theorem hA_pos (t : Fin 2) : 0 < hA t := by unfold hA; exact hN_pos
theorem hA_sum : sumTo hA 2 = guN := by
  have h : sumTo hA 2 = hN + hN := by simp [sumTo, hA]
  rw [h]
  decide
theorem hA_amount (s : Fin 2) (j : Fin 7) (h : Fin 2) (g : DmaSem sig) (t : Fin 2) :
    (hDst (hOff s j h) (hInb s j h)).view.amount (SemLoc.dma g) = hA t := rfl

theorem hD_intro0 (c : Dev nD) (f : Cts (F := F) c B30) (f8 : Cts (F := F) c A8) (s : Fin 2) (j : Fin 7) (h0 : 0 < 2) :
    iprop(((hDst (hOff s j 0) (hInb s j 0)).view.loc (c : Thread nD τ) ↦[hSet s j 0]{fullShare}
        ((hDst (hOff s j 0) (hInb s j 0)).view.write (Elt F) f (ReadAs.same.apply ((hSrc (hsOff s j 0) (hsInb s j 0)).view.read (Elt F) f8)) Finset.univ))
      ∗ ((hSrc (hsOff s j 0) (hsInb s j 0)).view.loc (c : Thread nD τ) ↦[(hSrc (hsOff s j 0) (hsInb s j 0)).view.set]{tk s j} f8))
      ⊢ (hD c f f8 s j (hQ s j) ⟨0, h0⟩ : sProp 𝕄) := Entails.rfl

theorem hD_intro1 (c : Dev nD) (f : Cts (F := F) c B30) (f8 : Cts (F := F) c A8) (s : Fin 2) (j : Fin 7) (h0 : 1 < 2) :
    iprop(((hDst (hOff s j 1) (hInb s j 1)).view.loc (c : Thread nD τ) ↦[hSet s j 1]{fullShare}
        ((hDst (hOff s j 1) (hInb s j 1)).view.write (Elt F) f (ReadAs.same.apply ((hSrc (hsOff s j 1) (hsInb s j 1)).view.read (Elt F) f8)) Finset.univ))
      ∗ ((hSrc (hsOff s j 1) (hsInb s j 1)).view.loc (c : Thread nD τ) ↦[(hSrc (hsOff s j 1) (hsInb s j 1)).view.set]{tk2 s j} f8))
      ⊢ (hD c f f8 s j (hQ s j) ⟨1, h0⟩ : sProp 𝕄) := Entails.rfl

/-- The first half's copy is issued, the second's not yet. -/
def GuHalf (c : Dev nD) (f3 : Cts (F := F) c A3) (f8 : Cts (F := F) c A8) (s : Fin 2) (j : Fin 7) : sProp 𝕄 :=
  iprop(∃ f : Cts (F := F) c B30, MixedBatch EC (c : Thread nD τ) (SemLoc.dma (guCell s j)) () hA (hD c f f8 s j (hQ s j)) 1 0
    ∗ (B30.view.loc (c : Thread nD τ) ↦[hSet s j 1]{fullShare} f)
    ∗ pt c A3 (tk s j) f3 ∗ (A8.view.loc (c : Thread nD τ) ↦[Finset.univ \ (hSrc (hsOff s j 0) (hsInb s j 0)).view.set]{tk s j} f8) ∗ pt c A8 (tk2 s j) f8)

section Rules

variable (c : Dev nD) {α : Type} {Q : α → sProp (MT nD τ sig Unit (Elt F) ℕ (Pipeline.UD sig nD τ) ℕ)}

/-- Issue the first half. -/
theorem wp_shGu0 {f3 : Cts (F := F) c A3} {f8 : Cts (F := F) c A8} {s : Fin 2} {j : Fin 7}
    {oC : Fin 2 → ℕ} (hC : oC = cOff s j) (inbC : ∀ a, oC a + S1x1.size a ≤ S2x7.size a)
    {oD : Fin 3 → ℕ} (hoD : oD = hOff s j 0) (inbD : ∀ a, oD a + S1x1024x768.size a ≤ S2x7168x1536.size a)
    {oS : Fin 2 → ℕ} (hoS : oS = hsOff s j 0) (inbS : ∀ a, oS a + S1024x768.size a ≤ S7168x3072.size a)
    {hsrc : (hSrc oS inbS).view.WordExact} {hdst : (hDst oD inbD).view.WordExact}
    {hsem : DmaTarget.Typed (nD := nD) (p := (Proc.tc : Proc τ)) Space.hbm (SemLoc.dma (cCell cc0_scratch21 oC inbC)) (DmaTarget.here (hDst oD inbD))}
    {k : PUnit → Prog (TpuEff nD τ sig (Elt F) Λ₀ .tc) α} :
    GuIdle c f3 f8 s j
      ⊢ iprop((GuHalf c f3 f8 s j -∗ WP c (k ⟨⟩) Q)
        -∗ WP c (.op (.enqueueDma (hSrc oS inbS) (.here (hDst oD inbD)) (.dma (cCell cc0_scratch21 oC inbC)) hsrc hdst hsem) k) Q) := by
  subst hC hoD hoS
  unfold GuIdle GuHeld GuTok
  iintro ⟨⟨%V, %f, Hf, %hf⟩, ⟨H3, H8, H8'⟩, Hv⟩ Hk
  rw [← hSet_union]
  ihave Hf := (pointsTo_union (hSet_disjoint s j)).1 $$ Hf
  icases Hf with ⟨Hf0, Hf1⟩
  ihave H8 := (pointsTo_split_subset (Finset.subset_univ (hSrc (hsOff s j 0) inbS).view.set)).1 $$ H8
  icases H8 with ⟨H8, H8r⟩
  imod (mixedBatch_alloc' EC () hA (hD c f f8 s j (hQ s j)) (c := (c : Thread nD τ)) (sm := SemLoc.dma (guCell s j))) $$ Hv with HB
  iapply (wp_dmaMixedBatch EC Variants.none (c : Thread nD τ) none (hsrc := hsrc) (hdst := hdst) (hsem := hsem) (D := hD c f f8 s j (hQ s j)) (j := 0) (u := 0) () hA
    (Sd := hSet s j 0) (subset_of_eq (hDst_set s j 0)) (by decide) (hA_amount s j 0 _ _) (Nat.zero_le _) (fs := f8) (q := tk s j) (fd := f) (hD_intro0 c f f8 s j _)) $$ [H8 Hf0 HB]
  · isplitl [H8]; · iexact H8
    isplitl [Hf0]; · iexact Hf0
    iexact HB
  iintro HB
  iapply Hk
  unfold GuHalf
  iexists f
  isplitl [HB]; · iexact HB
  isplitl [Hf1]; · iexact Hf1
  isplitl [H3]; · iexact H3
  isplitl [H8r]; · iexact H8r
  iexact H8'

/-- Issue the second half: the chunk is in flight. -/
theorem wp_shGu1 {f3 : Cts (F := F) c A3} {f8 : Cts (F := F) c A8} {s : Fin 2} {j : Fin 7}
    {oC : Fin 2 → ℕ} (hC : oC = cOff s j) (inbC : ∀ a, oC a + S1x1.size a ≤ S2x7.size a)
    {oD : Fin 3 → ℕ} (hoD : oD = hOff s j 1) (inbD : ∀ a, oD a + S1x1024x768.size a ≤ S2x7168x1536.size a)
    {oS : Fin 2 → ℕ} (hoS : oS = hsOff s j 1) (inbS : ∀ a, oS a + S1024x768.size a ≤ S7168x3072.size a)
    {hsrc : (hSrc oS inbS).view.WordExact} {hdst : (hDst oD inbD).view.WordExact}
    {hsem : DmaTarget.Typed (nD := nD) (p := (Proc.tc : Proc τ)) Space.hbm (SemLoc.dma (cCell cc0_scratch21 oC inbC)) (DmaTarget.here (hDst oD inbD))}
    {k : PUnit → Prog (TpuEff nD τ sig (Elt F) Λ₀ .tc) α} :
    GuHalf c f3 f8 s j
      ⊢ iprop((GuFly c f3 f8 s j (shGu c f8 s j) -∗ WP c (k ⟨⟩) Q)
        -∗ WP c (.op (.enqueueDma (hSrc oS inbS) (.here (hDst oD inbD)) (.dma (cCell cc0_scratch21 oC inbC)) hsrc hdst hsem) k) Q) := by
  subst hC hoD hoS
  unfold GuHalf
  iintro ⟨%f, HB, Hf1, H3, H8r, H8'⟩ Hk
  ihave H8' := (pointsTo_split_subset (Finset.subset_univ (hSrc (hsOff s j 1) inbS).view.set)).1 $$ H8'
  icases H8' with ⟨H8', H8s⟩
  iapply (wp_dmaMixedBatch EC Variants.none (c : Thread nD τ) none (hsrc := hsrc) (hdst := hdst) (hsem := hsem) (D := hD c f f8 s j (hQ s j)) (j := 1) (u := 0) () hA
    (Sd := hSet s j 1) (subset_of_eq (hDst_set s j 1)) (by decide) (hA_amount s j 1 _ _) (Nat.zero_le _) (fs := f8) (q := tk2 s j) (fd := f) (hD_intro1 c f f8 s j _)) $$ [H8' Hf1 HB]
  · isplitl [H8']; · iexact H8'
    isplitl [Hf1]; · iexact Hf1
    iexact HB
  iintro HB
  iapply Hk
  ihave HF := (batch_flight EC (c : Thread nD τ) (N := guN) hA_pos hA_sum) $$ HB
  ihave HF := (flight_frame EC (c : Thread nD τ) (R := iprop(pt c A3 (tk s j) f3
      ∗ (A8.view.loc (c : Thread nD τ) ↦[Finset.univ \ (hSrc (hsOff s j 0) (hsInb s j 0)).view.set]{tk s j} f8)
      ∗ (A8.view.loc (c : Thread nD τ) ↦[Finset.univ \ (hSrc (hsOff s j 1) inbS).view.set]{tk2 s j} f8)))) $$ [HF H3 H8r H8s]
  · isplitl [HF]; · iexact HF
    isplitl [H3]; · iexact H3
    isplitl [H8r]; · iexact H8r
    iexact H8s
  unfold GuFly
  iapply (Flight_mono EC ?_) $$ HF
  rw [bigSep_univ_two]
  unfold hD GuHeld GuTok
  iintro ⟨⟨⟨Hd0, Hs0⟩, ⟨Hd1, Hs1⟩⟩, H3, H8r, H8s⟩
  isplitl [Hd0 Hd1]
  · iexists _
    isplitl [Hd0 Hd1]
    · rw [← hSet_union]
      iapply (pointsTo_join (hSet_disjoint s j))
      isplitl [Hd0]; · iexact Hd0
      iexact Hd1
    ipureintro
    exact shGu_joined c f f8 s j
  isplitl [H3]; · iexact H3
  isplitl [Hs0 H8r]
  · iapply (pointsTo_split_subset (Finset.subset_univ (hSrc (hsOff s j 0) (hsInb s j 0)).view.set)).2
    isplitl [Hs0]; · iexact Hs0
    iexact H8r
  · iapply (pointsTo_split_subset (Finset.subset_univ (hSrc (hsOff s j 1) inbS).view.set)).2
    isplitl [Hs1]; · iexact Hs1
    iexact H8s

/-- What the copy of a chunk of the shared expert's down weights leaves. -/
theorem shDn_read (c : Dev nD) (f : Cts (F := F) c B31) (f10 : Cts (F := F) c A10) (s : Fin 2) (j : Fin 7) :
    B31.view.readAt (Elt F) (dnRect s j).toLoadRect
      ((dnDst (dnOff s j) (dnInb s j)).view.write (Elt F) f (ReadAs.same.apply ((dSrc (dsOff s j) (dsInb s j)).view.read (Elt F) f10)) Finset.univ) = shDn c f10 s j := by
  funext x
  have h0 : (x 0).val < 1 := (x 0).isLt
  have h1 : (x 1).val < 768 := (x 1).isLt
  have h2 : (x 2).val < 1024 := (x 2).isLt
  have e : (dnRect s j).emb x = (dnDst (dnOff s j) (dnInb s j)).view.emb (ix2 ⟨(x 1).val, h1⟩ ⟨(x 2).val, h2⟩) := by
    have e1 : (dnDst (dnOff s j) (dnInb s j)).view.emb (ix2 ⟨(x 1).val, h1⟩ ⟨(x 2).val, h2⟩)
        = (dnRect s j).emb (Fin.cons ⟨0, Nat.one_pos⟩ (ix2 ⟨(x 1).val, h1⟩ ⟨(x 2).val, h2⟩)) :=
      congrArg (dnRect s j).emb (Shape.reshapeEquiv_cons_one (d := S768x1024.size) _ _)
    rw [e1]
    congr 1
    funext a
    apply Fin.ext
    match a with
    | ⟨0, _⟩ => show (x 0).val = 0; omega
    | ⟨1, _⟩ => rfl
    | ⟨2, _⟩ => rfl
  show (dnDst (dnOff s j) (dnInb s j)).view.write (Elt F) f _ Finset.univ ((dnRect s j).emb x) = _
  rw [e, View.write_emb_of_mem _ _ (Finset.mem_univ _)]
  show f10 ((Rect.unit (s := S1536x7168) (dsOff s j) S768x1024.size (dsInb s j)).emb _) = f10 (shDnIx s j x)
  congr 1
  funext a
  apply Fin.ext
  match a with
  | ⟨0, _⟩ => show 768 * s.val + 1 * (x 1).val = 768 * s.val + (x 1).val; omega
  | ⟨1, _⟩ => show 1024 * j.val + 1 * (x 2).val = 1024 * j.val + (x 2).val; omega

/-- Issue the copy of a chunk of the shared expert's down weights. -/
theorem wp_shDn {f5 : Cts (F := F) c A5} {f10 : Cts (F := F) c A10} {s : Fin 2} {j : Fin 7}
    {oC : Fin 2 → ℕ} (hC : oC = cOff s j) (inbC : ∀ a, oC a + S1x1.size a ≤ S2x7.size a)
    {oD : Fin 3 → ℕ} (hoD : oD = dnOff s j) (inbD : ∀ a, oD a + S1x768x1024.size a ≤ S2x768x7168.size a)
    {oS : Fin 2 → ℕ} (hoS : oS = dsOff s j) (inbS : ∀ a, oS a + S768x1024.size a ≤ S1536x7168.size a)
    {hsrc : (dSrc oS inbS).view.WordExact} {hdst : (dnDst oD inbD).view.WordExact}
    {hsem : DmaTarget.Typed (nD := nD) (p := (Proc.tc : Proc τ)) Space.hbm (SemLoc.dma (cCell cc0_scratch22 oC inbC)) (DmaTarget.here (dnDst oD inbD))}
    {k : PUnit → Prog (TpuEff nD τ sig (Elt F) Λ₀ .tc) α} :
    DnIdle c f5 f10 s j
      ⊢ iprop((DnFly c f5 f10 s j (shDn c f10 s j) -∗ WP c (k ⟨⟩) Q)
        -∗ WP c (.op (.enqueueDma (dSrc oS inbS) (.here (dnDst oD inbD)) (.dma (cCell cc0_scratch22 oC inbC)) hsrc hdst hsem) k) Q) := by
  subst hC hoD hoS
  unfold DnIdle DnHeld DnTok
  iintro ⟨⟨%V, %f, Hf, %hf⟩, ⟨H5, H10⟩, Hv⟩ Hk
  ihave H10 := (pointsTo_split_subset (Finset.subset_univ (dSrc (dsOff s j) inbS).view.set)).1 $$ H10
  icases H10 with ⟨H10, H10r⟩
  iapply (wp_dmaLocal EC Variants.none (c : Thread nD τ) none (hsrc := hsrc) (hdst := hdst) (hsem := hsem) () dnN rfl (by decide)
    (Sd := dnSet s j) (subset_of_eq (dnDst_set s j))) $$ [H10 Hf Hv]
  · isplitl [H10]; · iexact H10
    isplitl [Hf]; · iexact Hf
    iexact Hv
  iintro HF
  iapply Hk
  unfold DnFly
  ihave HF := (flight_frame EC (c : Thread nD τ) (R := iprop((A10.view.loc (c : Thread nD τ) ↦[Finset.univ \ (dSrc (dsOff s j) inbS).view.set]{tk s j} f10) ∗ pt c A5 (tk s j) f5))) $$ [HF H10r H5]
  · isplitl [HF]; · iexact HF
    isplitl [H10r]; · iexact H10r
    iexact H5
  iapply (Flight_mono EC ?_) $$ HF
  unfold DnHeld DnTok
  iintro ⟨⟨Hd, H10⟩, H10r, H5⟩
  isplitl [Hd]
  · iexists _
    isplitl [Hd]; · iexact Hd
    ipureintro
    exact shDn_read c f f10 s j
  isplitl [H5]; · iexact H5
  iapply (pointsTo_split_subset (Finset.subset_univ (dSrc (dsOff s j) inbS).view.set)).2
  isplitl [H10]; · iexact H10
  iexact H10r

end Rules

end Cert.KernelIdeal.Hand

end
-- ==== Proof.KernelIdeal.Small.lean ====
/-
  Hand-written. The copies of the small operands: their memrefs, the rule that issues one and the rule that waits for one.
-/
module

public import proofs.«01_k».proof.Proof.KernelIdeal.Trip
public import proofs.«01_k».proof.Proof.KernelIdeal.Shared

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

section
abbrev A0 : Memref sig .tc .hbm S33x7168 .bf16 := Memref.whole main_v0
abbrev A1 : Memref sig .tc .hbm S8x33 .i32 := Memref.whole main_v2
abbrev A2 : Memref sig .tc .hbm S8x33 .f32 := Memref.whole main_v4
abbrev A4 : Memref sig .tc .hbm S32x1536 .f32 := Memref.whole main_arg4
abbrev A6 : Memref sig .tc .hbm S32x7168 .f32 := Memref.whole main_arg6
abbrev A7 : Memref sig .tc .hbm S1x7168 .f32 := Memref.whole main_v5
abbrev A9 : Memref sig .tc .hbm S1x3072 .f32 := Memref.whole main_v6
abbrev A11 : Memref sig .tc .hbm S1x7168 .f32 := Memref.whole main_v7
abbrev B13 : Memref sig .tc .vmem S33x7168 .bf16 := Memref.whole cc0_scratch0
abbrev B14 : Memref sig .tc .vmem S8x33 .i32 := Memref.whole cc0_scratch1
abbrev B15 : Memref sig .tc .vmem S8x33 .f32 := Memref.whole cc0_scratch2
abbrev B20 : Memref sig .tc .vmem S1x7168 .f32 := Memref.whole cc0_scratch7
abbrev B23 : Memref sig .tc .smem S8x33 .i32 := Memref.whole cc0_scratch10
abbrev B24 : Memref sig .tc .smem S32 .i32 := Memref.whole cc0_scratch11

/-- The contents of the kernel's operands in HBM. -/
structure Ops (F : FTy → Type) [FloatOps F] [Named F] (c : Dev nD) where
  f0 : Cts (F := F) c A0
  f1 : Cts (F := F) c A1
  f2 : Cts (F := F) c A2
  f3 : Cts (F := F) c A3
  f4 : Cts (F := F) c A4
  f5 : Cts (F := F) c A5
  f6 : Cts (F := F) c A6
  f7 : Cts (F := F) c A7
  f8 : Cts (F := F) c A8
  f9 : Cts (F := F) c A9
  f10 : Cts (F := F) c A10
  f11 : Cts (F := F) c A11

/-- The cell of a small copy. -/
abbrev sCell (i : ℕ) (inb : ∀ a, (![i] : Fin 1 → ℕ) a + S1.size a ≤ S8.size a) : DmaSem sig :=
  ((cc0_scratch19.slice (Rect.unit (s := S8) ![i] S1.size inb)).squeeze S_ squeezes_S1_S_).sem

variable (c : Dev nD)

/-- A whole operand in flight to a buffer. -/
def SmFly (g : DmaSem sig) {sp : CoreSpace} {S : Shape} {e : EltTy} (src : Memref sig .tc .hbm S e) (dst : Memref sig .tc sp S e)
    (q : PosShare TreeShare) (fs : Cts (F := F) c src) (fd : Cts (F := F) c dst) : sProp 𝕄 :=
  Flight EC (c : Thread nD τ) (SemLoc.dma g) () dst.view.dmaCredit iprop(pt c dst fullShare fd ∗ pt c src q fs)

theorem wp_small {α : Type} {Q : α → sProp (MT nD τ sig Unit (Elt F) ℕ (Pipeline.UD sig nD τ) ℕ)}
    {g : DmaSem sig} {sp : CoreSpace} {S : Shape} {e : EltTy} {src : Memref sig .tc .hbm S e} {dst : Memref sig .tc sp S e}
    {q : PosShare TreeShare} {fs : Cts (F := F) c src} {fd fd' : Cts (F := F) c dst}
    (hs : src.view.set = Finset.univ) (hd : dst.view.set = Finset.univ) (hN0 : 0 < dst.view.dmaCredit)
    (hg : dst.view.write (Elt F) fd' (src.view.read (Elt F) fs) Finset.univ = fd)
    {hsrc : src.view.WordExact} {hdst : dst.view.WordExact} {hsem : DmaTarget.Typed (nD := nD) (p := (Proc.tc : Proc τ)) Space.hbm (SemLoc.dma g) (DmaTarget.here dst)}
    {k : PUnit → Prog (TpuEff nD τ sig (Elt F) Λ₀ .tc) α} :
    iprop(pt c src q fs ∗ pt c dst fullShare fd' ∗ semVal ((c : Thread nD τ), SemLoc.dma g) 0)
      ⊢ iprop((SmFly c g src dst q fs fd -∗ WP c (k ⟨⟩) Q)
        -∗ WP c (.op (.enqueueDma src (.here dst) (.dma g) hsrc hdst hsem) k) Q) := by
  iintro ⟨Hs, Hd, Hv⟩ Hk
  iapply (wp_dmaLocal EC Variants.none (c : Thread nD τ) none (src := src) (dst := dst) (hsrc := hsrc) (hdst := hdst) (hsem := hsem) () dst.view.dmaCredit rfl hN0
    (Sd := Finset.univ) (fs := fs) (q := q) (fd := fd') (Finset.subset_univ _)) $$ [Hs Hd Hv]
  · rw [hs]
    isplitl [Hs]; · iexact Hs
    isplitl [Hd] <;> iassumption
  iintro HF
  iapply Hk
  unfold SmFly
  have hm : iprop((dst.view.loc (c : Thread nD τ) ↦{fullShare} dst.view.write (Elt F) fd' (ReadAs.same.apply (src.view.read (Elt F) fs)) Finset.univ)
      ∗ (src.view.loc (c : Thread nD τ) ↦[src.view.set]{q} fs)) ⊢ (iprop(pt c dst fullShare fd ∗ pt c src q fs) : sProp 𝕄) := by
    rw [hs]
    exact BI.Laws.sep_mono (pt_congr c hg) .rfl
  iapply (Flight_mono EC (c : Thread nD τ) hm) $$ HF

theorem wp_smWait {α : Type} {Q : α → sProp (MT nD τ sig Unit (Elt F) ℕ (Pipeline.UD sig nD τ) ℕ)}
    {g : DmaSem sig} {sp : CoreSpace} {S : Shape} {e : EltTy} {src : Memref sig .tc .hbm S e} {dst : Memref sig .tc sp S e}
    {q : PosShare TreeShare} {fs : Cts (F := F) c src} {fd : Cts (F := F) c dst} {hsrc : src.view.WordExact} {hdst : dst.view.WordExact}
    {k : PUnit → Prog (TpuEff nD τ sig (Elt F) Λ₀ .tc) α} :
    iprop(SmFly c g src dst q fs fd ∗ Ow (F := F) c)
      ⊢ iprop((iprop(pt c dst fullShare fd ∗ pt c src q fs ∗ semVal ((c : Thread nD τ), SemLoc.dma g) 0 ∗ Ow (F := F) c) -∗ WP c (k ⟨⟩) Q)
        -∗ WP c (.op (.waitDma2 g src dst hsrc hdst) k) Q) := by
  unfold SmFly
  iintro ⟨HF, %W, HO⟩ Hk
  iapply (wp_waitLocal EC Variants.none (c : Thread nD τ) none (hsrc := hsrc) (hdst := hdst) () (N := dst.view.dmaCredit) rfl) $$ [HF HO]
  · isplitl [HF]; · iexact HF
    iexact HO
  iintro ⟨⟨Hh, Ht⟩, Hv, HO⟩
  iapply Hk
  isplitl [Hh]; · iexact Hh
  isplitl [Ht]; · iexact Ht
  isplitl [Hv]; · iexact Hv
  iexists _; iexact HO

variable (Y : Ops F c)

/-- Operand 1 in flight to its buffer. -/
abbrev Sm23 (q : PosShare TreeShare) : sProp 𝕄 := SmFly c cc0_scratch20.sem A1 B23 q Y.f1 Y.f1
theorem got23 (f : Cts (F := F) c B23) : B23.view.write (Elt F) f (A1.view.read (Elt F) Y.f1) Finset.univ = Y.f1 := View.read_write_univ (v := B23.view) f (A1.view.read (Elt F) Y.f1)
/-- Operand 0 in flight to its buffer. -/
abbrev Sm13 (q : PosShare TreeShare) : sProp 𝕄 := SmFly c (sCell 0 inb_S8_S1_0) A0 B13 q Y.f0 Y.f0
theorem got13 (f : Cts (F := F) c B13) : B13.view.write (Elt F) f (A0.view.read (Elt F) Y.f0) Finset.univ = Y.f0 := View.read_write_univ (v := B13.view) f (A0.view.read (Elt F) Y.f0)
/-- Operand 7 in flight to its buffer. -/
abbrev Sm20 (q : PosShare TreeShare) : sProp 𝕄 := SmFly c (sCell 1 inb_S8_S1_1) A7 B20 q Y.f7 Y.f7
theorem got20 (f : Cts (F := F) c B20) : B20.view.write (Elt F) f (A7.view.read (Elt F) Y.f7) Finset.univ = Y.f7 := View.read_write_univ (v := B20.view) f (A7.view.read (Elt F) Y.f7)
/-- Operand 1 in flight to its buffer. -/
abbrev Sm14 (q : PosShare TreeShare) : sProp 𝕄 := SmFly c (sCell 2 inb_S8_S1_2) A1 B14 q Y.f1 Y.f1
theorem got14 (f : Cts (F := F) c B14) : B14.view.write (Elt F) f (A1.view.read (Elt F) Y.f1) Finset.univ = Y.f1 := View.read_write_univ (v := B14.view) f (A1.view.read (Elt F) Y.f1)
/-- Operand 2 in flight to its buffer. -/
abbrev Sm15 (q : PosShare TreeShare) : sProp 𝕄 := SmFly c (sCell 3 inb_S8_S1_3) A2 B15 q Y.f2 Y.f2
theorem got15 (f : Cts (F := F) c B15) : B15.view.write (Elt F) f (A2.view.read (Elt F) Y.f2) Finset.univ = Y.f2 := View.read_write_univ (v := B15.view) f (A2.view.read (Elt F) Y.f2)
/-- Operand 4 in flight to its buffer. -/
abbrev Sm18 (q : PosShare TreeShare) : sProp 𝕄 := SmFly c (sCell 4 inb_S8_S1_4) A4 B18 q Y.f4 Y.f4
theorem got18 (f : Cts (F := F) c B18) : B18.view.write (Elt F) f (A4.view.read (Elt F) Y.f4) Finset.univ = Y.f4 := View.read_write_univ (v := B18.view) f (A4.view.read (Elt F) Y.f4)
/-- Operand 6 in flight to its buffer. -/
abbrev Sm19 (q : PosShare TreeShare) : sProp 𝕄 := SmFly c (sCell 5 inb_S8_S1_5) A6 B19 q Y.f6 Y.f6
theorem got19 (f : Cts (F := F) c B19) : B19.view.write (Elt F) f (A6.view.read (Elt F) Y.f6) Finset.univ = Y.f6 := View.read_write_univ (v := B19.view) f (A6.view.read (Elt F) Y.f6)
/-- Operand 9 in flight to its buffer. -/
abbrev Sm21 (q : PosShare TreeShare) : sProp 𝕄 := SmFly c (sCell 6 inb_S8_S1_6) A9 B21 q Y.f9 Y.f9
theorem got21 (f : Cts (F := F) c B21) : B21.view.write (Elt F) f (A9.view.read (Elt F) Y.f9) Finset.univ = Y.f9 := View.read_write_univ (v := B21.view) f (A9.view.read (Elt F) Y.f9)
/-- Operand 11 in flight to its buffer. -/
abbrev Sm22 (q : PosShare TreeShare) : sProp 𝕄 := SmFly c (sCell 7 inb_S8_S1_7) A11 B22 q Y.f11 Y.f11
theorem got22 (f : Cts (F := F) c B22) : B22.view.write (Elt F) f (A11.view.read (Elt F) Y.f11) Finset.univ = Y.f11 := View.read_write_univ (v := B22.view) f (A11.view.read (Elt F) Y.f11)

/-- Some contents. -/
abbrev some' {sp : Space} {S : Shape} {e : EltTy} (M : Memref sig .tc sp S e) : sProp 𝕄 := iprop(∃ f : Cts (F := F) c M, pt c M fullShare f)

/-- The first `m` words of the flags are zero. -/
def Zeroed (m : ℕ) : sProp 𝕄 := iprop(∃ f : Cts (F := F) c B24, pt c B24 fullShare f ∗ ⌜∀ x : S32.Idx, (x 0).val < m → f x = 0#32⌝)

theorem st24_at (f : Vec F S32 .i32) (q : ℕ) (w : BitVec 32) (inb : ∀ a, (![q] : Fin 1 → ℕ) a + S1.size a ≤ S32.size a) (x : S32.Idx) :
    ((B24.access (Rect.unit (s := S32) ![q] S1.size inb)).write (Elt F) f (fun _ => w) Finset.univ : Vec F S32 .i32) x
      = if (x 0).val = q then w else f x := by
  by_cases h : (x 0).val = q
  · rw [if_pos h]
    have z : S1.Idx := Shape.Idx.first (numel1_S1.symm ▸ Nat.one_pos)
    have hz : (z 0).val = 0 := by have h1 : (z 0).val < 1 := (z 0).isLt; omega
    have hx : x = (B24.access (Rect.unit (s := S32) ![q] S1.size inb)).emb z := by
      funext a
      apply Fin.ext
      obtain rfl : a = (0 : Fin 1) := Subsingleton.elim (α := Fin 1) _ _
      show (x 0).val = q + 1 * (z 0).val
      omega
    rw [hx]
    exact View.write_emb_of_mem (v := B24.access (Rect.unit (s := S32) ![q] S1.size inb)) f (fun _ => w) (Finset.mem_univ z)
  · rw [if_neg h]
    refine View.write_of_not_mem (v := B24.access (Rect.unit (s := S32) ![q] S1.size inb)) f (fun _ => w) Finset.univ ?_
    intro hm
    obtain ⟨y, -, hy⟩ := Finset.mem_map.mp hm
    apply h
    rw [← hy]
    show q + 1 * (y 0).val = q
    have := (y 0).isLt
    have h1 : (y 0).val < 1 := this
    omega

/-- One word of the flags cleared, after the load the store carries. -/
theorem wp_zero {α : Type} {Q : α → sProp (MT nD τ sig Unit (Elt F) ℕ (Pipeline.UD sig nD τ) ℕ)} (q : ℕ)
    {inb inb' : ∀ a, (![q] : Fin 1 → ℕ) a + S1.size a ≤ S32.size a} {hl hx hm}
    {k : PUnit → Prog (TpuEff nD τ sig (Elt F) Λ₀ .tc) α} :
    Zeroed (F := F) c q
      ⊢ iprop((Zeroed (F := F) c (q + 1) -∗ WP c (k ⟨⟩) Q)
        -∗ WP c (.op (.load B24 (Rect.unit (s := S32) ![q] S1.size inb).toLoadRect hl) (fun _ =>
            .op (.store B24 (Rect.unit (s := S32) ![q] S1.size inb') (fun _ => 0#32) Finset.univ hx hm) k)) Q) := by
  unfold Zeroed
  iintro ⟨%f, Hf, %hf⟩ Hk
  iapply (wp_ld c (M := B24) rfl _ inb) $$ Hf
  iintro Hf
  iapply (wp_store Variants.none (c : Thread nD τ) none Set.univ (m := B24) (hx := hx) (hm := hm) (S := Finset.univ) (f := f) (Finset.subset_univ _)) $$ Hf
  iintro Hf
  iapply Hk
  iexists _
  isplitl [Hf]; · iexact Hf
  ipureintro
  intro x hxq
  rw [show _ = _ from st24_at f q 0#32 inb' x]
  split
  · rfl
  · exact hf x (by omega)
end

end Cert.KernelIdeal.Hand
-- ==== Proof.KernelIdeal.Offsets.lean ====
/-
  Hand-written. The offsets of the loop over the items, as the kernel computes them, and the checks it makes of them.
-/
module

public import proofs.«01_k».proof.Proof.KernelIdeal.Trip

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

theorem ib {r : ℕ} {off off' sz S : Fin r → ℕ} (h : off = off') (H : ∀ a, off' a + sz a ≤ S a) : ∀ a, off a + sz a ≤ S a := by rw [h]; exact H
theorem ww {s : Shape} {p : ℕ} {off off' sz : Fin s.rank → ℕ} (h : off = off') (H : ∀ hinb : ∀ a, off' a + sz a ≤ s.size a, (Rect.unit (s := s) off' sz hinb).WholeWords p) :
    ∀ hinb : ∀ a, off a + sz a ≤ s.size a, (Rect.unit (s := s) off sz hinb).WholeWords p := by subst h; exact H

theorem guWords (s : Fin 2) (j : Fin 7) : ∀ hinb, (Rect.unit (s := S2x7168x1536) (guOff s j) S1x1024x1536.size hinb).WholeWords (EltTy.packing .fp8e4m3) := by
  revert s j; decide
theorem dnWords (s : Fin 2) (j : Fin 7) : ∀ hinb, (Rect.unit (s := S2x768x7168) (dnOff s j) S1x768x1024.size hinb).WholeWords (EltTy.packing .fp8e4m3) := by
  revert s j; decide
theorem guSrcWords (e : Fin 32) (j : Fin 7) : ∀ hinb, (Rect.unit (s := S32x7168x1536) (guSrcOff e j) S1x1024x1536.size hinb).WholeWords (EltTy.packing .fp8e4m3) := by
  revert e j; decide
theorem dnSrcWords (e : Fin 32) (j : Fin 7) : ∀ hinb, (Rect.unit (s := S32x768x7168) (dnSrcOff e j) S1x768x1024.size hinb).WholeWords (EltTy.packing .fp8e4m3) := by
  revert e j; decide

/-- The count of active experts, as a word. -/
abbrev nw (n : Fin 33) : BitVec 32 := BitVec.ofNat 32 n.val
/-- The slot item `i` uses. -/
def slot (i : ℕ) : Fin 2 := ⟨i % 2, Nat.mod_lt _ (by decide)⟩
/-- The half of the shared expert's scales trip `i` reads. -/
def half (i : ℕ) : Fin 2 := ⟨min i 1, by omega⟩

theorem trips3 (n : Fin 33) : (k0_t3_loop (nw n)).trips = 2 + n.val := by revert n; decide
theorem trips4 (n : Fin 33) : (k0_t4_loop (nw n)).trips = 0 := by revert n; decide
theorem ok3 (n : Fin 33) : (k0_t3_loop (nw n)).OK := by revert n; decide
theorem ok4 (n : Fin 33) : (k0_t4_loop (nw n)).OK := by revert n; decide
theorem none4 (n : Fin 33) (k : Fin (k0_t4_loop (nw n)).trips) : False := by
  exact absurd (lt_of_lt_of_eq k.isLt (trips4 n)) (Nat.not_lt_zero _)
theorem lt3 {n : Fin 33} (k : Fin (k0_t3_loop (nw n)).trips) : k.val < 2 + n.val := lt_of_lt_of_eq k.isLt (trips3 n)
theorem lt34 {n : Fin 33} (k : Fin (k0_t3_loop (nw n)).trips) : k.val < 34 := by have := lt3 k; omega

theorem sl_nat : ∀ i : Fin 34, (Scalar.remsi (Scf.iv 0#32 1#32 i.val) 2#32).toNat = i.val % 2 := by decide
theorem sl_eq (n : Fin 33) (k : Fin (k0_t3_loop (nw n)).trips) : (sl (nw n) k).toNat = (slot k.val).val := sl_nat ⟨k.val, lt34 k⟩

theorem cur_nat : ∀ i : Fin 34, (Scalar.maxsi (Scalar.subi (Scf.iv 0#32 1#32 i.val) 2#32) 0#32).toNat = i.val - 2 := by decide
theorem nxt_nat : ∀ n : Fin 33, ∀ i : Fin 34, 0 < n.val → i.val < 2 + n.val →
    (Scalar.subi (Scalar.minsi (Scalar.addi (Scf.iv 0#32 1#32 i.val) 2#32) (Scalar.subi (Scalar.addi 2#32 (nw n)) 1#32)) 2#32).toNat = min i.val (n.val - 1) := by decide

/-- The place in the list of a trip's expert, and of the expert to copy for. -/
def curAt (n : Fin 33) (i : ℕ) : Fin 32 := ⟨(i - 2) % 32, Nat.mod_lt _ (by decide)⟩
def nxtAt (n : Fin 33) (i : ℕ) : Fin 32 := ⟨(min i (n.val - 1)) % 32, Nat.mod_lt _ (by decide)⟩

theorem listInb (q : Fin 32) : ∀ a, (![q.val] : Fin 1 → ℕ) a + S1.size a ≤ S32.size a := by revert q; decide
theorem o1 {n m : ℕ} (h : n = m) : (![n] : Fin 1 → ℕ) = ![m] := by rw [h]
theorem off19_eq {n : Fin 33} (hn : 0 < n.val) (k : Fin (k0_t3_loop (nw n)).trips) : k0_off19 (nw n) k = ![(curAt n k.val).val] :=
  o1 ((cur_nat ⟨k.val, lt34 k⟩).trans (Nat.mod_eq_of_lt (by have := lt34 k; omega)).symm)
theorem off20_eq {n : Fin 33} (hn : 0 < n.val) (k : Fin (k0_t3_loop (nw n)).trips) : k0_off20 (nw n) k = ![(nxtAt n k.val).val] :=
  o1 ((nxt_nat n ⟨k.val, lt34 k⟩ hn (lt3 k)).trans (Nat.mod_eq_of_lt (by have := n.isLt; omega)).symm)

theorem half_nat : ∀ i : Fin 34, (Scalar.muli (Scalar.minsi (Scf.iv 0#32 1#32 i.val) 1#32) 768#32).toNat = 1536 * 0 + 768 * min i.val 1 := by decide
theorem half_nat' : ∀ i : Fin 34, (Scalar.addi 1536#32 (Scalar.muli (Scalar.minsi (Scf.iv 0#32 1#32 i.val) 1#32) 768#32)).toNat = 1536 * 1 + 768 * min i.val 1 := by decide
theorem o2' {n m : ℕ} (h : n = m) : (![0, n] : Fin 2 → ℕ) = ![0, m] := by rw [h]
theorem off63_eq (n : Fin 33) (k : Fin (k0_t3_loop (nw n)).trips) : k0_off63 (nw n) k = sgOff 0 (half k.val) := o2' (half_nat ⟨k.val, lt34 k⟩)
theorem off65_eq (n : Fin 33) (k : Fin (k0_t3_loop (nw n)).trips) : k0_off65 (nw n) k = sgOff 1 (half k.val) := o2' (half_nat' ⟨k.val, lt34 k⟩)
theorem mult_nat : ∀ i : Fin 34, 768 ∣ (Scalar.muli (Scalar.minsi (Scf.iv 0#32 1#32 i.val) 1#32) 768#32).toNat := by decide
theorem mult3 (n : Fin 33) (k : Fin (k0_t3_loop (nw n)).trips) : 768 ∣ (k0_mult1 (nw n) k).toNat := mult_nat ⟨k.val, lt34 k⟩

theorem cond_nat : ∀ n : Fin 33, ∀ i : Fin 34, i.val < 2 + n.val →
    (Scalar.cmpi .ne (Scalar.extui (Scalar.cmpi .slt (Scalar.addi (Scf.iv 0#32 1#32 i.val) 2#32) (Scalar.addi 2#32 (nw n))) : BitVec 32) 0#32 = 1#1 ↔ i.val < n.val) := by decide
theorem cond1_iff (n : Fin 33) (k : Fin (k0_t3_loop (nw n)).trips) : k0_cond1 (nw n) k = 1#1 ↔ k.val < n.val := cond_nat n ⟨k.val, lt34 k⟩ (lt3 k)

theorem chk10_0 {n : Fin 33} (hn : 0 < n.val) : k0_chk10_0 (nw n) :=
  ⟨ok3 n,
   fun k => ib (off19_eq hn k) (listInb _),
   fun k => ib (off20_eq hn k) (listInb _),
   fun k => ib (show k0_off21 _ k = cOff (slot k.val) 0 from o2 (sl_eq n k) _) (cInb _ _),
   fun k => ib (show k0_off22 _ k = guOff (slot k.val) 0 from o3 (sl_eq n k) _ _) (guInb _ _),
   fun k => ww (show k0_off22 _ k = guOff (slot k.val) 0 from o3 (sl_eq n k) _ _) (guWords _ _),
   fun k => ib (show k0_off23 _ k = guOff (slot k.val) 0 from o3 (sl_eq n k) _ _) (guInb _ _),
   fun k => fun _ => ib (show k0_off24 _ k = cOff (slot k.val) 0 from o2 (sl_eq n k) _) (cInb _ _),
   fun k => fun _ => ib (show k0_off25 _ k = guOff (slot k.val) 0 from o3 (sl_eq n k) _ _) (guInb _ _),
   fun k => fun _ => ww (show k0_off25 _ k = guOff (slot k.val) 0 from o3 (sl_eq n k) _ _) (guWords _ _),
   fun k => ib (show k0_off27 _ k = cOff (slot k.val) 1 from o2 (sl_eq n k) _) (cInb _ _),
   fun k => ib (show k0_off28 _ k = guOff (slot k.val) 1 from o3 (sl_eq n k) _ _) (guInb _ _),
   fun k => ww (show k0_off28 _ k = guOff (slot k.val) 1 from o3 (sl_eq n k) _ _) (guWords _ _),
   fun k => ib (show k0_off29 _ k = guOff (slot k.val) 1 from o3 (sl_eq n k) _ _) (guInb _ _),
   fun k => fun _ => ib (show k0_off30 _ k = cOff (slot k.val) 1 from o2 (sl_eq n k) _) (cInb _ _),
   fun k => fun _ => ib (show k0_off31 _ k = guOff (slot k.val) 1 from o3 (sl_eq n k) _ _) (guInb _ _),
   fun k => fun _ => ww (show k0_off31 _ k = guOff (slot k.val) 1 from o3 (sl_eq n k) _ _) (guWords _ _),
   fun k => ib (show k0_off33 _ k = cOff (slot k.val) 2 from o2 (sl_eq n k) _) (cInb _ _),
   fun k => ib (show k0_off34 _ k = guOff (slot k.val) 2 from o3 (sl_eq n k) _ _) (guInb _ _),
   fun k => ww (show k0_off34 _ k = guOff (slot k.val) 2 from o3 (sl_eq n k) _ _) (guWords _ _),
   fun k => ib (show k0_off35 _ k = guOff (slot k.val) 2 from o3 (sl_eq n k) _ _) (guInb _ _),
   fun k => fun _ => ib (show k0_off36 _ k = cOff (slot k.val) 2 from o2 (sl_eq n k) _) (cInb _ _),
   fun k => fun _ => ib (show k0_off37 _ k = guOff (slot k.val) 2 from o3 (sl_eq n k) _ _) (guInb _ _),
   fun k => fun _ => ww (show k0_off37 _ k = guOff (slot k.val) 2 from o3 (sl_eq n k) _ _) (guWords _ _),
   fun k => ib (show k0_off39 _ k = cOff (slot k.val) 3 from o2 (sl_eq n k) _) (cInb _ _),
   fun k => ib (show k0_off40 _ k = guOff (slot k.val) 3 from o3 (sl_eq n k) _ _) (guInb _ _),
   fun k => ww (show k0_off40 _ k = guOff (slot k.val) 3 from o3 (sl_eq n k) _ _) (guWords _ _),
   fun k => ib (show k0_off41 _ k = guOff (slot k.val) 3 from o3 (sl_eq n k) _ _) (guInb _ _),
   fun k => fun _ => ib (show k0_off42 _ k = cOff (slot k.val) 3 from o2 (sl_eq n k) _) (cInb _ _),
   fun k => fun _ => ib (show k0_off43 _ k = guOff (slot k.val) 3 from o3 (sl_eq n k) _ _) (guInb _ _),
   fun k => fun _ => ww (show k0_off43 _ k = guOff (slot k.val) 3 from o3 (sl_eq n k) _ _) (guWords _ _),
   fun k => ib (show k0_off45 _ k = cOff (slot k.val) 4 from o2 (sl_eq n k) _) (cInb _ _)⟩

theorem chk10_1 {n : Fin 33} (hn : 0 < n.val) : k0_chk10_1 (nw n) :=
  ⟨fun k => ib (show k0_off46 _ k = guOff (slot k.val) 4 from o3 (sl_eq n k) _ _) (guInb _ _),
   fun k => ww (show k0_off46 _ k = guOff (slot k.val) 4 from o3 (sl_eq n k) _ _) (guWords _ _),
   fun k => ib (show k0_off47 _ k = guOff (slot k.val) 4 from o3 (sl_eq n k) _ _) (guInb _ _),
   fun k => fun _ => ib (show k0_off48 _ k = cOff (slot k.val) 4 from o2 (sl_eq n k) _) (cInb _ _),
   fun k => fun _ => ib (show k0_off49 _ k = guOff (slot k.val) 4 from o3 (sl_eq n k) _ _) (guInb _ _),
   fun k => fun _ => ww (show k0_off49 _ k = guOff (slot k.val) 4 from o3 (sl_eq n k) _ _) (guWords _ _),
   fun k => ib (show k0_off51 _ k = cOff (slot k.val) 5 from o2 (sl_eq n k) _) (cInb _ _),
   fun k => ib (show k0_off52 _ k = guOff (slot k.val) 5 from o3 (sl_eq n k) _ _) (guInb _ _),
   fun k => ww (show k0_off52 _ k = guOff (slot k.val) 5 from o3 (sl_eq n k) _ _) (guWords _ _),
   fun k => ib (show k0_off53 _ k = guOff (slot k.val) 5 from o3 (sl_eq n k) _ _) (guInb _ _),
   fun k => fun _ => ib (show k0_off54 _ k = cOff (slot k.val) 5 from o2 (sl_eq n k) _) (cInb _ _),
   fun k => fun _ => ib (show k0_off55 _ k = guOff (slot k.val) 5 from o3 (sl_eq n k) _ _) (guInb _ _),
   fun k => fun _ => ww (show k0_off55 _ k = guOff (slot k.val) 5 from o3 (sl_eq n k) _ _) (guWords _ _),
   fun k => ib (show k0_off57 _ k = cOff (slot k.val) 6 from o2 (sl_eq n k) _) (cInb _ _),
   fun k => ib (show k0_off58 _ k = guOff (slot k.val) 6 from o3 (sl_eq n k) _ _) (guInb _ _),
   fun k => ww (show k0_off58 _ k = guOff (slot k.val) 6 from o3 (sl_eq n k) _ _) (guWords _ _),
   fun k => ib (show k0_off59 _ k = guOff (slot k.val) 6 from o3 (sl_eq n k) _ _) (guInb _ _),
   fun k => fun _ => ib (show k0_off60 _ k = cOff (slot k.val) 6 from o2 (sl_eq n k) _) (cInb _ _),
   fun k => fun _ => ib (show k0_off61 _ k = guOff (slot k.val) 6 from o3 (sl_eq n k) _ _) (guInb _ _),
   fun k => fun _ => ww (show k0_off61 _ k = guOff (slot k.val) 6 from o3 (sl_eq n k) _ _) (guWords _ _),
   fun k => mult3 n k,
   fun k => ib (off63_eq n k) (sgInb 0 _),
   fun k => ib (off65_eq n k) (sgInb 1 _),
   fun k => ib (show k0_off67 _ k = cOff (slot k.val) 0 from o2 (sl_eq n k) _) (cInb _ _),
   fun k => ib (show k0_off68 _ k = dnOff (slot k.val) 0 from o3 (sl_eq n k) _ _) (dnInb _ _),
   fun k => ww (show k0_off68 _ k = dnOff (slot k.val) 0 from o3 (sl_eq n k) _ _) (dnWords _ _),
   fun k => ib (show k0_off69 _ k = dnOff (slot k.val) 0 from o3 (sl_eq n k) _ _) (dnInb _ _),
   fun k => fun _ => ib (show k0_off71 _ k = cOff (slot k.val) 0 from o2 (sl_eq n k) _) (cInb _ _),
   fun k => fun _ => ib (show k0_off72 _ k = dnOff (slot k.val) 0 from o3 (sl_eq n k) _ _) (dnInb _ _),
   fun k => fun _ => ww (show k0_off72 _ k = dnOff (slot k.val) 0 from o3 (sl_eq n k) _ _) (dnWords _ _),
   fun k => ib (show k0_off74 _ k = cOff (slot k.val) 1 from o2 (sl_eq n k) _) (cInb _ _),
   fun k => ib (show k0_off75 _ k = dnOff (slot k.val) 1 from o3 (sl_eq n k) _ _) (dnInb _ _)⟩

theorem chk10_2 {n : Fin 33} (hn : 0 < n.val) : k0_chk10_2 (nw n) :=
  ⟨fun k => ww (show k0_off75 _ k = dnOff (slot k.val) 1 from o3 (sl_eq n k) _ _) (dnWords _ _),
   fun k => ib (show k0_off76 _ k = dnOff (slot k.val) 1 from o3 (sl_eq n k) _ _) (dnInb _ _),
   fun k => fun _ => ib (show k0_off78 _ k = cOff (slot k.val) 1 from o2 (sl_eq n k) _) (cInb _ _),
   fun k => fun _ => ib (show k0_off79 _ k = dnOff (slot k.val) 1 from o3 (sl_eq n k) _ _) (dnInb _ _),
   fun k => fun _ => ww (show k0_off79 _ k = dnOff (slot k.val) 1 from o3 (sl_eq n k) _ _) (dnWords _ _),
   fun k => ib (show k0_off81 _ k = cOff (slot k.val) 2 from o2 (sl_eq n k) _) (cInb _ _),
   fun k => ib (show k0_off82 _ k = dnOff (slot k.val) 2 from o3 (sl_eq n k) _ _) (dnInb _ _),
   fun k => ww (show k0_off82 _ k = dnOff (slot k.val) 2 from o3 (sl_eq n k) _ _) (dnWords _ _),
   fun k => ib (show k0_off83 _ k = dnOff (slot k.val) 2 from o3 (sl_eq n k) _ _) (dnInb _ _),
   fun k => fun _ => ib (show k0_off85 _ k = cOff (slot k.val) 2 from o2 (sl_eq n k) _) (cInb _ _),
   fun k => fun _ => ib (show k0_off86 _ k = dnOff (slot k.val) 2 from o3 (sl_eq n k) _ _) (dnInb _ _),
   fun k => fun _ => ww (show k0_off86 _ k = dnOff (slot k.val) 2 from o3 (sl_eq n k) _ _) (dnWords _ _),
   fun k => ib (show k0_off88 _ k = cOff (slot k.val) 3 from o2 (sl_eq n k) _) (cInb _ _),
   fun k => ib (show k0_off89 _ k = dnOff (slot k.val) 3 from o3 (sl_eq n k) _ _) (dnInb _ _),
   fun k => ww (show k0_off89 _ k = dnOff (slot k.val) 3 from o3 (sl_eq n k) _ _) (dnWords _ _),
   fun k => ib (show k0_off90 _ k = dnOff (slot k.val) 3 from o3 (sl_eq n k) _ _) (dnInb _ _),
   fun k => fun _ => ib (show k0_off92 _ k = cOff (slot k.val) 3 from o2 (sl_eq n k) _) (cInb _ _),
   fun k => fun _ => ib (show k0_off93 _ k = dnOff (slot k.val) 3 from o3 (sl_eq n k) _ _) (dnInb _ _),
   fun k => fun _ => ww (show k0_off93 _ k = dnOff (slot k.val) 3 from o3 (sl_eq n k) _ _) (dnWords _ _),
   fun k => ib (show k0_off95 _ k = cOff (slot k.val) 4 from o2 (sl_eq n k) _) (cInb _ _),
   fun k => ib (show k0_off96 _ k = dnOff (slot k.val) 4 from o3 (sl_eq n k) _ _) (dnInb _ _),
   fun k => ww (show k0_off96 _ k = dnOff (slot k.val) 4 from o3 (sl_eq n k) _ _) (dnWords _ _),
   fun k => ib (show k0_off97 _ k = dnOff (slot k.val) 4 from o3 (sl_eq n k) _ _) (dnInb _ _),
   fun k => fun _ => ib (show k0_off99 _ k = cOff (slot k.val) 4 from o2 (sl_eq n k) _) (cInb _ _),
   fun k => fun _ => ib (show k0_off100 _ k = dnOff (slot k.val) 4 from o3 (sl_eq n k) _ _) (dnInb _ _),
   fun k => fun _ => ww (show k0_off100 _ k = dnOff (slot k.val) 4 from o3 (sl_eq n k) _ _) (dnWords _ _),
   fun k => ib (show k0_off102 _ k = cOff (slot k.val) 5 from o2 (sl_eq n k) _) (cInb _ _),
   fun k => ib (show k0_off103 _ k = dnOff (slot k.val) 5 from o3 (sl_eq n k) _ _) (dnInb _ _),
   fun k => ww (show k0_off103 _ k = dnOff (slot k.val) 5 from o3 (sl_eq n k) _ _) (dnWords _ _),
   fun k => ib (show k0_off104 _ k = dnOff (slot k.val) 5 from o3 (sl_eq n k) _ _) (dnInb _ _),
   fun k => fun _ => ib (show k0_off106 _ k = cOff (slot k.val) 5 from o2 (sl_eq n k) _) (cInb _ _),
   fun k => fun _ => ib (show k0_off107 _ k = dnOff (slot k.val) 5 from o3 (sl_eq n k) _ _) (dnInb _ _)⟩

theorem chk10_3 {n : Fin 33} (hn : 0 < n.val) : k0_chk10_3 (nw n) :=
  ⟨fun k => fun _ => ww (show k0_off107 _ k = dnOff (slot k.val) 5 from o3 (sl_eq n k) _ _) (dnWords _ _),
   fun k => ib (show k0_off109 _ k = cOff (slot k.val) 6 from o2 (sl_eq n k) _) (cInb _ _),
   fun k => ib (show k0_off110 _ k = dnOff (slot k.val) 6 from o3 (sl_eq n k) _ _) (dnInb _ _),
   fun k => ww (show k0_off110 _ k = dnOff (slot k.val) 6 from o3 (sl_eq n k) _ _) (dnWords _ _),
   fun k => ib (show k0_off111 _ k = dnOff (slot k.val) 6 from o3 (sl_eq n k) _ _) (dnInb _ _),
   fun k => fun _ => ib (show k0_off113 _ k = cOff (slot k.val) 6 from o2 (sl_eq n k) _) (cInb _ _),
   fun k => fun _ => ib (show k0_off114 _ k = dnOff (slot k.val) 6 from o3 (sl_eq n k) _ _) (dnInb _ _),
   fun k => fun _ => ww (show k0_off114 _ k = dnOff (slot k.val) 6 from o3 (sl_eq n k) _ _) (dnWords _ _),
   ok4 n,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim⟩

theorem chk10_4 {n : Fin 33} (hn : 0 < n.val) : k0_chk10_4 (nw n) :=
  ⟨fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim⟩

theorem chk10_5 {n : Fin 33} (hn : 0 < n.val) : k0_chk10_5 (nw n) :=
  ⟨fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim⟩

theorem chk10_6 {n : Fin 33} (hn : 0 < n.val) : k0_chk10_6 (nw n) :=
  ⟨fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim,
   fun k => (none4 n k).elim⟩

/-- The checks of the slots and of the list's places. -/
theorem chk10 {n : Fin 33} (hn : 0 < n.val) : k0_chk10 (nw n) := ⟨chk10_0 hn, chk10_1 hn, chk10_2 hn, chk10_3 hn, chk10_4 hn, chk10_5 hn, chk10_6 hn⟩

/-- An expert's row of scales is in bounds. -/
theorem chk12 {b : BitVec 32} {e : Fin 32} (hb : b.toNat = e.val) : k0_chk12 b :=
  ⟨ib (show k0_off64 b = egOff 0 e from o2 hb _) (egInb _ _),
   ib (show k0_off66 b = egOff 1 e from o2 hb _) (egInb _ _),
   ib (show k0_off70 b = sdOff e 0 from o2 hb _) (sdInb _ _),
   ib (show k0_off77 b = sdOff e 1 from o2 hb _) (sdInb _ _),
   ib (show k0_off84 b = sdOff e 2 from o2 hb _) (sdInb _ _),
   ib (show k0_off91 b = sdOff e 3 from o2 hb _) (sdInb _ _),
   ib (show k0_off98 b = sdOff e 4 from o2 hb _) (sdInb _ _),
   ib (show k0_off105 b = sdOff e 5 from o2 hb _) (sdInb _ _),
   ib (show k0_off112 b = sdOff e 6 from o2 hb _) (sdInb _ _)⟩

/-- An expert's weights are in bounds. -/
theorem chk11 {v260 : BitVec 32} (k : Fin (k0_t3_loop v260).trips) {b : BitVec 32} {e : Fin 32} (hb : b.toNat = e.val) : k0_chk11 v260 k b :=
  ⟨fun _ => ib (show k0_off26 b = guSrcOff e 0 from o3 hb _ _) (guSrcInb _ _),
   fun _ => ww (show k0_off26 b = guSrcOff e 0 from o3 hb _ _) (guSrcWords _ _),
   fun _ => ib (show k0_off32 b = guSrcOff e 1 from o3 hb _ _) (guSrcInb _ _),
   fun _ => ww (show k0_off32 b = guSrcOff e 1 from o3 hb _ _) (guSrcWords _ _),
   fun _ => ib (show k0_off38 b = guSrcOff e 2 from o3 hb _ _) (guSrcInb _ _),
   fun _ => ww (show k0_off38 b = guSrcOff e 2 from o3 hb _ _) (guSrcWords _ _),
   fun _ => ib (show k0_off44 b = guSrcOff e 3 from o3 hb _ _) (guSrcInb _ _),
   fun _ => ww (show k0_off44 b = guSrcOff e 3 from o3 hb _ _) (guSrcWords _ _),
   fun _ => ib (show k0_off50 b = guSrcOff e 4 from o3 hb _ _) (guSrcInb _ _),
   fun _ => ww (show k0_off50 b = guSrcOff e 4 from o3 hb _ _) (guSrcWords _ _),
   fun _ => ib (show k0_off56 b = guSrcOff e 5 from o3 hb _ _) (guSrcInb _ _),
   fun _ => ww (show k0_off56 b = guSrcOff e 5 from o3 hb _ _) (guSrcWords _ _),
   fun _ => ib (show k0_off62 b = guSrcOff e 6 from o3 hb _ _) (guSrcInb _ _),
   fun _ => ww (show k0_off62 b = guSrcOff e 6 from o3 hb _ _) (guSrcWords _ _),
   fun _ => ib (show k0_off73 b = dnSrcOff e 0 from o3 hb _ _) (dnSrcInb _ _),
   fun _ => ww (show k0_off73 b = dnSrcOff e 0 from o3 hb _ _) (dnSrcWords _ _),
   fun _ => ib (show k0_off80 b = dnSrcOff e 1 from o3 hb _ _) (dnSrcInb _ _),
   fun _ => ww (show k0_off80 b = dnSrcOff e 1 from o3 hb _ _) (dnSrcWords _ _),
   fun _ => ib (show k0_off87 b = dnSrcOff e 2 from o3 hb _ _) (dnSrcInb _ _),
   fun _ => ww (show k0_off87 b = dnSrcOff e 2 from o3 hb _ _) (dnSrcWords _ _),
   fun _ => ib (show k0_off94 b = dnSrcOff e 3 from o3 hb _ _) (dnSrcInb _ _),
   fun _ => ww (show k0_off94 b = dnSrcOff e 3 from o3 hb _ _) (dnSrcWords _ _),
   fun _ => ib (show k0_off101 b = dnSrcOff e 4 from o3 hb _ _) (dnSrcInb _ _),
   fun _ => ww (show k0_off101 b = dnSrcOff e 4 from o3 hb _ _) (dnSrcWords _ _),
   fun _ => ib (show k0_off108 b = dnSrcOff e 5 from o3 hb _ _) (dnSrcInb _ _),
   fun _ => ww (show k0_off108 b = dnSrcOff e 5 from o3 hb _ _) (dnSrcWords _ _),
   fun _ => ib (show k0_off115 b = dnSrcOff e 6 from o3 hb _ _) (dnSrcInb _ _),
   fun _ => ww (show k0_off115 b = dnSrcOff e 6 from o3 hb _ _) (dnSrcWords _ _)⟩

end Cert.KernelIdeal.Hand
-- ==== Proof.KernelIdeal.Lists.lean ====
/-
  Hand-written. The flags of the experts the tokens are routed to, and the list of those experts.
-/
module

public import proofs.«01_k».proof.Proof.KernelIdeal.Small
public import proofs.«01_k».proof.Proof.KernelIdeal.Parts
public import proofs.«01_k».proof.Proof.KernelIdeal.Offsets

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

section
variable (c : Dev nD) (M12 : Memref sig .tc .vmem S33x7168 .bf16) (h12 : M12.IsWhole)

theorem st25_at (f : Vec F S32 .i32) (q : ℕ) (w : BitVec 32) (inb : ∀ a, (![q] : Fin 1 → ℕ) a + S1.size a ≤ S32.size a) (x : S32.Idx) :
    ((B25.access (Rect.unit (s := S32) ![q] S1.size inb)).write (Elt F) f (fun _ => w) Finset.univ : Vec F S32 .i32) x
      = if (x 0).val = q then w else f x := by
  by_cases h : (x 0).val = q
  · rw [if_pos h]
    have z : S1.Idx := Shape.Idx.first (numel1_S1.symm ▸ Nat.one_pos)
    have hz : (z 0).val = 0 := by have h1 : (z 0).val < 1 := (z 0).isLt; omega
    have hx : x = (B25.access (Rect.unit (s := S32) ![q] S1.size inb)).emb z := by
      funext a
      apply Fin.ext
      obtain rfl : a = (0 : Fin 1) := Subsingleton.elim (α := Fin 1) _ _
      show (x 0).val = q + 1 * (z 0).val
      omega
    rw [hx]
    exact View.write_emb_of_mem (v := B25.access (Rect.unit (s := S32) ![q] S1.size inb)) f (fun _ => w) (Finset.mem_univ z)
  · rw [if_neg h]
    refine View.write_of_not_mem (v := B25.access (Rect.unit (s := S32) ![q] S1.size inb)) f (fun _ => w) Finset.univ ?_
    intro hm
    obtain ⟨y, -, hy⟩ := Finset.mem_map.mp hm
    apply h
    rw [← hy]
    show q + 1 * (y 0).val = q
    have := (y 0).isLt
    have h1 : (y 0).val < 1 := this
    omega

abbrev T1 := k0_t1_body (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22
abbrev T2 := k0_t2_body (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22

theorem idInb (k : Fin 8) (t : Fin 33) : ∀ a, (![k.val, t.val] : Fin 2 → ℕ) a + S1x1.size a ≤ S8x33.size a := by
  intro a
  have hk := k.isLt
  have ht := t.isLt
  match a with
  | (0 : Fin 2) => show k.val + 1 ≤ 8; omega
  | (1 : Fin 2) => show t.val + 1 ≤ 33; omega

/-- The expert of the `k`-th place of token `t`, as the kernel loads it. -/
abbrev idw (f : Cts (F := F) c B23) (k : Fin 8) (t : Fin 33) : BitVec 32 :=
  rd c B23 f ![k.val, t.val] S1x1.size (idInb k t) (Shape.Idx.first (numel1_S1x1.symm ▸ Nat.one_pos))

/-- The flags of a set of experts. -/
def actF (S : Finset ℕ) : Vec F S32 .i32 := fun x => if (x 0).val ∈ S then 1#32 else 0#32

theorem act_insert (S : Finset ℕ) (q : ℕ) (inb : ∀ a, (![q] : Fin 1 → ℕ) a + S1.size a ≤ S32.size a) :
    ((B24.access (Rect.unit (s := S32) ![q] S1.size inb)).write (Elt F) (actF (F := F) S) (fun _ => 1#32) Finset.univ : Vec F S32 .i32) = actF (insert q S) := by
  funext x
  rw [st24_at]
  unfold actF
  by_cases h : (x 0).val = q
  · rw [if_pos h, if_pos (h ▸ Finset.mem_insert_self _ _)]
  · rw [if_neg h]
    congr 1
    exact propext ⟨fun h' => Finset.mem_insert_of_mem h', fun h' => (Finset.mem_insert.mp h').resolve_left h⟩

theorem chkw {v : BitVec 32} (h : v.toNat < 32) : ∀ a, (![v.toNat] : Fin 1 → ℕ) a + S1.size a ≤ S32.size a := by
  intro a
  obtain rfl : a = (0 : Fin 1) := Subsingleton.elim (α := Fin 1) _ _
  show v.toNat + 1 ≤ 32
  omega

/-- The flag of the expert a word names raised, after the load the store carries. -/
theorem wp_mark {α : Type} {Q : α → sProp (MT nD τ sig Unit (Elt F) ℕ (Pipeline.UD sig nD τ) ℕ)} {v : BitVec 32} (S : Finset ℕ) (hv : v.toNat < 32)
    {off off' : Fin 1 → ℕ} (hoff : off = ![v.toNat]) (hoff' : off' = ![v.toNat])
    {inb : ∀ a, off a + S1.size a ≤ S32.size a} {inb' : ∀ a, off' a + S1.size a ≤ S32.size a} {hl hx hm}
    {k : PUnit → Prog (TpuEff nD τ sig (Elt F) Λ₀ .tc) α} :
    pt c B24 fullShare (actF S)
      ⊢ iprop((pt c B24 fullShare (actF (insert v.toNat S)) -∗ WP c (k ⟨⟩) Q)
        -∗ WP c (.op (.load B24 (Rect.unit (s := S32) off S1.size inb).toLoadRect hl) (fun _ =>
            .op (.store B24 (Rect.unit (s := S32) off' S1.size inb') (fun _ => 1#32) Finset.univ hx hm) k)) Q) := by
  subst hoff hoff'
  iintro Hf Hk
  iapply (wp_ld c (M := B24) rfl _ inb) $$ Hf
  iintro Hf
  iapply (wp_store Variants.none (c : Thread nD τ) none Set.univ (m := B24) (hx := hx) (hm := hm) (S := Finset.univ) (f := actF S) (Finset.subset_univ _)) $$ Hf
  iintro Hf
  iapply Hk
  iapply (pt_congr c (act_insert S v.toNat inb')) $$ Hf

theorem iv_nat : ∀ i : Fin 33, (Scf.iv 0#32 1#32 i.val).toNat = i.val := by decide

theorem iv_of : ∀ e : Fin 32, Scf.iv 0#32 1#32 e.val = BitVec.ofNat 32 e.val := by decide
theorem trips1 : k0_t1_loop.trips = 33 := by decide
theorem trips2 : k0_t2_loop.trips = 32 := by decide
abbrev t33 (t : Fin k0_t1_loop.trips) : Fin 33 := ⟨t.val, lt_of_lt_of_eq t.isLt trips1⟩
theorem o2r {n m : ℕ} (a : ℕ) (h : n = m) : (![a, n] : Fin 2 → ℕ) = ![a, m] := by rw [h]

/-- The experts of one token added to a set. -/
def addTok (f : Cts (F := F) c B23) (t : Fin 33) (S : Finset ℕ) : Finset ℕ :=
  insert (idw c f 7 t).toNat (insert (idw c f 6 t).toNat (insert (idw c f 5 t).toNat (insert (idw c f 4 t).toNat
    (insert (idw c f 3 t).toNat (insert (idw c f 2 t).toNat (insert (idw c f 1 t).toNat (insert (idw c f 0 t).toNat S)))))))
/-- The experts of the first `T` tokens. -/
def actUp (f : Cts (F := F) c B23) : ℕ → Finset ℕ
  | 0 => ∅
  | t + 1 => addTok c f ⟨t % 33, Nat.mod_lt _ (by decide)⟩ (actUp f t)

theorem mem_addTok (f : Cts (F := F) c B23) (t : Fin 33) (S : Finset ℕ) (e : ℕ) : e ∈ addTok c f t S ↔ (∃ k : Fin 8, (idw c f k t).toNat = e) ∨ e ∈ S := by
  unfold addTok
  simp only [Finset.mem_insert, Fin.exists_fin_succ, Fin.exists_fin_zero]
  constructor
  · rintro (h | h | h | h | h | h | h | h | h) <;> first | exact Or.inr h | (left; simp [h]; done) | (left; subst h; tauto)
  · rintro (h | h)
    · tauto
    · tauto
theorem mem_actUp (f : Cts (F := F) c B23) (e : ℕ) : ∀ T, T ≤ 33 → (e ∈ actUp c f T ↔ ∃ t : Fin 33, t.val < T ∧ ∃ k : Fin 8, (idw c f k t).toNat = e)
  | 0, _ => ⟨fun h => absurd h (Finset.notMem_empty _), fun ⟨t, h, _⟩ => absurd h (Nat.not_lt_zero _)⟩
  | T + 1, hT => by
    rw [actUp, mem_addTok, mem_actUp f e T (by omega)]
    constructor
    · rintro (⟨k, h⟩ | ⟨t, ht, h⟩)
      · exact ⟨⟨T % 33, Nat.mod_lt _ (by decide)⟩, by show T % 33 < T + 1; rw [Nat.mod_eq_of_lt (by omega)]; omega, k, h⟩
      · exact ⟨t, by omega, h⟩
    · rintro ⟨t, ht, k, h⟩
      by_cases htT : t.val < T
      · exact Or.inr ⟨t, htT, k, h⟩
      · left
        refine ⟨k, ?_⟩
        have : (⟨T % 33, Nat.mod_lt _ (by decide)⟩ : Fin 33) = t := Fin.ext (by show T % 33 = t.val; rw [Nat.mod_eq_of_lt (by omega)]; omega)
        rw [this]; exact h

variable (Y : Ops F c)

theorem wp_part1 (hR : ∀ k t, (idw c Y.f1 k t).toNat < 32) (S : Finset ℕ) (t : Fin k0_t1_loop.trips) {K} :
    iprop(pt c B23 fullShare Y.f1 ∗ pt c B24 fullShare (actF (F := F) S) ∗ (iprop(pt c B23 fullShare Y.f1 ∗ pt c B24 fullShare (actF (F := F)
        (insert (idw c Y.f1 6 (t33 t)).toNat (insert (idw c Y.f1 5 (t33 t)).toNat (insert (idw c Y.f1 4 (t33 t)).toNat
    (insert (idw c Y.f1 3 (t33 t)).toNat (insert (idw c Y.f1 2 (t33 t)).toNat (insert (idw c Y.f1 1 (t33 t)).toNat (insert (idw c Y.f1 0 (t33 t)).toNat S)))))))))
        -∗ K (idw c Y.f1 7 (t33 t))))
      ⊢ WP c (P1 (F := F) M12 h12 0#32 1#32 t) K := by
  rw [P1, k0_part1_eq_skeleton]
  unfold k0_part1_skel
  dsimp only [storeSubelements, smemLoad, smemLoadElt, Prog.bind_lift, Prog.bind_op, Prog.bind_ret, Prog.pure_eq_ret]
  iintro ⟨H23, H24, HK⟩
  iapply (wp_ld c (M := B23) (show _ = ![((0 : Fin 8)).val, (t33 t).val] from o2r 0 (iv_nat (t33 t))) _ (idInb 0 (t33 t))) $$ H23
  iintro H23
  iapply (wp_assume Variants.none (c : Thread nD τ) none Set.univ (show k0_chk1 (idw c Y.f1 0 (t33 t)) from chkw (hR 0 (t33 t))))
  iapply (wp_mark c (v := idw c Y.f1 0 (t33 t)) _ (hR 0 (t33 t)) rfl rfl) $$ H24
  iintro H24
  iapply (wp_ld c (M := B23) (show _ = ![((1 : Fin 8)).val, (t33 t).val] from o2r 1 (iv_nat (t33 t))) _ (idInb 1 (t33 t))) $$ H23
  iintro H23
  iapply (wp_assume Variants.none (c : Thread nD τ) none Set.univ (show k0_chk2 (idw c Y.f1 1 (t33 t)) from chkw (hR 1 (t33 t))))
  iapply (wp_mark c (v := idw c Y.f1 1 (t33 t)) _ (hR 1 (t33 t)) rfl rfl) $$ H24
  iintro H24
  iapply (wp_ld c (M := B23) (show _ = ![((2 : Fin 8)).val, (t33 t).val] from o2r 2 (iv_nat (t33 t))) _ (idInb 2 (t33 t))) $$ H23
  iintro H23
  iapply (wp_assume Variants.none (c : Thread nD τ) none Set.univ (show k0_chk3 (idw c Y.f1 2 (t33 t)) from chkw (hR 2 (t33 t))))
  iapply (wp_mark c (v := idw c Y.f1 2 (t33 t)) _ (hR 2 (t33 t)) rfl rfl) $$ H24
  iintro H24
  iapply (wp_ld c (M := B23) (show _ = ![((3 : Fin 8)).val, (t33 t).val] from o2r 3 (iv_nat (t33 t))) _ (idInb 3 (t33 t))) $$ H23
  iintro H23
  iapply (wp_assume Variants.none (c : Thread nD τ) none Set.univ (show k0_chk4 (idw c Y.f1 3 (t33 t)) from chkw (hR 3 (t33 t))))
  iapply (wp_mark c (v := idw c Y.f1 3 (t33 t)) _ (hR 3 (t33 t)) rfl rfl) $$ H24
  iintro H24
  iapply (wp_ld c (M := B23) (show _ = ![((4 : Fin 8)).val, (t33 t).val] from o2r 4 (iv_nat (t33 t))) _ (idInb 4 (t33 t))) $$ H23
  iintro H23
  iapply (wp_assume Variants.none (c : Thread nD τ) none Set.univ (show k0_chk5 (idw c Y.f1 4 (t33 t)) from chkw (hR 4 (t33 t))))
  iapply (wp_mark c (v := idw c Y.f1 4 (t33 t)) _ (hR 4 (t33 t)) rfl rfl) $$ H24
  iintro H24
  iapply (wp_ld c (M := B23) (show _ = ![((5 : Fin 8)).val, (t33 t).val] from o2r 5 (iv_nat (t33 t))) _ (idInb 5 (t33 t))) $$ H23
  iintro H23
  iapply (wp_assume Variants.none (c : Thread nD τ) none Set.univ (show k0_chk6 (idw c Y.f1 5 (t33 t)) from chkw (hR 5 (t33 t))))
  iapply (wp_mark c (v := idw c Y.f1 5 (t33 t)) _ (hR 5 (t33 t)) rfl rfl) $$ H24
  iintro H24
  iapply (wp_ld c (M := B23) (show _ = ![((6 : Fin 8)).val, (t33 t).val] from o2r 6 (iv_nat (t33 t))) _ (idInb 6 (t33 t))) $$ H23
  iintro H23
  iapply (wp_assume Variants.none (c : Thread nD τ) none Set.univ (show k0_chk7 (idw c Y.f1 6 (t33 t)) from chkw (hR 6 (t33 t))))
  iapply (wp_mark c (v := idw c Y.f1 6 (t33 t)) _ (hR 6 (t33 t)) rfl rfl) $$ H24
  iintro H24
  iapply (wp_ld c (M := B23) (show _ = ![((7 : Fin 8)).val, (t33 t).val] from o2r 7 (iv_nat (t33 t))) _ (idInb 7 (t33 t))) $$ H23
  iintro H23
  iapply wp_done
  iapply HK
  iframe

/-- One trip of the loop over the tokens. -/
theorem wp_tok (hR : ∀ k t, (idw c Y.f1 k t).toNat < 32) (t : Fin k0_t1_loop.trips) :
    iprop(pt c B23 fullShare Y.f1 ∗ pt c B24 fullShare (actF (F := F) (actUp c Y.f1 t.val)))
      ⊢ WP c (T1 (F := F) M12 h12 t ()) (fun _ => iprop(pt c B23 fullShare Y.f1 ∗ pt c B24 fullShare (actF (F := F) (actUp c Y.f1 (t.val + 1))))) := by
  rw [T1]
  unfold k0_t1_body
  iintro ⟨H23, H24⟩
  iapply wp_seq
  iapply (wp_part1 c M12 h12 Y hR (actUp c Y.f1 t.val) t)
  iframe H23 H24
  iintro ⟨H23, H24⟩
  dsimp only [storeSubelements, smemLoad, smemLoadElt, Prog.bind_lift, Prog.bind_op, Prog.bind_ret, Prog.pure_eq_ret]
  iapply (wp_assume Variants.none (c : Thread nD τ) none Set.univ (show k0_chk8 (idw c Y.f1 7 (t33 t)) from chkw (hR 7 (t33 t))))
  iapply (wp_mark c (v := idw c Y.f1 7 (t33 t)) _ (hR 7 (t33 t)) rfl rfl) $$ H24
  iintro H24
  iapply wp_done
  isplitl [H23]; · iexact H23
  have he : actUp c Y.f1 (t.val + 1) = addTok c Y.f1 (t33 t) (actUp c Y.f1 t.val) := by
    rw [actUp]
    congr 1
    exact Fin.ext (Nat.mod_eq_of_lt (t33 t).isLt)
  rw [he]
  iexact H24

theorem wp_toks (hR : ∀ k t, (idw c Y.f1 k t).toNat < 32) {hok} {K : Unit → sProp (MT nD τ sig Unit (Elt F) ℕ (Pipeline.UD sig nD τ) ℕ)} :
    iprop(pt c B23 fullShare Y.f1 ∗ pt c B24 fullShare (actF (F := F) ∅) ∗ (iprop(pt c B23 fullShare Y.f1 ∗ pt c B24 fullShare (actF (F := F) (actUp c Y.f1 33))) -∗ K ()))
      ⊢ WP c (Scf.Loop.for k0_t1_loop hok () (T1 (F := F) M12 h12)) K := by
  unfold Scf.Loop.for
  iintro ⟨H23, H24, HK⟩
  iapply (Scf.wp_for frame (wpE (defs₀ (F := F)) Variants.none (c : Thread nD τ) none) Set.univ _ _ _ hok () _
    (fun i _ => iprop(pt c B23 fullShare Y.f1 ∗ pt c B24 fullShare (actF (F := F) (actUp c Y.f1 i)))) (fun t _ => wp_tok c M12 h12 Y hR t))
  isplitl [H23 H24]
  · isplitl [H23]; · iexact H23
    iexact H24
  iintro %acc HI
  iapply HK
  rw [show Scf.trips k0_t1_loop.lb k0_t1_loop.ub k0_t1_loop.st = 33 from trips1]
  iexact HI

/-- The experts of a set below `e`, in order. -/
def lst (S : Finset ℕ) (e : ℕ) : List ℕ := (List.range e).filter (· ∈ S)
theorem lst_len (S : Finset ℕ) (e : ℕ) : (lst S e).length ≤ e := by
  unfold lst
  exact (List.length_filter_le _ _).trans (le_of_eq List.length_range)
theorem lst_succ (S : Finset ℕ) (e : ℕ) : lst S (e + 1) = if e ∈ S then lst S e ++ [e] else lst S e := by
  unfold lst
  rw [List.range_succ, List.filter_append]
  by_cases h : e ∈ S
  · rw [if_pos h]; simp [h]
  · rw [if_neg h]; simp [h]

/-- The list buffer starts with the words of a list. -/
def ListIs (L : List ℕ) (f : Vec F S32 .i32) : Prop := ∀ x : S32.Idx, ∀ h : (x 0).val < L.length, f x = BitVec.ofNat 32 L[(x 0).val]

theorem list_step (S : Finset ℕ) (e : Fin 32) (f : Vec F S32 .i32) (hf : ListIs (lst S e.val) f)
    {inb : ∀ a, (![(BitVec.ofNat 32 (lst S e.val).length).toNat] : Fin 1 → ℕ) a + S1.size a ≤ S32.size a} :
    ListIs (F := F) (lst S (e.val + 1)) ((B25.access (Rect.unit (s := S32) ![(BitVec.ofNat 32 (lst S e.val).length).toNat] S1.size inb)).write (Elt F) f (fun _ => Scf.iv 0#32 1#32 e.val) Finset.univ : Vec F S32 .i32) := by
  intro x hx
  have hl := lst_len S e.val
  have hn : (BitVec.ofNat 32 (lst S e.val).length).toNat = (lst S e.val).length := by
    rw [BitVec.toNat_ofNat]; exact Nat.mod_eq_of_lt (by omega)
  rw [st25_at]
  have hiv : Scf.iv 0#32 1#32 e.val = BitVec.ofNat 32 e.val := iv_of e
  rw [hn, hiv]
  by_cases hS : e.val ∈ S
  · have hs := lst_succ S e.val
    rw [if_pos hS] at hs
    simp only [hs] at hx ⊢
    by_cases h : (x 0).val = (lst S e.val).length
    · rw [if_pos h]
      simp [h]
    · rw [if_neg h]
      rw [List.length_append, List.length_singleton] at hx
      have h' : (x 0).val < (lst S e.val).length := by omega
      rw [List.getElem_append_left h']
      exact hf x h'
  · have hs := lst_succ S e.val
    rw [if_neg hS] at hs
    simp only [hs] at hx ⊢
    rw [if_neg (by omega)]
    exact hf x hx

def ListInv (S : Finset ℕ) (e : ℕ) (v : BitVec 32) : sProp 𝕄 :=
  iprop(pt c B24 fullShare (actF (F := F) S) ∗ (∃ f : Cts (F := F) c B25, pt c B25 fullShare f ∗ ⌜v = BitVec.ofNat 32 (lst S e).length ∧ ListIs (F := F) (lst S e) f⌝))

theorem o1' {n m : ℕ} (h : n = m) : (![n] : Fin 1 → ℕ) = ![m] := by rw [h]
theorem eInb (e : Fin 32) : ∀ a, (![e.val] : Fin 1 → ℕ) a + S1.size a ≤ S32.size a := by revert e; decide

theorem act_word (S : Finset ℕ) (e : Fin 32) : rd c B24 (actF (F := F) S) ![e.val] S1.size (eInb e) (Shape.Idx.first (numel1_S1.symm ▸ Nat.one_pos)) = if e.val ∈ S then 1#32 else 0#32 := by
  show actF (F := F) S ((Rect.unit (s := S32) ![e.val] S1.size (eInb e)).emb (Shape.Idx.first (numel1_S1.symm ▸ Nat.one_pos))) = _
  unfold actF
  have : ((Rect.unit (s := S32) ![e.val] S1.size (eInb e)).emb (Shape.Idx.first (numel1_S1.symm ▸ Nat.one_pos)) 0).val = e.val := by
    show e.val + 1 * (Shape.Idx.first (s := S1) (numel1_S1.symm ▸ Nat.one_pos) 0).val = e.val
    have h1 : (Shape.Idx.first (s := S1) (numel1_S1.symm ▸ Nat.one_pos) 0).val < 1 := (Shape.Idx.first (s := S1) (numel1_S1.symm ▸ Nat.one_pos) 0).isLt
    omega
  rw [this]

theorem wp_st25 {α : Type} {Q : α → sProp (MT nD τ sig Unit (Elt F) ℕ (Pipeline.UD sig nD τ) ℕ)} {f : Cts (F := F) c B25} {off off' : Fin 1 → ℕ} (hoff : off = off')
    {inb : ∀ a, off a + S1.size a ≤ S32.size a} (inb' : ∀ a, off' a + S1.size a ≤ S32.size a) {w : Vec F S1 .i32} {hx hm}
    {k : PUnit → Prog (TpuEff nD τ sig (Elt F) Λ₀ .tc) α} :
    pt c B25 fullShare f
      ⊢ iprop((pt c B25 fullShare ((B25.access (Rect.unit (s := S32) off' S1.size inb')).write (Elt F) f w Finset.univ) -∗ WP c (k ⟨⟩) Q)
        -∗ WP c (.op (.store B25 (Rect.unit (s := S32) off S1.size inb) w Finset.univ hx hm) k) Q) := by
  subst hoff
  exact wp_store Variants.none (c : Thread nD τ) none Set.univ (m := B25) (hx := hx) (hm := hm) (S := Finset.univ) (f := f) (Finset.subset_univ _)

theorem wp_exp (S : Finset ℕ) (t : Fin k0_t2_loop.trips) (v : BitVec 32) :
    ListInv (F := F) c S t.val v ⊢ WP c (T2 (F := F) M12 h12 t v) (ListInv (F := F) c S (t.val + 1)) := by
  have ht : t.val < 32 := lt_of_lt_of_eq t.isLt trips2
  rw [T2]
  unfold k0_t2_body ListInv
  dsimp only [storeSubelements, smemLoad, smemLoadElt, Prog.bind_lift, Prog.bind_op, Prog.bind_ret, Prog.pure_eq_ret]
  iintro ⟨H24, %f, H25, %hf⟩
  obtain ⟨rfl, hf⟩ := hf
  have hl := lst_len S t.val
  have hn : (BitVec.ofNat 32 (lst S t.val).length).toNat = (lst S t.val).length := by
    rw [BitVec.toNat_ofNat]; exact Nat.mod_eq_of_lt (by omega)
  have hlt : (BitVec.ofNat 32 (lst S t.val).length).toNat < 32 := by rw [hn]; omega
  iapply (wp_assume Variants.none (c : Thread nD τ) none Set.univ (show k0_chk9 (BitVec.ofNat 32 (lst S t.val).length) from chkw hlt))
  iapply (wp_ld c (M := B25) (show k0_off17 _ = ![(BitVec.ofNat 32 (lst S t.val).length).toNat] from rfl) _ (chkw hlt)) $$ H25
  iintro H25
  iapply (wp_st25 c (show k0_off17 _ = ![(BitVec.ofNat 32 (lst S t.val).length).toNat] from rfl) (chkw hlt)) $$ H25
  iintro H25
  iapply (wp_ld c (M := B24) (show k0_off18 t = ![(⟨t.val, ht⟩ : Fin 32).val] from o1' (iv_nat ⟨t.val, by omega⟩)) _ (eInb ⟨t.val, ht⟩)) $$ H24
  iintro H24
  iapply wp_done
  isplitl [H24]; · iexact H24
  iexists _
  isplitl [H25]; · iexact H25
  ipureintro
  refine ⟨?_, list_step S ⟨t.val, ht⟩ f hf (inb := chkw hlt)⟩
  rw [act_word, lst_succ]
  show (BitVec.ofNat 32 _) + _ = _
  by_cases h : t.val ∈ S
  · rw [if_pos h, if_pos h, List.length_append, List.length_singleton, BitVec.ofNat_add]
  · rw [if_neg h, if_neg h, BitVec.add_zero]

theorem wp_exps (S : Finset ℕ) {hok} {K : BitVec 32 → sProp (MT nD τ sig Unit (Elt F) ℕ (Pipeline.UD sig nD τ) ℕ)} :
    iprop(pt c B24 fullShare (actF (F := F) S) ∗ some' (F := F) c B25 ∗ (iprop(pt c B24 fullShare (actF (F := F) S) ∗ (∃ f : Cts (F := F) c B25, pt c B25 fullShare f ∗ ⌜ListIs (F := F) (lst S 32) f⌝))
        -∗ K (BitVec.ofNat 32 (lst S 32).length)))
      ⊢ WP c (Scf.Loop.for k0_t2_loop hok 0#32 (T2 (F := F) M12 h12)) K := by
  unfold Scf.Loop.for
  iintro ⟨H24, ⟨%f, H25⟩, HK⟩
  iapply (Scf.wp_for frame (wpE (defs₀ (F := F)) Variants.none (c : Thread nD τ) none) Set.univ _ _ _ hok 0#32 _
    (fun i v => ListInv (F := F) c S i v) (fun t v => wp_exp c M12 h12 S t v))
  isplitl [H24 H25]
  · unfold ListInv
    isplitl [H24]; · iexact H24
    iexists f
    isplitl [H25]; · iexact H25
    ipureintro
    exact ⟨rfl, fun x h => absurd h (Nat.not_lt_zero _)⟩
  iintro %v HI
  rw [show Scf.trips k0_t2_loop.lb k0_t2_loop.ub k0_t2_loop.st = 32 from trips2]
  unfold ListInv
  icases HI with ⟨H24, %f, H25, %hf⟩
  obtain ⟨rfl, hf⟩ := hf
  iapply HK
  isplitl [H24]; · iexact H24
  iexists f
  isplitl [H25]; · iexact H25
  ipureintro; exact hf

theorem zero_act (f : Vec F S32 .i32) (hf : ∀ x : S32.Idx, (x 0).val < 32 → f x = 0#32) : f = actF (F := F) ∅ := by
  funext x
  rw [hf x (x 0).isLt]
  unfold actF
  rw [if_neg (Finset.notMem_empty _)]

/-- The active experts, in order, and how many. -/
def act : List ℕ := lst (actUp c Y.f1 33) 32
theorem fin_val (l : ℕ) (h : l < 33) : (⟨l, h⟩ : Fin 33).val = l := rfl
def cnt : Fin 33 := ⟨(act c Y).length, Nat.lt_succ_of_le (by unfold act; exact lst_len _ _)⟩
theorem cnt_val : (cnt c Y).val = (act c Y).length := by
  unfold cnt
  exact fin_val _ _

theorem wp_part35 (hR : ∀ k t, (idw c Y.f1 k t).toNat < 32) {K} :
    iprop(Zeroed (F := F) c 20 ∗ pt c B23 fullShare Y.f1 ∗ some' (F := F) c B25
        ∗ (iprop(some' (F := F) c B24 ∗ pt c B23 fullShare Y.f1 ∗ (∃ f : Cts (F := F) c B25, pt c B25 fullShare f ∗ ⌜ListIs (F := F) (act c Y) f⌝)) -∗ K (nw (cnt c Y))))
      ⊢ WP c (P35 (F := F) M12 h12) K := by
  unfold cnt act
  rw [P35, k0_part35_eq_skeleton]
  unfold k0_part35_skel
  dsimp only [storeSubelements, smemLoad, smemLoadElt, Prog.bind_lift, Prog.bind_op, Prog.bind_ret, Prog.pure_eq_ret]
  iintro ⟨HZ, H23, H25, HK⟩
  iapply (wp_zero c (q := 20)) $$ HZ
  iintro HZ
  iapply (wp_zero c (q := 21)) $$ HZ
  iintro HZ
  iapply (wp_zero c (q := 22)) $$ HZ
  iintro HZ
  iapply (wp_zero c (q := 23)) $$ HZ
  iintro HZ
  iapply (wp_zero c (q := 24)) $$ HZ
  iintro HZ
  iapply (wp_zero c (q := 25)) $$ HZ
  iintro HZ
  iapply (wp_zero c (q := 26)) $$ HZ
  iintro HZ
  iapply (wp_zero c (q := 27)) $$ HZ
  iintro HZ
  iapply (wp_zero c (q := 28)) $$ HZ
  iintro HZ
  iapply (wp_zero c (q := 29)) $$ HZ
  iintro HZ
  iapply (wp_zero c (q := 30)) $$ HZ
  iintro HZ
  iapply (wp_zero c (q := 31)) $$ HZ
  iintro HZ
  unfold Zeroed
  icases HZ with ⟨%f, H24, %hf⟩
  iapply wp_seq
  iapply (wp_toks c M12 h12 Y hR)
  isplitl [H23]; · iexact H23
  isplitl [H24]
  · iapply (pt_congr c (M := B24) (zero_act f hf)) $$ H24
  iintro ⟨H23, H24⟩
  iapply (wp_exps c M12 h12 (actUp c Y.f1 33))
  isplitl [H24]; · iexact H24
  isplitl [H25]; · iexact H25
  iintro ⟨H24, H25⟩
  iapply HK
  isplitl [H24]; · iexists _; iexact H24
  isplitl [H23] <;> iassumption

end

end Cert.KernelIdeal.Hand
-- ==== Proof.KernelIdeal.Items.lean ====
/-
  Hand-written. The loop over the items: what holds before each, and the loop's rule.
-/
module

public import proofs.«01_k».proof.Proof.KernelIdeal.Offsets
public import proofs.«01_k».proof.Proof.KernelIdeal.Shared

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

section
variable (c : Dev nD) (M12 : Memref sig .tc .vmem S33x7168 .bf16) (h12 : M12.IsWhole)

/-- The contents the loop over the items reads and does not change: the four weights in HBM, the ids and the weights by
    token, the scales, the list of experts and the normalised tokens. -/
structure Fixed (F : FTy → Type) [FloatOps F] [Named F] (c : Dev nD) where
  f3 : Cts (F := F) c A3
  f5 : Cts (F := F) c A5
  f8 : Cts (F := F) c A8
  f10 : Cts (F := F) c A10
  f16 : Cts (F := F) c B16
  f17 : Cts (F := F) c B17
  f18 : Cts (F := F) c B18
  f19 : Cts (F := F) c B19
  f21 : Cts (F := F) c B21
  f22 : Cts (F := F) c B22
  f25 : Cts (F := F) c B25
  f26 : Cts (F := F) c B26

variable (X : Fixed F c) (n : Fin 33)

/-- The list's word at a place, and the expert it names. -/
abbrev lq (q : Fin 32) : BitVec 32 := lv c X.f25 ![q.val] (listInb q)
def ex (q : Fin 32) : Fin 32 := ⟨(lq c X q).toNat % 32, Nat.mod_lt _ (by decide)⟩

/-- The weights of item `i`: the shared expert's halves, then the experts of the list. -/
def guV (i : ℕ) (j : Fin 7) : Vec F S1x1024x1536 .fp8e4m3 :=
  if i < 2 then shGu c X.f8 (slot i) j else guW c X.f3 (ex c X (curAt n i)) j
def dnV (i : ℕ) (j : Fin 7) : Vec F S1x768x1024 .fp8e4m3 :=
  if i < 2 then shDn c X.f10 (slot i) j else dnW c X.f5 (ex c X (curAt n i)) j

/-- Whether item `i` is a shared one, as the kernel computes it. -/
abbrev isSh (i : ℕ) : BitVec 1 := Scalar.cmpi .slt (Scf.iv 0#32 1#32 i) 2#32
/-- The word of the expert trip `i` masks by. -/
abbrev itemId (i : ℕ) : BitVec 32 := lq c X (curAt n i)

/-- An item's masked activations. -/
def hAt (i : ℕ) : Vec F S48x768 .bf16 :=
  hItem c X.f16 X.f18 X.f21 X.f26 (isSh i) (itemId c X n i) (ex c X (curAt n i)) (half i) (guV c X n i)

/-- The accumulator before item `i`. -/
def accAt (A : Fin 7 → Vec F S33x1024 .f32) : ℕ → Fin 7 → Vec F S33x1024 .f32
  | 0 => A
  | i + 1 => accItem c X.f19 X.f22 (isSh i) (ex c X (curAt n i)) (k0_pay13 (isSh i) (itemId c X n i) (ids c X.f16) (ewv c X.f17))
      (hAt c X n i) (dnV c X n i) (accAt A i)

abbrev GuS (i : ℕ) (j : Fin 7) : sProp 𝕄 := GuSlot c X.f3 X.f8 (i < 2 + n.val) (slot i) j (guV c X n i j)
abbrev DnS (i : ℕ) (j : Fin 7) : sProp 𝕄 := DnSlot c X.f5 X.f10 (i < 2 + n.val) (slot i) j (dnV c X n i j)

/-- What the loop keeps. -/
abbrev FixedPts : sProp 𝕄 := iprop(pt c B16 fullShare X.f16 ∗ pt c B17 fullShare X.f17 ∗ pt c B18 fullShare X.f18 ∗ pt c B19 fullShare X.f19 ∗ pt c B21 fullShare X.f21 ∗ pt c B22 fullShare X.f22 ∗ pt c B25 fullShare X.f25 ∗ pt c B26 fullShare X.f26)

def ItemInv (A : Fin 7 → Vec F S33x1024 .f32) (i : ℕ) : sProp 𝕄 :=
  iprop(FixedPts c X ∗ (∃ g : Vec F S48x1536 .f32, pt c B27 fullShare g) ∗ (∃ h : Vec F S48x768 .bf16, pt c B28 fullShare h) ∗ AccIs c (accAt c X n A i)
    ∗ sep7 (GuS c X n i) ∗ sep7 (GuS c X n (i + 1)) ∗ sep7 (DnS c X n i) ∗ sep7 (DnS c X n (i + 1)) ∗ Ow (F := F) c)

theorem sep7_mono {P Q : Fin 7 → sProp (MT nD τ sig Unit (Elt F) ℕ (Pipeline.UD sig nD τ) ℕ)} (h : ∀ j, P j ⊢ Q j) : sep7 P ⊢ sep7 Q := by
  iintro ⟨H0, H1, H2, H3, H4, H5, H6⟩
  isplitl [H0]; · iapply (h 0) $$ H0
  isplitl [H1]; · iapply (h 1) $$ H1
  isplitl [H2]; · iapply (h 2) $$ H2
  isplitl [H3]; · iapply (h 3) $$ H3
  isplitl [H4]; · iapply (h 4) $$ H4
  isplitl [H5]; · iapply (h 5) $$ H5
  iapply (h 6) $$ H6

theorem slot_add (i : ℕ) : slot (i + 1 + 1) = slot i := Fin.ext (Nat.add_mod_right i 2)

variable {c X n}

theorem gu_fly {i : ℕ} (hi : i < 2 + n.val) (j : Fin 7) : GuS c X n i j ⊢ GuFly c X.f3 X.f8 (slot i) j (guV c X n i j) := by
  unfold GuS GuSlot; rw [if_pos hi]
theorem dn_fly {i : ℕ} (hi : i < 2 + n.val) (j : Fin 7) : DnS c X n i j ⊢ DnFly c X.f5 X.f10 (slot i) j (dnV c X n i j) := by
  unfold DnS DnSlot; rw [if_pos hi]

theorem ex_next {i : ℕ} (hi : i < n.val) : nxtAt n i = curAt n (i + 1 + 1) := Fin.ext (by
  show min i (n.val - 1) % 32 = (i + 1 + 1 - 2) % 32
  rw [show min i (n.val - 1) = i + 1 + 1 - 2 by omega])

theorem gu_next {k : Fin (k0_t3_loop (nw n)).trips} (j : Fin 7) :
    GuSlot c X.f3 X.f8 (k0_cond1 (nw n) k = 1#1) (slot k.val) j (guW c X.f3 (ex c X (nxtAt n k.val)) j) ⊢ GuS c X n (k.val + 1 + 1) j := by
  unfold GuS GuSlot
  rw [slot_add]
  by_cases h : k.val < n.val
  · rw [if_pos ((cond1_iff n k).mpr h), if_pos (show k.val + 1 + 1 < 2 + n.val by omega)]
    unfold guV
    rw [if_neg (show ¬ k.val + 1 + 1 < 2 by omega), ex_next h]
  · rw [if_neg (fun h' => h ((cond1_iff n k).mp h')), if_neg (show ¬ k.val + 1 + 1 < 2 + n.val by omega)]
theorem dn_next {k : Fin (k0_t3_loop (nw n)).trips} (j : Fin 7) :
    DnSlot c X.f5 X.f10 (k0_cond1 (nw n) k = 1#1) (slot k.val) j (dnW c X.f5 (ex c X (nxtAt n k.val)) j) ⊢ DnS c X n (k.val + 1 + 1) j := by
  unfold DnS DnSlot
  rw [slot_add]
  by_cases h : k.val < n.val
  · rw [if_pos ((cond1_iff n k).mpr h), if_pos (show k.val + 1 + 1 < 2 + n.val by omega)]
    unfold dnV
    rw [if_neg (show ¬ k.val + 1 + 1 < 2 by omega), ex_next h]
  · rw [if_neg (fun h' => h ((cond1_iff n k).mp h')), if_neg (show ¬ k.val + 1 + 1 < 2 + n.val by omega)]

theorem lv_congr {f : Cts (F := F) c B25} {off off' : Fin 1 → ℕ} (h : off = off') (inb : ∀ a, off a + S1.size a ≤ S32.size a)
    (inb' : ∀ a, off' a + S1.size a ≤ S32.size a) : lv c f off inb = lv c f off' inb' := by subst h; rfl

theorem ex_nat (hL : ∀ q : Fin 32, q.val < n.val → (lq c X q).toNat < 32) {q : Fin 32} (hq : q.val < n.val) : (lq c X q).toNat = (ex c X q).val :=
  (Nat.mod_eq_of_lt (hL q hq)).symm

/-- One trip of the loop. -/
theorem item_step (hn : 0 < n.val) (hL : ∀ q : Fin 32, q.val < n.val → (lq c X q).toNat < 32) (hw10 : k0_chk10 (nw n))
    (A : Fin 7 → Vec F S33x1024 .f32) (v289 : FVec F S33x7168 .f32) (k : Fin (k0_t3_loop (nw n)).trips) :
    ItemInv c X n A k.val ⊢ WP c (T3 (F := F) M12 h12 (nw n) hw10 (Scalar.addi 2#32 (nw n)) v289 k ()) (fun _ => ItemInv c X n A (k.val + 1)) := by
  have hk := lt3 k
  have hcur : (curAt n k.val).val < n.val := by
    show (k.val - 2) % 32 < n.val
    have := n.isLt
    rw [Nat.mod_eq_of_lt (by omega)]; omega
  have hnxt : (nxtAt n k.val).val < n.val := by
    show (min k.val (n.val - 1)) % 32 < n.val
    have := n.isLt
    rw [Nat.mod_eq_of_lt (by omega)]; omega
  unfold ItemInv FixedPts
  iintro ⟨⟨H16, H17, H18, H19, H21, H22, H25, H26⟩, ⟨%g, H27⟩, ⟨%h, H28⟩, Hacc, Hg0, Hg1, Hd0, Hd1, Hw⟩
  ihave Hg0 : _ $$ [Hg0]
  · iapply (sep7_mono (gu_fly (c := c) (X := X) (n := n) hk)) $$ Hg0
  ihave Hd0 : _ $$ [Hd0]
  · iapply (sep7_mono (dn_fly (c := c) (X := X) (n := n) hk)) $$ Hd0
  iapply (wp_trip c M12 h12 (s := slot k.val) (a := lq c X (curAt n k.val)) (b := lq c X (nxtAt n k.val)) (e := ex c X (curAt n k.val)) (e' := ex c X (nxtAt n k.val))
    (m := half k.val) (w327 := isSh k.val) (W := guV c X n k.val) (D := dnV c X n k.val) (A := accAt c X n A k.val) (f3 := X.f3) (f5 := X.f5) (f8 := X.f8) (f10 := X.f10)
    (hw10 := hw10) (sl_eq n k) (ex_nat hL hcur) (ex_nat hL hnxt) (chk12 (ex_nat hL hcur)) (chk11 k (ex_nat hL hnxt))
    (lv_congr (off19_eq hn k) _ _) (lv_congr (off20_eq hn k) _ _) (off63_eq n k) (off65_eq n k) rfl)
  iframe H16 H17 H18 H19 H21 H22 H25 H26 H27 H28 Hacc Hg0 Hd0 Hw
  iintro ⟨H16, H17, H18, H19, H21, H22, H25, H26, H27, H28, Hacc, Hg0, Hd0, Hw⟩
  isplitl [H16 H17 H18 H19 H21 H22 H25 H26]
  · iframe
  isplitl [H27]; · iexists _; iexact H27
  isplitl [H28]; · iexists _; iexact H28
  isplitl [Hacc]; · iexact Hacc
  isplitl [Hg1]; · iexact Hg1
  isplitl [Hg0]
  · iapply (sep7_mono (gu_next (c := c) (X := X) (n := n) (k := k))) $$ Hg0
  isplitl [Hd1]; · iexact Hd1
  isplitl [Hd0]
  · iapply (sep7_mono (dn_next (c := c) (X := X) (n := n) (k := k))) $$ Hd0
  iexact Hw

/-- The loop over the items. -/
theorem wp_items (hn : 0 < n.val) (hL : ∀ q : Fin 32, q.val < n.val → (lq c X q).toNat < 32) (hw10 : k0_chk10 (nw n)) {hok}
    (A : Fin 7 → Vec F S33x1024 .f32) (v289 : FVec F S33x7168 .f32) {K : Unit → sProp (MT nD τ sig Unit (Elt F) ℕ (Pipeline.UD sig nD τ) ℕ)} :
    iprop(ItemInv c X n A 0 ∗ (ItemInv c X n A (2 + n.val) -∗ K ()))
      ⊢ WP c (Scf.Loop.for (k0_t3_loop (nw n)) hok () (T3 (F := F) M12 h12 (nw n) hw10 (Scalar.addi 2#32 (nw n)) v289)) K := by
  unfold Scf.Loop.for
  iintro ⟨HI, HK⟩
  iapply (Scf.wp_for frame (wpE (defs₀ (F := F)) Variants.none (c : Thread nD τ) none) Set.univ _ _ _ hok () _ (fun i _ => ItemInv c X n A i)
    (fun k _ => item_step M12 h12 hn hL hw10 A v289 k))
  isplitl [HI]; · iexact HI
  iintro %acc HI
  iapply HK
  rw [show Scf.trips (k0_t3_loop (nw n)).lb (k0_t3_loop (nw n)).ub (k0_t3_loop (nw n)).st = 2 + n.val from trips3 n]
  iexact HI

end

end Cert.KernelIdeal.Hand
-- ==== Proof.KernelIdeal.Main.lean ====
/-
  Hand-written. The waits for the small operands, the normalised tokens and the accumulator's start, and the loop over the items.
-/
module

public import proofs.«01_k».proof.Proof.KernelIdeal.Lists
public import proofs.«01_k».proof.Proof.KernelIdeal.Items

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

section
variable (c : Dev nD) (M12 : Memref sig .tc .vmem S33x7168 .bf16) (h12 : M12.IsWhole) (Y : Ops F c)

theorem rd13 (f : Vec F S33x7168 .bf16) (inb : ∀ a, (![0, 0] : Fin 2 → ℕ) a + S33x7168.size a ≤ S33x7168.size a) : rd c B13 f ![0, 0] S33x7168.size inb = f := by
  funext x
  show f ((Rect.unit (s := S33x7168) ![0, 0] S33x7168.size inb).emb x) = f x
  rw [emb_all _ (by decide)]
theorem wp_ld13 {α : Type} {Q : α → sProp (MT nD τ sig Unit (Elt F) ℕ (Pipeline.UD sig nD τ) ℕ)} {f : Vec F S33x7168 .bf16} {inb : ∀ a, (![0, 0] : Fin 2 → ℕ) a + S33x7168.size a ≤ S33x7168.size a}
    {hl : B13.view.LoadsAt (Rect.unit (s := S33x7168) ![0, 0] S33x7168.size inb).toLoadRect}
    {k : Vec F S33x7168 .bf16 → Prog (TpuEff nD τ sig (Elt F) Λ₀ .tc) α} :
    pt c B13 fullShare f ⊢ iprop((pt c B13 fullShare f -∗ WP c (k f) Q)
        -∗ WP c (.op (.load B13 (Rect.unit (s := S33x7168) ![0, 0] S33x7168.size inb).toLoadRect hl) k) Q) := by
  have h := wp_ld (F := F) c (M := B13) (q := fullShare) (f := f) (Q := Q) (k := k) rfl inb inb (hl := hl)
  rwa [rd13] at h
theorem write13 (c : Dev nD) (f w : Vec F S33x7168 .bf16) (inb : ∀ a, (![0, 0] : Fin 2 → ℕ) a + S33x7168.size a ≤ S33x7168.size a) :
    ((B13.access (Rect.unit (s := S33x7168) ![0, 0] S33x7168.size inb)).write (Elt F) f w Finset.univ : Vec F S33x7168 .bf16) = w :=
  (rd13 c ((B13.access (Rect.unit (s := S33x7168) ![0, 0] S33x7168.size inb)).write (Elt F) f w Finset.univ) inb).symm.trans
    (View.read_write_univ (v := B13.access (Rect.unit (s := S33x7168) ![0, 0] S33x7168.size inb)) f w)
theorem wp_st13 {α : Type} {Q : α → sProp (MT nD τ sig Unit (Elt F) ℕ (Pipeline.UD sig nD τ) ℕ)} {f w : Vec F S33x7168 .bf16} {inb : ∀ a, (![0, 0] : Fin 2 → ℕ) a + S33x7168.size a ≤ S33x7168.size a}
    {hx : (B13.access (Rect.unit (s := S33x7168) ![0, 0] S33x7168.size inb)).Stores Finset.univ} {hm}
    {k : PUnit → Prog (TpuEff nD τ sig (Elt F) Λ₀ .tc) α} :
    pt c B13 fullShare f ⊢ iprop((pt c B13 fullShare w -∗ WP c (k ⟨⟩) Q)
        -∗ WP c (.op (.store B13 (Rect.unit (s := S33x7168) ![0, 0] S33x7168.size inb) w Finset.univ hx hm) k) Q) := by
  iintro Hf Hk
  iapply (wp_store Variants.none (c : Thread nD τ) none Set.univ (m := B13) (hx := hx) (hm := hm) (S := Finset.univ) (f := f) (Finset.subset_univ _)) $$ Hf
  iintro Hf
  iapply Hk
  iapply (pt_congr c (write13 c f w inb)) $$ Hf

theorem rd14 (f : Vec F S8x33 .i32) (inb : ∀ a, (![0, 0] : Fin 2 → ℕ) a + S8x33.size a ≤ S8x33.size a) : rd c B14 f ![0, 0] S8x33.size inb = f := by
  funext x
  show f ((Rect.unit (s := S8x33) ![0, 0] S8x33.size inb).emb x) = f x
  rw [emb_all _ (by decide)]
theorem wp_ld14 {α : Type} {Q : α → sProp (MT nD τ sig Unit (Elt F) ℕ (Pipeline.UD sig nD τ) ℕ)} {f : Vec F S8x33 .i32} {inb : ∀ a, (![0, 0] : Fin 2 → ℕ) a + S8x33.size a ≤ S8x33.size a}
    {hl : B14.view.LoadsAt (Rect.unit (s := S8x33) ![0, 0] S8x33.size inb).toLoadRect}
    {k : Vec F S8x33 .i32 → Prog (TpuEff nD τ sig (Elt F) Λ₀ .tc) α} :
    pt c B14 fullShare f ⊢ iprop((pt c B14 fullShare f -∗ WP c (k f) Q)
        -∗ WP c (.op (.load B14 (Rect.unit (s := S8x33) ![0, 0] S8x33.size inb).toLoadRect hl) k) Q) := by
  have h := wp_ld (F := F) c (M := B14) (q := fullShare) (f := f) (Q := Q) (k := k) rfl inb inb (hl := hl)
  rwa [rd14] at h
theorem write14 (c : Dev nD) (f w : Vec F S8x33 .i32) (inb : ∀ a, (![0, 0] : Fin 2 → ℕ) a + S8x33.size a ≤ S8x33.size a) :
    ((B14.access (Rect.unit (s := S8x33) ![0, 0] S8x33.size inb)).write (Elt F) f w Finset.univ : Vec F S8x33 .i32) = w :=
  (rd14 c ((B14.access (Rect.unit (s := S8x33) ![0, 0] S8x33.size inb)).write (Elt F) f w Finset.univ) inb).symm.trans
    (View.read_write_univ (v := B14.access (Rect.unit (s := S8x33) ![0, 0] S8x33.size inb)) f w)
theorem wp_st14 {α : Type} {Q : α → sProp (MT nD τ sig Unit (Elt F) ℕ (Pipeline.UD sig nD τ) ℕ)} {f w : Vec F S8x33 .i32} {inb : ∀ a, (![0, 0] : Fin 2 → ℕ) a + S8x33.size a ≤ S8x33.size a}
    {hx : (B14.access (Rect.unit (s := S8x33) ![0, 0] S8x33.size inb)).Stores Finset.univ} {hm}
    {k : PUnit → Prog (TpuEff nD τ sig (Elt F) Λ₀ .tc) α} :
    pt c B14 fullShare f ⊢ iprop((pt c B14 fullShare w -∗ WP c (k ⟨⟩) Q)
        -∗ WP c (.op (.store B14 (Rect.unit (s := S8x33) ![0, 0] S8x33.size inb) w Finset.univ hx hm) k) Q) := by
  iintro Hf Hk
  iapply (wp_store Variants.none (c : Thread nD τ) none Set.univ (m := B14) (hx := hx) (hm := hm) (S := Finset.univ) (f := f) (Finset.subset_univ _)) $$ Hf
  iintro Hf
  iapply Hk
  iapply (pt_congr c (write14 c f w inb)) $$ Hf

theorem rd15 (f : Vec F S8x33 .f32) (inb : ∀ a, (![0, 0] : Fin 2 → ℕ) a + S8x33.size a ≤ S8x33.size a) : rd c B15 f ![0, 0] S8x33.size inb = f := by
  funext x
  show f ((Rect.unit (s := S8x33) ![0, 0] S8x33.size inb).emb x) = f x
  rw [emb_all _ (by decide)]
theorem wp_ld15 {α : Type} {Q : α → sProp (MT nD τ sig Unit (Elt F) ℕ (Pipeline.UD sig nD τ) ℕ)} {f : Vec F S8x33 .f32} {inb : ∀ a, (![0, 0] : Fin 2 → ℕ) a + S8x33.size a ≤ S8x33.size a}
    {hl : B15.view.LoadsAt (Rect.unit (s := S8x33) ![0, 0] S8x33.size inb).toLoadRect}
    {k : Vec F S8x33 .f32 → Prog (TpuEff nD τ sig (Elt F) Λ₀ .tc) α} :
    pt c B15 fullShare f ⊢ iprop((pt c B15 fullShare f -∗ WP c (k f) Q)
        -∗ WP c (.op (.load B15 (Rect.unit (s := S8x33) ![0, 0] S8x33.size inb).toLoadRect hl) k) Q) := by
  have h := wp_ld (F := F) c (M := B15) (q := fullShare) (f := f) (Q := Q) (k := k) rfl inb inb (hl := hl)
  rwa [rd15] at h
theorem write15 (c : Dev nD) (f w : Vec F S8x33 .f32) (inb : ∀ a, (![0, 0] : Fin 2 → ℕ) a + S8x33.size a ≤ S8x33.size a) :
    ((B15.access (Rect.unit (s := S8x33) ![0, 0] S8x33.size inb)).write (Elt F) f w Finset.univ : Vec F S8x33 .f32) = w :=
  (rd15 c ((B15.access (Rect.unit (s := S8x33) ![0, 0] S8x33.size inb)).write (Elt F) f w Finset.univ) inb).symm.trans
    (View.read_write_univ (v := B15.access (Rect.unit (s := S8x33) ![0, 0] S8x33.size inb)) f w)
theorem wp_st15 {α : Type} {Q : α → sProp (MT nD τ sig Unit (Elt F) ℕ (Pipeline.UD sig nD τ) ℕ)} {f w : Vec F S8x33 .f32} {inb : ∀ a, (![0, 0] : Fin 2 → ℕ) a + S8x33.size a ≤ S8x33.size a}
    {hx : (B15.access (Rect.unit (s := S8x33) ![0, 0] S8x33.size inb)).Stores Finset.univ} {hm}
    {k : PUnit → Prog (TpuEff nD τ sig (Elt F) Λ₀ .tc) α} :
    pt c B15 fullShare f ⊢ iprop((pt c B15 fullShare w -∗ WP c (k ⟨⟩) Q)
        -∗ WP c (.op (.store B15 (Rect.unit (s := S8x33) ![0, 0] S8x33.size inb) w Finset.univ hx hm) k) Q) := by
  iintro Hf Hk
  iapply (wp_store Variants.none (c : Thread nD τ) none Set.univ (m := B15) (hx := hx) (hm := hm) (S := Finset.univ) (f := f) (Finset.subset_univ _)) $$ Hf
  iintro Hf
  iapply Hk
  iapply (pt_congr c (write15 c f w inb)) $$ Hf

theorem rd16 (f : Vec F S33x8 .i32) (inb : ∀ a, (![0, 0] : Fin 2 → ℕ) a + S33x8.size a ≤ S33x8.size a) : rd c B16 f ![0, 0] S33x8.size inb = f := by
  funext x
  show f ((Rect.unit (s := S33x8) ![0, 0] S33x8.size inb).emb x) = f x
  rw [emb_all _ (by decide)]
theorem wp_ld16 {α : Type} {Q : α → sProp (MT nD τ sig Unit (Elt F) ℕ (Pipeline.UD sig nD τ) ℕ)} {f : Vec F S33x8 .i32} {inb : ∀ a, (![0, 0] : Fin 2 → ℕ) a + S33x8.size a ≤ S33x8.size a}
    {hl : B16.view.LoadsAt (Rect.unit (s := S33x8) ![0, 0] S33x8.size inb).toLoadRect}
    {k : Vec F S33x8 .i32 → Prog (TpuEff nD τ sig (Elt F) Λ₀ .tc) α} :
    pt c B16 fullShare f ⊢ iprop((pt c B16 fullShare f -∗ WP c (k f) Q)
        -∗ WP c (.op (.load B16 (Rect.unit (s := S33x8) ![0, 0] S33x8.size inb).toLoadRect hl) k) Q) := by
  have h := wp_ld (F := F) c (M := B16) (q := fullShare) (f := f) (Q := Q) (k := k) rfl inb inb (hl := hl)
  rwa [rd16] at h
theorem write16 (c : Dev nD) (f w : Vec F S33x8 .i32) (inb : ∀ a, (![0, 0] : Fin 2 → ℕ) a + S33x8.size a ≤ S33x8.size a) :
    ((B16.access (Rect.unit (s := S33x8) ![0, 0] S33x8.size inb)).write (Elt F) f w Finset.univ : Vec F S33x8 .i32) = w :=
  (rd16 c ((B16.access (Rect.unit (s := S33x8) ![0, 0] S33x8.size inb)).write (Elt F) f w Finset.univ) inb).symm.trans
    (View.read_write_univ (v := B16.access (Rect.unit (s := S33x8) ![0, 0] S33x8.size inb)) f w)
theorem wp_st16 {α : Type} {Q : α → sProp (MT nD τ sig Unit (Elt F) ℕ (Pipeline.UD sig nD τ) ℕ)} {f w : Vec F S33x8 .i32} {inb : ∀ a, (![0, 0] : Fin 2 → ℕ) a + S33x8.size a ≤ S33x8.size a}
    {hx : (B16.access (Rect.unit (s := S33x8) ![0, 0] S33x8.size inb)).Stores Finset.univ} {hm}
    {k : PUnit → Prog (TpuEff nD τ sig (Elt F) Λ₀ .tc) α} :
    pt c B16 fullShare f ⊢ iprop((pt c B16 fullShare w -∗ WP c (k ⟨⟩) Q)
        -∗ WP c (.op (.store B16 (Rect.unit (s := S33x8) ![0, 0] S33x8.size inb) w Finset.univ hx hm) k) Q) := by
  iintro Hf Hk
  iapply (wp_store Variants.none (c : Thread nD τ) none Set.univ (m := B16) (hx := hx) (hm := hm) (S := Finset.univ) (f := f) (Finset.subset_univ _)) $$ Hf
  iintro Hf
  iapply Hk
  iapply (pt_congr c (write16 c f w inb)) $$ Hf

theorem rd17 (f : Vec F S33x8 .f32) (inb : ∀ a, (![0, 0] : Fin 2 → ℕ) a + S33x8.size a ≤ S33x8.size a) : rd c B17 f ![0, 0] S33x8.size inb = f := by
  funext x
  show f ((Rect.unit (s := S33x8) ![0, 0] S33x8.size inb).emb x) = f x
  rw [emb_all _ (by decide)]
theorem wp_ld17 {α : Type} {Q : α → sProp (MT nD τ sig Unit (Elt F) ℕ (Pipeline.UD sig nD τ) ℕ)} {f : Vec F S33x8 .f32} {inb : ∀ a, (![0, 0] : Fin 2 → ℕ) a + S33x8.size a ≤ S33x8.size a}
    {hl : B17.view.LoadsAt (Rect.unit (s := S33x8) ![0, 0] S33x8.size inb).toLoadRect}
    {k : Vec F S33x8 .f32 → Prog (TpuEff nD τ sig (Elt F) Λ₀ .tc) α} :
    pt c B17 fullShare f ⊢ iprop((pt c B17 fullShare f -∗ WP c (k f) Q)
        -∗ WP c (.op (.load B17 (Rect.unit (s := S33x8) ![0, 0] S33x8.size inb).toLoadRect hl) k) Q) := by
  have h := wp_ld (F := F) c (M := B17) (q := fullShare) (f := f) (Q := Q) (k := k) rfl inb inb (hl := hl)
  rwa [rd17] at h
theorem write17 (c : Dev nD) (f w : Vec F S33x8 .f32) (inb : ∀ a, (![0, 0] : Fin 2 → ℕ) a + S33x8.size a ≤ S33x8.size a) :
    ((B17.access (Rect.unit (s := S33x8) ![0, 0] S33x8.size inb)).write (Elt F) f w Finset.univ : Vec F S33x8 .f32) = w :=
  (rd17 c ((B17.access (Rect.unit (s := S33x8) ![0, 0] S33x8.size inb)).write (Elt F) f w Finset.univ) inb).symm.trans
    (View.read_write_univ (v := B17.access (Rect.unit (s := S33x8) ![0, 0] S33x8.size inb)) f w)
theorem wp_st17 {α : Type} {Q : α → sProp (MT nD τ sig Unit (Elt F) ℕ (Pipeline.UD sig nD τ) ℕ)} {f w : Vec F S33x8 .f32} {inb : ∀ a, (![0, 0] : Fin 2 → ℕ) a + S33x8.size a ≤ S33x8.size a}
    {hx : (B17.access (Rect.unit (s := S33x8) ![0, 0] S33x8.size inb)).Stores Finset.univ} {hm}
    {k : PUnit → Prog (TpuEff nD τ sig (Elt F) Λ₀ .tc) α} :
    pt c B17 fullShare f ⊢ iprop((pt c B17 fullShare w -∗ WP c (k ⟨⟩) Q)
        -∗ WP c (.op (.store B17 (Rect.unit (s := S33x8) ![0, 0] S33x8.size inb) w Finset.univ hx hm) k) Q) := by
  iintro Hf Hk
  iapply (wp_store Variants.none (c : Thread nD τ) none Set.univ (m := B17) (hx := hx) (hm := hm) (S := Finset.univ) (f := f) (Finset.subset_univ _)) $$ Hf
  iintro Hf
  iapply Hk
  iapply (pt_congr c (write17 c f w inb)) $$ Hf

theorem rd20 (f : Vec F S1x7168 .f32) (inb : ∀ a, (![0, 0] : Fin 2 → ℕ) a + S1x7168.size a ≤ S1x7168.size a) : rd c B20 f ![0, 0] S1x7168.size inb = f := by
  funext x
  show f ((Rect.unit (s := S1x7168) ![0, 0] S1x7168.size inb).emb x) = f x
  rw [emb_all _ (by decide)]
theorem wp_ld20 {α : Type} {Q : α → sProp (MT nD τ sig Unit (Elt F) ℕ (Pipeline.UD sig nD τ) ℕ)} {f : Vec F S1x7168 .f32} {inb : ∀ a, (![0, 0] : Fin 2 → ℕ) a + S1x7168.size a ≤ S1x7168.size a}
    {hl : B20.view.LoadsAt (Rect.unit (s := S1x7168) ![0, 0] S1x7168.size inb).toLoadRect}
    {k : Vec F S1x7168 .f32 → Prog (TpuEff nD τ sig (Elt F) Λ₀ .tc) α} :
    pt c B20 fullShare f ⊢ iprop((pt c B20 fullShare f -∗ WP c (k f) Q)
        -∗ WP c (.op (.load B20 (Rect.unit (s := S1x7168) ![0, 0] S1x7168.size inb).toLoadRect hl) k) Q) := by
  have h := wp_ld (F := F) c (M := B20) (q := fullShare) (f := f) (Q := Q) (k := k) rfl inb inb (hl := hl)
  rwa [rd20] at h
theorem write20 (c : Dev nD) (f w : Vec F S1x7168 .f32) (inb : ∀ a, (![0, 0] : Fin 2 → ℕ) a + S1x7168.size a ≤ S1x7168.size a) :
    ((B20.access (Rect.unit (s := S1x7168) ![0, 0] S1x7168.size inb)).write (Elt F) f w Finset.univ : Vec F S1x7168 .f32) = w :=
  (rd20 c ((B20.access (Rect.unit (s := S1x7168) ![0, 0] S1x7168.size inb)).write (Elt F) f w Finset.univ) inb).symm.trans
    (View.read_write_univ (v := B20.access (Rect.unit (s := S1x7168) ![0, 0] S1x7168.size inb)) f w)
theorem wp_st20 {α : Type} {Q : α → sProp (MT nD τ sig Unit (Elt F) ℕ (Pipeline.UD sig nD τ) ℕ)} {f w : Vec F S1x7168 .f32} {inb : ∀ a, (![0, 0] : Fin 2 → ℕ) a + S1x7168.size a ≤ S1x7168.size a}
    {hx : (B20.access (Rect.unit (s := S1x7168) ![0, 0] S1x7168.size inb)).Stores Finset.univ} {hm}
    {k : PUnit → Prog (TpuEff nD τ sig (Elt F) Λ₀ .tc) α} :
    pt c B20 fullShare f ⊢ iprop((pt c B20 fullShare w -∗ WP c (k ⟨⟩) Q)
        -∗ WP c (.op (.store B20 (Rect.unit (s := S1x7168) ![0, 0] S1x7168.size inb) w Finset.univ hx hm) k) Q) := by
  iintro Hf Hk
  iapply (wp_store Variants.none (c : Thread nD τ) none Set.univ (m := B20) (hx := hx) (hm := hm) (S := Finset.univ) (f := f) (Finset.subset_univ _)) $$ Hf
  iintro Hf
  iapply Hk
  iapply (pt_congr c (write20 c f w inb)) $$ Hf

theorem rd26 (f : Vec F S48x7168 .bf16) (inb : ∀ a, (![0, 0] : Fin 2 → ℕ) a + S48x7168.size a ≤ S48x7168.size a) : rd c B26 f ![0, 0] S48x7168.size inb = f := by
  funext x
  show f ((Rect.unit (s := S48x7168) ![0, 0] S48x7168.size inb).emb x) = f x
  rw [emb_all _ (by decide)]
theorem wp_ld26 {α : Type} {Q : α → sProp (MT nD τ sig Unit (Elt F) ℕ (Pipeline.UD sig nD τ) ℕ)} {f : Vec F S48x7168 .bf16} {inb : ∀ a, (![0, 0] : Fin 2 → ℕ) a + S48x7168.size a ≤ S48x7168.size a}
    {hl : B26.view.LoadsAt (Rect.unit (s := S48x7168) ![0, 0] S48x7168.size inb).toLoadRect}
    {k : Vec F S48x7168 .bf16 → Prog (TpuEff nD τ sig (Elt F) Λ₀ .tc) α} :
    pt c B26 fullShare f ⊢ iprop((pt c B26 fullShare f -∗ WP c (k f) Q)
        -∗ WP c (.op (.load B26 (Rect.unit (s := S48x7168) ![0, 0] S48x7168.size inb).toLoadRect hl) k) Q) := by
  have h := wp_ld (F := F) c (M := B26) (q := fullShare) (f := f) (Q := Q) (k := k) rfl inb inb (hl := hl)
  rwa [rd26] at h
theorem write26 (c : Dev nD) (f w : Vec F S48x7168 .bf16) (inb : ∀ a, (![0, 0] : Fin 2 → ℕ) a + S48x7168.size a ≤ S48x7168.size a) :
    ((B26.access (Rect.unit (s := S48x7168) ![0, 0] S48x7168.size inb)).write (Elt F) f w Finset.univ : Vec F S48x7168 .bf16) = w :=
  (rd26 c ((B26.access (Rect.unit (s := S48x7168) ![0, 0] S48x7168.size inb)).write (Elt F) f w Finset.univ) inb).symm.trans
    (View.read_write_univ (v := B26.access (Rect.unit (s := S48x7168) ![0, 0] S48x7168.size inb)) f w)
theorem wp_st26 {α : Type} {Q : α → sProp (MT nD τ sig Unit (Elt F) ℕ (Pipeline.UD sig nD τ) ℕ)} {f w : Vec F S48x7168 .bf16} {inb : ∀ a, (![0, 0] : Fin 2 → ℕ) a + S48x7168.size a ≤ S48x7168.size a}
    {hx : (B26.access (Rect.unit (s := S48x7168) ![0, 0] S48x7168.size inb)).Stores Finset.univ} {hm}
    {k : PUnit → Prog (TpuEff nD τ sig (Elt F) Λ₀ .tc) α} :
    pt c B26 fullShare f ⊢ iprop((pt c B26 fullShare w -∗ WP c (k ⟨⟩) Q)
        -∗ WP c (.op (.store B26 (Rect.unit (s := S48x7168) ![0, 0] S48x7168.size inb) w Finset.univ hx hm) k) Q) := by
  iintro Hf Hk
  iapply (wp_store Variants.none (c : Thread nD τ) none Set.univ (m := B26) (hx := hx) (hm := hm) (S := Finset.univ) (f := f) (Finset.subset_univ _)) $$ Hf
  iintro Hf
  iapply Hk
  iapply (pt_congr c (write26 c f w inb)) $$ Hf

theorem rd29 (f : Vec F S40x7168 .f32) (inb : ∀ a, (![0, 0] : Fin 2 → ℕ) a + S40x7168.size a ≤ S40x7168.size a) : rd c B29 f ![0, 0] S40x7168.size inb = f := by
  funext x
  show f ((Rect.unit (s := S40x7168) ![0, 0] S40x7168.size inb).emb x) = f x
  rw [emb_all _ (by decide)]
theorem wp_ld29 {α : Type} {Q : α → sProp (MT nD τ sig Unit (Elt F) ℕ (Pipeline.UD sig nD τ) ℕ)} {f : Vec F S40x7168 .f32} {inb : ∀ a, (![0, 0] : Fin 2 → ℕ) a + S40x7168.size a ≤ S40x7168.size a}
    {hl : B29.view.LoadsAt (Rect.unit (s := S40x7168) ![0, 0] S40x7168.size inb).toLoadRect}
    {k : Vec F S40x7168 .f32 → Prog (TpuEff nD τ sig (Elt F) Λ₀ .tc) α} :
    pt c B29 fullShare f ⊢ iprop((pt c B29 fullShare f -∗ WP c (k f) Q)
        -∗ WP c (.op (.load B29 (Rect.unit (s := S40x7168) ![0, 0] S40x7168.size inb).toLoadRect hl) k) Q) := by
  have h := wp_ld (F := F) c (M := B29) (q := fullShare) (f := f) (Q := Q) (k := k) rfl inb inb (hl := hl)
  rwa [rd29] at h
theorem write29 (c : Dev nD) (f w : Vec F S40x7168 .f32) (inb : ∀ a, (![0, 0] : Fin 2 → ℕ) a + S40x7168.size a ≤ S40x7168.size a) :
    ((B29.access (Rect.unit (s := S40x7168) ![0, 0] S40x7168.size inb)).write (Elt F) f w Finset.univ : Vec F S40x7168 .f32) = w :=
  (rd29 c ((B29.access (Rect.unit (s := S40x7168) ![0, 0] S40x7168.size inb)).write (Elt F) f w Finset.univ) inb).symm.trans
    (View.read_write_univ (v := B29.access (Rect.unit (s := S40x7168) ![0, 0] S40x7168.size inb)) f w)
theorem wp_st29 {α : Type} {Q : α → sProp (MT nD τ sig Unit (Elt F) ℕ (Pipeline.UD sig nD τ) ℕ)} {f w : Vec F S40x7168 .f32} {inb : ∀ a, (![0, 0] : Fin 2 → ℕ) a + S40x7168.size a ≤ S40x7168.size a}
    {hx : (B29.access (Rect.unit (s := S40x7168) ![0, 0] S40x7168.size inb)).Stores Finset.univ} {hm}
    {k : PUnit → Prog (TpuEff nD τ sig (Elt F) Λ₀ .tc) α} :
    pt c B29 fullShare f ⊢ iprop((pt c B29 fullShare w -∗ WP c (k ⟨⟩) Q)
        -∗ WP c (.op (.store B29 (Rect.unit (s := S40x7168) ![0, 0] S40x7168.size inb) w Finset.univ hx hm) k) Q) := by
  iintro Hf Hk
  iapply (wp_store Variants.none (c : Thread nD τ) none Set.univ (m := B29) (hx := hx) (hm := hm) (S := Finset.univ) (f := f) (Finset.subset_univ _)) $$ Hf
  iintro Hf
  iapply Hk
  iapply (pt_congr c (write29 c f w inb)) $$ Hf

/-- The small operands at home and their cells at zero. -/
abbrev Home (qb : PosShare TreeShare) : sProp 𝕄 := iprop(pt c A0 fullShare Y.f0 ∗ pt c A7 fullShare Y.f7 ∗ pt c A1 qb Y.f1 ∗ pt c A2 fullShare Y.f2 ∗ pt c A4 fullShare Y.f4 ∗ pt c A6 fullShare Y.f6 ∗ pt c A9 fullShare Y.f9 ∗ pt c A11 fullShare Y.f11 ∗ semVal ((c : Thread nD τ), SemLoc.dma (sCell 0 inb_S8_S1_0)) 0 ∗ semVal ((c : Thread nD τ), SemLoc.dma (sCell 1 inb_S8_S1_1)) 0 ∗ semVal ((c : Thread nD τ), SemLoc.dma (sCell 2 inb_S8_S1_2)) 0 ∗ semVal ((c : Thread nD τ), SemLoc.dma (sCell 3 inb_S8_S1_3)) 0 ∗ semVal ((c : Thread nD τ), SemLoc.dma (sCell 4 inb_S8_S1_4)) 0 ∗ semVal ((c : Thread nD τ), SemLoc.dma (sCell 5 inb_S8_S1_5)) 0 ∗ semVal ((c : Thread nD τ), SemLoc.dma (sCell 6 inb_S8_S1_6)) 0 ∗ semVal ((c : Thread nD τ), SemLoc.dma (sCell 7 inb_S8_S1_7)) 0)

theorem wp_part36 (n : Fin 33) (hn : 0 < n.val) (qb : PosShare TreeShare) {K} :
    iprop(Sm13 c Y fullShare ∗ Sm20 c Y fullShare ∗ Sm14 c Y qb ∗ Sm15 c Y fullShare ∗ Sm18 c Y fullShare ∗ Sm19 c Y fullShare ∗ Sm21 c Y fullShare ∗ Sm22 c Y fullShare ∗ Ow (F := F) c ∗ some' (F := F) c B16 ∗ some' (F := F) c B17
        ∗ (iprop(Home c Y qb ∗ pt c B13 fullShare Y.f0 ∗ pt c B20 fullShare Y.f7 ∗ pt c B14 fullShare Y.f1 ∗ pt c B15 fullShare Y.f2 ∗ pt c B18 fullShare Y.f4 ∗ pt c B19 fullShare Y.f6 ∗ pt c B21 fullShare Y.f9 ∗ pt c B22 fullShare Y.f11 ∗ Ow (F := F) c ∗ pt c B16 fullShare (k0_pay48 Y.f1) ∗ pt c B17 fullShare (k0_pay49 Y.f2))
          -∗ K ⟨chk10 hn, Scalar.addi 2#32 (nw n), k0_pay50 Y.f0⟩))
      ⊢ WP c (P36 (F := F) M12 h12 (nw n)) K := by
  rw [P36, k0_part36_eq_skeleton]
  unfold k0_part36_skel
  dsimp only [storeSubelements, smemLoad, smemLoadElt, Prog.bind_lift, Prog.bind_op, Prog.bind_ret, Prog.pure_eq_ret]
  iintro ⟨HS13, HS20, HS14, HS15, HS18, HS19, HS21, HS22, Hw, ⟨%g16, H16⟩, ⟨%g17, H17⟩, HK⟩
  iapply (wp_assume Variants.none (c : Thread nD τ) none Set.univ (chk10 hn))
  iapply (wp_smWait c (src := A0) (dst := B13)) $$ [HS13 Hw]
  · isplitl [HS13] <;> iassumption
  iintro ⟨HB13, HA0, HV13, Hw⟩
  iapply (wp_smWait c (src := A7) (dst := B20)) $$ [HS20 Hw]
  · isplitl [HS20] <;> iassumption
  iintro ⟨HB20, HA7, HV20, Hw⟩
  iapply (wp_smWait c (src := A1) (dst := B14)) $$ [HS14 Hw]
  · isplitl [HS14] <;> iassumption
  iintro ⟨HB14, HA1, HV14, Hw⟩
  iapply (wp_smWait c (src := A2) (dst := B15)) $$ [HS15 Hw]
  · isplitl [HS15] <;> iassumption
  iintro ⟨HB15, HA2, HV15, Hw⟩
  iapply (wp_smWait c (src := A4) (dst := B18)) $$ [HS18 Hw]
  · isplitl [HS18] <;> iassumption
  iintro ⟨HB18, HA4, HV18, Hw⟩
  iapply (wp_smWait c (src := A6) (dst := B19)) $$ [HS19 Hw]
  · isplitl [HS19] <;> iassumption
  iintro ⟨HB19, HA6, HV19, Hw⟩
  iapply (wp_smWait c (src := A9) (dst := B21)) $$ [HS21 Hw]
  · isplitl [HS21] <;> iassumption
  iintro ⟨HB21, HA9, HV21, Hw⟩
  iapply (wp_smWait c (src := A11) (dst := B22)) $$ [HS22 Hw]
  · isplitl [HS22] <;> iassumption
  iintro ⟨HB22, HA11, HV22, Hw⟩
  iapply (wp_ld14 c) $$ HB14
  iintro HB14
  iapply (wp_ld16 c) $$ H16
  iintro H16
  iapply (wp_st16 c) $$ H16
  iintro H16
  iapply (wp_ld15 c) $$ HB15
  iintro HB15
  iapply (wp_ld17 c) $$ H17
  iintro H17
  iapply (wp_st17 c) $$ H17
  iintro H17
  iapply (wp_ld13 c) $$ HB13
  iintro HB13
  iapply wp_done
  iapply HK
  iframe
  unfold Home
  iframe

/-- The normalised tokens' buffer: zeros, its first rows the tokens times their scale. -/
def xn26 (v289 : FVec F S33x7168 .f32) (v300 : Vec F S1x7168 .f32) : Cts (F := F) c B26 :=
  (B26.access (Rect.unit (s := S48x7168) ![0, 0] S34x7168.size inb_S48x7168_S34x7168_0_0)).write (Elt F) (k0_pay51 (F := F))
    (updateSlice (rd c B26 (k0_pay51 (F := F)) ![0, 0] S34x7168.size inb_S48x7168_S34x7168_0_0) (k0_pay52 v289 v300) ![0, 0] slices_S34x7168_S33x7168_0_0) Finset.univ
/-- The accumulator's start: zeros, its first rows the tokens. -/
def acc29 (v289 : FVec F S33x7168 .f32) : Cts (F := F) c B29 :=
  (B29.access (Rect.unit (s := S40x7168) ![0, 0] S33x7168.size inb_S40x7168_S33x7168_0_0)).write (Elt F) (k0_pay53 (F := F)) (k0_pay54 v289) Finset.univ
def acc0 (v289 : FVec F S33x7168 .f32) (j : Fin 7) : Vec F S33x1024 .f32 := rd c B29 (acc29 c v289) (acOff j) S33x1024.size (acInb j)

/-- What the loop over the items reads. -/
def fixedOf (f25 : Cts (F := F) c B25) : Fixed F c :=
  ⟨Y.f3, Y.f5, Y.f8, Y.f10, k0_pay48 Y.f1, k0_pay49 Y.f2, Y.f4, Y.f6, Y.f9, Y.f11, f25, xn26 c (k0_pay50 Y.f0) Y.f7⟩

variable {c Y}
theorem gu_start0 {f25 : Cts (F := F) c B25} {n : Fin 33} (j : Fin 7) : GuFly c Y.f3 Y.f8 0 j (shGu c Y.f8 0 j) ⊢ GuS c (fixedOf c Y f25) n 0 j := by
  unfold GuS GuSlot guV
  rw [if_pos (by omega), if_pos (by omega)]
  exact .rfl
theorem gu_start1 {f25 : Cts (F := F) c B25} {n : Fin 33} (j : Fin 7) : GuFly c Y.f3 Y.f8 1 j (shGu c Y.f8 1 j) ⊢ GuS c (fixedOf c Y f25) n (0 + 1) j := by
  unfold GuS GuSlot guV
  rw [if_pos (by omega), if_pos (by omega)]
  exact .rfl
theorem dn_start0 {f25 : Cts (F := F) c B25} {n : Fin 33} (j : Fin 7) : DnFly c Y.f5 Y.f10 0 j (shDn c Y.f10 0 j) ⊢ DnS c (fixedOf c Y f25) n 0 j := by
  unfold DnS DnSlot dnV
  rw [if_pos (by omega), if_pos (by omega)]
  exact .rfl
theorem dn_start1 {f25 : Cts (F := F) c B25} {n : Fin 33} (j : Fin 7) : DnFly c Y.f5 Y.f10 1 j (shDn c Y.f10 1 j) ⊢ DnS c (fixedOf c Y f25) n (0 + 1) j := by
  unfold DnS DnSlot dnV
  rw [if_pos (by omega), if_pos (by omega)]
  exact .rfl

theorem wp_rest {n : Fin 33} {hok body} {K : Unit → sProp (MT nD τ sig Unit (Elt F) ℕ (Pipeline.UD sig nD τ) ℕ)} :
    K () ⊢ WP c (Scf.Loop.for (k0_t4_loop (nw n)) hok () body) K := by
  unfold Scf.Loop.for
  iintro HK
  iapply (Scf.wp_for frame (wpE (defs₀ (F := F)) Variants.none (c : Thread nD τ) none) Set.univ _ _ _ hok () _ (fun _ _ => K ()) (fun k _ => (none4 n k).elim))
  isplitl [HK]; · iexact HK
  iintro %acc HK
  iexact HK

theorem wp_part37 (n : Fin 33) (hn : 0 < n.val) {f25 : Cts (F := F) c B25} (hL : ∀ q : Fin 32, q.val < n.val → (lq c (fixedOf c Y f25) q).toNat < 32) {K} :
    iprop(pt c B20 fullShare Y.f7 ∗ some' (F := F) c B26 ∗ some' (F := F) c B27 ∗ some' (F := F) c B28 ∗ some' (F := F) c B29
        ∗ pt c B16 fullShare (k0_pay48 Y.f1) ∗ pt c B17 fullShare (k0_pay49 Y.f2) ∗ pt c B18 fullShare Y.f4 ∗ pt c B19 fullShare Y.f6 ∗ pt c B21 fullShare Y.f9 ∗ pt c B22 fullShare Y.f11
        ∗ pt c B25 fullShare f25
        ∗ sep7 (fun j => GuFly c Y.f3 Y.f8 0 j (shGu c Y.f8 0 j)) ∗ sep7 (fun j => GuFly c Y.f3 Y.f8 1 j (shGu c Y.f8 1 j))
        ∗ sep7 (fun j => DnFly c Y.f5 Y.f10 0 j (shDn c Y.f10 0 j)) ∗ sep7 (fun j => DnFly c Y.f5 Y.f10 1 j (shDn c Y.f10 1 j)) ∗ Ow (F := F) c
        ∗ (iprop(pt c B20 fullShare Y.f7 ∗ ItemInv c (fixedOf c Y f25) n (acc0 c (k0_pay50 Y.f0)) (2 + n.val)) -∗ K ⟨⟩))
      ⊢ WP c (P37 (F := F) M12 h12 (nw n) (chk10 hn) (Scalar.addi 2#32 (nw n)) (k0_pay50 Y.f0)) K := by
  rw [P37, k0_part37_eq_skeleton]
  unfold k0_part37_skel
  dsimp only [storeSubelements, smemLoad, smemLoadElt, Prog.bind_lift, Prog.bind_op, Prog.bind_ret, Prog.pure_eq_ret]
  iintro ⟨H20, ⟨%g26, H26⟩, H27, H28, ⟨%g29, H29⟩, H16, H17, H18, H19, H21, H22, H25, Hg0, Hg1, Hd0, Hd1, Hw, HK⟩
  iapply (wp_ld20 c) $$ H20
  iintro H20
  iapply (wp_ld26 c) $$ H26
  iintro H26
  iapply (wp_st26 c) $$ H26
  iintro H26
  iapply (wp_ld c (M := B26) rfl _ inb_S48x7168_S33x7168_0_0) $$ H26
  iintro H26
  iapply (wp_ld c (M := B26) rfl _ inb_S48x7168_S34x7168_0_0) $$ H26
  iintro H26
  iapply (wp_store Variants.none (c : Thread nD τ) none Set.univ (m := B26) (r := Rect.unit (s := S48x7168) ![0, 0] S34x7168.size inb_S48x7168_S34x7168_0_0) (S := Finset.univ) (f := k0_pay51 (F := F)) (Finset.subset_univ _)) $$ H26
  iintro H26
  iapply (wp_ld29 c) $$ H29
  iintro H29
  iapply (wp_st29 c) $$ H29
  iintro H29
  iapply (wp_ld c (M := B29) rfl _ inb_S40x7168_S33x7168_0_0) $$ H29
  iintro H29
  iapply (wp_store Variants.none (c : Thread nD τ) none Set.univ (m := B29) (r := Rect.unit (s := S40x7168) ![0, 0] S33x7168.size inb_S40x7168_S33x7168_0_0) (S := Finset.univ) (f := k0_pay53 (F := F)) (Finset.subset_univ _)) $$ H29
  iintro H29
  iapply wp_seq
  iapply (wp_items M12 h12 (X := fixedOf c Y f25) hn hL (chk10 hn) (acc0 c (k0_pay50 Y.f0)) (k0_pay50 Y.f0))
  isplitr [HK H20]
  · unfold ItemInv FixedPts
    isplitl [H16 H17 H18 H19 H21 H22 H25 H26]
    · isplitl [H16]; · iexact H16
      isplitl [H17]; · iexact H17
      isplitl [H18]; · iexact H18
      isplitl [H19]; · iexact H19
      isplitl [H21]; · iexact H21
      isplitl [H22]; · iexact H22
      isplitl [H25]; · iexact H25
      iexact H26
    isplitl [H27]; · iexact H27
    isplitl [H28]; · iexact H28
    isplitl [H29]
    · unfold AccIs
      iexists (acc29 c (k0_pay50 Y.f0))
      isplitl [H29]; · iexact H29
      ipureintro; exact fun _ => rfl
    isplitl [Hg0]; · iapply (sep7_mono (gu_start0 (Y := Y) (f25 := f25) (n := n))) $$ Hg0
    isplitl [Hg1]; · iapply (sep7_mono (gu_start1 (Y := Y) (f25 := f25) (n := n))) $$ Hg1
    isplitl [Hd0]; · iapply (sep7_mono (dn_start0 (Y := Y) (f25 := f25) (n := n))) $$ Hd0
    isplitl [Hd1]; · iapply (sep7_mono (dn_start1 (Y := Y) (f25 := f25) (n := n))) $$ Hd1
    iexact Hw
  iintro HI
  iapply wp_seq
  iapply wp_rest
  iapply wp_done
  iapply HK
  isplitl [H20] <;> iassumption
end

end Cert.KernelIdeal.Hand
-- ==== Proof.KernelIdeal.Pool.lean ====
/-
  Hand-written. Hand-written. The two weight buffers cut into the fourteen chunks the copies fill, the weights in HBM cut into the read
  shares the copies borrow, and both put back.
-/
module

public import proofs.«01_k».proof.Proof.KernelIdeal.Main

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

/-- The chunk of slot `i / 7` at place `i % 7`. -/
def sOf (i : Fin 14) : Fin 2 := ⟨i.val / 7, by omega⟩
def jOf (i : Fin 14) : Fin 7 := ⟨i.val % 7, Nat.mod_lt _ (by decide)⟩
def guI (i : Fin 14) : Finset (Shape.Idx S2x7168x1536) := guSet (sOf i) (jOf i)
def dnI (i : Fin 14) : Finset (Shape.Idx S2x768x7168) := dnSet (sOf i) (jOf i)

theorem sj_ne {a b : Fin 14} (h : a ≠ b) : (sOf a).val ≠ (sOf b).val ∨ (jOf a).val ≠ (jOf b).val := by
  revert a b; decide

theorem sj_at (s : Fin 2) (j : Fin 7) : ∃ i : Fin 14, sOf i = s ∧ jOf i = j := by revert s j; decide

theorem guI_disj (a b : Fin 14) (h : a ≠ b) : Disjoint (guI a) (guI b) := by
  unfold guI guSet guRect
  generalize sOf a = sa, sOf b = sb, jOf a = ja, jOf b = jb, sj_ne h = hh
  rcases hh with hs | hj
  · refine Rect.unit_disjoint (a := (0 : Fin 3)) ?_
    show sa.val + 1 ≤ sb.val ∨ sb.val + 1 ≤ sa.val
    omega
  · refine Rect.unit_disjoint (a := (1 : Fin 3)) ?_
    show 1024 * ja.val + 1024 ≤ 1024 * jb.val ∨ 1024 * jb.val + 1024 ≤ 1024 * ja.val
    omega

theorem dnI_disj (a b : Fin 14) (h : a ≠ b) : Disjoint (dnI a) (dnI b) := by
  unfold dnI dnSet dnRect
  generalize sOf a = sa, sOf b = sb, jOf a = ja, jOf b = jb, sj_ne h = hh
  rcases hh with hs | hj
  · refine Rect.unit_disjoint (a := (0 : Fin 3)) ?_
    show sa.val + 1 ≤ sb.val ∨ sb.val + 1 ≤ sa.val
    omega
  · refine Rect.unit_disjoint (a := (2 : Fin 3)) ?_
    show 1024 * ja.val + 1024 ≤ 1024 * jb.val ∨ 1024 * jb.val + 1024 ≤ 1024 * ja.val
    omega

theorem guI_cover : Finset.univ.biUnion guI = Finset.univ := by
  refine Finset.eq_univ_iff_forall.mpr fun x => ?_
  have h0 : (x 0).val < 2 := (x 0).isLt
  have h1 : (x 1).val < 7168 := (x 1).isLt
  have h2 : (x 2).val < 1536 := (x 2).isLt
  obtain ⟨i, hs, hj⟩ := sj_at ⟨(x 0).val, h0⟩ ⟨(x 1).val / 1024, by omega⟩
  refine Finset.mem_biUnion.mpr ⟨i, Finset.mem_univ _, ?_⟩
  unfold guI guSet guRect
  rw [hs, hj, Rect.mem_set_unit]
  intro a
  match a with
  | ⟨0, _⟩ => exact ⟨Nat.le_refl _, Nat.lt_succ_self _⟩
  | ⟨1, _⟩ =>
    show 1024 * ((x 1).val / 1024) ≤ (x 1).val ∧ (x 1).val < 1024 * ((x 1).val / 1024) + 1024
    omega
  | ⟨2, _⟩ => exact ⟨Nat.zero_le _, by show (x 2).val < 0 + 1536; omega⟩

theorem dnI_cover : Finset.univ.biUnion dnI = Finset.univ := by
  refine Finset.eq_univ_iff_forall.mpr fun x => ?_
  have h0 : (x 0).val < 2 := (x 0).isLt
  have h1 : (x 1).val < 768 := (x 1).isLt
  have h2 : (x 2).val < 7168 := (x 2).isLt
  obtain ⟨i, hs, hj⟩ := sj_at ⟨(x 0).val, h0⟩ ⟨(x 2).val / 1024, by omega⟩
  refine Finset.mem_biUnion.mpr ⟨i, Finset.mem_univ _, ?_⟩
  unfold dnI dnSet dnRect
  rw [hs, hj, Rect.mem_set_unit]
  intro a
  match a with
  | ⟨0, _⟩ => exact ⟨Nat.le_refl _, Nat.lt_succ_self _⟩
  | ⟨1, _⟩ => exact ⟨Nat.zero_le _, by show (x 1).val < 0 + 768; omega⟩
  | ⟨2, _⟩ =>
    show 1024 * ((x 2).val / 1024) ≤ (x 2).val ∧ (x 2).val < 1024 * ((x 2).val / 1024) + 1024
    omega

theorem big2 (Φ : Fin 2 → sProp (MT nD τ sig Unit (Elt F) ℕ (Pipeline.UD sig nD τ) ℕ)) : bigSep Finset.univ Φ = iprop(Φ 0 ∗ Φ 1) := by
  rw [BI.bigSep_univ_eq_bigSepL [0, 1] (by decide) (by decide)]; rfl

theorem big14 (Φ : Fin 14 → sProp (MT nD τ sig Unit (Elt F) ℕ (Pipeline.UD sig nD τ) ℕ)) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [BI.bigSep_univ_eq_bigSepL [0, 1, 2, 3, 4, 5, 6, 7, 8, 9, 10, 11, 12, 13] (by decide) (by decide)]; rfl

theorem big28 (Φ : Fin 28 → sProp (MT nD τ sig Unit (Elt F) ℕ (Pipeline.UD sig nD τ) ℕ)) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) := by
  rw [BI.bigSep_univ_eq_bigSepL [0, 1, 2, 3, 4, 5, 6, 7, 8, 9, 10, 11, 12, 13, 14, 15, 16, 17, 18, 19, 20, 21, 22, 23, 24, 25, 26, 27] (by decide) (by decide)]; rfl

section
variable (c : Dev nD)

theorem gu_intro {f3 : Cts (F := F) c A3} {f8 : Cts (F := F) c A8} {s : Fin 2} {j : Fin 7} {f : Cts (F := F) c B30} :
    iprop((B30.view.loc (c : Thread nD τ) ↦[guSet s j]{fullShare} f) ∗ pt c A3 (tk s j) f3 ∗ pt c A8 (tk s j) f8 ∗ pt c A8 (tk2 s j) f8
      ∗ semVal ((c : Thread nD τ), SemLoc.dma (guCell s j)) 0) ⊢ GuIdle c f3 f8 s j := by
  unfold GuIdle GuTok GuHeld
  iintro ⟨H, H3, H8, H8', Hv⟩
  isplitl [H]
  · iexists _; iexists f
    isplitl [H]; · iexact H
    ipureintro; rfl
  isplitr [Hv]
  · isplitl [H3]; · iexact H3
    isplitl [H8] <;> iassumption
  iexact Hv

theorem gu_elim {f3 : Cts (F := F) c A3} {f8 : Cts (F := F) c A8} {s : Fin 2} {j : Fin 7} :
    GuIdle c f3 f8 s j ⊢ iprop((∃ f : Cts (F := F) c B30, (B30.view.loc (c : Thread nD τ) ↦[guSet s j]{fullShare} f)) ∗ pt c A3 (tk s j) f3 ∗ pt c A8 (tk s j) f8 ∗ pt c A8 (tk2 s j) f8
      ∗ semVal ((c : Thread nD τ), SemLoc.dma (guCell s j)) 0) := by
  unfold GuIdle GuTok GuHeld
  iintro ⟨⟨%V, ⟨%f, ⟨H, -⟩⟩⟩, ⟨H3, H8, H8'⟩, Hv⟩
  isplitl [H]; · iexists f; iexact H
  isplitl [H3]; · iexact H3
  isplitl [H8]; · iexact H8
  isplitl [H8'] <;> iassumption

theorem dn_intro {f5 : Cts (F := F) c A5} {f10 : Cts (F := F) c A10} {s : Fin 2} {j : Fin 7} {f : Cts (F := F) c B31} :
    iprop((B31.view.loc (c : Thread nD τ) ↦[dnSet s j]{fullShare} f) ∗ pt c A5 (tk s j) f5 ∗ pt c A10 (tk s j) f10
      ∗ semVal ((c : Thread nD τ), SemLoc.dma (dnCell s j)) 0) ⊢ DnIdle c f5 f10 s j := by
  unfold DnIdle DnTok DnHeld
  iintro ⟨H, H5, H10, Hv⟩
  isplitl [H]
  · iexists _; iexists f
    isplitl [H]; · iexact H
    ipureintro; rfl
  isplitr [Hv]
  · isplitl [H5] <;> iassumption
  iexact Hv

theorem dn_elim {f5 : Cts (F := F) c A5} {f10 : Cts (F := F) c A10} {s : Fin 2} {j : Fin 7} :
    DnIdle c f5 f10 s j ⊢ iprop((∃ f : Cts (F := F) c B31, (B31.view.loc (c : Thread nD τ) ↦[dnSet s j]{fullShare} f)) ∗ pt c A5 (tk s j) f5 ∗ pt c A10 (tk s j) f10
      ∗ semVal ((c : Thread nD τ), SemLoc.dma (dnCell s j)) 0) := by
  unfold DnIdle DnTok DnHeld
  iintro ⟨⟨%V, ⟨%f, ⟨H, -⟩⟩⟩, ⟨H5, H10⟩, Hv⟩
  isplitl [H]; · iexists f; iexact H
  isplitl [H5]; · iexact H5
  isplitl [H10] <;> iassumption

/-- The cells of the chunks at zero. -/
abbrev guVals : sProp 𝕄 := iprop(semVal ((c : Thread nD τ), SemLoc.dma (guCell 0 0)) 0 ∗ semVal ((c : Thread nD τ), SemLoc.dma (guCell 0 1)) 0 ∗ semVal ((c : Thread nD τ), SemLoc.dma (guCell 0 2)) 0 ∗ semVal ((c : Thread nD τ), SemLoc.dma (guCell 0 3)) 0 ∗ semVal ((c : Thread nD τ), SemLoc.dma (guCell 0 4)) 0 ∗ semVal ((c : Thread nD τ), SemLoc.dma (guCell 0 5)) 0 ∗ semVal ((c : Thread nD τ), SemLoc.dma (guCell 0 6)) 0 ∗ semVal ((c : Thread nD τ), SemLoc.dma (guCell 1 0)) 0 ∗ semVal ((c : Thread nD τ), SemLoc.dma (guCell 1 1)) 0 ∗ semVal ((c : Thread nD τ), SemLoc.dma (guCell 1 2)) 0 ∗ semVal ((c : Thread nD τ), SemLoc.dma (guCell 1 3)) 0 ∗ semVal ((c : Thread nD τ), SemLoc.dma (guCell 1 4)) 0 ∗ semVal ((c : Thread nD τ), SemLoc.dma (guCell 1 5)) 0 ∗ semVal ((c : Thread nD τ), SemLoc.dma (guCell 1 6)) 0)
abbrev dnVals : sProp 𝕄 := iprop(semVal ((c : Thread nD τ), SemLoc.dma (dnCell 0 0)) 0 ∗ semVal ((c : Thread nD τ), SemLoc.dma (dnCell 0 1)) 0 ∗ semVal ((c : Thread nD τ), SemLoc.dma (dnCell 0 2)) 0 ∗ semVal ((c : Thread nD τ), SemLoc.dma (dnCell 0 3)) 0 ∗ semVal ((c : Thread nD τ), SemLoc.dma (dnCell 0 4)) 0 ∗ semVal ((c : Thread nD τ), SemLoc.dma (dnCell 0 5)) 0 ∗ semVal ((c : Thread nD τ), SemLoc.dma (dnCell 0 6)) 0 ∗ semVal ((c : Thread nD τ), SemLoc.dma (dnCell 1 0)) 0 ∗ semVal ((c : Thread nD τ), SemLoc.dma (dnCell 1 1)) 0 ∗ semVal ((c : Thread nD τ), SemLoc.dma (dnCell 1 2)) 0 ∗ semVal ((c : Thread nD τ), SemLoc.dma (dnCell 1 3)) 0 ∗ semVal ((c : Thread nD τ), SemLoc.dma (dnCell 1 4)) 0 ∗ semVal ((c : Thread nD τ), SemLoc.dma (dnCell 1 5)) 0 ∗ semVal ((c : Thread nD τ), SemLoc.dma (dnCell 1 6)) 0)

/-- What is kept aside of the weights in HBM while the copies borrow their shares. -/
abbrev Kept (f3 : Cts (F := F) c A3) (f5 : Cts (F := F) c A5) (f8 : Cts (F := F) c A8) (f10 : Cts (F := F) c A10) : sProp 𝕄 :=
  iprop(pt c A3 (shareDrop fullShare 14) f3 ∗ pt c A8 (shareDrop fullShare 28) f8 ∗ pt c A5 (shareDrop fullShare 14) f5 ∗ pt c A10 (shareDrop fullShare 14) f10)

theorem toks2 {sp : Space} {S : Shape} {e : EltTy} {M : Memref sig .tc sp S e} {f : Cts (F := F) c M} :
    pt c M fullShare f ⊣⊢ iprop(pt c M (shareDrop fullShare 2) f ∗ pt c M (shareTokN fullShare 0) f ∗ pt c M (shareTokN fullShare 1) f) := by
  have h := pointsTo_toks (Ix := Unit) (Val := Elt F) (Name := ℕ) (U := Pipeline.UD sig nD τ) (Lvl := ℕ) (ℓ := M.view.loc (c : Thread nD τ)) (S := Finset.univ) (f := f) fullShare 2
  rw [big2] at h
  exact h

theorem toks14 {sp : Space} {S : Shape} {e : EltTy} {M : Memref sig .tc sp S e} {f : Cts (F := F) c M} :
    pt c M fullShare f ⊣⊢ iprop(pt c M (shareDrop fullShare 14) f ∗ pt c M (shareTokN fullShare 0) f ∗ pt c M (shareTokN fullShare 1) f ∗ pt c M (shareTokN fullShare 2) f ∗ pt c M (shareTokN fullShare 3) f ∗ pt c M (shareTokN fullShare 4) f ∗ pt c M (shareTokN fullShare 5) f ∗ pt c M (shareTokN fullShare 6) f ∗ pt c M (shareTokN fullShare 7) f ∗ pt c M (shareTokN fullShare 8) f ∗ pt c M (shareTokN fullShare 9) f ∗ pt c M (shareTokN fullShare 10) f ∗ pt c M (shareTokN fullShare 11) f ∗ pt c M (shareTokN fullShare 12) f ∗ pt c M (shareTokN fullShare 13) f) := by
  have h := pointsTo_toks (Ix := Unit) (Val := Elt F) (Name := ℕ) (U := Pipeline.UD sig nD τ) (Lvl := ℕ) (ℓ := M.view.loc (c : Thread nD τ)) (S := Finset.univ) (f := f) fullShare 14
  rw [big14] at h
  exact h

theorem toks28 {sp : Space} {S : Shape} {e : EltTy} {M : Memref sig .tc sp S e} {f : Cts (F := F) c M} :
    pt c M fullShare f ⊣⊢ iprop(pt c M (shareDrop fullShare 28) f ∗ pt c M (shareTokN fullShare 0) f ∗ pt c M (shareTokN fullShare 1) f ∗ pt c M (shareTokN fullShare 2) f ∗ pt c M (shareTokN fullShare 3) f ∗ pt c M (shareTokN fullShare 4) f ∗ pt c M (shareTokN fullShare 5) f ∗ pt c M (shareTokN fullShare 6) f ∗ pt c M (shareTokN fullShare 7) f ∗ pt c M (shareTokN fullShare 8) f ∗ pt c M (shareTokN fullShare 9) f ∗ pt c M (shareTokN fullShare 10) f ∗ pt c M (shareTokN fullShare 11) f ∗ pt c M (shareTokN fullShare 12) f ∗ pt c M (shareTokN fullShare 13) f ∗ pt c M (shareTokN fullShare 14) f ∗ pt c M (shareTokN fullShare 15) f ∗ pt c M (shareTokN fullShare 16) f ∗ pt c M (shareTokN fullShare 17) f ∗ pt c M (shareTokN fullShare 18) f ∗ pt c M (shareTokN fullShare 19) f ∗ pt c M (shareTokN fullShare 20) f ∗ pt c M (shareTokN fullShare 21) f ∗ pt c M (shareTokN fullShare 22) f ∗ pt c M (shareTokN fullShare 23) f ∗ pt c M (shareTokN fullShare 24) f ∗ pt c M (shareTokN fullShare 25) f ∗ pt c M (shareTokN fullShare 26) f ∗ pt c M (shareTokN fullShare 27) f) := by
  have h := pointsTo_toks (Ix := Unit) (Val := Elt F) (Name := ℕ) (U := Pipeline.UD sig nD τ) (Lvl := ℕ) (ℓ := M.view.loc (c : Thread nD τ)) (S := Finset.univ) (f := f) fullShare 28
  rw [big28] at h
  exact h

theorem gu_blocks {f : Cts (F := F) c B30} : pt c B30 fullShare f ⊢ iprop((B30.view.loc (c : Thread nD τ) ↦[guSet 0 0]{fullShare} f) ∗ (B30.view.loc (c : Thread nD τ) ↦[guSet 0 1]{fullShare} f) ∗ (B30.view.loc (c : Thread nD τ) ↦[guSet 0 2]{fullShare} f) ∗ (B30.view.loc (c : Thread nD τ) ↦[guSet 0 3]{fullShare} f) ∗ (B30.view.loc (c : Thread nD τ) ↦[guSet 0 4]{fullShare} f) ∗ (B30.view.loc (c : Thread nD τ) ↦[guSet 0 5]{fullShare} f) ∗ (B30.view.loc (c : Thread nD τ) ↦[guSet 0 6]{fullShare} f) ∗ (B30.view.loc (c : Thread nD τ) ↦[guSet 1 0]{fullShare} f) ∗ (B30.view.loc (c : Thread nD τ) ↦[guSet 1 1]{fullShare} f) ∗ (B30.view.loc (c : Thread nD τ) ↦[guSet 1 2]{fullShare} f) ∗ (B30.view.loc (c : Thread nD τ) ↦[guSet 1 3]{fullShare} f) ∗ (B30.view.loc (c : Thread nD τ) ↦[guSet 1 4]{fullShare} f) ∗ (B30.view.loc (c : Thread nD τ) ↦[guSet 1 5]{fullShare} f) ∗ (B30.view.loc (c : Thread nD τ) ↦[guSet 1 6]{fullShare} f)) := by
  have h := Ring.pointsTo_blocks (Ix := Unit) (Val := Elt F) (Name := ℕ) (U := Pipeline.UD sig nD τ) (Lvl := ℕ) (ℓ := B30.view.loc (c : Thread nD τ)) guI guI_disj guI_cover (q := fullShare) f
  rw [big14] at h
  exact h.le
theorem gu_unblocks : iprop((∃ f : Cts (F := F) c B30, B30.view.loc (c : Thread nD τ) ↦[guSet 0 0]{fullShare} f) ∗ (∃ f : Cts (F := F) c B30, B30.view.loc (c : Thread nD τ) ↦[guSet 0 1]{fullShare} f) ∗ (∃ f : Cts (F := F) c B30, B30.view.loc (c : Thread nD τ) ↦[guSet 0 2]{fullShare} f) ∗ (∃ f : Cts (F := F) c B30, B30.view.loc (c : Thread nD τ) ↦[guSet 0 3]{fullShare} f) ∗ (∃ f : Cts (F := F) c B30, B30.view.loc (c : Thread nD τ) ↦[guSet 0 4]{fullShare} f) ∗ (∃ f : Cts (F := F) c B30, B30.view.loc (c : Thread nD τ) ↦[guSet 0 5]{fullShare} f) ∗ (∃ f : Cts (F := F) c B30, B30.view.loc (c : Thread nD τ) ↦[guSet 0 6]{fullShare} f) ∗ (∃ f : Cts (F := F) c B30, B30.view.loc (c : Thread nD τ) ↦[guSet 1 0]{fullShare} f) ∗ (∃ f : Cts (F := F) c B30, B30.view.loc (c : Thread nD τ) ↦[guSet 1 1]{fullShare} f) ∗ (∃ f : Cts (F := F) c B30, B30.view.loc (c : Thread nD τ) ↦[guSet 1 2]{fullShare} f) ∗ (∃ f : Cts (F := F) c B30, B30.view.loc (c : Thread nD τ) ↦[guSet 1 3]{fullShare} f) ∗ (∃ f : Cts (F := F) c B30, B30.view.loc (c : Thread nD τ) ↦[guSet 1 4]{fullShare} f) ∗ (∃ f : Cts (F := F) c B30, B30.view.loc (c : Thread nD τ) ↦[guSet 1 5]{fullShare} f) ∗ (∃ f : Cts (F := F) c B30, B30.view.loc (c : Thread nD τ) ↦[guSet 1 6]{fullShare} f)) ⊢ some' (F := F) c B30 := by
  have h := Ring.pointsTo_blocks_join_exists (Ix := Unit) (Val := Elt F) (Name := ℕ) (U := Pipeline.UD sig nD τ) (Lvl := ℕ) (ℓ := B30.view.loc (c : Thread nD τ)) guI guI_disj guI_cover (q := fullShare) (default : Cts (F := F) c B30)
  rw [big14] at h
  exact h

theorem gu_split {f3 : Cts (F := F) c A3} {f8 : Cts (F := F) c A8} :
    iprop(some' (F := F) c B30 ∗ pt c A3 fullShare f3 ∗ pt c A8 fullShare f8 ∗ guVals (F := F) c)
      ⊢ iprop((pt c A3 (shareDrop fullShare 14) f3 ∗ pt c A8 (shareDrop fullShare 28) f8) ∗ sep7 (fun j => GuIdle c f3 f8 0 j) ∗ sep7 (fun j => GuIdle c f3 f8 1 j)) := by
  iintro ⟨⟨%f, Hb⟩, HA, HC, ⟨Hv0, Hv1, Hv2, Hv3, Hv4, Hv5, Hv6, Hv7, Hv8, Hv9, Hv10, Hv11, Hv12, Hv13⟩⟩
  ihave Hb := (gu_blocks c) $$ Hb
  icases Hb with ⟨Hb0, Hb1, Hb2, Hb3, Hb4, Hb5, Hb6, Hb7, Hb8, Hb9, Hb10, Hb11, Hb12, Hb13⟩
  ihave HA := (toks14 c).1 $$ HA
  icases HA with ⟨HA, Ha0, Ha1, Ha2, Ha3, Ha4, Ha5, Ha6, Ha7, Ha8, Ha9, Ha10, Ha11, Ha12, Ha13⟩
  ihave HC := (toks28 c).1 $$ HC
  icases HC with ⟨HC, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27⟩
  isplitl [HA HC]
  · isplitl [HA] <;> iassumption
  isplitl [Hb0 Ha0 Hc0 Hc14 Hv0 Hb1 Ha1 Hc1 Hc15 Hv1 Hb2 Ha2 Hc2 Hc16 Hv2 Hb3 Ha3 Hc3 Hc17 Hv3 Hb4 Ha4 Hc4 Hc18 Hv4 Hb5 Ha5 Hc5 Hc19 Hv5 Hb6 Ha6 Hc6 Hc20 Hv6]
  · skip
    isplitl [Hb0 Ha0 Hc0 Hc14 Hv0]
    · iapply (gu_intro c (s := 0) (j := 0))
      isplitl [Hb0]; · iexact Hb0
      isplitl [Ha0]; · iexact Ha0
      isplitl [Hc0]; · iexact Hc0
      isplitl [Hc14]; · iexact Hc14
      iexact Hv0
    isplitl [Hb1 Ha1 Hc1 Hc15 Hv1]
    · iapply (gu_intro c (s := 0) (j := 1))
      isplitl [Hb1]; · iexact Hb1
      isplitl [Ha1]; · iexact Ha1
      isplitl [Hc1]; · iexact Hc1
      isplitl [Hc15]; · iexact Hc15
      iexact Hv1
    isplitl [Hb2 Ha2 Hc2 Hc16 Hv2]
    · iapply (gu_intro c (s := 0) (j := 2))
      isplitl [Hb2]; · iexact Hb2
      isplitl [Ha2]; · iexact Ha2
      isplitl [Hc2]; · iexact Hc2
      isplitl [Hc16]; · iexact Hc16
      iexact Hv2
    isplitl [Hb3 Ha3 Hc3 Hc17 Hv3]
    · iapply (gu_intro c (s := 0) (j := 3))
      isplitl [Hb3]; · iexact Hb3
      isplitl [Ha3]; · iexact Ha3
      isplitl [Hc3]; · iexact Hc3
      isplitl [Hc17]; · iexact Hc17
      iexact Hv3
    isplitl [Hb4 Ha4 Hc4 Hc18 Hv4]
    · iapply (gu_intro c (s := 0) (j := 4))
      isplitl [Hb4]; · iexact Hb4
      isplitl [Ha4]; · iexact Ha4
      isplitl [Hc4]; · iexact Hc4
      isplitl [Hc18]; · iexact Hc18
      iexact Hv4
    isplitl [Hb5 Ha5 Hc5 Hc19 Hv5]
    · iapply (gu_intro c (s := 0) (j := 5))
      isplitl [Hb5]; · iexact Hb5
      isplitl [Ha5]; · iexact Ha5
      isplitl [Hc5]; · iexact Hc5
      isplitl [Hc19]; · iexact Hc19
      iexact Hv5
    iapply (gu_intro c (s := 0) (j := 6))
    isplitl [Hb6]; · iexact Hb6
    isplitl [Ha6]; · iexact Ha6
    isplitl [Hc6]; · iexact Hc6
    isplitl [Hc20]; · iexact Hc20
    iexact Hv6
  isplitl [Hb7 Ha7 Hc7 Hc21 Hv7]
  · iapply (gu_intro c (s := 1) (j := 0))
    isplitl [Hb7]; · iexact Hb7
    isplitl [Ha7]; · iexact Ha7
    isplitl [Hc7]; · iexact Hc7
    isplitl [Hc21]; · iexact Hc21
    iexact Hv7
  isplitl [Hb8 Ha8 Hc8 Hc22 Hv8]
  · iapply (gu_intro c (s := 1) (j := 1))
    isplitl [Hb8]; · iexact Hb8
    isplitl [Ha8]; · iexact Ha8
    isplitl [Hc8]; · iexact Hc8
    isplitl [Hc22]; · iexact Hc22
    iexact Hv8
  isplitl [Hb9 Ha9 Hc9 Hc23 Hv9]
  · iapply (gu_intro c (s := 1) (j := 2))
    isplitl [Hb9]; · iexact Hb9
    isplitl [Ha9]; · iexact Ha9
    isplitl [Hc9]; · iexact Hc9
    isplitl [Hc23]; · iexact Hc23
    iexact Hv9
  isplitl [Hb10 Ha10 Hc10 Hc24 Hv10]
  · iapply (gu_intro c (s := 1) (j := 3))
    isplitl [Hb10]; · iexact Hb10
    isplitl [Ha10]; · iexact Ha10
    isplitl [Hc10]; · iexact Hc10
    isplitl [Hc24]; · iexact Hc24
    iexact Hv10
  isplitl [Hb11 Ha11 Hc11 Hc25 Hv11]
  · iapply (gu_intro c (s := 1) (j := 4))
    isplitl [Hb11]; · iexact Hb11
    isplitl [Ha11]; · iexact Ha11
    isplitl [Hc11]; · iexact Hc11
    isplitl [Hc25]; · iexact Hc25
    iexact Hv11
  isplitl [Hb12 Ha12 Hc12 Hc26 Hv12]
  · iapply (gu_intro c (s := 1) (j := 5))
    isplitl [Hb12]; · iexact Hb12
    isplitl [Ha12]; · iexact Ha12
    isplitl [Hc12]; · iexact Hc12
    isplitl [Hc26]; · iexact Hc26
    iexact Hv12
  iapply (gu_intro c (s := 1) (j := 6))
  isplitl [Hb13]; · iexact Hb13
  isplitl [Ha13]; · iexact Ha13
  isplitl [Hc13]; · iexact Hc13
  isplitl [Hc27]; · iexact Hc27
  iexact Hv13

theorem gu_join {f3 : Cts (F := F) c A3} {f8 : Cts (F := F) c A8} :
    iprop((pt c A3 (shareDrop fullShare 14) f3 ∗ pt c A8 (shareDrop fullShare 28) f8) ∗ sep7 (fun j => GuIdle c f3 f8 0 j) ∗ sep7 (fun j => GuIdle c f3 f8 1 j))
      ⊢ iprop(some' (F := F) c B30 ∗ pt c A3 fullShare f3 ∗ pt c A8 fullShare f8 ∗ guVals (F := F) c) := by
  iintro ⟨⟨HA, HC⟩, ⟨He0, He1, He2, He3, He4, He5, He6⟩, ⟨He7, He8, He9, He10, He11, He12, He13⟩⟩
  ihave He0 := (gu_elim c) $$ He0
  icases He0 with ⟨Hb0, Ha0, Hc0, Hc14, Hv0⟩
  ihave He1 := (gu_elim c) $$ He1
  icases He1 with ⟨Hb1, Ha1, Hc1, Hc15, Hv1⟩
  ihave He2 := (gu_elim c) $$ He2
  icases He2 with ⟨Hb2, Ha2, Hc2, Hc16, Hv2⟩
  ihave He3 := (gu_elim c) $$ He3
  icases He3 with ⟨Hb3, Ha3, Hc3, Hc17, Hv3⟩
  ihave He4 := (gu_elim c) $$ He4
  icases He4 with ⟨Hb4, Ha4, Hc4, Hc18, Hv4⟩
  ihave He5 := (gu_elim c) $$ He5
  icases He5 with ⟨Hb5, Ha5, Hc5, Hc19, Hv5⟩
  ihave He6 := (gu_elim c) $$ He6
  icases He6 with ⟨Hb6, Ha6, Hc6, Hc20, Hv6⟩
  ihave He7 := (gu_elim c) $$ He7
  icases He7 with ⟨Hb7, Ha7, Hc7, Hc21, Hv7⟩
  ihave He8 := (gu_elim c) $$ He8
  icases He8 with ⟨Hb8, Ha8, Hc8, Hc22, Hv8⟩
  ihave He9 := (gu_elim c) $$ He9
  icases He9 with ⟨Hb9, Ha9, Hc9, Hc23, Hv9⟩
  ihave He10 := (gu_elim c) $$ He10
  icases He10 with ⟨Hb10, Ha10, Hc10, Hc24, Hv10⟩
  ihave He11 := (gu_elim c) $$ He11
  icases He11 with ⟨Hb11, Ha11, Hc11, Hc25, Hv11⟩
  ihave He12 := (gu_elim c) $$ He12
  icases He12 with ⟨Hb12, Ha12, Hc12, Hc26, Hv12⟩
  ihave He13 := (gu_elim c) $$ He13
  icases He13 with ⟨Hb13, Ha13, Hc13, Hc27, Hv13⟩
  isplitl [Hb0 Hb1 Hb2 Hb3 Hb4 Hb5 Hb6 Hb7 Hb8 Hb9 Hb10 Hb11 Hb12 Hb13]
  · iapply (gu_unblocks c)
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    iexact Hb13
  isplitl [HA Ha0 Ha1 Ha2 Ha3 Ha4 Ha5 Ha6 Ha7 Ha8 Ha9 Ha10 Ha11 Ha12 Ha13]
  · iapply (toks14 c).2
    isplitl [HA]; · iexact HA
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    iexact Ha13
  isplitl [HC Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27]
  · iapply (toks28 c).2
    isplitl [HC]; · iexact HC
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    iexact Hc27
  · skip
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11]; · iexact Hv11
    isplitl [Hv12]; · iexact Hv12
    iexact Hv13

theorem dn_blocks {f : Cts (F := F) c B31} : pt c B31 fullShare f ⊢ iprop((B31.view.loc (c : Thread nD τ) ↦[dnSet 0 0]{fullShare} f) ∗ (B31.view.loc (c : Thread nD τ) ↦[dnSet 0 1]{fullShare} f) ∗ (B31.view.loc (c : Thread nD τ) ↦[dnSet 0 2]{fullShare} f) ∗ (B31.view.loc (c : Thread nD τ) ↦[dnSet 0 3]{fullShare} f) ∗ (B31.view.loc (c : Thread nD τ) ↦[dnSet 0 4]{fullShare} f) ∗ (B31.view.loc (c : Thread nD τ) ↦[dnSet 0 5]{fullShare} f) ∗ (B31.view.loc (c : Thread nD τ) ↦[dnSet 0 6]{fullShare} f) ∗ (B31.view.loc (c : Thread nD τ) ↦[dnSet 1 0]{fullShare} f) ∗ (B31.view.loc (c : Thread nD τ) ↦[dnSet 1 1]{fullShare} f) ∗ (B31.view.loc (c : Thread nD τ) ↦[dnSet 1 2]{fullShare} f) ∗ (B31.view.loc (c : Thread nD τ) ↦[dnSet 1 3]{fullShare} f) ∗ (B31.view.loc (c : Thread nD τ) ↦[dnSet 1 4]{fullShare} f) ∗ (B31.view.loc (c : Thread nD τ) ↦[dnSet 1 5]{fullShare} f) ∗ (B31.view.loc (c : Thread nD τ) ↦[dnSet 1 6]{fullShare} f)) := by
  have h := Ring.pointsTo_blocks (Ix := Unit) (Val := Elt F) (Name := ℕ) (U := Pipeline.UD sig nD τ) (Lvl := ℕ) (ℓ := B31.view.loc (c : Thread nD τ)) dnI dnI_disj dnI_cover (q := fullShare) f
  rw [big14] at h
  exact h.le
theorem dn_unblocks : iprop((∃ f : Cts (F := F) c B31, B31.view.loc (c : Thread nD τ) ↦[dnSet 0 0]{fullShare} f) ∗ (∃ f : Cts (F := F) c B31, B31.view.loc (c : Thread nD τ) ↦[dnSet 0 1]{fullShare} f) ∗ (∃ f : Cts (F := F) c B31, B31.view.loc (c : Thread nD τ) ↦[dnSet 0 2]{fullShare} f) ∗ (∃ f : Cts (F := F) c B31, B31.view.loc (c : Thread nD τ) ↦[dnSet 0 3]{fullShare} f) ∗ (∃ f : Cts (F := F) c B31, B31.view.loc (c : Thread nD τ) ↦[dnSet 0 4]{fullShare} f) ∗ (∃ f : Cts (F := F) c B31, B31.view.loc (c : Thread nD τ) ↦[dnSet 0 5]{fullShare} f) ∗ (∃ f : Cts (F := F) c B31, B31.view.loc (c : Thread nD τ) ↦[dnSet 0 6]{fullShare} f) ∗ (∃ f : Cts (F := F) c B31, B31.view.loc (c : Thread nD τ) ↦[dnSet 1 0]{fullShare} f) ∗ (∃ f : Cts (F := F) c B31, B31.view.loc (c : Thread nD τ) ↦[dnSet 1 1]{fullShare} f) ∗ (∃ f : Cts (F := F) c B31, B31.view.loc (c : Thread nD τ) ↦[dnSet 1 2]{fullShare} f) ∗ (∃ f : Cts (F := F) c B31, B31.view.loc (c : Thread nD τ) ↦[dnSet 1 3]{fullShare} f) ∗ (∃ f : Cts (F := F) c B31, B31.view.loc (c : Thread nD τ) ↦[dnSet 1 4]{fullShare} f) ∗ (∃ f : Cts (F := F) c B31, B31.view.loc (c : Thread nD τ) ↦[dnSet 1 5]{fullShare} f) ∗ (∃ f : Cts (F := F) c B31, B31.view.loc (c : Thread nD τ) ↦[dnSet 1 6]{fullShare} f)) ⊢ some' (F := F) c B31 := by
  have h := Ring.pointsTo_blocks_join_exists (Ix := Unit) (Val := Elt F) (Name := ℕ) (U := Pipeline.UD sig nD τ) (Lvl := ℕ) (ℓ := B31.view.loc (c : Thread nD τ)) dnI dnI_disj dnI_cover (q := fullShare) (default : Cts (F := F) c B31)
  rw [big14] at h
  exact h

theorem dn_split {f5 : Cts (F := F) c A5} {f10 : Cts (F := F) c A10} :
    iprop(some' (F := F) c B31 ∗ pt c A5 fullShare f5 ∗ pt c A10 fullShare f10 ∗ dnVals (F := F) c)
      ⊢ iprop((pt c A5 (shareDrop fullShare 14) f5 ∗ pt c A10 (shareDrop fullShare 14) f10) ∗ sep7 (fun j => DnIdle c f5 f10 0 j) ∗ sep7 (fun j => DnIdle c f5 f10 1 j)) := by
  iintro ⟨⟨%f, Hb⟩, HA, HC, ⟨Hv0, Hv1, Hv2, Hv3, Hv4, Hv5, Hv6, Hv7, Hv8, Hv9, Hv10, Hv11, Hv12, Hv13⟩⟩
  ihave Hb := (dn_blocks c) $$ Hb
  icases Hb with ⟨Hb0, Hb1, Hb2, Hb3, Hb4, Hb5, Hb6, Hb7, Hb8, Hb9, Hb10, Hb11, Hb12, Hb13⟩
  ihave HA := (toks14 c).1 $$ HA
  icases HA with ⟨HA, Ha0, Ha1, Ha2, Ha3, Ha4, Ha5, Ha6, Ha7, Ha8, Ha9, Ha10, Ha11, Ha12, Ha13⟩
  ihave HC := (toks14 c).1 $$ HC
  icases HC with ⟨HC, Hc0, Hc1, Hc2, Hc3, Hc4, Hc5, Hc6, Hc7, Hc8, Hc9, Hc10, Hc11, Hc12, Hc13⟩
  isplitl [HA HC]
  · isplitl [HA] <;> iassumption
  isplitl [Hb0 Ha0 Hc0 Hv0 Hb1 Ha1 Hc1 Hv1 Hb2 Ha2 Hc2 Hv2 Hb3 Ha3 Hc3 Hv3 Hb4 Ha4 Hc4 Hv4 Hb5 Ha5 Hc5 Hv5 Hb6 Ha6 Hc6 Hv6]
  · skip
    isplitl [Hb0 Ha0 Hc0 Hv0]
    · iapply (dn_intro c (s := 0) (j := 0))
      isplitl [Hb0]; · iexact Hb0
      isplitl [Ha0]; · iexact Ha0
      isplitl [Hc0]; · iexact Hc0
      iexact Hv0
    isplitl [Hb1 Ha1 Hc1 Hv1]
    · iapply (dn_intro c (s := 0) (j := 1))
      isplitl [Hb1]; · iexact Hb1
      isplitl [Ha1]; · iexact Ha1
      isplitl [Hc1]; · iexact Hc1
      iexact Hv1
    isplitl [Hb2 Ha2 Hc2 Hv2]
    · iapply (dn_intro c (s := 0) (j := 2))
      isplitl [Hb2]; · iexact Hb2
      isplitl [Ha2]; · iexact Ha2
      isplitl [Hc2]; · iexact Hc2
      iexact Hv2
    isplitl [Hb3 Ha3 Hc3 Hv3]
    · iapply (dn_intro c (s := 0) (j := 3))
      isplitl [Hb3]; · iexact Hb3
      isplitl [Ha3]; · iexact Ha3
      isplitl [Hc3]; · iexact Hc3
      iexact Hv3
    isplitl [Hb4 Ha4 Hc4 Hv4]
    · iapply (dn_intro c (s := 0) (j := 4))
      isplitl [Hb4]; · iexact Hb4
      isplitl [Ha4]; · iexact Ha4
      isplitl [Hc4]; · iexact Hc4
      iexact Hv4
    isplitl [Hb5 Ha5 Hc5 Hv5]
    · iapply (dn_intro c (s := 0) (j := 5))
      isplitl [Hb5]; · iexact Hb5
      isplitl [Ha5]; · iexact Ha5
      isplitl [Hc5]; · iexact Hc5
      iexact Hv5
    iapply (dn_intro c (s := 0) (j := 6))
    isplitl [Hb6]; · iexact Hb6
    isplitl [Ha6]; · iexact Ha6
    isplitl [Hc6]; · iexact Hc6
    iexact Hv6
  isplitl [Hb7 Ha7 Hc7 Hv7]
  · iapply (dn_intro c (s := 1) (j := 0))
    isplitl [Hb7]; · iexact Hb7
    isplitl [Ha7]; · iexact Ha7
    isplitl [Hc7]; · iexact Hc7
    iexact Hv7
  isplitl [Hb8 Ha8 Hc8 Hv8]
  · iapply (dn_intro c (s := 1) (j := 1))
    isplitl [Hb8]; · iexact Hb8
    isplitl [Ha8]; · iexact Ha8
    isplitl [Hc8]; · iexact Hc8
    iexact Hv8
  isplitl [Hb9 Ha9 Hc9 Hv9]
  · iapply (dn_intro c (s := 1) (j := 2))
    isplitl [Hb9]; · iexact Hb9
    isplitl [Ha9]; · iexact Ha9
    isplitl [Hc9]; · iexact Hc9
    iexact Hv9
  isplitl [Hb10 Ha10 Hc10 Hv10]
  · iapply (dn_intro c (s := 1) (j := 3))
    isplitl [Hb10]; · iexact Hb10
    isplitl [Ha10]; · iexact Ha10
    isplitl [Hc10]; · iexact Hc10
    iexact Hv10
  isplitl [Hb11 Ha11 Hc11 Hv11]
  · iapply (dn_intro c (s := 1) (j := 4))
    isplitl [Hb11]; · iexact Hb11
    isplitl [Ha11]; · iexact Ha11
    isplitl [Hc11]; · iexact Hc11
    iexact Hv11
  isplitl [Hb12 Ha12 Hc12 Hv12]
  · iapply (dn_intro c (s := 1) (j := 5))
    isplitl [Hb12]; · iexact Hb12
    isplitl [Ha12]; · iexact Ha12
    isplitl [Hc12]; · iexact Hc12
    iexact Hv12
  iapply (dn_intro c (s := 1) (j := 6))
  isplitl [Hb13]; · iexact Hb13
  isplitl [Ha13]; · iexact Ha13
  isplitl [Hc13]; · iexact Hc13
  iexact Hv13

theorem dn_join {f5 : Cts (F := F) c A5} {f10 : Cts (F := F) c A10} :
    iprop((pt c A5 (shareDrop fullShare 14) f5 ∗ pt c A10 (shareDrop fullShare 14) f10) ∗ sep7 (fun j => DnIdle c f5 f10 0 j) ∗ sep7 (fun j => DnIdle c f5 f10 1 j))
      ⊢ iprop(some' (F := F) c B31 ∗ pt c A5 fullShare f5 ∗ pt c A10 fullShare f10 ∗ dnVals (F := F) c) := by
  iintro ⟨⟨HA, HC⟩, ⟨He0, He1, He2, He3, He4, He5, He6⟩, ⟨He7, He8, He9, He10, He11, He12, He13⟩⟩
  ihave He0 := (dn_elim c) $$ He0
  icases He0 with ⟨Hb0, Ha0, Hc0, Hv0⟩
  ihave He1 := (dn_elim c) $$ He1
  icases He1 with ⟨Hb1, Ha1, Hc1, Hv1⟩
  ihave He2 := (dn_elim c) $$ He2
  icases He2 with ⟨Hb2, Ha2, Hc2, Hv2⟩
  ihave He3 := (dn_elim c) $$ He3
  icases He3 with ⟨Hb3, Ha3, Hc3, Hv3⟩
  ihave He4 := (dn_elim c) $$ He4
  icases He4 with ⟨Hb4, Ha4, Hc4, Hv4⟩
  ihave He5 := (dn_elim c) $$ He5
  icases He5 with ⟨Hb5, Ha5, Hc5, Hv5⟩
  ihave He6 := (dn_elim c) $$ He6
  icases He6 with ⟨Hb6, Ha6, Hc6, Hv6⟩
  ihave He7 := (dn_elim c) $$ He7
  icases He7 with ⟨Hb7, Ha7, Hc7, Hv7⟩
  ihave He8 := (dn_elim c) $$ He8
  icases He8 with ⟨Hb8, Ha8, Hc8, Hv8⟩
  ihave He9 := (dn_elim c) $$ He9
  icases He9 with ⟨Hb9, Ha9, Hc9, Hv9⟩
  ihave He10 := (dn_elim c) $$ He10
  icases He10 with ⟨Hb10, Ha10, Hc10, Hv10⟩
  ihave He11 := (dn_elim c) $$ He11
  icases He11 with ⟨Hb11, Ha11, Hc11, Hv11⟩
  ihave He12 := (dn_elim c) $$ He12
  icases He12 with ⟨Hb12, Ha12, Hc12, Hv12⟩
  ihave He13 := (dn_elim c) $$ He13
  icases He13 with ⟨Hb13, Ha13, Hc13, Hv13⟩
  isplitl [Hb0 Hb1 Hb2 Hb3 Hb4 Hb5 Hb6 Hb7 Hb8 Hb9 Hb10 Hb11 Hb12 Hb13]
  · iapply (dn_unblocks c)
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    iexact Hb13
  isplitl [HA Ha0 Ha1 Ha2 Ha3 Ha4 Ha5 Ha6 Ha7 Ha8 Ha9 Ha10 Ha11 Ha12 Ha13]
  · iapply (toks14 c).2
    isplitl [HA]; · iexact HA
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    iexact Ha13
  isplitl [HC Hc0 Hc1 Hc2 Hc3 Hc4 Hc5 Hc6 Hc7 Hc8 Hc9 Hc10 Hc11 Hc12 Hc13]
  · iapply (toks14 c).2
    isplitl [HC]; · iexact HC
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    iexact Hc13
  · skip
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11]; · iexact Hv11
    isplitl [Hv12]; · iexact Hv12
    iexact Hv13

end

end Cert.KernelIdeal.Hand
-- ==== Proof.KernelIdeal.Issue.lean ====
/-
  Hand-written. The kernel's first part: the copies of the operands and of the shared expert's weights issued, the flags cleared.
-/
module

public import proofs.«01_k».proof.Proof.KernelIdeal.Small
public import proofs.«01_k».proof.Proof.KernelIdeal.Parts

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

section
variable (c : Dev nD) (M12 : Memref sig .tc .vmem S33x7168 .bf16) (h12 : M12.IsWhole) (Y : Ops F c) (qa qb : PosShare TreeShare)

theorem wp_part24 {K : PUnit → sProp (MT nD τ sig Unit (Elt F) ℕ (Pipeline.UD sig nD τ) ℕ)} :
    iprop(pt c A1 qa Y.f1 ∗ some' (F := F) c B23 ∗ semVal ((c : Thread nD τ), SemLoc.dma cc0_scratch20.sem) 0 ∗ pt c A0 fullShare Y.f0 ∗ some' (F := F) c B13 ∗ semVal ((c : Thread nD τ), SemLoc.dma (sCell 0 inb_S8_S1_0)) 0 ∗ pt c A7 fullShare Y.f7 ∗ some' (F := F) c B20 ∗ semVal ((c : Thread nD τ), SemLoc.dma (sCell 1 inb_S8_S1_1)) 0 ∗ pt c A1 qb Y.f1 ∗ some' (F := F) c B14 ∗ semVal ((c : Thread nD τ), SemLoc.dma (sCell 2 inb_S8_S1_2)) 0 ∗ pt c A2 fullShare Y.f2 ∗ some' (F := F) c B15 ∗ semVal ((c : Thread nD τ), SemLoc.dma (sCell 3 inb_S8_S1_3)) 0 ∗ pt c A4 fullShare Y.f4 ∗ some' (F := F) c B18 ∗ semVal ((c : Thread nD τ), SemLoc.dma (sCell 4 inb_S8_S1_4)) 0 ∗ pt c A6 fullShare Y.f6 ∗ some' (F := F) c B19 ∗ semVal ((c : Thread nD τ), SemLoc.dma (sCell 5 inb_S8_S1_5)) 0 ∗ pt c A9 fullShare Y.f9 ∗ some' (F := F) c B21 ∗ semVal ((c : Thread nD τ), SemLoc.dma (sCell 6 inb_S8_S1_6)) 0 ∗ pt c A11 fullShare Y.f11 ∗ some' (F := F) c B22 ∗ semVal ((c : Thread nD τ), SemLoc.dma (sCell 7 inb_S8_S1_7)) 0 ∗ GuIdle c Y.f3 Y.f8 0 0 ∗ (iprop(Sm23 c Y qa ∗ Sm13 c Y fullShare ∗ Sm20 c Y fullShare ∗ Sm14 c Y qb ∗ Sm15 c Y fullShare ∗ Sm18 c Y fullShare ∗ Sm19 c Y fullShare ∗ Sm21 c Y fullShare ∗ Sm22 c Y fullShare ∗ GuFly c Y.f3 Y.f8 0 0 (shGu c Y.f8 0 0)) -∗ K ⟨⟩)) ⊢ WP c (P24 (F := F) M12 h12) K := by
  rw [P24, k0_part24_eq_skeleton]
  unfold k0_part24_skel
  dsimp only [storeSubelements, smemLoad, smemLoadElt, Prog.bind_lift, Prog.bind_op, Prog.bind_ret, Prog.pure_eq_ret]
  iintro ⟨HA1_23, HB23, HV23, HA0_13, HB13, HV13, HA7_20, HB20, HV20, HA1_14, HB14, HV14, HA2_15, HB15, HV15, HA4_18, HB18, HV18, HA6_19, HB19, HV19, HA9_21, HB21, HV21, HA11_22, HB22, HV22, Hg00, HK⟩
  icases HB23 with ⟨%g23, HB23⟩
  iapply (wp_small c (src := A1) (dst := B23) (fs := Y.f1) (fd := Y.f1) (View.set_whole _) (View.set_whole _) (by decide) (got23 c Y g23)) $$ [HA1_23 HB23 HV23]
  · isplitl [HA1_23]; · iexact HA1_23
    isplitl [HB23] <;> iassumption
  iintro HS23
  icases HB13 with ⟨%g13, HB13⟩
  iapply (wp_small c (src := A0) (dst := B13) (fs := Y.f0) (fd := Y.f0) (View.set_whole _) (View.set_whole _) (by decide) (got13 c Y g13)) $$ [HA0_13 HB13 HV13]
  · isplitl [HA0_13]; · iexact HA0_13
    isplitl [HB13] <;> iassumption
  iintro HS13
  icases HB20 with ⟨%g20, HB20⟩
  iapply (wp_small c (src := A7) (dst := B20) (fs := Y.f7) (fd := Y.f7) (View.set_whole _) (View.set_whole _) (by decide) (got20 c Y g20)) $$ [HA7_20 HB20 HV20]
  · isplitl [HA7_20]; · iexact HA7_20
    isplitl [HB20] <;> iassumption
  iintro HS20
  icases HB14 with ⟨%g14, HB14⟩
  iapply (wp_small c (src := A1) (dst := B14) (fs := Y.f1) (fd := Y.f1) (View.set_whole _) (View.set_whole _) (by decide) (got14 c Y g14)) $$ [HA1_14 HB14 HV14]
  · isplitl [HA1_14]; · iexact HA1_14
    isplitl [HB14] <;> iassumption
  iintro HS14
  icases HB15 with ⟨%g15, HB15⟩
  iapply (wp_small c (src := A2) (dst := B15) (fs := Y.f2) (fd := Y.f2) (View.set_whole _) (View.set_whole _) (by decide) (got15 c Y g15)) $$ [HA2_15 HB15 HV15]
  · isplitl [HA2_15]; · iexact HA2_15
    isplitl [HB15] <;> iassumption
  iintro HS15
  icases HB18 with ⟨%g18, HB18⟩
  iapply (wp_small c (src := A4) (dst := B18) (fs := Y.f4) (fd := Y.f4) (View.set_whole _) (View.set_whole _) (by decide) (got18 c Y g18)) $$ [HA4_18 HB18 HV18]
  · isplitl [HA4_18]; · iexact HA4_18
    isplitl [HB18] <;> iassumption
  iintro HS18
  icases HB19 with ⟨%g19, HB19⟩
  iapply (wp_small c (src := A6) (dst := B19) (fs := Y.f6) (fd := Y.f6) (View.set_whole _) (View.set_whole _) (by decide) (got19 c Y g19)) $$ [HA6_19 HB19 HV19]
  · isplitl [HA6_19]; · iexact HA6_19
    isplitl [HB19] <;> iassumption
  iintro HS19
  icases HB21 with ⟨%g21, HB21⟩
  iapply (wp_small c (src := A9) (dst := B21) (fs := Y.f9) (fd := Y.f9) (View.set_whole _) (View.set_whole _) (by decide) (got21 c Y g21)) $$ [HA9_21 HB21 HV21]
  · isplitl [HA9_21]; · iexact HA9_21
    isplitl [HB21] <;> iassumption
  iintro HS21
  icases HB22 with ⟨%g22, HB22⟩
  iapply (wp_small c (src := A11) (dst := B22) (fs := Y.f11) (fd := Y.f11) (View.set_whole _) (View.set_whole _) (by decide) (got22 c Y g22)) $$ [HA11_22 HB22 HV22]
  · isplitl [HA11_22]; · iexact HA11_22
    isplitl [HB22] <;> iassumption
  iintro HS22
  iapply (wp_shGu0 c (s := 0) (j := 0) (f3 := Y.f3) (f8 := Y.f8) rfl (cInb 0 0) rfl (hInb 0 0 0) rfl (hsInb 0 0 0)) $$ Hg00
  iintro Hg00
  iapply (wp_shGu1 c (s := 0) (j := 0) (f3 := Y.f3) (f8 := Y.f8) rfl (cInb 0 0) rfl (hInb 0 0 1) rfl (hsInb 0 0 1)) $$ Hg00
  iintro Hg00
  iapply wp_done
  iapply HK
  iframe

theorem wp_part25 {K : PUnit → sProp (MT nD τ sig Unit (Elt F) ℕ (Pipeline.UD sig nD τ) ℕ)} :
    iprop(GuIdle c Y.f3 Y.f8 0 1 ∗ GuIdle c Y.f3 Y.f8 0 2 ∗ (iprop(GuFly c Y.f3 Y.f8 0 1 (shGu c Y.f8 0 1) ∗ GuFly c Y.f3 Y.f8 0 2 (shGu c Y.f8 0 2)) -∗ K ⟨⟩)) ⊢ WP c (P25 (F := F) M12 h12) K := by
  rw [P25, k0_part25_eq_skeleton]
  unfold k0_part25_skel
  dsimp only [storeSubelements, smemLoad, smemLoadElt, Prog.bind_lift, Prog.bind_op, Prog.bind_ret, Prog.pure_eq_ret]
  iintro ⟨Hg01, Hg02, HK⟩
  iapply (wp_shGu0 c (s := 0) (j := 1) (f3 := Y.f3) (f8 := Y.f8) rfl (cInb 0 1) rfl (hInb 0 1 0) rfl (hsInb 0 1 0)) $$ Hg01
  iintro Hg01
  iapply (wp_shGu1 c (s := 0) (j := 1) (f3 := Y.f3) (f8 := Y.f8) rfl (cInb 0 1) rfl (hInb 0 1 1) rfl (hsInb 0 1 1)) $$ Hg01
  iintro Hg01
  iapply (wp_shGu0 c (s := 0) (j := 2) (f3 := Y.f3) (f8 := Y.f8) rfl (cInb 0 2) rfl (hInb 0 2 0) rfl (hsInb 0 2 0)) $$ Hg02
  iintro Hg02
  iapply (wp_shGu1 c (s := 0) (j := 2) (f3 := Y.f3) (f8 := Y.f8) rfl (cInb 0 2) rfl (hInb 0 2 1) rfl (hsInb 0 2 1)) $$ Hg02
  iintro Hg02
  iapply wp_done
  iapply HK
  iframe

theorem wp_part26 {K : PUnit → sProp (MT nD τ sig Unit (Elt F) ℕ (Pipeline.UD sig nD τ) ℕ)} :
    iprop(GuIdle c Y.f3 Y.f8 0 3 ∗ GuIdle c Y.f3 Y.f8 0 4 ∗ GuIdle c Y.f3 Y.f8 0 5 ∗ (iprop(GuFly c Y.f3 Y.f8 0 3 (shGu c Y.f8 0 3) ∗ GuFly c Y.f3 Y.f8 0 4 (shGu c Y.f8 0 4) ∗ GuHalf c Y.f3 Y.f8 0 5) -∗ K ⟨⟩)) ⊢ WP c (P26 (F := F) M12 h12) K := by
  rw [P26, k0_part26_eq_skeleton]
  unfold k0_part26_skel
  dsimp only [storeSubelements, smemLoad, smemLoadElt, Prog.bind_lift, Prog.bind_op, Prog.bind_ret, Prog.pure_eq_ret]
  iintro ⟨Hg03, Hg04, Hg05, HK⟩
  iapply (wp_shGu0 c (s := 0) (j := 3) (f3 := Y.f3) (f8 := Y.f8) rfl (cInb 0 3) rfl (hInb 0 3 0) rfl (hsInb 0 3 0)) $$ Hg03
  iintro Hg03
  iapply (wp_shGu1 c (s := 0) (j := 3) (f3 := Y.f3) (f8 := Y.f8) rfl (cInb 0 3) rfl (hInb 0 3 1) rfl (hsInb 0 3 1)) $$ Hg03
  iintro Hg03
  iapply (wp_shGu0 c (s := 0) (j := 4) (f3 := Y.f3) (f8 := Y.f8) rfl (cInb 0 4) rfl (hInb 0 4 0) rfl (hsInb 0 4 0)) $$ Hg04
  iintro Hg04
  iapply (wp_shGu1 c (s := 0) (j := 4) (f3 := Y.f3) (f8 := Y.f8) rfl (cInb 0 4) rfl (hInb 0 4 1) rfl (hsInb 0 4 1)) $$ Hg04
  iintro Hg04
  iapply (wp_shGu0 c (s := 0) (j := 5) (f3 := Y.f3) (f8 := Y.f8) rfl (cInb 0 5) rfl (hInb 0 5 0) rfl (hsInb 0 5 0)) $$ Hg05
  iintro Hg05
  iapply wp_done
  iapply HK
  iframe

theorem wp_part27 {K : PUnit → sProp (MT nD τ sig Unit (Elt F) ℕ (Pipeline.UD sig nD τ) ℕ)} :
    iprop(GuHalf c Y.f3 Y.f8 0 5 ∗ GuIdle c Y.f3 Y.f8 0 6 ∗ DnIdle c Y.f5 Y.f10 0 0 ∗ (iprop(GuFly c Y.f3 Y.f8 0 5 (shGu c Y.f8 0 5) ∗ GuFly c Y.f3 Y.f8 0 6 (shGu c Y.f8 0 6) ∗ DnFly c Y.f5 Y.f10 0 0 (shDn c Y.f10 0 0)) -∗ K ⟨⟩)) ⊢ WP c (P27 (F := F) M12 h12) K := by
  rw [P27, k0_part27_eq_skeleton]
  unfold k0_part27_skel
  dsimp only [storeSubelements, smemLoad, smemLoadElt, Prog.bind_lift, Prog.bind_op, Prog.bind_ret, Prog.pure_eq_ret]
  iintro ⟨Hg05, Hg06, Hd00, HK⟩
  iapply (wp_shGu1 c (s := 0) (j := 5) (f3 := Y.f3) (f8 := Y.f8) rfl (cInb 0 5) rfl (hInb 0 5 1) rfl (hsInb 0 5 1)) $$ Hg05
  iintro Hg05
  iapply (wp_shGu0 c (s := 0) (j := 6) (f3 := Y.f3) (f8 := Y.f8) rfl (cInb 0 6) rfl (hInb 0 6 0) rfl (hsInb 0 6 0)) $$ Hg06
  iintro Hg06
  iapply (wp_shGu1 c (s := 0) (j := 6) (f3 := Y.f3) (f8 := Y.f8) rfl (cInb 0 6) rfl (hInb 0 6 1) rfl (hsInb 0 6 1)) $$ Hg06
  iintro Hg06
  iapply (wp_shDn c (s := 0) (j := 0) (f5 := Y.f5) (f10 := Y.f10) rfl (cInb 0 0) rfl (dnInb 0 0) rfl (dsInb 0 0)) $$ Hd00
  iintro Hd00
  iapply wp_done
  iapply HK
  iframe

theorem wp_part28 {K : PUnit → sProp (MT nD τ sig Unit (Elt F) ℕ (Pipeline.UD sig nD τ) ℕ)} :
    iprop(DnIdle c Y.f5 Y.f10 0 1 ∗ DnIdle c Y.f5 Y.f10 0 2 ∗ DnIdle c Y.f5 Y.f10 0 3 ∗ DnIdle c Y.f5 Y.f10 0 4 ∗ DnIdle c Y.f5 Y.f10 0 5 ∗ (iprop(DnFly c Y.f5 Y.f10 0 1 (shDn c Y.f10 0 1) ∗ DnFly c Y.f5 Y.f10 0 2 (shDn c Y.f10 0 2) ∗ DnFly c Y.f5 Y.f10 0 3 (shDn c Y.f10 0 3) ∗ DnFly c Y.f5 Y.f10 0 4 (shDn c Y.f10 0 4) ∗ DnFly c Y.f5 Y.f10 0 5 (shDn c Y.f10 0 5)) -∗ K ⟨⟩)) ⊢ WP c (P28 (F := F) M12 h12) K := by
  rw [P28, k0_part28_eq_skeleton]
  unfold k0_part28_skel
  dsimp only [storeSubelements, smemLoad, smemLoadElt, Prog.bind_lift, Prog.bind_op, Prog.bind_ret, Prog.pure_eq_ret]
  iintro ⟨Hd01, Hd02, Hd03, Hd04, Hd05, HK⟩
  iapply (wp_shDn c (s := 0) (j := 1) (f5 := Y.f5) (f10 := Y.f10) rfl (cInb 0 1) rfl (dnInb 0 1) rfl (dsInb 0 1)) $$ Hd01
  iintro Hd01
  iapply (wp_shDn c (s := 0) (j := 2) (f5 := Y.f5) (f10 := Y.f10) rfl (cInb 0 2) rfl (dnInb 0 2) rfl (dsInb 0 2)) $$ Hd02
  iintro Hd02
  iapply (wp_shDn c (s := 0) (j := 3) (f5 := Y.f5) (f10 := Y.f10) rfl (cInb 0 3) rfl (dnInb 0 3) rfl (dsInb 0 3)) $$ Hd03
  iintro Hd03
  iapply (wp_shDn c (s := 0) (j := 4) (f5 := Y.f5) (f10 := Y.f10) rfl (cInb 0 4) rfl (dnInb 0 4) rfl (dsInb 0 4)) $$ Hd04
  iintro Hd04
  iapply (wp_shDn c (s := 0) (j := 5) (f5 := Y.f5) (f10 := Y.f10) rfl (cInb 0 5) rfl (dnInb 0 5) rfl (dsInb 0 5)) $$ Hd05
  iintro Hd05
  iapply wp_done
  iapply HK
  iframe

theorem wp_part29 {K : PUnit → sProp (MT nD τ sig Unit (Elt F) ℕ (Pipeline.UD sig nD τ) ℕ)} :
    iprop(DnIdle c Y.f5 Y.f10 0 6 ∗ GuIdle c Y.f3 Y.f8 1 0 ∗ GuIdle c Y.f3 Y.f8 1 1 ∗ (iprop(DnFly c Y.f5 Y.f10 0 6 (shDn c Y.f10 0 6) ∗ GuFly c Y.f3 Y.f8 1 0 (shGu c Y.f8 1 0) ∗ GuFly c Y.f3 Y.f8 1 1 (shGu c Y.f8 1 1)) -∗ K ⟨⟩)) ⊢ WP c (P29 (F := F) M12 h12) K := by
  rw [P29, k0_part29_eq_skeleton]
  unfold k0_part29_skel
  dsimp only [storeSubelements, smemLoad, smemLoadElt, Prog.bind_lift, Prog.bind_op, Prog.bind_ret, Prog.pure_eq_ret]
  iintro ⟨Hd06, Hg10, Hg11, HK⟩
  iapply (wp_shDn c (s := 0) (j := 6) (f5 := Y.f5) (f10 := Y.f10) rfl (cInb 0 6) rfl (dnInb 0 6) rfl (dsInb 0 6)) $$ Hd06
  iintro Hd06
  iapply (wp_shGu0 c (s := 1) (j := 0) (f3 := Y.f3) (f8 := Y.f8) rfl (cInb 1 0) rfl (hInb 1 0 0) rfl (hsInb 1 0 0)) $$ Hg10
  iintro Hg10
  iapply (wp_shGu1 c (s := 1) (j := 0) (f3 := Y.f3) (f8 := Y.f8) rfl (cInb 1 0) rfl (hInb 1 0 1) rfl (hsInb 1 0 1)) $$ Hg10
  iintro Hg10
  iapply (wp_shGu0 c (s := 1) (j := 1) (f3 := Y.f3) (f8 := Y.f8) rfl (cInb 1 1) rfl (hInb 1 1 0) rfl (hsInb 1 1 0)) $$ Hg11
  iintro Hg11
  iapply (wp_shGu1 c (s := 1) (j := 1) (f3 := Y.f3) (f8 := Y.f8) rfl (cInb 1 1) rfl (hInb 1 1 1) rfl (hsInb 1 1 1)) $$ Hg11
  iintro Hg11
  iapply wp_done
  iapply HK
  iframe

theorem wp_part30 {K : PUnit → sProp (MT nD τ sig Unit (Elt F) ℕ (Pipeline.UD sig nD τ) ℕ)} :
    iprop(GuIdle c Y.f3 Y.f8 1 2 ∗ GuIdle c Y.f3 Y.f8 1 3 ∗ (iprop(GuFly c Y.f3 Y.f8 1 2 (shGu c Y.f8 1 2) ∗ GuFly c Y.f3 Y.f8 1 3 (shGu c Y.f8 1 3)) -∗ K ⟨⟩)) ⊢ WP c (P30 (F := F) M12 h12) K := by
  rw [P30, k0_part30_eq_skeleton]
  unfold k0_part30_skel
  dsimp only [storeSubelements, smemLoad, smemLoadElt, Prog.bind_lift, Prog.bind_op, Prog.bind_ret, Prog.pure_eq_ret]
  iintro ⟨Hg12, Hg13, HK⟩
  iapply (wp_shGu0 c (s := 1) (j := 2) (f3 := Y.f3) (f8 := Y.f8) rfl (cInb 1 2) rfl (hInb 1 2 0) rfl (hsInb 1 2 0)) $$ Hg12
  iintro Hg12
  iapply (wp_shGu1 c (s := 1) (j := 2) (f3 := Y.f3) (f8 := Y.f8) rfl (cInb 1 2) rfl (hInb 1 2 1) rfl (hsInb 1 2 1)) $$ Hg12
  iintro Hg12
  iapply (wp_shGu0 c (s := 1) (j := 3) (f3 := Y.f3) (f8 := Y.f8) rfl (cInb 1 3) rfl (hInb 1 3 0) rfl (hsInb 1 3 0)) $$ Hg13
  iintro Hg13
  iapply (wp_shGu1 c (s := 1) (j := 3) (f3 := Y.f3) (f8 := Y.f8) rfl (cInb 1 3) rfl (hInb 1 3 1) rfl (hsInb 1 3 1)) $$ Hg13
  iintro Hg13
  iapply wp_done
  iapply HK
  iframe

theorem wp_part31 {K : PUnit → sProp (MT nD τ sig Unit (Elt F) ℕ (Pipeline.UD sig nD τ) ℕ)} :
    iprop(GuIdle c Y.f3 Y.f8 1 4 ∗ GuIdle c Y.f3 Y.f8 1 5 ∗ GuIdle c Y.f3 Y.f8 1 6 ∗ (iprop(GuFly c Y.f3 Y.f8 1 4 (shGu c Y.f8 1 4) ∗ GuFly c Y.f3 Y.f8 1 5 (shGu c Y.f8 1 5) ∗ GuHalf c Y.f3 Y.f8 1 6) -∗ K ⟨⟩)) ⊢ WP c (P31 (F := F) M12 h12) K := by
  rw [P31, k0_part31_eq_skeleton]
  unfold k0_part31_skel
  dsimp only [storeSubelements, smemLoad, smemLoadElt, Prog.bind_lift, Prog.bind_op, Prog.bind_ret, Prog.pure_eq_ret]
  iintro ⟨Hg14, Hg15, Hg16, HK⟩
  iapply (wp_shGu0 c (s := 1) (j := 4) (f3 := Y.f3) (f8 := Y.f8) rfl (cInb 1 4) rfl (hInb 1 4 0) rfl (hsInb 1 4 0)) $$ Hg14
  iintro Hg14
  iapply (wp_shGu1 c (s := 1) (j := 4) (f3 := Y.f3) (f8 := Y.f8) rfl (cInb 1 4) rfl (hInb 1 4 1) rfl (hsInb 1 4 1)) $$ Hg14
  iintro Hg14
  iapply (wp_shGu0 c (s := 1) (j := 5) (f3 := Y.f3) (f8 := Y.f8) rfl (cInb 1 5) rfl (hInb 1 5 0) rfl (hsInb 1 5 0)) $$ Hg15
  iintro Hg15
  iapply (wp_shGu1 c (s := 1) (j := 5) (f3 := Y.f3) (f8 := Y.f8) rfl (cInb 1 5) rfl (hInb 1 5 1) rfl (hsInb 1 5 1)) $$ Hg15
  iintro Hg15
  iapply (wp_shGu0 c (s := 1) (j := 6) (f3 := Y.f3) (f8 := Y.f8) rfl (cInb 1 6) rfl (hInb 1 6 0) rfl (hsInb 1 6 0)) $$ Hg16
  iintro Hg16
  iapply wp_done
  iapply HK
  iframe

theorem wp_part32 {K : PUnit → sProp (MT nD τ sig Unit (Elt F) ℕ (Pipeline.UD sig nD τ) ℕ)} :
    iprop(GuHalf c Y.f3 Y.f8 1 6 ∗ DnIdle c Y.f5 Y.f10 1 0 ∗ DnIdle c Y.f5 Y.f10 1 1 ∗ DnIdle c Y.f5 Y.f10 1 2 ∗ DnIdle c Y.f5 Y.f10 1 3 ∗ (iprop(GuFly c Y.f3 Y.f8 1 6 (shGu c Y.f8 1 6) ∗ DnFly c Y.f5 Y.f10 1 0 (shDn c Y.f10 1 0) ∗ DnFly c Y.f5 Y.f10 1 1 (shDn c Y.f10 1 1) ∗ DnFly c Y.f5 Y.f10 1 2 (shDn c Y.f10 1 2) ∗ DnFly c Y.f5 Y.f10 1 3 (shDn c Y.f10 1 3)) -∗ K ⟨⟩)) ⊢ WP c (P32 (F := F) M12 h12) K := by
  rw [P32, k0_part32_eq_skeleton]
  unfold k0_part32_skel
  dsimp only [storeSubelements, smemLoad, smemLoadElt, Prog.bind_lift, Prog.bind_op, Prog.bind_ret, Prog.pure_eq_ret]
  iintro ⟨Hg16, Hd10, Hd11, Hd12, Hd13, HK⟩
  iapply (wp_shGu1 c (s := 1) (j := 6) (f3 := Y.f3) (f8 := Y.f8) rfl (cInb 1 6) rfl (hInb 1 6 1) rfl (hsInb 1 6 1)) $$ Hg16
  iintro Hg16
  iapply (wp_shDn c (s := 1) (j := 0) (f5 := Y.f5) (f10 := Y.f10) rfl (cInb 1 0) rfl (dnInb 1 0) rfl (dsInb 1 0)) $$ Hd10
  iintro Hd10
  iapply (wp_shDn c (s := 1) (j := 1) (f5 := Y.f5) (f10 := Y.f10) rfl (cInb 1 1) rfl (dnInb 1 1) rfl (dsInb 1 1)) $$ Hd11
  iintro Hd11
  iapply (wp_shDn c (s := 1) (j := 2) (f5 := Y.f5) (f10 := Y.f10) rfl (cInb 1 2) rfl (dnInb 1 2) rfl (dsInb 1 2)) $$ Hd12
  iintro Hd12
  iapply (wp_shDn c (s := 1) (j := 3) (f5 := Y.f5) (f10 := Y.f10) rfl (cInb 1 3) rfl (dnInb 1 3) rfl (dsInb 1 3)) $$ Hd13
  iintro Hd13
  iapply wp_done
  iapply HK
  iframe

theorem wp_part33 {K : PUnit → sProp (MT nD τ sig Unit (Elt F) ℕ (Pipeline.UD sig nD τ) ℕ)} :
    iprop(DnIdle c Y.f5 Y.f10 1 4 ∗ DnIdle c Y.f5 Y.f10 1 5 ∗ DnIdle c Y.f5 Y.f10 1 6 ∗ Sm23 c Y qa ∗ Ow (F := F) c ∗ Zeroed (F := F) c 0 ∗ (iprop(DnFly c Y.f5 Y.f10 1 4 (shDn c Y.f10 1 4) ∗ DnFly c Y.f5 Y.f10 1 5 (shDn c Y.f10 1 5) ∗ DnFly c Y.f5 Y.f10 1 6 (shDn c Y.f10 1 6) ∗ pt c B23 fullShare Y.f1 ∗ pt c A1 qa Y.f1 ∗ semVal ((c : Thread nD τ), SemLoc.dma cc0_scratch20.sem) 0 ∗ Ow (F := F) c ∗ Zeroed (F := F) c 5) -∗ K ⟨⟩)) ⊢ WP c (P33 (F := F) M12 h12) K := by
  rw [P33, k0_part33_eq_skeleton]
  unfold k0_part33_skel
  dsimp only [storeSubelements, smemLoad, smemLoadElt, Prog.bind_lift, Prog.bind_op, Prog.bind_ret, Prog.pure_eq_ret]
  iintro ⟨Hd14, Hd15, Hd16, HS23, Hw, HZ, HK⟩
  iapply (wp_shDn c (s := 1) (j := 4) (f5 := Y.f5) (f10 := Y.f10) rfl (cInb 1 4) rfl (dnInb 1 4) rfl (dsInb 1 4)) $$ Hd14
  iintro Hd14
  iapply (wp_shDn c (s := 1) (j := 5) (f5 := Y.f5) (f10 := Y.f10) rfl (cInb 1 5) rfl (dnInb 1 5) rfl (dsInb 1 5)) $$ Hd15
  iintro Hd15
  iapply (wp_shDn c (s := 1) (j := 6) (f5 := Y.f5) (f10 := Y.f10) rfl (cInb 1 6) rfl (dnInb 1 6) rfl (dsInb 1 6)) $$ Hd16
  iintro Hd16
  iapply (wp_smWait c (src := A1) (dst := B23)) $$ [HS23 Hw]
  · isplitl [HS23] <;> iassumption
  iintro ⟨HB23, HA1_23, HV23, Hw⟩
  iapply (wp_zero c (q := 0)) $$ HZ
  iintro HZ
  iapply (wp_zero c (q := 1)) $$ HZ
  iintro HZ
  iapply (wp_zero c (q := 2)) $$ HZ
  iintro HZ
  iapply (wp_zero c (q := 3)) $$ HZ
  iintro HZ
  iapply (wp_zero c (q := 4)) $$ HZ
  iintro HZ
  iapply wp_done
  iapply HK
  iframe

theorem wp_part34 {K : PUnit → sProp (MT nD τ sig Unit (Elt F) ℕ (Pipeline.UD sig nD τ) ℕ)} :
    iprop(Zeroed (F := F) c 5 ∗ (iprop(Zeroed (F := F) c 20) -∗ K ⟨⟩)) ⊢ WP c (P34 (F := F) M12 h12) K := by
  rw [P34, k0_part34_eq_skeleton]
  unfold k0_part34_skel
  dsimp only [storeSubelements, smemLoad, smemLoadElt, Prog.bind_lift, Prog.bind_op, Prog.bind_ret, Prog.pure_eq_ret]
  iintro ⟨HZ, HK⟩
  iapply (wp_zero c (q := 5)) $$ HZ
  iintro HZ
  iapply (wp_zero c (q := 6)) $$ HZ
  iintro HZ
  iapply (wp_zero c (q := 7)) $$ HZ
  iintro HZ
  iapply (wp_zero c (q := 8)) $$ HZ
  iintro HZ
  iapply (wp_zero c (q := 9)) $$ HZ
  iintro HZ
  iapply (wp_zero c (q := 10)) $$ HZ
  iintro HZ
  iapply (wp_zero c (q := 11)) $$ HZ
  iintro HZ
  iapply (wp_zero c (q := 12)) $$ HZ
  iintro HZ
  iapply (wp_zero c (q := 13)) $$ HZ
  iintro HZ
  iapply (wp_zero c (q := 14)) $$ HZ
  iintro HZ
  iapply (wp_zero c (q := 15)) $$ HZ
  iintro HZ
  iapply (wp_zero c (q := 16)) $$ HZ
  iintro HZ
  iapply (wp_zero c (q := 17)) $$ HZ
  iintro HZ
  iapply (wp_zero c (q := 18)) $$ HZ
  iintro HZ
  iapply (wp_zero c (q := 19)) $$ HZ
  iintro HZ
  iapply wp_done
  iapply HK
  iframe

end

end Cert.KernelIdeal.Hand
-- ==== Proof.KernelIdeal.Run.lean ====
/-
  Hand-written. The kernel's body, whole: its parts composed, from the buffers as the launch hands them to the result written.
-/
module

public import proofs.«01_k».proof.Proof.KernelIdeal.Pool
public import proofs.«01_k».proof.Proof.KernelIdeal.Issue
public import proofs.«01_k».proof.Proof.KernelIdeal.Lists
public import proofs.«01_k».proof.Proof.KernelIdeal.Main

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

local notation "𝕄" => MT nD τ sig Unit (Elt F) ℕ (Pipeline.UD sig nD τ) ℕ

/-! ## The result -/

/-- The seven chunks of the accumulator side by side. -/
def outV (A : Fin 7 → Vec F S33x1024 .f32) : Vec F S33x7168 .f32 := fun x =>
  A ⟨(x 1).val / 1024, by have h : (x 1).val < 7168 := (x 1).isLt; omega⟩
    (fun a => match a with
      | ⟨0, _⟩ => (⟨(x 0).val, (x 0).isLt⟩ : Fin 33)
      | ⟨1, _⟩ => (⟨(x 1).val % 1024, Nat.mod_lt _ (by decide)⟩ : Fin 1024))

section
variable (c : Dev nD)

theorem outV_of {f : Cts (F := F) c B29} {A : Fin 7 → Vec F S33x1024 .f32} (h : ∀ j, rd c B29 f (acOff j) S33x1024.size (acInb j) = A j) :
    rd c B29 f ![0, 0] S33x7168.size inb_S40x7168_S33x7168_0_0 = outV A := by
  funext x
  have h1 : (x 1).val < 7168 := (x 1).isLt
  unfold outV
  rw [← h]
  show f _ = f _
  congr 1
  funext a
  match a with
  | ⟨0, _⟩ => exact Fin.ext rfl
  | ⟨1, _⟩ =>
    refine Fin.ext ?_
    show 0 + 1 * (x 1).val = 1024 * ((x 1).val / 1024) + 1 * ((x 1).val % 1024)
    omega

variable (Y : Ops F c)

/-- The list of the active experts, in increasing order; past its end nothing is read. -/
def listC : Cts (F := F) c B25 := fun x => BitVec.ofNat 32 ((act c Y).getD (x 0).val 0)

/-- What the loop over the items reads, and the accumulator after the last of them. -/
def finX : Fixed F c := fixedOf c Y (listC c Y)
def finAcc : Fin 7 → Vec F S33x1024 .f32 := accAt c (finX c Y) (cnt c Y) (acc0 c (k0_pay50 Y.f0)) (2 + (cnt c Y).val)
/-- The kernel's result. -/
def outY : Vec F S33x7168 .bf16 := k0_pay1 (outV (finAcc c Y))

theorem mem_lst {S : Finset ℕ} {e a : ℕ} (h : a < e) (hS : a ∈ S) : a ∈ lst S e := by
  unfold lst
  exact List.mem_filter.mpr ⟨List.mem_range.mpr h, decide_eq_true hS⟩
theorem lst_lt {S : Finset ℕ} {e a : ℕ} (h : a ∈ lst S e) : a < e := by
  unfold lst at h
  exact List.mem_range.mp (List.mem_filter.mp h).1

theorem act_lt {e : ℕ} (h : e ∈ act c Y) : e < 32 := by
  unfold act at h
  exact lst_lt h

theorem act_mem (k : Fin 8) (t : Fin 33) (hR : ∀ k t, (idw c Y.f1 k t).toNat < 32) : (idw c Y.f1 k t).toNat ∈ act c Y := by
  have h1 := (mem_actUp c Y.f1 (idw c Y.f1 k t).toNat 33 (le_refl _)).mpr ⟨t, t.isLt, k, rfl⟩
  have h2 := hR k t
  revert h1 h2
  unfold act
  generalize (idw c Y.f1 k t).toNat = a, actUp c Y.f1 33 = S
  exact fun h1 h2 => mem_lst h2 h1

theorem act_pos (hR : ∀ k t, (idw c Y.f1 k t).toNat < 32) : 0 < (cnt c Y).val := by
  rw [cnt_val]
  exact List.length_pos_of_mem (act_mem c Y 0 0 hR)

theorem lq_of {L : List ℕ} {f25 : Cts (F := F) c B25} (hf : ListIs (F := F) L f25) (q : Fin 32) (hq : q.val < L.length) :
    lq c (fixedOf c Y f25) q = BitVec.ofNat 32 L[q.val] := by
  refine Eq.trans ?_ (hf (fun a => match a with | ⟨0, _⟩ => q) hq)
  show f25 _ = f25 _
  congr 1
  funext a
  match a with
  | ⟨0, _⟩ => exact Fin.ext (by show q.val + 1 * 0 = q.val; omega)

theorem lq_lt {f25 : Cts (F := F) c B25} (hf : ListIs (F := F) (act c Y) f25) (q : Fin 32) (hq : q.val < (cnt c Y).val) :
    (lq c (fixedOf c Y f25) q).toNat < 32 := by
  rw [cnt_val] at hq
  rw [lq_of c Y hf q hq, BitVec.toNat_ofNat]
  exact (Nat.mod_le _ _).trans_lt (act_lt c Y (List.getElem_mem _))

theorem listIs_getD (L : List ℕ) : ListIs (F := F) L (fun x => BitVec.ofNat 32 (L.getD (x 0).val 0)) := fun x h => by
  show BitVec.ofNat 32 (L.getD (x 0).val 0) = _
  rw [List.getD_eq_getElem?_getD, List.getElem?_eq_getElem h, Option.getD_some]

theorem listC_is : ListIs (F := F) (act c Y) (listC c Y) := listIs_getD _

/-- The accumulator depends on the list's first entries only. -/
theorem acc_list {f f' : Cts (F := F) c B25} {n : Fin 33} (hn : 0 < n.val) (h : ∀ q : Fin 32, q.val < n.val → lq c (fixedOf c Y f) q = lq c (fixedOf c Y f') q)
    (A : Fin 7 → Vec F S33x1024 .f32) : ∀ i, i ≤ 2 + n.val → accAt c (fixedOf c Y f) n A i = accAt c (fixedOf c Y f') n A i
  | 0, _ => rfl
  | i + 1, hi => by
    have ih := acc_list hn h A i (by omega)
    have hq : (curAt n i).val < n.val := by
      show (i - 2) % 32 < n.val
      have := Nat.mod_le (i - 2) 32
      omega
    have e1 := h _ hq
    have e2 : ex c (fixedOf c Y f) (curAt n i) = ex c (fixedOf c Y f') (curAt n i) := by
      refine Fin.ext ?_
      show (lq c (fixedOf c Y f) (curAt n i)).toNat % 32 = (lq c (fixedOf c Y f') (curAt n i)).toNat % 32
      rw [e1]
    have eg : guV c (fixedOf c Y f) n i = guV c (fixedOf c Y f') n i := by
      funext j; unfold guV; rw [e2]; rfl
    have ed : dnV c (fixedOf c Y f) n i = dnV c (fixedOf c Y f') n i := by
      funext j; unfold dnV; rw [e2]; rfl
    have ei : itemId c (fixedOf c Y f) n i = itemId c (fixedOf c Y f') n i := e1
    have eh : hAt c (fixedOf c Y f) n i = hAt c (fixedOf c Y f') n i := by
      unfold hAt; rw [e2, ei, eg]; rfl
    rw [accAt, accAt, ih, e2, ei, eh, ed]; rfl

theorem fin_eq (hR : ∀ k t, (idw c Y.f1 k t).toNat < 32) {f25 : Cts (F := F) c B25} (hf : ListIs (F := F) (act c Y) f25) :
    accAt c (fixedOf c Y f25) (cnt c Y) (acc0 c (k0_pay50 Y.f0)) (2 + (cnt c Y).val) = finAcc c Y :=
  acc_list c Y (act_pos c Y hR) (fun q hq => (lq_of c Y hf q (cnt_val c Y ▸ hq)).trans (lq_of c Y (listC_is c Y) q (cnt_val c Y ▸ hq)).symm) _ _ (Nat.le_refl _)

/-! ## After the last item -/

theorem gu_idle {X : Fixed F c} {n : Fin 33} {i : ℕ} (hi : 2 + n.val ≤ i) (j : Fin 7) : GuS c X n i j ⊢ GuIdle c X.f3 X.f8 (slot i) j := by
  unfold GuS GuSlot
  rw [if_neg (by omega)]
theorem dn_idle {X : Fixed F c} {n : Fin 33} {i : ℕ} (hi : 2 + n.val ≤ i) (j : Fin 7) : DnS c X n i j ⊢ DnIdle c X.f5 X.f10 (slot i) j := by
  unfold DnS DnSlot
  rw [if_neg (by omega)]

theorem slots (i : ℕ) : (slot i = 0 ∧ slot (i + 1) = 1) ∨ (slot i = 1 ∧ slot (i + 1) = 0) := by
  unfold slot
  rcases Nat.mod_two_eq_zero_or_one i with h | h
  · exact Or.inl ⟨Fin.ext h, Fin.ext (by show (i + 1) % 2 = 1; omega)⟩
  · exact Or.inr ⟨Fin.ext h, Fin.ext (by show (i + 1) % 2 = 0; omega)⟩

theorem gu_end {X : Fixed F c} {n : Fin 33} : iprop(sep7 (GuS c X n (2 + n.val)) ∗ sep7 (GuS c X n (2 + n.val + 1)))
    ⊢ iprop(sep7 (fun j => GuIdle c X.f3 X.f8 0 j) ∗ sep7 (fun j => GuIdle c X.f3 X.f8 1 j)) := by
  have h0 := sep7_mono (fun j => gu_idle c (X := X) (n := n) (i := 2 + n.val) (by omega) j)
  have h1 := sep7_mono (fun j => gu_idle c (X := X) (n := n) (i := 2 + n.val + 1) (by omega) j)
  rcases slots (2 + n.val) with ⟨e0, e1⟩ | ⟨e0, e1⟩
  · rw [e0] at h0; rw [e1] at h1
    exact BI.Laws.sep_mono h0 h1
  · rw [e0] at h0; rw [e1] at h1
    refine (BI.Laws.sep_mono h0 h1).trans ?_
    iintro ⟨Ha, Hb⟩
    isplitl [Hb]
    · iexact Hb
    iexact Ha
theorem dn_end {X : Fixed F c} {n : Fin 33} : iprop(sep7 (DnS c X n (2 + n.val)) ∗ sep7 (DnS c X n (2 + n.val + 1)))
    ⊢ iprop(sep7 (fun j => DnIdle c X.f5 X.f10 0 j) ∗ sep7 (fun j => DnIdle c X.f5 X.f10 1 j)) := by
  have h0 := sep7_mono (fun j => dn_idle c (X := X) (n := n) (i := 2 + n.val) (by omega) j)
  have h1 := sep7_mono (fun j => dn_idle c (X := X) (n := n) (i := 2 + n.val + 1) (by omega) j)
  rcases slots (2 + n.val) with ⟨e0, e1⟩ | ⟨e0, e1⟩
  · rw [e0] at h0; rw [e1] at h1
    exact BI.Laws.sep_mono h0 h1
  · rw [e0] at h0; rw [e1] at h1
    refine (BI.Laws.sep_mono h0 h1).trans ?_
    iintro ⟨Ha, Hb⟩
    isplitl [Hb]
    · iexact Hb
    iexact Ha

/-! ## The parts in order -/

/-- The operands' values in HBM, whole. -/
abbrev Whole : sProp 𝕄 := iprop(pt c A0 fullShare Y.f0 ∗ pt c A1 fullShare Y.f1 ∗ pt c A2 fullShare Y.f2 ∗ pt c A3 fullShare Y.f3 ∗ pt c A4 fullShare Y.f4 ∗ pt c A5 fullShare Y.f5 ∗ pt c A6 fullShare Y.f6 ∗ pt c A7 fullShare Y.f7 ∗ pt c A8 fullShare Y.f8 ∗ pt c A9 fullShare Y.f9 ∗ pt c A10 fullShare Y.f10 ∗ pt c A11 fullShare Y.f11)
/-- The small copies' cells at zero. -/
abbrev smVals : sProp 𝕄 := iprop(semVal ((c : Thread nD τ), SemLoc.dma (sCell 0 inb_S8_S1_0)) 0 ∗ semVal ((c : Thread nD τ), SemLoc.dma (sCell 1 inb_S8_S1_1)) 0 ∗ semVal ((c : Thread nD τ), SemLoc.dma (sCell 2 inb_S8_S1_2)) 0 ∗ semVal ((c : Thread nD τ), SemLoc.dma (sCell 3 inb_S8_S1_3)) 0 ∗ semVal ((c : Thread nD τ), SemLoc.dma (sCell 4 inb_S8_S1_4)) 0 ∗ semVal ((c : Thread nD τ), SemLoc.dma (sCell 5 inb_S8_S1_5)) 0 ∗ semVal ((c : Thread nD τ), SemLoc.dma (sCell 6 inb_S8_S1_6)) 0 ∗ semVal ((c : Thread nD τ), SemLoc.dma (sCell 7 inb_S8_S1_7)) 0 ∗ semVal ((c : Thread nD τ), SemLoc.dma cc0_scratch20.sem) 0)
/-- The kernel's scratch buffers at some contents. -/
abbrev Scr : sProp 𝕄 := iprop(some' (F := F) c B13 ∗ some' (F := F) c B14 ∗ some' (F := F) c B15 ∗ some' (F := F) c B16 ∗ some' (F := F) c B17 ∗ some' (F := F) c B18 ∗ some' (F := F) c B19 ∗ some' (F := F) c B20 ∗ some' (F := F) c B21 ∗ some' (F := F) c B22 ∗ some' (F := F) c B23 ∗ some' (F := F) c B24 ∗ some' (F := F) c B25 ∗ some' (F := F) c B26 ∗ some' (F := F) c B27 ∗ some' (F := F) c B28 ∗ some' (F := F) c B29 ∗ some' (F := F) c B30 ∗ some' (F := F) c B31)

section
variable (M12 : Memref sig .tc .vmem S33x7168 .bf16) (h12 : M12.IsWhole) (qa qb : PosShare TreeShare)

/-- The parts that issue the copies, then the rest of the program `g`. -/
theorem wp_issue {α : Type} {g : Prog (TpuEff nD τ sig (Elt F) Λ₀ .tc) α} {K : α → sProp (MT nD τ sig Unit (Elt F) ℕ (Pipeline.UD sig nD τ) ℕ)} :
    iprop(pt c A1 qa Y.f1 ∗ some' (F := F) c B23 ∗ semVal ((c : Thread nD τ), SemLoc.dma cc0_scratch20.sem) 0 ∗ pt c A0 fullShare Y.f0 ∗ some' (F := F) c B13 ∗ semVal ((c : Thread nD τ), SemLoc.dma (sCell 0 inb_S8_S1_0)) 0 ∗ pt c A7 fullShare Y.f7 ∗ some' (F := F) c B20 ∗ semVal ((c : Thread nD τ), SemLoc.dma (sCell 1 inb_S8_S1_1)) 0 ∗ pt c A1 qb Y.f1 ∗ some' (F := F) c B14 ∗ semVal ((c : Thread nD τ), SemLoc.dma (sCell 2 inb_S8_S1_2)) 0 ∗ pt c A2 fullShare Y.f2 ∗ some' (F := F) c B15 ∗ semVal ((c : Thread nD τ), SemLoc.dma (sCell 3 inb_S8_S1_3)) 0 ∗ pt c A4 fullShare Y.f4 ∗ some' (F := F) c B18 ∗ semVal ((c : Thread nD τ), SemLoc.dma (sCell 4 inb_S8_S1_4)) 0 ∗ pt c A6 fullShare Y.f6 ∗ some' (F := F) c B19 ∗ semVal ((c : Thread nD τ), SemLoc.dma (sCell 5 inb_S8_S1_5)) 0 ∗ pt c A9 fullShare Y.f9 ∗ some' (F := F) c B21 ∗ semVal ((c : Thread nD τ), SemLoc.dma (sCell 6 inb_S8_S1_6)) 0 ∗ pt c A11 fullShare Y.f11 ∗ some' (F := F) c B22 ∗ semVal ((c : Thread nD τ), SemLoc.dma (sCell 7 inb_S8_S1_7)) 0 ∗ sep7 (fun j => GuIdle c Y.f3 Y.f8 0 j) ∗ sep7 (fun j => GuIdle c Y.f3 Y.f8 1 j) ∗ sep7 (fun j => DnIdle c Y.f5 Y.f10 0 j) ∗ sep7 (fun j => DnIdle c Y.f5 Y.f10 1 j) ∗ Zeroed (F := F) c 0 ∗ Ow (F := F) c
      ∗ (iprop(Sm13 c Y fullShare ∗ Sm20 c Y fullShare ∗ Sm14 c Y qb ∗ Sm15 c Y fullShare ∗ Sm18 c Y fullShare ∗ Sm19 c Y fullShare ∗ Sm21 c Y fullShare ∗ Sm22 c Y fullShare ∗ pt c B23 fullShare Y.f1 ∗ pt c A1 qa Y.f1 ∗ semVal ((c : Thread nD τ), SemLoc.dma cc0_scratch20.sem) 0 ∗ Ow (F := F) c ∗ Zeroed (F := F) c 20 ∗ sep7 (fun j => GuFly c Y.f3 Y.f8 0 j (shGu c Y.f8 0 j)) ∗ sep7 (fun j => GuFly c Y.f3 Y.f8 1 j (shGu c Y.f8 1 j)) ∗ sep7 (fun j => DnFly c Y.f5 Y.f10 0 j (shDn c Y.f10 0 j)) ∗ sep7 (fun j => DnFly c Y.f5 Y.f10 1 j (shDn c Y.f10 1 j))) -∗ WP c g K))
    ⊢ WP c (P24 (F := F) M12 h12 >>= fun _ => P25 (F := F) M12 h12 >>= fun _ => P26 (F := F) M12 h12 >>= fun _ => P27 (F := F) M12 h12 >>= fun _ => P28 (F := F) M12 h12 >>= fun _ => P29 (F := F) M12 h12 >>= fun _ => P30 (F := F) M12 h12 >>= fun _ => P31 (F := F) M12 h12 >>= fun _ => P32 (F := F) M12 h12 >>= fun _ => P33 (F := F) M12 h12 >>= fun _ => P34 (F := F) M12 h12 >>= fun _ => g) K := by
  iintro ⟨HA1_23, HB23, HV23, HA0_13, HB13, HV13, HA7_20, HB20, HV20, HA1_14, HB14, HV14, HA2_15, HB15, HV15, HA4_18, HB18, HV18, HA6_19, HB19, HV19, HA9_21, HB21, HV21, HA11_22, HB22, HV22, ⟨Hg00, Hg01, Hg02, Hg03, Hg04, Hg05, Hg06⟩, ⟨Hg10, Hg11, Hg12, Hg13, Hg14, Hg15, Hg16⟩, ⟨Hd00, Hd01, Hd02, Hd03, Hd04, Hd05, Hd06⟩, ⟨Hd10, Hd11, Hd12, Hd13, Hd14, Hd15, Hd16⟩, HZ, Hw, HK⟩
  iapply wp_seq
  iapply (wp_part24 c M12 h12 Y qa qb)
  isplitl [HA1_23]; · iexact HA1_23
  isplitl [HB23]; · iexact HB23
  isplitl [HV23]; · iexact HV23
  isplitl [HA0_13]; · iexact HA0_13
  isplitl [HB13]; · iexact HB13
  isplitl [HV13]; · iexact HV13
  isplitl [HA7_20]; · iexact HA7_20
  isplitl [HB20]; · iexact HB20
  isplitl [HV20]; · iexact HV20
  isplitl [HA1_14]; · iexact HA1_14
  isplitl [HB14]; · iexact HB14
  isplitl [HV14]; · iexact HV14
  isplitl [HA2_15]; · iexact HA2_15
  isplitl [HB15]; · iexact HB15
  isplitl [HV15]; · iexact HV15
  isplitl [HA4_18]; · iexact HA4_18
  isplitl [HB18]; · iexact HB18
  isplitl [HV18]; · iexact HV18
  isplitl [HA6_19]; · iexact HA6_19
  isplitl [HB19]; · iexact HB19
  isplitl [HV19]; · iexact HV19
  isplitl [HA9_21]; · iexact HA9_21
  isplitl [HB21]; · iexact HB21
  isplitl [HV21]; · iexact HV21
  isplitl [HA11_22]; · iexact HA11_22
  isplitl [HB22]; · iexact HB22
  isplitl [HV22]; · iexact HV22
  isplitl [Hg00]; · iexact Hg00
  iintro ⟨HS23, HS13, HS20, HS14, HS15, HS18, HS19, HS21, HS22, Hg00⟩
  iapply wp_seq
  iapply (wp_part25 c M12 h12 Y)
  isplitl [Hg01]; · iexact Hg01
  isplitl [Hg02]; · iexact Hg02
  iintro ⟨Hg01, Hg02⟩
  iapply wp_seq
  iapply (wp_part26 c M12 h12 Y)
  isplitl [Hg03]; · iexact Hg03
  isplitl [Hg04]; · iexact Hg04
  isplitl [Hg05]; · iexact Hg05
  iintro ⟨Hg03, Hg04, Hg05⟩
  iapply wp_seq
  iapply (wp_part27 c M12 h12 Y)
  isplitl [Hg05]; · iexact Hg05
  isplitl [Hg06]; · iexact Hg06
  isplitl [Hd00]; · iexact Hd00
  iintro ⟨Hg05, Hg06, Hd00⟩
  iapply wp_seq
  iapply (wp_part28 c M12 h12 Y)
  isplitl [Hd01]; · iexact Hd01
  isplitl [Hd02]; · iexact Hd02
  isplitl [Hd03]; · iexact Hd03
  isplitl [Hd04]; · iexact Hd04
  isplitl [Hd05]; · iexact Hd05
  iintro ⟨Hd01, Hd02, Hd03, Hd04, Hd05⟩
  iapply wp_seq
  iapply (wp_part29 c M12 h12 Y)
  isplitl [Hd06]; · iexact Hd06
  isplitl [Hg10]; · iexact Hg10
  isplitl [Hg11]; · iexact Hg11
  iintro ⟨Hd06, Hg10, Hg11⟩
  iapply wp_seq
  iapply (wp_part30 c M12 h12 Y)
  isplitl [Hg12]; · iexact Hg12
  isplitl [Hg13]; · iexact Hg13
  iintro ⟨Hg12, Hg13⟩
  iapply wp_seq
  iapply (wp_part31 c M12 h12 Y)
  isplitl [Hg14]; · iexact Hg14
  isplitl [Hg15]; · iexact Hg15
  isplitl [Hg16]; · iexact Hg16
  iintro ⟨Hg14, Hg15, Hg16⟩
  iapply wp_seq
  iapply (wp_part32 c M12 h12 Y)
  isplitl [Hg16]; · iexact Hg16
  isplitl [Hd10]; · iexact Hd10
  isplitl [Hd11]; · iexact Hd11
  isplitl [Hd12]; · iexact Hd12
  isplitl [Hd13]; · iexact Hd13
  iintro ⟨Hg16, Hd10, Hd11, Hd12, Hd13⟩
  iapply wp_seq
  iapply (wp_part33 c M12 h12 Y qa)
  isplitl [Hd14]; · iexact Hd14
  isplitl [Hd15]; · iexact Hd15
  isplitl [Hd16]; · iexact Hd16
  isplitl [HS23]; · iexact HS23
  isplitl [Hw]; · iexact Hw
  isplitl [HZ]; · iexact HZ
  iintro ⟨Hd14, Hd15, Hd16, HB23, HA1_23, HV23, Hw, HZ⟩
  iapply wp_seq
  iapply (wp_part34 c M12 h12)
  isplitl [HZ]; · iexact HZ
  iintro HZ
  iapply HK
  isplitl [HS13]; · iexact HS13
  isplitl [HS20]; · iexact HS20
  isplitl [HS14]; · iexact HS14
  isplitl [HS15]; · iexact HS15
  isplitl [HS18]; · iexact HS18
  isplitl [HS19]; · iexact HS19
  isplitl [HS21]; · iexact HS21
  isplitl [HS22]; · iexact HS22
  isplitl [HB23]; · iexact HB23
  isplitl [HA1_23]; · iexact HA1_23
  isplitl [HV23]; · iexact HV23
  isplitl [Hw]; · iexact Hw
  isplitl [HZ]; · iexact HZ
  isplitl [Hg00 Hg01 Hg02 Hg03 Hg04 Hg05 Hg06]
  · isplitl [Hg00]; · iexact Hg00
    isplitl [Hg01]; · iexact Hg01
    isplitl [Hg02]; · iexact Hg02
    isplitl [Hg03]; · iexact Hg03
    isplitl [Hg04]; · iexact Hg04
    isplitl [Hg05]; · iexact Hg05
    iexact Hg06
  isplitl [Hg10 Hg11 Hg12 Hg13 Hg14 Hg15 Hg16]
  · isplitl [Hg10]; · iexact Hg10
    isplitl [Hg11]; · iexact Hg11
    isplitl [Hg12]; · iexact Hg12
    isplitl [Hg13]; · iexact Hg13
    isplitl [Hg14]; · iexact Hg14
    isplitl [Hg15]; · iexact Hg15
    iexact Hg16
  isplitl [Hd00 Hd01 Hd02 Hd03 Hd04 Hd05 Hd06]
  · isplitl [Hd00]; · iexact Hd00
    isplitl [Hd01]; · iexact Hd01
    isplitl [Hd02]; · iexact Hd02
    isplitl [Hd03]; · iexact Hd03
    isplitl [Hd04]; · iexact Hd04
    isplitl [Hd05]; · iexact Hd05
    iexact Hd06
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  iexact Hd16

theorem stored (f : Cts (F := F) c M12) (w : Vec F S33x7168 .bf16) {inb : ∀ a, (![0, 0] : Fin 2 → ℕ) a + S33x7168.size a ≤ S33x7168.size a} :
    M12.view.read (Elt F) ((M12.access (Rect.unit (s := S33x7168) ![0, 0] S33x7168.size inb)).write (Elt F) f w Finset.univ) = w := by
  have h := View.read_write_univ (v := M12.access (Rect.unit (s := S33x7168) ![0, 0] S33x7168.size inb)) f w
  funext x
  refine Eq.trans ?_ (congrFun h x)
  show _ = M12.view.read (Elt F) _ ((Rect.unit (s := S33x7168) ![0, 0] S33x7168.size inb).emb x)
  rw [emb_all _ (by decide)]

/-- The body from the launch's buffers to its result: every operand as it was, every cell at zero. -/
theorem wp_body (hR : ∀ k t, (idw c Y.f1 k t).toNat < 32) {K : PUnit → sProp (MT nD τ sig Unit (Elt F) ℕ (Pipeline.UD sig nD τ) ℕ)} :
    iprop(some' (F := F) c M12 ∗ Scr (F := F) c ∗ Whole c Y ∗ (smVals (F := F) c ∗ guVals (F := F) c ∗ dnVals (F := F) c) ∗ Ow (F := F) c
      ∗ (iprop((∃ f : Cts (F := F) c M12, pt c M12 fullShare f ∗ ⌜M12.view.read (Elt F) f = outY c Y⌝) ∗ Scr (F := F) c ∗ Whole c Y ∗ (smVals (F := F) c ∗ guVals (F := F) c ∗ dnVals (F := F) c) ∗ Ow (F := F) c) -∗ K ⟨⟩))
    ⊢ WP c (cc0_moe_decode (F := F) (Memref.whole main_v0) (Memref.isWhole_whole _) (Memref.whole main_v2) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v5) (Memref.isWhole_whole _) (Memref.whole main_arg8) (Memref.isWhole_whole _) (Memref.whole main_v6) (Memref.isWhole_whole _) (Memref.whole main_arg10) (Memref.isWhole_whole _) (Memref.whole main_v7) (Memref.isWhole_whole _) M12 h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22) K := by
  rw [cc0_moe_decode_eq_skeleton]
  unfold cc0_moe_decode_skel
  iintro ⟨⟨%g12, HM⟩, ⟨HB13, HB14, HB15, HB16, HB17, HB18, HB19, HB20, HB21, HB22, HB23, HB24, HB25, HB26, HB27, HB28, HB29, HB30, HB31⟩, ⟨HA0, HA1, HA2, HA3, HA4, HA5, HA6, HA7, HA8, HA9, HA10, HA11⟩, ⟨⟨HV13, HV20, HV14, HV15, HV18, HV19, HV21, HV22, HV23⟩, Hgv, Hdv⟩, Hw, HK⟩
  ihave HA1 := (toks2 c).1 $$ HA1
  icases HA1 with ⟨HA1, HA1_23, HA1_14⟩
  ihave HG := (gu_split c) $$ [HB30 HA3 HA8 Hgv]
  · isplitl [HB30]; · iexact HB30
    isplitl [HA3]; · iexact HA3
    isplitl [HA8]; · iexact HA8
    iexact Hgv
  icases HG with ⟨HGk, HG0, HG1⟩
  ihave HD := (dn_split c) $$ [HB31 HA5 HA10 Hdv]
  · isplitl [HB31]; · iexact HB31
    isplitl [HA5]; · iexact HA5
    isplitl [HA10]; · iexact HA10
    iexact Hdv
  icases HD with ⟨HDk, HD0, HD1⟩
  iapply (wp_issue c Y M12 h12 (shareTokN fullShare 0) (shareTokN fullShare 1))
  isplitl [HA1_23]; · iexact HA1_23
  isplitl [HB23]; · iexact HB23
  isplitl [HV23]; · iexact HV23
  isplitl [HA0]; · iexact HA0
  isplitl [HB13]; · iexact HB13
  isplitl [HV13]; · iexact HV13
  isplitl [HA7]; · iexact HA7
  isplitl [HB20]; · iexact HB20
  isplitl [HV20]; · iexact HV20
  isplitl [HA1_14]; · iexact HA1_14
  isplitl [HB14]; · iexact HB14
  isplitl [HV14]; · iexact HV14
  isplitl [HA2]; · iexact HA2
  isplitl [HB15]; · iexact HB15
  isplitl [HV15]; · iexact HV15
  isplitl [HA4]; · iexact HA4
  isplitl [HB18]; · iexact HB18
  isplitl [HV18]; · iexact HV18
  isplitl [HA6]; · iexact HA6
  isplitl [HB19]; · iexact HB19
  isplitl [HV19]; · iexact HV19
  isplitl [HA9]; · iexact HA9
  isplitl [HB21]; · iexact HB21
  isplitl [HV21]; · iexact HV21
  isplitl [HA11]; · iexact HA11
  isplitl [HB22]; · iexact HB22
  isplitl [HV22]; · iexact HV22
  isplitl [HG0]; · iexact HG0
  isplitl [HG1]; · iexact HG1
  isplitl [HD0]; · iexact HD0
  isplitl [HD1]; · iexact HD1
  isplitl [HB24]
  · icases HB24 with ⟨%g24, HB24⟩
    unfold Zeroed
    iexists g24
    isplitl [HB24]; · iexact HB24
    ipureintro; exact fun x h => absurd h (Nat.not_lt_zero _)
  isplitl [Hw]; · iexact Hw
  iintro ⟨HS13, HS20, HS14, HS15, HS18, HS19, HS21, HS22, HB23, HA1_23, HV23, Hw, HZ, HG0, HG1, HD0, HD1⟩
  iapply wp_seq
  iapply (wp_part35 c M12 h12 Y hR)
  isplitl [HZ]; · iexact HZ
  isplitl [HB23]; · iexact HB23
  isplitl [HB25]; · iexact HB25
  iintro ⟨HB24, HB23, ⟨%f25, HB25, %hf⟩⟩
  try dsimp only
  iapply wp_seq
  iapply (wp_part36 c M12 h12 Y (cnt c Y) (act_pos c Y hR) (shareTokN fullShare 1))
  isplitl [HS13]; · iexact HS13
  isplitl [HS20]; · iexact HS20
  isplitl [HS14]; · iexact HS14
  isplitl [HS15]; · iexact HS15
  isplitl [HS18]; · iexact HS18
  isplitl [HS19]; · iexact HS19
  isplitl [HS21]; · iexact HS21
  isplitl [HS22]; · iexact HS22
  isplitl [Hw]; · iexact Hw
  isplitl [HB16]; · iexact HB16
  isplitl [HB17]; · iexact HB17
  iintro ⟨⟨HA0, HA7, HA1_14, HA2, HA4, HA6, HA9, HA11, HV13, HV20, HV14, HV15, HV18, HV19, HV21, HV22⟩, HB13, HB20, HB14, HB15, HB18, HB19, HB21, HB22, Hw, HB16, HB17⟩
  try dsimp only
  iapply wp_seq
  iapply (wp_part37 M12 h12 (cnt c Y) (act_pos c Y hR) (lq_lt c Y hf))
  isplitl [HB20]; · iexact HB20
  isplitl [HB26]; · iexact HB26
  isplitl [HB27]; · iexact HB27
  isplitl [HB28]; · iexact HB28
  isplitl [HB29]; · iexact HB29
  isplitl [HB16]; · iexact HB16
  isplitl [HB17]; · iexact HB17
  isplitl [HB18]; · iexact HB18
  isplitl [HB19]; · iexact HB19
  isplitl [HB21]; · iexact HB21
  isplitl [HB22]; · iexact HB22
  isplitl [HB25]; · iexact HB25
  isplitl [HG0]; · iexact HG0
  isplitl [HG1]; · iexact HG1
  isplitl [HD0]; · iexact HD0
  isplitl [HD1]; · iexact HD1
  isplitl [Hw]; · iexact Hw
  iintro ⟨HB20, HI⟩
  unfold ItemInv FixedPts
  icases HI with ⟨⟨HB16, HB17, HB18, HB19, HB21, HB22, HB25, HB26⟩, HB27, HB28, HB29, HG0, HG1, HD0, HD1, Hw⟩
  unfold AccIs
  icases HB29 with ⟨%g29, HB29, %hacc⟩
  ihave HG := (gu_end c) $$ [HG0 HG1]
  · isplitl [HG0] <;> iassumption
  ihave HD := (dn_end c) $$ [HD0 HD1]
  · isplitl [HD0] <;> iassumption
  ihave HG := (gu_join c (f3 := Y.f3) (f8 := Y.f8)) $$ [HGk HG]
  · isplitl [HGk]; · iexact HGk
    iexact HG
  ihave HD := (dn_join c (f5 := Y.f5) (f10 := Y.f10)) $$ [HDk HD]
  · isplitl [HDk]; · iexact HDk
    iexact HD
  icases HG with ⟨HB30, HA3, HA8, Hgv⟩
  icases HD with ⟨HB31, HA5, HA10, Hdv⟩
  ihave HA1 := (toks2 c).2 $$ [HA1 HA1_23 HA1_14]
  · isplitl [HA1]; · iexact HA1
    isplitl [HA1_23] <;> iassumption
  dsimp only [Prog.bind_lift, Prog.bind_op, Prog.bind_ret, Prog.pure_eq_ret]
  iapply (wp_ld c (M := B29) rfl _ inb_S40x7168_S33x7168_0_0) $$ HB29
  iintro HB29
  iapply (wp_ld c (M := M12) rfl _ inb_S33x7168_S33x7168_0_0) $$ HM
  iintro HM
  iapply (wp_store Variants.none (c : Thread nD τ) none Set.univ (m := M12) (r := Rect.unit (s := S33x7168) ![0, 0] S33x7168.size inb_S33x7168_S33x7168_0_0) (S := Finset.univ) (f := g12) (Finset.subset_univ _)) $$ HM
  iintro HM
  iapply wp_done
  iapply HK
  isplitl [HM]
  · iexists _
    isplitl [HM]; · iexact HM
    ipureintro
    rw [stored, outV_of c hacc, outY, ← fin_eq c Y hR hf]
  isplitl [HB13 HB14 HB15 HB16 HB17 HB18 HB19 HB20 HB21 HB22 HB23 HB24 HB25 HB26 HB27 HB28 HB29 HB30 HB31]
  · isplitl [HB13]; · iexists _; iexact HB13
    isplitl [HB14]; · iexists _; iexact HB14
    isplitl [HB15]; · iexists _; iexact HB15
    isplitl [HB16]; · iexists _; iexact HB16
    isplitl [HB17]; · iexists _; iexact HB17
    isplitl [HB18]; · iexists _; iexact HB18
    isplitl [HB19]; · iexists _; iexact HB19
    isplitl [HB20]; · iexists _; iexact HB20
    isplitl [HB21]; · iexists _; iexact HB21
    isplitl [HB22]; · iexists _; iexact HB22
    isplitl [HB23]; · iexists _; iexact HB23
    isplitl [HB24]; · iexact HB24
    isplitl [HB25]; · iexists _; iexact HB25
    isplitl [HB26]; · iexists _; iexact HB26
    isplitl [HB27]; · iexact HB27
    isplitl [HB28]; · iexact HB28
    isplitl [HB29]; · iexists _; iexact HB29
    isplitl [HB30]; · iexact HB30
    iexact HB31
  isplitl [HA0 HA1 HA2 HA3 HA4 HA5 HA6 HA7 HA8 HA9 HA10 HA11]
  · isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    iexact HA11
  isplitl [HV13 HV20 HV14 HV15 HV18 HV19 HV21 HV22 HV23 Hgv Hdv]
  · isplitl [HV13 HV20 HV14 HV15 HV18 HV19 HV21 HV22 HV23]
    · isplitl [HV13]; · iexact HV13
      isplitl [HV20]; · iexact HV20
      isplitl [HV14]; · iexact HV14
      isplitl [HV15]; · iexact HV15
      isplitl [HV18]; · iexact HV18
      isplitl [HV19]; · iexact HV19
      isplitl [HV21]; · iexact HV21
      isplitl [HV22]; · iexact HV22
      iexact HV23
    isplitl [Hgv] <;> iassumption
  iexact Hw

end
end

end Cert.KernelIdeal.Hand
-- ==== Proof.KernelIdeal.Launch.lean ====
/-
  Hand-written. The launch: from the kernel's body to the program's run.
-/
module

public import proofs.«01_k».proof.Proof.KernelIdeal.Run
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Moe

variable {F : FTy → Type} [FloatOps F] [Named F]

open Idealize.ShloMosaic.Pipeline (Dat Cfg Window BodyObligation cellOf)

local notation "𝕄" => MT nD τ sig Unit (Elt F) ℕ (Pipeline.UD sig nD τ) ℕ

variable (m : (ℓ : Loc nD τ sig) → Buf (Elt F) ℓ) (ρ : Dev nD → PrngReg)

/-! ## The region's frame -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The DMA cells the body uses itself: all but the staged result's. -/
abbrev osem0 : Fin 37 → SemLoc sig := fun j => SemLoc.dma ⟨j.val + 1, by have := j.isLt; show j.val + 1 < 38; omega⟩
theorem ownSemFacts0 : Pipeline.OwnSemFacts spec0 osem0 := by decide

/-- The operands left in HBM. -/
def H0 : Finset (Ref sig .tc) := {main_v0, main_v2, main_v4, main_arg3, main_arg4, main_arg5, main_arg6, main_v5, main_arg8, main_v6, main_arg10, main_v7}
theorem H0_sub : H0 ⊆ Pipeline.restRefs sig spec0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36] (by decide) (by decide)]; rfl

/-- The operands as the region finds them. -/
def opsOf (c : Dev nD) : Ops F c := ⟨V m c main_v0, V m c main_v2, V m c main_v4, V m c main_arg3, V m c main_arg4, V m c main_arg5, V m c main_arg6, V m c main_v5, V m c main_arg8, V m c main_v6, V m c main_arg10, V m c main_v7⟩

theorem hbmPts0_eq (c : Dev nD) :
    (bigSep H0 (fun b => ((c : Thread nD τ).loc b) ↦{fullShare} V m c b) : sProp 𝕄) = Whole c (opsOf m c) := by
  rw [BI.bigSep_eq_bigSepL_of_eq [main_v0, main_v2, main_v4, main_arg3, main_arg4, main_arg5, main_arg6, main_v5, main_arg8, main_v6, main_arg10, main_v7] (by decide) (by decide)]; rfl

theorem phi_split (c : Dev nD) : (Pipeline.ΦD osem0 spec0 H0 (V m) c : sProp 𝕄)
    ⊢ iprop(Scr (F := F) c ∗ Whole c (opsOf m c) ∗ (smVals (F := F) c ∗ guVals (F := F) c ∗ dnVals (F := F) c) ∗ (∃ r, prngReg c r)) := by
  rw [Pipeline.ΦD_eq, scopedRest0_eq, ownSems00_eq, hbmPts0_eq]
  iintro ⟨⟨HB13, HB14, HB15, HB16, HB17, HB18, HB19, HB20, HB21, HB22, HB26, HB27, HB28, HB29, HB30, HB31, HB23, HB24, HB25⟩, Hg, ⟨Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37⟩, HA⟩
  isplitl [HB13 HB14 HB15 HB16 HB17 HB18 HB19 HB20 HB21 HB22 HB23 HB24 HB25 HB26 HB27 HB28 HB29 HB30 HB31]
  · isplitl [HB13]; · iexact HB13
    isplitl [HB14]; · iexact HB14
    isplitl [HB15]; · iexact HB15
    isplitl [HB16]; · iexact HB16
    isplitl [HB17]; · iexact HB17
    isplitl [HB18]; · iexact HB18
    isplitl [HB19]; · iexact HB19
    isplitl [HB20]; · iexact HB20
    isplitl [HB21]; · iexact HB21
    isplitl [HB22]; · iexact HB22
    isplitl [HB23]; · iexact HB23
    isplitl [HB24]; · iexact HB24
    isplitl [HB25]; · iexact HB25
    isplitl [HB26]; · iexact HB26
    isplitl [HB27]; · iexact HB27
    isplitl [HB28]; · iexact HB28
    isplitl [HB29]; · iexact HB29
    isplitl [HB30]; · iexact HB30
    iexact HB31
  isplitl [HA]; · iexact HA
  isplitr [Hg]
  · isplitl [Hs1 Hs2 Hs3 Hs4 Hs5 Hs6 Hs7 Hs8 Hs9]
    · isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    isplitl [Hs10 Hs11 Hs12 Hs13 Hs14 Hs15 Hs16 Hs17 Hs18 Hs19 Hs20 Hs21 Hs22 Hs23]
    · isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      isplitl [Hs20]; · iexact Hs20
      isplitl [Hs21]; · iexact Hs21
      isplitl [Hs22]; · iexact Hs22
      iexact Hs23
    isplitl [Hs24]; · iexact Hs24
    isplitl [Hs25]; · iexact Hs25
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    iexact Hs37
  iexact Hg

theorem phi_join (c : Dev nD) : iprop(Scr (F := F) c ∗ Whole c (opsOf m c) ∗ (smVals (F := F) c ∗ guVals (F := F) c ∗ dnVals (F := F) c) ∗ (∃ r, prngReg c r))
    ⊢ (Pipeline.ΦD osem0 spec0 H0 (V m) c : sProp 𝕄) := by
  rw [Pipeline.ΦD_eq, scopedRest0_eq, ownSems00_eq, hbmPts0_eq]
  iintro ⟨⟨HB13, HB14, HB15, HB16, HB17, HB18, HB19, HB20, HB21, HB22, HB23, HB24, HB25, HB26, HB27, HB28, HB29, HB30, HB31⟩, HA, ⟨⟨Hs1, Hs2, Hs3, Hs4, Hs5, Hs6, Hs7, Hs8, Hs9⟩, ⟨Hs10, Hs11, Hs12, Hs13, Hs14, Hs15, Hs16, Hs17, Hs18, Hs19, Hs20, Hs21, Hs22, Hs23⟩, ⟨Hs24, Hs25, Hs26, Hs27, Hs28, Hs29, Hs30, Hs31, Hs32, Hs33, Hs34, Hs35, Hs36, Hs37⟩⟩, Hg⟩
  isplitl [HB13 HB14 HB15 HB16 HB17 HB18 HB19 HB20 HB21 HB22 HB23 HB24 HB25 HB26 HB27 HB28 HB29 HB30 HB31]
  · isplitl [HB13]; · iexact HB13
    isplitl [HB14]; · iexact HB14
    isplitl [HB15]; · iexact HB15
    isplitl [HB16]; · iexact HB16
    isplitl [HB17]; · iexact HB17
    isplitl [HB18]; · iexact HB18
    isplitl [HB19]; · iexact HB19
    isplitl [HB20]; · iexact HB20
    isplitl [HB21]; · iexact HB21
    isplitl [HB22]; · iexact HB22
    isplitl [HB26]; · iexact HB26
    isplitl [HB27]; · iexact HB27
    isplitl [HB28]; · iexact HB28
    isplitl [HB29]; · iexact HB29
    isplitl [HB30]; · iexact HB30
    isplitl [HB31]; · iexact HB31
    isplitl [HB23]; · iexact HB23
    isplitl [HB24]; · iexact HB24
    iexact HB25
  isplitl [Hg]; · iexact Hg
  isplitr [HA]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    iexact Hs37
  iexact HA

/-! ## The proof data and the body's obligation -/

abbrev ms0_0 (t : Fin cfg0.N) : Memref sig .tc .vmem S33x7168 .bf16 := win0_0.stage (cfg0.slots t 0)
abbrev hs0_0 (t : Fin cfg0.N) : (ms0_0 t).IsWhole := hstage0_0 0

/-- What the kernel leaves in the result on core `c`. -/
def outsAt0 (c : Dev nD) (t : Fin cfg0.N) : Vec F S33x7168 .bf16 := outY c (opsOf m c)

def dats (_ : Fin 1) (c : Dev nD) : Dat τ (Elt F) Unit ℕ (Pipeline.UD sig nD τ) ℕ cfg0 c where
  A w := V m c (Pipeline.arrRef spec0 w)
  after w t := match w with
    | ⟨0, _⟩ => outsAt0 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outsAt0 m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

theorem stage_set (t : Fin cfg0.N) : (ms0_0 t).view.set = Finset.univ := Memref.IsWhole.set_eq_univ (hs0_0 t)

/-- Every chosen expert is one of the 32: what the precondition gives of the words the region finds. -/
abbrev Routed : Prop := ∀ (c : Dev nD) (k : Fin 8) (t : Fin 33), (idw c (opsOf m c).f1 k t).toNat < 32

theorem sound_body (hR : Routed m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (V m) c from rfl]
  unfold Dat.owesAt Pipeline.owesWithin
  rw [show (dats m 0 c).owed t.castSucc = 0 from rfl, show (dats m 0 c).owed t.succ = 0 from rfl]
  unfold outsAt0 owns
  rw [stage_set]
  iintro ⟨HP, ⟨%W, -, HW⟩, ⟨%d0, %f0, -, H0⟩⟩
  ihave HP := (phi_split m c) $$ HP
  icases HP with ⟨HS, HA, HV, Hg⟩
  iapply (wp_body c (opsOf m c) (ms0_0 t) (hs0_0 t) (hR c))
  isplitl [H0]; · iexists f0; iexact H0
  isplitl [HS]; · iexact HS
  isplitl [HA]; · iexact HA
  isplitl [HV]; · iexact HV
  isplitl [HW]; · iexists W; iexact HW
  iintro ⟨⟨%f, Hf, %hf⟩, HS, HA, HV, ⟨%W', HW'⟩⟩
  isplitl [HS HA HV Hg]
  · iapply (phi_join m c)
    isplitl [HS]; · iexact HS
    isplitl [HA]; · iexact HA
    isplitl [HV]; · iexact HV
    iexact Hg
  isplitl [HW']
  · iexists W'; isplitr; · ipureintro; exact fun _ _ => Or.inl trivial
    iexact HW'
  iexists f; isplitr
  · ipureintro; exact hf
  iexact Hf

theorem defs₀_row (t : Fin cfg0.N) :
    defs₀ (F := F) .tc cfg0.body (cfg0.bodyArgs t (cfg0.slots t)) = bodyAt0 t := by
  unfold defs₀; rw [Defs.onTc_tc]

theorem body_obligation (hR : Routed m) (c : Dev nD) : BodyObligation (dats (F := F) m 0 c) (defs₀ (F := F)) Variants.none () Set.univ := fun t => by
  rw [bigSep_W0, bigSep_W0, defs₀_row]
  exact triple_restated (sound_body m hR c t) rfl .rfl fun _ => .rfl

/-! ## The run -/

set_option backward.isDefEq.respectTransparency.types false in
theorem run_main (hR : Routed m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hR c).loose) (hshare := fun c => (dats m 0 c).share_full fun _ => rfl)
    (howed := fun _ _ => rfl) (V := V m) (hmain := hmain m Variants.none) (hA := A_eq m)
    (hin := fun _ => .rfl) (hout := fun _ => .rfl)

/-- The run leaves the arguments as launched, every counter at zero and the result at what the body's step says. -/
theorem run_all (hR : Routed m) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0)
      ∧ ∀ c : Dev nD, r.2.mem ((c.tc : Thread nD τ).loc main_v8) = (dats m 0 c).arrAt 0 (Fin.last cfg0.N)) :=
  (θ_run defs _ _).mono (fun _ h => ⟨⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩,
      fun c => (h.1 c).1 0⟩) (run_main m ρ hR)

theorem frame_run (hR : Routed m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => h.1) (run_all m ρ hR)

end Cert.KernelIdeal.Hand
-- ==== Proof.KernelIdeal.Host.lean ====
/-
  Hand-written. What the host operations before the region leave in the kernel's operands, and what the preconditions say of the chosen experts.
-/
module

public import proofs.«01_k».proof.Proof.KernelIdeal.Launch
public import Idealize.ShloMosaic.Lib.StableHlo.RunRead
public import Idealize.ShloMosaic.Lib.ReduceAll
public import proofs.«01_k».proof.Pre_routed_and_scaled
public import Idealize.ShloMosaic.Lib.ValueLayout
public import proofs.«01_k».proof.Pre_routed_to_experts

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.ValueIdx
open Cert.KernelIdeal Cert.KernelIdeal.Gen Cert.Moe

variable {F : FTy → Type} [FloatOps F] [Named F]
variable (m : (ℓ : Loc nD τ sig) → Buf (Elt F) ℓ)

/-! ## The operands the host operations wrote -/

theorem V_v2 (c : Dev nD) : V m c main_v2 = transpose S8x33 [1, 0] (shapeCast S33x8 (m ((c : Thread nD τ).loc main_arg1)) shapeCasts_S33x1x8_S33x8) transposes_S33x8_S8x33_1_0 := by
  unfold V
  after_reads_simp
  rfl
theorem V_v4 (c : Dev nD) : V m c main_v4 = transpose S8x33 [1, 0] (shapeCast S33x8 (m ((c : Thread nD τ).loc main_arg2)) shapeCasts_S33x1x8_S33x8) transposes_S33x8_S8x33_1_0 := by
  unfold V
  after_reads_simp
  rfl
theorem V_v0 (c : Dev nD) : V m c main_v0 = shapeCast S33x7168 (m ((c : Thread nD τ).loc main_arg0)) shapeCasts_S33x1x7168_S33x7168 := by
  unfold V
  after_reads_simp
  rfl
theorem V_v5 (c : Dev nD) : V m c main_v5 = shapeCast S1x7168 (m ((c : Thread nD τ).loc main_arg7)) shapeCasts_S7168_S1x7168 := by
  unfold V
  after_reads_simp
  rfl
theorem V_v6 (c : Dev nD) : V m c main_v6 = shapeCast S1x3072 (m ((c : Thread nD τ).loc main_arg9)) shapeCasts_S3072_S1x3072 := by
  unfold V
  after_reads_simp
  rfl
theorem V_v7 (c : Dev nD) : V m c main_v7 = shapeCast S1x7168 (m ((c : Thread nD τ).loc main_arg11)) shapeCasts_S7168_S1x7168 := by
  unfold V
  after_reads_simp
  rfl

/-- A word of the chosen experts as the region finds it is the host's. -/
theorem V_v2_at (c : Dev nD) (k : Fin 8) (t : Fin 33) : V m c main_v2 (ix2 k t) = m ((c : Thread nD τ).loc main_arg1) (ix3 t (0 : Fin 1) k) := by
  rw [V_v2, transpose_apply _ _ _ (ix2 k t) (ix2 t k) fun a => match a with | ⟨0, _⟩ => rfl | ⟨1, _⟩ => rfl]
  refine shapeCast_apply _ _ _ _ ?_
  show (S33x1x8.rowMajor (ix3 t (0 : Fin 1) k)).val = (S33x8.rowMajor (ix2 t k)).val
  rw [Shape.rowMajor_val_three, Shape.rowMajor_val_two]
  show (t.val * 1 + 0) * 8 + k.val = t.val * 8 + k.val
  omega

/-- A word of the chosen experts, as the kernel loads it, is the host's. -/
theorem idw_eq (c : Dev nD) (k : Fin 8) (t : Fin 33) : idw c (opsOf m c).f1 k t = m ((c : Thread nD τ).loc main_arg1) (ix3 t (0 : Fin 1) k) := by
  refine Eq.trans ?_ (V_v2_at m c k t)
  show V m c main_v2 _ = _
  congr 1
  funext a
  match a with
  | ⟨0, _⟩ => exact Fin.ext (show k.val + 1 * 0 = k.val by omega)
  | ⟨1, _⟩ => exact Fin.ext (show t.val + 1 * 0 = t.val by omega)

/-- Two bits whose conjunction is 1 are both 1. -/
theorem and_one (a b : BitVec 1) : a &&& b = 1#1 → a = 1#1 ∧ b = 1#1 := by
  revert a b; decide

/-- A word between 0 and 31 as a signed number is below 32 as an unsigned one. -/
theorem word_lt (w : BitVec 32) (h : IntOp.andi (IntOp.cmpi .sge w 0#32) (IntOp.cmpi .slt w 32#32) = 1#1) : w.toNat < 32 := by
  unfold IntOp.andi IntOp.cmpi at h
  have h0 : (0#32).sle w = true := by
    by_contra hc
    simp only [Bool.not_eq_true] at hc
    rw [hc] at h
    simp at h
  have h1 : w.slt 32#32 = true := by
    by_contra hc
    simp only [Bool.not_eq_true] at hc
    rw [hc] at h
    simp at h
  rw [BitVec.sle_iff_toInt_le] at h0
  rw [BitVec.slt_iff_toInt_lt] at h1
  have e : (32#32 : BitVec 32).toInt = 32 := by decide
  have e0 : (0#32 : BitVec 32).toInt = 0 := by decide
  rw [e] at h1
  rw [e0] at h0
  rw [BitVec.toInt_eq_toNat_cond] at h0 h1
  split at h0 <;> omega

section
variable [Cert.Pre_routed_to_experts.Facts]
/-- What the precondition says of the words the region finds. -/
theorem routed_of (h : ∀ c : Dev nD, Cert.Pre_routed_to_experts.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) : Routed m := by
  intro c k t
  rw [idw_eq]
  have h2 := congrFun (h c) (ix3 t (0 : Fin 1) k)
  unfold Cert.Pre_routed_to_experts.fn at h2
  simp only [andi, cmpi, broadcastInDim, constantI] at h2
  generalize m ((c.tc : Thread nD τ).loc main_arg1) (ix3 t (0 : Fin 1) k) = w at h2 ⊢
  exact word_lt w h2
end

section
variable [Cert.Pre_routed_and_scaled.Facts]
/-- The same of the second precondition. -/
theorem routed_of_scaled (h : ∀ c : Dev nD, Cert.Pre_routed_and_scaled.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) : Routed m := by
  intro c k t
  rw [idw_eq]
  have h2 := congrFun (h c) (Shape.Idx.first Cert.Pre_routed_and_scaled.Facts.h_S_)
  unfold Cert.Pre_routed_and_scaled.fn at h2
  dsimp only at h2
  have h3 := (and_one _ _ h2).1
  have h4 := Host.reduce_andi_all _ _ _ _ _ h3 (ix3 t (0 : Fin 1) k)
  simp only [andi, cmpi, broadcastInDim, constantI] at h4
  generalize m ((c.tc : Thread nD τ).loc main_arg1) (ix3 t (0 : Fin 1) k) = w at h4 ⊢
  exact word_lt w h4
end

end Cert.KernelIdeal.Hand
-- ==== Proof.Same.lean ====
/-
  Hand-written. The two printed kernels differ in one constant only: the idealized one reads it by its name. With the name
  read, at the bits, as the constant that was printed, the two are the same program, so what is proved of the idealized
  kernel over any floats holds of the printed one.
-/
module

public import proofs.«01_k».proof.Defs
public import proofs.«01_k».proof.Proof.KernelIdeal.Host
public import proofs.«01_k».proof.Proof.Gen.Kernel
public import proofs.«01_k».proof.Proof.Gen.Pre_routed_to_experts

@[expose] public section

set_option maxRecDepth 65536

noncomputable section

namespace Cert.Same

open Idealize.ShloMosaic

/-- At the bits a named constant is the one that was printed. -/
@[reducible] def named : Named Bits where
  named _ _ {φ} b := FloatOps.ofBits (F := Bits) φ b

attribute [local instance] named

set_option maxHeartbeats 4000000 in
/-- The kernel's body is the same. -/
theorem body_eq : Cert.Kernel.cc0_moe_decode (F := Bits) = Cert.KernelIdeal.cc0_moe_decode (F := Bits) := rfl

set_option maxHeartbeats 4000000 in
/-- The table of the bodies is the same. -/
theorem defs₀_eq : Cert.Kernel.defs₀ (F := Bits) = Cert.KernelIdeal.defs₀ (F := Bits) := by
  unfold Cert.Kernel.defs₀ Cert.KernelIdeal.defs₀
  rw [body_eq]
  refine congrArg Defs.onTc ?_
  funext l a
  match l, a with
  | ⟨0, _⟩, (t, s) => rfl
  | ⟨n + 1, h⟩, _ => exact absurd h (Nat.not_lt.2 (Nat.le_add_left _ _))

/-- The table of the bodies and the pipeline is the same. -/
theorem defs_eq : Cert.Kernel.defs (F := Bits) = Cert.KernelIdeal.defs (F := Bits) :=
  congrArg (fun d => Pipeline.defs (Cert.Kernel.pcfgs (F := Bits)) d) defs₀_eq

set_option maxHeartbeats 4000000 in
/-- The host's program is the same. -/
theorem main_eq : Cert.Kernel.main (F := Bits) = Cert.KernelIdeal.main (F := Bits) := rfl

set_option maxHeartbeats 4000000 in
/-- The printed kernel's frame. -/
theorem frame : Cert.quiescent_Kernel (hKernel := Cert.Kernel.Gen.facts) (hPre_routed_to_experts := Cert.Pre_routed_to_experts.Gen.facts) := by
  intro m g h
  rw [defs_eq, main_eq]
  exact Cert.KernelIdeal.Hand.frame_run (F := Bits) m g (Cert.KernelIdeal.Hand.routed_of (F := Bits) m h)

end Cert.Same
-- ==== Proof.Ref.lean ====
/-
  Hand-written. What the reference's body leaves in its result, as the composition of its payloads.
-/
module

public import proofs.«01_k».proof.Proof.Gen.ReferenceIdeal.Value
public import Idealize.ShloMosaic.Lib.Pipeline.Value
public import Idealize.ShloMosaic.Lib.Tactic

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

section
variable (x0 : Vec F S33x7168 .bf16) (x1 : Vec F S33x8 .i32) (x2 : Vec F S33x8 .f32) (x3 : Vec F S32x7168x1536 .fp8e4m3) (x4 : Vec F S32x1536 .f32) (x5 : Vec F S32x768x7168 .fp8e4m3) (x6 : Vec F S32x7168 .f32) (x7 : Vec F S1x7168 .f32) (x8 : Vec F S7168x3072 .fp8e4m3) (x9 : Vec F S1x3072 .f32) (x10 : Vec F S1536x7168 .fp8e4m3) (x11 : Vec F S1x7168 .f32)

/-- One expert's step of the loop over the blocks. -/
def step (k : Fin k0_t1_loop.trips) (acc : FVec F S33x7168 .f32) : FVec F S33x7168 .f32 :=
  k0_pay5 x0 x7 k acc
    (View.ld x3 (Rect.unit (s := S32x7168x1536) (k0_off1 k) S1x7168x1536.size (k0_off1_inb k)))
    (View.ld x4 (Rect.unit (s := S32x1536) (k0_off2 k) S1x1536.size (k0_off2_inb k)))
    (View.ld x5 (Rect.unit (s := S32x768x7168) (k0_off3 k) S1x768x7168.size (k0_off3_inb k)))
    x1 x2 (View.ld x6 (Rect.unit (s := S32x7168) (k0_off4 k) S1x7168.size (k0_off4_inb k)))

/-- The routed experts' sum before expert `n`. -/
def loop : ℕ → FVec F S33x7168 .f32
  | 0 => k0_pay4
  | n + 1 => if h : n < k0_t1_loop.trips then step x0 x1 x2 x3 x4 x5 x6 x7 ⟨n, h⟩ (loop n) else loop n

theorem trip_eq (c : Dev nD) (a0 : Memref sig .tc .vmem S33x7168 .bf16) (h0 : a0.IsWhole) (a1 : Memref sig .tc .vmem S33x8 .i32) (h1 : a1.IsWhole) (a2 : Memref sig .tc .vmem S33x8 .f32) (h2 : a2.IsWhole) (a3 : Memref sig .tc .vmem S32x7168x1536 .fp8e4m3) (h3 : a3.IsWhole) (a4 : Memref sig .tc .vmem S32x1536 .f32) (h4 : a4.IsWhole) (a5 : Memref sig .tc .vmem S32x768x7168 .fp8e4m3) (h5 : a5.IsWhole) (a6 : Memref sig .tc .vmem S32x7168 .f32) (h6 : a6.IsWhole) (a7 : Memref sig .tc .vmem S1x7168 .f32) (h7 : a7.IsWhole) (a8 : Memref sig .tc .vmem S7168x3072 .fp8e4m3) (h8 : a8.IsWhole) (a9 : Memref sig .tc .vmem S1x3072 .f32) (h9 : a9.IsWhole) (a10 : Memref sig .tc .vmem S1536x7168 .fp8e4m3) (h10 : a10.IsWhole) (a11 : Memref sig .tc .vmem S1x7168 .f32) (h11 : a11.IsWhole) (a12 : Memref sig .tc .vmem S33x7168 .bf16) (h12 : a12.IsWhole) (k : Fin k0_t1_loop.trips) (acc : FVec F S33x7168 .f32) :
    tripR_k0_t1 (F := F) Variants.none c none a0 h0 a1 h1 a2 h2 a3 h3 a4 h4 a5 h5 a6 h6 a7 h7 a8 h8 a9 h9 a10 h10 a11 h11 a12 h12 x0 x7 (h1.unread x1) (h2.unread x2) (h3.unread x3) (h4.unread x4) (h5.unread x5) (h6.unread x6) k acc = step x0 x1 x2 x3 x4 x5 x6 x7 k acc := by
  unfold tripR_k0_t1 trip_k0_t1 step
  dsimp only
  simp only [View.readAt_eq_ld, h1.read_unread, h2.read_unread, h3.read_unread, h4.read_unread, h5.read_unread, h6.read_unread,
    View.ld_unit_zero (S := S33x8) hz]

theorem st_eq (c : Dev nD) (a0 : Memref sig .tc .vmem S33x7168 .bf16) (h0 : a0.IsWhole) (a1 : Memref sig .tc .vmem S33x8 .i32) (h1 : a1.IsWhole) (a2 : Memref sig .tc .vmem S33x8 .f32) (h2 : a2.IsWhole) (a3 : Memref sig .tc .vmem S32x7168x1536 .fp8e4m3) (h3 : a3.IsWhole) (a4 : Memref sig .tc .vmem S32x1536 .f32) (h4 : a4.IsWhole) (a5 : Memref sig .tc .vmem S32x768x7168 .fp8e4m3) (h5 : a5.IsWhole) (a6 : Memref sig .tc .vmem S32x7168 .f32) (h6 : a6.IsWhole) (a7 : Memref sig .tc .vmem S1x7168 .f32) (h7 : a7.IsWhole) (a8 : Memref sig .tc .vmem S7168x3072 .fp8e4m3) (h8 : a8.IsWhole) (a9 : Memref sig .tc .vmem S1x3072 .f32) (h9 : a9.IsWhole) (a10 : Memref sig .tc .vmem S1536x7168 .fp8e4m3) (h10 : a10.IsWhole) (a11 : Memref sig .tc .vmem S1x7168 .f32) (h11 : a11.IsWhole) (a12 : Memref sig .tc .vmem S33x7168 .bf16) (h12 : a12.IsWhole) : ∀ n, n ≤ k0_t1_loop.trips →
    st_k0_t1 (F := F) Variants.none c none a0 h0 a1 h1 a2 h2 a3 h3 a4 h4 a5 h5 a6 h6 a7 h7 a8 h8 a9 h9 a10 h10 a11 h11 a12 h12 x0 x7 (h1.unread x1) (h2.unread x2) (h3.unread x3) (h4.unread x4) (h5.unread x5) (h6.unread x6) k0_pay4 n = loop x0 x1 x2 x3 x4 x5 x6 x7 n
  | 0, _ => rfl
  | n + 1, h => by
    have hn : n < k0_t1_loop.trips := h
    rw [st_k0_t1_succ Variants.none c none a0 h0 a1 h1 a2 h2 a3 h3 a4 h4 a5 h5 a6 h6 a7 h7 a8 h8 a9 h9 a10 h10 a11 h11 a12 h12 x0 x7 (h1.unread x1) (h2.unread x2) (h3.unread x3) (h4.unread x4) (h5.unread x5) (h6.unread x6) k0_pay4 ⟨n, hn⟩,
      trip_eq x0 x1 x2 x3 x4 x5 x6 x7 c a0 h0 a1 h1 a2 h2 a3 h3 a4 h4 a5 h5 a6 h6 a7 h7 a8 h8 a9 h9 a10 h10 a11 h11 a12 h12 ⟨n, hn⟩, st_eq c a0 h0 a1 h1 a2 h2 a3 h3 a4 h4 a5 h5 a6 h6 a7 h7 a8 h8 a9 h9 a10 h10 a11 h11 a12 h12 n (Nat.le_of_lt hn)]
    rw [loop, dif_pos hn]

theorem out_eq (c : Dev nD) (a0 : Memref sig .tc .vmem S33x7168 .bf16) (h0 : a0.IsWhole) (a1 : Memref sig .tc .vmem S33x8 .i32) (h1 : a1.IsWhole) (a2 : Memref sig .tc .vmem S33x8 .f32) (h2 : a2.IsWhole) (a3 : Memref sig .tc .vmem S32x7168x1536 .fp8e4m3) (h3 : a3.IsWhole) (a4 : Memref sig .tc .vmem S32x1536 .f32) (h4 : a4.IsWhole) (a5 : Memref sig .tc .vmem S32x768x7168 .fp8e4m3) (h5 : a5.IsWhole) (a6 : Memref sig .tc .vmem S32x7168 .f32) (h6 : a6.IsWhole) (a7 : Memref sig .tc .vmem S1x7168 .f32) (h7 : a7.IsWhole) (a8 : Memref sig .tc .vmem S7168x3072 .fp8e4m3) (h8 : a8.IsWhole) (a9 : Memref sig .tc .vmem S1x3072 .f32) (h9 : a9.IsWhole) (a10 : Memref sig .tc .vmem S1536x7168 .fp8e4m3) (h10 : a10.IsWhole) (a11 : Memref sig .tc .vmem S1x7168 .f32) (h11 : a11.IsWhole) (a12 : Memref sig .tc .vmem S33x7168 .bf16) (h12 : a12.IsWhole) : out0_A_12 c a0 h0 a1 h1 a2 h2 a3 h3 a4 h4 a5 h5 a6 h6 a7 h7 a8 h8 a9 h9 a10 h10 a11 h11 a12 h12 x0 x1 x2 x3 x4 x5 x6 x7 x8 x9 x10 x11
    = k0_pay1 (k0_pay2 x0) (loop x0 x1 x2 x3 x4 x5 x6 x7 k0_t1_loop.trips) (k0_pay6 x0 x7 x8 x9 x10) x11 := by
  unfold out0_A_12
  rw [View.read_writes_eq_canon _ _ _ (cover0_A_12 c a0 h0 a1 h1 a2 h2 a3 h3 a4 h4 a5 h5 a6 h6 a7 h7 a8 h8 a9 h9 a10 h10 a11 h11 a12 h12 x0 x1 x2 x3 x4 x5 x6 x7 x8 x9 x10 x11)]
  unfold kernelRun0_A
  dsimp only
  sl_unfold_words
  rw [View.canon_unit_zero hz]
  simp only [View.readAt_eq_ld, h0.read_unread, h7.read_unread, h8.read_unread, h9.read_unread, h10.read_unread, h11.read_unread,
    View.ld_unit_zero (S := S33x7168) hz, View.ld_unit_zero (S := S1x7168) hz, View.ld_unit_zero (S := S7168x3072) hz,
    View.ld_unit_zero (S := S1x3072) hz, View.ld_unit_zero (S := S1536x7168) hz]
  rw [← st_eq x0 x1 x2 x3 x4 x5 x6 x7 c a0 h0 a1 h1 a2 h2 a3 h3 a4 h4 a5 h5 a6 h6 a7 h7 a8 h8 a9 h9 a10 h10 a11 h11 a12 h12 k0_t1_loop.trips (Nat.le_refl _)]
end

end Cert.ReferenceIdeal.Hand
-- ==== Proof.Pay.lean ====
/-
  Hand-written. The kernel's payloads read at an index, at the ideal values.
-/
module

public import proofs.«01_k».proof.Proof.Gen.KernelIdeal.Skeleton
public import proofs.«01_k».proof.Proof.Gen.ReferenceIdeal.Skeleton
public import Idealize.ShloMosaic.Lib.Pointwise

@[expose] public section

set_option maxRecDepth 16384

noncomputable section

namespace Cert.Alg

open Idealize.ShloMosaic
open Cert.KernelIdeal Cert.KernelIdeal.Gen
open Idealize.ShloMosaic.Pointwise

theorem pay2_at (x : Vec Ideal S48x1024 .bf16) (w : Vec Ideal S1x1024x1536 .fp8e4m3) (t : Fin 48) (n : Fin 1536) :
    k0_pay2 x w (ix2 t n) = ∑ k : Fin 1024, x (ix2 t k) * w (ix3 (0 : Fin 1) k n) := by
  pointwise [k0_pay2]

theorem pay3_at (x : Vec Ideal S48x1024 .bf16) (w : Vec Ideal S1x1024x1536 .fp8e4m3) (a : Vec Ideal S48x1536 .f32) (t : Fin 48) (n : Fin 1536) :
    k0_pay3 x w a (ix2 t n) = a (ix2 t n) + ∑ k : Fin 1024, x (ix2 t k) * w (ix3 (0 : Fin 1) k n) := by
  pointwise [k0_pay3]

theorem pay4_at (x : Vec Ideal S48x1024 .bf16) (w : Vec Ideal S1x1024x1536 .fp8e4m3) (t : Fin 48) (n : Fin 1536) :
    k0_pay4 x w (ix2 t n) = ∑ k : Fin 1024, x (ix2 t k) * w (ix3 (0 : Fin 1) k n) := by
  pointwise [k0_pay4]

theorem pay5_at (y a : Vec Ideal S48x1536 .f32) (t : Fin 48) (n : Fin 1536) : k0_pay5 y a (ix2 t n) = a (ix2 t n) + y (ix2 t n) := by
  pointwise [k0_pay5]

theorem pay6_at (x : Vec Ideal S48x1024 .bf16) (w : Vec Ideal S1x1024x1536 .fp8e4m3) (a : Vec Ideal S48x1536 .f32) (t : Fin 48) (n : Fin 1536) :
    k0_pay6 x w a (ix2 t n) = a (ix2 t n) + ∑ k : Fin 1024, x (ix2 t k) * w (ix3 (0 : Fin 1) k n) := pay3_at x w a t n
theorem pay7_at (x : Vec Ideal S48x1024 .bf16) (w : Vec Ideal S1x1024x1536 .fp8e4m3) (a : Vec Ideal S48x1536 .f32) (t : Fin 48) (n : Fin 1536) :
    k0_pay7 x w a (ix2 t n) = a (ix2 t n) + ∑ k : Fin 1024, x (ix2 t k) * w (ix3 (0 : Fin 1) k n) := pay3_at x w a t n
theorem pay8_at (x : Vec Ideal S48x1024 .bf16) (w : Vec Ideal S1x1024x1536 .fp8e4m3) (a : Vec Ideal S48x1536 .f32) (t : Fin 48) (n : Fin 1536) :
    k0_pay8 x w a (ix2 t n) = a (ix2 t n) + ∑ k : Fin 1024, x (ix2 t k) * w (ix3 (0 : Fin 1) k n) := pay3_at x w a t n
theorem pay9_at (x : Vec Ideal S48x1024 .bf16) (w : Vec Ideal S1x1024x1536 .fp8e4m3) (a : Vec Ideal S48x1536 .f32) (t : Fin 48) (n : Fin 1536) :
    k0_pay9 x w a (ix2 t n) = a (ix2 t n) + ∑ k : Fin 1024, x (ix2 t k) * w (ix3 (0 : Fin 1) k n) := pay3_at x w a t n

/-- Seven chunks of 1024 are the 7168. -/
theorem sum_chunks (f : Fin 7168 → EReal) :
    ∑ k : Fin 7168, f k = ∑ j : Fin 7, ∑ k : Fin 1024, f ⟨1024 * j.val + k.val, by have := j.isLt; have := k.isLt; omega⟩ := by
  rw [Fin.sum_univ_tiles 7 1024 (by norm_num) f]
  refine Finset.sum_congr rfl fun j _ => Finset.sum_congr rfl fun k _ => congrArg f (Fin.ext ?_)
  show j.val * 1024 + k.val = 1024 * j.val + k.val
  omega

/-- The gate and up accumulator after the seven chunks. -/
theorem acc7_at (x : Fin 7 → Vec Ideal S48x1024 .bf16) (w : Fin 7 → Vec Ideal S1x1024x1536 .fp8e4m3) (t : Fin 48) (n : Fin 1536) :
    k0_pay9 (x 6) (w 6) (k0_pay8 (x 5) (w 5) (k0_pay7 (x 4) (w 4) (k0_pay6 (x 3) (w 3)
      (k0_pay5 (k0_pay4 (x 2) (w 2)) (k0_pay3 (x 1) (w 1) (k0_pay2 (x 0) (w 0))))))) (ix2 t n)
      = ∑ j : Fin 7, ∑ k : Fin 1024, x j (ix2 t k) * w j (ix3 (0 : Fin 1) k n) := by
  rw [pay9_at, pay8_at, pay7_at, pay6_at, pay5_at, pay4_at, pay3_at, pay2_at]
  simp only [Fin.sum_univ_succ (n := 6), Fin.sum_univ_succ (n := 5), Fin.sum_univ_succ (n := 4), Fin.sum_univ_succ (n := 3),
    Fin.sum_univ_succ (n := 2), Fin.sum_univ_succ (n := 1), Fin.sum_univ_succ (n := 0), Fin.sum_univ_zero, add_zero]
  simp only [add_assoc]
  rfl

/-- An expert's weight in a token's sum: the token's weights at the places that name it. -/
def wt (i : Fin 8 → BitVec 32) (w : Fin 8 → EReal) (a : BitVec 32) : EReal := ∑ k : Fin 8, if i k = a then w k else 0

theorem pay13_sh (a : BitVec 32) (i : Vec Ideal S33x8 .i32) (w : Vec Ideal S33x8 .f32) (t : Fin 33) :
    k0_pay13 1#1 a i w (ix2 t (0 : Fin 1)) = 1 := by
  pointwise [k0_pay13]

theorem hit_eq (i : Vec Ideal S33x8 .i32) (a : BitVec 32) (t : Fin 33) (k : Fin 8) :
    k0_pay12 (F := Ideal) a i (ix2 t k) = if i (ix2 t k) = a then 1#1 else 0#1 := by
  show (BitVec.ofBool (i (ix2 t k) == a)) = _
  by_cases h : i (ix2 t k) = a
  · rw [if_pos h, h, beq_self_eq_true]; rfl
  · rw [if_neg h, beq_eq_false_iff_ne.mpr h]; rfl

theorem pay13_ex (a : BitVec 32) (i : Vec Ideal S33x8 .i32) (w : Vec Ideal S33x8 .f32) (t : Fin 33) :
    k0_pay13 0#1 a i w (ix2 t (0 : Fin 1)) = wt (fun k => i (ix2 t k)) (fun k => w (ix2 t k)) a := by
  pointwise [k0_pay13]
  refine Finset.sum_congr rfl fun k _ => ?_
  rw [hit_eq]
  by_cases h : i (ix2 t k) = a
  · rw [if_pos h, if_pos h]; rfl
  · rw [if_neg h, if_neg h]; rfl

/-- The activation of a gate and an up projection. -/
def act (g u : EReal) : EReal := g * Ideal.logistic g * u

/-- Whether an item reaches a token. -/
def Hits (i : Fin 8 → BitVec 32) (a : BitVec 32) : Prop := ∃ k, i k = a
instance (i : Fin 8 → BitVec 32) (a : BitVec 32) : Decidable (Hits i a) := inferInstanceAs (Decidable (∃ k, i k = a))

theorem hits_pos (i : Vec Ideal S33x8 .i32) (a : BitVec 32) (t : Fin 33) :
    (0 < ∑ x : Fin 8, (FloatOps.sitofp FTy.f32 (BitVec.setWidth 32 (k0_pay12 (F := Ideal) a i (ix2 t x))) : Ideal .f32)) ↔ Hits (fun k => i (ix2 t k)) a := by
  have e : ∀ x : Fin 8, (FloatOps.sitofp FTy.f32 (BitVec.setWidth 32 (k0_pay12 (F := Ideal) a i (ix2 t x))) : Ideal .f32) = if i (ix2 t x) = a then (1 : EReal) else 0 := by
    intro x
    rw [hit_eq]
    by_cases h : i (ix2 t x) = a
    · rw [if_pos h, if_pos h]; show (((1 : ℤ) : ℝ) : EReal) = 1; simp
    · rw [if_neg h, if_neg h]; show (((0 : ℤ) : ℝ) : EReal) = 0; simp
  simp only [e]
  have nn : ∀ x ∈ (Finset.univ : Finset (Fin 8)), (0 : EReal) ≤ if i (ix2 t x) = a then (1 : EReal) else 0 := by
    intro x _; split
    · exact zero_le_one
    · exact le_refl _
  constructor
  · intro h
    by_contra hn
    refine absurd h (not_lt_of_ge (le_of_eq ?_))
    refine Finset.sum_eq_zero fun x _ => if_neg fun hx => hn ⟨x, hx⟩
  · rintro ⟨k, hk⟩
    refine lt_of_lt_of_le zero_lt_one (le_trans (le_of_eq ?_) (Finset.single_le_sum nn (Finset.mem_univ k)))
    exact (if_pos hk).symm

theorem pay15_sh (a : BitVec 32) (p q : Vec Ideal S1x768 .f32) (i : Vec Ideal S33x8 .i32) (g u : Vec Ideal S33x768 .f32) (t : Fin 33) (n : Fin 768) :
    k0_pay15 1#1 a p q i g u (ix2 t n) = act (g (ix2 t n) * p (ix2 (0 : Fin 1) n)) (u (ix2 t n) * q (ix2 (0 : Fin 1) n)) := by
  pointwise [k0_pay15]
  rw [if_pos zero_lt_one]
  rfl

theorem pay15_ex (a : BitVec 32) (p q : Vec Ideal S1x768 .f32) (i : Vec Ideal S33x8 .i32) (g u : Vec Ideal S33x768 .f32) (t : Fin 33) (n : Fin 768) :
    k0_pay15 0#1 a p q i g u (ix2 t n) = if Hits (fun k => i (ix2 t k)) a then act (g (ix2 t n) * p (ix2 (0 : Fin 1) n)) (u (ix2 t n) * q (ix2 (0 : Fin 1) n)) else 0 := by
  pointwise [k0_pay15]
  refine if_congr ?_ rfl rfl
  exact hits_pos i a t

theorem pay16_at (b : BitVec 1) (v : FVec Ideal S33x1 .f32) (h : Vec Ideal S48x768 .bf16) (w : Vec Ideal S1x768x1024 .fp8e4m3) (p q : Vec Ideal S1x1024 .f32) (a : Vec Ideal S33x1024 .f32) (t : Fin 33) (d : Fin 1024) :
    k0_pay16 b v h w p q a (ix2 t d) = a (ix2 t d) + (∑ n : Fin 768, h (ix2 ⟨t.val, by have := t.isLt; omega⟩ n) * w (ix3 (0 : Fin 1) n d)) * Scalar.select b p q (ix2 (0 : Fin 1) d) * v (ix2 t (0 : Fin 1)) := by
  pointwise [k0_pay16]

theorem pay17_eq : @k0_pay17 Ideal _ = @k0_pay16 Ideal _ := rfl
theorem pay19_eq (b : BitVec 1) (v : FVec Ideal S33x1 .f32) (h : Vec Ideal S48x768 .bf16) (w : Vec Ideal S1x768x1024 .fp8e4m3) (p q : Vec Ideal S1x1024 .f32) (a : Vec Ideal S33x1024 .f32) :
    k0_pay19 b v h (k0_pay18 w) (constant S48x1024 .f32 0x00000000#32) p q a = k0_pay16 b v h w p q a := rfl
theorem pay22_eq (b : BitVec 1) (v : FVec Ideal S33x1 .f32) (h : Vec Ideal S48x768 .bf16) (w : Vec Ideal S1x768x1024 .fp8e4m3) (p q : Vec Ideal S1x1024 .f32) (a : Vec Ideal S33x1024 .f32) :
    k0_pay22 v (k0_pay20 h w) (k0_pay21 b p q) a = k0_pay16 b v h w p q a := rfl
theorem pay23_eq : @k0_pay23 Ideal _ = @k0_pay16 Ideal _ := rfl
theorem pay24_eq : @k0_pay24 Ideal _ = @k0_pay16 Ideal _ := rfl
theorem pay55_eq : @k0_pay55 Ideal _ = @k0_pay16 Ideal _ := rfl

/-- The kernel's named reciprocal is 1/7168. -/
theorem inv_d : Named.named (F := Ideal) Cert.KernelIdeal.κ "inv_d" (φ := .f32) 0x39124925#32 = ((1 / 7168 : ℝ) : EReal) :=
  IdealRules.named_const.ideal_named_scalar _ _ _ _ rfl

/-- The reference's divisor is 7168. -/
theorem ofBits_7168 : Ideal.ofBits .f32 0x45E00000#32 = ((7168 : ℝ) : EReal) := by
  simp [Ideal.ofBits, Ideal.ieee]
  rw [← EReal.coe_mul]
  norm_num

theorem pay52_eq (x : Vec Ideal S33x7168 .bf16) (g : Vec Ideal S1x7168 .f32) (t : Fin 33) (k : Fin 7168) :
    k0_pay52 (k0_pay50 x) g (ix2 t k) = Cert.ReferenceIdeal.Gen.k0_pay3 x g (ix2 t k) := by
  pointwise [k0_pay52, k0_pay50, Cert.ReferenceIdeal.Gen.k0_pay3, Cert.ReferenceIdeal.Gen.k0_pay2]
  have h := inv_d
  have h2 := ofBits_7168
  rw [h, h2, Ideal.div_coe (by norm_num : (7168 : ℝ) ≠ 0)]

end Cert.Alg
-- ==== Proof.RefAt.lean ====
/-
  Hand-written. The reference's result read at an index, at the ideal values.
-/
module

public import proofs.«01_k».proof.Proof.Ref
public import proofs.«01_k».proof.Proof.Pay

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Value
open Idealize.ShloMosaic.Pointwise
open Cert.Alg (act wt)

/-- An expert's output for a token and a column: the down projection of its activations, scaled. -/
def term (X : FVec Ideal S33x7168 .bf16) (x3 : Vec Ideal S32x7168x1536 .fp8e4m3) (x4 : Vec Ideal S32x1536 .f32)
    (x5 : Vec Ideal S32x768x7168 .fp8e4m3) (x6 : Vec Ideal S32x7168 .f32) (e : Fin 32) (t : Fin 33) (d : Fin 7168) : EReal :=
  (∑ n : Fin 768, act ((∑ k : Fin 7168, X (ix2 t k) * x3 (ix3 e k ⟨n.val, by have := n.isLt; omega⟩)) * x4 (ix2 e ⟨n.val, by have := n.isLt; omega⟩))
      ((∑ k : Fin 7168, X (ix2 t k) * x3 (ix3 e k ⟨768 + n.val, by have := n.isLt; omega⟩)) * x4 (ix2 e ⟨768 + n.val, by have := n.isLt; omega⟩))
    * x5 (ix3 e n d)) * x6 (ix2 e d)

/-- The shared expert's activations, and its output before the scale. -/
def shAct (X : FVec Ideal S33x7168 .bf16) (x8 : Vec Ideal S7168x3072 .fp8e4m3) (x9 : Vec Ideal S1x3072 .f32) (t : Fin 33) (n : Fin 1536) : EReal :=
  act ((∑ k : Fin 7168, X (ix2 t k) * x8 (ix2 k ⟨n.val, by have := n.isLt; omega⟩)) * x9 (ix2 (0 : Fin 1) ⟨n.val, by have := n.isLt; omega⟩))
    ((∑ k : Fin 7168, X (ix2 t k) * x8 (ix2 k ⟨1536 + n.val, by have := n.isLt; omega⟩)) * x9 (ix2 (0 : Fin 1) ⟨1536 + n.val, by have := n.isLt; omega⟩))
def shOut (X : FVec Ideal S33x7168 .bf16) (x8 : Vec Ideal S7168x3072 .fp8e4m3) (x9 : Vec Ideal S1x3072 .f32)
    (x10 : Vec Ideal S1536x7168 .fp8e4m3) (t : Fin 33) (d : Fin 7168) : EReal :=
  ∑ n : Fin 1536, shAct X x8 x9 t n * x10 (ix2 n d)

variable (x0 : Vec Ideal S33x7168 .bf16) (x1 : Vec Ideal S33x8 .i32) (x2 : Vec Ideal S33x8 .f32) (x3 : Vec Ideal S32x7168x1536 .fp8e4m3) (x4 : Vec Ideal S32x1536 .f32) (x5 : Vec Ideal S32x768x7168 .fp8e4m3) (x6 : Vec Ideal S32x7168 .f32) (x7 : Vec Ideal S1x7168 .f32) (x8 : Vec Ideal S7168x3072 .fp8e4m3) (x9 : Vec Ideal S1x3072 .f32) (x10 : Vec Ideal S1536x7168 .fp8e4m3) (x11 : Vec Ideal S1x7168 .f32)

theorem pay6_at (t : Fin 33) (d : Fin 7168) : k0_pay6 x0 x7 x8 x9 x10 (ix2 t d) = shOut (k0_pay3 x0 x7) x8 x9 x10 t d := by
  unfold k0_pay6
  generalize k0_pay3 x0 x7 = X
  unfold shOut shAct act
  pointwise []

theorem pay1_at (a b c : FVec Ideal S33x7168 .f32) (s : Vec Ideal S1x7168 .f32) (t : Fin 33) (d : Fin 7168) :
    k0_pay1 a b c s (ix2 t d) = a (ix2 t d) + b (ix2 t d) + c (ix2 t d) * s (ix2 (0 : Fin 1) d) := by
  pointwise [k0_pay1]

theorem trips_eq : k0_t1_loop.trips = 32 := by decide

theorem pay5_at (k : Fin k0_t1_loop.trips) (acc : FVec Ideal S33x7168 .f32) (w : Vec Ideal S1x7168x1536 .fp8e4m3) (s : Vec Ideal S1x1536 .f32)
    (dn : Vec Ideal S1x768x7168 .fp8e4m3) (sd : Vec Ideal S1x7168 .f32) (t : Fin 33) (d : Fin 7168) :
    k0_pay5 x0 x7 k acc w s dn x1 x2 sd (ix2 t d) = acc (ix2 t d)
      + (∑ n : Fin 768, act ((∑ q : Fin 7168, k0_pay3 x0 x7 (ix2 t q) * w (ix3 (0 : Fin 1) q ⟨n.val, by have := n.isLt; omega⟩)) * s (ix2 (0 : Fin 1) ⟨n.val, by have := n.isLt; omega⟩))
        ((∑ q : Fin 7168, k0_pay3 x0 x7 (ix2 t q) * w (ix3 (0 : Fin 1) q ⟨768 + n.val, by have := n.isLt; omega⟩)) * s (ix2 (0 : Fin 1) ⟨768 + n.val, by have := n.isLt; omega⟩))
        * dn (ix3 (0 : Fin 1) n d)) * sd (ix2 (0 : Fin 1) d) * wt (fun q => x1 (ix2 t q)) (fun q => x2 (ix2 t q)) (Scf.iv 0#32 1#32 k) := by
  unfold k0_pay5
  generalize k0_pay3 x0 x7 = X
  unfold act
  pointwise []
  refine congrArg₂ (fun a b : EReal => a + b) rfl (congrArg₂ (fun a b : EReal => a * b) rfl ?_)
  refine Finset.sum_congr rfl fun q _ => ?_
  exact (congrArg (fun b => Scalar.select b (x2 (ix2 t q)) (0 : EReal)) (Cert.Alg.hit_eq x1 (Scf.iv 0#32 1#32 k) t q)).trans
    (by by_cases h : x1 (ix2 t q) = Scf.iv 0#32 1#32 k
        · rw [if_pos h, if_pos h]; rfl
        · rw [if_neg h, if_neg h]; rfl)

theorem iv_of (e : Fin 32) : Scf.iv 0#32 1#32 e.val = BitVec.ofNat 32 e.val := by revert e; decide

theorem ld1 (k : Fin k0_t1_loop.trips) (e : Fin 32) (he : e.val = k.val) (q : Fin 7168) (n : Fin 1536) :
    View.ld x3 (Rect.unit (s := S32x7168x1536) (k0_off1 k) S1x7168x1536.size (k0_off1_inb k)) (ix3 (0 : Fin 1) q n) = x3 (ix3 e q n) := by
  have ho := k0_off1_eq k
  refine congrArg x3 (funext fun a => Fin.ext ?_)
  match a with
  | ⟨0, _⟩ => show k0_off1 k 0 + 1 * 0 = e.val; rw [ho]; show k.val + 1 * 0 = e.val; omega
  | ⟨1, _⟩ => show k0_off1 k 1 + 1 * q.val = q.val; rw [ho]; show 0 + 1 * q.val = q.val; omega
  | ⟨2, _⟩ => show k0_off1 k 2 + 1 * n.val = n.val; rw [ho]; show 0 + 1 * n.val = n.val; omega
theorem ld3 (k : Fin k0_t1_loop.trips) (e : Fin 32) (he : e.val = k.val) (q : Fin 768) (n : Fin 7168) :
    View.ld x5 (Rect.unit (s := S32x768x7168) (k0_off3 k) S1x768x7168.size (k0_off3_inb k)) (ix3 (0 : Fin 1) q n) = x5 (ix3 e q n) := by
  have ho := k0_off3_eq k
  refine congrArg x5 (funext fun a => Fin.ext ?_)
  match a with
  | ⟨0, _⟩ => show k0_off3 k 0 + 1 * 0 = e.val; rw [ho]; show k.val + 1 * 0 = e.val; omega
  | ⟨1, _⟩ => show k0_off3 k 1 + 1 * q.val = q.val; rw [ho]; show 0 + 1 * q.val = q.val; omega
  | ⟨2, _⟩ => show k0_off3 k 2 + 1 * n.val = n.val; rw [ho]; show 0 + 1 * n.val = n.val; omega
theorem ld2 (k : Fin k0_t1_loop.trips) (e : Fin 32) (he : e.val = k.val) (n : Fin 1536) :
    View.ld x4 (Rect.unit (s := S32x1536) (k0_off2 k) S1x1536.size (k0_off2_inb k)) (ix2 (0 : Fin 1) n) = x4 (ix2 e n) := by
  have ho := k0_off2_eq k
  refine congrArg x4 (funext fun a => Fin.ext ?_)
  match a with
  | ⟨0, _⟩ => show k0_off2 k 0 + 1 * 0 = e.val; rw [ho]; show k.val + 1 * 0 = e.val; omega
  | ⟨1, _⟩ => show k0_off2 k 1 + 1 * n.val = n.val; rw [ho]; show 0 + 1 * n.val = n.val; omega
theorem ld4 (k : Fin k0_t1_loop.trips) (e : Fin 32) (he : e.val = k.val) (n : Fin 7168) :
    View.ld x6 (Rect.unit (s := S32x7168) (k0_off4 k) S1x7168.size (k0_off4_inb k)) (ix2 (0 : Fin 1) n) = x6 (ix2 e n) := by
  have ho := k0_off4_eq k
  refine congrArg x6 (funext fun a => Fin.ext ?_)
  match a with
  | ⟨0, _⟩ => show k0_off4 k 0 + 1 * 0 = e.val; rw [ho]; show k.val + 1 * 0 = e.val; omega
  | ⟨1, _⟩ => show k0_off4 k 1 + 1 * n.val = n.val; rw [ho]; show 0 + 1 * n.val = n.val; omega

/-- An expert's share of a token's sum. -/
def share (e : Fin 32) (t : Fin 33) (d : Fin 7168) : EReal :=
  term (k0_pay3 x0 x7) x3 x4 x5 x6 e t d * wt (fun q => x1 (ix2 t q)) (fun q => x2 (ix2 t q)) (BitVec.ofNat 32 e.val)

theorem step_at (k : Fin k0_t1_loop.trips) (e : Fin 32) (he : e.val = k.val) (acc : FVec Ideal S33x7168 .f32) (t : Fin 33) (d : Fin 7168) :
    step x0 x1 x2 x3 x4 x5 x6 x7 k acc (ix2 t d) = acc (ix2 t d) + share x0 x1 x2 x3 x4 x5 x6 x7 e t d := by
  unfold step
  rw [pay5_at]
  unfold share term
  rw [← iv_of, he]
  simp only [ld1 x3 k e he, ld2 x4 k e he, ld3 x5 k e he, ld4 x6 k e he]

theorem loop_at (t : Fin 33) (d : Fin 7168) : ∀ n (hn : n ≤ 32),
    loop x0 x1 x2 x3 x4 x5 x6 x7 n (ix2 t d) = ∑ e : Fin n, share x0 x1 x2 x3 x4 x5 x6 x7 ⟨e.val, lt_of_lt_of_le e.isLt hn⟩ t d
  | 0, _ => by
    rw [Fin.sum_univ_zero, loop]
    show Ideal.ofBits .f32 0x00000000#32 = 0
    exact Ideal.ofBits_zero_f32
  | n + 1, hn => by
    have h : n < k0_t1_loop.trips := by rw [trips_eq]; exact hn
    rw [loop, dif_pos h, step_at x0 x1 x2 x3 x4 x5 x6 x7 ⟨n, h⟩ ⟨n, hn⟩ rfl, loop_at t d n (Nat.le_of_succ_le hn), Fin.sum_univ_castSucc]
    rfl

/-- The reference's result at an element: the token, the routed experts' shares, the shared expert's output. -/
def val (t : Fin 33) (d : Fin 7168) : EReal :=
  x0 (ix2 t d) + (∑ e : Fin 32, share x0 x1 x2 x3 x4 x5 x6 x7 e t d) + shOut (k0_pay3 x0 x7) x8 x9 x10 t d * x11 (ix2 (0 : Fin 1) d)

theorem pay2_at (t : Fin 33) (d : Fin 7168) : k0_pay2 x0 (ix2 t d) = x0 (ix2 t d) := by
  pointwise [k0_pay2]

theorem out_at (t : Fin 33) (d : Fin 7168) :
    k0_pay1 (k0_pay2 x0) (loop x0 x1 x2 x3 x4 x5 x6 x7 k0_t1_loop.trips) (k0_pay6 x0 x7 x8 x9 x10) x11 (ix2 t d)
      = val x0 x1 x2 x3 x4 x5 x6 x7 x8 x9 x10 x11 t d := by
  rw [pay1_at, pay2_at, pay6_at, trips_eq, loop_at x0 x1 x2 x3 x4 x5 x6 x7 t d 32 (le_refl _)]
  rfl

end Cert.ReferenceIdeal.Hand
-- ==== Proof.KAt.lean ====
/-
  Hand-written. What the kernel's loop over the items leaves in the accumulator, read at an index, at the ideal values.
-/
module

public import proofs.«01_k».proof.Proof.KernelIdeal.Run
public import proofs.«01_k».proof.Proof.RefAt

@[expose] public section

set_option maxRecDepth 16384

noncomputable section

namespace Cert.KernelIdeal.Hand

open Idealize.ShloMosaic Idealize.ShloMosaic.TcCoe
open Cert.KernelIdeal Cert.KernelIdeal.Gen Cert.Moe
open Idealize.ShloMosaic.Pointwise
open Cert.Alg

variable (c : Dev nD)

/-- A token's row in a buffer of 48 rows. -/
abbrev r48 (t : Fin 33) : Fin 48 := ⟨t.val, by have := t.isLt; omega⟩
/-- A column of chunk `j` in an array of 7168 columns. -/
abbrev col (j : Fin 7) (k : Fin 1024) : Fin 7168 := ⟨1024 * j.val + k.val, by have := j.isLt; have := k.isLt; omega⟩
/-- A unit of half `p` of 1536. -/
abbrev hf (p : Fin 2) (n : Fin 768) : Fin 1536 := ⟨768 * p.val + n.val, by have := p.isLt; have := n.isLt; omega⟩
/-- A column of half `m` of the gate's (`p = 0`) or the up's (`p = 1`) part of 3072. -/
abbrev hf3 (p m : Fin 2) (n : Fin 768) : Fin 3072 := ⟨1536 * p.val + 768 * m.val + n.val, by have := p.isLt; have := m.isLt; have := n.isLt; omega⟩

theorem xn_at (f : Cts (F := Ideal) c B26) (j : Fin 7) (t : Fin 48) (k : Fin 1024) : xn c f j (ix2 t k) = f (ix2 t (col j k)) := by
  show f _ = f _
  refine congrArg f (funext fun a => Fin.ext ?_)
  match a with
  | ⟨0, _⟩ => show 0 + 1 * t.val = t.val; omega
  | ⟨1, _⟩ => show 1024 * j.val + 1 * k.val = 1024 * j.val + k.val; omega
theorem ssd_at (f : Cts (F := Ideal) c B22) (j : Fin 7) (k : Fin 1024) : ssd c f j (ix2 (0 : Fin 1) k) = f (ix2 (0 : Fin 1) (col j k)) := by
  show f _ = f _
  refine congrArg f (funext fun a => Fin.ext ?_)
  match a with
  | ⟨0, _⟩ => rfl
  | ⟨1, _⟩ => show 1024 * j.val + 1 * k.val = 1024 * j.val + k.val; omega
theorem sdn_at (f : Cts (F := Ideal) c B19) (e : Fin 32) (j : Fin 7) (k : Fin 1024) : sdn c f e j (ix2 (0 : Fin 1) k) = f (ix2 e (col j k)) := by
  show f _ = f _
  refine congrArg f (funext fun a => Fin.ext ?_)
  match a with
  | ⟨0, _⟩ => show e.val + 1 * 0 = e.val; omega
  | ⟨1, _⟩ => show 1024 * j.val + 1 * k.val = 1024 * j.val + k.val; omega
theorem ssg_at (f : Cts (F := Ideal) c B21) (p m : Fin 2) (n : Fin 768) : ssg c f p m (ix2 (0 : Fin 1) n) = f (ix2 (0 : Fin 1) (hf3 p m n)) := by
  show f _ = f _
  refine congrArg f (funext fun a => Fin.ext ?_)
  match a with
  | ⟨0, _⟩ => rfl
  | ⟨1, _⟩ => show 1536 * p.val + 768 * m.val + 1 * n.val = 1536 * p.val + 768 * m.val + n.val; omega
theorem esg_at (f : Cts (F := Ideal) c B18) (p : Fin 2) (e : Fin 32) (n : Fin 768) : esg c f p e (ix2 (0 : Fin 1) n) = f (ix2 e (hf p n)) := by
  show f _ = f _
  refine congrArg f (funext fun a => Fin.ext ?_)
  match a with
  | ⟨0, _⟩ => show e.val + 1 * 0 = e.val; omega
  | ⟨1, _⟩ => show 768 * p.val + 1 * n.val = 768 * p.val + n.val; omega
theorem guP_at (g : Vec Ideal S48x1536 .f32) (p : Fin 2) (t : Fin 33) (n : Fin 768) : guP c g p (ix2 t n) = g (ix2 (r48 t) (hf p n)) := by
  show g _ = g _
  refine congrArg g (funext fun a => Fin.ext ?_)
  match a with
  | ⟨0, _⟩ => show 0 + 1 * t.val = t.val; omega
  | ⟨1, _⟩ => show 768 * p.val + 1 * n.val = 768 * p.val + n.val; omega
theorem guW_at (f : Cts (F := Ideal) c A3) (e : Fin 32) (j : Fin 7) (k : Fin 1024) (n : Fin 1536) : guW c f e j (ix3 (0 : Fin 1) k n) = f (ix3 e (col j k) n) := by
  show f _ = f _
  refine congrArg f (funext fun a => Fin.ext ?_)
  match a with
  | ⟨0, _⟩ => show e.val + 1 * 0 = e.val; omega
  | ⟨1, _⟩ => show 1024 * j.val + 1 * k.val = 1024 * j.val + k.val; omega
  | ⟨2, _⟩ => show 0 + 1 * n.val = n.val; omega
theorem dnW_at (f : Cts (F := Ideal) c A5) (e : Fin 32) (j : Fin 7) (n : Fin 768) (k : Fin 1024) : dnW c f e j (ix3 (0 : Fin 1) n k) = f (ix3 e n (col j k)) := by
  show f _ = f _
  refine congrArg f (funext fun a => Fin.ext ?_)
  match a with
  | ⟨0, _⟩ => show e.val + 1 * 0 = e.val; omega
  | ⟨1, _⟩ => show 0 + 1 * n.val = n.val; omega
  | ⟨2, _⟩ => show 1024 * j.val + 1 * k.val = 1024 * j.val + k.val; omega

/-- The shared expert's column of half `s` that column `n` of an item is. -/
abbrev shCol (s : Fin 2) (n : Fin 1536) : Fin 3072 :=
  ⟨if n.val < 768 then 768 * s.val + n.val else 1536 + 768 * s.val + (n.val - 768), by have := n.isLt; have := s.isLt; split <;> omega⟩
theorem shGu_at (f : Cts (F := Ideal) c A8) (s : Fin 2) (j : Fin 7) (k : Fin 1024) (n : Fin 1536) : shGu c f s j (ix3 (0 : Fin 1) k n) = f (ix2 (col j k) (shCol s n)) := by
  show f _ = f _
  refine congrArg f (funext fun a => ?_)
  match a with
  | ⟨0, _⟩ => rfl
  | ⟨1, _⟩ => rfl
theorem shDn_at (f : Cts (F := Ideal) c A10) (s : Fin 2) (j : Fin 7) (n : Fin 768) (k : Fin 1024) : shDn c f s j (ix3 (0 : Fin 1) n k) = f (ix2 (hf s n) (col j k)) := by
  show f _ = f _
  refine congrArg f (funext fun a => ?_)
  match a with
  | ⟨0, _⟩ => rfl
  | ⟨1, _⟩ => rfl

/-- The masked activations' rows are the tokens'. -/
theorem hV_at (p : FVec Ideal S33x768 .bf16) (t : Fin 33) (n : Fin 768) : hV c p (ix2 (r48 t) n) = p (ix2 t n) := by
  unfold hV
  have h := congrFun (View.read_write_univ (Val := Elt Ideal) (v := B28.access (Rect.unit (s := S48x768) ![0, 0] S34x768.size inb_S48x768_S34x768_0_0)) (k0_pay14 (F := Ideal))
    (updateSlice (rd (F := Ideal) c B28 (k0_pay14 (F := Ideal)) ![0, 0] S34x768.size inb_S48x768_S34x768_0_0) p ![0, 0] slices_S34x768_S33x768_0_0))
    (ix2 (⟨t.val, by have := t.isLt; omega⟩ : Fin 34) n)
  refine Eq.trans ?_ (h.trans ?_)
  · refine congrArg ((B28.access (Rect.unit (s := S48x768) ![0, 0] S34x768.size inb_S48x768_S34x768_0_0)).write (Elt Ideal) (k0_pay14 (F := Ideal)) _ Finset.univ) (funext fun a => Fin.ext ?_)
    match a with
    | ⟨0, _⟩ => show t.val = 0 + 1 * t.val; omega
    | ⟨1, _⟩ => show n.val = 0 + 1 * n.val; omega
  · refine (dif_pos fun a => ?_).trans ?_
    · match a with
      | ⟨0, _⟩ => exact ⟨Nat.zero_le _, by have := t.isLt; show t.val < 0 + 33; omega⟩
      | ⟨1, _⟩ => exact ⟨Nat.zero_le _, by have := n.isLt; show n.val < 0 + 768; omega⟩
    · refine congrArg p (funext fun a => ?_)
      match a with
      | ⟨0, _⟩ => rfl
      | ⟨1, _⟩ => rfl

/-- So are the normalised tokens'. -/
theorem xn26_at (x : FVec Ideal S33x7168 .f32) (g : Vec Ideal S1x7168 .f32) (t : Fin 33) (n : Fin 7168) : xn26 c x g (ix2 (r48 t) n) = k0_pay52 x g (ix2 t n) := by
  unfold xn26
  have h := congrFun (View.read_write_univ (Val := Elt Ideal) (v := B26.access (Rect.unit (s := S48x7168) ![0, 0] S34x7168.size inb_S48x7168_S34x7168_0_0)) (k0_pay51 (F := Ideal))
    (updateSlice (rd (F := Ideal) c B26 (k0_pay51 (F := Ideal)) ![0, 0] S34x7168.size inb_S48x7168_S34x7168_0_0) (k0_pay52 x g) ![0, 0] slices_S34x7168_S33x7168_0_0))
    (ix2 (⟨t.val, by have := t.isLt; omega⟩ : Fin 34) n)
  refine Eq.trans ?_ (h.trans ?_)
  · refine congrArg ((B26.access (Rect.unit (s := S48x7168) ![0, 0] S34x7168.size inb_S48x7168_S34x7168_0_0)).write (Elt Ideal) (k0_pay51 (F := Ideal)) _ Finset.univ) (funext fun a => Fin.ext ?_)
    match a with
    | ⟨0, _⟩ => show t.val = 0 + 1 * t.val; omega
    | ⟨1, _⟩ => show n.val = 0 + 1 * n.val; omega
  · refine (dif_pos fun a => ?_).trans ?_
    · match a with
      | ⟨0, _⟩ => exact ⟨Nat.zero_le _, by have := t.isLt; show t.val < 0 + 33; omega⟩
      | ⟨1, _⟩ => exact ⟨Nat.zero_le _, by have := n.isLt; show n.val < 0 + 7168; omega⟩
    · refine congrArg (k0_pay52 x g) (funext fun a => ?_)
      match a with
      | ⟨0, _⟩ => rfl
      | ⟨1, _⟩ => rfl

/-- The accumulator starts as the tokens. -/
theorem acc0_at (x : FVec Ideal S33x7168 .f32) (j : Fin 7) (t : Fin 33) (k : Fin 1024) : acc0 c x j (ix2 t k) = x (ix2 t (col j k)) := by
  unfold acc0 acc29
  have h := congrFun (View.read_write_univ (Val := Elt Ideal) (v := B29.access (Rect.unit (s := S40x7168) ![0, 0] S33x7168.size inb_S40x7168_S33x7168_0_0)) (k0_pay53 (F := Ideal)) (k0_pay54 x))
    (ix2 t (col j k))
  refine Eq.trans ?_ (h.trans ?_)
  · refine congrArg ((B29.access (Rect.unit (s := S40x7168) ![0, 0] S33x7168.size inb_S40x7168_S33x7168_0_0)).write (Elt Ideal) (k0_pay53 (F := Ideal)) _ Finset.univ) (funext fun a => Fin.ext ?_)
    match a with
    | ⟨0, _⟩ => show 0 + 1 * t.val = 0 + 1 * t.val; rfl
    | ⟨1, _⟩ => show 1024 * j.val + 1 * k.val = 0 + 1 * (1024 * j.val + k.val); omega
  · pointwise [k0_pay54]

end Cert.KernelIdeal.Hand
-- ==== Proof.KItem.lean ====
/-
  Hand-written. What each item of the kernel's loop adds to the accumulator, at the ideal values.
-/
module

public import proofs.«01_k».proof.Proof.KAt

@[expose] public section

set_option maxRecDepth 16384

noncomputable section

namespace Cert.KernelIdeal.Hand

open Idealize.ShloMosaic Idealize.ShloMosaic.TcCoe
open Cert.KernelIdeal Cert.KernelIdeal.Gen Cert.Moe
open Idealize.ShloMosaic.Pointwise
open Cert.Alg hiding act
open Cert.ReferenceIdeal.Hand (term shAct shOut share val)

variable (c : Dev nD)

/-- The gate and up projections of a token, whatever the item's weights. -/
theorem guAcc_at (x : FVec Ideal S33x7168 .bf16) (g : Vec Ideal S1x7168 .f32) (W : Fin 7 → Vec Ideal S1x1024x1536 .fp8e4m3) (Wf : Fin 7168 → Fin 1536 → EReal)
    (hW : ∀ (j : Fin 7) (k : Fin 1024) (n : Fin 1536), W j (ix3 (0 : Fin 1) k n) = Wf (col j k) n) (t : Fin 33) (n : Fin 1536) :
    guAcc c (xn26 c (k0_pay50 x) g) W (ix2 (r48 t) n) = ∑ k : Fin 7168, Cert.ReferenceIdeal.Gen.k0_pay3 x g (ix2 t k) * Wf k n := by
  unfold guAcc
  refine (acc7_at (fun j => xn c (xn26 c (k0_pay50 x) g) j) W (r48 t) n).trans ?_
  rw [sum_chunks]
  refine Finset.sum_congr rfl fun j _ => Finset.sum_congr rfl fun k _ => ?_
  rw [hW, xn_at, xn26_at, pay52_eq]

/-- A shared item's activations. -/
theorem hItem_sh (x : FVec Ideal S33x7168 .bf16) (g : Vec Ideal S1x7168 .f32) (f16 : Cts (F := Ideal) c B16) (f18 : Cts (F := Ideal) c B18) (f21 : Cts (F := Ideal) c B21)
    (a : BitVec 32) (e : Fin 32) (m : Fin 2) (W : Fin 7 → Vec Ideal S1x1024x1536 .fp8e4m3) (Wf : Fin 7168 → Fin 1536 → EReal)
    (hW : ∀ (j : Fin 7) (k : Fin 1024) (n : Fin 1536), W j (ix3 (0 : Fin 1) k n) = Wf (col j k) n) (t : Fin 33) (n : Fin 768) :
    hItem c f16 f18 f21 (xn26 c (k0_pay50 x) g) 1#1 a e m W (ix2 (r48 t) n)
      = Cert.Alg.act ((∑ k : Fin 7168, Cert.ReferenceIdeal.Gen.k0_pay3 x g (ix2 t k) * Wf k (hf 0 n)) * f21 (ix2 (0 : Fin 1) (hf3 0 m n)))
        ((∑ k : Fin 7168, Cert.ReferenceIdeal.Gen.k0_pay3 x g (ix2 t k) * Wf k (hf 1 n)) * f21 (ix2 (0 : Fin 1) (hf3 1 m n))) := by
  unfold hItem
  rw [hV_at, pay15_sh, guP_at, guP_at, guAcc_at c x g W Wf hW, guAcc_at c x g W Wf hW]
  rw [show k0_pay10 (F := Ideal) 1#1 (ssg c f21 0 m) (esg c f18 0 e) = ssg c f21 0 m from rfl,
    show k0_pay11 (F := Ideal) 1#1 (ssg c f21 1 m) (esg c f18 1 e) = ssg c f21 1 m from rfl, ssg_at, ssg_at]

/-- An expert's activations: zero in the rows it does not reach. -/
theorem hItem_ex (x : FVec Ideal S33x7168 .bf16) (g : Vec Ideal S1x7168 .f32) (f16 : Cts (F := Ideal) c B16) (f18 : Cts (F := Ideal) c B18) (f21 : Cts (F := Ideal) c B21)
    (a : BitVec 32) (e : Fin 32) (m : Fin 2) (W : Fin 7 → Vec Ideal S1x1024x1536 .fp8e4m3) (Wf : Fin 7168 → Fin 1536 → EReal)
    (hW : ∀ (j : Fin 7) (k : Fin 1024) (n : Fin 1536), W j (ix3 (0 : Fin 1) k n) = Wf (col j k) n) (t : Fin 33) (n : Fin 768) :
    hItem c f16 f18 f21 (xn26 c (k0_pay50 x) g) 0#1 a e m W (ix2 (r48 t) n)
      = if Hits (fun k => ids c f16 (ix2 t k)) a then Cert.Alg.act ((∑ k : Fin 7168, Cert.ReferenceIdeal.Gen.k0_pay3 x g (ix2 t k) * Wf k (hf 0 n)) * f18 (ix2 e (hf 0 n)))
        ((∑ k : Fin 7168, Cert.ReferenceIdeal.Gen.k0_pay3 x g (ix2 t k) * Wf k (hf 1 n)) * f18 (ix2 e (hf 1 n))) else 0 := by
  unfold hItem
  rw [hV_at, pay15_ex, guP_at, guP_at, guAcc_at c x g W Wf hW, guAcc_at c x g W Wf hW]
  rw [show k0_pay10 (F := Ideal) 0#1 (ssg c f21 0 m) (esg c f18 0 e) = esg c f18 0 e from rfl,
    show k0_pay11 (F := Ideal) 0#1 (ssg c f21 1 m) (esg c f18 1 e) = esg c f18 1 e from rfl, esg_at, esg_at]

/-- Every chunk of the accumulator takes the same step. -/
theorem accItem_eq (f19 : Cts (F := Ideal) c B19) (f22 : Cts (F := Ideal) c B22) (b : BitVec 1) (e : Fin 32) (v : FVec Ideal S33x1 .f32) (H : Vec Ideal S48x768 .bf16)
    (D : Fin 7 → Vec Ideal S1x768x1024 .fp8e4m3) (A : Fin 7 → Vec Ideal S33x1024 .f32) (j : Fin 7) :
    accItem c f19 f22 b e v H D A j = k0_pay16 b v H (D j) (ssd c f22 j) (sdn c f19 e j) (A j) := by
  match j with
  | 0 => rfl
  | 1 => rfl
  | 2 => rfl
  | 3 => rfl
  | 4 => rfl
  | 5 => rfl
  | 6 => rfl

theorem accItem_at (f19 : Cts (F := Ideal) c B19) (f22 : Cts (F := Ideal) c B22) (b : BitVec 1) (e : Fin 32) (v : FVec Ideal S33x1 .f32) (H : Vec Ideal S48x768 .bf16)
    (D : Fin 7 → Vec Ideal S1x768x1024 .fp8e4m3) (A : Fin 7 → Vec Ideal S33x1024 .f32) (j : Fin 7) (t : Fin 33) (k : Fin 1024) :
    accItem c f19 f22 b e v H D A j (ix2 t k) = A j (ix2 t k) + (∑ n : Fin 768, H (ix2 (r48 t) n) * D j (ix3 (0 : Fin 1) n k))
      * Scalar.select b (f22 (ix2 (0 : Fin 1) (col j k)) : EReal) (f19 (ix2 e (col j k))) * v (ix2 t (0 : Fin 1)) := by
  rw [accItem_eq, pay16_at]
  refine congrArg (fun z : EReal => A j (ix2 t k) + (∑ n : Fin 768, H (ix2 (r48 t) n) * D j (ix3 (0 : Fin 1) n k)) * z * v (ix2 t (0 : Fin 1))) ?_
  have h1 := ssd_at c f22 j k
  have h2 := sdn_at c f19 e j k
  unfold Scalar.select
  split
  · exact h1
  · exact h2

variable (Y : Ops Ideal c)

/-- The tokens the reference normalises. -/
abbrev nrm : FVec Ideal S33x7168 .bf16 := Cert.ReferenceIdeal.Gen.k0_pay3 Y.f0 Y.f7

/-- A shared item's part of a token's sum. -/
def shPart (s : Fin 2) (t : Fin 33) (d : Fin 7168) : EReal :=
  (∑ n : Fin 768, shAct (nrm c Y) Y.f8 Y.f9 t (hf s n) * Y.f10 (ix2 (hf s n) d)) * Y.f11 (ix2 (0 : Fin 1) d)

theorem isSh_lt (i : ℕ) (h : i < 2) : isSh i = 1#1 := by
  match i, h with
  | 0, _ => decide
  | 1, _ => decide
theorem isSh_ge (i : ℕ) (h : 2 ≤ i) (h' : i < 34) : isSh i = 0#1 :=
  (by decide : ∀ i : Fin 34, 2 ≤ i.val → Scalar.cmpi .slt (Scf.iv 0#32 1#32 i.val) 2#32 = 0#1) ⟨i, h'⟩ h

/-- The two shared items. -/
theorem acc_sh (n : Fin 33) (f25 : Cts (F := Ideal) c B25) (A : Fin 7 → Vec Ideal S33x1024 .f32) (i : ℕ) (hi : i < 2) (j : Fin 7) (t : Fin 33) (k : Fin 1024) :
    accAt c (fixedOf c Y f25) n A (i + 1) j (ix2 t k) = accAt c (fixedOf c Y f25) n A i j (ix2 t k) + shPart c Y ⟨i, hi⟩ t (col j k) := by
  rw [accAt, isSh_lt i hi, accItem_at, pay13_sh, mul_one]
  refine congrArg (fun z : EReal => _ + z) ?_
  unfold shPart
  refine congrArg (fun z : EReal => z * Y.f11 (ix2 (0 : Fin 1) (col j k))) (Finset.sum_congr rfl fun q _ => ?_)
  have hs : slot i = ⟨i, hi⟩ := Fin.ext (Nat.mod_eq_of_lt hi)
  have hh : half i = ⟨i, hi⟩ := Fin.ext (by show min i 1 = i; omega)
  have hD : dnV c (fixedOf c Y f25) n i j = shDn c Y.f10 ⟨i, hi⟩ j := by unfold dnV; rw [if_pos hi, hs]; rfl
  have hG : guV c (fixedOf c Y f25) n i = shGu c Y.f8 ⟨i, hi⟩ := by funext j; unfold guV; rw [if_pos hi, hs]; rfl
  rw [hD, shDn_at]
  refine congrArg (fun z : EReal => z * Y.f10 (ix2 (hf ⟨i, hi⟩ q) (col j k))) ?_
  unfold hAt
  rw [isSh_lt i hi, hG, hh]
  refine (hItem_sh c Y.f0 Y.f7 _ _ _ _ _ ⟨i, hi⟩ _ (fun k n => Y.f8 (ix2 k (shCol ⟨i, hi⟩ n))) (fun j k n => shGu_at c Y.f8 ⟨i, hi⟩ j k n) t q).trans ?_
  have e0 : shCol ⟨i, hi⟩ (hf 0 q) = ⟨(hf ⟨i, hi⟩ q).val, by have := (hf ⟨i, hi⟩ q).isLt; omega⟩ := Fin.ext (by
    have := q.isLt
    show (if 768 * 0 + q.val < 768 then 768 * i + (768 * 0 + q.val) else _) = 768 * i + q.val
    rw [if_pos (by omega)]; omega)
  have e1 : shCol ⟨i, hi⟩ (hf 1 q) = ⟨1536 + (hf ⟨i, hi⟩ q).val, by have := (hf ⟨i, hi⟩ q).isLt; omega⟩ := Fin.ext (by
    have := q.isLt
    show (if 768 * 1 + q.val < 768 then _ else 1536 + 768 * i + (768 * 1 + q.val - 768)) = 1536 + (768 * i + q.val)
    rw [if_neg (by omega)]; omega)
  have e2 : hf3 0 ⟨i, hi⟩ q = ⟨(hf ⟨i, hi⟩ q).val, by have := (hf ⟨i, hi⟩ q).isLt; omega⟩ := Fin.ext (by
    show 1536 * 0 + 768 * i + q.val = 768 * i + q.val; omega)
  have e3 : hf3 1 ⟨i, hi⟩ q = ⟨1536 + (hf ⟨i, hi⟩ q).val, by have := (hf ⟨i, hi⟩ q).isLt; omega⟩ := Fin.ext (by
    show 1536 * 1 + 768 * i + q.val = 1536 + (768 * i + q.val); omega)
  unfold shAct
  simp only [e0, e1, e2, e3]
  rfl

variable (x1 : Vec Ideal S33x8 .i32) (x2 : Vec Ideal S33x8 .f32)

/-- The share of the expert of a number. -/
def shareN (a : ℕ) (t : Fin 33) (d : Fin 7168) : EReal := share Y.f0 x1 x2 Y.f3 Y.f4 Y.f5 Y.f6 Y.f7 ⟨a % 32, Nat.mod_lt _ (by decide)⟩ t d

theorem wt_zero {i : Fin 8 → BitVec 32} {w : Fin 8 → EReal} {a : BitVec 32} (h : ¬ Hits i a) : wt i w a = 0 := by
  unfold wt
  exact Finset.sum_eq_zero fun k _ => if_neg fun hk => h ⟨k, hk⟩

variable (h1 : ∀ (t : Fin 33) (k : Fin 8), Y.f1 (ix2 k t) = x1 (ix2 t k)) (h2 : ∀ (t : Fin 33) (k : Fin 8), Y.f2 (ix2 k t) = x2 (ix2 t k))

include h1 in
theorem ids_at (t : Fin 33) (k : Fin 8) : ids c (k0_pay48 (F := Ideal) Y.f1) (ix2 t k) = x1 (ix2 t k) := by
  rw [ids, rd16, ← h1]
  pointwise [k0_pay48]
include h2 in
theorem ewv_at (t : Fin 33) (k : Fin 8) : ewv c (k0_pay49 (F := Ideal) Y.f2) (ix2 t k) = x2 (ix2 t k) := by
  rw [ewv, rd17, ← h2]
  pointwise [k0_pay49]

include h1 h2 in
/-- The item of an expert adds the expert's share. -/
theorem acc_ex (n : Fin 33) (f25 : Cts (F := Ideal) c B25) (A : Fin 7 → Vec Ideal S33x1024 .f32) (i a : ℕ) (hi : 2 ≤ i) (hi' : i < 34) (ha : a < 32)
    (hl : lq c (fixedOf c Y f25) (curAt n i) = BitVec.ofNat 32 a) (j : Fin 7) (t : Fin 33) (k : Fin 1024) :
    accAt c (fixedOf c Y f25) n A (i + 1) j (ix2 t k) = accAt c (fixedOf c Y f25) n A i j (ix2 t k) + shareN c Y x1 x2 a t (col j k) := by
  have he : ex c (fixedOf c Y f25) (curAt n i) = ⟨a, ha⟩ := Fin.ext (by
    show (lq c (fixedOf c Y f25) (curAt n i)).toNat % 32 = a
    rw [hl, BitVec.toNat_ofNat]; omega)
  rw [accAt, isSh_ge i hi hi', accItem_at]
  refine congrArg (fun z : EReal => _ + z) ?_
  have hw : k0_pay13 (F := Ideal) 0#1 (itemId c (fixedOf c Y f25) n i) (ids c (fixedOf c Y f25).f16) (ewv c (fixedOf c Y f25).f17) (ix2 t (0 : Fin 1))
      = wt (fun q => x1 (ix2 t q)) (fun q => x2 (ix2 t q)) (BitVec.ofNat 32 a) := by
    rw [pay13_ex, show itemId c (fixedOf c Y f25) n i = BitVec.ofNat 32 a from hl]
    congr 1
    · funext q; exact ids_at c Y x1 h1 t q
    · funext q; exact ewv_at c Y x2 h2 t q
  rw [hw]
  unfold shareN share
  rw [show (⟨a % 32, Nat.mod_lt _ (by decide)⟩ : Fin 32) = ⟨a, ha⟩ from Fin.ext (Nat.mod_eq_of_lt ha)]
  by_cases hh : Hits (fun q => x1 (ix2 t q)) (BitVec.ofNat 32 a)
  · refine congrArg (fun z : EReal => z * _) ?_
    unfold term
    rw [he]
    refine congrArg (fun z : EReal => z * Y.f6 (ix2 (⟨a, ha⟩ : Fin 32) (col j k))) (Finset.sum_congr rfl fun q _ => ?_)
    have hD : dnV c (fixedOf c Y f25) n i j = dnW c Y.f5 ⟨a, ha⟩ j := by unfold dnV; rw [if_neg (by omega), he]; rfl
    have hG : guV c (fixedOf c Y f25) n i = guW c Y.f3 ⟨a, ha⟩ := by funext j; unfold guV; rw [if_neg (by omega), he]; rfl
    rw [hD, dnW_at]
    refine congrArg (fun z : EReal => z * Y.f5 (ix3 (⟨a, ha⟩ : Fin 32) q (col j k))) ?_
    unfold hAt
    rw [isSh_ge i hi hi', hG, he]
    refine (hItem_ex c Y.f0 Y.f7 _ _ _ _ _ (half i) _ (fun k n => Y.f3 (ix3 (⟨a, ha⟩ : Fin 32) k n)) (fun j k n => guW_at c Y.f3 ⟨a, ha⟩ j k n) t q).trans ?_
    have hit : Hits (fun k => ids (F := Ideal) c (k0_pay48 (F := Ideal) Y.f1) (ix2 t k)) (itemId c (fixedOf c Y f25) n i) := by
      rw [show itemId c (fixedOf c Y f25) n i = BitVec.ofNat 32 a from hl]
      obtain ⟨q, hq⟩ := hh
      exact ⟨q, (ids_at c Y x1 h1 t q).trans hq⟩
    refine (if_pos hit).trans ?_
    have e0 : hf 0 q = ⟨q.val, by have := q.isLt; omega⟩ := Fin.ext (by show 768 * 0 + q.val = q.val; omega)
    have e1 : hf 1 q = ⟨768 + q.val, by have := q.isLt; omega⟩ := Fin.ext (by show 768 * 1 + q.val = 768 + q.val; omega)
    simp only [e0, e1]
    rfl
  · rw [wt_zero hh, mul_zero, mul_zero]

end Cert.KernelIdeal.Hand
-- ==== Proof.KSum.lean ====
/-
  Hand-written. The kernel's result read at an index: the sum over the list of active experts is the sum over all of
  them, and the two shared items together are the shared expert.
-/
module

public import proofs.«01_k».proof.Proof.KItem

@[expose] public section

set_option maxRecDepth 16384

noncomputable section

namespace Cert.KernelIdeal.Hand

open Idealize.ShloMosaic Idealize.ShloMosaic.TcCoe
open Cert.KernelIdeal Cert.KernelIdeal.Gen Cert.Moe
open Idealize.ShloMosaic.Pointwise
open Cert.Alg hiding act
open Cert.ReferenceIdeal.Hand (term shAct shOut share val)

/-- A sum over the list of a set below `e` is a sum over the numbers below `e`. -/
theorem lst_sum (g : ℕ → EReal) (S : Finset ℕ) : ∀ e, ((lst S e).map g).sum = ∑ a ∈ Finset.range e, if a ∈ S then g a else 0
  | 0 => by rw [Finset.range_zero, Finset.sum_empty]; rfl
  | e + 1 => by
    rw [lst_succ, Finset.sum_range_succ, ← lst_sum g S e]
    by_cases h : e ∈ S
    · rw [if_pos h, if_pos h, List.map_append, List.sum_append]; simp
    · rw [if_neg h, if_neg h, add_zero]

variable (c : Dev nD) (Y : Ops Ideal c) (x1 : Vec Ideal S33x8 .i32) (x2 : Vec Ideal S33x8 .f32)
variable (h1 : ∀ (t : Fin 33) (k : Fin 8), Y.f1 (ix2 k t) = x1 (ix2 t k)) (h2 : ∀ (t : Fin 33) (k : Fin 8), Y.f2 (ix2 k t) = x2 (ix2 t k))

include h1 in
theorem idw_x1 (k : Fin 8) (t : Fin 33) : idw c Y.f1 k t = x1 (ix2 t k) := by
  rw [← h1]
  show Y.f1 _ = Y.f1 _
  refine congrArg Y.f1 (funext fun a => Fin.ext ?_)
  match a with
  | ⟨0, _⟩ => show k.val + 1 * 0 = k.val; omega
  | ⟨1, _⟩ => show t.val + 1 * 0 = t.val; omega

theorem len_le : (act c Y).length ≤ 32 := by unfold act; exact lst_len _ _
theorem cur_of (n : Fin 33) (q : ℕ) (h : q < 32) : curAt n (2 + q) = ⟨q, h⟩ := Fin.ext (by show (2 + q - 2) % 32 = q; omega)
theorem cnt_le {q : ℕ} (h : q < (act c Y).length) : q < (cnt c Y).val := lt_of_lt_of_eq h (cnt_val c Y).symm

/-- The accumulator after the shared items. -/
theorem acc_two (A : Fin 7 → Vec Ideal S33x1024 .f32) (j : Fin 7) (t : Fin 33) (k : Fin 1024) (n : Fin 33) (f25 : Cts (F := Ideal) c B25) :
    accAt c (fixedOf c Y f25) n A 2 j (ix2 t k) = A j (ix2 t k) + shPart c Y 0 t (col j k) + shPart c Y 1 t (col j k) := by
  refine (acc_sh c Y n f25 A 1 (by omega) j t k).trans ?_
  rw [acc_sh c Y n f25 A 0 (by omega) j t k, accAt]
  rfl

/-- The accumulator after the shared items and `q` experts of the list. -/
theorem acc_list_at (h1 : ∀ (t : Fin 33) (k : Fin 8), Y.f1 (ix2 k t) = x1 (ix2 t k)) (h2 : ∀ (t : Fin 33) (k : Fin 8), Y.f2 (ix2 k t) = x2 (ix2 t k))
    (A : Fin 7 → Vec Ideal S33x1024 .f32) (j : Fin 7) (t : Fin 33) (k : Fin 1024) (n : Fin 33) (f25 : Cts (F := Ideal) c B25) (L : List ℕ) (hL : L.length ≤ 32)
    (hlt : ∀ a ∈ L, a < 32) (hq25 : ∀ (q : Fin 32) (h : q.val < L.length), lq c (fixedOf c Y f25) q = BitVec.ofNat 32 L[q.val]) : ∀ q, q ≤ L.length →
    accAt c (fixedOf c Y f25) n A (2 + q) j (ix2 t k) = A j (ix2 t k) + shPart c Y 0 t (col j k) + shPart c Y 1 t (col j k)
      + ((L.take q).map fun a => shareN c Y x1 x2 a t (col j k)).sum
  | 0, _ => by
    rw [List.take_zero, List.map_nil, List.sum_nil]
    exact (acc_two c Y A j t k n f25).trans (add_zero _).symm
  | q + 1, hq => by
    have hq32 : q < 32 := Nat.lt_of_succ_le (hq.trans hL)
    have hl : lq c (fixedOf c Y f25) (curAt n (2 + q)) = BitVec.ofNat 32 L[q] := by
      rw [cur_of n q hq32]; exact hq25 ⟨q, hq32⟩ hq
    have ha : L[q] < 32 := hlt _ (List.getElem_mem _)
    refine (acc_ex c Y x1 x2 h1 h2 n f25 A (2 + q) L[q] (Nat.le_add_right _ _) (Nat.add_lt_add_left hq32 2) ha hl j t k).trans ?_
    rw [acc_list_at h1 h2 A j t k n f25 L hL hlt hq25 q (Nat.le_of_succ_le hq), List.take_succ_eq_append_getElem hq, List.map_append, List.sum_append,
      List.map_cons, List.map_nil, List.sum_cons, List.sum_nil, add_zero, ← add_assoc]

include h1 in
/-- The experts outside the list have no share, so the list's sum is the sum over all. -/
theorem act_sum (t : Fin 33) (d : Fin 7168) : ((act c Y).map fun a => shareN c Y x1 x2 a t d).sum
    = ∑ e : Fin 32, share Y.f0 x1 x2 Y.f3 Y.f4 Y.f5 Y.f6 Y.f7 e t d := by
  unfold act
  rw [lst_sum, Finset.sum_range]
  refine Finset.sum_congr rfl fun e _ => ?_
  have he : shareN c Y x1 x2 e.val t d = share Y.f0 x1 x2 Y.f3 Y.f4 Y.f5 Y.f6 Y.f7 e t d := by
    unfold shareN
    rw [show (⟨e.val % 32, Nat.mod_lt _ (by decide)⟩ : Fin 32) = e from Fin.ext (Nat.mod_eq_of_lt e.isLt)]
  by_cases h : e.val ∈ actUp c Y.f1 33
  · rw [if_pos h, he]
  · rw [if_neg h]
    unfold share
    rw [wt_zero, mul_zero]
    rintro ⟨k, hk⟩
    refine h ((mem_actUp c Y.f1 e.val 33 (le_refl _)).mpr ⟨t, t.isLt, k, ?_⟩)
    rw [idw_x1 c Y x1 h1 k t, show x1 (ix2 t k) = BitVec.ofNat 32 e.val from hk, BitVec.toNat_ofNat]
    have := e.isLt
    omega

/-- The shared expert's scale of a column. -/
abbrev sdC (d : Fin 7168) : EReal := Y.f11 (ix2 (0 : Fin 1) d)

/-- The two halves are the shared expert. -/
theorem sh_sum (t : Fin 33) (d : Fin 7168) (h0 : 0 ≤ sdC c Y d) (ht : sdC c Y d ≠ ⊤) :
    shOut (nrm c Y) Y.f8 Y.f9 Y.f10 t d * sdC c Y d = shPart c Y 0 t d + shPart c Y 1 t d := by
  unfold shPart
  refine Eq.trans ?_ (EReal.right_distrib_of_nonneg_of_ne_top h0 ht _ _)
  refine congrArg (fun z : EReal => z * sdC c Y d) ?_
  unfold shOut
  rw [Fin.sum_univ_tiles 2 768 (by norm_num), Fin.sum_univ_two]
  refine congrArg₂ (fun a b : EReal => a + b) ?_ ?_ <;> refine Finset.sum_congr rfl fun n _ => ?_
  · exact congrArg (fun i : Fin 1536 => shAct (nrm c Y) Y.f8 Y.f9 t i * Y.f10 (ix2 i d)) (Fin.ext (by show 0 * 768 + n.val = 768 * 0 + n.val; omega))
  · exact congrArg (fun i : Fin 1536 => shAct (nrm c Y) Y.f8 Y.f9 t i * Y.f10 (ix2 i d)) (Fin.ext (by show 1 * 768 + n.val = 768 * 1 + n.val; omega))

theorem add_swap (x a b s : EReal) : x + a + b + s = x + s + (a + b) := by
  rw [add_assoc x a b, add_right_comm]

theorem kpay1_at (v : FVec Ideal S33x7168 .f32) (t : Fin 33) (d : Fin 7168) : (k0_pay1 (F := Ideal) v (ix2 t d) : EReal) = v (ix2 t d) := by
  pointwise [k0_pay1]
theorem kpay50_at (v : FVec Ideal S33x7168 .bf16) (t : Fin 33) (d : Fin 7168) : (k0_pay50 (F := Ideal) v (ix2 t d) : EReal) = v (ix2 t d) := by
  pointwise [k0_pay50]
theorem outV_at (A : Fin 7 → Vec Ideal S33x1024 .f32) (t : Fin 33) (j : Fin 7) (k : Fin 1024) : outV A (ix2 t (col j k)) = A j (ix2 t k) := by
  have hk := k.isLt
  unfold outV
  have e : (⟨(col j k).val / 1024, by have := (col j k).isLt; omega⟩ : Fin 7) = j := Fin.ext (by show (1024 * j.val + k.val) / 1024 = j.val; omega)
  show A (⟨(col j k).val / 1024, _⟩ : Fin 7) _ = _
  rw [e]
  refine congrArg (A j) (funext fun a => ?_)
  match a with
  | ⟨0, _⟩ => rfl
  | ⟨1, _⟩ => exact Fin.ext (by show (1024 * j.val + k.val) % 1024 = k.val; omega)

theorem col_of (d : Fin 7168) : ∃ (j : Fin 7) (k : Fin 1024), col j k = d :=
  ⟨⟨d.val / 1024, by have := d.isLt; omega⟩, ⟨d.val % 1024, Nat.mod_lt _ (by decide)⟩, Fin.ext (Nat.div_add_mod d.val 1024)⟩

/-- A token's entry. -/
abbrev tokC (t : Fin 33) (d : Fin 7168) : EReal := Y.f0 (ix2 t d)

theorem fin_at (h1 : ∀ (t : Fin 33) (k : Fin 8), Y.f1 (ix2 k t) = x1 (ix2 t k)) (h2 : ∀ (t : Fin 33) (k : Fin 8), Y.f2 (ix2 k t) = x2 (ix2 t k))
    (j : Fin 7) (t : Fin 33) (k : Fin 1024) : finAcc c Y j (ix2 t k) = tokC c Y t (col j k) + shPart c Y 0 t (col j k) + shPart c Y 1 t (col j k)
      + ((act c Y).map fun a => shareN c Y x1 x2 a t (col j k)).sum := by
  unfold finAcc finX
  rw [cnt_val]
  refine (acc_list_at c Y x1 x2 h1 h2 (acc0 c (k0_pay50 Y.f0)) j t k (cnt c Y) (listC c Y) (act c Y) (len_le c Y) (fun a h => act_lt c Y h)
    (fun q h => lq_of c Y (listC_is c Y) q h) (act c Y).length (le_refl _)).trans ?_
  rw [List.take_length, acc0_at, kpay50_at]

include h1 h2 in
/-- The kernel's result at an element is the reference's. -/
theorem outY_at (hs : ∀ d : Fin 7168, 0 ≤ sdC c Y d ∧ sdC c Y d ≠ ⊤) (t : Fin 33) (d : Fin 7168) :
    outY c Y (ix2 t d) = val Y.f0 x1 x2 Y.f3 Y.f4 Y.f5 Y.f6 Y.f7 Y.f8 Y.f9 Y.f10 Y.f11 t d := by
  obtain ⟨j, k, rfl⟩ := col_of d
  unfold outY
  rw [kpay1_at, outV_at, fin_at c Y x1 x2 h1 h2 j t k, act_sum c Y x1 x2 h1 t (col j k), add_swap, ← sh_sum c Y t (col j k) (hs (col j k)).1 (hs (col j k)).2]
  unfold val
  rfl

end Cert.KernelIdeal.Hand
-- ==== Proof.RefRun.lean ====
/-
  Hand-written. The reference's run: its result array as a function of the arrays its region reads.
-/
module

public import proofs.«01_k».proof.Proof.Ref
public import Idealize.ShloMosaic.Lib.StableHlo.RunRead

@[expose] public section

set_option maxRecDepth 16384

noncomputable section

namespace Cert.ReferenceIdeal.Hand

open Idealize.ShloMosaic Idealize.ShloMosaic.TcCoe Idealize.ShloMosaic.Tactic
open Idealize.SL.Sem
open Idealize.ShloMosaic.Pipeline (Dat)
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-! ## Every window is its whole array -/

theorem emb0 (t : Fin cfg0.N) (j : S33x7168.Idx) : ((cfg0.win 0).blk t).view.emb j = j := by
  funext a; apply Fin.ext
  match a with
  | ⟨0, _⟩ => show 0 * 33 + 1 * (j 0).val = (j 0).val; omega
  | ⟨1, _⟩ => show 0 * 7168 + 1 * (j 1).val = (j 1).val; omega
theorem emb1 (t : Fin cfg0.N) (j : S33x8.Idx) : ((cfg0.win 1).blk t).view.emb j = j := by
  funext a; apply Fin.ext
  match a with
  | ⟨0, _⟩ => show 0 * 33 + 1 * (j 0).val = (j 0).val; omega
  | ⟨1, _⟩ => show 0 * 8 + 1 * (j 1).val = (j 1).val; omega
theorem emb2 (t : Fin cfg0.N) (j : S33x8.Idx) : ((cfg0.win 2).blk t).view.emb j = j := by
  funext a; apply Fin.ext
  match a with
  | ⟨0, _⟩ => show 0 * 33 + 1 * (j 0).val = (j 0).val; omega
  | ⟨1, _⟩ => show 0 * 8 + 1 * (j 1).val = (j 1).val; omega
theorem emb3 (t : Fin cfg0.N) (j : S32x7168x1536.Idx) : ((cfg0.win 3).blk t).view.emb j = j := by
  funext a; apply Fin.ext
  match a with
  | ⟨0, _⟩ => show 0 * 32 + 1 * (j 0).val = (j 0).val; omega
  | ⟨1, _⟩ => show 0 * 7168 + 1 * (j 1).val = (j 1).val; omega
  | ⟨2, _⟩ => show 0 * 1536 + 1 * (j 2).val = (j 2).val; omega
theorem emb4 (t : Fin cfg0.N) (j : S32x1536.Idx) : ((cfg0.win 4).blk t).view.emb j = j := by
  funext a; apply Fin.ext
  match a with
  | ⟨0, _⟩ => show 0 * 32 + 1 * (j 0).val = (j 0).val; omega
  | ⟨1, _⟩ => show 0 * 1536 + 1 * (j 1).val = (j 1).val; omega
theorem emb5 (t : Fin cfg0.N) (j : S32x768x7168.Idx) : ((cfg0.win 5).blk t).view.emb j = j := by
  funext a; apply Fin.ext
  match a with
  | ⟨0, _⟩ => show 0 * 32 + 1 * (j 0).val = (j 0).val; omega
  | ⟨1, _⟩ => show 0 * 768 + 1 * (j 1).val = (j 1).val; omega
  | ⟨2, _⟩ => show 0 * 7168 + 1 * (j 2).val = (j 2).val; omega
theorem emb6 (t : Fin cfg0.N) (j : S32x7168.Idx) : ((cfg0.win 6).blk t).view.emb j = j := by
  funext a; apply Fin.ext
  match a with
  | ⟨0, _⟩ => show 0 * 32 + 1 * (j 0).val = (j 0).val; omega
  | ⟨1, _⟩ => show 0 * 7168 + 1 * (j 1).val = (j 1).val; omega
theorem emb7 (t : Fin cfg0.N) (j : S1x7168.Idx) : ((cfg0.win 7).blk t).view.emb j = j := by
  funext a; apply Fin.ext
  match a with
  | ⟨0, _⟩ => show 0 * 1 + 1 * (j 0).val = (j 0).val; omega
  | ⟨1, _⟩ => show 0 * 7168 + 1 * (j 1).val = (j 1).val; omega
theorem emb8 (t : Fin cfg0.N) (j : S7168x3072.Idx) : ((cfg0.win 8).blk t).view.emb j = j := by
  funext a; apply Fin.ext
  match a with
  | ⟨0, _⟩ => show 0 * 7168 + 1 * (j 0).val = (j 0).val; omega
  | ⟨1, _⟩ => show 0 * 3072 + 1 * (j 1).val = (j 1).val; omega
theorem emb9 (t : Fin cfg0.N) (j : S1x3072.Idx) : ((cfg0.win 9).blk t).view.emb j = j := by
  funext a; apply Fin.ext
  match a with
  | ⟨0, _⟩ => show 0 * 1 + 1 * (j 0).val = (j 0).val; omega
  | ⟨1, _⟩ => show 0 * 3072 + 1 * (j 1).val = (j 1).val; omega
theorem emb10 (t : Fin cfg0.N) (j : S1536x7168.Idx) : ((cfg0.win 10).blk t).view.emb j = j := by
  funext a; apply Fin.ext
  match a with
  | ⟨0, _⟩ => show 0 * 1536 + 1 * (j 0).val = (j 0).val; omega
  | ⟨1, _⟩ => show 0 * 7168 + 1 * (j 1).val = (j 1).val; omega
theorem emb11 (t : Fin cfg0.N) (j : S1x7168.Idx) : ((cfg0.win 11).blk t).view.emb j = j := by
  funext a; apply Fin.ext
  match a with
  | ⟨0, _⟩ => show 0 * 1 + 1 * (j 0).val = (j 0).val; omega
  | ⟨1, _⟩ => show 0 * 7168 + 1 * (j 1).val = (j 1).val; omega
theorem emb12 (t : Fin cfg0.N) (j : S33x7168.Idx) : ((cfg0.win 12).blk t).view.emb j = j := by
  funext a; apply Fin.ext
  match a with
  | ⟨0, _⟩ => show 0 * 33 + 1 * (j 0).val = (j 0).val; omega
  | ⟨1, _⟩ => show 0 * 7168 + 1 * (j 1).val = (j 1).val; omega

theorem iblk0 (c : Dev nD) (t : Fin cfg0.N) : iblk m c 0 t = V m c main_v0 := by
  funext j; show V m c main_v0 (((cfg0.win 0).blk t).view.emb j) = V m c main_v0 j; rw [emb0]
theorem iblk1 (c : Dev nD) (t : Fin cfg0.N) : iblk m c 1 t = V m c main_v1 := by
  funext j; show V m c main_v1 (((cfg0.win 1).blk t).view.emb j) = V m c main_v1 j; rw [emb1]
theorem iblk2 (c : Dev nD) (t : Fin cfg0.N) : iblk m c 2 t = V m c main_v2 := by
  funext j; show V m c main_v2 (((cfg0.win 2).blk t).view.emb j) = V m c main_v2 j; rw [emb2]
theorem iblk3 (c : Dev nD) (t : Fin cfg0.N) : iblk m c 3 t = V m c main_arg3 := by
  funext j; show V m c main_arg3 (((cfg0.win 3).blk t).view.emb j) = V m c main_arg3 j; rw [emb3]
theorem iblk4 (c : Dev nD) (t : Fin cfg0.N) : iblk m c 4 t = V m c main_arg4 := by
  funext j; show V m c main_arg4 (((cfg0.win 4).blk t).view.emb j) = V m c main_arg4 j; rw [emb4]
theorem iblk5 (c : Dev nD) (t : Fin cfg0.N) : iblk m c 5 t = V m c main_arg5 := by
  funext j; show V m c main_arg5 (((cfg0.win 5).blk t).view.emb j) = V m c main_arg5 j; rw [emb5]
theorem iblk6 (c : Dev nD) (t : Fin cfg0.N) : iblk m c 6 t = V m c main_arg6 := by
  funext j; show V m c main_arg6 (((cfg0.win 6).blk t).view.emb j) = V m c main_arg6 j; rw [emb6]
theorem iblk7 (c : Dev nD) (t : Fin cfg0.N) : iblk m c 7 t = V m c main_v3 := by
  funext j; show V m c main_v3 (((cfg0.win 7).blk t).view.emb j) = V m c main_v3 j; rw [emb7]
theorem iblk8 (c : Dev nD) (t : Fin cfg0.N) : iblk m c 8 t = V m c main_arg8 := by
  funext j; show V m c main_arg8 (((cfg0.win 8).blk t).view.emb j) = V m c main_arg8 j; rw [emb8]
theorem iblk9 (c : Dev nD) (t : Fin cfg0.N) : iblk m c 9 t = V m c main_v4 := by
  funext j; show V m c main_v4 (((cfg0.win 9).blk t).view.emb j) = V m c main_v4 j; rw [emb9]
theorem iblk10 (c : Dev nD) (t : Fin cfg0.N) : iblk m c 10 t = V m c main_arg10 := by
  funext j; show V m c main_arg10 (((cfg0.win 10).blk t).view.emb j) = V m c main_arg10 j; rw [emb10]
theorem iblk11 (c : Dev nD) (t : Fin cfg0.N) : iblk m c 11 t = V m c main_v5 := by
  funext j; show V m c main_v5 (((cfg0.win 11).blk t).view.emb j) = V m c main_v5 j; rw [emb11]

/-- The reference's result. -/
def result (c : Dev nD) : Vec F S33x7168 .bf16 :=
  k0_pay1 (k0_pay2 (V m c main_v0)) (loop (V m c main_v0) (V m c main_v1) (V m c main_v2) (V m c main_arg3) (V m c main_arg4) (V m c main_arg5) (V m c main_arg6) (V m c main_v3) k0_t1_loop.trips)
    (k0_pay6 (V m c main_v0) (V m c main_v3) (V m c main_arg8) (V m c main_v4) (V m c main_arg10)) (V m c main_v5)

theorem flushed_result (c : Dev nD) (t : Fin cfg0.N) : (dats m 0 c).flushed 12 t = ((cfg0.win 12).blk t).view.read (Elt F) (result m c) := by
  rw [flushed12_A, out_eq, iblk0, iblk1, iblk2, iblk3, iblk4, iblk5, iblk6, iblk7, iblk8, iblk9, iblk10, iblk11]
  funext j
  show result m c j = result m c (((cfg0.win 12).blk t).view.emb j)
  rw [emb12]

/-- The result array after the run. -/
theorem final_result (c : Dev nD) : (dats m 0 c).arrAt 12 cfg0.N = result m c :=
  (dats m 0 c).arrAt_eq_of_cover 12 (result m c) (fun t _ => flushed_result m c t) fun i =>
    ⟨(⟨0, by decide⟩ : Fin cfg0.N), flush0_12 _, by
      have h := ((cfg0.win 12).blk (⟨0, by decide⟩ : Fin cfg0.N)).view.emb_mem_set i; rwa [emb12] at h⟩

/-! ## The arrays the host operations wrote -/

theorem V_v0 (c : Dev nD) : V m c main_v0 = shapeCast S33x7168 (m ((c : Thread nD τ).loc main_arg0)) shapeCasts_S33x1x7168_S33x7168 := by
  unfold V
  after_reads_simp
  rfl
theorem V_v1 (c : Dev nD) : V m c main_v1 = shapeCast S33x8 (m ((c : Thread nD τ).loc main_arg1)) shapeCasts_S33x1x8_S33x8 := by
  unfold V
  after_reads_simp
  rfl
theorem V_v2 (c : Dev nD) : V m c main_v2 = shapeCast S33x8 (m ((c : Thread nD τ).loc main_arg2)) shapeCasts_S33x1x8_S33x8 := by
  unfold V
  after_reads_simp
  rfl
theorem V_v3 (c : Dev nD) : V m c main_v3 = shapeCast S1x7168 (m ((c : Thread nD τ).loc main_arg7)) shapeCasts_S7168_S1x7168 := by
  unfold V
  after_reads_simp
  rfl
theorem V_v4 (c : Dev nD) : V m c main_v4 = shapeCast S1x3072 (m ((c : Thread nD τ).loc main_arg9)) shapeCasts_S3072_S1x3072 := by
  unfold V
  after_reads_simp
  rfl
theorem V_v5 (c : Dev nD) : V m c main_v5 = shapeCast S1x7168 (m ((c : Thread nD τ).loc main_arg11)) shapeCasts_S7168_S1x7168 := by
  unfold V
  after_reads_simp
  rfl

end Cert.ReferenceIdeal.Hand
-- ==== Proof.Value.lean ====
/-
  Hand-written. The kernel's result array and the reference's are the same function of the arguments.
-/
module

public import proofs.«01_k».proof.Proof.KSum
public import proofs.«01_k».proof.Proof.KernelIdeal.Host
public import proofs.«01_k».proof.Proof.RefRun

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pointwise
open Idealize.ShloMosaic.Pipeline (Dat)
open Cert.KernelIdeal Cert.KernelIdeal.Gen Cert.Moe
open Cert.ReferenceIdeal.Hand (val)

/-! ## The kernel's result array -/

section
variable {F : FTy → Type} [FloatOps F] [Named F]
variable (m : (ℓ : Loc nD τ sig) → Buf (Elt F) ℓ)

theorem emb0 (t : Fin cfg0.N) (j : S33x7168.Idx) : ((cfg0.win 0).blk t).view.emb j = j := by
  funext a; apply Fin.ext
  match a with
  | ⟨0, _⟩ => show 0 * 33 + 1 * (j 0).val = (j 0).val; omega
  | ⟨1, _⟩ => show 0 * 7168 + 1 * (j 1).val = (j 1).val; omega

theorem flushed_result (c : Dev nD) (t : Fin cfg0.N) : (dats m 0 c).flushed 0 t = ((cfg0.win 0).blk t).view.read (Elt F) (outY c (opsOf m c)) := by
  show (cfg0.win 0).cut (grid0.coords t) ((dats m 0 c).after 0 t) = _
  rw [after0_0]
  unfold outsAt0
  funext j
  show outY c (opsOf m c) j = outY c (opsOf m c) (((cfg0.win 0).blk t).view.emb j)
  rw [emb0]

/-- The result array after the run is what the body's step says. -/
theorem final_result (c : Dev nD) : (dats m 0 c).arrAt 0 (Fin.last cfg0.N) = outY c (opsOf m c) :=
  (dats m 0 c).arrAt_eq_of_cover 0 (outY c (opsOf m c)) (fun t _ => flushed_result m c t) fun i =>
    ⟨(⟨0, by decide⟩ : Fin cfg0.N), flush0_0 _, by
      have h := ((cfg0.win 0).blk (⟨0, by decide⟩ : Fin cfg0.N)).view.emb_mem_set i; rwa [emb0] at h⟩
end

/-! ## The precondition's bound on the shared expert's output scale -/

theorem ofBits_inf : Ideal.ofBits .f32 0x7F800000#32 = ⊤ := by simp [Ideal.ofBits, Ideal.ieee]

/-- An extended real between 0 and the infinity, by the comparisons' bits. -/
theorem scale_of (x : EReal) (h : IntOp.andi (Ideal.cmp .oge x (Ideal.ofBits .f32 0x00000000#32)) (Ideal.cmp .olt x (Ideal.ofBits .f32 0x7F800000#32)) = 1#1) : 0 ≤ x ∧ x ≠ ⊤ := by
  rw [Ideal.ofBits_zero_f32, ofBits_inf] at h
  unfold IntOp.andi Ideal.cmp at h
  dsimp only at h
  by_cases h0 : 0 ≤ x
  · by_cases h1 : x < ⊤
    · exact ⟨h0, ne_of_lt h1⟩
    · rw [decide_eq_false h1, decide_eq_true h0] at h
      exact absurd h (by decide)
  · rw [decide_eq_false h0] at h
    generalize decide (x < ⊤) = b at h
    exact absurd h (by cases b <;> decide)

variable (m : (ℓ : Loc nD τ sig) → Buf (Elt Ideal) ℓ)

section
variable [Cert.Pre_routed_and_scaled.Facts]
theorem scale_ok (h : ∀ c : Dev nD, Cert.Pre_routed_and_scaled.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) (c : Dev nD) (d : Fin 7168) :
    0 ≤ sdC c (opsOf m c) d ∧ sdC c (opsOf m c) d ≠ ⊤ := by
  have h2 := congrFun (h c) (Shape.Idx.first Cert.Pre_routed_and_scaled.Facts.h_S_)
  unfold Cert.Pre_routed_and_scaled.fn at h2
  dsimp only at h2
  have h3 := (and_one _ _ h2).2
  have h4 := Host.reduce_andi_all _ _ _ _ _ h3 (ix1 d)
  have e : sdC c (opsOf m c) d = m ((c.tc : Thread nD τ).loc main_arg11) (ix1 d) := by
    show V m c main_v7 (ix2 (0 : Fin 1) d) = _
    rw [V_v7]
    refine shapeCast_apply _ _ _ _ ?_
    show (S7168.rowMajor (ix1 d)).val = (S1x7168.rowMajor (ix2 (0 : Fin 1) d)).val
    rw [Shape.rowMajor_val_one, Shape.rowMajor_val_two]
    show d.val = 0 * 7168 + d.val
    omega
  rw [e]
  exact scale_of _ h4
end

/-! ## The two results -/

theorem V_v2_ix (c : Dev nD) (t : Fin 33) (k : Fin 8) : V m c main_v2 (ix2 k t) = shapeCast S33x8 (m ((c : Thread nD τ).loc main_arg1)) shapeCasts_S33x1x8_S33x8 (ix2 t k) := by
  rw [V_v2, transpose_apply _ _ _ (ix2 k t) (ix2 t k) fun a => match a with | ⟨0, _⟩ => rfl | ⟨1, _⟩ => rfl]
theorem V_v4_ix (c : Dev nD) (t : Fin 33) (k : Fin 8) : V m c main_v4 (ix2 k t) = shapeCast S33x8 (m ((c : Thread nD τ).loc main_arg2)) shapeCasts_S33x1x8_S33x8 (ix2 t k) := by
  rw [V_v4, transpose_apply _ _ _ (ix2 k t) (ix2 t k) fun a => match a with | ⟨0, _⟩ => rfl | ⟨1, _⟩ => rfl]

theorem val_congr {x0 y0 : Vec Ideal S33x7168 .bf16} {x1 y1 : Vec Ideal S33x8 .i32} {x2 y2 : Vec Ideal S33x8 .f32} {x3 y3 : Vec Ideal S32x7168x1536 .fp8e4m3} {x4 y4 : Vec Ideal S32x1536 .f32} {x5 y5 : Vec Ideal S32x768x7168 .fp8e4m3} {x6 y6 : Vec Ideal S32x7168 .f32} {x7 y7 : Vec Ideal S1x7168 .f32} {x8 y8 : Vec Ideal S7168x3072 .fp8e4m3} {x9 y9 : Vec Ideal S1x3072 .f32} {x10 y10 : Vec Ideal S1536x7168 .fp8e4m3} {x11 y11 : Vec Ideal S1x7168 .f32}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (t : Fin 33) (d : Fin 7168) :
    val x0 x1 x2 x3 x4 x5 x6 x7 x8 x9 x10 x11 t d = val y0 y1 y2 y3 y4 y5 y6 y7 y8 y9 y10 y11 t d := by
  subst e0; subst e1; subst e2; subst e3; subst e4; subst e5; subst e6; subst e7; subst e8; subst e9; subst e10; subst e11; rfl

variable (m' : (ℓ : Loc Cert.ReferenceIdeal.nD Cert.ReferenceIdeal.τ Cert.ReferenceIdeal.sig) → Buf (Elt Ideal) ℓ)

/-- From memories agreeing on the arguments the two result arrays are equal. -/
theorem result_eq (c : Dev nD) (hs : ∀ d : Fin 7168, 0 ≤ sdC c (opsOf m c) d ∧ sdC c (opsOf m c) d ≠ ⊤)
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a2 : m' ((c.tc : Thread Cert.ReferenceIdeal.nD Cert.ReferenceIdeal.τ).loc Cert.ReferenceIdeal.main_arg2) = m ((c.tc : Thread nD τ).loc main_arg2))
    (a3 : m' ((c.tc : Thread Cert.ReferenceIdeal.nD Cert.ReferenceIdeal.τ).loc Cert.ReferenceIdeal.main_arg3) = m ((c.tc : Thread nD τ).loc main_arg3))
    (a4 : m' ((c.tc : Thread Cert.ReferenceIdeal.nD Cert.ReferenceIdeal.τ).loc Cert.ReferenceIdeal.main_arg4) = m ((c.tc : Thread nD τ).loc main_arg4))
    (a5 : m' ((c.tc : Thread Cert.ReferenceIdeal.nD Cert.ReferenceIdeal.τ).loc Cert.ReferenceIdeal.main_arg5) = m ((c.tc : Thread nD τ).loc main_arg5))
    (a6 : m' ((c.tc : Thread Cert.ReferenceIdeal.nD Cert.ReferenceIdeal.τ).loc Cert.ReferenceIdeal.main_arg6) = m ((c.tc : Thread nD τ).loc main_arg6))
    (a7 : m' ((c.tc : Thread Cert.ReferenceIdeal.nD Cert.ReferenceIdeal.τ).loc Cert.ReferenceIdeal.main_arg7) = m ((c.tc : Thread nD τ).loc main_arg7))
    (a8 : m' ((c.tc : Thread Cert.ReferenceIdeal.nD Cert.ReferenceIdeal.τ).loc Cert.ReferenceIdeal.main_arg8) = m ((c.tc : Thread nD τ).loc main_arg8))
    (a9 : m' ((c.tc : Thread Cert.ReferenceIdeal.nD Cert.ReferenceIdeal.τ).loc Cert.ReferenceIdeal.main_arg9) = m ((c.tc : Thread nD τ).loc main_arg9))
    (a10 : m' ((c.tc : Thread Cert.ReferenceIdeal.nD Cert.ReferenceIdeal.τ).loc Cert.ReferenceIdeal.main_arg10) = m ((c.tc : Thread nD τ).loc main_arg10))
    (a11 : m' ((c.tc : Thread Cert.ReferenceIdeal.nD Cert.ReferenceIdeal.τ).loc Cert.ReferenceIdeal.main_arg11) = m ((c.tc : Thread nD τ).loc main_arg11))
   : Cert.ReferenceIdeal.Hand.result m' c = outY c (opsOf m c) := by
  funext i
  obtain ⟨t, d, rfl⟩ : ∃ (t : Fin 33) (d : Fin 7168), i = ix2 t d := ⟨i 0, i 1, eq_ix2 i⟩
  refine Eq.trans (Cert.ReferenceIdeal.Hand.out_at _ _ _ _ _ _ _ _ _ _ _ _ t d) (Eq.trans ?_ (outY_at c (opsOf m c)
    (shapeCast S33x8 (m ((c : Thread nD τ).loc main_arg1)) shapeCasts_S33x1x8_S33x8) (shapeCast S33x8 (m ((c : Thread nD τ).loc main_arg2)) shapeCasts_S33x1x8_S33x8)
    (V_v2_ix m c) (V_v4_ix m c) hs t d).symm)
  exact val_congr ((Cert.ReferenceIdeal.Hand.V_v0 m' c).trans ((congrArg (fun z : Vec Ideal S33x1x7168 .bf16 => shapeCast S33x7168 z shapeCasts_S33x1x7168_S33x7168) a0).trans (V_v0 m c).symm))
    ((Cert.ReferenceIdeal.Hand.V_v1 m' c).trans (congrArg (fun z : Vec Ideal S33x1x8 .i32 => shapeCast S33x8 z shapeCasts_S33x1x8_S33x8) a1))
    ((Cert.ReferenceIdeal.Hand.V_v2 m' c).trans (congrArg (fun z : Vec Ideal S33x1x8 .f32 => shapeCast S33x8 z shapeCasts_S33x1x8_S33x8) a2))
    ((Cert.ReferenceIdeal.Gen.V_main_arg3 m' c).trans (a3.trans (V_main_arg3 m c).symm))
    ((Cert.ReferenceIdeal.Gen.V_main_arg4 m' c).trans (a4.trans (V_main_arg4 m c).symm))
    ((Cert.ReferenceIdeal.Gen.V_main_arg5 m' c).trans (a5.trans (V_main_arg5 m c).symm))
    ((Cert.ReferenceIdeal.Gen.V_main_arg6 m' c).trans (a6.trans (V_main_arg6 m c).symm))
    ((Cert.ReferenceIdeal.Hand.V_v3 m' c).trans ((congrArg (fun z : Vec Ideal S7168 .f32 => shapeCast S1x7168 z shapeCasts_S7168_S1x7168) a7).trans (V_v5 m c).symm))
    ((Cert.ReferenceIdeal.Gen.V_main_arg8 m' c).trans (a8.trans (V_main_arg8 m c).symm))
    ((Cert.ReferenceIdeal.Hand.V_v4 m' c).trans ((congrArg (fun z : Vec Ideal S3072 .f32 => shapeCast S1x3072 z shapeCasts_S3072_S1x3072) a9).trans (V_v6 m c).symm))
    ((Cert.ReferenceIdeal.Gen.V_main_arg10 m' c).trans (a10.trans (V_main_arg10 m c).symm))
    ((Cert.ReferenceIdeal.Hand.V_v5 m' c).trans ((congrArg (fun z : Vec Ideal S7168 .f32 => shapeCast S1x7168 z shapeCasts_S7168_S1x7168) a11).trans (V_v7 m c).symm)) t d

end Cert.KernelIdeal.Hand
-- ==== Proof.lean ====
/-
  The proof of `Cert.Claim`: the frame of the kernel as printed and as idealized, the reference's frame, the one rewrite, and the equality of
  the two results over the extended reals.
-/
module

public import proofs.«01_k».proof.Defs
public import proofs.«01_k».proof.Proof.Same
public import proofs.«01_k».proof.Proof.KernelIdeal.Host
public import proofs.«01_k».proof.Proof.Gen.Pre_routed_to_experts
public import proofs.«01_k».proof.Proof.Gen.Pre_routed_and_scaled
public import proofs.«01_k».proof.Proof.Gen.ReferenceIdeal.Value
public import proofs.«01_k».proof.Proof.Value

@[expose] public section

noncomputable section

namespace Cert.Proof

open Idealize.ShloMosaic Idealize.ShloMosaic.TcCoe Idealize.SL.Sem

theorem algebraic : algebraic_KernelIdeal_ReferenceIdeal_pre_routed_and_scaled (hKernelIdeal := Cert.KernelIdeal.Gen.facts)
    (hReferenceIdeal := Cert.ReferenceIdeal.Gen.facts) (hPre_routed_and_scaled := Cert.Pre_routed_and_scaled.Gen.facts) := by
  intro m g m' g' hp ha
  refine ⟨fun c => Cert.KernelIdeal.Hand.outY c (Cert.KernelIdeal.Hand.opsOf m c), ?_, ?_⟩
  · exact (θ_run _ _ _).mono (fun r h c => ⟨(h.2 c).trans (Cert.KernelIdeal.Hand.final_result m c), h.1.1 c⟩)
      (Cert.KernelIdeal.Hand.run_all m g (Cert.KernelIdeal.Hand.routed_of_scaled m hp))
  · refine (θ_run _ _ _).mono (fun r h c => ?_) (Cert.ReferenceIdeal.Value.run_blocks m' g')
    obtain ⟨a0, a1, a2, a3, a4, a5, a6, a7, a8, a9, a10, a11⟩ := ha c
    exact ⟨((h c).1.trans (Cert.ReferenceIdeal.Hand.final_result m' c)).trans
      (Cert.KernelIdeal.Hand.result_eq m m' c (Cert.KernelIdeal.Hand.scale_ok m hp c) a0 a1 a2 a3 a4 a5 a6 a7 a8 a9 a10 a11), (h c).2⟩

theorem claim : Cert.Claim :=
  ⟨Cert.Kernel.Gen.facts, Cert.KernelIdeal.Gen.facts, Cert.ReferenceIdeal.Gen.facts, Cert.Pre_routed_to_experts.Gen.facts, Cert.Pre_routed_and_scaled.Gen.facts,
    Cert.Same.frame,
    fun m g h => Cert.KernelIdeal.Hand.frame_run m g (Cert.KernelIdeal.Hand.routed_of m h),
    fun m g h => Cert.KernelIdeal.Hand.frame_run m g (Cert.KernelIdeal.Hand.routed_of_scaled m h),
    fun m g _ => Cert.ReferenceIdeal.Gen.frame m g,
    fun m g _ => Cert.ReferenceIdeal.Gen.frame m g,
    IdealRules.named_const.statement Cert.KernelIdeal.κ "inv_d" .f32 0x39124925#32 ((1 / 7168 : ℝ) : EReal) rfl,
    algebraic⟩

end Cert.Proof
